-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_retention_finite [hPre_retention_finite : Cert.Pre_retention_finite.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_retention_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_retention_finite [hPre_retention_finite : Cert.Pre_retention_finite.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_retention_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_norm2_finite [hPre_norm2_finite : Cert.Pre_norm2_finite.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_norm2_finite.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_norm2_finite [hPre_norm2_finite : Cert.Pre_norm2_finite.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_norm2_finite.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7))) = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_norm1_finite [hPre_norm1_finite : Cert.Pre_norm1_finite.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_norm1_finite.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_norm1_finite [hPre_norm1_finite : Cert.Pre_norm1_finite.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_norm1_finite.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7))) = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_final_finite [hPre_final_finite : Cert.Pre_final_finite.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_final_finite.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6))) = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_final_finite [hPre_final_finite : Cert.Pre_final_finite.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_final_finite.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6))) = (fun _ => 1#1)

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Kernel7Ideal_mix_finite [hPre_mix_finite : Cert.Pre_mix_finite.Facts] (m : (ℓ : Loc Cert.Kernel7Ideal.nD Cert.Kernel7Ideal.τ Cert.Kernel7Ideal.sig) → Buf (Elt Ideal) ℓ) : Prop :=
  ∀ c : Dev Cert.Kernel7Ideal.nD,
    (Cert.Pre_mix_finite.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)) (m ((c.tc : Thread Cert.Kernel7Ideal.nD Cert.Kernel7Ideal.τ).loc Cert.Kernel7Ideal.main_arg6))) = (fun _ => 1#1)

def Pre_Reference7Ideal (m : (ℓ : Loc Cert.Reference7Ideal.nD Cert.Reference7Ideal.τ Cert.Reference7Ideal.sig) → Buf (Elt Ideal) ℓ) : Prop :=
  True

def Pre_Reference7Ideal_mix_finite [hPre_mix_finite : Cert.Pre_mix_finite.Facts] (m : (ℓ : Loc Cert.Reference7Ideal.nD Cert.Reference7Ideal.τ Cert.Reference7Ideal.sig) → Buf (Elt Ideal) ℓ) : Prop :=
  ∀ c : Dev Cert.Reference7Ideal.nD,
    (Cert.Pre_mix_finite.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5)) (m ((c.tc : Thread Cert.Reference7Ideal.nD Cert.Reference7Ideal.τ).loc Cert.Reference7Ideal.main_arg6))) = (fun _ => 1#1)

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Kernel2Ideal_pre_retention_finite [hKernel2Ideal : Cert.Kernel2Ideal.Facts] [hPre_retention_finite : Cert.Pre_retention_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_retention_finite m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Reference2Ideal_pre_retention_finite [hReference2Ideal : Cert.Reference2Ideal.Facts] [hPre_retention_finite : Cert.Pre_retention_finite.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_retention_finite m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ r.2.sem = fun _ => 0)

def quiescent_Kernel4Ideal_pre_norm2_finite [hKernel4Ideal : Cert.Kernel4Ideal.Facts] [hPre_norm2_finite : Cert.Pre_norm2_finite.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_norm2_finite m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7))
      ∧ r.2.sem = fun _ => 0)

def quiescent_Reference4Ideal_pre_norm2_finite [hReference4Ideal : Cert.Reference4Ideal.Facts] [hPre_norm2_finite : Cert.Pre_norm2_finite.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_norm2_finite m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ r.2.sem = fun _ => 0)

def quiescent_Kernel5Ideal_pre_norm1_finite [hKernel5Ideal : Cert.Kernel5Ideal.Facts] [hPre_norm1_finite : Cert.Pre_norm1_finite.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_norm1_finite m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7))
      ∧ r.2.sem = fun _ => 0)

def quiescent_Reference5Ideal_pre_norm1_finite [hReference5Ideal : Cert.Reference5Ideal.Facts] [hPre_norm1_finite : Cert.Pre_norm1_finite.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_norm1_finite m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ r.2.sem = fun _ => 0)

def quiescent_Kernel6Ideal_pre_final_finite [hKernel6Ideal : Cert.Kernel6Ideal.Facts] [hPre_final_finite : Cert.Pre_final_finite.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_final_finite m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6))
      ∧ r.2.sem = fun _ => 0)

def quiescent_Reference6Ideal_pre_final_finite [hReference6Ideal : Cert.Reference6Ideal.Facts] [hPre_final_finite : Cert.Pre_final_finite.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_final_finite m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6))
      ∧ r.2.sem = fun _ => 0)

def quiescent_Kernel7Ideal_pre_mix_finite [hKernel7Ideal : Cert.Kernel7Ideal.Facts] [hPre_mix_finite : Cert.Pre_mix_finite.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal_mix_finite m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6))
      ∧ r.2.sem = fun _ => 0)

def quiescent_Reference7Ideal_pre_mix_finite [hReference7Ideal : Cert.Reference7Ideal.Facts] [hPre_mix_finite : Cert.Pre_mix_finite.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal_mix_finite m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal_pre_retention_finite [hKernel2Ideal : Cert.Kernel2Ideal.Facts] [hReference2Ideal : Cert.Reference2Ideal.Facts] [hPre_retention_finite : Cert.Pre_retention_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_retention_finite m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v227_0)) (v1 : (c : Dev Cert.Kernel2Ideal.nD) → Buf (Elt Ideal) ((c.tc : Thread Cert.Kernel2Ideal.nD Cert.Kernel2Ideal.τ).loc Cert.Kernel2Ideal.main_v227_1)) (v2 : (c : Dev Cert.Kernel2Ideal.nD) → Buf (Elt Ideal) ((c.tc : Thread Cert.Kernel2Ideal.nD Cert.Kernel2Ideal.τ).loc Cert.Kernel2Ideal.main_v227_2)) (v3 : (c : Dev Cert.Kernel2Ideal.nD) → Buf (Elt Ideal) ((c.tc : Thread Cert.Kernel2Ideal.nD Cert.Kernel2Ideal.τ).loc Cert.Kernel2Ideal.main_v227_3)) (v4 : (c : Dev Cert.Kernel2Ideal.nD) → Buf (Elt Ideal) ((c.tc : Thread Cert.Kernel2Ideal.nD Cert.Kernel2Ideal.τ).loc Cert.Kernel2Ideal.main_v227_4)) (v5 : (c : Dev Cert.Kernel2Ideal.nD) → Buf (Elt Ideal) ((c.tc : Thread Cert.Kernel2Ideal.nD Cert.Kernel2Ideal.τ).loc Cert.Kernel2Ideal.main_v227_5)) (v6 : (c : Dev Cert.Kernel2Ideal.nD) → Buf (Elt Ideal) ((c.tc : Thread Cert.Kernel2Ideal.nD Cert.Kernel2Ideal.τ).loc Cert.Kernel2Ideal.main_v230)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v227_0) = v0 c
          ∧ r.2.mem ((c.tc : Thread Cert.Kernel2Ideal.nD Cert.Kernel2Ideal.τ).loc Cert.Kernel2Ideal.main_v227_1) = v1 c
          ∧ r.2.mem ((c.tc : Thread Cert.Kernel2Ideal.nD Cert.Kernel2Ideal.τ).loc Cert.Kernel2Ideal.main_v227_2) = v2 c
          ∧ r.2.mem ((c.tc : Thread Cert.Kernel2Ideal.nD Cert.Kernel2Ideal.τ).loc Cert.Kernel2Ideal.main_v227_3) = v3 c
          ∧ r.2.mem ((c.tc : Thread Cert.Kernel2Ideal.nD Cert.Kernel2Ideal.τ).loc Cert.Kernel2Ideal.main_v227_4) = v4 c
          ∧ r.2.mem ((c.tc : Thread Cert.Kernel2Ideal.nD Cert.Kernel2Ideal.τ).loc Cert.Kernel2Ideal.main_v227_5) = v5 c
          ∧ r.2.mem ((c.tc : Thread Cert.Kernel2Ideal.nD Cert.Kernel2Ideal.τ).loc Cert.Kernel2Ideal.main_v230) = v6 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v260) = v0 c
          ∧ r.2.mem ((c.tc : Thread Cert.Reference2Ideal.nD Cert.Reference2Ideal.τ).loc Cert.Reference2Ideal.main_v261) = v1 c
          ∧ r.2.mem ((c.tc : Thread Cert.Reference2Ideal.nD Cert.Reference2Ideal.τ).loc Cert.Reference2Ideal.main_v262) = v2 c
          ∧ r.2.mem ((c.tc : Thread Cert.Reference2Ideal.nD Cert.Reference2Ideal.τ).loc Cert.Reference2Ideal.main_v263) = v3 c
          ∧ r.2.mem ((c.tc : Thread Cert.Reference2Ideal.nD Cert.Reference2Ideal.τ).loc Cert.Reference2Ideal.main_v264) = v4 c
          ∧ r.2.mem ((c.tc : Thread Cert.Reference2Ideal.nD Cert.Reference2Ideal.τ).loc Cert.Reference2Ideal.main_v265) = v5 c
          ∧ r.2.mem ((c.tc : Thread Cert.Reference2Ideal.nD Cert.Reference2Ideal.τ).loc Cert.Reference2Ideal.main_v268) = v6 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v5_0)) (v1 : (c : Dev Cert.Kernel3Ideal.nD) → Buf (Elt Ideal) ((c.tc : Thread Cert.Kernel3Ideal.nD Cert.Kernel3Ideal.τ).loc Cert.Kernel3Ideal.main_v5_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v5_0) = v0 c
          ∧ r.2.mem ((c.tc : Thread Cert.Kernel3Ideal.nD Cert.Kernel3Ideal.τ).loc Cert.Kernel3Ideal.main_v5_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v8) = v0 c
          ∧ r.2.mem ((c.tc : Thread Cert.Reference3Ideal.nD Cert.Reference3Ideal.τ).loc Cert.Reference3Ideal.main_v9) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal_pre_norm2_finite [hKernel4Ideal : Cert.Kernel4Ideal.Facts] [hReference4Ideal : Cert.Reference4Ideal.Facts] [hPre_norm2_finite : Cert.Pre_norm2_finite.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_norm2_finite m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)) →
    ∃ (v0 : (c : Dev Cert.Kernel4Ideal.nD) → Buf (Elt Ideal) ((c.tc : Thread Cert.Kernel4Ideal.nD Cert.Kernel4Ideal.τ).loc Cert.Kernel4Ideal.main_v16_0)) (v1 : (c : Dev Cert.Kernel4Ideal.nD) → Buf (Elt Ideal) ((c.tc : Thread Cert.Kernel4Ideal.nD Cert.Kernel4Ideal.τ).loc Cert.Kernel4Ideal.main_v16_1)) (v2 : (c : Dev Cert.Kernel4Ideal.nD) → Buf (Elt Ideal) ((c.tc : Thread Cert.Kernel4Ideal.nD Cert.Kernel4Ideal.τ).loc Cert.Kernel4Ideal.main_v16_2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v16_0) = v0 c
          ∧ r.2.mem ((c.tc : Thread Cert.Kernel4Ideal.nD Cert.Kernel4Ideal.τ).loc Cert.Kernel4Ideal.main_v16_1) = v1 c
          ∧ r.2.mem ((c.tc : Thread Cert.Kernel4Ideal.nD Cert.Kernel4Ideal.τ).loc Cert.Kernel4Ideal.main_v16_2) = v2 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v65) = v0 c
          ∧ r.2.mem ((c.tc : Thread Cert.Reference4Ideal.nD Cert.Reference4Ideal.τ).loc Cert.Reference4Ideal.main_v79) = v1 c
          ∧ r.2.mem ((c.tc : Thread Cert.Reference4Ideal.nD Cert.Reference4Ideal.τ).loc Cert.Reference4Ideal.main_v78) = v2 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7))

def preserves_Kernel5_Kernel5Ideal : Prop :=
  True

def algebraic_Kernel5Ideal_Reference5Ideal_pre_norm1_finite [hKernel5Ideal : Cert.Kernel5Ideal.Facts] [hReference5Ideal : Cert.Reference5Ideal.Facts] [hPre_norm1_finite : Cert.Pre_norm1_finite.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_norm1_finite m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)) →
    ∃ (v0 : (c : Dev Cert.Kernel5Ideal.nD) → Buf (Elt Ideal) ((c.tc : Thread Cert.Kernel5Ideal.nD Cert.Kernel5Ideal.τ).loc Cert.Kernel5Ideal.main_v9_0)) (v1 : (c : Dev Cert.Kernel5Ideal.nD) → Buf (Elt Ideal) ((c.tc : Thread Cert.Kernel5Ideal.nD Cert.Kernel5Ideal.τ).loc Cert.Kernel5Ideal.main_v9_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v9_0) = v0 c
          ∧ r.2.mem ((c.tc : Thread Cert.Kernel5Ideal.nD Cert.Kernel5Ideal.τ).loc Cert.Kernel5Ideal.main_v9_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v92) = v0 c
          ∧ r.2.mem ((c.tc : Thread Cert.Reference5Ideal.nD Cert.Reference5Ideal.τ).loc Cert.Reference5Ideal.main_v113) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7))

def preserves_Kernel6_Kernel6Ideal : Prop :=
  True

def algebraic_Kernel6Ideal_Reference6Ideal_pre_final_finite [hKernel6Ideal : Cert.Kernel6Ideal.Facts] [hReference6Ideal : Cert.Reference6Ideal.Facts] [hPre_final_finite : Cert.Pre_final_finite.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_final_finite m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)) →
    ∃ (v0 : (c : Dev Cert.Kernel6Ideal.nD) → Buf (Elt Ideal) ((c.tc : Thread Cert.Kernel6Ideal.nD Cert.Kernel6Ideal.τ).loc Cert.Kernel6Ideal.main_v10_0)) (v1 : (c : Dev Cert.Kernel6Ideal.nD) → Buf (Elt Ideal) ((c.tc : Thread Cert.Kernel6Ideal.nD Cert.Kernel6Ideal.τ).loc Cert.Kernel6Ideal.main_v10_1)) (v2 : (c : Dev Cert.Kernel6Ideal.nD) → Buf (Elt Ideal) ((c.tc : Thread Cert.Kernel6Ideal.nD Cert.Kernel6Ideal.τ).loc Cert.Kernel6Ideal.main_v10_2)) (v3 : (c : Dev Cert.Kernel6Ideal.nD) → Buf (Elt Ideal) ((c.tc : Thread Cert.Kernel6Ideal.nD Cert.Kernel6Ideal.τ).loc Cert.Kernel6Ideal.main_v10_3)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v10_0) = v0 c
          ∧ r.2.mem ((c.tc : Thread Cert.Kernel6Ideal.nD Cert.Kernel6Ideal.τ).loc Cert.Kernel6Ideal.main_v10_1) = v1 c
          ∧ r.2.mem ((c.tc : Thread Cert.Kernel6Ideal.nD Cert.Kernel6Ideal.τ).loc Cert.Kernel6Ideal.main_v10_2) = v2 c
          ∧ r.2.mem ((c.tc : Thread Cert.Kernel6Ideal.nD Cert.Kernel6Ideal.τ).loc Cert.Kernel6Ideal.main_v10_3) = v3 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v63) = v0 c
          ∧ r.2.mem ((c.tc : Thread Cert.Reference6Ideal.nD Cert.Reference6Ideal.τ).loc Cert.Reference6Ideal.main_v95) = v1 c
          ∧ r.2.mem ((c.tc : Thread Cert.Reference6Ideal.nD Cert.Reference6Ideal.τ).loc Cert.Reference6Ideal.main_v97) = v2 c
          ∧ r.2.mem ((c.tc : Thread Cert.Reference6Ideal.nD Cert.Reference6Ideal.τ).loc Cert.Reference6Ideal.main_v94) = v3 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6))

def preserves_Kernel7_Kernel7Ideal : Prop :=
  IdealRules.named_const.Statement Cert.Kernel7Ideal.κ "gelu3" .f32 0x3D372713#32 ((8943 / 200000 : ℝ) : EReal)
  ∧ IdealRules.named_const.Statement Cert.Kernel7Ideal.κ "gelu9" .f32 0x3E095D4F#32 ((26829 / 200000 : ℝ) : EReal)

def algebraic_Kernel7Ideal_Reference7Ideal_pre_mix_finite [hKernel7Ideal : Cert.Kernel7Ideal.Facts] [hReference7Ideal : Cert.Reference7Ideal.Facts] [hPre_mix_finite : Cert.Pre_mix_finite.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal_mix_finite m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)) →
    ∃ (v0 : (c : Dev Cert.Kernel7Ideal.nD) → Buf (Elt Ideal) ((c.tc : Thread Cert.Kernel7Ideal.nD Cert.Kernel7Ideal.τ).loc Cert.Kernel7Ideal.main_v3_0)) (v1 : (c : Dev Cert.Kernel7Ideal.nD) → Buf (Elt Ideal) ((c.tc : Thread Cert.Kernel7Ideal.nD Cert.Kernel7Ideal.τ).loc Cert.Kernel7Ideal.main_v3_1)) (v2 : (c : Dev Cert.Kernel7Ideal.nD) → Buf (Elt Ideal) ((c.tc : Thread Cert.Kernel7Ideal.nD Cert.Kernel7Ideal.τ).loc Cert.Kernel7Ideal.main_v3_2)) (v3 : (c : Dev Cert.Kernel7Ideal.nD) → Buf (Elt Ideal) ((c.tc : Thread Cert.Kernel7Ideal.nD Cert.Kernel7Ideal.τ).loc Cert.Kernel7Ideal.main_v3_3)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v3_0) = v0 c
          ∧ r.2.mem ((c.tc : Thread Cert.Kernel7Ideal.nD Cert.Kernel7Ideal.τ).loc Cert.Kernel7Ideal.main_v3_1) = v1 c
          ∧ r.2.mem ((c.tc : Thread Cert.Kernel7Ideal.nD Cert.Kernel7Ideal.τ).loc Cert.Kernel7Ideal.main_v3_2) = v2 c
          ∧ r.2.mem ((c.tc : Thread Cert.Kernel7Ideal.nD Cert.Kernel7Ideal.τ).loc Cert.Kernel7Ideal.main_v3_3) = v3 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v107) = v0 c
          ∧ r.2.mem ((c.tc : Thread Cert.Reference7Ideal.nD Cert.Reference7Ideal.τ).loc Cert.Reference7Ideal.main_v108) = v1 c
          ∧ r.2.mem ((c.tc : Thread Cert.Reference7Ideal.nD Cert.Reference7Ideal.τ).loc Cert.Reference7Ideal.main_v109) = v2 c
          ∧ r.2.mem ((c.tc : Thread Cert.Reference7Ideal.nD Cert.Reference7Ideal.τ).loc Cert.Reference7Ideal.main_v104) = v3 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)) →
    ∃ (v0 : (c : Dev Cert.Kernel8Ideal.nD) → Buf (Elt Ideal) ((c.tc : Thread Cert.Kernel8Ideal.nD Cert.Kernel8Ideal.τ).loc Cert.Kernel8Ideal.main_v5_0)) (v1 : (c : Dev Cert.Kernel8Ideal.nD) → Buf (Elt Ideal) ((c.tc : Thread Cert.Kernel8Ideal.nD Cert.Kernel8Ideal.τ).loc Cert.Kernel8Ideal.main_v5_1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v5_0) = v0 c
          ∧ r.2.mem ((c.tc : Thread Cert.Kernel8Ideal.nD Cert.Kernel8Ideal.τ).loc Cert.Kernel8Ideal.main_v5_1) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v55) = v0 c
          ∧ r.2.mem ((c.tc : Thread Cert.Reference8Ideal.nD Cert.Reference8Ideal.τ).loc Cert.Reference8Ideal.main_v56) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)
      ∧ m' ((c.tc : Thread Cert.Reference9Ideal.nD Cert.Reference9Ideal.τ).loc Cert.Reference9Ideal.main_arg5) = m ((c.tc : Thread Cert.Kernel9Ideal.nD Cert.Kernel9Ideal.τ).loc Cert.Kernel9Ideal.main_arg5)) →
    ∃ (v0 : (c : Dev Cert.Kernel9Ideal.nD) → Buf (Elt Ideal) ((c.tc : Thread Cert.Kernel9Ideal.nD Cert.Kernel9Ideal.τ).loc Cert.Kernel9Ideal.main_v8_0)) (v1 : (c : Dev Cert.Kernel9Ideal.nD) → Buf (Elt Ideal) ((c.tc : Thread Cert.Kernel9Ideal.nD Cert.Kernel9Ideal.τ).loc Cert.Kernel9Ideal.main_v8_1)) (v2 : (c : Dev Cert.Kernel9Ideal.nD) → Buf (Elt Ideal) ((c.tc : Thread Cert.Kernel9Ideal.nD Cert.Kernel9Ideal.τ).loc Cert.Kernel9Ideal.main_v8_2)) (v3 : (c : Dev Cert.Kernel9Ideal.nD) → Buf (Elt Ideal) ((c.tc : Thread Cert.Kernel9Ideal.nD Cert.Kernel9Ideal.τ).loc Cert.Kernel9Ideal.main_v8_3)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v8_0) = v0 c
          ∧ r.2.mem ((c.tc : Thread Cert.Kernel9Ideal.nD Cert.Kernel9Ideal.τ).loc Cert.Kernel9Ideal.main_v8_1) = v1 c
          ∧ r.2.mem ((c.tc : Thread Cert.Kernel9Ideal.nD Cert.Kernel9Ideal.τ).loc Cert.Kernel9Ideal.main_v8_2) = v2 c
          ∧ r.2.mem ((c.tc : Thread Cert.Kernel9Ideal.nD Cert.Kernel9Ideal.τ).loc Cert.Kernel9Ideal.main_v8_3) = v3 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
          ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v6) = v0 c
          ∧ r.2.mem ((c.tc : Thread Cert.Reference9Ideal.nD Cert.Reference9Ideal.τ).loc Cert.Reference9Ideal.main_v10) = v1 c
          ∧ r.2.mem ((c.tc : Thread Cert.Reference9Ideal.nD Cert.Reference9Ideal.τ).loc Cert.Reference9Ideal.main_v32) = v2 c
          ∧ r.2.mem ((c.tc : Thread Cert.Reference9Ideal.nD Cert.Reference9Ideal.τ).loc Cert.Reference9Ideal.main_v33) = v3 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4)
          ∧ r.2.mem ((c.tc : Thread Cert.Reference9Ideal.nD Cert.Reference9Ideal.τ).loc Cert.Reference9Ideal.main_arg5) = m' ((c.tc : Thread Cert.Reference9Ideal.nD Cert.Reference9Ideal.τ).loc Cert.Reference9Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hPre_retention_finite : Cert.Pre_retention_finite.Facts) (hPre_norm2_finite : Cert.Pre_norm2_finite.Facts) (hPre_norm1_finite : Cert.Pre_norm1_finite.Facts) (hPre_final_finite : Cert.Pre_final_finite.Facts) (hPre_mix_finite : Cert.Pre_mix_finite.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Kernel2Ideal_pre_retention_finite (hKernel2Ideal := hKernel2Ideal) (hPre_retention_finite := hPre_retention_finite)
    ∧ quiescent_Reference2Ideal (hReference2Ideal := hReference2Ideal)
    ∧ quiescent_Reference2Ideal_pre_retention_finite (hReference2Ideal := hReference2Ideal) (hPre_retention_finite := hPre_retention_finite)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_norm2_finite (hKernel4Ideal := hKernel4Ideal) (hPre_norm2_finite := hPre_norm2_finite)
    ∧ quiescent_Reference4Ideal (hReference4Ideal := hReference4Ideal)
    ∧ quiescent_Reference4Ideal_pre_norm2_finite (hReference4Ideal := hReference4Ideal) (hPre_norm2_finite := hPre_norm2_finite)
    ∧ quiescent_Kernel5 (hKernel5 := hKernel5)
    ∧ quiescent_Kernel5Ideal (hKernel5Ideal := hKernel5Ideal)
    ∧ quiescent_Kernel5Ideal_pre_norm1_finite (hKernel5Ideal := hKernel5Ideal) (hPre_norm1_finite := hPre_norm1_finite)
    ∧ quiescent_Reference5Ideal (hReference5Ideal := hReference5Ideal)
    ∧ quiescent_Reference5Ideal_pre_norm1_finite (hReference5Ideal := hReference5Ideal) (hPre_norm1_finite := hPre_norm1_finite)
    ∧ quiescent_Kernel6 (hKernel6 := hKernel6)
    ∧ quiescent_Kernel6Ideal (hKernel6Ideal := hKernel6Ideal)
    ∧ quiescent_Kernel6Ideal_pre_final_finite (hKernel6Ideal := hKernel6Ideal) (hPre_final_finite := hPre_final_finite)
    ∧ quiescent_Reference6Ideal (hReference6Ideal := hReference6Ideal)
    ∧ quiescent_Reference6Ideal_pre_final_finite (hReference6Ideal := hReference6Ideal) (hPre_final_finite := hPre_final_finite)
    ∧ quiescent_Kernel7 (hKernel7 := hKernel7)
    ∧ quiescent_Kernel7Ideal (hKernel7Ideal := hKernel7Ideal)
    ∧ quiescent_Kernel7Ideal_pre_mix_finite (hKernel7Ideal := hKernel7Ideal) (hPre_mix_finite := hPre_mix_finite)
    ∧ quiescent_Reference7Ideal (hReference7Ideal := hReference7Ideal)
    ∧ quiescent_Reference7Ideal_pre_mix_finite (hReference7Ideal := hReference7Ideal) (hPre_mix_finite := hPre_mix_finite)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal_pre_retention_finite (hKernel2Ideal := hKernel2Ideal) (hReference2Ideal := hReference2Ideal) (hPre_retention_finite := hPre_retention_finite)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_norm2_finite (hKernel4Ideal := hKernel4Ideal) (hReference4Ideal := hReference4Ideal) (hPre_norm2_finite := hPre_norm2_finite)
    ∧ preserves_Kernel5_Kernel5Ideal
    ∧ algebraic_Kernel5Ideal_Reference5Ideal_pre_norm1_finite (hKernel5Ideal := hKernel5Ideal) (hReference5Ideal := hReference5Ideal) (hPre_norm1_finite := hPre_norm1_finite)
    ∧ preserves_Kernel6_Kernel6Ideal
    ∧ algebraic_Kernel6Ideal_Reference6Ideal_pre_final_finite (hKernel6Ideal := hKernel6Ideal) (hReference6Ideal := hReference6Ideal) (hPre_final_finite := hPre_final_finite)
    ∧ preserves_Kernel7_Kernel7Ideal
    ∧ algebraic_Kernel7Ideal_Reference7Ideal_pre_mix_finite (hKernel7Ideal := hKernel7Ideal) (hReference7Ideal := hReference7Ideal) (hPre_mix_finite := hPre_mix_finite)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
-- ==== Pre_final_finite.lean ====
abbrev S4096x4096 : Shape := ⟨2, ![4096, 4096]⟩
abbrev S4096x1024 : Shape := ⟨2, ![4096, 1024]⟩
abbrev S1024 : Shape := ⟨1, ![1024]⟩
abbrev S6144 : Shape := ⟨1, ![6144]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S4096x1024 : S_.BroadcastsInDim S4096x1024 (![] : Fin 0 → Fin S4096x1024.rank)
  reducesTo_S4096x1024_S_d0_1 : S4096x1024.ReducesTo [0, 1] S_
  bcast_S_S1024 : S_.BroadcastsInDim S1024 (![] : Fin 0 → Fin S1024.rank)
  reducesTo_S1024_S_d0 : S1024.ReducesTo [0] S_
  bcast_S_S6144 : S_.BroadcastsInDim S6144 (![] : Fin 0 → Fin S6144.rank)
  reducesTo_S6144_S_d0 : S6144.ReducesTo [0] S_

variable [Facts]

def fn_part1 {F : FTy → Type} [FloatOps F] (main_arg4 : FVec F S1024 .f32) (main_arg5 : FVec F S6144 .f32) (main_v3 : IVec S_ 1) (main_v7 : IVec S_ 1) (main_v11 : IVec S_ 1) (main_v15 : IVec S_ 1) : IVec S_ 1 :=
  let main_v16 : FVec F S1024 .f32 := Host.absf main_arg4
  let main_cst_6 : FVec F S_ .f32 := constant S_ .f32 0x7F800000#32
  let main_v17 : FVec F S1024 .f32 := broadcastInDim S1024 ![] bcast_S_S1024 main_cst_6
  let main_v18 : IVec S1024 1 := cmpf .olt main_v16 main_v17
  let main_c_7 : IVec S_ 1 := constantI S_ 1 1#1
  let main_v19 : IVec S_ 1 := (fun x v => Host.reduce IntOp.andi x v reducesTo_S1024_S_d0 h_S_) main_v18 main_c_7
  let main_v20 : FVec F S6144 .f32 := Host.absf main_arg5
  let main_cst_8 : FVec F S_ .f32 := constant S_ .f32 0x7F800000#32
  let main_v21 : FVec F S6144 .f32 := broadcastInDim S6144 ![] bcast_S_S6144 main_cst_8
  let main_v22 : IVec S6144 1 := cmpf .olt main_v20 main_v21
  let main_c_9 : IVec S_ 1 := constantI S_ 1 1#1
  let main_v23 : IVec S_ 1 := (fun x v => Host.reduce IntOp.andi x v reducesTo_S6144_S_d0 h_S_) main_v22 main_c_9
  let main_v24 : IVec S_ 1 := andi main_v3 main_v7
  let main_v25 : IVec S_ 1 := andi main_v24 main_v11
  let main_v26 : IVec S_ 1 := andi main_v25 main_v15
  let main_v27 : IVec S_ 1 := andi main_v26 main_v19
  let main_v28 : IVec S_ 1 := andi main_v27 main_v23
  main_v28

def fn {F : FTy → Type} [FloatOps F] (main_arg0 : FVec F S4096x4096 .f32) (main_arg1 : FVec F S4096x1024 .f32) (main_arg2 : FVec F S4096x1024 .f32) (main_arg3 : FVec F S4096x1024 .f32) (main_arg4 : FVec F S1024 .f32) (main_arg5 : FVec F S6144 .f32) (main_arg6 : FVec F S6144 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : FVec F S4096x1024 .f32 := Host.absf main_arg2
  let main_cst_2 : FVec F S_ .f32 := constant S_ .f32 0x7F800000#32
  let main_v9 : FVec F S4096x1024 .f32 := broadcastInDim S4096x1024 ![] bcast_S_S4096x1024 main_cst_2
  let main_v10 : IVec S4096x1024 1 := cmpf .olt main_v8 main_v9
  let main_c_3 : IVec S_ 1 := constantI S_ 1 1#1
  let main_v11 : IVec S_ 1 := (fun x v => Host.reduce IntOp.andi x v reducesTo_S4096x1024_S_d0_1 h_S_) main_v10 main_c_3
  let main_v12 : FVec F S4096x1024 .f32 := Host.absf main_arg3
  let main_cst_4 : FVec F S_ .f32 := constant S_ .f32 0x7F800000#32
  let main_v13 : FVec F S4096x1024 .f32 := broadcastInDim S4096x1024 ![] bcast_S_S4096x1024 main_cst_4
  let main_v14 : IVec S4096x1024 1 := cmpf .olt main_v12 main_v13
  let main_c_5 : IVec S_ 1 := constantI S_ 1 1#1
  let main_v15 : IVec S_ 1 := (fun x v => Host.reduce IntOp.andi x v reducesTo_S4096x1024_S_d0_1 h_S_) main_v14 main_c_5
  fn_part1 (F := F) main_arg4 main_arg5 main_v3 main_v7 main_v11 main_v15
-- ==== Pre_mix_finite.lean ====
abbrev S4352x512 : Shape := ⟨2, ![4352, 512]⟩
abbrev S4352x1536 : Shape := ⟨2, ![4352, 1536]⟩
abbrev S1024x1024 : Shape := ⟨2, ![1024, 1024]⟩
abbrev S4096x1024 : Shape := ⟨2, ![4096, 1024]⟩
abbrev S_ : Shape := ⟨0, ![]⟩

class Facts : Prop where
  bcast_S_S4352x512 : S_.BroadcastsInDim S4352x512 (![] : Fin 0 → Fin S4352x512.rank)
  reducesTo_S4352x512_S_d0_1 : S4352x512.ReducesTo [0, 1] S_
  h_S_ : 0 < S_.numel
  bcast_S_S4352x1536 : S_.BroadcastsInDim S4352x1536 (![] : Fin 0 → Fin S4352x1536.rank)
  reducesTo_S4352x1536_S_d0_1 : S4352x1536.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S4096x1024 : S_.BroadcastsInDim S4096x1024 (![] : Fin 0 → Fin S4096x1024.rank)
  reducesTo_S4096x1024_S_d0_1 : S4096x1024.ReducesTo [0, 1] S_

variable [Facts]

def fn_part1 {F : FTy → Type} [FloatOps F] (main_arg4 : FVec F S4352x512 .f32) (main_arg5 : FVec F S1024x1024 .f32) (main_arg6 : FVec F S4096x1024 .f32) (main_v3 : IVec S_ 1) (main_v7 : IVec S_ 1) (main_v11 : IVec S_ 1) (main_v15 : IVec S_ 1) : IVec S_ 1 :=
  let main_v16 : FVec F S4352x512 .f32 := Host.absf main_arg4
  let main_cst_6 : FVec F S_ .f32 := constant S_ .f32 0x7F800000#32
  let main_v17 : FVec F S4352x512 .f32 := broadcastInDim S4352x512 ![] bcast_S_S4352x512 main_cst_6
  let main_v18 : IVec S4352x512 1 := cmpf .olt main_v16 main_v17
  let main_c_7 : IVec S_ 1 := constantI S_ 1 1#1
  let main_v19 : IVec S_ 1 := (fun x v => Host.reduce IntOp.andi x v reducesTo_S4352x512_S_d0_1 h_S_) main_v18 main_c_7
  let main_v20 : FVec F S1024x1024 .f32 := Host.absf main_arg5
  let main_cst_8 : FVec F S_ .f32 := constant S_ .f32 0x7F800000#32
  let main_v21 : FVec F S1024x1024 .f32 := broadcastInDim S1024x1024 ![] bcast_S_S1024x1024 main_cst_8
  let main_v22 : IVec S1024x1024 1 := cmpf .olt main_v20 main_v21
  let main_c_9 : IVec S_ 1 := constantI S_ 1 1#1
  let main_v23 : IVec S_ 1 := (fun x v => Host.reduce IntOp.andi x v reducesTo_S1024x1024_S_d0_1 h_S_) main_v22 main_c_9
  let main_v24 : FVec F S4096x1024 .f32 := Host.absf main_arg6
  let main_cst_10 : FVec F S_ .f32 := constant S_ .f32 0x7F800000#32
  let main_v25 : FVec F S4096x1024 .f32 := broadcastInDim S4096x1024 ![] bcast_S_S4096x1024 main_cst_10
  let main_v26 : IVec S4096x1024 1 := cmpf .olt main_v24 main_v25
  let main_c_11 : IVec S_ 1 := constantI S_ 1 1#1
  let main_v27 : IVec S_ 1 := (fun x v => Host.reduce IntOp.andi x v reducesTo_S4096x1024_S_d0_1 h_S_) main_v26 main_c_11
  let main_v28 : IVec S_ 1 := andi main_v3 main_v7
  let main_v29 : IVec S_ 1 := andi main_v28 main_v11
  let main_v30 : IVec S_ 1 := andi main_v29 main_v15
  let main_v31 : IVec S_ 1 := andi main_v30 main_v19
  let main_v32 : IVec S_ 1 := andi main_v31 main_v23
  let main_v33 : IVec S_ 1 := andi main_v32 main_v27
  main_v33

def fn {F : FTy → Type} [FloatOps F] (main_arg0 : FVec F S4352x512 .f32) (main_arg1 : FVec F S4352x512 .f32) (main_arg2 : FVec F S4352x1536 .f32) (main_arg3 : FVec F S4352x512 .f32) (main_arg4 : FVec F S4352x512 .f32) (main_arg5 : FVec F S1024x1024 .f32) (main_arg6 : FVec F S4096x1024 .f32) : IVec S_ 1 :=
  let main_v0 : FVec F S4352x512 .f32 := Host.absf main_arg0
  let main_cst : FVec F S_ .f32 := constant S_ .f32 0x7F800000#32
  let main_v1 : FVec F S4352x512 .f32 := broadcastInDim S4352x512 ![] bcast_S_S4352x512 main_cst
  let main_v2 : IVec S4352x512 1 := cmpf .olt main_v0 main_v1
  let main_c : IVec S_ 1 := constantI S_ 1 1#1
  let main_v3 : IVec S_ 1 := (fun x v => Host.reduce IntOp.andi x v reducesTo_S4352x512_S_d0_1 h_S_) main_v2 main_c
  let main_v4 : FVec F S4352x512 .f32 := Host.absf main_arg1
  let main_cst_0 : FVec F S_ .f32 := constant S_ .f32 0x7F800000#32
  let main_v5 : FVec F S4352x512 .f32 := broadcastInDim S4352x512 ![] bcast_S_S4352x512 main_cst_0
  let main_v6 : IVec S4352x512 1 := cmpf .olt main_v4 main_v5
  let main_c_1 : IVec S_ 1 := constantI S_ 1 1#1
  let main_v7 : IVec S_ 1 := (fun x v => Host.reduce IntOp.andi x v reducesTo_S4352x512_S_d0_1 h_S_) main_v6 main_c_1
  let main_v8 : FVec F S4352x1536 .f32 := Host.absf main_arg2
  let main_cst_2 : FVec F S_ .f32 := constant S_ .f32 0x7F800000#32
  let main_v9 : FVec F S4352x1536 .f32 := broadcastInDim S4352x1536 ![] bcast_S_S4352x1536 main_cst_2
  let main_v10 : IVec S4352x1536 1 := cmpf .olt main_v8 main_v9
  let main_c_3 : IVec S_ 1 := constantI S_ 1 1#1
  let main_v11 : IVec S_ 1 := (fun x v => Host.reduce IntOp.andi x v reducesTo_S4352x1536_S_d0_1 h_S_) main_v10 main_c_3
  let main_v12 : FVec F S4352x512 .f32 := Host.absf main_arg3
  let main_cst_4 : FVec F S_ .f32 := constant S_ .f32 0x7F800000#32
  let main_v13 : FVec F S4352x512 .f32 := broadcastInDim S4352x512 ![] bcast_S_S4352x512 main_cst_4
  let main_v14 : IVec S4352x512 1 := cmpf .olt main_v12 main_v13
  let main_c_5 : IVec S_ 1 := constantI S_ 1 1#1
  let main_v15 : IVec S_ 1 := (fun x v => Host.reduce IntOp.andi x v reducesTo_S4352x512_S_d0_1 h_S_) main_v14 main_c_5
  fn_part1 (F := F) main_arg4 main_arg5 main_arg6 main_v3 main_v7 main_v11 main_v15
-- ==== Pre_norm1_finite.lean ====
abbrev S256x1024 : Shape := ⟨2, ![256, 1024]⟩
abbrev S4096x1024 : Shape := ⟨2, ![4096, 1024]⟩
abbrev S6144 : Shape := ⟨1, ![6144]⟩
abbrev S1024 : Shape := ⟨1, ![1024]⟩
abbrev S1024x3072 : Shape := ⟨2, ![1024, 3072]⟩
abbrev S4352x3072 : Shape := ⟨2, ![4352, 3072]⟩
abbrev S_ : Shape := ⟨0, ![]⟩

class Facts : Prop where
  bcast_S_S256x1024 : S_.BroadcastsInDim S256x1024 (![] : Fin 0 → Fin S256x1024.rank)
  reducesTo_S256x1024_S_d0_1 : S256x1024.ReducesTo [0, 1] S_
  h_S_ : 0 < S_.numel
  bcast_S_S4096x1024 : S_.BroadcastsInDim S4096x1024 (![] : Fin 0 → Fin S4096x1024.rank)
  reducesTo_S4096x1024_S_d0_1 : S4096x1024.ReducesTo [0, 1] S_
  bcast_S_S6144 : S_.BroadcastsInDim S6144 (![] : Fin 0 → Fin S6144.rank)
  reducesTo_S6144_S_d0 : S6144.ReducesTo [0] S_
  bcast_S_S1024 : S_.BroadcastsInDim S1024 (![] : Fin 0 → Fin S1024.rank)
  reducesTo_S1024_S_d0 : S1024.ReducesTo [0] S_
  bcast_S_S1024x3072 : S_.BroadcastsInDim S1024x3072 (![] : Fin 0 → Fin S1024x3072.rank)
  reducesTo_S1024x3072_S_d0_1 : S1024x3072.ReducesTo [0, 1] S_
  bcast_S_S4352x3072 : S_.BroadcastsInDim S4352x3072 (![] : Fin 0 → Fin S4352x3072.rank)
  reducesTo_S4352x3072_S_d0_1 : S4352x3072.ReducesTo [0, 1] S_

variable [Facts]

def fn_part1 {F : FTy → Type} [FloatOps F] (main_arg4 : FVec F S1024 .f32) (main_arg5 : FVec F S1024x3072 .f32) (main_arg7 : FVec F S4352x3072 .f32) (main_v3 : IVec S_ 1) (main_v7 : IVec S_ 1) (main_v11 : IVec S_ 1) (main_v15 : IVec S_ 1) : IVec S_ 1 :=
  let main_v16 : FVec F S1024 .f32 := Host.absf main_arg4
  let main_cst_6 : FVec F S_ .f32 := constant S_ .f32 0x7F800000#32
  let main_v17 : FVec F S1024 .f32 := broadcastInDim S1024 ![] bcast_S_S1024 main_cst_6
  let main_v18 : IVec S1024 1 := cmpf .olt main_v16 main_v17
  let main_c_7 : IVec S_ 1 := constantI S_ 1 1#1
  let main_v19 : IVec S_ 1 := (fun x v => Host.reduce IntOp.andi x v reducesTo_S1024_S_d0 h_S_) main_v18 main_c_7
  let main_v20 : FVec F S1024x3072 .f32 := Host.absf main_arg5
  let main_cst_8 : FVec F S_ .f32 := constant S_ .f32 0x7F800000#32
  let main_v21 : FVec F S1024x3072 .f32 := broadcastInDim S1024x3072 ![] bcast_S_S1024x3072 main_cst_8
  let main_v22 : IVec S1024x3072 1 := cmpf .olt main_v20 main_v21
  let main_c_9 : IVec S_ 1 := constantI S_ 1 1#1
  let main_v23 : IVec S_ 1 := (fun x v => Host.reduce IntOp.andi x v reducesTo_S1024x3072_S_d0_1 h_S_) main_v22 main_c_9
  let main_v24 : FVec F S4352x3072 .f32 := Host.absf main_arg7
  let main_cst_10 : FVec F S_ .f32 := constant S_ .f32 0x7F800000#32
  let main_v25 : FVec F S4352x3072 .f32 := broadcastInDim S4352x3072 ![] bcast_S_S4352x3072 main_cst_10
  let main_v26 : IVec S4352x3072 1 := cmpf .olt main_v24 main_v25
  let main_c_11 : IVec S_ 1 := constantI S_ 1 1#1
  let main_v27 : IVec S_ 1 := (fun x v => Host.reduce IntOp.andi x v reducesTo_S4352x3072_S_d0_1 h_S_) main_v26 main_c_11
  let main_v28 : IVec S_ 1 := andi main_v3 main_v7
  let main_v29 : IVec S_ 1 := andi main_v28 main_v11
  let main_v30 : IVec S_ 1 := andi main_v29 main_v15
  let main_v31 : IVec S_ 1 := andi main_v30 main_v19
  let main_v32 : IVec S_ 1 := andi main_v31 main_v23
  let main_v33 : IVec S_ 1 := andi main_v32 main_v27
  main_v33

def fn {F : FTy → Type} [FloatOps F] (main_arg0 : FVec F S256x1024 .f32) (main_arg1 : FVec F S4096x1024 .f32) (main_arg2 : FVec F S6144 .f32) (main_arg3 : FVec F S6144 .f32) (main_arg4 : FVec F S1024 .f32) (main_arg5 : FVec F S1024x3072 .f32) (main_arg6 : FVec F S4096x1024 .f32) (main_arg7 : FVec F S4352x3072 .f32) : IVec S_ 1 :=
  let main_v0 : FVec F S256x1024 .f32 := Host.absf main_arg0
  let main_cst : FVec F S_ .f32 := constant S_ .f32 0x7F800000#32
  let main_v1 : FVec F S256x1024 .f32 := broadcastInDim S256x1024 ![] bcast_S_S256x1024 main_cst
  let main_v2 : IVec S256x1024 1 := cmpf .olt main_v0 main_v1
  let main_c : IVec S_ 1 := constantI S_ 1 1#1
  let main_v3 : IVec S_ 1 := (fun x v => Host.reduce IntOp.andi x v reducesTo_S256x1024_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : FVec F S6144 .f32 := Host.absf main_arg2
  let main_cst_2 : FVec F S_ .f32 := constant S_ .f32 0x7F800000#32
  let main_v9 : FVec F S6144 .f32 := broadcastInDim S6144 ![] bcast_S_S6144 main_cst_2
  let main_v10 : IVec S6144 1 := cmpf .olt main_v8 main_v9
  let main_c_3 : IVec S_ 1 := constantI S_ 1 1#1
  let main_v11 : IVec S_ 1 := (fun x v => Host.reduce IntOp.andi x v reducesTo_S6144_S_d0 h_S_) main_v10 main_c_3
  let main_v12 : FVec F S6144 .f32 := Host.absf main_arg3
  let main_cst_4 : FVec F S_ .f32 := constant S_ .f32 0x7F800000#32
  let main_v13 : FVec F S6144 .f32 := broadcastInDim S6144 ![] bcast_S_S6144 main_cst_4
  let main_v14 : IVec S6144 1 := cmpf .olt main_v12 main_v13
  let main_c_5 : IVec S_ 1 := constantI S_ 1 1#1
  let main_v15 : IVec S_ 1 := (fun x v => Host.reduce IntOp.andi x v reducesTo_S6144_S_d0 h_S_) main_v14 main_c_5
  fn_part1 (F := F) main_arg4 main_arg5 main_arg7 main_v3 main_v7 main_v11 main_v15
-- ==== Pre_norm2_finite.lean ====
abbrev S4096x1024 : Shape := ⟨2, ![4096, 1024]⟩
abbrev S6144 : Shape := ⟨1, ![6144]⟩
abbrev S1024 : Shape := ⟨1, ![1024]⟩
abbrev S1024x4096 : Shape := ⟨2, ![1024, 4096]⟩
abbrev S4096x4096 : Shape := ⟨2, ![4096, 4096]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S6144 : S_.BroadcastsInDim S6144 (![] : Fin 0 → Fin S6144.rank)
  reducesTo_S6144_S_d0 : S6144.ReducesTo [0] S_
  bcast_S_S1024 : S_.BroadcastsInDim S1024 (![] : Fin 0 → Fin S1024.rank)
  reducesTo_S1024_S_d0 : S1024.ReducesTo [0] S_
  bcast_S_S1024x4096 : S_.BroadcastsInDim S1024x4096 (![] : Fin 0 → Fin S1024x4096.rank)
  reducesTo_S1024x4096_S_d0_1 : S1024x4096.ReducesTo [0, 1] S_
  bcast_S_S4096x4096 : S_.BroadcastsInDim S4096x4096 (![] : Fin 0 → Fin S4096x4096.rank)
  reducesTo_S4096x4096_S_d0_1 : S4096x4096.ReducesTo [0, 1] S_

variable [Facts]

def fn_part1 {F : FTy → Type} [FloatOps F] (main_arg5 : FVec F S1024x4096 .f32) (main_arg7 : FVec F S4096x4096 .f32) (main_v3 : IVec S_ 1) (main_v7 : IVec S_ 1) (main_v11 : IVec S_ 1) (main_v15 : IVec S_ 1) : IVec S_ 1 :=
  let main_v16 : FVec F S1024x4096 .f32 := Host.absf main_arg5
  let main_cst_6 : FVec F S_ .f32 := constant S_ .f32 0x7F800000#32
  let main_v17 : FVec F S1024x4096 .f32 := broadcastInDim S1024x4096 ![] bcast_S_S1024x4096 main_cst_6
  let main_v18 : IVec S1024x4096 1 := cmpf .olt main_v16 main_v17
  let main_c_7 : IVec S_ 1 := constantI S_ 1 1#1
  let main_v19 : IVec S_ 1 := (fun x v => Host.reduce IntOp.andi x v reducesTo_S1024x4096_S_d0_1 h_S_) main_v18 main_c_7
  let main_v20 : FVec F S4096x4096 .f32 := Host.absf main_arg7
  let main_cst_8 : FVec F S_ .f32 := constant S_ .f32 0x7F800000#32
  let main_v21 : FVec F S4096x4096 .f32 := broadcastInDim S4096x4096 ![] bcast_S_S4096x4096 main_cst_8
  let main_v22 : IVec S4096x4096 1 := cmpf .olt main_v20 main_v21
  let main_c_9 : IVec S_ 1 := constantI S_ 1 1#1
  let main_v23 : IVec S_ 1 := (fun x v => Host.reduce IntOp.andi x v reducesTo_S4096x4096_S_d0_1 h_S_) main_v22 main_c_9
  let main_v24 : IVec S_ 1 := andi main_v3 main_v7
  let main_v25 : IVec S_ 1 := andi main_v24 main_v11
  let main_v26 : IVec S_ 1 := andi main_v25 main_v15
  let main_v27 : IVec S_ 1 := andi main_v26 main_v19
  let main_v28 : IVec S_ 1 := andi main_v27 main_v23
  main_v28

def fn {F : FTy → Type} [FloatOps F] (main_arg0 : FVec F S4096x1024 .f32) (main_arg1 : FVec F S4096x1024 .f32) (main_arg2 : FVec F S6144 .f32) (main_arg3 : FVec F S6144 .f32) (main_arg4 : FVec F S1024 .f32) (main_arg5 : FVec F S1024x4096 .f32) (main_arg6 : FVec F S4096x1024 .f32) (main_arg7 : FVec F S4096x4096 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : FVec F S6144 .f32 := Host.absf main_arg2
  let main_cst_2 : FVec F S_ .f32 := constant S_ .f32 0x7F800000#32
  let main_v9 : FVec F S6144 .f32 := broadcastInDim S6144 ![] bcast_S_S6144 main_cst_2
  let main_v10 : IVec S6144 1 := cmpf .olt main_v8 main_v9
  let main_c_3 : IVec S_ 1 := constantI S_ 1 1#1
  let main_v11 : IVec S_ 1 := (fun x v => Host.reduce IntOp.andi x v reducesTo_S6144_S_d0 h_S_) main_v10 main_c_3
  let main_v12 : FVec F S1024 .f32 := Host.absf main_arg4
  let main_cst_4 : FVec F S_ .f32 := constant S_ .f32 0x7F800000#32
  let main_v13 : FVec F S1024 .f32 := broadcastInDim S1024 ![] bcast_S_S1024 main_cst_4
  let main_v14 : IVec S1024 1 := cmpf .olt main_v12 main_v13
  let main_c_5 : IVec S_ 1 := constantI S_ 1 1#1
  let main_v15 : IVec S_ 1 := (fun x v => Host.reduce IntOp.andi x v reducesTo_S1024_S_d0 h_S_) main_v14 main_c_5
  fn_part1 (F := F) main_arg5 main_arg7 main_v3 main_v7 main_v11 main_v15
-- ==== Pre_retention_finite.lean ====
abbrev S4352x512 : Shape := ⟨2, ![4352, 512]⟩
abbrev S2x4 : Shape := ⟨2, ![2, 4]⟩
abbrev S4096x512 : Shape := ⟨2, ![4096, 512]⟩
abbrev S_ : Shape := ⟨0, ![]⟩

class Facts : Prop where
  bcast_S_S4352x512 : S_.BroadcastsInDim S4352x512 (![] : Fin 0 → Fin S4352x512.rank)
  reducesTo_S4352x512_S_d0_1 : S4352x512.ReducesTo [0, 1] S_
  h_S_ : 0 < S_.numel
  bcast_S_S2x4 : S_.BroadcastsInDim S2x4 (![] : Fin 0 → Fin S2x4.rank)
  reducesTo_S2x4_S_d0_1 : S2x4.ReducesTo [0, 1] S_
  bcast_S_S4096x512 : S_.BroadcastsInDim S4096x512 (![] : Fin 0 → Fin S4096x512.rank)
  reducesTo_S4096x512_S_d0_1 : S4096x512.ReducesTo [0, 1] S_

variable [Facts]

def fn_part1 {F : FTy → Type} [FloatOps F] (main_arg4 : FVec F S4096x512 .f32) (main_v3 : IVec S_ 1) (main_v7 : IVec S_ 1) (main_v11 : IVec S_ 1) (main_v15 : IVec S_ 1) : IVec S_ 1 :=
  let main_v16 : FVec F S4096x512 .f32 := Host.absf main_arg4
  let main_cst_6 : FVec F S_ .f32 := constant S_ .f32 0x7F800000#32
  let main_v17 : FVec F S4096x512 .f32 := broadcastInDim S4096x512 ![] bcast_S_S4096x512 main_cst_6
  let main_v18 : IVec S4096x512 1 := cmpf .olt main_v16 main_v17
  let main_c_7 : IVec S_ 1 := constantI S_ 1 1#1
  let main_v19 : IVec S_ 1 := (fun x v => Host.reduce IntOp.andi x v reducesTo_S4096x512_S_d0_1 h_S_) main_v18 main_c_7
  let main_v20 : IVec S_ 1 := andi main_v3 main_v7
  let main_v21 : IVec S_ 1 := andi main_v20 main_v11
  let main_v22 : IVec S_ 1 := andi main_v21 main_v15
  let main_v23 : IVec S_ 1 := andi main_v22 main_v19
  main_v23

def fn {F : FTy → Type} [FloatOps F] (main_arg0 : FVec F S4352x512 .f32) (main_arg1 : FVec F S4352x512 .f32) (main_arg2 : FVec F S4352x512 .f32) (main_arg3 : FVec F S2x4 .f32) (main_arg4 : FVec F S4096x512 .f32) : IVec S_ 1 :=
  let main_v0 : FVec F S4352x512 .f32 := Host.absf main_arg0
  let main_cst : FVec F S_ .f32 := constant S_ .f32 0x7F800000#32
  let main_v1 : FVec F S4352x512 .f32 := broadcastInDim S4352x512 ![] bcast_S_S4352x512 main_cst
  let main_v2 : IVec S4352x512 1 := cmpf .olt main_v0 main_v1
  let main_c : IVec S_ 1 := constantI S_ 1 1#1
  let main_v3 : IVec S_ 1 := (fun x v => Host.reduce IntOp.andi x v reducesTo_S4352x512_S_d0_1 h_S_) main_v2 main_c
  let main_v4 : FVec F S4352x512 .f32 := Host.absf main_arg1
  let main_cst_0 : FVec F S_ .f32 := constant S_ .f32 0x7F800000#32
  let main_v5 : FVec F S4352x512 .f32 := broadcastInDim S4352x512 ![] bcast_S_S4352x512 main_cst_0
  let main_v6 : IVec S4352x512 1 := cmpf .olt main_v4 main_v5
  let main_c_1 : IVec S_ 1 := constantI S_ 1 1#1
  let main_v7 : IVec S_ 1 := (fun x v => Host.reduce IntOp.andi x v reducesTo_S4352x512_S_d0_1 h_S_) main_v6 main_c_1
  let main_v8 : FVec F S4352x512 .f32 := Host.absf main_arg2
  let main_cst_2 : FVec F S_ .f32 := constant S_ .f32 0x7F800000#32
  let main_v9 : FVec F S4352x512 .f32 := broadcastInDim S4352x512 ![] bcast_S_S4352x512 main_cst_2
  let main_v10 : IVec S4352x512 1 := cmpf .olt main_v8 main_v9
  let main_c_3 : IVec S_ 1 := constantI S_ 1 1#1
  let main_v11 : IVec S_ 1 := (fun x v => Host.reduce IntOp.andi x v reducesTo_S4352x512_S_d0_1 h_S_) main_v10 main_c_3
  let main_v12 : FVec F S2x4 .f32 := Host.absf main_arg3
  let main_cst_4 : FVec F S_ .f32 := constant S_ .f32 0x7F800000#32
  let main_v13 : FVec F S2x4 .f32 := broadcastInDim S2x4 ![] bcast_S_S2x4 main_cst_4
  let main_v14 : IVec S2x4 1 := cmpf .olt main_v12 main_v13
  let main_c_5 : IVec S_ 1 := constantI S_ 1 1#1
  let main_v15 : IVec S_ 1 := (fun x v => Host.reduce IntOp.andi x v reducesTo_S2x4_S_d0_1 h_S_) main_v14 main_c_5
  fn_part1 (F := F) main_arg4 main_v3 main_v7 main_v11 main_v15
-- ==== Kernel.lean ====
abbrev S4096x4096 : Shape := ⟨2, ![4096, 4096]⟩
abbrev S4096x1024 : Shape := ⟨2, ![4096, 1024]⟩
abbrev S_ : Shape := ⟨0, ![]⟩
abbrev S1x4096x1024 : Shape := ⟨3, ![1, 4096, 1024]⟩
abbrev S512x1024 : Shape := ⟨2, ![512, 1024]⟩
abbrev S512x4096 : Shape := ⟨2, ![512, 4096]⟩
abbrev S1024x4096 : Shape := ⟨2, ![1024, 4096]⟩

abbrev nBuf : Space → Nat
  | .hbm => 11
  | .vmem => 8
  | .smem => 0
  | _ => 0

abbrev bufTy : (tb : Table) → Fin (tcTables nBuf tb) → BufTy
  | .hbm, ⟨0, _⟩ => ⟨S4096x4096, .f32⟩
  | .hbm, ⟨1, _⟩ => ⟨S4096x1024, .f32⟩
  | .hbm, ⟨2, _⟩ => ⟨S4096x1024, .f32⟩
  | .hbm, ⟨3, _⟩ => ⟨S_, .f32⟩
  | .hbm, ⟨4, _⟩ => ⟨S4096x4096, .f32⟩
  | .hbm, ⟨5, _⟩ => ⟨S4096x4096, .f32⟩
  | .hbm, ⟨6, _⟩ => ⟨S4096x4096, .bf16⟩
  | .hbm, ⟨7, _⟩ => ⟨S4096x1024, .bf16⟩
  | .hbm, ⟨8, _⟩ => ⟨S1x4096x1024, .bf16⟩
  | .hbm, ⟨9, _⟩ => ⟨S4096x1024, .bf16⟩
  | .hbm, ⟨10, _⟩ => ⟨S4096x4096, .bf16⟩
  | .local _ .vmem, ⟨0, _⟩ => ⟨S512x1024, .bf16⟩
  | .local _ .vmem, ⟨1, _⟩ => ⟨S512x1024, .bf16⟩
  | .local _ .vmem, ⟨2, _⟩ => ⟨S1x4096x1024, .bf16⟩
  | .local _ .vmem, ⟨3, _⟩ => ⟨S512x4096, .bf16⟩
  | .local _ .vmem, ⟨4, _⟩ => ⟨S512x4096, .bf16⟩
  | .local _ .vmem, ⟨5, _⟩ => ⟨S512x4096, .bf16⟩
  | .local _ .vmem, ⟨6, _⟩ => ⟨S512x4096, .bf16⟩
  | .local _ .vmem, ⟨7, _⟩ => ⟨S1024x4096, .bf16⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S4096x4096 : Shape := ⟨2, ![4096, 4096]⟩
abbrev S4096x1024 : Shape := ⟨2, ![4096, 1024]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x1024, .f32⟩
  | .hbm, ⟨2, _⟩ => ⟨S4096x1024, .f32⟩
  | .hbm, ⟨3, _⟩ => ⟨S_, .f32⟩
  | .hbm, ⟨4, _⟩ => ⟨S4096x4096, .f32⟩
  | .hbm, ⟨5, _⟩ => ⟨S4096x4096, .f32⟩
  | .hbm, ⟨6, _⟩ => ⟨S_, .f32⟩
  | .hbm, ⟨7, _⟩ => ⟨S4096x4096, .f32⟩
  | .hbm, ⟨8, _⟩ => ⟨S4096x4096, .i1⟩
  | .hbm, ⟨9, _⟩ => ⟨S_, .f32⟩
  | .hbm, ⟨10, _⟩ => ⟨S4096x4096, .f32⟩
  | .hbm, ⟨11, _⟩ => ⟨S4096x4096, .f32⟩
  | .hbm, ⟨12, _⟩ => ⟨S_, .f32⟩
  | .hbm, ⟨13, _⟩ => ⟨S4096x4096, .f32⟩
  | .hbm, ⟨14, _⟩ => ⟨S4096x4096, .f32⟩
  | .hbm, ⟨15, _⟩ => ⟨S4096x1024, .f32⟩
  | .hbm, ⟨16, _⟩ => ⟨S4096x4096, .f32⟩
  | .hbm, ⟨17, _⟩ => ⟨S4096x4096, .f32⟩
  | .hbm, ⟨18, _⟩ => ⟨S_, .f32⟩
  | .hbm, ⟨19, _⟩ => ⟨S4096x4096, .f32⟩
  | .hbm, ⟨20, _⟩ => ⟨S4096x4096, .f32⟩
  | .hbm, ⟨21, _⟩ => ⟨S4096x4096, .bf16⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩

abbrev nD : Nat := 1
abbrev τ : Topo := Topo.v7x

variable {F : FTy → Type} [FloatOps F]
-- ==== Kernel2.lean ====
abbrev S4352x512 : Shape := ⟨2, ![4352, 512]⟩
abbrev S2x4 : Shape := ⟨2, ![2, 4]⟩
abbrev S4096x512 : Shape := ⟨2, ![4096, 512]⟩
abbrev S256x512 : Shape := ⟨2, ![256, 512]⟩
abbrev S1x4352x512 : Shape := ⟨3, ![1, 4352, 512]⟩
abbrev S2x4352x512 : Shape := ⟨3, ![2, 4352, 512]⟩
abbrev S2x34x128x4x128 : Shape := ⟨5, ![2, 34, 128, 4, 128]⟩
abbrev S128 : Shape := ⟨1, ![128]⟩
abbrev S2x4x1 : Shape := ⟨3, ![2, 4, 1]⟩
abbrev S_ : Shape := ⟨0, ![]⟩
abbrev S1x1x128 : Shape := ⟨3, ![1, 1, 128]⟩
abbrev S2x4x128 : Shape := ⟨3, ![2, 4, 128]⟩
abbrev S2x128x4 : Shape := ⟨3, ![2, 128, 4]⟩
abbrev S2x1x128x4x1 : Shape := ⟨5, ![2, 1, 128, 4, 1]⟩
abbrev S34x2x4x128x128 : Shape := ⟨5, ![34, 2, 4, 128, 128]⟩
abbrev S34x2x128x4x128 : Shape := ⟨5, ![34, 2, 128, 4, 128]⟩
abbrev S2x4x1x1 : Shape := ⟨4, ![2, 4, 1, 1]⟩
abbrev S2x4x128x128 : Shape := ⟨4, ![2, 4, 128, 128]⟩
abbrev S0x2x4x128x128 : Shape := ⟨5, ![0, 2, 4, 128, 128]⟩
abbrev S1x2x4x128x128 : Shape := ⟨5, ![1, 2, 4, 128, 128]⟩
abbrev S16x2x4x128x128 : Shape := ⟨5, ![16, 2, 4, 128, 128]⟩
abbrev S2x2x4x128x128 : Shape := ⟨5, ![2, 2, 4, 128, 128]⟩
abbrev S34x1x4x128x128 : Shape := ⟨5, ![34, 1, 4, 128, 128]⟩
abbrev S34x4x128x128 : Shape := ⟨4, ![34, 4, 128, 128]⟩
abbrev S4352x1536 : Shape := ⟨2, ![4352, 1536]⟩
abbrev S8x1024 : Shape := ⟨2, ![8, 1024]⟩
abbrev S128x512 : Shape := ⟨2, ![128, 512]⟩
abbrev S1x4x128x128 : Shape := ⟨4, ![1, 4, 128, 128]⟩
abbrev S2x4x5x128x128 : Shape := ⟨5, ![2, 4, 5, 128, 128]⟩
abbrev S2x128x128 : Shape := ⟨3, ![2, 128, 128]⟩
abbrev S128x128 : Shape := ⟨2, ![128, 128]⟩
abbrev S1x128x128 : Shape := ⟨3, ![1, 128, 128]⟩
abbrev S1x1 : Shape := ⟨2, ![1, 1]⟩
abbrev S1x1x1x128x128 : Shape := ⟨5, ![1, 1, 1, 128, 128]⟩
abbrev S1x1x128x128 : Shape := ⟨4, ![1, 1, 128, 128]⟩
abbrev S1x128 : Shape := ⟨2, ![1, 128]⟩
abbrev S8x128 : Shape := ⟨2, ![8, 128]⟩
abbrev S8 : Shape := ⟨1, ![8]⟩

abbrev nBuf : Space → Nat
  | .hbm => 248
  | .vmem => 36
  | .smem => 1
  | _ => 0

abbrev hbmTy0_0 (i : Nat) : BufTy := match i % 128 with
  | 0 => ⟨S4352x512, .f32⟩
  | 1 => ⟨S4352x512, .f32⟩
  | 2 => ⟨S4352x512, .f32⟩
  | 3 => ⟨S2x4, .f32⟩
  | 4 => ⟨S4096x512, .f32⟩
  | 5 => ⟨S256x512, .f32⟩
  | 6 => ⟨S256x512, .f32⟩
  | 7 => ⟨S4096x512, .f32⟩
  | 8 => ⟨S4096x512, .f32⟩
  | 9 => ⟨S4352x512, .f32⟩
  | 10 => ⟨S1x4352x512, .f32⟩
  | 11 => ⟨S1x4352x512, .f32⟩
  | 12 => ⟨S2x4352x512, .f32⟩
  | 13 => ⟨S2x34x128x4x128, .f32⟩
  | 14 => ⟨S256x512, .f32⟩
  | 15 => ⟨S256x512, .f32⟩
  | 16 => ⟨S4096x512, .f32⟩
  | 17 => ⟨S4096x512, .f32⟩
  | 18 => ⟨S4352x512, .f32⟩
  | 19 => ⟨S1x4352x512, .f32⟩
  | 20 => ⟨S1x4352x512, .f32⟩
  | 21 => ⟨S2x4352x512, .f32⟩
  | 22 => ⟨S2x34x128x4x128, .f32⟩
  | 23 => ⟨S128, .f32⟩
  | 24 => ⟨S2x4x1, .f32⟩
  | 25 => ⟨S_, .f32⟩
  | 26 => ⟨S128, .f32⟩
  | 27 => ⟨S128, .f32⟩
  | 28 => ⟨S1x1x128, .f32⟩
  | 29 => ⟨S2x4x128, .f32⟩
  | 30 => ⟨S2x4x128, .f32⟩
  | 31 => ⟨S2x4x128, .f32⟩
  | 32 => ⟨S2x4x128, .f32⟩
  | 33 => ⟨S2x128x4, .f32⟩
  | 34 => ⟨S2x1x128x4x1, .f32⟩
  | 35 => ⟨S2x34x128x4x128, .f32⟩
  | 36 => ⟨S2x34x128x4x128, .f32⟩
  | 37 => ⟨S34x2x4x128x128, .f32⟩
  | 38 => ⟨S34x2x128x4x128, .f32⟩
  | 39 => ⟨S34x2x4x128x128, .f32⟩
  | 40 => ⟨S_, .f32⟩
  | 41 => ⟨S2x4, .f32⟩
  | 42 => ⟨S2x4, .f32⟩
  | 43 => ⟨S2x4, .f32⟩
  | 44 => ⟨S2x4x1x1, .f32⟩
  | 45 => ⟨S2x4x128x128, .f32⟩
  | 46 => ⟨S_, .f32⟩
  | 47 => ⟨S2x4x128x128, .f32⟩
  | 48 => ⟨S0x2x4x128x128, .f32⟩
  | 49 => ⟨S34x2x4x128x128, .f32⟩
  | 50 => ⟨S_, .f32⟩
  | 51 => ⟨S0x2x4x128x128, .f32⟩
  | 52 => ⟨S1x2x4x128x128, .f32⟩
  | 53 => ⟨S2x4x128x128, .f32⟩
  | 54 => ⟨S2x4x128x128, .f32⟩
  | 55 => ⟨S2x4x128x128, .f32⟩
  | 56 => ⟨S1x2x4x128x128, .f32⟩
  | 57 => ⟨S2x4x128x128, .f32⟩
  | 58 => ⟨S2x4x128x128, .f32⟩
  | 59 => ⟨S2x4x128x128, .f32⟩
  | 60 => ⟨S1x2x4x128x128, .f32⟩
  | 61 => ⟨S2x4x128x128, .f32⟩
  | 62 => ⟨S2x4x128x128, .f32⟩
  | 63 => ⟨S2x4x128x128, .f32⟩
  | 64 => ⟨S1x2x4x128x128, .f32⟩
  | 65 => ⟨S2x4x128x128, .f32⟩
  | 66 => ⟨S2x4x128x128, .f32⟩
  | 67 => ⟨S2x4x128x128, .f32⟩
  | 68 => ⟨S1x2x4x128x128, .f32⟩
  | 69 => ⟨S2x4x128x128, .f32⟩
  | 70 => ⟨S2x4x128x128, .f32⟩
  | 71 => ⟨S2x4x128x128, .f32⟩
  | 72 => ⟨S1x2x4x128x128, .f32⟩
  | 73 => ⟨S2x4x128x128, .f32⟩
  | 74 => ⟨S2x4x128x128, .f32⟩
  | 75 => ⟨S2x4x128x128, .f32⟩
  | 76 => ⟨S1x2x4x128x128, .f32⟩
  | 77 => ⟨S2x4x128x128, .f32⟩
  | 78 => ⟨S2x4x128x128, .f32⟩
  | 79 => ⟨S2x4x128x128, .f32⟩
  | 80 => ⟨S1x2x4x128x128, .f32⟩
  | 81 => ⟨S2x4x128x128, .f32⟩
  | 82 => ⟨S2x4x128x128, .f32⟩
  | 83 => ⟨S2x4x128x128, .f32⟩
  | 84 => ⟨S1x2x4x128x128, .f32⟩
  | 85 => ⟨S2x4x128x128, .f32⟩
  | 86 => ⟨S2x4x128x128, .f32⟩
  | 87 => ⟨S2x4x128x128, .f32⟩
  | 88 => ⟨S1x2x4x128x128, .f32⟩
  | 89 => ⟨S2x4x128x128, .f32⟩
  | 90 => ⟨S2x4x128x128, .f32⟩
  | 91 => ⟨S2x4x128x128, .f32⟩
  | 92 => ⟨S1x2x4x128x128, .f32⟩
  | 93 => ⟨S2x4x128x128, .f32⟩
  | 94 => ⟨S2x4x128x128, .f32⟩
  | 95 => ⟨S2x4x128x128, .f32⟩
  | 96 => ⟨S1x2x4x128x128, .f32⟩
  | 97 => ⟨S2x4x128x128, .f32⟩
  | 98 => ⟨S2x4x128x128, .f32⟩
  | 99 => ⟨S2x4x128x128, .f32⟩
  | 100 => ⟨S1x2x4x128x128, .f32⟩
  | 101 => ⟨S2x4x128x128, .f32⟩
  | 102 => ⟨S2x4x128x128, .f32⟩
  | 103 => ⟨S2x4x128x128, .f32⟩
  | 104 => ⟨S1x2x4x128x128, .f32⟩
  | 105 => ⟨S2x4x128x128, .f32⟩
  | 106 => ⟨S2x4x128x128, .f32⟩
  | 107 => ⟨S2x4x128x128, .f32⟩
  | 108 => ⟨S1x2x4x128x128, .f32⟩
  | 109 => ⟨S2x4x128x128, .f32⟩
  | 110 => ⟨S2x4x128x128, .f32⟩
  | 111 => ⟨S2x4x128x128, .f32⟩
  | 112 => ⟨S1x2x4x128x128, .f32⟩
  | 113 => ⟨S2x4x128x128, .f32⟩
  | 114 => ⟨S2x4x128x128, .f32⟩
  | 115 => ⟨S2x4x128x128, .f32⟩
  | 116 => ⟨S1x2x4x128x128, .f32⟩
  | 117 => ⟨S2x4x128x128, .f32⟩
  | 118 => ⟨S2x4x128x128, .f32⟩
  | 119 => ⟨S2x4x128x128, .f32⟩
  | 120 => ⟨S1x2x4x128x128, .f32⟩
  | 121 => ⟨S2x4x128x128, .f32⟩
  | 122 => ⟨S2x4x128x128, .f32⟩
  | 123 => ⟨S2x4x128x128, .f32⟩
  | 124 => ⟨S1x2x4x128x128, .f32⟩
  | 125 => ⟨S2x4x128x128, .f32⟩
  | 126 => ⟨S2x4x128x128, .f32⟩
  | 127 => ⟨S2x4x128x128, .f32⟩
  | _ => ⟨S4352x512, .f32⟩

abbrev hbmTy0_1 (i : Nat) : BufTy := match i % 128 with
  | 0 => ⟨S1x2x4x128x128, .f32⟩
  | 1 => ⟨S2x4x128x128, .f32⟩
  | 2 => ⟨S2x4x128x128, .f32⟩
  | 3 => ⟨S2x4x128x128, .f32⟩
  | 4 => ⟨S1x2x4x128x128, .f32⟩
  | 5 => ⟨S2x4x128x128, .f32⟩
  | 6 => ⟨S2x4x128x128, .f32⟩
  | 7 => ⟨S2x4x128x128, .f32⟩
  | 8 => ⟨S1x2x4x128x128, .f32⟩
  | 9 => ⟨S2x4x128x128, .f32⟩
  | 10 => ⟨S2x4x128x128, .f32⟩
  | 11 => ⟨S2x4x128x128, .f32⟩
  | 12 => ⟨S1x2x4x128x128, .f32⟩
  | 13 => ⟨S2x4x128x128, .f32⟩
  | 14 => ⟨S2x4x128x128, .f32⟩
  | 15 => ⟨S2x4x128x128, .f32⟩
  | 16 => ⟨S1x2x4x128x128, .f32⟩
  | 17 => ⟨S2x4x128x128, .f32⟩
  | 18 => ⟨S2x4x128x128, .f32⟩
  | 19 => ⟨S2x4x128x128, .f32⟩
  | 20 => ⟨S1x2x4x128x128, .f32⟩
  | 21 => ⟨S2x4x128x128, .f32⟩
  | 22 => ⟨S2x4x128x128, .f32⟩
  | 23 => ⟨S2x4x128x128, .f32⟩
  | 24 => ⟨S1x2x4x128x128, .f32⟩
  | 25 => ⟨S2x4x128x128, .f32⟩
  | 26 => ⟨S2x4x128x128, .f32⟩
  | 27 => ⟨S2x4x128x128, .f32⟩
  | 28 => ⟨S1x2x4x128x128, .f32⟩
  | 29 => ⟨S2x4x128x128, .f32⟩
  | 30 => ⟨S2x4x128x128, .f32⟩
  | 31 => ⟨S2x4x128x128, .f32⟩
  | 32 => ⟨S1x2x4x128x128, .f32⟩
  | 33 => ⟨S2x4x128x128, .f32⟩
  | 34 => ⟨S2x4x128x128, .f32⟩
  | 35 => ⟨S2x4x128x128, .f32⟩
  | 36 => ⟨S1x2x4x128x128, .f32⟩
  | 37 => ⟨S2x4x128x128, .f32⟩
  | 38 => ⟨S2x4x128x128, .f32⟩
  | 39 => ⟨S2x4x128x128, .f32⟩
  | 40 => ⟨S1x2x4x128x128, .f32⟩
  | 41 => ⟨S2x4x128x128, .f32⟩
  | 42 => ⟨S2x4x128x128, .f32⟩
  | 43 => ⟨S2x4x128x128, .f32⟩
  | 44 => ⟨S1x2x4x128x128, .f32⟩
  | 45 => ⟨S2x4x128x128, .f32⟩
  | 46 => ⟨S2x4x128x128, .f32⟩
  | 47 => ⟨S2x4x128x128, .f32⟩
  | 48 => ⟨S1x2x4x128x128, .f32⟩
  | 49 => ⟨S2x4x128x128, .f32⟩
  | 50 => ⟨S2x4x128x128, .f32⟩
  | 51 => ⟨S2x4x128x128, .f32⟩
  | 52 => ⟨S1x2x4x128x128, .f32⟩
  | 53 => ⟨S2x4x128x128, .f32⟩
  | 54 => ⟨S2x4x128x128, .f32⟩
  | 55 => ⟨S2x4x128x128, .f32⟩
  | 56 => ⟨S1x2x4x128x128, .f32⟩
  | 57 => ⟨S2x4x128x128, .f32⟩
  | 58 => ⟨S2x4x128x128, .f32⟩
  | 59 => ⟨S2x4x128x128, .f32⟩
  | 60 => ⟨S1x2x4x128x128, .f32⟩
  | 61 => ⟨S1x2x4x128x128, .f32⟩
  | 62 => ⟨S1x2x4x128x128, .f32⟩
  | 63 => ⟨S1x2x4x128x128, .f32⟩
  | 64 => ⟨S1x2x4x128x128, .f32⟩
  | 65 => ⟨S1x2x4x128x128, .f32⟩
  | 66 => ⟨S1x2x4x128x128, .f32⟩
  | 67 => ⟨S1x2x4x128x128, .f32⟩
  | 68 => ⟨S1x2x4x128x128, .f32⟩
  | 69 => ⟨S1x2x4x128x128, .f32⟩
  | 70 => ⟨S1x2x4x128x128, .f32⟩
  | 71 => ⟨S1x2x4x128x128, .f32⟩
  | 72 => ⟨S1x2x4x128x128, .f32⟩
  | 73 => ⟨S1x2x4x128x128, .f32⟩
  | 74 => ⟨S1x2x4x128x128, .f32⟩
  | 75 => ⟨S1x2x4x128x128, .f32⟩
  | 76 => ⟨S1x2x4x128x128, .f32⟩
  | 77 => ⟨S1x2x4x128x128, .f32⟩
  | 78 => ⟨S1x2x4x128x128, .f32⟩
  | 79 => ⟨S1x2x4x128x128, .f32⟩
  | 80 => ⟨S1x2x4x128x128, .f32⟩
  | 81 => ⟨S1x2x4x128x128, .f32⟩
  | 82 => ⟨S1x2x4x128x128, .f32⟩
  | 83 => ⟨S1x2x4x128x128, .f32⟩
  | 84 => ⟨S1x2x4x128x128, .f32⟩
  | 85 => ⟨S1x2x4x128x128, .f32⟩
  | 86 => ⟨S1x2x4x128x128, .f32⟩
  | 87 => ⟨S1x2x4x128x128, .f32⟩
  | 88 => ⟨S1x2x4x128x128, .f32⟩
  | 89 => ⟨S1x2x4x128x128, .f32⟩
  | 90 => ⟨S1x2x4x128x128, .f32⟩
  | 91 => ⟨S1x2x4x128x128, .f32⟩
  | 92 => ⟨S1x2x4x128x128, .f32⟩
  | 93 => ⟨S1x2x4x128x128, .f32⟩
  | 94 => ⟨S16x2x4x128x128, .f32⟩
  | 95 => ⟨S16x2x4x128x128, .f32⟩
  | 96 => ⟨S2x2x4x128x128, .f32⟩
  | 97 => ⟨S34x2x4x128x128, .f32⟩
  | 98 => ⟨S34x2x4x128x128, .f32⟩
  | 99 => ⟨S34x1x4x128x128, .f32⟩
  | 100 => ⟨S34x4x128x128, .f32⟩
  | 101 => ⟨S34x1x4x128x128, .f32⟩
  | 102 => ⟨S34x4x128x128, .f32⟩
  | 103 => ⟨S4352x1536, .f32⟩
  | 104 => ⟨S4352x1536, .bf16⟩
  | 105 => ⟨S_, .f32⟩
  | 106 => ⟨S256x512, .f32⟩
  | 107 => ⟨S4352x512, .f32⟩
  | 108 => ⟨S4352x512, .bf16⟩
  | 109 => ⟨S4352x512, .bf16⟩
  | 110 => ⟨S4352x512, .bf16⟩
  | 111 => ⟨S4352x512, .bf16⟩
  | 112 => ⟨S4352x512, .bf16⟩
  | 113 => ⟨S4352x512, .bf16⟩
  | 114 => ⟨S4352x512, .bf16⟩
  | 115 => ⟨S8x1024, .f32⟩
  | 116 => ⟨S8x128, .f32⟩
  | 117 => ⟨S_, .f32⟩
  | 118 => ⟨S8, .f32⟩
  | 119 => ⟨S2x4, .f32⟩
  | _ => ⟨S4352x512, .f32⟩

abbrev hbmTy (i : Nat) : BufTy := match i / 128 with
  | 0 => hbmTy0_0 i
  | 1 => hbmTy0_1 i
  | _ => ⟨S4352x512, .f32⟩

abbrev bufTy : (tb : Table) → Fin (tcTables nBuf tb) → BufTy
  | .hbm, ⟨i, _⟩ => hbmTy i
  | .local _ .vmem, ⟨0, _⟩ => ⟨S128x512, .bf16⟩
  | .local _ .vmem, ⟨1, _⟩ => ⟨S128x512, .bf16⟩
  | .local _ .vmem, ⟨2, _⟩ => ⟨S128x512, .bf16⟩
  | .local _ .vmem, ⟨3, _⟩ => ⟨S128x512, .bf16⟩
  | .local _ .vmem, ⟨4, _⟩ => ⟨S128x512, .bf16⟩
  | .local _ .vmem, ⟨5, _⟩ => ⟨S128x512, .bf16⟩
  | .local _ .vmem, ⟨6, _⟩ => ⟨S128x512, .bf16⟩
  | .local _ .vmem, ⟨7, _⟩ => ⟨S128x512, .bf16⟩
  | .local _ .vmem, ⟨8, _⟩ => ⟨S128x512, .bf16⟩
  | .local _ .vmem, ⟨9, _⟩ => ⟨S128x512, .bf16⟩
  | .local _ .vmem, ⟨10, _⟩ => ⟨S128x512, .bf16⟩
  | .local _ .vmem, ⟨11, _⟩ => ⟨S128x512, .bf16⟩
  | .local _ .vmem, ⟨12, _⟩ => ⟨S128x512, .bf16⟩
  | .local _ .vmem, ⟨13, _⟩ => ⟨S128x512, .bf16⟩
  | .local _ .vmem, ⟨14, _⟩ => ⟨S128x512, .bf16⟩
  | .local _ .vmem, ⟨15, _⟩ => ⟨S128x512, .bf16⟩
  | .local _ .vmem, ⟨16, _⟩ => ⟨S1x4x128x128, .f32⟩
  | .local _ .vmem, ⟨17, _⟩ => ⟨S1x4x128x128, .f32⟩
  | .local _ .vmem, ⟨18, _⟩ => ⟨S1x4x128x128, .f32⟩
  | .local _ .vmem, ⟨19, _⟩ => ⟨S1x4x128x128, .f32⟩
  | .local _ .vmem, ⟨20, _⟩ => ⟨S128x512, .bf16⟩
  | .local _ .vmem, ⟨21, _⟩ => ⟨S128x512, .bf16⟩
  | .local _ .vmem, ⟨22, _⟩ => ⟨S128x512, .bf16⟩
  | .local _ .vmem, ⟨23, _⟩ => ⟨S128x512, .bf16⟩
  | .local _ .vmem, ⟨24, _⟩ => ⟨S128x512, .bf16⟩
  | .local _ .vmem, ⟨25, _⟩ => ⟨S128x512, .bf16⟩
  | .local _ .vmem, ⟨26, _⟩ => ⟨S128x512, .bf16⟩
  | .local _ .vmem, ⟨27, _⟩ => ⟨S128x512, .bf16⟩
  | .local _ .vmem, ⟨28, _⟩ => ⟨S128x512, .bf16⟩
  | .local _ .vmem, ⟨29, _⟩ => ⟨S128x512, .bf16⟩
  | .local _ .vmem, ⟨30, _⟩ => ⟨S128x512, .bf16⟩
  | .local _ .vmem, ⟨31, _⟩ => ⟨S128x512, .bf16⟩
  | .local _ .vmem, ⟨32, _⟩ => ⟨S8x1024, .f32⟩
  | .local _ .vmem, ⟨33, _⟩ => ⟨S2x4x128x128, .f32⟩
  | .local _ .vmem, ⟨34, _⟩ => ⟨S2x4x5x128x128, .f32⟩
  | .local _ .vmem, ⟨35, _⟩ => ⟨S2x128x128, .f32⟩
  | .local _ .smem, ⟨0, _⟩ => ⟨S2x4, .f32⟩
  | _, _ => ⟨S4352x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .smem, ⟨0, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_cst : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_cst_0 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_cst_1 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_cst_2 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_v67 : Ref sig .tc := ⟨.hbm, 76, rfl⟩
abbrev main_v68 : Ref sig .tc := ⟨.hbm, 77, rfl⟩
abbrev main_v69 : Ref sig .tc := ⟨.hbm, 78, rfl⟩
abbrev main_v70 : Ref sig .tc := ⟨.hbm, 79, rfl⟩
abbrev main_v71 : Ref sig .tc := ⟨.hbm, 80, rfl⟩
abbrev main_v72 : Ref sig .tc := ⟨.hbm, 81, rfl⟩
abbrev main_v73 : Ref sig .tc := ⟨.hbm, 82, rfl⟩
abbrev main_v74 : Ref sig .tc := ⟨.hbm, 83, rfl⟩
abbrev main_v75 : Ref sig .tc := ⟨.hbm, 84, rfl⟩
abbrev main_v76 : Ref sig .tc := ⟨.hbm, 85, rfl⟩
abbrev main_v77 : Ref sig .tc := ⟨.hbm, 86, rfl⟩
abbrev main_v78 : Ref sig .tc := ⟨.hbm, 87, rfl⟩
abbrev main_v79 : Ref sig .tc := ⟨.hbm, 88, rfl⟩
abbrev main_v80 : Ref sig .tc := ⟨.hbm, 89, rfl⟩
abbrev main_v81 : Ref sig .tc := ⟨.hbm, 90, rfl⟩
abbrev main_v82 : Ref sig .tc := ⟨.hbm, 91, rfl⟩
abbrev main_v83 : Ref sig .tc := ⟨.hbm, 92, rfl⟩
abbrev main_v84 : Ref sig .tc := ⟨.hbm, 93, rfl⟩
abbrev main_v85 : Ref sig .tc := ⟨.hbm, 94, rfl⟩
abbrev main_v86 : Ref sig .tc := ⟨.hbm, 95, rfl⟩
abbrev main_v87 : Ref sig .tc := ⟨.hbm, 96, rfl⟩
abbrev main_v88 : Ref sig .tc := ⟨.hbm, 97, rfl⟩
abbrev main_v89 : Ref sig .tc := ⟨.hbm, 98, rfl⟩
abbrev main_v90 : Ref sig .tc := ⟨.hbm, 99, rfl⟩
abbrev main_v91 : Ref sig .tc := ⟨.hbm, 100, rfl⟩
abbrev main_v92 : Ref sig .tc := ⟨.hbm, 101, rfl⟩
abbrev main_v93 : Ref sig .tc := ⟨.hbm, 102, rfl⟩
abbrev main_v94 : Ref sig .tc := ⟨.hbm, 103, rfl⟩
abbrev main_v95 : Ref sig .tc := ⟨.hbm, 104, rfl⟩
abbrev main_v96 : Ref sig .tc := ⟨.hbm, 105, rfl⟩
abbrev main_v97 : Ref sig .tc := ⟨.hbm, 106, rfl⟩
abbrev main_v98 : Ref sig .tc := ⟨.hbm, 107, rfl⟩
abbrev main_v99 : Ref sig .tc := ⟨.hbm, 108, rfl⟩
abbrev main_v100 : Ref sig .tc := ⟨.hbm, 109, rfl⟩
abbrev main_v101 : Ref sig .tc := ⟨.hbm, 110, rfl⟩
abbrev main_v102 : Ref sig .tc := ⟨.hbm, 111, rfl⟩
abbrev main_v103 : Ref sig .tc := ⟨.hbm, 112, rfl⟩
abbrev main_v104 : Ref sig .tc := ⟨.hbm, 113, rfl⟩
abbrev main_v105 : Ref sig .tc := ⟨.hbm, 114, rfl⟩
abbrev main_v106 : Ref sig .tc := ⟨.hbm, 115, rfl⟩
abbrev main_v107 : Ref sig .tc := ⟨.hbm, 116, rfl⟩
abbrev main_v108 : Ref sig .tc := ⟨.hbm, 117, rfl⟩
abbrev main_v109 : Ref sig .tc := ⟨.hbm, 118, rfl⟩
abbrev main_v110 : Ref sig .tc := ⟨.hbm, 119, rfl⟩
abbrev main_v111 : Ref sig .tc := ⟨.hbm, 120, rfl⟩
abbrev main_v112 : Ref sig .tc := ⟨.hbm, 121, rfl⟩
abbrev main_v113 : Ref sig .tc := ⟨.hbm, 122, rfl⟩
abbrev main_v114 : Ref sig .tc := ⟨.hbm, 123, rfl⟩
abbrev main_v115 : Ref sig .tc := ⟨.hbm, 124, rfl⟩
abbrev main_v116 : Ref sig .tc := ⟨.hbm, 125, rfl⟩
abbrev main_v117 : Ref sig .tc := ⟨.hbm, 126, rfl⟩
abbrev main_v118 : Ref sig .tc := ⟨.hbm, 127, rfl⟩
abbrev main_v119 : Ref sig .tc := ⟨.hbm, 128, rfl⟩
abbrev main_v120 : Ref sig .tc := ⟨.hbm, 129, rfl⟩
abbrev main_v121 : Ref sig .tc := ⟨.hbm, 130, rfl⟩
abbrev main_v122 : Ref sig .tc := ⟨.hbm, 131, rfl⟩
abbrev main_v123 : Ref sig .tc := ⟨.hbm, 132, rfl⟩
abbrev main_v124 : Ref sig .tc := ⟨.hbm, 133, rfl⟩
abbrev main_v125 : Ref sig .tc := ⟨.hbm, 134, rfl⟩
abbrev main_v126 : Ref sig .tc := ⟨.hbm, 135, rfl⟩
abbrev main_v127 : Ref sig .tc := ⟨.hbm, 136, rfl⟩
abbrev main_v128 : Ref sig .tc := ⟨.hbm, 137, rfl⟩
abbrev main_v129 : Ref sig .tc := ⟨.hbm, 138, rfl⟩
abbrev main_v130 : Ref sig .tc := ⟨.hbm, 139, rfl⟩
abbrev main_v131 : Ref sig .tc := ⟨.hbm, 140, rfl⟩
abbrev main_v132 : Ref sig .tc := ⟨.hbm, 141, rfl⟩
abbrev main_v133 : Ref sig .tc := ⟨.hbm, 142, rfl⟩
abbrev main_v134 : Ref sig .tc := ⟨.hbm, 143, rfl⟩
abbrev main_v135 : Ref sig .tc := ⟨.hbm, 144, rfl⟩
abbrev main_v136 : Ref sig .tc := ⟨.hbm, 145, rfl⟩
abbrev main_v137 : Ref sig .tc := ⟨.hbm, 146, rfl⟩
abbrev main_v138 : Ref sig .tc := ⟨.hbm, 147, rfl⟩
abbrev main_v139 : Ref sig .tc := ⟨.hbm, 148, rfl⟩
abbrev main_v140 : Ref sig .tc := ⟨.hbm, 149, rfl⟩
abbrev main_v141 : Ref sig .tc := ⟨.hbm, 150, rfl⟩
abbrev main_v142 : Ref sig .tc := ⟨.hbm, 151, rfl⟩
abbrev main_v143 : Ref sig .tc := ⟨.hbm, 152, rfl⟩
abbrev main_v144 : Ref sig .tc := ⟨.hbm, 153, rfl⟩
abbrev main_v145 : Ref sig .tc := ⟨.hbm, 154, rfl⟩
abbrev main_v146 : Ref sig .tc := ⟨.hbm, 155, rfl⟩
abbrev main_v147 : Ref sig .tc := ⟨.hbm, 156, rfl⟩
abbrev main_v148 : Ref sig .tc := ⟨.hbm, 157, rfl⟩
abbrev main_v149 : Ref sig .tc := ⟨.hbm, 158, rfl⟩
abbrev main_v150 : Ref sig .tc := ⟨.hbm, 159, rfl⟩
abbrev main_v151 : Ref sig .tc := ⟨.hbm, 160, rfl⟩
abbrev main_v152 : Ref sig .tc := ⟨.hbm, 161, rfl⟩
abbrev main_v153 : Ref sig .tc := ⟨.hbm, 162, rfl⟩
abbrev main_v154 : Ref sig .tc := ⟨.hbm, 163, rfl⟩
abbrev main_v155 : Ref sig .tc := ⟨.hbm, 164, rfl⟩
abbrev main_v156 : Ref sig .tc := ⟨.hbm, 165, rfl⟩
abbrev main_v157 : Ref sig .tc := ⟨.hbm, 166, rfl⟩
abbrev main_v158 : Ref sig .tc := ⟨.hbm, 167, rfl⟩
abbrev main_v159 : Ref sig .tc := ⟨.hbm, 168, rfl⟩
abbrev main_v160 : Ref sig .tc := ⟨.hbm, 169, rfl⟩
abbrev main_v161 : Ref sig .tc := ⟨.hbm, 170, rfl⟩
abbrev main_v162 : Ref sig .tc := ⟨.hbm, 171, rfl⟩
abbrev main_v163 : Ref sig .tc := ⟨.hbm, 172, rfl⟩
abbrev main_v164 : Ref sig .tc := ⟨.hbm, 173, rfl⟩
abbrev main_v165 : Ref sig .tc := ⟨.hbm, 174, rfl⟩
abbrev main_v166 : Ref sig .tc := ⟨.hbm, 175, rfl⟩
abbrev main_v167 : Ref sig .tc := ⟨.hbm, 176, rfl⟩
abbrev main_v168 : Ref sig .tc := ⟨.hbm, 177, rfl⟩
abbrev main_v169 : Ref sig .tc := ⟨.hbm, 178, rfl⟩
abbrev main_v170 : Ref sig .tc := ⟨.hbm, 179, rfl⟩
abbrev main_v171 : Ref sig .tc := ⟨.hbm, 180, rfl⟩
abbrev main_v172 : Ref sig .tc := ⟨.hbm, 181, rfl⟩
abbrev main_v173 : Ref sig .tc := ⟨.hbm, 182, rfl⟩
abbrev main_v174 : Ref sig .tc := ⟨.hbm, 183, rfl⟩
abbrev main_v175 : Ref sig .tc := ⟨.hbm, 184, rfl⟩
abbrev main_v176 : Ref sig .tc := ⟨.hbm, 185, rfl⟩
abbrev main_v177 : Ref sig .tc := ⟨.hbm, 186, rfl⟩
abbrev main_v178 : Ref sig .tc := ⟨.hbm, 187, rfl⟩
abbrev main_v179 : Ref sig .tc := ⟨.hbm, 188, rfl⟩
abbrev main_v180 : Ref sig .tc := ⟨.hbm, 189, rfl⟩
abbrev main_v181 : Ref sig .tc := ⟨.hbm, 190, rfl⟩
abbrev main_v182 : Ref sig .tc := ⟨.hbm, 191, rfl⟩
abbrev main_v183 : Ref sig .tc := ⟨.hbm, 192, rfl⟩
abbrev main_v184 : Ref sig .tc := ⟨.hbm, 193, rfl⟩
abbrev main_v185 : Ref sig .tc := ⟨.hbm, 194, rfl⟩
abbrev main_v186 : Ref sig .tc := ⟨.hbm, 195, rfl⟩
abbrev main_v187 : Ref sig .tc := ⟨.hbm, 196, rfl⟩
abbrev main_v188 : Ref sig .tc := ⟨.hbm, 197, rfl⟩
abbrev main_v189 : Ref sig .tc := ⟨.hbm, 198, rfl⟩
abbrev main_v190 : Ref sig .tc := ⟨.hbm, 199, rfl⟩
abbrev main_v191 : Ref sig .tc := ⟨.hbm, 200, rfl⟩
abbrev main_v192 : Ref sig .tc := ⟨.hbm, 201, rfl⟩
abbrev main_v193 : Ref sig .tc := ⟨.hbm, 202, rfl⟩
abbrev main_v194 : Ref sig .tc := ⟨.hbm, 203, rfl⟩
abbrev main_v195 : Ref sig .tc := ⟨.hbm, 204, rfl⟩
abbrev main_v196 : Ref sig .tc := ⟨.hbm, 205, rfl⟩
abbrev main_v197 : Ref sig .tc := ⟨.hbm, 206, rfl⟩
abbrev main_v198 : Ref sig .tc := ⟨.hbm, 207, rfl⟩
abbrev main_v199 : Ref sig .tc := ⟨.hbm, 208, rfl⟩
abbrev main_v200 : Ref sig .tc := ⟨.hbm, 209, rfl⟩
abbrev main_v201 : Ref sig .tc := ⟨.hbm, 210, rfl⟩
abbrev main_v202 : Ref sig .tc := ⟨.hbm, 211, rfl⟩
abbrev main_v203 : Ref sig .tc := ⟨.hbm, 212, rfl⟩
abbrev main_v204 : Ref sig .tc := ⟨.hbm, 213, rfl⟩
abbrev main_v205 : Ref sig .tc := ⟨.hbm, 214, rfl⟩
abbrev main_v206 : Ref sig .tc := ⟨.hbm, 215, rfl⟩
abbrev main_v207 : Ref sig .tc := ⟨.hbm, 216, rfl⟩
abbrev main_v208 : Ref sig .tc := ⟨.hbm, 217, rfl⟩
abbrev main_v209 : Ref sig .tc := ⟨.hbm, 218, rfl⟩
abbrev main_v210 : Ref sig .tc := ⟨.hbm, 219, rfl⟩
abbrev main_v211 : Ref sig .tc := ⟨.hbm, 220, rfl⟩
abbrev main_v212 : Ref sig .tc := ⟨.hbm, 221, rfl⟩
abbrev main_v213 : Ref sig .tc := ⟨.hbm, 222, rfl⟩
abbrev main_v214 : Ref sig .tc := ⟨.hbm, 223, rfl⟩
abbrev main_v215 : Ref sig .tc := ⟨.hbm, 224, rfl⟩
abbrev main_v216 : Ref sig .tc := ⟨.hbm, 225, rfl⟩
abbrev main_v217 : Ref sig .tc := ⟨.hbm, 226, rfl⟩
abbrev main_v218 : Ref sig .tc := ⟨.hbm, 227, rfl⟩
abbrev main_v219 : Ref sig .tc := ⟨.hbm, 228, rfl⟩
abbrev main_v220 : Ref sig .tc := ⟨.hbm, 229, rfl⟩
abbrev main_v221 : Ref sig .tc := ⟨.hbm, 230, rfl⟩
abbrev main_v222 : Ref sig .tc := ⟨.hbm, 231, rfl⟩
abbrev main_v223 : Ref sig .tc := ⟨.hbm, 232, rfl⟩
abbrev main_cst_3 : Ref sig .tc := ⟨.hbm, 233, rfl⟩
abbrev main_v224 : Ref sig .tc := ⟨.hbm, 234, rfl⟩
abbrev main_v225 : Ref sig .tc := ⟨.hbm, 235, rfl⟩
abbrev main_v226 : Ref sig .tc := ⟨.hbm, 236, rfl⟩
abbrev main_v227_0 : Ref sig .tc := ⟨.hbm, 237, rfl⟩
abbrev main_v227_1 : Ref sig .tc := ⟨.hbm, 238, rfl⟩
abbrev main_v227_2 : Ref sig .tc := ⟨.hbm, 239, rfl⟩
abbrev main_v227_3 : Ref sig .tc := ⟨.hbm, 240, rfl⟩
abbrev main_v227_4 : Ref sig .tc := ⟨.hbm, 241, rfl⟩
abbrev main_v227_5 : Ref sig .tc := ⟨.hbm, 242, rfl⟩
abbrev main_v227_6 : Ref sig .tc := ⟨.hbm, 243, rfl⟩
abbrev main_v228 : Ref sig .tc := ⟨.hbm, 244, rfl⟩
abbrev main_cst_4 : Ref sig .tc := ⟨.hbm, 245, rfl⟩
abbrev main_v229 : Ref sig .tc := ⟨.hbm, 246, rfl⟩
abbrev main_v230 : Ref sig .tc := ⟨.hbm, 247, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_stg15_0 : Ref sig .tc := ⟨.vmem, 28, rfl⟩
abbrev cc0_stg15_1 : Ref sig .tc := ⟨.vmem, 29, rfl⟩
abbrev cc0_stg16_0 : Ref sig .tc := ⟨.vmem, 30, rfl⟩
abbrev cc0_stg16_1 : Ref sig .tc := ⟨.vmem, 31, rfl⟩
abbrev cc0_stg17_0 : Ref sig .tc := ⟨.vmem, 32, rfl⟩
abbrev cc0_scratch0 : Ref sig .tc := ⟨.vmem, 33, rfl⟩
abbrev cc0_scratch1 : Ref sig .tc := ⟨.vmem, 34, rfl⟩
abbrev cc0_scratch2 : Ref sig .tc := ⟨.vmem, 35, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25
abbrev cc0_sem13_1 : DmaSem sig := 26
abbrev cc0_sem14_0 : DmaSem sig := 27
abbrev cc0_sem14_1 : DmaSem sig := 28
abbrev cc0_sem15_0 : DmaSem sig := 29
abbrev cc0_sem15_1 : DmaSem sig := 30
abbrev cc0_sem16_0 : DmaSem sig := 31
abbrev cc0_sem16_1 : DmaSem sig := 32
abbrev cc0_sem17_0 : DmaSem sig := 33

abbrev nD : Nat := 1
abbrev τ : Topo := Topo.v7x

variable {F : FTy → Type} [FloatOps F]

abbrev grid0 : Pipeline.Grid := ⟨1, ![34], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c33_i32 : BitVec 32 := 33#32
  let v0 : BitVec 32 := Scalar.subi c33_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c33_i32 : BitVec 32 := 33#32
  let v0 : BitVec 32 := Scalar.subi c33_i32 arg0
  let c1_i32 : BitVec 32 := 1#32
  let c0_i32 : BitVec 32 := 0#32
  ![v0.toNat, c1_i32.toNat]

def cc0_transform_3 (i : grid0.Coords) : Fin 2 → Nat :=
  let arg0 : BitVec 32 := BitVec.ofNat 32 (i 0).val
  let c33_i32 : BitVec 32 := 33#32
  let v0 : BitVec 32 := Scalar.subi c33_i32 arg0
  let c2_i32 : BitVec 32 := 2#32
  let c0_i32 : BitVec 32 := 0#32
  ![v0.toNat, c2_i32.toNat]

def cc0_transform_4 (i : grid0.Coords) : Fin 2 → Nat :=
  let arg0 : BitVec 32 := BitVec.ofNat 32 (i 0).val
  let c33_i32 : BitVec 32 := 33#32
  let v0 : BitVec 32 := Scalar.subi c33_i32 arg0
  let c2_i32 : BitVec 32 := 2#32
  let v1 : BitVec 1 := Scalar.cmpi .slt v0 c2_i32
  let c1_i32 : BitVec 32 := 1#32
  let v2 : BitVec 32 := Scalar.subi c1_i32 v0
  let c2_i32_0 : BitVec 32 := 2#32
  let v3 : BitVec 32 := Scalar.subi v0 c2_i32_0
  let c33_i32_1 : BitVec 32 := 33#32
  let v4 : BitVec 32 := Scalar.subi c33_i32_1 v3
  let v5 : BitVec 32 := Scalar.select v1 v2 v4
  let c0_i32 : BitVec 32 := 0#32
  let c0_i32_2 : BitVec 32 := 0#32
  ![v5.toNat, c0_i32.toNat]

def cc0_transform_5 (i : grid0.Coords) : Fin 2 → Nat :=
  let arg0 : BitVec 32 := BitVec.ofNat 32 (i 0).val
  let c33_i32 : BitVec 32 := 33#32
  let v0 : BitVec 32 := Scalar.subi c33_i32 arg0
  let c2_i32 : BitVec 32 := 2#32
  let v1 : BitVec 1 := Scalar.cmpi .slt v0 c2_i32
  let c1_i32 : BitVec 32 := 1#32
  let v2 : BitVec 32 := Scalar.subi c1_i32 v0
  let c2_i32_0 : BitVec 32 := 2#32
  let v3 : BitVec 32 := Scalar.subi v0 c2_i32_0
  let c33_i32_1 : BitVec 32 := 33#32
  let v4 : BitVec 32 := Scalar.subi c33_i32_1 v3
  let v5 : BitVec 32 := Scalar.select v1 v2 v4
  let c1_i32_2 : BitVec 32 := 1#32
  let c0_i32 : BitVec 32 := 0#32
  ![v5.toNat, c1_i32_2.toNat]

def cc0_transform_6 (i : grid0.Coords) : Fin 2 → Nat :=
  let arg0 : BitVec 32 := BitVec.ofNat 32 (i 0).val
  let c33_i32 : BitVec 32 := 33#32
  let v0 : BitVec 32 := Scalar.subi c33_i32 arg0
  let c2_i32 : BitVec 32 := 2#32
  let v1 : BitVec 1 := Scalar.cmpi .slt v0 c2_i32
  let c1_i32 : BitVec 32 := 1#32
  let v2 : BitVec 32 := Scalar.subi c1_i32 v0
  let c2_i32_0 : BitVec 32 := 2#32
  let v3 : BitVec 32 := Scalar.subi v0 c2_i32_0
  let c33_i32_1 : BitVec 32 := 33#32
  let v4 : BitVec 32 := Scalar.subi c33_i32_1 v3
  let v5 : BitVec 32 := Scalar.select v1 v2 v4
  let c2_i32_2 : BitVec 32 := 2#32
  let c0_i32 : BitVec 32 := 0#32
  ![v5.toNat, c2_i32_2.toNat]

def cc0_transform_7 (i : grid0.Coords) : Fin 2 → Nat :=
  let arg0 : BitVec 32 := BitVec.ofNat 32 (i 0).val
  let c33_i32 : BitVec 32 := 33#32
  let v0 : BitVec 32 := Scalar.subi c33_i32 arg0
  let c0_i32 : BitVec 32 := 0#32
  let c0_i32_0 : BitVec 32 := 0#32
  ![v0.toNat, c0_i32.toNat]

def cc0_transform_8 (i : grid0.Coords) : Fin 2 → Nat :=
  let arg0 : BitVec 32 := BitVec.ofNat 32 (i 0).val
  let c33_i32 : BitVec 32 := 33#32
  let v0 : BitVec 32 := Scalar.subi c33_i32 arg0
  let c2_i32 : BitVec 32 := 2#32
  let v1 : BitVec 1 := Scalar.cmpi .slt v0 c2_i32
  let c1_i32 : BitVec 32 := 1#32
  let v2 : BitVec 32 := Scalar.subi c1_i32 v0
  let c2_i32_0 : BitVec 32 := 2#32
  let v3 : BitVec 32 := Scalar.subi v0 c2_i32_0
  let c33_i32_1 : BitVec 32 := 33#32
  let v4 : BitVec 32 := Scalar.subi c33_i32_1 v3
  let v5 : BitVec 32 := Scalar.select v1 v2 v4
  let c0_i32 : BitVec 32 := 0#32
  let c0_i32_2 : BitVec 32 := 0#32
  ![v5.toNat, c0_i32.toNat]

def cc0_transform_9 (i : grid0.Coords) : Fin 4 → Nat :=
  let arg0 : BitVec 32 := BitVec.ofNat 32 (i 0).val
  let c33_i32 : BitVec 32 := 33#32
  let v0 : BitVec 32 := Scalar.subi c33_i32 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_10 (i : grid0.Coords) : Fin 4 → Nat :=
  let arg0 : BitVec 32 := BitVec.ofNat 32 (i 0).val
  let c33_i32 : BitVec 32 := 33#32
  let v0 : BitVec 32 := Scalar.subi c33_i32 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_11 (i : grid0.Coords) : Fin 2 → Nat :=
  let arg0 : BitVec 32 := BitVec.ofNat 32 (i 0).val
  let c33_i32 : BitVec 32 := 33#32
  let v0 : BitVec 32 := Scalar.subi c33_i32 arg0
  let c0_i32 : BitVec 32 := 0#32
  let c0_i32_0 : BitVec 32 := 0#32
  ![v0.toNat, c0_i32.toNat]

def cc0_transform_12 (i : grid0.Coords) : Fin 2 → Nat :=
  let arg0 : BitVec 32 := BitVec.ofNat 32 (i 0).val
  let c33_i32 : BitVec 32 := 33#32
  let v0 : BitVec 32 := Scalar.subi c33_i32 arg0
  let c0_i32 : BitVec 32 := 0#32
  let c0_i32_0 : BitVec 32 := 0#32
  ![v0.toNat, c0_i32.toNat]

def cc0_transform_13 (i : grid0.Coords) : Fin 2 → Nat :=
  let arg0 : BitVec 32 := BitVec.ofNat 32 (i 0).val
  let c33_i32 : BitVec 32 := 33#32
  let v0 : BitVec 32 := Scalar.subi c33_i32 arg0
  let c0_i32 : BitVec 32 := 0#32
  let c0_i32_0 : BitVec 32 := 0#32
  ![v0.toNat, c0_i32.toNat]

def cc0_transform_14 (i : grid0.Coords) : Fin 2 → Nat :=
  let arg0 : BitVec 32 := BitVec.ofNat 32 (i 0).val
  let c33_i32 : BitVec 32 := 33#32
  let v0 : BitVec 32 := Scalar.subi c33_i32 arg0
  let c2_i32 : BitVec 32 := 2#32
  let v1 : BitVec 1 := Scalar.cmpi .slt v0 c2_i32
  let c1_i32 : BitVec 32 := 1#32
  let v2 : BitVec 32 := Scalar.subi c1_i32 v0
  let c2_i32_0 : BitVec 32 := 2#32
  let v3 : BitVec 32 := Scalar.subi v0 c2_i32_0
  let c33_i32_1 : BitVec 32 := 33#32
  let v4 : BitVec 32 := Scalar.subi c33_i32_1 v3
  let v5 : BitVec 32 := Scalar.select v1 v2 v4
  let c0_i32 : BitVec 32 := 0#32
  let c0_i32_2 : BitVec 32 := 0#32
  ![v5.toNat, c0_i32.toNat]

def cc0_transform_15 (i : grid0.Coords) : Fin 2 → Nat :=
  let arg0 : BitVec 32 := BitVec.ofNat 32 (i 0).val
  let c33_i32 : BitVec 32 := 33#32
  let v0 : BitVec 32 := Scalar.subi c33_i32 arg0
  let c2_i32 : BitVec 32 := 2#32
  let v1 : BitVec 1 := Scalar.cmpi .slt v0 c2_i32
  let c1_i32 : BitVec 32 := 1#32
  let v2 : BitVec 32 := Scalar.subi c1_i32 v0
  let c2_i32_0 : BitVec 32 := 2#32
  let v3 : BitVec 32 := Scalar.subi v0 c2_i32_0
  let c33_i32_1 : BitVec 32 := 33#32
  let v4 : BitVec 32 := Scalar.subi c33_i32_1 v3
  let v5 : BitVec 32 := Scalar.select v1 v2 v4
  let c0_i32 : BitVec 32 := 0#32
  let c0_i32_2 : BitVec 32 := 0#32
  ![v5.toNat, c0_i32.toNat]

def cc0_transform_16 (i : grid0.Coords) : Fin 2 → Nat :=
  let arg0 : BitVec 32 := BitVec.ofNat 32 (i 0).val
  let c33_i32 : BitVec 32 := 33#32
  let v0 : BitVec 32 := Scalar.subi c33_i32 arg0
  let c2_i32 : BitVec 32 := 2#32
  let v1 : BitVec 1 := Scalar.cmpi .slt v0 c2_i32
  let c1_i32 : BitVec 32 := 1#32
  let v2 : BitVec 32 := Scalar.subi c1_i32 v0
  let c2_i32_0 : BitVec 32 := 2#32
  let v3 : BitVec 32 := Scalar.subi v0 c2_i32_0
  let c33_i32_1 : BitVec 32 := 33#32
  let v4 : BitVec 32 := Scalar.subi c33_i32_1 v3
  let v5 : BitVec 32 := Scalar.select v1 v2 v4
  let c0_i32 : BitVec 32 := 0#32
  let c0_i32_2 : BitVec 32 := 0#32
  ![v5.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S2x4 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S128x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x4x128x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x4x128x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S128x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S128x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S128x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S128x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S128x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S128x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 1 → Memref sig .tc .vmem S8x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]
-- ==== Reference2Ideal.lean ====
abbrev S4352x512 : Shape := ⟨2, ![4352, 512]⟩
abbrev S2x4 : Shape := ⟨2, ![2, 4]⟩
abbrev S4096x512 : Shape := ⟨2, ![4096, 512]⟩
abbrev S1x4 : Shape := ⟨2, ![1, 4]⟩
abbrev S4 : Shape := ⟨1, ![4]⟩
abbrev S4352x4x128 : Shape := ⟨3, ![4352, 4, 128]⟩
abbrev S256x4x128 : Shape := ⟨3, ![256, 4, 128]⟩
abbrev S256 : Shape := ⟨1, ![256]⟩
abbrev S_ : Shape := ⟨0, ![]⟩
abbrev S4x1 : Shape := ⟨2, ![4, 1]⟩
abbrev S1x256 : Shape := ⟨2, ![1, 256]⟩
abbrev S4x256 : Shape := ⟨2, ![4, 256]⟩
abbrev S256x4 : Shape := ⟨2, ![256, 4]⟩
abbrev S256x4x1 : Shape := ⟨3, ![256, 4, 1]⟩
abbrev S4x128x128 : Shape := ⟨3, ![4, 128, 128]⟩
abbrev S4096x4x128 : Shape := ⟨3, ![4096, 4, 128]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S4x1x1 : Shape := ⟨3, ![4, 1, 1]⟩
abbrev S1x4096x4096 : Shape := ⟨3, ![1, 4096, 4096]⟩
abbrev S4x4096x4096 : Shape := ⟨3, ![4, 4096, 4096]⟩
abbrev S4x128x4096 : Shape := ⟨3, ![4, 128, 4096]⟩
abbrev S4x4096 : Shape := ⟨2, ![4, 4096]⟩
abbrev S4096x4 : Shape := ⟨2, ![4096, 4]⟩
abbrev S4096x4x1 : Shape := ⟨3, ![4096, 4, 1]⟩
abbrev S4x4096x128 : Shape := ⟨3, ![4, 4096, 128]⟩
abbrev S4x128x256 : Shape := ⟨3, ![4, 128, 256]⟩

abbrev nBuf : Space → Nat
  | .hbm => 327
  | .vmem => 0
  | .smem => 0
  | _ => 0

abbrev hbmTy0_0 (i : Nat) : BufTy := match i % 128 with
  | 0 => ⟨S4352x512, .f32⟩
  | 1 => ⟨S4352x512, .f32⟩
  | 2 => ⟨S4352x512, .f32⟩
  | 3 => ⟨S2x4, .f32⟩
  | 4 => ⟨S4096x512, .f32⟩
  | 5 => ⟨S1x4, .f32⟩
  | 6 => ⟨S4, .f32⟩
  | 7 => ⟨S4352x4x128, .f32⟩
  | 8 => ⟨S4352x4x128, .f32⟩
  | 9 => ⟨S4352x4x128, .f32⟩
  | 10 => ⟨S256x4x128, .f32⟩
  | 11 => ⟨S256x4x128, .f32⟩
  | 12 => ⟨S256, .f32⟩
  | 13 => ⟨S_, .f32⟩
  | 14 => ⟨S256, .f32⟩
  | 15 => ⟨S256, .f32⟩
  | 16 => ⟨S4x1, .f32⟩
  | 17 => ⟨S1x256, .f32⟩
  | 18 => ⟨S4x256, .f32⟩
  | 19 => ⟨S4x256, .f32⟩
  | 20 => ⟨S4x256, .f32⟩
  | 21 => ⟨S4x256, .f32⟩
  | 22 => ⟨S256x4, .f32⟩
  | 23 => ⟨S256x4x1, .f32⟩
  | 24 => ⟨S256x4x128, .f32⟩
  | 25 => ⟨S256x4x128, .f32⟩
  | 26 => ⟨S4x128x128, .f32⟩
  | 27 => ⟨S4096x4x128, .f32⟩
  | 28 => ⟨S4096x4x128, .f32⟩
  | 29 => ⟨S4096x4x128, .f32⟩
  | 30 => ⟨S4096, .f32⟩
  | 31 => ⟨S4x1, .f32⟩
  | 32 => ⟨S4096x1, .f32⟩
  | 33 => ⟨S1x4096, .f32⟩
  | 34 => ⟨S4096x4096, .f32⟩
  | 35 => ⟨S4096x4096, .f32⟩
  | 36 => ⟨S4096x4096, .f32⟩
  | 37 => ⟨S_, .f32⟩
  | 38 => ⟨S4096x4096, .f32⟩
  | 39 => ⟨S4096x4096, .i1⟩
  | 40 => ⟨S4x1x1, .f32⟩
  | 41 => ⟨S_, .f32⟩
  | 42 => ⟨S4096x4096, .f32⟩
  | 43 => ⟨S4096x4096, .f32⟩
  | 44 => ⟨S1x4096x4096, .f32⟩
  | 45 => ⟨S4x4096x4096, .f32⟩
  | 46 => ⟨S4x4096x4096, .f32⟩
  | 47 => ⟨S4x4096x4096, .f32⟩
  | 48 => ⟨S4x4096x4096, .f32⟩
  | 49 => ⟨S_, .f32⟩
  | 50 => ⟨S_, .f32⟩
  | 51 => ⟨S4x4096x4096, .i1⟩
  | 52 => ⟨S4x4096x4096, .f32⟩
  | 53 => ⟨S4x4096x4096, .f32⟩
  | 54 => ⟨S_, .f32⟩
  | 55 => ⟨S4x4096x4096, .f32⟩
  | 56 => ⟨S4x4096x4096, .f32⟩
  | 57 => ⟨S4x4096x4096, .f32⟩
  | 58 => ⟨S4x128x4096, .f32⟩
  | 59 => ⟨S4096x4x128, .f32⟩
  | 60 => ⟨S_, .f32⟩
  | 61 => ⟨S4096, .f32⟩
  | 62 => ⟨S4096, .f32⟩
  | 63 => ⟨S1x4096, .f32⟩
  | 64 => ⟨S4x4096, .f32⟩
  | 65 => ⟨S4x4096, .f32⟩
  | 66 => ⟨S4x4096, .f32⟩
  | 67 => ⟨S4x4096, .f32⟩
  | 68 => ⟨S4096x4, .f32⟩
  | 69 => ⟨S4096x4x1, .f32⟩
  | 70 => ⟨S4096x4x128, .f32⟩
  | 71 => ⟨S4096x4x128, .f32⟩
  | 72 => ⟨S4x128x4096, .f32⟩
  | 73 => ⟨S4096x4x128, .f32⟩
  | 74 => ⟨S4096x4x128, .f32⟩
  | 75 => ⟨S4096x4x128, .f32⟩
  | 76 => ⟨S4x128x4096, .f32⟩
  | 77 => ⟨S4x4096x128, .f32⟩
  | 78 => ⟨S4096x4x128, .f32⟩
  | 79 => ⟨S4x128x128, .f32⟩
  | 80 => ⟨S4x128x128, .f32⟩
  | 81 => ⟨S4096x4x128, .f32⟩
  | 82 => ⟨S_, .f32⟩
  | 83 => ⟨S4096x4, .f32⟩
  | 84 => ⟨S4096x4x1, .f32⟩
  | 85 => ⟨S4096x4x128, .f32⟩
  | 86 => ⟨S4096x4x128, .f32⟩
  | 87 => ⟨S_, .f32⟩
  | 88 => ⟨S4096x4, .f32⟩
  | 89 => ⟨S4x4096, .f32⟩
  | 90 => ⟨S4x4096, .f32⟩
  | 91 => ⟨S4x4096, .f32⟩
  | 92 => ⟨S4x4096, .f32⟩
  | 93 => ⟨S_, .f32⟩
  | 94 => ⟨S4, .f32⟩
  | 95 => ⟨S4x1, .f32⟩
  | 96 => ⟨S4x128x4096, .f32⟩
  | 97 => ⟨S4x4096x4096, .f32⟩
  | 98 => ⟨S4x128x4096, .f32⟩
  | 99 => ⟨S4096x4x128, .f32⟩
  | 100 => ⟨S4x4096x4096, .f32⟩
  | 101 => ⟨S4x4096x4096, .f32⟩
  | 102 => ⟨S4x4096x128, .f32⟩
  | 103 => ⟨S4096x4x128, .f32⟩
  | 104 => ⟨S4x4096x128, .f32⟩
  | 105 => ⟨S4096x4x128, .f32⟩
  | 106 => ⟨S4096x4x128, .f32⟩
  | 107 => ⟨S_, .f32⟩
  | 108 => ⟨S4x4096x4096, .f32⟩
  | 109 => ⟨S4x4096x4096, .f32⟩
  | 110 => ⟨S4x4096x4096, .f32⟩
  | 111 => ⟨S4x4096x4096, .f32⟩
  | 112 => ⟨S4x4096x4096, .f32⟩
  | 113 => ⟨S_, .f32⟩
  | 114 => ⟨S4, .f32⟩
  | 115 => ⟨S4x1x1, .f32⟩
  | 116 => ⟨S_, .f32⟩
  | 117 => ⟨S4, .f32⟩
  | 118 => ⟨S4x1, .f32⟩
  | 119 => ⟨S4x1, .f32⟩
  | 120 => ⟨S_, .f32⟩
  | 121 => ⟨S4, .f32⟩
  | 122 => ⟨S_, .f32⟩
  | 123 => ⟨S4352x4x128, .f32⟩
  | 124 => ⟨S_, .f32⟩
  | 125 => ⟨S4352x4x128, .f32⟩
  | 126 => ⟨S_, .f32⟩
  | 127 => ⟨S4352x4x128, .f32⟩
  | _ => ⟨S4352x512, .f32⟩

abbrev hbmTy0_1 (i : Nat) : BufTy := match i % 128 with
  | 0 => ⟨S4x128x256, .f32⟩
  | 1 => ⟨S256x4x128, .f32⟩
  | 2 => ⟨S4x128x256, .f32⟩
  | 3 => ⟨S256x4x128, .f32⟩
  | 4 => ⟨S256x4x128, .f32⟩
  | 5 => ⟨S_, .f32⟩
  | 6 => ⟨S256x4, .f32⟩
  | 7 => ⟨S256x4x1, .f32⟩
  | 8 => ⟨S256x4x128, .f32⟩
  | 9 => ⟨S256x4x128, .f32⟩
  | 10 => ⟨S_, .f32⟩
  | 11 => ⟨S256x4, .f32⟩
  | 12 => ⟨S4x256, .f32⟩
  | 13 => ⟨S4x256, .f32⟩
  | 14 => ⟨S4x256, .f32⟩
  | 15 => ⟨S4x256, .f32⟩
  | 16 => ⟨S_, .f32⟩
  | 17 => ⟨S4, .f32⟩
  | 18 => ⟨S4x1, .f32⟩
  | 19 => ⟨S_, .f32⟩
  | 20 => ⟨S4, .f32⟩
  | 21 => ⟨S4, .f32⟩
  | 22 => ⟨S_, .f32⟩
  | 23 => ⟨S4352x4x128, .f32⟩
  | 24 => ⟨S4352x4x128, .f32⟩
  | 25 => ⟨S_, .f32⟩
  | 26 => ⟨S4352x4x128, .f32⟩
  | 27 => ⟨S4352x4x128, .f32⟩
  | 28 => ⟨S4352x512, .f32⟩
  | 29 => ⟨S4352x512, .f32⟩
  | 30 => ⟨S4352x512, .f32⟩
  | 31 => ⟨S1x4, .f32⟩
  | 32 => ⟨S4, .f32⟩
  | 33 => ⟨S4352x4x128, .f32⟩
  | 34 => ⟨S4352x4x128, .f32⟩
  | 35 => ⟨S4352x4x128, .f32⟩
  | 36 => ⟨S256x4x128, .f32⟩
  | 37 => ⟨S256x4x128, .f32⟩
  | 38 => ⟨S256, .f32⟩
  | 39 => ⟨S4x1, .f32⟩
  | 40 => ⟨S1x256, .f32⟩
  | 41 => ⟨S4x256, .f32⟩
  | 42 => ⟨S4x256, .f32⟩
  | 43 => ⟨S4x256, .f32⟩
  | 44 => ⟨S4x256, .f32⟩
  | 45 => ⟨S256x4, .f32⟩
  | 46 => ⟨S256x4x1, .f32⟩
  | 47 => ⟨S256x4x128, .f32⟩
  | 48 => ⟨S256x4x128, .f32⟩
  | 49 => ⟨S4x128x128, .f32⟩
  | 50 => ⟨S4096x4x128, .f32⟩
  | 51 => ⟨S4096x4x128, .f32⟩
  | 52 => ⟨S4096x4x128, .f32⟩
  | 53 => ⟨S4096x4x128, .f32⟩
  | 54 => ⟨S4096x4x128, .f32⟩
  | 55 => ⟨S4096x4x128, .f32⟩
  | 56 => ⟨S4096, .f32⟩
  | 57 => ⟨S4x1, .f32⟩
  | 58 => ⟨S4096x1, .f32⟩
  | 59 => ⟨S1x4096, .f32⟩
  | 60 => ⟨S4096x4096, .f32⟩
  | 61 => ⟨S4096x4096, .f32⟩
  | 62 => ⟨S4096x4096, .f32⟩
  | 63 => ⟨S_, .f32⟩
  | 64 => ⟨S4096x4096, .f32⟩
  | 65 => ⟨S4096x4096, .i1⟩
  | 66 => ⟨S4x1x1, .f32⟩
  | 67 => ⟨S_, .f32⟩
  | 68 => ⟨S4096x4096, .f32⟩
  | 69 => ⟨S4096x4096, .f32⟩
  | 70 => ⟨S1x4096x4096, .f32⟩
  | 71 => ⟨S4x4096x4096, .f32⟩
  | 72 => ⟨S4x4096x4096, .f32⟩
  | 73 => ⟨S4x4096x4096, .f32⟩
  | 74 => ⟨S4x4096x4096, .f32⟩
  | 75 => ⟨S_, .f32⟩
  | 76 => ⟨S_, .f32⟩
  | 77 => ⟨S4x4096x4096, .i1⟩
  | 78 => ⟨S4x4096x4096, .f32⟩
  | 79 => ⟨S4x4096x4096, .f32⟩
  | 80 => ⟨S_, .f32⟩
  | 81 => ⟨S4x4096x4096, .f32⟩
  | 82 => ⟨S4x4096x4096, .f32⟩
  | 83 => ⟨S4x4096x4096, .f32⟩
  | 84 => ⟨S4x128x4096, .f32⟩
  | 85 => ⟨S4096x4x128, .f32⟩
  | 86 => ⟨S_, .f32⟩
  | 87 => ⟨S4096, .f32⟩
  | 88 => ⟨S4096, .f32⟩
  | 89 => ⟨S1x4096, .f32⟩
  | 90 => ⟨S4x4096, .f32⟩
  | 91 => ⟨S4x4096, .f32⟩
  | 92 => ⟨S4x4096, .f32⟩
  | 93 => ⟨S4x4096, .f32⟩
  | 94 => ⟨S4096x4, .f32⟩
  | 95 => ⟨S4096x4x1, .f32⟩
  | 96 => ⟨S4096x4x128, .f32⟩
  | 97 => ⟨S4096x4x128, .f32⟩
  | 98 => ⟨S4x128x4096, .f32⟩
  | 99 => ⟨S4096x4x128, .f32⟩
  | 100 => ⟨S4096x4x128, .f32⟩
  | 101 => ⟨S4096x4x128, .f32⟩
  | 102 => ⟨S4096x4x128, .f32⟩
  | 103 => ⟨S4096x4x128, .f32⟩
  | 104 => ⟨S4x128x4096, .f32⟩
  | 105 => ⟨S4x4096x128, .f32⟩
  | 106 => ⟨S4096x4x128, .f32⟩
  | 107 => ⟨S4x128x128, .f32⟩
  | 108 => ⟨S4x128x128, .f32⟩
  | 109 => ⟨S4096x4x128, .f32⟩
  | 110 => ⟨S_, .f32⟩
  | 111 => ⟨S4096x4, .f32⟩
  | 112 => ⟨S4096x4x1, .f32⟩
  | 113 => ⟨S4096x4x128, .f32⟩
  | 114 => ⟨S4096x4x128, .f32⟩
  | 115 => ⟨S_, .f32⟩
  | 116 => ⟨S4096x4, .f32⟩
  | 117 => ⟨S4x4096, .f32⟩
  | 118 => ⟨S4x4096, .f32⟩
  | 119 => ⟨S4x4096, .f32⟩
  | 120 => ⟨S4x4096, .f32⟩
  | 121 => ⟨S_, .f32⟩
  | 122 => ⟨S4, .f32⟩
  | 123 => ⟨S4x1, .f32⟩
  | 124 => ⟨S4x128x4096, .f32⟩
  | 125 => ⟨S4x4096x4096, .f32⟩
  | 126 => ⟨S4x128x4096, .f32⟩
  | 127 => ⟨S4096x4x128, .f32⟩
  | _ => ⟨S4352x512, .f32⟩

abbrev hbmTy0_2 (i : Nat) : BufTy := match i % 128 with
  | 0 => ⟨S4x4096x4096, .f32⟩
  | 1 => ⟨S4x4096x4096, .f32⟩
  | 2 => ⟨S4x4096x128, .f32⟩
  | 3 => ⟨S4096x4x128, .f32⟩
  | 4 => ⟨S4x4096x128, .f32⟩
  | 5 => ⟨S4096x4x128, .f32⟩
  | 6 => ⟨S4096x4x128, .f32⟩
  | 7 => ⟨S_, .f32⟩
  | 8 => ⟨S4x4096x4096, .f32⟩
  | 9 => ⟨S4x4096x4096, .f32⟩
  | 10 => ⟨S4x4096x4096, .f32⟩
  | 11 => ⟨S4x4096x4096, .f32⟩
  | 12 => ⟨S4x4096x4096, .f32⟩
  | 13 => ⟨S_, .f32⟩
  | 14 => ⟨S4, .f32⟩
  | 15 => ⟨S4x1x1, .f32⟩
  | 16 => ⟨S_, .f32⟩
  | 17 => ⟨S4, .f32⟩
  | 18 => ⟨S4x1, .f32⟩
  | 19 => ⟨S4x1, .f32⟩
  | 20 => ⟨S_, .f32⟩
  | 21 => ⟨S4, .f32⟩
  | 22 => ⟨S4096x4x128, .f32⟩
  | 23 => ⟨S4096x4x128, .f32⟩
  | 24 => ⟨S4096x4x128, .f32⟩
  | 25 => ⟨S_, .f32⟩
  | 26 => ⟨S4352x4x128, .f32⟩
  | 27 => ⟨S_, .f32⟩
  | 28 => ⟨S4352x4x128, .f32⟩
  | 29 => ⟨S_, .f32⟩
  | 30 => ⟨S4352x4x128, .f32⟩
  | 31 => ⟨S4x128x256, .f32⟩
  | 32 => ⟨S256x4x128, .f32⟩
  | 33 => ⟨S4x128x256, .f32⟩
  | 34 => ⟨S256x4x128, .f32⟩
  | 35 => ⟨S256x4x128, .f32⟩
  | 36 => ⟨S_, .f32⟩
  | 37 => ⟨S256x4, .f32⟩
  | 38 => ⟨S256x4x1, .f32⟩
  | 39 => ⟨S256x4x128, .f32⟩
  | 40 => ⟨S256x4x128, .f32⟩
  | 41 => ⟨S_, .f32⟩
  | 42 => ⟨S256x4, .f32⟩
  | 43 => ⟨S4x256, .f32⟩
  | 44 => ⟨S4x256, .f32⟩
  | 45 => ⟨S4x256, .f32⟩
  | 46 => ⟨S4x256, .f32⟩
  | 47 => ⟨S_, .f32⟩
  | 48 => ⟨S4, .f32⟩
  | 49 => ⟨S4x1, .f32⟩
  | 50 => ⟨S_, .f32⟩
  | 51 => ⟨S4, .f32⟩
  | 52 => ⟨S4, .f32⟩
  | 53 => ⟨S_, .f32⟩
  | 54 => ⟨S4352x4x128, .f32⟩
  | 55 => ⟨S4352x4x128, .f32⟩
  | 56 => ⟨S_, .f32⟩
  | 57 => ⟨S4352x4x128, .f32⟩
  | 58 => ⟨S4352x4x128, .f32⟩
  | 59 => ⟨S4352x512, .f32⟩
  | 60 => ⟨S4352x512, .f32⟩
  | 61 => ⟨S4352x512, .f32⟩
  | 62 => ⟨S4352x512, .bf16⟩
  | 63 => ⟨S4352x512, .bf16⟩
  | 64 => ⟨S4352x512, .bf16⟩
  | 65 => ⟨S4352x512, .bf16⟩
  | 66 => ⟨S4352x512, .bf16⟩
  | 67 => ⟨S4352x512, .bf16⟩
  | 68 => ⟨S1x4, .f32⟩
  | 69 => ⟨S1x4, .f32⟩
  | 70 => ⟨S2x4, .f32⟩
  | _ => ⟨S4352x512, .f32⟩

abbrev hbmTy (i : Nat) : BufTy := match i / 128 with
  | 0 => hbmTy0_0 i
  | 1 => hbmTy0_1 i
  | 2 => hbmTy0_2 i
  | _ => ⟨S4352x512, .f32⟩

abbrev bufTy : (tb : Table) → Fin (tcTables nBuf tb) → BufTy
  | .hbm, ⟨i, _⟩ => hbmTy i
  | _, _ => ⟨S4352x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_cst_0 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_cst_1 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_cst_2 : Ref sig .tc := ⟨.hbm, 49, rfl⟩
abbrev main_call0_v0 : Ref sig .tc := ⟨.hbm, 50, rfl⟩
abbrev main_v41_1 : Ref sig .tc := ⟨.hbm, 51, rfl⟩
abbrev main_call0_v2 : Ref sig .tc := ⟨.hbm, 52, rfl⟩
abbrev main_v41_0 : Ref sig .tc := ⟨.hbm, 53, rfl⟩
abbrev main_call0_cst : Ref sig .tc := ⟨.hbm, 54, rfl⟩
abbrev main_v41_2 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_cst_3 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_cst_4 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_cst_5 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_cst_6 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_call1_cst : Ref sig .tc := ⟨.hbm, 107, rfl⟩
abbrev main_call1_v0 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_cst_7 : Ref sig .tc := ⟨.hbm, 113, rfl⟩
abbrev main_v93 : Ref sig .tc := ⟨.hbm, 114, rfl⟩
abbrev main_v94 : Ref sig .tc := ⟨.hbm, 115, rfl⟩
abbrev main_cst_8 : Ref sig .tc := ⟨.hbm, 116, rfl⟩
abbrev main_v95 : Ref sig .tc := ⟨.hbm, 117, rfl⟩
abbrev main_v96 : Ref sig .tc := ⟨.hbm, 118, rfl⟩
abbrev main_v97 : Ref sig .tc := ⟨.hbm, 119, rfl⟩
abbrev main_cst_9 : Ref sig .tc := ⟨.hbm, 120, rfl⟩
abbrev main_v98 : Ref sig .tc := ⟨.hbm, 121, rfl⟩
abbrev main_cst_10 : Ref sig .tc := ⟨.hbm, 122, rfl⟩
abbrev main_v99 : Ref sig .tc := ⟨.hbm, 123, rfl⟩
abbrev main_cst_11 : Ref sig .tc := ⟨.hbm, 124, rfl⟩
abbrev main_v100 : Ref sig .tc := ⟨.hbm, 125, rfl⟩
abbrev main_cst_12 : Ref sig .tc := ⟨.hbm, 126, rfl⟩
abbrev main_v101 : Ref sig .tc := ⟨.hbm, 127, rfl⟩
abbrev main_v102 : Ref sig .tc := ⟨.hbm, 128, rfl⟩
abbrev main_v103 : Ref sig .tc := ⟨.hbm, 129, rfl⟩
abbrev main_v104 : Ref sig .tc := ⟨.hbm, 130, rfl⟩
abbrev main_v105 : Ref sig .tc := ⟨.hbm, 131, rfl⟩
abbrev main_v106 : Ref sig .tc := ⟨.hbm, 132, rfl⟩
abbrev main_cst_13 : Ref sig .tc := ⟨.hbm, 133, rfl⟩
abbrev main_v107 : Ref sig .tc := ⟨.hbm, 134, rfl⟩
abbrev main_v108 : Ref sig .tc := ⟨.hbm, 135, rfl⟩
abbrev main_v109 : Ref sig .tc := ⟨.hbm, 136, rfl⟩
abbrev main_v110 : Ref sig .tc := ⟨.hbm, 137, rfl⟩
abbrev main_cst_14 : Ref sig .tc := ⟨.hbm, 138, rfl⟩
abbrev main_v111 : Ref sig .tc := ⟨.hbm, 139, rfl⟩
abbrev main_v112 : Ref sig .tc := ⟨.hbm, 140, rfl⟩
abbrev main_v113 : Ref sig .tc := ⟨.hbm, 141, rfl⟩
abbrev main_v114 : Ref sig .tc := ⟨.hbm, 142, rfl⟩
abbrev main_v115 : Ref sig .tc := ⟨.hbm, 143, rfl⟩
abbrev main_cst_15 : Ref sig .tc := ⟨.hbm, 144, rfl⟩
abbrev main_v116 : Ref sig .tc := ⟨.hbm, 145, rfl⟩
abbrev main_v117 : Ref sig .tc := ⟨.hbm, 146, rfl⟩
abbrev main_cst_16 : Ref sig .tc := ⟨.hbm, 147, rfl⟩
abbrev main_v118 : Ref sig .tc := ⟨.hbm, 148, rfl⟩
abbrev main_v119 : Ref sig .tc := ⟨.hbm, 149, rfl⟩
abbrev main_cst_17 : Ref sig .tc := ⟨.hbm, 150, rfl⟩
abbrev main_v120 : Ref sig .tc := ⟨.hbm, 151, rfl⟩
abbrev main_v121 : Ref sig .tc := ⟨.hbm, 152, rfl⟩
abbrev main_cst_18 : Ref sig .tc := ⟨.hbm, 153, rfl⟩
abbrev main_v122 : Ref sig .tc := ⟨.hbm, 154, rfl⟩
abbrev main_v123 : Ref sig .tc := ⟨.hbm, 155, rfl⟩
abbrev main_v124 : Ref sig .tc := ⟨.hbm, 156, rfl⟩
abbrev main_v125 : Ref sig .tc := ⟨.hbm, 157, rfl⟩
abbrev main_v126 : Ref sig .tc := ⟨.hbm, 158, rfl⟩
abbrev main_v127 : Ref sig .tc := ⟨.hbm, 159, rfl⟩
abbrev main_v128 : Ref sig .tc := ⟨.hbm, 160, rfl⟩
abbrev main_v129 : Ref sig .tc := ⟨.hbm, 161, rfl⟩
abbrev main_v130 : Ref sig .tc := ⟨.hbm, 162, rfl⟩
abbrev main_v131 : Ref sig .tc := ⟨.hbm, 163, rfl⟩
abbrev main_v132 : Ref sig .tc := ⟨.hbm, 164, rfl⟩
abbrev main_v133 : Ref sig .tc := ⟨.hbm, 165, rfl⟩
abbrev main_v134 : Ref sig .tc := ⟨.hbm, 166, rfl⟩
abbrev main_v135 : Ref sig .tc := ⟨.hbm, 167, rfl⟩
abbrev main_v136 : Ref sig .tc := ⟨.hbm, 168, rfl⟩
abbrev main_v137 : Ref sig .tc := ⟨.hbm, 169, rfl⟩
abbrev main_v138 : Ref sig .tc := ⟨.hbm, 170, rfl⟩
abbrev main_v139 : Ref sig .tc := ⟨.hbm, 171, rfl⟩
abbrev main_v140 : Ref sig .tc := ⟨.hbm, 172, rfl⟩
abbrev main_v141 : Ref sig .tc := ⟨.hbm, 173, rfl⟩
abbrev main_v142 : Ref sig .tc := ⟨.hbm, 174, rfl⟩
abbrev main_v143 : Ref sig .tc := ⟨.hbm, 175, rfl⟩
abbrev main_v144 : Ref sig .tc := ⟨.hbm, 176, rfl⟩
abbrev main_v145 : Ref sig .tc := ⟨.hbm, 177, rfl⟩
abbrev main_v146 : Ref sig .tc := ⟨.hbm, 178, rfl⟩
abbrev main_v147 : Ref sig .tc := ⟨.hbm, 179, rfl⟩
abbrev main_v148 : Ref sig .tc := ⟨.hbm, 180, rfl⟩
abbrev main_v149 : Ref sig .tc := ⟨.hbm, 181, rfl⟩
abbrev main_v150 : Ref sig .tc := ⟨.hbm, 182, rfl⟩
abbrev main_v151 : Ref sig .tc := ⟨.hbm, 183, rfl⟩
abbrev main_v152 : Ref sig .tc := ⟨.hbm, 184, rfl⟩
abbrev main_v153 : Ref sig .tc := ⟨.hbm, 185, rfl⟩
abbrev main_v154 : Ref sig .tc := ⟨.hbm, 186, rfl⟩
abbrev main_v155 : Ref sig .tc := ⟨.hbm, 187, rfl⟩
abbrev main_v156 : Ref sig .tc := ⟨.hbm, 188, rfl⟩
abbrev main_v157 : Ref sig .tc := ⟨.hbm, 189, rfl⟩
abbrev main_v158 : Ref sig .tc := ⟨.hbm, 190, rfl⟩
abbrev main_cst_19 : Ref sig .tc := ⟨.hbm, 191, rfl⟩
abbrev main_v159 : Ref sig .tc := ⟨.hbm, 192, rfl⟩
abbrev main_v160 : Ref sig .tc := ⟨.hbm, 193, rfl⟩
abbrev main_v161 : Ref sig .tc := ⟨.hbm, 194, rfl⟩
abbrev main_cst_20 : Ref sig .tc := ⟨.hbm, 195, rfl⟩
abbrev main_v162 : Ref sig .tc := ⟨.hbm, 196, rfl⟩
abbrev main_v163 : Ref sig .tc := ⟨.hbm, 197, rfl⟩
abbrev main_v164 : Ref sig .tc := ⟨.hbm, 198, rfl⟩
abbrev main_v165 : Ref sig .tc := ⟨.hbm, 199, rfl⟩
abbrev main_v166 : Ref sig .tc := ⟨.hbm, 200, rfl⟩
abbrev main_v167 : Ref sig .tc := ⟨.hbm, 201, rfl⟩
abbrev main_v168 : Ref sig .tc := ⟨.hbm, 202, rfl⟩
abbrev main_cst_21 : Ref sig .tc := ⟨.hbm, 203, rfl⟩
abbrev main_call2_v0 : Ref sig .tc := ⟨.hbm, 204, rfl⟩
abbrev main_v169_1 : Ref sig .tc := ⟨.hbm, 205, rfl⟩
abbrev main_call2_v2 : Ref sig .tc := ⟨.hbm, 206, rfl⟩
abbrev main_v169_0 : Ref sig .tc := ⟨.hbm, 207, rfl⟩
abbrev main_call2_cst : Ref sig .tc := ⟨.hbm, 208, rfl⟩
abbrev main_v169_2 : Ref sig .tc := ⟨.hbm, 209, rfl⟩
abbrev main_v170 : Ref sig .tc := ⟨.hbm, 210, rfl⟩
abbrev main_v171 : Ref sig .tc := ⟨.hbm, 211, rfl⟩
abbrev main_v172 : Ref sig .tc := ⟨.hbm, 212, rfl⟩
abbrev main_v173 : Ref sig .tc := ⟨.hbm, 213, rfl⟩
abbrev main_cst_22 : Ref sig .tc := ⟨.hbm, 214, rfl⟩
abbrev main_v174 : Ref sig .tc := ⟨.hbm, 215, rfl⟩
abbrev main_v175 : Ref sig .tc := ⟨.hbm, 216, rfl⟩
abbrev main_v176 : Ref sig .tc := ⟨.hbm, 217, rfl⟩
abbrev main_v177 : Ref sig .tc := ⟨.hbm, 218, rfl⟩
abbrev main_v178 : Ref sig .tc := ⟨.hbm, 219, rfl⟩
abbrev main_v179 : Ref sig .tc := ⟨.hbm, 220, rfl⟩
abbrev main_v180 : Ref sig .tc := ⟨.hbm, 221, rfl⟩
abbrev main_v181 : Ref sig .tc := ⟨.hbm, 222, rfl⟩
abbrev main_v182 : Ref sig .tc := ⟨.hbm, 223, rfl⟩
abbrev main_v183 : Ref sig .tc := ⟨.hbm, 224, rfl⟩
abbrev main_v184 : Ref sig .tc := ⟨.hbm, 225, rfl⟩
abbrev main_v185 : Ref sig .tc := ⟨.hbm, 226, rfl⟩
abbrev main_v186 : Ref sig .tc := ⟨.hbm, 227, rfl⟩
abbrev main_v187 : Ref sig .tc := ⟨.hbm, 228, rfl⟩
abbrev main_v188 : Ref sig .tc := ⟨.hbm, 229, rfl⟩
abbrev main_v189 : Ref sig .tc := ⟨.hbm, 230, rfl⟩
abbrev main_v190 : Ref sig .tc := ⟨.hbm, 231, rfl⟩
abbrev main_v191 : Ref sig .tc := ⟨.hbm, 232, rfl⟩
abbrev main_v192 : Ref sig .tc := ⟨.hbm, 233, rfl⟩
abbrev main_v193 : Ref sig .tc := ⟨.hbm, 234, rfl⟩
abbrev main_v194 : Ref sig .tc := ⟨.hbm, 235, rfl⟩
abbrev main_v195 : Ref sig .tc := ⟨.hbm, 236, rfl⟩
abbrev main_v196 : Ref sig .tc := ⟨.hbm, 237, rfl⟩
abbrev main_cst_23 : Ref sig .tc := ⟨.hbm, 238, rfl⟩
abbrev main_v197 : Ref sig .tc := ⟨.hbm, 239, rfl⟩
abbrev main_v198 : Ref sig .tc := ⟨.hbm, 240, rfl⟩
abbrev main_v199 : Ref sig .tc := ⟨.hbm, 241, rfl⟩
abbrev main_v200 : Ref sig .tc := ⟨.hbm, 242, rfl⟩
abbrev main_cst_24 : Ref sig .tc := ⟨.hbm, 243, rfl⟩
abbrev main_v201 : Ref sig .tc := ⟨.hbm, 244, rfl⟩
abbrev main_v202 : Ref sig .tc := ⟨.hbm, 245, rfl⟩
abbrev main_v203 : Ref sig .tc := ⟨.hbm, 246, rfl⟩
abbrev main_v204 : Ref sig .tc := ⟨.hbm, 247, rfl⟩
abbrev main_v205 : Ref sig .tc := ⟨.hbm, 248, rfl⟩
abbrev main_cst_25 : Ref sig .tc := ⟨.hbm, 249, rfl⟩
abbrev main_v206 : Ref sig .tc := ⟨.hbm, 250, rfl⟩
abbrev main_v207 : Ref sig .tc := ⟨.hbm, 251, rfl⟩
abbrev main_v208 : Ref sig .tc := ⟨.hbm, 252, rfl⟩
abbrev main_v209 : Ref sig .tc := ⟨.hbm, 253, rfl⟩
abbrev main_v210 : Ref sig .tc := ⟨.hbm, 254, rfl⟩
abbrev main_v211 : Ref sig .tc := ⟨.hbm, 255, rfl⟩
abbrev main_v212 : Ref sig .tc := ⟨.hbm, 256, rfl⟩
abbrev main_v213 : Ref sig .tc := ⟨.hbm, 257, rfl⟩
abbrev main_v214 : Ref sig .tc := ⟨.hbm, 258, rfl⟩
abbrev main_v215 : Ref sig .tc := ⟨.hbm, 259, rfl⟩
abbrev main_v216 : Ref sig .tc := ⟨.hbm, 260, rfl⟩
abbrev main_v217 : Ref sig .tc := ⟨.hbm, 261, rfl⟩
abbrev main_v218 : Ref sig .tc := ⟨.hbm, 262, rfl⟩
abbrev main_call3_cst : Ref sig .tc := ⟨.hbm, 263, rfl⟩
abbrev main_call3_v0 : Ref sig .tc := ⟨.hbm, 264, rfl⟩
abbrev main_v219 : Ref sig .tc := ⟨.hbm, 265, rfl⟩
abbrev main_v220 : Ref sig .tc := ⟨.hbm, 266, rfl⟩
abbrev main_v221 : Ref sig .tc := ⟨.hbm, 267, rfl⟩
abbrev main_v222 : Ref sig .tc := ⟨.hbm, 268, rfl⟩
abbrev main_cst_26 : Ref sig .tc := ⟨.hbm, 269, rfl⟩
abbrev main_v223 : Ref sig .tc := ⟨.hbm, 270, rfl⟩
abbrev main_v224 : Ref sig .tc := ⟨.hbm, 271, rfl⟩
abbrev main_cst_27 : Ref sig .tc := ⟨.hbm, 272, rfl⟩
abbrev main_v225 : Ref sig .tc := ⟨.hbm, 273, rfl⟩
abbrev main_v226 : Ref sig .tc := ⟨.hbm, 274, rfl⟩
abbrev main_v227 : Ref sig .tc := ⟨.hbm, 275, rfl⟩
abbrev main_cst_28 : Ref sig .tc := ⟨.hbm, 276, rfl⟩
abbrev main_v228 : Ref sig .tc := ⟨.hbm, 277, rfl⟩
abbrev main_v229 : Ref sig .tc := ⟨.hbm, 278, rfl⟩
abbrev main_v230 : Ref sig .tc := ⟨.hbm, 279, rfl⟩
abbrev main_v231 : Ref sig .tc := ⟨.hbm, 280, rfl⟩
abbrev main_cst_29 : Ref sig .tc := ⟨.hbm, 281, rfl⟩
abbrev main_v232 : Ref sig .tc := ⟨.hbm, 282, rfl⟩
abbrev main_cst_30 : Ref sig .tc := ⟨.hbm, 283, rfl⟩
abbrev main_v233 : Ref sig .tc := ⟨.hbm, 284, rfl⟩
abbrev main_cst_31 : Ref sig .tc := ⟨.hbm, 285, rfl⟩
abbrev main_v234 : Ref sig .tc := ⟨.hbm, 286, rfl⟩
abbrev main_v235 : Ref sig .tc := ⟨.hbm, 287, rfl⟩
abbrev main_v236 : Ref sig .tc := ⟨.hbm, 288, rfl⟩
abbrev main_v237 : Ref sig .tc := ⟨.hbm, 289, rfl⟩
abbrev main_v238 : Ref sig .tc := ⟨.hbm, 290, rfl⟩
abbrev main_v239 : Ref sig .tc := ⟨.hbm, 291, rfl⟩
abbrev main_cst_32 : Ref sig .tc := ⟨.hbm, 292, rfl⟩
abbrev main_v240 : Ref sig .tc := ⟨.hbm, 293, rfl⟩
abbrev main_v241 : Ref sig .tc := ⟨.hbm, 294, rfl⟩
abbrev main_v242 : Ref sig .tc := ⟨.hbm, 295, rfl⟩
abbrev main_v243 : Ref sig .tc := ⟨.hbm, 296, rfl⟩
abbrev main_cst_33 : Ref sig .tc := ⟨.hbm, 297, rfl⟩
abbrev main_v244 : Ref sig .tc := ⟨.hbm, 298, rfl⟩
abbrev main_v245 : Ref sig .tc := ⟨.hbm, 299, rfl⟩
abbrev main_v246 : Ref sig .tc := ⟨.hbm, 300, rfl⟩
abbrev main_v247 : Ref sig .tc := ⟨.hbm, 301, rfl⟩
abbrev main_v248 : Ref sig .tc := ⟨.hbm, 302, rfl⟩
abbrev main_cst_34 : Ref sig .tc := ⟨.hbm, 303, rfl⟩
abbrev main_v249 : Ref sig .tc := ⟨.hbm, 304, rfl⟩
abbrev main_v250 : Ref sig .tc := ⟨.hbm, 305, rfl⟩
abbrev main_cst_35 : Ref sig .tc := ⟨.hbm, 306, rfl⟩
abbrev main_v251 : Ref sig .tc := ⟨.hbm, 307, rfl⟩
abbrev main_v252 : Ref sig .tc := ⟨.hbm, 308, rfl⟩
abbrev main_cst_36 : Ref sig .tc := ⟨.hbm, 309, rfl⟩
abbrev main_v253 : Ref sig .tc := ⟨.hbm, 310, rfl⟩
abbrev main_v254 : Ref sig .tc := ⟨.hbm, 311, rfl⟩
abbrev main_cst_37 : Ref sig .tc := ⟨.hbm, 312, rfl⟩
abbrev main_v255 : Ref sig .tc := ⟨.hbm, 313, rfl⟩
abbrev main_v256 : Ref sig .tc := ⟨.hbm, 314, rfl⟩
abbrev main_v257 : Ref sig .tc := ⟨.hbm, 315, rfl⟩
abbrev main_v258 : Ref sig .tc := ⟨.hbm, 316, rfl⟩
abbrev main_v259 : Ref sig .tc := ⟨.hbm, 317, rfl⟩
abbrev main_v260 : Ref sig .tc := ⟨.hbm, 318, rfl⟩
abbrev main_v261 : Ref sig .tc := ⟨.hbm, 319, rfl⟩
abbrev main_v262 : Ref sig .tc := ⟨.hbm, 320, rfl⟩
abbrev main_v263 : Ref sig .tc := ⟨.hbm, 321, rfl⟩
abbrev main_v264 : Ref sig .tc := ⟨.hbm, 322, rfl⟩
abbrev main_v265 : Ref sig .tc := ⟨.hbm, 323, rfl⟩
abbrev main_v266 : Ref sig .tc := ⟨.hbm, 324, rfl⟩
abbrev main_v267 : Ref sig .tc := ⟨.hbm, 325, rfl⟩
abbrev main_v268 : Ref sig .tc := ⟨.hbm, 326, rfl⟩

abbrev nD : Nat := 1
abbrev τ : Topo := Topo.v7x

variable {F : FTy → Type} [FloatOps F]
-- ==== Kernel3.lean ====
abbrev S4096x4096 : Shape := ⟨2, ![4096, 4096]⟩
abbrev S4096x1024 : Shape := ⟨2, ![4096, 1024]⟩
abbrev S_ : Shape := ⟨0, ![]⟩
abbrev S1024x4096 : Shape := ⟨2, ![1024, 4096]⟩
abbrev S8x256x1024 : Shape := ⟨3, ![8, 256, 1024]⟩
abbrev S4096x512 : Shape := ⟨2, ![4096, 512]⟩
abbrev S1x256x1024 : Shape := ⟨3, ![1, 256, 1024]⟩
abbrev S1024x512 : Shape := ⟨2, ![1024, 512]⟩
abbrev S512x1024 : Shape := ⟨2, ![512, 1024]⟩
abbrev S256x1024 : Shape := ⟨2, ![256, 1024]⟩

abbrev nBuf : Space → Nat
  | .hbm => 10
  | .vmem => 7
  | .smem => 0
  | _ => 0

abbrev bufTy : (tb : Table) → Fin (tcTables nBuf tb) → BufTy
  | .hbm, ⟨0, _⟩ => ⟨S4096x4096, .f32⟩
  | .hbm, ⟨1, _⟩ => ⟨S4096x1024, .f32⟩
  | .hbm, ⟨2, _⟩ => ⟨S_, .f32⟩
  | .hbm, ⟨3, _⟩ => ⟨S4096x4096, .f32⟩
  | .hbm, ⟨4, _⟩ => ⟨S4096x4096, .f32⟩
  | .hbm, ⟨5, _⟩ => ⟨S4096x4096, .bf16⟩
  | .hbm, ⟨6, _⟩ => ⟨S1024x4096, .f32⟩
  | .hbm, ⟨7, _⟩ => ⟨S1024x4096, .bf16⟩
  | .hbm, ⟨8, _⟩ => ⟨S8x256x1024, .bf16⟩
  | .hbm, ⟨9, _⟩ => ⟨S8x256x1024, .bf16⟩
  | .local _ .vmem, ⟨0, _⟩ => ⟨S1024x4096, .bf16⟩
  | .local _ .vmem, ⟨1, _⟩ => ⟨S4096x512, .bf16⟩
  | .local _ .vmem, ⟨2, _⟩ => ⟨S4096x512, .bf16⟩
  | .local _ .vmem, ⟨3, _⟩ => ⟨S1x256x1024, .bf16⟩
  | .local _ .vmem, ⟨4, _⟩ => ⟨S1x256x1024, .bf16⟩
  | .local _ .vmem, ⟨5, _⟩ => ⟨S1x256x1024, .bf16⟩
  | .local _ .vmem, ⟨6, _⟩ => ⟨S1x256x1024, .bf16⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5_0 : Ref sig .tc := ⟨.hbm, 8, rfl⟩
abbrev main_v5_1 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S1024x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference3Ideal.lean ====
abbrev S4096x4096 : Shape := ⟨2, ![4096, 4096]⟩
abbrev S4096x1024 : Shape := ⟨2, ![4096, 1024]⟩
abbrev S_ : Shape := ⟨0, ![]⟩
abbrev S1024x4096 : Shape := ⟨2, ![1024, 4096]⟩
abbrev S8x512x1024 : Shape := ⟨3, ![8, 512, 1024]⟩
abbrev S8x256x1024 : Shape := ⟨3, ![8, 256, 1024]⟩

abbrev nBuf : Space → Nat
  | .hbm => 15
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x1024, .f32⟩
  | .hbm, ⟨2, _⟩ => ⟨S_, .f32⟩
  | .hbm, ⟨3, _⟩ => ⟨S4096x1024, .f32⟩
  | .hbm, ⟨4, _⟩ => ⟨S_, .f32⟩
  | .hbm, ⟨5, _⟩ => ⟨S4096x4096, .f32⟩
  | .hbm, ⟨6, _⟩ => ⟨S4096x4096, .f32⟩
  | .hbm, ⟨7, _⟩ => ⟨S4096x4096, .f32⟩
  | .hbm, ⟨8, _⟩ => ⟨S4096x1024, .f32⟩
  | .hbm, ⟨9, _⟩ => ⟨S1024x4096, .f32⟩
  | .hbm, ⟨10, _⟩ => ⟨S4096x1024, .f32⟩
  | .hbm, ⟨11, _⟩ => ⟨S4096x1024, .bf16⟩
  | .hbm, ⟨12, _⟩ => ⟨S8x512x1024, .bf16⟩
  | .hbm, ⟨13, _⟩ => ⟨S8x256x1024, .bf16⟩
  | .hbm, ⟨14, _⟩ => ⟨S8x256x1024, .bf16⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_call0_cst : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩

abbrev nD : Nat := 1
abbrev τ : Topo := Topo.v7x

variable {F : FTy → Type} [FloatOps F]
-- ==== Kernel4.lean ====
abbrev S4096x1024 : Shape := ⟨2, ![4096, 1024]⟩
abbrev S6144 : Shape := ⟨1, ![6144]⟩
abbrev S1024 : Shape := ⟨1, ![1024]⟩
abbrev S1024x4096 : Shape := ⟨2, ![1024, 4096]⟩
abbrev S4096x4096 : Shape := ⟨2, ![4096, 4096]⟩
abbrev S1024x8x512 : Shape := ⟨3, ![1024, 8, 512]⟩
abbrev S8x1024x512 : Shape := ⟨3, ![8, 1024, 512]⟩
abbrev S6x1024 : Shape := ⟨2, ![6, 1024]⟩
abbrev S1x1024 : Shape := ⟨2, ![1, 1024]⟩
abbrev S2x1024 : Shape := ⟨2, ![2, 1024]⟩
abbrev S8x1024 : Shape := ⟨2, ![8, 1024]⟩
abbrev S512x4096 : Shape := ⟨2, ![512, 4096]⟩
abbrev S512x1024 : Shape := ⟨2, ![512, 1024]⟩
abbrev S1x1024x512 : Shape := ⟨3, ![1, 1024, 512]⟩
abbrev S1024x512 : Shape := ⟨2, ![1024, 512]⟩
abbrev S512 : Shape := ⟨1, ![512]⟩
abbrev S512x1 : Shape := ⟨2, ![512, 1]⟩

abbrev nBuf : Space → Nat
  | .hbm => 27
  | .vmem => 17
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S6144, .f32⟩
  | .hbm, ⟨3, _⟩ => ⟨S6144, .f32⟩
  | .hbm, ⟨4, _⟩ => ⟨S1024, .f32⟩
  | .hbm, ⟨5, _⟩ => ⟨S1024x4096, .f32⟩
  | .hbm, ⟨6, _⟩ => ⟨S4096x1024, .f32⟩
  | .hbm, ⟨7, _⟩ => ⟨S4096x4096, .f32⟩
  | .hbm, ⟨8, _⟩ => ⟨S1024x4096, .bf16⟩
  | .hbm, ⟨9, _⟩ => ⟨S1024x8x512, .bf16⟩
  | .hbm, ⟨10, _⟩ => ⟨S8x1024x512, .bf16⟩
  | .hbm, ⟨11, _⟩ => ⟨S6x1024, .f32⟩
  | .hbm, ⟨12, _⟩ => ⟨S1x1024, .f32⟩
  | .hbm, ⟨13, _⟩ => ⟨S1024, .f32⟩
  | .hbm, ⟨14, _⟩ => ⟨S1x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x4096, .bf16⟩
  | .hbm, ⟨19, _⟩ => ⟨S1x1024, .f32⟩
  | .hbm, ⟨20, _⟩ => ⟨S6x1024, .f32⟩
  | .hbm, ⟨21, _⟩ => ⟨S2x1024, .f32⟩
  | .hbm, ⟨22, _⟩ => ⟨S6x1024, .f32⟩
  | .hbm, ⟨23, _⟩ => ⟨S8x1024, .f32⟩
  | .hbm, ⟨24, _⟩ => ⟨S4096x1024, .f32⟩
  | .hbm, ⟨25, _⟩ => ⟨S4096x1024, .bf16⟩
  | .hbm, ⟨26, _⟩ => ⟨S8x1024, .f32⟩
  | .local _ .vmem, ⟨0, _⟩ => ⟨S512x4096, .bf16⟩
  | .local _ .vmem, ⟨1, _⟩ => ⟨S512x4096, .bf16⟩
  | .local _ .vmem, ⟨2, _⟩ => ⟨S8x1024x512, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S1x1024, .f32⟩
  | .local _ .vmem, ⟨10, _⟩ => ⟨S8x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .bf16⟩
  | .local _ .vmem, ⟨14, _⟩ => ⟨S512x1024, .bf16⟩
  | .local _ .vmem, ⟨15, _⟩ => ⟨S8x1024, .f32⟩
  | .local _ .vmem, ⟨16, _⟩ => ⟨S4096x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16_0 : Ref sig .tc := ⟨.hbm, 24, rfl⟩
abbrev main_v16_1 : Ref sig .tc := ⟨.hbm, 25, rfl⟩
abbrev main_v16_2 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S8x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Reference4Ideal.lean ====
abbrev S4096x1024 : Shape := ⟨2, ![4096, 1024]⟩
abbrev S6144 : Shape := ⟨1, ![6144]⟩
abbrev S1024 : Shape := ⟨1, ![1024]⟩
abbrev S1024x4096 : Shape := ⟨2, ![1024, 4096]⟩
abbrev S4096x4096 : Shape := ⟨2, ![4096, 4096]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S4x1024 : Shape := ⟨2, ![4, 1024]⟩
abbrev S8x1024 : Shape := ⟨2, ![8, 1024]⟩

abbrev nBuf : Space → Nat
  | .hbm => 105
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S6144, .f32⟩
  | .hbm, ⟨3, _⟩ => ⟨S6144, .f32⟩
  | .hbm, ⟨4, _⟩ => ⟨S1024, .f32⟩
  | .hbm, ⟨5, _⟩ => ⟨S1024x4096, .f32⟩
  | .hbm, ⟨6, _⟩ => ⟨S4096x1024, .f32⟩
  | .hbm, ⟨7, _⟩ => ⟨S4096x4096, .f32⟩
  | .hbm, ⟨8, _⟩ => ⟨S1024, .f32⟩
  | .hbm, ⟨9, _⟩ => ⟨S1024, .f32⟩
  | .hbm, ⟨10, _⟩ => ⟨S1024, .f32⟩
  | .hbm, ⟨11, _⟩ => ⟨S1024, .f32⟩
  | .hbm, ⟨12, _⟩ => ⟨S1024, .f32⟩
  | .hbm, ⟨13, _⟩ => ⟨S1024, .f32⟩
  | .hbm, ⟨14, _⟩ => ⟨S1x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S_, .f32⟩
  | .hbm, ⟨20, _⟩ => ⟨S4096, .f32⟩
  | .hbm, ⟨21, _⟩ => ⟨S4096x1, .f32⟩
  | .hbm, ⟨22, _⟩ => ⟨S_, .f32⟩
  | .hbm, ⟨23, _⟩ => ⟨S4096x1, .f32⟩
  | .hbm, ⟨24, _⟩ => ⟨S4096x1, .f32⟩
  | .hbm, ⟨25, _⟩ => ⟨S_, .f32⟩
  | .hbm, ⟨26, _⟩ => ⟨S4096x1, .f32⟩
  | .hbm, ⟨27, _⟩ => ⟨S4096x1, .f32⟩
  | .hbm, ⟨28, _⟩ => ⟨S4096x1, .f32⟩
  | .hbm, ⟨29, _⟩ => ⟨S4096x1, .f32⟩
  | .hbm, ⟨30, _⟩ => ⟨S_, .f32⟩
  | .hbm, ⟨31, _⟩ => ⟨S4096x1, .f32⟩
  | .hbm, ⟨32, _⟩ => ⟨S4096x1, .f32⟩
  | .hbm, ⟨33, _⟩ => ⟨S4096x1024, .f32⟩
  | .hbm, ⟨34, _⟩ => ⟨S4096x1024, .f32⟩
  | .hbm, ⟨35, _⟩ => ⟨S1x1024, .f32⟩
  | .hbm, ⟨36, _⟩ => ⟨S4096x1024, .f32⟩
  | .hbm, ⟨37, _⟩ => ⟨S4096x1024, .f32⟩
  | .hbm, ⟨38, _⟩ => ⟨S_, .f32⟩
  | .hbm, ⟨39, _⟩ => ⟨S1024, .f32⟩
  | .hbm, ⟨40, _⟩ => ⟨S1024, .f32⟩
  | .hbm, ⟨41, _⟩ => ⟨S1x1024, .f32⟩
  | .hbm, ⟨42, _⟩ => ⟨S4096x1024, .f32⟩
  | .hbm, ⟨43, _⟩ => ⟨S4096x1024, .f32⟩
  | .hbm, ⟨44, _⟩ => ⟨S1x1024, .f32⟩
  | .hbm, ⟨45, _⟩ => ⟨S4096x1024, .f32⟩
  | .hbm, ⟨46, _⟩ => ⟨S4096x1024, .f32⟩
  | .hbm, ⟨47, _⟩ => ⟨S4096x4096, .f32⟩
  | .hbm, ⟨48, _⟩ => ⟨S4096x1024, .f32⟩
  | .hbm, ⟨49, _⟩ => ⟨S_, .f32⟩
  | .hbm, ⟨50, _⟩ => ⟨S1024, .f32⟩
  | .hbm, ⟨51, _⟩ => ⟨S1x1024, .f32⟩
  | .hbm, ⟨52, _⟩ => ⟨S_, .f32⟩
  | .hbm, ⟨53, _⟩ => ⟨S1024, .f32⟩
  | .hbm, ⟨54, _⟩ => ⟨S4096x1024, .f32⟩
  | .hbm, ⟨55, _⟩ => ⟨S_, .f32⟩
  | .hbm, ⟨56, _⟩ => ⟨S1024, .f32⟩
  | .hbm, ⟨57, _⟩ => ⟨S1x1024, .f32⟩
  | .hbm, ⟨58, _⟩ => ⟨S4096x1024, .f32⟩
  | .hbm, ⟨59, _⟩ => ⟨S4096x1024, .f32⟩
  | .hbm, ⟨60, _⟩ => ⟨S_, .f32⟩
  | .hbm, ⟨61, _⟩ => ⟨S1024, .f32⟩
  | .hbm, ⟨62, _⟩ => ⟨S4096x1024, .f32⟩
  | .hbm, ⟨63, _⟩ => ⟨S_, .f32⟩
  | .hbm, ⟨64, _⟩ => ⟨S1024, .f32⟩
  | .hbm, ⟨65, _⟩ => ⟨S1x1024, .f32⟩
  | .hbm, ⟨66, _⟩ => ⟨S4096x1024, .f32⟩
  | .hbm, ⟨67, _⟩ => ⟨S4096x1024, .f32⟩
  | .hbm, ⟨68, _⟩ => ⟨S_, .f32⟩
  | .hbm, ⟨69, _⟩ => ⟨S1024, .f32⟩
  | .hbm, ⟨70, _⟩ => ⟨S4096x1024, .f32⟩
  | .hbm, ⟨71, _⟩ => ⟨S_, .f32⟩
  | .hbm, ⟨72, _⟩ => ⟨S4096, .f32⟩
  | .hbm, ⟨73, _⟩ => ⟨S4096x1, .f32⟩
  | .hbm, ⟨74, _⟩ => ⟨S4096x1024, .f32⟩
  | .hbm, ⟨75, _⟩ => ⟨S4096x1024, .f32⟩
  | .hbm, ⟨76, _⟩ => ⟨S4096x1024, .f32⟩
  | .hbm, ⟨77, _⟩ => ⟨S4096x1, .f32⟩
  | .hbm, ⟨78, _⟩ => ⟨S_, .f32⟩
  | .hbm, ⟨79, _⟩ => ⟨S4096x1, .f32⟩
  | .hbm, ⟨80, _⟩ => ⟨S4096x1, .f32⟩
  | .hbm, ⟨81, _⟩ => ⟨S_, .f32⟩
  | .hbm, ⟨82, _⟩ => ⟨S4096, .f32⟩
  | .hbm, ⟨83, _⟩ => ⟨S4096x1024, .f32⟩
  | .hbm, ⟨84, _⟩ => ⟨S4096x1024, .f32⟩
  | .hbm, ⟨85, _⟩ => ⟨S4096x1024, .f32⟩
  | .hbm, ⟨86, _⟩ => ⟨S4096x1024, .f32⟩
  | .hbm, ⟨87, _⟩ => ⟨S4096x1024, .f32⟩
  | .hbm, ⟨88, _⟩ => ⟨S4096x1024, .f32⟩
  | .hbm, ⟨89, _⟩ => ⟨S4096x1024, .f32⟩
  | .hbm, ⟨90, _⟩ => ⟨S4096x1024, .f32⟩
  | .hbm, ⟨91, _⟩ => ⟨S4096x1024, .f32⟩
  | .hbm, ⟨92, _⟩ => ⟨S_, .f32⟩
  | .hbm, ⟨93, _⟩ => ⟨S1024, .f32⟩
  | .hbm, ⟨94, _⟩ => ⟨S1x1024, .f32⟩
  | .hbm, ⟨95, _⟩ => ⟨S_, .f32⟩
  | .hbm, ⟨96, _⟩ => ⟨S1024, .f32⟩
  | .hbm, ⟨97, _⟩ => ⟨S1x1024, .f32⟩
  | .hbm, ⟨98, _⟩ => ⟨S1x1024, .f32⟩
  | .hbm, ⟨99, _⟩ => ⟨S1x1024, .f32⟩
  | .hbm, ⟨100, _⟩ => ⟨S1x1024, .f32⟩
  | .hbm, ⟨101, _⟩ => ⟨S_, .f32⟩
  | .hbm, ⟨102, _⟩ => ⟨S4x1024, .f32⟩
  | .hbm, ⟨103, _⟩ => ⟨S8x1024, .f32⟩
  | .hbm, ⟨104, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_cst_0 : Ref sig .tc := ⟨.hbm, 22, rfl⟩
abbrev main_v13 : Ref sig .tc := ⟨.hbm, 23, rfl⟩
abbrev main_v14 : Ref sig .tc := ⟨.hbm, 24, rfl⟩
abbrev main_cst_1 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_2 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_3 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_4 : Ref sig .tc := ⟨.hbm, 49, rfl⟩
abbrev main_v36 : Ref sig .tc := ⟨.hbm, 50, rfl⟩
abbrev main_v37 : Ref sig .tc := ⟨.hbm, 51, rfl⟩
abbrev main_cst_5 : Ref sig .tc := ⟨.hbm, 52, rfl⟩
abbrev main_v38 : Ref sig .tc := ⟨.hbm, 53, rfl⟩
abbrev main_v39 : Ref sig .tc := ⟨.hbm, 54, rfl⟩
abbrev main_cst_6 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_cst_7 : Ref sig .tc := ⟨.hbm, 60, rfl⟩
abbrev main_v44 : Ref sig .tc := ⟨.hbm, 61, rfl⟩
abbrev main_v45 : Ref sig .tc := ⟨.hbm, 62, rfl⟩
abbrev main_cst_8 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_cst_9 : Ref sig .tc := ⟨.hbm, 68, rfl⟩
abbrev main_v50 : Ref sig .tc := ⟨.hbm, 69, rfl⟩
abbrev main_v51 : Ref sig .tc := ⟨.hbm, 70, rfl⟩
abbrev main_cst_10 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_cst_11 : Ref sig .tc := ⟨.hbm, 78, rfl⟩
abbrev main_v58 : Ref sig .tc := ⟨.hbm, 79, rfl⟩
abbrev main_v59 : Ref sig .tc := ⟨.hbm, 80, rfl⟩
abbrev main_cst_12 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_cst_13 : Ref sig .tc := ⟨.hbm, 92, rfl⟩
abbrev main_v70 : Ref sig .tc := ⟨.hbm, 93, rfl⟩
abbrev main_v71 : Ref sig .tc := ⟨.hbm, 94, rfl⟩
abbrev main_cst_14 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_cst_15 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩

abbrev nD : Nat := 1
abbrev τ : Topo := Topo.v7x

variable {F : FTy → Type} [FloatOps F]
-- ==== Kernel5.lean ====
abbrev S256x1024 : Shape := ⟨2, ![256, 1024]⟩
abbrev S4096x1024 : Shape := ⟨2, ![4096, 1024]⟩
abbrev S6144 : Shape := ⟨1, ![6144]⟩
abbrev S1024 : Shape := ⟨1, ![1024]⟩
abbrev S1024x3072 : Shape := ⟨2, ![1024, 3072]⟩
abbrev S4352x3072 : Shape := ⟨2, ![4352, 3072]⟩
abbrev S1024x8x384 : Shape := ⟨3, ![1024, 8, 384]⟩
abbrev S8x1024x384 : Shape := ⟨3, ![8, 1024, 384]⟩
abbrev S1x1024 : Shape := ⟨2, ![1, 1024]⟩
abbrev S6x1024 : Shape := ⟨2, ![6, 1024]⟩
abbrev S2x1024 : Shape := ⟨2, ![2, 1024]⟩
abbrev S8x1024 : Shape := ⟨2, ![8, 1024]⟩
abbrev S256x3072 : Shape := ⟨2, ![256, 3072]⟩
abbrev S3072x1024 : Shape := ⟨2, ![3072, 1024]⟩
abbrev S1x1024x384 : Shape := ⟨3, ![1, 1024, 384]⟩
abbrev S1024x384 : Shape := ⟨2, ![1024, 384]⟩
abbrev S384x1024 : Shape := ⟨2, ![384, 1024]⟩
abbrev S256 : Shape := ⟨1, ![256]⟩
abbrev S256x1 : Shape := ⟨2, ![256, 1]⟩

abbrev nBuf : Space → Nat
  | .hbm => 19
  | .vmem => 15
  | .smem => 0
  | _ => 0

abbrev bufTy : (tb : Table) → Fin (tcTables nBuf tb) → BufTy
  | .hbm, ⟨0, _⟩ => ⟨S256x1024, .f32⟩
  | .hbm, ⟨1, _⟩ => ⟨S4096x1024, .f32⟩
  | .hbm, ⟨2, _⟩ => ⟨S6144, .f32⟩
  | .hbm, ⟨3, _⟩ => ⟨S6144, .f32⟩
  | .hbm, ⟨4, _⟩ => ⟨S1024, .f32⟩
  | .hbm, ⟨5, _⟩ => ⟨S1024x3072, .f32⟩
  | .hbm, ⟨6, _⟩ => ⟨S4096x1024, .f32⟩
  | .hbm, ⟨7, _⟩ => ⟨S4352x3072, .f32⟩
  | .hbm, ⟨8, _⟩ => ⟨S1024x3072, .bf16⟩
  | .hbm, ⟨9, _⟩ => ⟨S1024x8x384, .bf16⟩
  | .hbm, ⟨10, _⟩ => ⟨S8x1024x384, .bf16⟩
  | .hbm, ⟨11, _⟩ => ⟨S4352x3072, .bf16⟩
  | .hbm, ⟨12, _⟩ => ⟨S1x1024, .f32⟩
  | .hbm, ⟨13, _⟩ => ⟨S6x1024, .f32⟩
  | .hbm, ⟨14, _⟩ => ⟨S2x1024, .f32⟩
  | .hbm, ⟨15, _⟩ => ⟨S6x1024, .f32⟩
  | .hbm, ⟨16, _⟩ => ⟨S8x1024, .f32⟩
  | .hbm, ⟨17, _⟩ => ⟨S4096x1024, .f32⟩
  | .hbm, ⟨18, _⟩ => ⟨S8x1024, .f32⟩
  | .local _ .vmem, ⟨0, _⟩ => ⟨S256x3072, .bf16⟩
  | .local _ .vmem, ⟨1, _⟩ => ⟨S256x3072, .bf16⟩
  | .local _ .vmem, ⟨2, _⟩ => ⟨S8x1024x384, .bf16⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S1x1024, .f32⟩
  | .local _ .vmem, ⟨10, _⟩ => ⟨S8x1024, .f32⟩
  | .local _ .vmem, ⟨11, _⟩ => ⟨S256x1024, .f32⟩
  | .local _ .vmem, ⟨12, _⟩ => ⟨S256x1024, .f32⟩
  | .local _ .vmem, ⟨13, _⟩ => ⟨S8x1024, .f32⟩
  | .local _ .vmem, ⟨14, _⟩ => ⟨S3072x1024, .bf16⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9_0 : Ref sig .tc := ⟨.hbm, 17, rfl⟩
abbrev main_v9_1 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13

abbrev nD : Nat := 1
abbrev τ : Topo := Topo.v7x

variable {F : FTy → Type} [FloatOps F]

abbrev grid0 : Pipeline.Grid := ⟨1, ![17], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let v0 : BitVec 32 := Scalar.minsi arg0 c0_i32
  let c0_i32_0 : BitVec 32 := 0#32
  let c0_i32_1 : BitVec 32 := 0#32
  ![v0.toNat, c0_i32_0.toNat]

def cc0_transform_3 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_4 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x1024x384 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S8x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Reference5Ideal.lean ====
abbrev S256x1024 : Shape := ⟨2, ![256, 1024]⟩
abbrev S4096x1024 : Shape := ⟨2, ![4096, 1024]⟩
abbrev S6144 : Shape := ⟨1, ![6144]⟩
abbrev S1024 : Shape := ⟨1, ![1024]⟩
abbrev S1024x3072 : Shape := ⟨2, ![1024, 3072]⟩
abbrev S4352x3072 : Shape := ⟨2, ![4352, 3072]⟩
abbrev S_ : Shape := ⟨0, ![]⟩
abbrev S256 : Shape := ⟨1, ![256]⟩
abbrev S256x1 : Shape := ⟨2, ![256, 1]⟩
abbrev S1x1024 : Shape := ⟨2, ![1, 1024]⟩
abbrev S4096 : Shape := ⟨1, ![4096]⟩
abbrev S4096x1 : Shape := ⟨2, ![4096, 1]⟩
abbrev S256x3072 : Shape := ⟨2, ![256, 3072]⟩
abbrev S4096x3072 : Shape := ⟨2, ![4096, 3072]⟩
abbrev S3x1024 : Shape := ⟨2, ![3, 1024]⟩
abbrev S8x1024 : Shape := ⟨2, ![8, 1024]⟩

abbrev nBuf : Space → Nat
  | .hbm => 147
  | .vmem => 0
  | .smem => 0
  | _ => 0

abbrev hbmTy0_0 (i : Nat) : BufTy := match i % 128 with
  | 0 => ⟨S256x1024, .f32⟩
  | 1 => ⟨S4096x1024, .f32⟩
  | 2 => ⟨S6144, .f32⟩
  | 3 => ⟨S6144, .f32⟩
  | 4 => ⟨S1024, .f32⟩
  | 5 => ⟨S1024x3072, .f32⟩
  | 6 => ⟨S4096x1024, .f32⟩
  | 7 => ⟨S4352x3072, .f32⟩
  | 8 => ⟨S1024, .f32⟩
  | 9 => ⟨S1024, .f32⟩
  | 10 => ⟨S1024, .f32⟩
  | 11 => ⟨S1024, .f32⟩
  | 12 => ⟨S1024, .f32⟩
  | 13 => ⟨S1024, .f32⟩
  | 14 => ⟨S1024, .f32⟩
  | 15 => ⟨S1024, .f32⟩
  | 16 => ⟨S1024, .f32⟩
  | 17 => ⟨S1024, .f32⟩
  | 18 => ⟨S1024, .f32⟩
  | 19 => ⟨S1024, .f32⟩
  | 20 => ⟨S256x1024, .f32⟩
  | 21 => ⟨S_, .f32⟩
  | 22 => ⟨S256, .f32⟩
  | 23 => ⟨S256x1, .f32⟩
  | 24 => ⟨S_, .f32⟩
  | 25 => ⟨S256x1, .f32⟩
  | 26 => ⟨S256x1, .f32⟩
  | 27 => ⟨S_, .f32⟩
  | 28 => ⟨S256x1, .f32⟩
  | 29 => ⟨S256x1, .f32⟩
  | 30 => ⟨S256x1, .f32⟩
  | 31 => ⟨S256x1024, .f32⟩
  | 32 => ⟨S256x1024, .f32⟩
  | 33 => ⟨S1x1024, .f32⟩
  | 34 => ⟨S256x1024, .f32⟩
  | 35 => ⟨S256x1024, .f32⟩
  | 36 => ⟨S_, .f32⟩
  | 37 => ⟨S1024, .f32⟩
  | 38 => ⟨S1024, .f32⟩
  | 39 => ⟨S1x1024, .f32⟩
  | 40 => ⟨S256x1024, .f32⟩
  | 41 => ⟨S256x1024, .f32⟩
  | 42 => ⟨S1x1024, .f32⟩
  | 43 => ⟨S256x1024, .f32⟩
  | 44 => ⟨S256x1024, .f32⟩
  | 45 => ⟨S4096x1024, .f32⟩
  | 46 => ⟨S_, .f32⟩
  | 47 => ⟨S4096, .f32⟩
  | 48 => ⟨S4096x1, .f32⟩
  | 49 => ⟨S_, .f32⟩
  | 50 => ⟨S4096x1, .f32⟩
  | 51 => ⟨S4096x1, .f32⟩
  | 52 => ⟨S_, .f32⟩
  | 53 => ⟨S4096x1, .f32⟩
  | 54 => ⟨S4096x1, .f32⟩
  | 55 => ⟨S4096x1, .f32⟩
  | 56 => ⟨S4096x1, .f32⟩
  | 57 => ⟨S_, .f32⟩
  | 58 => ⟨S4096x1, .f32⟩
  | 59 => ⟨S4096x1, .f32⟩
  | 60 => ⟨S4096x1024, .f32⟩
  | 61 => ⟨S4096x1024, .f32⟩
  | 62 => ⟨S1x1024, .f32⟩
  | 63 => ⟨S4096x1024, .f32⟩
  | 64 => ⟨S4096x1024, .f32⟩
  | 65 => ⟨S_, .f32⟩
  | 66 => ⟨S1024, .f32⟩
  | 67 => ⟨S1024, .f32⟩
  | 68 => ⟨S1x1024, .f32⟩
  | 69 => ⟨S4096x1024, .f32⟩
  | 70 => ⟨S4096x1024, .f32⟩
  | 71 => ⟨S1x1024, .f32⟩
  | 72 => ⟨S4096x1024, .f32⟩
  | 73 => ⟨S4096x1024, .f32⟩
  | 74 => ⟨S256x3072, .f32⟩
  | 75 => ⟨S4096x3072, .f32⟩
  | 76 => ⟨S256x3072, .f32⟩
  | 77 => ⟨S4096x3072, .f32⟩
  | 78 => ⟨S4096x1024, .f32⟩
  | 79 => ⟨S256x1024, .f32⟩
  | 80 => ⟨S_, .f32⟩
  | 81 => ⟨S1024, .f32⟩
  | 82 => ⟨S1x1024, .f32⟩
  | 83 => ⟨S_, .f32⟩
  | 84 => ⟨S1024, .f32⟩
  | 85 => ⟨S4096x1024, .f32⟩
  | 86 => ⟨S_, .f32⟩
  | 87 => ⟨S1024, .f32⟩
  | 88 => ⟨S1x1024, .f32⟩
  | 89 => ⟨S4096x1024, .f32⟩
  | 90 => ⟨S4096x1024, .f32⟩
  | 91 => ⟨S_, .f32⟩
  | 92 => ⟨S1024, .f32⟩
  | 93 => ⟨S4096x1024, .f32⟩
  | 94 => ⟨S_, .f32⟩
  | 95 => ⟨S1024, .f32⟩
  | 96 => ⟨S1x1024, .f32⟩
  | 97 => ⟨S4096x1024, .f32⟩
  | 98 => ⟨S4096x1024, .f32⟩
  | 99 => ⟨S_, .f32⟩
  | 100 => ⟨S1024, .f32⟩
  | 101 => ⟨S4096x1024, .f32⟩
  | 102 => ⟨S_, .f32⟩
  | 103 => ⟨S4096, .f32⟩
  | 104 => ⟨S4096x1, .f32⟩
  | 105 => ⟨S4096x1024, .f32⟩
  | 106 => ⟨S4096x1024, .f32⟩
  | 107 => ⟨S4096x1024, .f32⟩
  | 108 => ⟨S4096x1, .f32⟩
  | 109 => ⟨S_, .f32⟩
  | 110 => ⟨S4096x1, .f32⟩
  | 111 => ⟨S4096x1, .f32⟩
  | 112 => ⟨S_, .f32⟩
  | 113 => ⟨S4096, .f32⟩
  | 114 => ⟨S4096x1024, .f32⟩
  | 115 => ⟨S4096x1024, .f32⟩
  | 116 => ⟨S4096x1024, .f32⟩
  | 117 => ⟨S4096x1024, .f32⟩
  | 118 => ⟨S4096x1024, .f32⟩
  | 119 => ⟨S_, .f32⟩
  | 120 => ⟨S1024, .f32⟩
  | 121 => ⟨S1x1024, .f32⟩
  | 122 => ⟨S_, .f32⟩
  | 123 => ⟨S1024, .f32⟩
  | 124 => ⟨S256x1024, .f32⟩
  | 125 => ⟨S_, .f32⟩
  | 126 => ⟨S1024, .f32⟩
  | 127 => ⟨S1x1024, .f32⟩
  | _ => ⟨S256x1024, .f32⟩

abbrev hbmTy0_1 (i : Nat) : BufTy := match i % 128 with
  | 0 => ⟨S256x1024, .f32⟩
  | 1 => ⟨S256x1024, .f32⟩
  | 2 => ⟨S_, .f32⟩
  | 3 => ⟨S1024, .f32⟩
  | 4 => ⟨S256x1024, .f32⟩
  | 5 => ⟨S_, .f32⟩
  | 6 => ⟨S1024, .f32⟩
  | 7 => ⟨S1x1024, .f32⟩
  | 8 => ⟨S_, .f32⟩
  | 9 => ⟨S1024, .f32⟩
  | 10 => ⟨S1024, .f32⟩
  | 11 => ⟨S1x1024, .f32⟩
  | 12 => ⟨S1x1024, .f32⟩
  | 13 => ⟨S1x1024, .f32⟩
  | 14 => ⟨S1x1024, .f32⟩
  | 15 => ⟨S1x1024, .f32⟩
  | 16 => ⟨S_, .f32⟩
  | 17 => ⟨S3x1024, .f32⟩
  | 18 => ⟨S8x1024, .f32⟩
  | _ => ⟨S256x1024, .f32⟩

abbrev hbmTy (i : Nat) : BufTy := match i / 128 with
  | 0 => hbmTy0_0 i
  | 1 => hbmTy0_1 i
  | _ => ⟨S256x1024, .f32⟩

abbrev bufTy : (tb : Table) → Fin (tcTables nBuf tb) → BufTy
  | .hbm, ⟨i, _⟩ => hbmTy i
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst : Ref sig .tc := ⟨.hbm, 21, rfl⟩
abbrev main_v13 : Ref sig .tc := ⟨.hbm, 22, rfl⟩
abbrev main_v14 : Ref sig .tc := ⟨.hbm, 23, rfl⟩
abbrev main_cst_0 : Ref sig .tc := ⟨.hbm, 24, rfl⟩
abbrev main_v15 : Ref sig .tc := ⟨.hbm, 25, rfl⟩
abbrev main_v16 : Ref sig .tc := ⟨.hbm, 26, rfl⟩
abbrev main_cst_1 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_2 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_3 : Ref sig .tc := ⟨.hbm, 46, rfl⟩
abbrev main_v34 : Ref sig .tc := ⟨.hbm, 47, rfl⟩
abbrev main_v35 : Ref sig .tc := ⟨.hbm, 48, rfl⟩
abbrev main_cst_4 : Ref sig .tc := ⟨.hbm, 49, rfl⟩
abbrev main_v36 : Ref sig .tc := ⟨.hbm, 50, rfl⟩
abbrev main_v37 : Ref sig .tc := ⟨.hbm, 51, rfl⟩
abbrev main_cst_5 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_cst_6 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_cst_7 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_cst_8 : Ref sig .tc := ⟨.hbm, 80, rfl⟩
abbrev main_v63 : Ref sig .tc := ⟨.hbm, 81, rfl⟩
abbrev main_v64 : Ref sig .tc := ⟨.hbm, 82, rfl⟩
abbrev main_cst_9 : Ref sig .tc := ⟨.hbm, 83, rfl⟩
abbrev main_v65 : Ref sig .tc := ⟨.hbm, 84, rfl⟩
abbrev main_v66 : Ref sig .tc := ⟨.hbm, 85, rfl⟩
abbrev main_cst_10 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_cst_11 : Ref sig .tc := ⟨.hbm, 91, rfl⟩
abbrev main_v71 : Ref sig .tc := ⟨.hbm, 92, rfl⟩
abbrev main_v72 : Ref sig .tc := ⟨.hbm, 93, rfl⟩
abbrev main_cst_12 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_cst_13 : Ref sig .tc := ⟨.hbm, 99, rfl⟩
abbrev main_v77 : Ref sig .tc := ⟨.hbm, 100, rfl⟩
abbrev main_v78 : Ref sig .tc := ⟨.hbm, 101, rfl⟩
abbrev main_cst_14 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_cst_15 : Ref sig .tc := ⟨.hbm, 109, rfl⟩
abbrev main_v85 : Ref sig .tc := ⟨.hbm, 110, rfl⟩
abbrev main_v86 : Ref sig .tc := ⟨.hbm, 111, rfl⟩
abbrev main_cst_16 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_cst_17 : Ref sig .tc := ⟨.hbm, 119, rfl⟩
abbrev main_v93 : Ref sig .tc := ⟨.hbm, 120, rfl⟩
abbrev main_v94 : Ref sig .tc := ⟨.hbm, 121, rfl⟩
abbrev main_cst_18 : Ref sig .tc := ⟨.hbm, 122, rfl⟩
abbrev main_v95 : Ref sig .tc := ⟨.hbm, 123, rfl⟩
abbrev main_v96 : Ref sig .tc := ⟨.hbm, 124, rfl⟩
abbrev main_cst_19 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_cst_20 : Ref sig .tc := ⟨.hbm, 130, rfl⟩
abbrev main_v101 : Ref sig .tc := ⟨.hbm, 131, rfl⟩
abbrev main_v102 : Ref sig .tc := ⟨.hbm, 132, rfl⟩
abbrev main_cst_21 : Ref sig .tc := ⟨.hbm, 133, rfl⟩
abbrev main_v103 : Ref sig .tc := ⟨.hbm, 134, rfl⟩
abbrev main_v104 : Ref sig .tc := ⟨.hbm, 135, rfl⟩
abbrev main_cst_22 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev main_v111 : Ref sig .tc := ⟨.hbm, 143, rfl⟩
abbrev main_cst_23 : Ref sig .tc := ⟨.hbm, 144, rfl⟩
abbrev main_v112 : Ref sig .tc := ⟨.hbm, 145, rfl⟩
abbrev main_v113 : Ref sig .tc := ⟨.hbm, 146, rfl⟩

abbrev nD : Nat := 1
abbrev τ : Topo := Topo.v7x

variable {F : FTy → Type} [FloatOps F]
-- ==== Kernel6.lean ====
abbrev S4096x4096 : Shape := ⟨2, ![4096, 4096]⟩
abbrev S4096x1024 : Shape := ⟨2, ![4096, 1024]⟩
abbrev S1024 : Shape := ⟨1, ![1024]⟩
abbrev S6144 : Shape := ⟨1, ![6144]⟩
abbrev S_ : Shape := ⟨0, ![]⟩
abbrev S1x4096x1024 : Shape := ⟨3, ![1, 4096, 1024]⟩
abbrev S1x1024 : Shape := ⟨2, ![1, 1024]⟩
abbrev S6x1024 : Shape := ⟨2, ![6, 1024]⟩
abbrev S2x1024 : Shape := ⟨2, ![2, 1024]⟩
abbrev S8x1024 : Shape := ⟨2, ![8, 1024]⟩
abbrev S1024x4096 : Shape := ⟨2, ![1024, 4096]⟩
abbrev S512x4096 : Shape := ⟨2, ![512, 4096]⟩
abbrev S512x1024 : Shape := ⟨2, ![512, 1024]⟩
abbrev S1024x512 : Shape := ⟨2, ![1024, 512]⟩
abbrev S512 : Shape := ⟨1, ![512]⟩
abbrev S512x1 : Shape := ⟨2, ![512, 1]⟩

abbrev nBuf : Space → Nat
  | .hbm => 22
  | .vmem => 16
  | .smem => 0
  | _ => 0

abbrev bufTy : (tb : Table) → Fin (tcTables nBuf tb) → BufTy
  | .hbm, ⟨0, _⟩ => ⟨S4096x4096, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S1024, .f32⟩
  | .hbm, ⟨5, _⟩ => ⟨S6144, .f32⟩
  | .hbm, ⟨6, _⟩ => ⟨S6144, .f32⟩
  | .hbm, ⟨7, _⟩ => ⟨S_, .f32⟩
  | .hbm, ⟨8, _⟩ => ⟨S4096x4096, .f32⟩
  | .hbm, ⟨9, _⟩ => ⟨S4096x4096, .f32⟩
  | .hbm, ⟨10, _⟩ => ⟨S4096x4096, .bf16⟩
  | .hbm, ⟨11, _⟩ => ⟨S4096x1024, .bf16⟩
  | .hbm, ⟨12, _⟩ => ⟨S1x4096x1024, .bf16⟩
  | .hbm, ⟨13, _⟩ => ⟨S1x1024, .f32⟩
  | .hbm, ⟨14, _⟩ => ⟨S6x1024, .f32⟩
  | .hbm, ⟨15, _⟩ => ⟨S2x1024, .f32⟩
  | .hbm, ⟨16, _⟩ => ⟨S6x1024, .f32⟩
  | .hbm, ⟨17, _⟩ => ⟨S8x1024, .f32⟩
  | .hbm, ⟨18, _⟩ => ⟨S4096x1024, .f32⟩
  | .hbm, ⟨19, _⟩ => ⟨S4096x1024, .bf16⟩
  | .hbm, ⟨20, _⟩ => ⟨S1024x4096, .bf16⟩
  | .hbm, ⟨21, _⟩ => ⟨S8x1024, .f32⟩
  | .local _ .vmem, ⟨0, _⟩ => ⟨S512x4096, .bf16⟩
  | .local _ .vmem, ⟨1, _⟩ => ⟨S512x4096, .bf16⟩
  | .local _ .vmem, ⟨2, _⟩ => ⟨S1x4096x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S8x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | .local _ .vmem, ⟨13, _⟩ => ⟨S1024x512, .bf16⟩
  | .local _ .vmem, ⟨14, _⟩ => ⟨S1024x512, .bf16⟩
  | .local _ .vmem, ⟨15, _⟩ => ⟨S8x1024, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10_0 : Ref sig .tc := ⟨.hbm, 18, rfl⟩
abbrev main_v10_1 : Ref sig .tc := ⟨.hbm, 19, rfl⟩
abbrev main_v10_2 : Ref sig .tc := ⟨.hbm, 20, rfl⟩
abbrev main_v10_3 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S8x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Reference6Ideal.lean ====
abbrev S4096x4096 : Shape := ⟨2, ![4096, 4096]⟩
abbrev S4096x1024 : Shape := ⟨2, ![4096, 1024]⟩
abbrev S1024 : Shape := ⟨1, ![1024]⟩
abbrev S6144 : Shape := ⟨1, ![6144]⟩
abbrev S_ : Shape := ⟨0, ![]⟩
abbrev S1x1024 : Shape := ⟨2, ![1, 1024]⟩
abbrev S4096 : Shape := ⟨1, ![4096]⟩
abbrev S4096x1 : Shape := ⟨2, ![4096, 1]⟩
abbrev S5x1024 : Shape := ⟨2, ![5, 1024]⟩
abbrev S8x1024 : Shape := ⟨2, ![8, 1024]⟩
abbrev S1024x4096 : Shape := ⟨2, ![1024, 4096]⟩

abbrev nBuf : Space → Nat
  | .hbm => 131
  | .vmem => 0
  | .smem => 0
  | _ => 0

abbrev hbmTy0_0 (i : Nat) : BufTy := match i % 128 with
  | 0 => ⟨S4096x4096, .f32⟩
  | 1 => ⟨S4096x1024, .f32⟩
  | 2 => ⟨S4096x1024, .f32⟩
  | 3 => ⟨S4096x1024, .f32⟩
  | 4 => ⟨S1024, .f32⟩
  | 5 => ⟨S6144, .f32⟩
  | 6 => ⟨S6144, .f32⟩
  | 7 => ⟨S_, .f32⟩
  | 8 => ⟨S4096x4096, .f32⟩
  | 9 => ⟨S4096x4096, .f32⟩
  | 10 => ⟨S4096x4096, .f32⟩
  | 11 => ⟨S4096x1024, .f32⟩
  | 12 => ⟨S1024, .f32⟩
  | 13 => ⟨S1024, .f32⟩
  | 14 => ⟨S1024, .f32⟩
  | 15 => ⟨S1024, .f32⟩
  | 16 => ⟨S1024, .f32⟩
  | 17 => ⟨S1024, .f32⟩
  | 18 => ⟨S1x1024, .f32⟩
  | 19 => ⟨S4096x1024, .f32⟩
  | 20 => ⟨S4096x1024, .f32⟩
  | 21 => ⟨S4096x1024, .f32⟩
  | 22 => ⟨S4096x1024, .f32⟩
  | 23 => ⟨S_, .f32⟩
  | 24 => ⟨S4096, .f32⟩
  | 25 => ⟨S4096x1, .f32⟩
  | 26 => ⟨S_, .f32⟩
  | 27 => ⟨S4096x1, .f32⟩
  | 28 => ⟨S4096x1, .f32⟩
  | 29 => ⟨S_, .f32⟩
  | 30 => ⟨S4096x1, .f32⟩
  | 31 => ⟨S4096x1, .f32⟩
  | 32 => ⟨S4096x1, .f32⟩
  | 33 => ⟨S4096x1, .f32⟩
  | 34 => ⟨S_, .f32⟩
  | 35 => ⟨S4096x1, .f32⟩
  | 36 => ⟨S4096x1, .f32⟩
  | 37 => ⟨S4096x1024, .f32⟩
  | 38 => ⟨S4096x1024, .f32⟩
  | 39 => ⟨S1x1024, .f32⟩
  | 40 => ⟨S4096x1024, .f32⟩
  | 41 => ⟨S4096x1024, .f32⟩
  | 42 => ⟨S4096x1024, .f32⟩
  | 43 => ⟨S4096x1024, .f32⟩
  | 44 => ⟨S_, .f32⟩
  | 45 => ⟨S4096x1024, .f32⟩
  | 46 => ⟨S4096x1024, .f32⟩
  | 47 => ⟨S_, .f32⟩
  | 48 => ⟨S4096, .f32⟩
  | 49 => ⟨S_, .f32⟩
  | 50 => ⟨S4096, .f32⟩
  | 51 => ⟨S4096, .f32⟩
  | 52 => ⟨S_, .f32⟩
  | 53 => ⟨S_, .f32⟩
  | 54 => ⟨S_, .f32⟩
  | 55 => ⟨S_, .f32⟩
  | 56 => ⟨S_, .f32⟩
  | 57 => ⟨S_, .f32⟩
  | 58 => ⟨S_, .f32⟩
  | 59 => ⟨S4096, .f32⟩
  | 60 => ⟨S_, .f32⟩
  | 61 => ⟨S4096, .f32⟩
  | 62 => ⟨S4096, .f32⟩
  | 63 => ⟨S4096x1024, .f32⟩
  | 64 => ⟨S4096x1024, .f32⟩
  | 65 => ⟨S4096x1024, .f32⟩
  | 66 => ⟨S_, .f32⟩
  | 67 => ⟨S1024, .f32⟩
  | 68 => ⟨S1x1024, .f32⟩
  | 69 => ⟨S4096x1024, .f32⟩
  | 70 => ⟨S4096x1024, .f32⟩
  | 71 => ⟨S_, .f32⟩
  | 72 => ⟨S1024, .f32⟩
  | 73 => ⟨S4096x1024, .f32⟩
  | 74 => ⟨S_, .f32⟩
  | 75 => ⟨S4096, .f32⟩
  | 76 => ⟨S4096x1, .f32⟩
  | 77 => ⟨S4096x1024, .f32⟩
  | 78 => ⟨S4096x1024, .f32⟩
  | 79 => ⟨S4096x1, .f32⟩
  | 80 => ⟨S_, .f32⟩
  | 81 => ⟨S4096x1, .f32⟩
  | 82 => ⟨S4096x1, .f32⟩
  | 83 => ⟨S_, .f32⟩
  | 84 => ⟨S4096, .f32⟩
  | 85 => ⟨S4096x1024, .f32⟩
  | 86 => ⟨S4096x1024, .f32⟩
  | 87 => ⟨S4096x1024, .f32⟩
  | 88 => ⟨S4096x1024, .f32⟩
  | 89 => ⟨S4096x1024, .f32⟩
  | 90 => ⟨S4096x1024, .f32⟩
  | 91 => ⟨S4096x1024, .f32⟩
  | 92 => ⟨S4096x1024, .f32⟩
  | 93 => ⟨S_, .f32⟩
  | 94 => ⟨S1024, .f32⟩
  | 95 => ⟨S1x1024, .f32⟩
  | 96 => ⟨S_, .f32⟩
  | 97 => ⟨S1024, .f32⟩
  | 98 => ⟨S1x1024, .f32⟩
  | 99 => ⟨S4096x1024, .f32⟩
  | 100 => ⟨S4096x1024, .f32⟩
  | 101 => ⟨S4096x1024, .f32⟩
  | 102 => ⟨S4096x1024, .f32⟩
  | 103 => ⟨S_, .f32⟩
  | 104 => ⟨S4096, .f32⟩
  | 105 => ⟨S4096x1, .f32⟩
  | 106 => ⟨S_, .f32⟩
  | 107 => ⟨S4096x1, .f32⟩
  | 108 => ⟨S4096x1, .f32⟩
  | 109 => ⟨S_, .f32⟩
  | 110 => ⟨S4096x1, .f32⟩
  | 111 => ⟨S4096x1, .f32⟩
  | 112 => ⟨S4096x1, .f32⟩
  | 113 => ⟨S4096x1024, .f32⟩
  | 114 => ⟨S4096x1024, .f32⟩
  | 115 => ⟨S1x1024, .f32⟩
  | 116 => ⟨S4096x1024, .f32⟩
  | 117 => ⟨S4096x1024, .f32⟩
  | 118 => ⟨S4096x1024, .f32⟩
  | 119 => ⟨S4096x1024, .f32⟩
  | 120 => ⟨S1x1024, .f32⟩
  | 121 => ⟨S1x1024, .f32⟩
  | 122 => ⟨S_, .f32⟩
  | 123 => ⟨S1024, .f32⟩
  | 124 => ⟨S1x1024, .f32⟩
  | 125 => ⟨S_, .f32⟩
  | 126 => ⟨S5x1024, .f32⟩
  | 127 => ⟨S8x1024, .f32⟩
  | _ => ⟨S4096x4096, .f32⟩

abbrev hbmTy0_1 (i : Nat) : BufTy := match i % 128 with
  | 0 => ⟨S4096x1024, .bf16⟩
  | 1 => ⟨S1024x4096, .f32⟩
  | 2 => ⟨S1024x4096, .bf16⟩
  | _ => ⟨S4096x4096, .f32⟩

abbrev hbmTy (i : Nat) : BufTy := match i / 128 with
  | 0 => hbmTy0_0 i
  | 1 => hbmTy0_1 i
  | _ => ⟨S4096x4096, .f32⟩

abbrev bufTy : (tb : Table) → Fin (tcTables nBuf tb) → BufTy
  | .hbm, ⟨i, _⟩ => hbmTy i
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_cst : Ref sig .tc := ⟨.hbm, 7, rfl⟩
abbrev main_call0_v0 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst : Ref sig .tc := ⟨.hbm, 23, rfl⟩
abbrev main_v14 : Ref sig .tc := ⟨.hbm, 24, rfl⟩
abbrev main_v15 : Ref sig .tc := ⟨.hbm, 25, rfl⟩
abbrev main_cst_0 : Ref sig .tc := ⟨.hbm, 26, rfl⟩
abbrev main_v16 : Ref sig .tc := ⟨.hbm, 27, rfl⟩
abbrev main_v17 : Ref sig .tc := ⟨.hbm, 28, rfl⟩
abbrev main_cst_1 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_2 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_3 : Ref sig .tc := ⟨.hbm, 44, rfl⟩
abbrev main_v31 : Ref sig .tc := ⟨.hbm, 45, rfl⟩
abbrev main_v32 : Ref sig .tc := ⟨.hbm, 46, rfl⟩
abbrev main_cst_4 : Ref sig .tc := ⟨.hbm, 47, rfl⟩
abbrev main_v33 : Ref sig .tc := ⟨.hbm, 48, rfl⟩
abbrev main_cst_5 : Ref sig .tc := ⟨.hbm, 49, rfl⟩
abbrev main_v34 : Ref sig .tc := ⟨.hbm, 50, rfl⟩
abbrev main_v35 : Ref sig .tc := ⟨.hbm, 51, rfl⟩
abbrev main_cst_6 : Ref sig .tc := ⟨.hbm, 52, rfl⟩
abbrev main_v36 : Ref sig .tc := ⟨.hbm, 53, rfl⟩
abbrev main_cst_7 : Ref sig .tc := ⟨.hbm, 54, rfl⟩
abbrev main_v37 : Ref sig .tc := ⟨.hbm, 55, rfl⟩
abbrev main_cst_8 : Ref sig .tc := ⟨.hbm, 56, rfl⟩
abbrev main_cst_9 : Ref sig .tc := ⟨.hbm, 57, rfl⟩
abbrev main_v38 : Ref sig .tc := ⟨.hbm, 58, rfl⟩
abbrev main_v39 : Ref sig .tc := ⟨.hbm, 59, rfl⟩
abbrev main_cst_10 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_cst_11 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_cst_12 : Ref sig .tc := ⟨.hbm, 71, rfl⟩
abbrev main_v49 : Ref sig .tc := ⟨.hbm, 72, rfl⟩
abbrev main_v50 : Ref sig .tc := ⟨.hbm, 73, rfl⟩
abbrev main_cst_13 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_cst_14 : Ref sig .tc := ⟨.hbm, 80, rfl⟩
abbrev main_v56 : Ref sig .tc := ⟨.hbm, 81, rfl⟩
abbrev main_v57 : Ref sig .tc := ⟨.hbm, 82, rfl⟩
abbrev main_cst_15 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_cst_16 : Ref sig .tc := ⟨.hbm, 93, rfl⟩
abbrev main_v67 : Ref sig .tc := ⟨.hbm, 94, rfl⟩
abbrev main_v68 : Ref sig .tc := ⟨.hbm, 95, rfl⟩
abbrev main_cst_17 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_cst_18 : Ref sig .tc := ⟨.hbm, 103, rfl⟩
abbrev main_v75 : Ref sig .tc := ⟨.hbm, 104, rfl⟩
abbrev main_v76 : Ref sig .tc := ⟨.hbm, 105, rfl⟩
abbrev main_cst_19 : Ref sig .tc := ⟨.hbm, 106, rfl⟩
abbrev main_v77 : Ref sig .tc := ⟨.hbm, 107, rfl⟩
abbrev main_v78 : Ref sig .tc := ⟨.hbm, 108, rfl⟩
abbrev main_cst_20 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_cst_21 : Ref sig .tc := ⟨.hbm, 122, rfl⟩
abbrev main_v91 : Ref sig .tc := ⟨.hbm, 123, rfl⟩
abbrev main_v92 : Ref sig .tc := ⟨.hbm, 124, rfl⟩
abbrev main_cst_22 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩

abbrev nD : Nat := 1
abbrev τ : Topo := Topo.v7x

variable {F : FTy → Type} [FloatOps F]
-- ==== Kernel7.lean ====
abbrev S4352x512 : Shape := ⟨2, ![4352, 512]⟩
abbrev S4352x1536 : Shape := ⟨2, ![4352, 1536]⟩
abbrev S1024x1024 : Shape := ⟨2, ![1024, 1024]⟩
abbrev S4096x1024 : Shape := ⟨2, ![4096, 1024]⟩
abbrev S1x1024x1024 : Shape := ⟨3, ![1, 1024, 1024]⟩
abbrev S256x1024 : Shape := ⟨2, ![256, 1024]⟩
abbrev S256x512 : Shape := ⟨2, ![256, 512]⟩
abbrev S256x128 : Shape := ⟨2, ![256, 128]⟩
abbrev S256 : Shape := ⟨1, ![256]⟩
abbrev S256x1 : Shape := ⟨2, ![256, 1]⟩

abbrev nBuf : Space → Nat
  | .hbm => 14
  | .vmem => 25
  | .smem => 0
  | _ => 0

abbrev bufTy : (tb : Table) → Fin (tcTables nBuf tb) → BufTy
  | .hbm, ⟨0, _⟩ => ⟨S4352x512, .f32⟩
  | .hbm, ⟨1, _⟩ => ⟨S4352x512, .f32⟩
  | .hbm, ⟨2, _⟩ => ⟨S4352x1536, .f32⟩
  | .hbm, ⟨3, _⟩ => ⟨S4352x512, .f32⟩
  | .hbm, ⟨4, _⟩ => ⟨S4352x512, .f32⟩
  | .hbm, ⟨5, _⟩ => ⟨S1024x1024, .f32⟩
  | .hbm, ⟨6, _⟩ => ⟨S4096x1024, .f32⟩
  | .hbm, ⟨7, _⟩ => ⟨S1024x1024, .bf16⟩
  | .hbm, ⟨8, _⟩ => ⟨S1x1024x1024, .bf16⟩
  | .hbm, ⟨9, _⟩ => ⟨S4096x1024, .bf16⟩
  | .hbm, ⟨10, _⟩ => ⟨S4352x512, .bf16⟩
  | .hbm, ⟨11, _⟩ => ⟨S4352x512, .bf16⟩
  | .hbm, ⟨12, _⟩ => ⟨S4352x512, .bf16⟩
  | .hbm, ⟨13, _⟩ => ⟨S4352x512, .f32⟩
  | .local _ .vmem, ⟨0, _⟩ => ⟨S256x1024, .bf16⟩
  | .local _ .vmem, ⟨1, _⟩ => ⟨S256x1024, .bf16⟩
  | .local _ .vmem, ⟨2, _⟩ => ⟨S1x1024x1024, .bf16⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S256x512, .f32⟩
  | .local _ .vmem, ⟨10, _⟩ => ⟨S256x512, .f32⟩
  | .local _ .vmem, ⟨11, _⟩ => ⟨S256x512, .f32⟩
  | .local _ .vmem, ⟨12, _⟩ => ⟨S256x512, .f32⟩
  | .local _ .vmem, ⟨13, _⟩ => ⟨S256x512, .f32⟩
  | .local _ .vmem, ⟨14, _⟩ => ⟨S256x512, .f32⟩
  | .local _ .vmem, ⟨15, _⟩ => ⟨S256x512, .bf16⟩
  | .local _ .vmem, ⟨16, _⟩ => ⟨S256x512, .bf16⟩
  | .local _ .vmem, ⟨17, _⟩ => ⟨S256x512, .bf16⟩
  | .local _ .vmem, ⟨18, _⟩ => ⟨S256x512, .bf16⟩
  | .local _ .vmem, ⟨19, _⟩ => ⟨S256x512, .bf16⟩
  | .local _ .vmem, ⟨20, _⟩ => ⟨S256x512, .bf16⟩
  | .local _ .vmem, ⟨21, _⟩ => ⟨S256x512, .f32⟩
  | .local _ .vmem, ⟨22, _⟩ => ⟨S256x512, .f32⟩
  | .local _ .vmem, ⟨23, _⟩ => ⟨S1024x1024, .bf16⟩
  | .local _ .vmem, ⟨24, _⟩ => ⟨S256x1024, .f32⟩
  | _, _ => ⟨S4352x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev main_v3_2 : Ref sig .tc := ⟨.hbm, 12, rfl⟩
abbrev main_v3_3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_scratch0 : Ref sig .tc := ⟨.vmem, 23, rfl⟩
abbrev cc0_scratch1 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22

abbrev nD : Nat := 1
abbrev τ : Topo := Topo.v7x

variable {F : FTy → Type} [FloatOps F]

abbrev grid0 : Pipeline.Grid := ⟨1, ![18], ![false]⟩

def cc0_transform_0 (i : grid0.Coords) : Fin 2 → Nat :=
  let arg0 : BitVec 32 := BitVec.ofNat 32 (i 0).val
  let c16_i32 : BitVec 32 := 16#32
  let v0 : BitVec 32 := Scalar.minsi arg0 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_3 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_4 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_5 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c2_i32 : BitVec 32 := 2#32
  let c0_i32_0 : BitVec 32 := 0#32
  ![v1.toNat, c2_i32.toNat]

def cc0_transform_6 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_7 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_8 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_9 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_10 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_11 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Kernel7Ideal.lean ====
variable {F : FTy → Type} [FloatOps F] [Named F]
def κ : String → Option EReal := fun
  | "gelu3" => some ((8943 / 200000 : ℝ) : EReal)
  | "gelu9" => some ((26829 / 200000 : ℝ) : EReal)
  | _ => none
-- ==== Reference7Ideal.lean ====
abbrev S4352x512 : Shape := ⟨2, ![4352, 512]⟩
abbrev S4352x1536 : Shape := ⟨2, ![4352, 1536]⟩
abbrev S1024x1024 : Shape := ⟨2, ![1024, 1024]⟩
abbrev S4096x1024 : Shape := ⟨2, ![4096, 1024]⟩
abbrev S4096x512 : Shape := ⟨2, ![4096, 512]⟩
abbrev S_ : Shape := ⟨0, ![]⟩
abbrev S4096x4x128 : Shape := ⟨3, ![4096, 4, 128]⟩
abbrev S4096x4 : Shape := ⟨2, ![4096, 4]⟩
abbrev S4096x4x1 : Shape := ⟨3, ![4096, 4, 1]⟩

abbrev nBuf : Space → Nat
  | .hbm => 160
  | .vmem => 0
  | .smem => 0
  | _ => 0

abbrev hbmTy0_0 (i : Nat) : BufTy := match i % 128 with
  | 0 => ⟨S4352x512, .f32⟩
  | 1 => ⟨S4352x512, .f32⟩
  | 2 => ⟨S4352x1536, .f32⟩
  | 3 => ⟨S4352x512, .f32⟩
  | 4 => ⟨S4352x512, .f32⟩
  | 5 => ⟨S1024x1024, .f32⟩
  | 6 => ⟨S4096x1024, .f32⟩
  | 7 => ⟨S4352x512, .f32⟩
  | 8 => ⟨S4352x512, .f32⟩
  | 9 => ⟨S4352x512, .f32⟩
  | 10 => ⟨S4352x512, .f32⟩
  | 11 => ⟨S4096x512, .f32⟩
  | 12 => ⟨S4096x512, .f32⟩
  | 13 => ⟨S4096x512, .f32⟩
  | 14 => ⟨S4096x512, .f32⟩
  | 15 => ⟨S4096x512, .f32⟩
  | 16 => ⟨S4096x512, .f32⟩
  | 17 => ⟨S_, .f32⟩
  | 18 => ⟨S4096x512, .f32⟩
  | 19 => ⟨S4096x512, .f32⟩
  | 20 => ⟨S_, .f32⟩
  | 21 => ⟨S4096x512, .f32⟩
  | 22 => ⟨S4096x512, .f32⟩
  | 23 => ⟨S_, .f32⟩
  | 24 => ⟨S4096x512, .f32⟩
  | 25 => ⟨S4096x512, .f32⟩
  | 26 => ⟨S4096x512, .f32⟩
  | 27 => ⟨S4096x512, .f32⟩
  | 28 => ⟨S4096x4x128, .f32⟩
  | 29 => ⟨S_, .f32⟩
  | 30 => ⟨S4096x4, .f32⟩
  | 31 => ⟨S4096x4x1, .f32⟩
  | 32 => ⟨S_, .f32⟩
  | 33 => ⟨S4096x4x1, .f32⟩
  | 34 => ⟨S4096x4x1, .f32⟩
  | 35 => ⟨S4096x4x128, .f32⟩
  | 36 => ⟨S4096x4x128, .f32⟩
  | 37 => ⟨S4096x4x128, .f32⟩
  | 38 => ⟨S_, .f32⟩
  | 39 => ⟨S4096x4, .f32⟩
  | 40 => ⟨S4096x4x1, .f32⟩
  | 41 => ⟨S_, .f32⟩
  | 42 => ⟨S4096x4x1, .f32⟩
  | 43 => ⟨S4096x4x1, .f32⟩
  | 44 => ⟨S_, .f32⟩
  | 45 => ⟨S4096x4x1, .f32⟩
  | 46 => ⟨S4096x4x1, .f32⟩
  | 47 => ⟨S4096x4x1, .f32⟩
  | 48 => ⟨S4096x4x1, .f32⟩
  | 49 => ⟨S_, .f32⟩
  | 50 => ⟨S4096x4x1, .f32⟩
  | 51 => ⟨S4096x4x1, .f32⟩
  | 52 => ⟨S4096x4x128, .f32⟩
  | 53 => ⟨S4096x4x128, .f32⟩
  | 54 => ⟨S4096x512, .f32⟩
  | 55 => ⟨S4096x512, .f32⟩
  | 56 => ⟨S4096x512, .f32⟩
  | 57 => ⟨S4096x512, .f32⟩
  | 58 => ⟨S4096x512, .f32⟩
  | 59 => ⟨S_, .f32⟩
  | 60 => ⟨S4096x512, .f32⟩
  | 61 => ⟨S4096x512, .f32⟩
  | 62 => ⟨S_, .f32⟩
  | 63 => ⟨S4096x512, .f32⟩
  | 64 => ⟨S4096x512, .f32⟩
  | 65 => ⟨S_, .f32⟩
  | 66 => ⟨S4096x512, .f32⟩
  | 67 => ⟨S4096x512, .f32⟩
  | 68 => ⟨S4096x512, .f32⟩
  | 69 => ⟨S_, .f32⟩
  | 70 => ⟨S4096x512, .f32⟩
  | 71 => ⟨S4096x512, .f32⟩
  | 72 => ⟨S4096x512, .f32⟩
  | 73 => ⟨S_, .f32⟩
  | 74 => ⟨S4096x512, .f32⟩
  | 75 => ⟨S4096x512, .f32⟩
  | 76 => ⟨S_, .f32⟩
  | 77 => ⟨S4096x512, .f32⟩
  | 78 => ⟨S4096x512, .f32⟩
  | 79 => ⟨S4096x512, .f32⟩
  | 80 => ⟨S_, .f32⟩
  | 81 => ⟨S4096x512, .f32⟩
  | 82 => ⟨S4096x512, .f32⟩
  | 83 => ⟨S_, .f32⟩
  | 84 => ⟨S4096x512, .f32⟩
  | 85 => ⟨S4096x512, .f32⟩
  | 86 => ⟨S4096x512, .f32⟩
  | 87 => ⟨S4096x512, .f32⟩
  | 88 => ⟨S4096x1024, .f32⟩
  | 89 => ⟨S4096x1024, .f32⟩
  | 90 => ⟨S4096x1024, .f32⟩
  | 91 => ⟨S4096x512, .f32⟩
  | 92 => ⟨S4096x512, .f32⟩
  | 93 => ⟨S4096x512, .f32⟩
  | 94 => ⟨S4096x512, .f32⟩
  | 95 => ⟨S4096x512, .f32⟩
  | 96 => ⟨S4096x512, .f32⟩
  | 97 => ⟨S_, .f32⟩
  | 98 => ⟨S4096x512, .f32⟩
  | 99 => ⟨S4096x512, .f32⟩
  | 100 => ⟨S4096x512, .f32⟩
  | 101 => ⟨S_, .f32⟩
  | 102 => ⟨S4096x512, .f32⟩
  | 103 => ⟨S4096x512, .f32⟩
  | 104 => ⟨S4096x512, .f32⟩
  | 105 => ⟨S_, .f32⟩
  | 106 => ⟨S4096x512, .f32⟩
  | 107 => ⟨S4096x512, .f32⟩
  | 108 => ⟨S_, .f32⟩
  | 109 => ⟨S4096x512, .f32⟩
  | 110 => ⟨S4096x512, .f32⟩
  | 111 => ⟨S4096x512, .f32⟩
  | 112 => ⟨S4096x512, .f32⟩
  | 113 => ⟨S4096x512, .f32⟩
  | 114 => ⟨S4096x512, .f32⟩
  | 115 => ⟨S4096x4x128, .f32⟩
  | 116 => ⟨S4096x4x128, .f32⟩
  | 117 => ⟨S_, .f32⟩
  | 118 => ⟨S4096x4, .f32⟩
  | 119 => ⟨S4096x4x1, .f32⟩
  | 120 => ⟨S4096x4x128, .f32⟩
  | 121 => ⟨S4096x4x128, .f32⟩
  | 122 => ⟨S4096x4x1, .f32⟩
  | 123 => ⟨S_, .f32⟩
  | 124 => ⟨S4096x4x1, .f32⟩
  | 125 => ⟨S4096x4x1, .f32⟩
  | 126 => ⟨S_, .f32⟩
  | 127 => ⟨S4096x4, .f32⟩
  | _ => ⟨S4352x512, .f32⟩

abbrev hbmTy0_1 (i : Nat) : BufTy := match i % 128 with
  | 0 => ⟨S4096x4x128, .f32⟩
  | 1 => ⟨S4096x4x128, .f32⟩
  | 2 => ⟨S4096x4x128, .f32⟩
  | 3 => ⟨S4096x4x128, .f32⟩
  | 4 => ⟨S4096x4x128, .f32⟩
  | 5 => ⟨S4096x4x128, .f32⟩
  | 6 => ⟨S_, .f32⟩
  | 7 => ⟨S4096x4, .f32⟩
  | 8 => ⟨S4096x4x1, .f32⟩
  | 9 => ⟨S_, .f32⟩
  | 10 => ⟨S4096x4x1, .f32⟩
  | 11 => ⟨S4096x4x1, .f32⟩
  | 12 => ⟨S_, .f32⟩
  | 13 => ⟨S4096x4, .f32⟩
  | 14 => ⟨S4096x4x128, .f32⟩
  | 15 => ⟨S4096x4x128, .f32⟩
  | 16 => ⟨S4096x512, .f32⟩
  | 17 => ⟨S4096x512, .f32⟩
  | 18 => ⟨S4096x512, .f32⟩
  | 19 => ⟨S4096x512, .f32⟩
  | 20 => ⟨S4096x512, .f32⟩
  | 21 => ⟨S_, .f32⟩
  | 22 => ⟨S4352x512, .f32⟩
  | 23 => ⟨S_, .f32⟩
  | 24 => ⟨S4352x512, .f32⟩
  | 25 => ⟨S_, .f32⟩
  | 26 => ⟨S4352x512, .f32⟩
  | 27 => ⟨S_, .f32⟩
  | 28 => ⟨S4352x512, .f32⟩
  | 29 => ⟨S4352x512, .bf16⟩
  | 30 => ⟨S4352x512, .bf16⟩
  | 31 => ⟨S4352x512, .bf16⟩
  | _ => ⟨S4352x512, .f32⟩

abbrev hbmTy (i : Nat) : BufTy := match i / 128 with
  | 0 => hbmTy0_0 i
  | 1 => hbmTy0_1 i
  | _ => ⟨S4352x512, .f32⟩

abbrev bufTy : (tb : Table) → Fin (tcTables nBuf tb) → BufTy
  | .hbm, ⟨i, _⟩ => hbmTy i
  | _, _ => ⟨S4352x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_call0_v0 : Ref sig .tc := ⟨.hbm, 15, rfl⟩
abbrev main_call0_v1 : Ref sig .tc := ⟨.hbm, 16, rfl⟩
abbrev main_call0_cst : Ref sig .tc := ⟨.hbm, 17, rfl⟩
abbrev main_call0_v2 : Ref sig .tc := ⟨.hbm, 18, rfl⟩
abbrev main_call0_v3 : Ref sig .tc := ⟨.hbm, 19, rfl⟩
abbrev main_call0_cst_0 : Ref sig .tc := ⟨.hbm, 20, rfl⟩
abbrev main_call0_v4 : Ref sig .tc := ⟨.hbm, 21, rfl⟩
abbrev main_v8_2 : Ref sig .tc := ⟨.hbm, 22, rfl⟩
abbrev main_call0_cst_1 : Ref sig .tc := ⟨.hbm, 23, rfl⟩
abbrev main_call0_v6 : Ref sig .tc := ⟨.hbm, 24, rfl⟩
abbrev main_call0_v7 : Ref sig .tc := ⟨.hbm, 25, rfl⟩
abbrev main_v8_1 : Ref sig .tc := ⟨.hbm, 26, rfl⟩
abbrev main_v8_0 : Ref sig .tc := ⟨.hbm, 27, rfl⟩
abbrev main_v9 : Ref sig .tc := ⟨.hbm, 28, rfl⟩
abbrev main_cst : Ref sig .tc := ⟨.hbm, 29, rfl⟩
abbrev main_v10 : Ref sig .tc := ⟨.hbm, 30, rfl⟩
abbrev main_v11 : Ref sig .tc := ⟨.hbm, 31, rfl⟩
abbrev main_cst_0 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_cst_1 : Ref sig .tc := ⟨.hbm, 38, rfl⟩
abbrev main_v17 : Ref sig .tc := ⟨.hbm, 39, rfl⟩
abbrev main_v18 : Ref sig .tc := ⟨.hbm, 40, rfl⟩
abbrev main_cst_2 : Ref sig .tc := ⟨.hbm, 41, rfl⟩
abbrev main_v19 : Ref sig .tc := ⟨.hbm, 42, rfl⟩
abbrev main_v20 : Ref sig .tc := ⟨.hbm, 43, rfl⟩
abbrev main_cst_3 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_cst_4 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_cst_5 : Ref sig .tc := ⟨.hbm, 59, rfl⟩
abbrev main_v34 : Ref sig .tc := ⟨.hbm, 60, rfl⟩
abbrev main_v35 : Ref sig .tc := ⟨.hbm, 61, rfl⟩
abbrev main_cst_6 : Ref sig .tc := ⟨.hbm, 62, rfl⟩
abbrev main_v36 : Ref sig .tc := ⟨.hbm, 63, rfl⟩
abbrev main_v37 : Ref sig .tc := ⟨.hbm, 64, rfl⟩
abbrev main_cst_7 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_cst_8 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_cst_9 : Ref sig .tc := ⟨.hbm, 73, rfl⟩
abbrev main_v44 : Ref sig .tc := ⟨.hbm, 74, rfl⟩
abbrev main_v45 : Ref sig .tc := ⟨.hbm, 75, rfl⟩
abbrev main_cst_10 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_cst_11 : Ref sig .tc := ⟨.hbm, 80, rfl⟩
abbrev main_v49 : Ref sig .tc := ⟨.hbm, 81, rfl⟩
abbrev main_v50 : Ref sig .tc := ⟨.hbm, 82, rfl⟩
abbrev main_cst_12 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_cst_13 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_cst_14 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_cst_15 : Ref sig .tc := ⟨.hbm, 105, rfl⟩
abbrev main_v70 : Ref sig .tc := ⟨.hbm, 106, rfl⟩
abbrev main_v71 : Ref sig .tc := ⟨.hbm, 107, rfl⟩
abbrev main_cst_16 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_cst_17 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_cst_18 : Ref sig .tc := ⟨.hbm, 123, rfl⟩
abbrev main_v85 : Ref sig .tc := ⟨.hbm, 124, rfl⟩
abbrev main_v86 : Ref sig .tc := ⟨.hbm, 125, rfl⟩
abbrev main_cst_19 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_cst_20 : Ref sig .tc := ⟨.hbm, 134, rfl⟩
abbrev main_v94 : Ref sig .tc := ⟨.hbm, 135, rfl⟩
abbrev main_v95 : Ref sig .tc := ⟨.hbm, 136, rfl⟩
abbrev main_cst_21 : Ref sig .tc := ⟨.hbm, 137, rfl⟩
abbrev main_v96 : Ref sig .tc := ⟨.hbm, 138, rfl⟩
abbrev main_v97 : Ref sig .tc := ⟨.hbm, 139, rfl⟩
abbrev main_cst_22 : Ref sig .tc := ⟨.hbm, 140, rfl⟩
abbrev main_v98 : Ref sig .tc := ⟨.hbm, 141, rfl⟩
abbrev main_v99 : Ref sig .tc := ⟨.hbm, 142, rfl⟩
abbrev main_v100 : Ref sig .tc := ⟨.hbm, 143, rfl⟩
abbrev main_v101 : Ref sig .tc := ⟨.hbm, 144, rfl⟩
abbrev main_call1_v0 : Ref sig .tc := ⟨.hbm, 145, rfl⟩
abbrev main_call1_v1 : Ref sig .tc := ⟨.hbm, 146, rfl⟩
abbrev main_call1_v2 : Ref sig .tc := ⟨.hbm, 147, rfl⟩
abbrev main_v102 : Ref sig .tc := ⟨.hbm, 148, rfl⟩
abbrev main_cst_23 : Ref sig .tc := ⟨.hbm, 149, rfl⟩
abbrev main_v103 : Ref sig .tc := ⟨.hbm, 150, rfl⟩
abbrev main_cst_24 : Ref sig .tc := ⟨.hbm, 151, rfl⟩
abbrev main_v104 : Ref sig .tc := ⟨.hbm, 152, rfl⟩
abbrev main_cst_25 : Ref sig .tc := ⟨.hbm, 153, rfl⟩
abbrev main_v105 : Ref sig .tc := ⟨.hbm, 154, rfl⟩
abbrev main_cst_26 : Ref sig .tc := ⟨.hbm, 155, rfl⟩
abbrev main_v106 : Ref sig .tc := ⟨.hbm, 156, rfl⟩
abbrev main_v107 : Ref sig .tc := ⟨.hbm, 157, rfl⟩
abbrev main_v108 : Ref sig .tc := ⟨.hbm, 158, rfl⟩
abbrev main_v109 : Ref sig .tc := ⟨.hbm, 159, rfl⟩

abbrev nD : Nat := 1
abbrev τ : Topo := Topo.v7x

variable {F : FTy → Type} [FloatOps F]
-- ==== Kernel8.lean ====
abbrev S256x1024 : Shape := ⟨2, ![256, 1024]⟩
abbrev S4096x1024 : Shape := ⟨2, ![4096, 1024]⟩
abbrev S6144 : Shape := ⟨1, ![6144]⟩
abbrev S1024 : Shape := ⟨1, ![1024]⟩
abbrev S1x1024 : Shape := ⟨2, ![1, 1024]⟩
abbrev S6x1024 : Shape := ⟨2, ![6, 1024]⟩
abbrev S2x1024 : Shape := ⟨2, ![2, 1024]⟩
abbrev S8x1024 : Shape := ⟨2, ![8, 1024]⟩
abbrev S4352x1024 : Shape := ⟨2, ![4352, 1024]⟩
abbrev S1024x4352 : Shape := ⟨2, ![1024, 4352]⟩
abbrev S1024x256 : Shape := ⟨2, ![1024, 256]⟩
abbrev S256 : Shape := ⟨1, ![256]⟩
abbrev S256x1 : Shape := ⟨2, ![256, 1]⟩

abbrev nBuf : Space → Nat
  | .hbm => 12
  | .vmem => 10
  | .smem => 0
  | _ => 0

abbrev bufTy : (tb : Table) → Fin (tcTables nBuf tb) → BufTy
  | .hbm, ⟨0, _⟩ => ⟨S256x1024, .f32⟩
  | .hbm, ⟨1, _⟩ => ⟨S4096x1024, .f32⟩
  | .hbm, ⟨2, _⟩ => ⟨S6144, .f32⟩
  | .hbm, ⟨3, _⟩ => ⟨S6144, .f32⟩
  | .hbm, ⟨4, _⟩ => ⟨S1024, .f32⟩
  | .hbm, ⟨5, _⟩ => ⟨S1x1024, .f32⟩
  | .hbm, ⟨6, _⟩ => ⟨S6x1024, .f32⟩
  | .hbm, ⟨7, _⟩ => ⟨S2x1024, .f32⟩
  | .hbm, ⟨8, _⟩ => ⟨S6x1024, .f32⟩
  | .hbm, ⟨9, _⟩ => ⟨S8x1024, .f32⟩
  | .hbm, ⟨10, _⟩ => ⟨S4352x1024, .bf16⟩
  | .hbm, ⟨11, _⟩ => ⟨S1024x4352, .bf16⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S8x1024, .f32⟩
  | .local _ .vmem, ⟨6, _⟩ => ⟨S256x1024, .bf16⟩
  | .local _ .vmem, ⟨7, _⟩ => ⟨S256x1024, .bf16⟩
  | .local _ .vmem, ⟨8, _⟩ => ⟨S1024x256, .bf16⟩
  | .local _ .vmem, ⟨9, _⟩ => ⟨S1024x256, .bf16⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![17], ![false]⟩

def cc0_transform_0 (i : grid0.Coords) : Fin 2 → Nat :=
  let arg0 : BitVec 32 := BitVec.ofNat 32 (i 0).val
  let c0_i32 : BitVec 32 := 0#32
  let v0 : BitVec 32 := Scalar.minsi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference8Ideal.lean ====
abbrev S256x1024 : Shape := ⟨2, ![256, 1024]⟩
abbrev S4096x1024 : Shape := ⟨2, ![4096, 1024]⟩
abbrev S6144 : Shape := ⟨1, ![6144]⟩
abbrev S1024 : Shape := ⟨1, ![1024]⟩
abbrev S_ : Shape := ⟨0, ![]⟩
abbrev S256 : Shape := ⟨1, ![256]⟩
abbrev S256x1 : Shape := ⟨2, ![256, 1]⟩
abbrev S1x1024 : Shape := ⟨2, ![1, 1024]⟩
abbrev S4096 : Shape := ⟨1, ![4096]⟩
abbrev S4096x1 : Shape := ⟨2, ![4096, 1]⟩
abbrev S4352x1024 : Shape := ⟨2, ![4352, 1024]⟩
abbrev S1024x4352 : Shape := ⟨2, ![1024, 4352]⟩

abbrev nBuf : Space → Nat
  | .hbm => 70
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S4096x1024, .f32⟩
  | .hbm, ⟨2, _⟩ => ⟨S6144, .f32⟩
  | .hbm, ⟨3, _⟩ => ⟨S6144, .f32⟩
  | .hbm, ⟨4, _⟩ => ⟨S1024, .f32⟩
  | .hbm, ⟨5, _⟩ => ⟨S1024, .f32⟩
  | .hbm, ⟨6, _⟩ => ⟨S1024, .f32⟩
  | .hbm, ⟨7, _⟩ => ⟨S1024, .f32⟩
  | .hbm, ⟨8, _⟩ => ⟨S1024, .f32⟩
  | .hbm, ⟨9, _⟩ => ⟨S1024, .f32⟩
  | .hbm, ⟨10, _⟩ => ⟨S1024, .f32⟩
  | .hbm, ⟨11, _⟩ => ⟨S1024, .f32⟩
  | .hbm, ⟨12, _⟩ => ⟨S1024, .f32⟩
  | .hbm, ⟨13, _⟩ => ⟨S1024, .f32⟩
  | .hbm, ⟨14, _⟩ => ⟨S1024, .f32⟩
  | .hbm, ⟨15, _⟩ => ⟨S1024, .f32⟩
  | .hbm, ⟨16, _⟩ => ⟨S1024, .f32⟩
  | .hbm, ⟨17, _⟩ => ⟨S256x1024, .f32⟩
  | .hbm, ⟨18, _⟩ => ⟨S_, .f32⟩
  | .hbm, ⟨19, _⟩ => ⟨S256, .f32⟩
  | .hbm, ⟨20, _⟩ => ⟨S256x1, .f32⟩
  | .hbm, ⟨21, _⟩ => ⟨S_, .f32⟩
  | .hbm, ⟨22, _⟩ => ⟨S256x1, .f32⟩
  | .hbm, ⟨23, _⟩ => ⟨S256x1, .f32⟩
  | .hbm, ⟨24, _⟩ => ⟨S_, .f32⟩
  | .hbm, ⟨25, _⟩ => ⟨S256x1, .f32⟩
  | .hbm, ⟨26, _⟩ => ⟨S256x1, .f32⟩
  | .hbm, ⟨27, _⟩ => ⟨S256x1, .f32⟩
  | .hbm, ⟨28, _⟩ => ⟨S256x1024, .f32⟩
  | .hbm, ⟨29, _⟩ => ⟨S256x1024, .f32⟩
  | .hbm, ⟨30, _⟩ => ⟨S1x1024, .f32⟩
  | .hbm, ⟨31, _⟩ => ⟨S256x1024, .f32⟩
  | .hbm, ⟨32, _⟩ => ⟨S256x1024, .f32⟩
  | .hbm, ⟨33, _⟩ => ⟨S_, .f32⟩
  | .hbm, ⟨34, _⟩ => ⟨S1024, .f32⟩
  | .hbm, ⟨35, _⟩ => ⟨S1024, .f32⟩
  | .hbm, ⟨36, _⟩ => ⟨S1x1024, .f32⟩
  | .hbm, ⟨37, _⟩ => ⟨S256x1024, .f32⟩
  | .hbm, ⟨38, _⟩ => ⟨S256x1024, .f32⟩
  | .hbm, ⟨39, _⟩ => ⟨S1x1024, .f32⟩
  | .hbm, ⟨40, _⟩ => ⟨S256x1024, .f32⟩
  | .hbm, ⟨41, _⟩ => ⟨S256x1024, .f32⟩
  | .hbm, ⟨42, _⟩ => ⟨S4096x1024, .f32⟩
  | .hbm, ⟨43, _⟩ => ⟨S_, .f32⟩
  | .hbm, ⟨44, _⟩ => ⟨S4096, .f32⟩
  | .hbm, ⟨45, _⟩ => ⟨S4096x1, .f32⟩
  | .hbm, ⟨46, _⟩ => ⟨S_, .f32⟩
  | .hbm, ⟨47, _⟩ => ⟨S4096x1, .f32⟩
  | .hbm, ⟨48, _⟩ => ⟨S4096x1, .f32⟩
  | .hbm, ⟨49, _⟩ => ⟨S_, .f32⟩
  | .hbm, ⟨50, _⟩ => ⟨S4096x1, .f32⟩
  | .hbm, ⟨51, _⟩ => ⟨S4096x1, .f32⟩
  | .hbm, ⟨52, _⟩ => ⟨S4096x1, .f32⟩
  | .hbm, ⟨53, _⟩ => ⟨S4096x1024, .f32⟩
  | .hbm, ⟨54, _⟩ => ⟨S4096x1024, .f32⟩
  | .hbm, ⟨55, _⟩ => ⟨S1x1024, .f32⟩
  | .hbm, ⟨56, _⟩ => ⟨S4096x1024, .f32⟩
  | .hbm, ⟨57, _⟩ => ⟨S4096x1024, .f32⟩
  | .hbm, ⟨58, _⟩ => ⟨S_, .f32⟩
  | .hbm, ⟨59, _⟩ => ⟨S1024, .f32⟩
  | .hbm, ⟨60, _⟩ => ⟨S1024, .f32⟩
  | .hbm, ⟨61, _⟩ => ⟨S1x1024, .f32⟩
  | .hbm, ⟨62, _⟩ => ⟨S4096x1024, .f32⟩
  | .hbm, ⟨63, _⟩ => ⟨S4096x1024, .f32⟩
  | .hbm, ⟨64, _⟩ => ⟨S1x1024, .f32⟩
  | .hbm, ⟨65, _⟩ => ⟨S4096x1024, .f32⟩
  | .hbm, ⟨66, _⟩ => ⟨S4096x1024, .f32⟩
  | .hbm, ⟨67, _⟩ => ⟨S4352x1024, .f32⟩
  | .hbm, ⟨68, _⟩ => ⟨S4352x1024, .bf16⟩
  | .hbm, ⟨69, _⟩ => ⟨S1024x4352, .bf16⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst : Ref sig .tc := ⟨.hbm, 18, rfl⟩
abbrev main_v13 : Ref sig .tc := ⟨.hbm, 19, rfl⟩
abbrev main_v14 : Ref sig .tc := ⟨.hbm, 20, rfl⟩
abbrev main_cst_0 : Ref sig .tc := ⟨.hbm, 21, rfl⟩
abbrev main_v15 : Ref sig .tc := ⟨.hbm, 22, rfl⟩
abbrev main_v16 : Ref sig .tc := ⟨.hbm, 23, rfl⟩
abbrev main_cst_1 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_2 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_cst_3 : Ref sig .tc := ⟨.hbm, 43, rfl⟩
abbrev main_v34 : Ref sig .tc := ⟨.hbm, 44, rfl⟩
abbrev main_v35 : Ref sig .tc := ⟨.hbm, 45, rfl⟩
abbrev main_cst_4 : Ref sig .tc := ⟨.hbm, 46, rfl⟩
abbrev main_v36 : Ref sig .tc := ⟨.hbm, 47, rfl⟩
abbrev main_v37 : Ref sig .tc := ⟨.hbm, 48, rfl⟩
abbrev main_cst_5 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_cst_6 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩

abbrev nD : Nat := 1
abbrev τ : Topo := Topo.v7x

variable {F : FTy → Type} [FloatOps F]
-- ==== Kernel9.lean ====
abbrev S4096x1024 : Shape := ⟨2, ![4096, 1024]⟩
abbrev S1024x1024 : Shape := ⟨2, ![1024, 1024]⟩
abbrev S6144 : Shape := ⟨1, ![6144]⟩
abbrev S1024 : Shape := ⟨1, ![1024]⟩
abbrev S1x1024x1024 : Shape := ⟨3, ![1, 1024, 1024]⟩
abbrev S1x1024 : Shape := ⟨2, ![1, 1024]⟩
abbrev S6x1024 : Shape := ⟨2, ![6, 1024]⟩
abbrev S2x1024 : Shape := ⟨2, ![2, 1024]⟩
abbrev S8x1024 : Shape := ⟨2, ![8, 1024]⟩
abbrev S1024x4096 : Shape := ⟨2, ![1024, 4096]⟩
abbrev S512x1024 : Shape := ⟨2, ![512, 1024]⟩
abbrev S1024x512 : Shape := ⟨2, ![1024, 512]⟩
abbrev S512 : Shape := ⟨1, ![512]⟩
abbrev S512x1 : Shape := ⟨2, ![512, 1]⟩

abbrev nBuf : Space → Nat
  | .hbm => 18
  | .vmem => 15
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S6144, .f32⟩
  | .hbm, ⟨4, _⟩ => ⟨S6144, .f32⟩
  | .hbm, ⟨5, _⟩ => ⟨S1024, .f32⟩
  | .hbm, ⟨6, _⟩ => ⟨S4096x1024, .bf16⟩
  | .hbm, ⟨7, _⟩ => ⟨S1024x1024, .bf16⟩
  | .hbm, ⟨8, _⟩ => ⟨S1x1024x1024, .bf16⟩
  | .hbm, ⟨9, _⟩ => ⟨S1x1024, .f32⟩
  | .hbm, ⟨10, _⟩ => ⟨S6x1024, .f32⟩
  | .hbm, ⟨11, _⟩ => ⟨S2x1024, .f32⟩
  | .hbm, ⟨12, _⟩ => ⟨S6x1024, .f32⟩
  | .hbm, ⟨13, _⟩ => ⟨S8x1024, .f32⟩
  | .hbm, ⟨14, _⟩ => ⟨S4096x1024, .f32⟩
  | .hbm, ⟨15, _⟩ => ⟨S4096x1024, .f32⟩
  | .hbm, ⟨16, _⟩ => ⟨S4096x1024, .bf16⟩
  | .hbm, ⟨17, _⟩ => ⟨S1024x4096, .bf16⟩
  | .local _ .vmem, ⟨0, _⟩ => ⟨S512x1024, .bf16⟩
  | .local _ .vmem, ⟨1, _⟩ => ⟨S512x1024, .bf16⟩
  | .local _ .vmem, ⟨2, _⟩ => ⟨S1x1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S8x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | .local _ .vmem, ⟨13, _⟩ => ⟨S1024x512, .bf16⟩
  | .local _ .vmem, ⟨14, _⟩ => ⟨S1024x512, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8_0 : Ref sig .tc := ⟨.hbm, 14, rfl⟩
abbrev main_v8_1 : Ref sig .tc := ⟨.hbm, 15, rfl⟩
abbrev main_v8_2 : Ref sig .tc := ⟨.hbm, 16, rfl⟩
abbrev main_v8_3 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference9Ideal.lean ====
abbrev S4096x1024 : Shape := ⟨2, ![4096, 1024]⟩
abbrev S1024x1024 : Shape := ⟨2, ![1024, 1024]⟩
abbrev S6144 : Shape := ⟨1, ![6144]⟩
abbrev S1024 : Shape := ⟨1, ![1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024x4096 : Shape := ⟨2, ![1024, 4096]⟩

abbrev nBuf : Space → Nat
  | .hbm => 44
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S6144, .f32⟩
  | .hbm, ⟨4, _⟩ => ⟨S6144, .f32⟩
  | .hbm, ⟨5, _⟩ => ⟨S1024, .f32⟩
  | .hbm, ⟨6, _⟩ => ⟨S1024, .f32⟩
  | .hbm, ⟨7, _⟩ => ⟨S1024, .f32⟩
  | .hbm, ⟨8, _⟩ => ⟨S1024, .f32⟩
  | .hbm, ⟨9, _⟩ => ⟨S1024, .f32⟩
  | .hbm, ⟨10, _⟩ => ⟨S1024, .f32⟩
  | .hbm, ⟨11, _⟩ => ⟨S1024, .f32⟩
  | .hbm, ⟨12, _⟩ => ⟨S4096x1024, .f32⟩
  | .hbm, ⟨13, _⟩ => ⟨S1x1024, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S_, .f32⟩
  | .hbm, ⟨19, _⟩ => ⟨S4096, .f32⟩
  | .hbm, ⟨20, _⟩ => ⟨S4096x1, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S_, .f32⟩
  | .hbm, ⟨25, _⟩ => ⟨S4096x1, .f32⟩
  | .hbm, ⟨26, _⟩ => ⟨S4096x1, .f32⟩
  | .hbm, ⟨27, _⟩ => ⟨S4096x1, .f32⟩
  | .hbm, ⟨28, _⟩ => ⟨S4096x1024, .f32⟩
  | .hbm, ⟨29, _⟩ => ⟨S4096x1024, .f32⟩
  | .hbm, ⟨30, _⟩ => ⟨S1x1024, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S1024, .f32⟩
  | .hbm, ⟨35, _⟩ => ⟨S1024, .f32⟩
  | .hbm, ⟨36, _⟩ => ⟨S1x1024, .f32⟩
  | .hbm, ⟨37, _⟩ => ⟨S4096x1024, .f32⟩
  | .hbm, ⟨38, _⟩ => ⟨S4096x1024, .f32⟩
  | .hbm, ⟨39, _⟩ => ⟨S1x1024, .f32⟩
  | .hbm, ⟨40, _⟩ => ⟨S4096x1024, .f32⟩
  | .hbm, ⟨41, _⟩ => ⟨S4096x1024, .f32⟩
  | .hbm, ⟨42, _⟩ => ⟨S4096x1024, .bf16⟩
  | .hbm, ⟨43, _⟩ => ⟨S1024x4096, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst : Ref sig .tc := ⟨.hbm, 18, rfl⟩
abbrev main_v12 : Ref sig .tc := ⟨.hbm, 19, rfl⟩
abbrev main_v13 : Ref sig .tc := ⟨.hbm, 20, rfl⟩
abbrev main_cst_0 : Ref sig .tc := ⟨.hbm, 21, rfl⟩
abbrev main_v14 : Ref sig .tc := ⟨.hbm, 22, rfl⟩
abbrev main_v15 : Ref sig .tc := ⟨.hbm, 23, rfl⟩
abbrev main_cst_1 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_2 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩

abbrev nD : Nat := 1
abbrev τ : Topo := Topo.v7x

variable {F : FTy → Type} [FloatOps F]
-- ==== Proof.Mlp.lean ====
module

public import proofs.«01_k».proof.Proof.Gen.KernelIdeal.Value
public import proofs.«01_k».proof.Proof.Gen.ReferenceIdeal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KernelIdeal.Mlp
open Cert.KernelIdeal Cert.KernelIdeal.Gen

variable (m : (ℓ : Loc nD τ sig) → Buf (Elt Ideal) ℓ)

/-- Every window's block index at a grid point. -/
theorem idx : ∀ t : Fin cfg0.N, win0_0.index t = ![t.val, 0] ∧ win0_1.index t = ![0, 0, 0]
    ∧ win0_2.index t = ![t.val, 0] ∧ win0_3.index t = ![t.val, 0] :=
  (by decide +kernel : ∀ t : Fin grid0.N, _)

/-- The weights' block is the whole array at every point. -/
theorem iblk1 (c : Dev nD) (t : Fin cfg0.N) : iblk m c 1 t = V m c main_v4 := by blk_ext! [iblk, idx t]

/-- The scratch holds, after every point, the transposed weights the first point put there. -/
theorem scratch (c : Dev nD) : ∀ (n : ℕ) (hn : n < cfg0.N),
    (outsAt0 m c n hn).2 = k0_pay1 (V m c main_v4)
  | 0, hn => by
    rw [outsAt0_A m c ⟨0, hn⟩ rfl]; frame_out; rw [iblk1]
  | n + 1, hn => by
    have hN : n + 1 < 8 := lt_of_lt_of_eq hn N_0
    rw [outsAt0_B m c ⟨n + 1, hn⟩ (by simp only; omega)]
    exact scratch c n (Nat.lt_of_succ_lt hn)

/-- What point `t` leaves in the result's block. -/
theorem block (c : Dev nD) (t : Fin cfg0.N) : (outsAt0 m c t.val t.isLt).1
    = k0_pay2 (iblk m c 0 t) (k0_pay1 (V m c main_v4)) (iblk m c 2 t) := by
  by_cases h : t.val % 8 = 0
  · rw [outsAt0_A m c t h]; frame_out
    rw [iblk1]
  · rw [outsAt0_B m c t h]; frame_out
    rw [scratch m c]
    exact congrArg (fun x => k0_pay2 (iblk m c 0 t) x (iblk m c 2 t)) ((Memref.isWhole_whole _).read_unread _)

/-- A square's gradient is selected where its argument is positive, and is zero by itself elsewhere. -/
theorem relu_mul (u x y : EReal) : (if 0 < u then x * (y * max u 0) else 0) = x * (y * max u 0) := by
  by_cases h : 0 < u
  · rw [if_pos h]
  · rw [if_neg h, max_eq_right (not_lt.mp h), mul_zero, mul_zero]

/-- The gradient as the reference spells it. -/
abbrev REF (U : FVec Ideal S4096x4096 .f32) (W : FVec Ideal S4096x1024 .f32) (D : FVec Ideal S4096x1024 .f32) :
    FVec Ideal S4096x4096 .bf16 :=
  truncf .bf16 (select (cmpf .ogt U (broadcastInDim S4096x4096 ![] Cert.ReferenceIdeal.Gen.bcast_S_S4096x4096 (constant S_ .f32 0x00000000#32))) (mulf (Host.dotGeneral Cert.ReferenceIdeal.dot_S4096x1024_S4096x1024_S4096x4096_1_1_0_0_n_n none D W) (mulf (broadcastInDim S4096x4096 ![] Cert.ReferenceIdeal.Gen.bcast_S_S4096x4096 (constant S_ .f32 0x40000000#32)) (maximumf U (broadcastInDim S4096x4096 ![] Cert.ReferenceIdeal.Gen.bcast_S_S4096x4096 (constant S_ .f32 0x00000000#32))))) (broadcastInDim S4096x4096 ![] Cert.ReferenceIdeal.Gen.bcast_S_S4096x4096 (constant S_ .f32 0x00000000#32))) Cert.ReferenceIdeal.Gen.bitsLt_bf16_f32

/-- The saved activation is the positive part of `u`. -/
theorem saved (c : Dev nD) (i : S4096x4096.Idx) :
    V m c main_v2 i = max (show EReal from m ((c : Thread nD τ).loc main_arg0) i) 0 := by
  entry_read
  pointwise

/-- The kernel's result array is the gradient. -/
theorem final (c : Dev nD) : (dats m 0 c).arrAt 3 (cfgs 0).N
    = REF (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3, block]
  pointwise [k0_pay1, k0_pay2, REF]
  rw [relu_mul]
  blk_point [iblk, idx t]
  exact congrArg (Ideal.ofBits FTy.f32 1073741824#32 * ·) ((saved m c _).trans
    (congrArg (fun i => max (show EReal from m ((c : Thread nD τ).loc main_arg0) i) 0) (by blk_ext [idx t])))

end Cert.KernelIdeal.Mlp
end
-- ==== Proof.RetFrame.lean ====
/-
The frame of the retention backward call `ret_bwd` (idealized program), for any values: its one pipelined region has 34 grid
points and carries three scratch arrays from one point to the next — the gradient of the carried state (`st`), the table of
decays (`dec`) and the masked distances (`rel`), the last two written at the first point only — and one output block
(`dl`, the gradient of the decay rates) that every point adds to. Each point's run of the body is the one found by symbolic
execution (`kernelRun0_A` at the first point, `kernelRun0_B` at the others); here its pieces are read back as contents
(`Left`), the contents are chained over the points (`outs`), and the launch theorem is applied.
-/
module

public import proofs.«01_k».proof.Proof.Gen.Kernel2Ideal.Frame.RunA
public import proofs.«01_k».proof.Proof.Gen.Kernel2Ideal.Frame.RunB
public import Idealize.ShloMosaic.Lib.Claim

@[expose] public section

set_option maxRecDepth 16384

noncomputable section

namespace Cert.Kernel2Ideal.Ret

open Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What a grid point leaves: the six blocks of gradients, the accumulated gradient of the rates, the three scratch arrays. -/
structure Left (F : FTy → Type) where
  dq0 : Vec F S128x512 .bf16
  dk0 : Vec F S128x512 .bf16
  dv0 : Vec F S128x512 .bf16
  dq1 : Vec F S128x512 .bf16
  dk1 : Vec F S128x512 .bf16
  dv1 : Vec F S128x512 .bf16
  dl : Vec F S8x1024 .f32
  st : Vec F S2x4x128x128 .f32
  dec : Vec F S2x4x5x128x128 .f32
  rel : Vec F S2x128x128 .f32

/-- The body's run at the first point. -/
abbrev runA (c : Dev nD) (t : Fin cfg0.N) (h : t.val = 0) :=
  kernelRun0_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t)
    scM0_0 (Memref.isWhole_whole _) scM0_1 (Memref.isWhole_whole _) scM0_2 (Memref.isWhole_whole _) ((hcond0_0 t).mpr (by rw [h])) (iblk m c 0 t) (iblk m c 1 t) (iblk m c 2 t) (iblk m c 3 t) (iblk m c 4 t) (iblk m c 5 t) (iblk m c 6 t) (iblk m c 7 t) (iblk m c 8 t) (iblk m c 9 t) (iblk m c 10 t)

theorem not_first (t : Fin cfg0.N) (h : t.val ≠ 0) : ¬ cond0_0 (grid0.coords t) := fun hc => by
  have := (hcond0_0 t).mp hc; have : t.val < 34 := lt_of_lt_of_eq t.isLt (show cfg0.N = 34 from N_0); omega

/-- The body's run at a later point, which finds `p`. -/
abbrev runB (c : Dev nD) (t : Fin cfg0.N) (h : t.val ≠ 0) (p : Left F) :=
  kernelRun0_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t)
    scM0_0 (Memref.isWhole_whole _) scM0_1 (Memref.isWhole_whole _) scM0_2 (Memref.isWhole_whole _) (not_first t h) (iblk m c 0 t) (iblk m c 1 t) (iblk m c 2 t) (iblk m c 3 t) (iblk m c 4 t) (iblk m c 5 t) (iblk m c 6 t) (iblk m c 7 t) (iblk m c 8 t) (iblk m c 9 t) (iblk m c 10 t) p.dl p.st p.dec p.rel

/-- What the first point leaves. -/
def leftA (c : Dev nD) (t : Fin cfg0.N) (h : t.val = 0) : Left F where
  dq0 := VO0_11.read (Elt F) (VO0_11.writes (Elt F) VO0_11.junk (runA m c t h).1)
  dk0 := VO0_12.read (Elt F) (VO0_12.writes (Elt F) VO0_12.junk (runA m c t h).2.1)
  dv0 := VO0_13.read (Elt F) (VO0_13.writes (Elt F) VO0_13.junk (runA m c t h).2.2.1)
  dq1 := VO0_14.read (Elt F) (VO0_14.writes (Elt F) VO0_14.junk (runA m c t h).2.2.2.1)
  dk1 := VO0_15.read (Elt F) (VO0_15.writes (Elt F) VO0_15.junk (runA m c t h).2.2.2.2.1)
  dv1 := VO0_16.read (Elt F) (VO0_16.writes (Elt F) VO0_16.junk (runA m c t h).2.2.2.2.2.1)
  dl := VO0_17.read (Elt F) (VO0_17.writes (Elt F) VO0_17.junk (runA m c t h).2.2.2.2.2.2.1)
  st := VS0_0.read (Elt F) (VS0_0.writes (Elt F) VS0_0.junk (runA m c t h).2.2.2.2.2.2.2.1)
  dec := VS0_1.read (Elt F) (VS0_1.writes (Elt F) VS0_1.junk (runA m c t h).2.2.2.2.2.2.2.2.1)
  rel := VS0_2.read (Elt F) (VS0_2.writes (Elt F) VS0_2.junk (runA m c t h).2.2.2.2.2.2.2.2.2.1)

/-- What a later point leaves: the decays and the distances as it found them. -/
def leftB (c : Dev nD) (t : Fin cfg0.N) (h : t.val ≠ 0) (p : Left F) : Left F where
  dq0 := VO0_11.read (Elt F) (VO0_11.writes (Elt F) VO0_11.junk (runB m c t h p).1)
  dk0 := VO0_12.read (Elt F) (VO0_12.writes (Elt F) VO0_12.junk (runB m c t h p).2.1)
  dv0 := VO0_13.read (Elt F) (VO0_13.writes (Elt F) VO0_13.junk (runB m c t h p).2.2.1)
  dq1 := VO0_14.read (Elt F) (VO0_14.writes (Elt F) VO0_14.junk (runB m c t h p).2.2.2.1)
  dk1 := VO0_15.read (Elt F) (VO0_15.writes (Elt F) VO0_15.junk (runB m c t h p).2.2.2.2.1)
  dv1 := VO0_16.read (Elt F) (VO0_16.writes (Elt F) VO0_16.junk (runB m c t h p).2.2.2.2.2.1)
  dl := (ms0_17 t).view.read (Elt F) ((ms0_17 t).view.writes (Elt F) ((hs0_17 t).unread p.dl) (runB m c t h p).2.2.2.2.2.2.1)
  st := VS0_0.read (Elt F) (VS0_0.writes (Elt F) VS0_0.junk (runB m c t h p).2.2.2.2.2.2.2.1)
  dec := p.dec
  rel := p.rel

/-- What each point leaves, from the first on. -/
def outs (c : Dev nD) : (n : ℕ) → n < cfg0.N → Left F
  | 0, h => leftA m c ⟨0, h⟩ rfl
  | n + 1, h => leftB m c ⟨n + 1, h⟩ (Nat.succ_ne_zero n) (outs c n (Nat.lt_of_succ_lt h))

/-- What the point before `t` leaves. -/
abbrev prev (c : Dev nD) (t : Fin cfg0.N) : Left F := outs m c (t.val - 1) (Nat.lt_of_le_of_lt (Nat.sub_le _ _) t.isLt)

theorem outs_first (c : Dev nD) (t : Fin cfg0.N) (h : t.val = 0) : outs m c t.val t.isLt = leftA m c t h := by
  obtain ⟨n, hn⟩ := t; obtain rfl : n = 0 := h; rw [outs]

theorem outs_next (c : Dev nD) (t : Fin cfg0.N) (h : t.val ≠ 0) : outs m c t.val t.isLt = leftB m c t h (prev m c t) := by
  obtain ⟨n, hn⟩ := t
  cases n with
  | zero => exact absurd rfl h
  | succ n => rw [outs, show prev m c ⟨n + 1, hn⟩ = outs m c n (Nat.lt_of_succ_lt hn) by simp only [prev, Nat.add_sub_cancel]]

/-- The scratch arrays at given contents, with the generator's register. -/
abbrev scratch (c : Dev nD) (p : Left F) : sProp 𝕄 :=
  iprop(iprop(owns (c : Thread nD τ) scM0_0 fullShare p.st ∗ owns (c : Thread nD τ) scM0_1 fullShare p.dec
    ∗ owns (c : Thread nD τ) scM0_2 fullShare p.rel) ∗ (∃ r, prngReg c r))

/-- The invariant before point `n`: nothing known of the scratch at first, then what the point before left. -/
def PhiS (c : Dev nD) : (n : ℕ) → n ≤ cfg0.N → sProp 𝕄
  | 0, _ => Pipeline.ΦA spec0 c
  | n + 1, h => scratch c (outs m c n h)

theorem PhiS_zero (c : Dev nD) (n : ℕ) (h : n ≤ cfg0.N) (hz : n = 0) : PhiS m c n h = Pipeline.ΦA spec0 c := by
  subst hz; rw [PhiS]

theorem PhiS_pos (c : Dev nD) (n : ℕ) (h : n ≤ cfg0.N) (hz : n ≠ 0) :
    PhiS m c n h = scratch c (outs m c (n - 1) (by omega)) := by
  cases n with
  | zero => exact absurd rfl hz
  | succ n => rw [PhiS]; rfl

/-- The pipeline's data: inputs at their blocks, outputs at what the point leaves. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => (outs m c t.val t.isLt).dq0
    | ⟨12, _⟩ => (outs m c t.val t.isLt).dk0
    | ⟨13, _⟩ => (outs m c t.val t.isLt).dv0
    | ⟨14, _⟩ => (outs m c t.val t.isLt).dq1
    | ⟨15, _⟩ => (outs m c t.val t.isLt).dk1
    | ⟨16, _⟩ => (outs m c t.val t.isLt).dv1
    | ⟨17, _⟩ => (outs m c t.val t.isLt).dl
    | ⟨_ + 18, h⟩ => absurd h (Nat.not_lt.2 (Nat.le_add_left _ _))
  Φ t := PhiS m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem Phi_at (c : Dev nD) (t : Fin cfg0.N) : (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = (outs m c t.val t.isLt).dq0 := by dsimp only [dats]
theorem after0_12 (c : Dev nD) (t : Fin cfg0.N) : (dats m 0 c).after 12 t = (outs m c t.val t.isLt).dk0 := by dsimp only [dats]
theorem after0_13 (c : Dev nD) (t : Fin cfg0.N) : (dats m 0 c).after 13 t = (outs m c t.val t.isLt).dv0 := by dsimp only [dats]
theorem after0_14 (c : Dev nD) (t : Fin cfg0.N) : (dats m 0 c).after 14 t = (outs m c t.val t.isLt).dq1 := by dsimp only [dats]
theorem after0_15 (c : Dev nD) (t : Fin cfg0.N) : (dats m 0 c).after 15 t = (outs m c t.val t.isLt).dk1 := by dsimp only [dats]
theorem after0_16 (c : Dev nD) (t : Fin cfg0.N) : (dats m 0 c).after 16 t = (outs m c t.val t.isLt).dv1 := by dsimp only [dats]
theorem after0_17 (c : Dev nD) (t : Fin cfg0.N) : (dats m 0 c).after 17 t = (outs m c t.val t.isLt).dl := by dsimp only [dats]

/-- A later point finds in the accumulated block what the point before left: it is written back after the last point only. -/
theorem before_dl (c : Dev nD) (t : Fin cfg0.N) (h : t.val ≠ 0) (d) : (dats m 0 c).before 17 t d = (prev m c t).dl := by
  have hN : t.val < 34 := lt_of_lt_of_eq t.isLt (show cfg0.N = 34 from N_0)
  rw [Dat.before_out_kept _ 17 rfl t h (Bool.eq_false_iff.mpr fun h => by have := (flush0_17 _).mp h; dsimp only at this; omega)
    (fun _ => rfl) (fun _ _ => rfl)]
  dsimp only [dats]

/-- Before the body at `t`: the invariant, and every window's buffer. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d)))

/-- After it. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t))

set_option maxHeartbeats 16000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0_of m (dats m 0 c) (A_eq m c 0) (after0_0 m c), before0_1_of m (dats m 0 c) (A_eq m c 1) (after0_1 m c), before0_2_of m (dats m 0 c) (A_eq m c 2) (after0_2 m c), before0_3_of m (dats m 0 c) (A_eq m c 3) (after0_3 m c), before0_4_of m (dats m 0 c) (A_eq m c 4) (after0_4 m c), before0_5_of m (dats m 0 c) (A_eq m c 5) (after0_5 m c), before0_6_of m (dats m 0 c) (A_eq m c 6) (after0_6 m c), before0_7_of m (dats m 0 c) (A_eq m c 7) (after0_7 m c), before0_8_of m (dats m 0 c) (A_eq m c 8) (after0_8 m c), before0_9_of m (dats m 0 c) (A_eq m c 9) (after0_9 m c), before0_10_of m (dats m 0 c) (A_eq m c 10) (after0_10 m c)]
  rw [show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17,
    show (dats m 0 c).Φ t.succ = scratch c (outs m c t.val t.isLt) from rfl, Phi_at]
  by_cases h0 : t.val = 0
  · rw [PhiS_zero m c _ _ h0, PhiA0_eq, outs_first m c t h0]
    dsimp only [leftA, scratch]
    iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
    iapply ((runA m c t h0).2.2.2.2.2.2.2.2.2.2 Set.univ _)
    iframe H0 H1 H2 H3 H4 H5 H6 H7 H8 H9 H10
    isplitl [H11]; · iexists _; iexact H11
    isplitl [H12]; · iexists _; iexact H12
    isplitl [H13]; · iexists _; iexact H13
    isplitl [H14]; · iexists _; iexact H14
    isplitl [H15]; · iexists _; iexact H15
    isplitl [H16]; · iexists _; iexact H16
    isplitl [H17]; · iexists _; iexact H17
    iframe HS0 HS1 HS2
    iintro ⟨H0, H1, H2, H3, H4, H5, H6, H7, H8, H9, H10, ⟨%e11, H11⟩, ⟨%e12, H12⟩, ⟨%e13, H13⟩, ⟨%e14, H14⟩, ⟨%e15, H15⟩, ⟨%e16, H16⟩, ⟨%e17, H17⟩, ⟨%es0, HS0⟩, ⟨%es1, HS1⟩, ⟨%es2, HS2⟩⟩
    iframe Ho H0 H1 H2 H3 H4 H5 H6 H7 H8 H9 H10
    isplitl [HS0 HS1 HS2 Hg]
    · iframe Hg
      isplitl [HS0]
      · unfold owns; iexists _; iframe HS0
        ipureintro; refine View.read_writes_of_cover _ _ _ _ _ fun y => ?_; exact View.cover_of_wholeMem ((runA m c t h0).2.2.2.2.2.2.2.1) (by sl_whole_mem) y
      isplitl [HS1]
      · unfold owns; iexists _; iframe HS1
        ipureintro; refine View.read_writes_of_cover _ _ _ _ _ fun y => ?_; exact View.cover_of_tiledL ((runA m c t h0).2.2.2.2.2.2.2.2.1) S1x1x1x128x128.size (by sl_kernel_rfl) y
      unfold owns; iexists _; iframe HS2
      ipureintro; refine View.read_writes_of_cover _ _ _ _ _ fun y => ?_; exact View.cover_of_tiledL ((runA m c t h0).2.2.2.2.2.2.2.2.2.1) S1x128x128.size (by sl_kernel_rfl) y
    isplitl [H11]
    · unfold owns; iexists _; iframe H11
      ipureintro; refine View.read_writes_of_cover _ _ _ _ _ fun y => ?_; exact View.cover_of_tiledL ((runA m c t h0).1) S128x128.size (by sl_kernel_rfl) y
    isplitl [H12]
    · unfold owns; iexists _; iframe H12
      ipureintro; refine View.read_writes_of_cover _ _ _ _ _ fun y => ?_; exact View.cover_of_tiledL ((runA m c t h0).2.1) S128x128.size (by sl_kernel_rfl) y
    isplitl [H13]
    · unfold owns; iexists _; iframe H13
      ipureintro; refine View.read_writes_of_cover _ _ _ _ _ fun y => ?_; exact View.cover_of_tiledL ((runA m c t h0).2.2.1) S128x128.size (by sl_kernel_rfl) y
    isplitl [H14]
    · unfold owns; iexists _; iframe H14
      ipureintro; refine View.read_writes_of_cover _ _ _ _ _ fun y => ?_; exact View.cover_of_tiledL ((runA m c t h0).2.2.2.1) S128x128.size (by sl_kernel_rfl) y
    isplitl [H15]
    · unfold owns; iexists _; iframe H15
      ipureintro; refine View.read_writes_of_cover _ _ _ _ _ fun y => ?_; exact View.cover_of_tiledL ((runA m c t h0).2.2.2.2.1) S128x128.size (by sl_kernel_rfl) y
    isplitl [H16]
    · unfold owns; iexists _; iframe H16
      ipureintro; refine View.read_writes_of_cover _ _ _ _ _ fun y => ?_; exact View.cover_of_tiledL ((runA m c t h0).2.2.2.2.2.1) S128x128.size (by sl_kernel_rfl) y
    unfold owns; iexists _; iframe H17
    ipureintro; refine View.read_writes_of_cover _ _ _ _ _ fun y => ?_; exact View.cover_of_tiledBy ((runA m c t h0).2.2.2.2.2.2.1) ![1, 128] (by sl_kernel_rfl) y
  · rw [PhiS_pos m c _ _ h0, outs_next m c t h0]
    simp only [before_dl m c t h0]
    dsimp only [leftB, scratch]
    iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
    iapply ((runB m c t h0 (prev m c t)).2.2.2.2.2.2.2.2.2.2 Set.univ _)
    iframe H0 H1 H2 H3 H4 H5 H6 H7 H8 H9 H10 H17 HS0 HS1 HS2
    isplitl [H11]; · iexists _; iexact H11
    isplitl [H12]; · iexists _; iexact H12
    isplitl [H13]; · iexists _; iexact H13
    isplitl [H14]; · iexists _; iexact H14
    isplitl [H15]; · iexists _; iexact H15
    isplitl [H16]; · iexists _; iexact H16
    iintro ⟨H0, H1, H2, H3, H4, H5, H6, H7, H8, H9, H10, ⟨%e11, H11⟩, ⟨%e12, H12⟩, ⟨%e13, H13⟩, ⟨%e14, H14⟩, ⟨%e15, H15⟩, ⟨%e16, H16⟩, H17, ⟨%es0, HS0⟩, HS1, HS2⟩
    iframe Ho H0 H1 H2 H3 H4 H5 H6 H7 H8 H9 H10
    isplitl [HS0 HS1 HS2 Hg]
    · iframe Hg HS1 HS2
      unfold owns; iexists _; iframe HS0
      ipureintro; refine View.read_writes_of_cover _ _ _ _ _ fun y => ?_; exact View.cover_of_tiledL ((runB m c t h0 (prev m c t)).2.2.2.2.2.2.2.1) S1x1x128x128.size (by sl_kernel_rfl) y
    isplitl [H11]
    · unfold owns; iexists _; iframe H11
      ipureintro; refine View.read_writes_of_cover _ _ _ _ _ fun y => ?_; exact View.cover_of_tiledL ((runB m c t h0 (prev m c t)).1) S128x128.size (by sl_kernel_rfl) y
    isplitl [H12]
    · unfold owns; iexists _; iframe H12
      ipureintro; refine View.read_writes_of_cover _ _ _ _ _ fun y => ?_; exact View.cover_of_tiledL ((runB m c t h0 (prev m c t)).2.1) S128x128.size (by sl_kernel_rfl) y
    isplitl [H13]
    · unfold owns; iexists _; iframe H13
      ipureintro; refine View.read_writes_of_cover _ _ _ _ _ fun y => ?_; exact View.cover_of_tiledL ((runB m c t h0 (prev m c t)).2.2.1) S128x128.size (by sl_kernel_rfl) y
    isplitl [H14]
    · unfold owns; iexists _; iframe H14
      ipureintro; refine View.read_writes_of_cover _ _ _ _ _ fun y => ?_; exact View.cover_of_tiledL ((runB m c t h0 (prev m c t)).2.2.2.1) S128x128.size (by sl_kernel_rfl) y
    isplitl [H15]
    · unfold owns; iexists _; iframe H15
      ipureintro; refine View.read_writes_of_cover _ _ _ _ _ fun y => ?_; exact View.cover_of_tiledL ((runB m c t h0 (prev m c t)).2.2.2.2.1) S128x128.size (by sl_kernel_rfl) y
    isplitl [H16]
    · unfold owns; iexists _; iframe H16
      ipureintro; refine View.read_writes_of_cover _ _ _ _ _ fun y => ?_; exact View.cover_of_tiledL ((runB m c t h0 (prev m c t)).2.2.2.2.2.1) S128x128.size (by sl_kernel_rfl) y
    unfold owns; iexists _; iframe H17
    ipureintro; rfl

/-- The body's obligation, in the library's spelling. -/
theorem body_obligation (c : Dev nD) : BodyObligation (dats (F := F) m 0 c) (defs₀ (F := F)) Variants.none () Set.univ := fun t => by
  rw [bigSep_W0, bigSep_W0, show defs₀ (F := F) .tc cfg0.body (cfg0.bodyArgs t (cfg0.slots t)) = bodyAt0 t by
    unfold defs₀; rw [Defs.onTc_tc]]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]

theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 34 := N_0; omega), PhiA0_eq]
  iintro ⟨⟨HS0, HS1, HS2⟩, Hg⟩
  iframe Hg
  isplitl [HS0]; · iexists _; iexact HS0
  isplitl [HS1]; · iexists _; iexact HS1
  iexists _; iexact HS2

set_option backward.isDefEq.respectTransparency.types false in
set_option maxHeartbeats 800000 in
/-- The launch: every execution ends, with the pipeline's arrays as the data say and every counter at zero. -/
theorem run_quiescent : θ_run defs (onTc (τ := τ) (main (F := F))) (s₀ m ρ) (fun r =>
    (Pipeline.FramePost cfgs (dats m) 0 (Pipeline.afterTail₀ cfgs (dats m) 0 (V0 m) [hostOps1])) r ∧ r.2.sem = fun _ => 0) :=
  Pipeline.θ_run_frame_around_track_shared (Q' := _) cfgs (dats m) (0 : Fin 1) launch₀0 defs₀ Variants.none m ρ main
    (hbody := fun c => (body_obligation m c).loose) (hq := fun _ _ _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

theorem run_main : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (run_quiescent m ρ)

/-- The frame: every execution ends, the arguments as they were and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_quiescent m ρ))

end Cert.Kernel2Ideal.Ret

end
-- ==== Proof.RetFrames.lean ====
/-
The retention call's frames: the two programs are one text, so one run serves both.
-/
module

public import proofs.«01_k».proof.Defs
public import proofs.«01_k».proof.Proof.RetFrame
public import proofs.«01_k».proof.Proof.Gen.Kernel2
public import proofs.«01_k».proof.Proof.Gen.Reference2Ideal.Run
public import Idealize.ShloMosaic.Lib.Quiescent

@[expose] public section

set_option maxRecDepth 16384

noncomputable section
namespace Cert.Proof2
open Idealize.ShloMosaic Idealize.SL.Sem

theorem defs_eq : Cert.Kernel2.defs (F := Bits) = Cert.Kernel2Ideal.defs (F := Bits) := by sl_kernel_rfl

theorem main_eq : Cert.Kernel2.main (F := Bits) = Cert.Kernel2Ideal.main (F := Bits) := by sl_kernel_rfl

theorem quiescent_Kernel2 : Cert.quiescent_Kernel2 := by
  intro m ρ _
  rw [defs_eq, main_eq]
  exact Cert.Kernel2Ideal.Ret.frame (F := Bits) m ρ

theorem quiescent_Kernel2Ideal : Cert.quiescent_Kernel2Ideal := fun m ρ _ => Cert.Kernel2Ideal.Ret.frame (F := Ideal) m ρ

theorem quiescent_Kernel2Ideal_pre [hP : Cert.Pre_retention_finite.Facts] : Cert.quiescent_Kernel2Ideal_pre_retention_finite :=
  fun m ρ _ => Cert.Kernel2Ideal.Ret.frame (F := Ideal) m ρ

theorem quiescent_Reference2Ideal : Cert.quiescent_Reference2Ideal := fun m ρ _ =>
  (θ_run Cert.Reference2Ideal.defs _ _).mono (fun r h => ⟨fun c => (h c).2.2.2.2.2.2.2, sem_eq_zero_of_no_sems (by decide) r.2⟩)
    (Cert.Reference2Ideal.Value.run (F := Ideal) m ρ)

theorem quiescent_Reference2Ideal_pre [hP : Cert.Pre_retention_finite.Facts] : Cert.quiescent_Reference2Ideal_pre_retention_finite :=
  fun m ρ _ => quiescent_Reference2Ideal m ρ trivial

end Cert.Proof2
end
-- ==== Proof.RetPre.lean ====
/-
The retention call's precondition: every element of its arguments is a real number.
-/
module

public import proofs.«01_k».proof.Pre_retention_finite
public import Idealize.ShloMosaic.Lib.Pipeline.ValueKit
public import Idealize.ShloMosaic.Lib.ReduceAll

@[expose] public section

noncomputable section
namespace Cert.Pre_retention_finite
open Idealize.ShloMosaic Idealize.ShloMosaic.TcCoe Idealize.SL.Sem

/-- The function's side conditions. -/
theorem facts : Facts := by
  constructor <;> decide +kernel

variable [Facts]
open Facts

theorem top : Ideal.ofBits FTy.f32 0x7F800000#32 = (⊤ : EReal) := by
  simp [Ideal.ofBits, Ideal.ieee]

/-- An element whose absolute value is below the infinity is a real number. -/
theorem real_of (x : EReal) (h : BitVec.ofBool (decide (max x (-x) < Ideal.ofBits FTy.f32 0x7F800000#32)) = 1#1) : ∃ r : ℝ, x = (r : EReal) := by
  have h2 : max x (-x) < ⊤ := by
    rw [← top]; by_contra hc; rw [decide_eq_false hc] at h; exact absurd h (by decide)
  induction x with
  | bot => simp at h2
  | coe r => exact ⟨r, rfl⟩
  | top => simp at h2

theorem reals {s : Shape} (hb : S_.BroadcastsInDim s (![] : Fin 0 → Fin s.rank)) {axes : List (Fin s.rank)} (hr : s.ReducesTo axes S_) (x : FVec Ideal s .f32)
    (h : Host.reduce IntOp.andi (cmpf .olt (Host.absf x) (broadcastInDim s ![] hb (constant (F := Ideal) S_ .f32 0x7F800000#32))) (constantI S_ 1 1#1) hr h_S_ ix0 = 1#1) (i : s.Idx) :
    ∃ r : ℝ, (x i : EReal) = (r : EReal) := by
  haveI : Subsingleton S_.Idx := ⟨fun a b => funext fun k => k.elim0⟩
  exact real_of _ (Host.reduce_andi_all _ _ _ _ ix0 h i)

theorem and_one (x y : IVec S_ 1) (h : andi x y ix0 = 1#1) : x ix0 = 1#1 ∧ y ix0 = 1#1 :=
  (by decide : ∀ a b : BitVec 1, a &&& b = 1#1 → a = 1#1 ∧ b = 1#1) _ _ h

/-- An array's test. -/
abbrev test {s : Shape} (hb : S_.BroadcastsInDim s (![] : Fin 0 → Fin s.rank)) {axes : List (Fin s.rank)} (hr : s.ReducesTo axes S_) (x : FVec Ideal s .f32) : IVec S_ 1 :=
  Host.reduce IntOp.andi (cmpf .olt (Host.absf x) (broadcastInDim s ![] hb (constant (F := Ideal) S_ .f32 0x7F800000#32))) (constantI S_ 1 1#1) hr h_S_

theorem all_real (x0 x1 x2 : FVec Ideal S4352x512 .f32) (x3 : FVec Ideal S2x4 .f32) (x4 : FVec Ideal S4096x512 .f32) (h : fn (F := Ideal) x0 x1 x2 x3 x4 = fun _ => 1#1) :
    (∀ i, ∃ r : ℝ, (x0 i : EReal) = (r : EReal)) ∧ (∀ i, ∃ r : ℝ, (x1 i : EReal) = (r : EReal)) ∧ (∀ i, ∃ r : ℝ, (x2 i : EReal) = (r : EReal))
      ∧ (∀ i, ∃ r : ℝ, (x3 i : EReal) = (r : EReal)) ∧ (∀ i, ∃ r : ℝ, (x4 i : EReal) = (r : EReal)) := by
  have h' : andi (andi (andi (andi (test bcast_S_S4352x512 reducesTo_S4352x512_S_d0_1 x0) (test bcast_S_S4352x512 reducesTo_S4352x512_S_d0_1 x1))
    (test bcast_S_S4352x512 reducesTo_S4352x512_S_d0_1 x2)) (test bcast_S_S2x4 reducesTo_S2x4_S_d0_1 x3)) (test bcast_S_S4096x512 reducesTo_S4096x512_S_d0_1 x4) ix0 = 1#1 := congrFun h ix0
  obtain ⟨h', h4⟩ := and_one _ _ h'
  obtain ⟨h', h3⟩ := and_one _ _ h'
  obtain ⟨h', h2⟩ := and_one _ _ h'
  obtain ⟨h0, h1⟩ := and_one _ _ h'
  exact ⟨reals bcast_S_S4352x512 reducesTo_S4352x512_S_d0_1 x0 h0, reals bcast_S_S4352x512 reducesTo_S4352x512_S_d0_1 x1 h1, reals bcast_S_S4352x512 reducesTo_S4352x512_S_d0_1 x2 h2,
    reals bcast_S_S2x4 reducesTo_S2x4_S_d0_1 x3 h3, reals bcast_S_S4096x512 reducesTo_S4096x512_S_d0_1 x4 h4⟩

end Cert.Pre_retention_finite
end
-- ==== Proof.RetPoint.lean ====
/-
What a grid point of the retention backward call leaves in its output blocks and its scratch arrays, read at an index, in
terms of the blocks it finds and of what the point before left: the formulas.
-/
module

public import proofs.«01_k».proof.Proof.RetFrame
public import Idealize.ShloMosaic.Lib.Pipeline.Value
public import Idealize.ShloMosaic.Lib.Pipeline.ValueKit
public import Idealize.ShloMosaic.Lib.Pipeline.ReadBack

@[expose] public section

set_option maxRecDepth 16384

noncomputable section

namespace Cert.Kernel2Ideal.Ret

open Cert.Kernel2Ideal.Gen
open Idealize.ShloMosaic Idealize.ShloMosaic.TcCoe Idealize.SL.Sem
open Idealize.ShloMosaic.Pipeline (Dat)

section Tiles
variable {s : Shape} {e : EltTy} {Val : EltTy → Type} [∀ e, Nonempty (Val e)]

/-- The contents left by stores of tiles, read at `y`: the last store's value where its tile holds `y`, what the earlier ones left elsewhere. -/
theorem canon_tile {off size : Fin s.rank → ℕ} {inb : ∀ a, off a + size a ≤ s.size a} {w : (Rect.unit off size inb).shape.Idx → Val e}
    {L : List (View.Piece Val s e)} {y : s.Idx} {v : Val e} (h1 : View.TileAt y off size w v)
    (h2 : ¬ (∀ a, off a ≤ y a ∧ (y a : ℕ) < off a + size a) → View.canon L y = v) :
    View.canon ((⟨Rect.unit off size inb, w⟩ : View.Piece Val s e) :: L) y = v := by
  by_cases hm : y ∈ (Rect.unit off size inb).set
  · obtain ⟨x, rfl⟩ := (Rect.unit off size inb).exists_idx_of_mem hm
    rw [show (Rect.unit off size inb).idx x = (Rect.unit off size inb).emb x from rfl, View.canon_cons_emb]
    exact h1 x fun a => by show off a + 1 * (x a : ℕ) = _; omega
  · rw [View.canon_cons_of_not_mem _ _ hm]
    exact h2 fun h => hm (Rect.mem_set_unit.mpr h)

/-- The same of stores into a view with contents `f`. -/
theorem read_tile {sig : RefSig} {κ : Kind} {sp : Space} (V : View sig κ sp s e) (f : V.ty.Contents Val)
    {off size : Fin s.rank → ℕ} {inb : ∀ a, off a + size a ≤ s.size a} {w : (Rect.unit off size inb).shape.Idx → Val e}
    {L : List (View.Piece Val s e)} {y : s.Idx} {v : Val e} (h1 : View.TileAt y off size w v)
    (h2 : ¬ (∀ a, off a ≤ y a ∧ (y a : ℕ) < off a + size a) → V.read Val (V.writes Val f L) y = v) :
    V.read Val (V.writes Val f ((⟨Rect.unit off size inb, w⟩ : View.Piece Val s e) :: L)) y = v := by
  by_cases hm : y ∈ (Rect.unit off size inb).set
  · obtain ⟨x, rfl⟩ := (Rect.unit off size inb).exists_idx_of_mem hm
    rw [show (Rect.unit off size inb).idx x = (Rect.unit off size inb).emb x from rfl, View.read_writes_cons_emb]
    exact h1 x fun a => by show off a + 1 * (x a : ℕ) = _; omega
  · rw [View.writes_cons, View.read_slice_write_of_not_mem _ _ _ _ (by rwa [Rect.map_emb_univ])]
    exact h2 fun h => hm (Rect.mem_set_unit.mpr h)

/-- A load of what stores left in a buffer. -/
theorem readCov_ld {sig : RefSig} {κ : Kind} {sp : Space} (V : View sig κ sp s e) (L : List (View.Piece Val s e)) (r : Rect s) :
    V.readCov L r.toLoadRect = View.ld (View.canon L) r := by
  exact View.readCov_eq_canon' V L r.toLoadRect
end Tiles

/-- Integers turned into floats, and the masks made of them. -/
theorem sitofp_nat (n : ℕ) (h : n < 128) : (FloatOps.sitofp FTy.f32 (BitVec.ofNat 32 n) : Ideal .f32) = ((n : ℝ) : EReal) := by
  show (((BitVec.ofNat 32 n).toInt : ℝ) : EReal) = _
  rw [BitVec.toInt_ofNat', Int.bmod_eq_of_le (by omega) (by omega)]; simp

theorem sub_nat (a b : ℕ) (ha : a < 128) (hb : b < 128) : (IntOp.subi (BitVec.ofNat 32 a) (BitVec.ofNat 32 b)).toInt = (a : ℤ) - b := by
  show (BitVec.ofNat 32 a - BitVec.ofNat 32 b).toInt = _
  have h : ∀ n : ℕ, n < 128 → (n : ℤ).bmod (2 ^ 32) = n := fun n hn => Int.bmod_eq_of_le (by omega) (by omega)
  rw [BitVec.toInt_sub, BitVec.toInt_ofNat', BitVec.toInt_ofNat', h a ha, h b hb, Int.bmod_eq_of_le (by omega) (by omega)]

theorem sitofp_max (a b : ℕ) (ha : a < 128) (hb : b < 128) :
    (FloatOps.sitofp FTy.f32 (IntOp.maxsi (IntOp.subi (BitVec.ofNat 32 a) (BitVec.ofNat 32 b)) 0#32) : Ideal .f32) = (((a - b : ℕ) : ℝ) : EReal) := by
  show (((IntOp.maxsi (IntOp.subi (BitVec.ofNat 32 a) (BitVec.ofNat 32 b)) 0#32).toInt : ℝ) : EReal) = _
  congr 1
  have h := sub_nat a b ha hb
  have : (IntOp.maxsi (IntOp.subi (BitVec.ofNat 32 a) (BitVec.ofNat 32 b)) 0#32).toInt = ((a - b : ℕ) : ℤ) := by
    unfold IntOp.maxsi
    simp only [BitVec.slt_iff_toInt_lt, h, BitVec.toInt_zero]
    split_ifs with hs
    · rw [h]; omega
    · rw [BitVec.toInt_zero]; omega
  rw [this]; simp

theorem select_sub {α : Type} (a b : ℕ) (ha : a < 128) (hb : b < 128) (x y : α) :
    Scalar.select (IntOp.cmpi CmpIPredicate.sge (IntOp.subi (BitVec.ofNat 32 a) (BitVec.ofNat 32 b)) 0#32) x y = if b ≤ a then x else y := by
  have h := sub_nat a b ha hb
  have e : (0#32).sle (IntOp.subi (BitVec.ofNat 32 a) (BitVec.ofNat 32 b)) = decide (b ≤ a) := by
    rw [BitVec.sle_eq_decide, h, BitVec.toInt_zero]; exact decide_eq_decide.mpr (by omega)
  show (if BitVec.ofBool ((0#32).sle (IntOp.subi (BitVec.ofNat 32 a) (BitVec.ofNat 32 b))) = 1#1 then x else y) = _
  rw [e]
  by_cases hab : b ≤ a <;> simp [hab]

theorem lit128 : Ideal.ofBits .f32 1124073472#32 = ((128 : ℝ) : EReal) := by
  simp [Ideal.ofBits, Ideal.ieee, -EReal.coe_mul]; norm_num
theorem lit127 : Ideal.ofBits .f32 1123942400#32 = ((127 : ℝ) : EReal) := by
  simp [Ideal.ofBits, Ideal.ieee, -EReal.coe_mul]; norm_num

/-- A column's head, its place in the head, and the column of a head's place. -/
def hd (y : Fin 512) : Fin 4 := ⟨y / 128, by omega⟩
def ln (y : Fin 512) : Fin 128 := ⟨y % 128, by omega⟩
def cl (h : Fin 4) (f : Fin 128) : Fin 512 :=
  match h with
  | 0 => ⟨f, by omega⟩
  | 1 => ⟨128 + f, by omega⟩
  | 2 => ⟨256 + f, by omega⟩
  | 3 => ⟨384 + f, by omega⟩

theorem cl_val (h : Fin 4) (f : Fin 128) : (cl h f : ℕ) = h * 128 + f := by
  match h with
  | 0 => show (f : ℕ) = 0 * 128 + f; omega
  | 1 => rfl
  | 2 => rfl
  | 3 => rfl

theorem hd_of (y : Fin 512) (x : Fin 128) (n : ℕ) (hn : n < 4) (h : (y : ℕ) = n * 128 + x) : hd y = ⟨n, hn⟩ := Fin.ext (by simp only [hd]; omega)
theorem ln_of (y : Fin 512) (x : Fin 128) (n : ℕ) (h : (y : ℕ) = n * 128 + x) : ln y = x := Fin.ext (by simp only [ln]; omega)

abbrev Blk := Vec Ideal S128x512 .bf16
abbrev Rates := Vec Ideal S2x4 .f32
abbrev Tab := Vec Ideal S2x4x5x128x128 .f32
abbrev Sav := Vec Ideal S1x4x128x128 .f32
abbrev Car := Vec Ideal S2x4x128x128 .f32
abbrev Rel := Vec Ideal S2x128x128 .f32

/-- A row's time within its tile: its number forwards, counted from the end backwards. -/
def lam (d : Fin 2) (i : Fin 128) : ℕ := if d = 0 then i else 127 - i

theorem lam_lt (d : Fin 2) (i : Fin 128) : lam d i < 128 := by unfold lam; split_ifs <;> omega
theorem lam_zero (i : Fin 128) : lam 0 i = i := rfl
theorem lam_one (i : Fin 128) : lam 1 i = 127 - i := rfl
theorem fwd_in (n : ℕ) : ((n : ℝ) : EReal) + 1 = (((n : ℝ) + 1 : ℝ) : EReal) := by
  rw [EReal.coe_add, EReal.coe_one]
theorem fwd_out (n : ℕ) : Ideal.ofBits .f32 1123942400#32 - ((n : ℝ) : EReal) = ((127 - (n : ℝ) : ℝ) : EReal) := by
  rw [lit127, ← EReal.coe_sub]
theorem bwd_in (n : ℕ) (h : n < 128) : Ideal.ofBits .f32 1124073472#32 - ((n : ℝ) : EReal) = ((((127 - n : ℕ) : ℝ) + 1 : ℝ) : EReal) := by
  rw [lit128, ← EReal.coe_sub, Nat.cast_sub (by omega)]; congr 1; push_cast; ring
theorem bwd_out (n : ℕ) (h : n < 128) : ((n : ℝ) : EReal) = ((127 - ((127 - n : ℕ) : ℝ) : ℝ) : EReal) := by
  rw [Nat.cast_sub (by omega)]; congr 1; push_cast; ring

/-- The table of decays (0: between two rows of a tile; 1: from before the tile to a row; 2: from a row to the tile's end; 3, 4:
    1 and 2 times the distance). -/
def decT (lg : Rates) (d : Fin 2) (h : Fin 4) (n : Fin 5) (i j : Fin 128) : EReal :=
  ![if lam d j ≤ lam d i then Ideal.exp (lg (ix2 d h) * (((lam d i - lam d j : ℕ) : ℝ) : EReal)) else 0,
    Ideal.exp (lg (ix2 d h) * (((lam d i : ℝ) + 1 : ℝ) : EReal)),
    Ideal.exp (lg (ix2 d h) * ((127 - (lam d i : ℝ) : ℝ) : EReal)),
    Ideal.exp (lg (ix2 d h) * (((lam d i : ℝ) + 1 : ℝ) : EReal)) * (((lam d i : ℝ) + 1 : ℝ) : EReal),
    Ideal.exp (lg (ix2 d h) * ((127 - (lam d i : ℝ) : ℝ) : EReal)) * ((127 - (lam d i : ℝ) : ℝ) : EReal)] n

theorem sub_lam (i j : Fin 128) : lam 1 i - lam 1 j = (j : ℕ) - i := by rw [lam_one, lam_one]; omega
theorem decT_mask (lg : Rates) (h : Fin 4) (i j : Fin 128) :
    decT lg 1 h 0 i j = if (i : ℕ) ≤ j then Ideal.exp (lg (ix2 1 h) * (((j - i : ℕ) : ℝ) : EReal)) else 0 := by
  show (if lam 1 j ≤ lam 1 i then Ideal.exp (lg (ix2 1 h) * (((lam 1 i - lam 1 j : ℕ) : ℝ) : EReal)) else 0) = _
  rw [sub_lam]
  exact if_congr (by rw [lam_one, lam_one]; omega) rfl rfl

variable (d : Fin 2) (q k v o : Blk) (sp : Sav) (st : Car) (dec : Tab) (rel : Rel) (lg : Rates) (h : Fin 4)

/-- The products of the tile: the scores, the cotangents with the values, decayed, and with the saved state, the values with the
    state's gradient. -/
def aF (i j : Fin 128) : EReal := ∑ f : Fin 128, q (ix2 i (cl h f)) * k (ix2 j (cl h f))
def daF (i j : Fin 128) : EReal := (∑ f : Fin 128, o (ix2 i (cl h f)) * v (ix2 j (cl h f))) * dec (ix5 d h 0 i j)
def g1F (i e : Fin 128) : EReal := ∑ f : Fin 128, o (ix2 i (cl h f)) * sp (ix4 0 h e f)
def h1F (j e : Fin 128) : EReal := ∑ f : Fin 128, v (ix2 j (cl h f)) * st (ix4 d h e f)

/-- The gradients of the tile: of its queries, keys and values, of the state before it, and of the decay rate (by lanes). -/
def dqF (i : Fin 128) (h : Fin 4) (e : Fin 128) : EReal :=
  g1F o sp h i e * dec (ix5 d h 1 i e) + ∑ j : Fin 128, daF d v o dec h i j * k (ix2 j (cl h e))
def dkF (j : Fin 128) (h : Fin 4) (e : Fin 128) : EReal :=
  (∑ i : Fin 128, daF d v o dec h i j * q (ix2 i (cl h e))) + h1F d v st h j e * dec (ix5 d h 2 j e)
def dvF (j : Fin 128) (h : Fin 4) (f : Fin 128) : EReal :=
  (∑ i : Fin 128, (aF q k h i j * dec (ix5 d h 0 i j)) * o (ix2 i (cl h f)))
    + ∑ e : Fin 128, (k (ix2 j (cl h e)) * dec (ix5 d h 2 j e)) * st (ix4 d h e f)
def gF : EReal := Ideal.exp (lg (ix2 d h) * Ideal.ofBits .f32 0x43000000#32)
def stF (e f : Fin 128) : EReal :=
  gF d lg h * st (ix4 d h e f) + ∑ i : Fin 128, (q (ix2 i (cl h e)) * dec (ix5 d h 1 i e)) * o (ix2 i (cl h f))
def dlF (e : Fin 128) : EReal :=
  ∑ i : Fin 128, (daF d v o dec h i e * aF q k h i e * rel (ix3 d i e)
    + q (ix2 i (cl h e)) * g1F o sp h i e * dec (ix5 d h 3 i e)
    + k (ix2 i (cl h e)) * h1F d v st h i e * dec (ix5 d h 4 i e)
    + sp (ix4 0 h i e) * st (ix4 d h i e) * (Ideal.ofBits .f32 0x43000000#32 * gF d lg h))

variable (m : (ℓ : Loc nD τ sig) → Buf (Elt Ideal) ℓ)

/-- The blocks a point finds, by direction. -/
abbrev bq (c : Dev nD) (t : Fin cfg0.N) : Fin 2 → Blk := ![iblk m c 1 t, iblk m c 4 t]
abbrev bk (c : Dev nD) (t : Fin cfg0.N) : Fin 2 → Blk := ![iblk m c 2 t, iblk m c 5 t]
abbrev bv (c : Dev nD) (t : Fin cfg0.N) : Fin 2 → Blk := ![iblk m c 3 t, iblk m c 6 t]
abbrev bo (c : Dev nD) (t : Fin cfg0.N) : Fin 2 → Blk := ![iblk m c 7 t, iblk m c 8 t]
abbrev bs (c : Dev nD) (t : Fin cfg0.N) : Fin 2 → Sav := ![iblk m c 9 t, iblk m c 10 t]

end Cert.Kernel2Ideal.Ret

end
-- ==== Proof.RetMath.lean ====
module

public import Mathlib.Data.EReal.Inv
public import Mathlib.Analysis.SpecialFunctions.Pow.Real
public import Mathlib.Algebra.BigOperators.Intervals

@[expose] public section

noncomputable section

open Finset

namespace Cert.Ret

/-- The number of rows: 256 of context and 4096 of sequence. -/
abbrev T : ℕ := 4352

variable (l : ℝ) (q k v o : ℕ → Fin 128 → ℝ)

/-- A query's product with a key. -/
def A (σ τ : ℕ) : ℝ := ∑ e, q τ e * k σ e
/-- A cotangent's product with a value. -/
def B (σ τ : ℕ) : ℝ := ∑ e, o τ e * v σ e
/-- The decay from row `σ` to row `τ`. -/
def W (σ τ : ℕ) : ℝ := if σ ≤ τ then Real.exp (l * ((τ : ℝ) - σ)) else 0

/-- The gradient of the queries, of the keys, of the values and of the decay's logarithm. -/
def DQ (τ : ℕ) (e : Fin 128) : ℝ := ∑ σ ∈ range T, W l σ τ * B v o σ τ * k σ e
def DK (σ : ℕ) (e : Fin 128) : ℝ := ∑ τ ∈ range T, W l σ τ * B v o σ τ * q τ e
def DV (σ : ℕ) (f : Fin 128) : ℝ := ∑ τ ∈ range T, W l σ τ * A q k σ τ * o τ f
def DL : ℝ := ∑ σ ∈ range T, ∑ τ ∈ range T, ((τ : ℝ) - σ) * (W l σ τ * A q k σ τ * B v o σ τ)

/-- The state carried to row `a`. -/
def S (a : ℕ) (e f : Fin 128) : ℝ := ∑ σ ∈ range T, if σ < a then Real.exp (l * ((a : ℝ) - 1 - σ)) * (k σ e * v σ f) else 0
/-- The state's gradient carried back to row `b`. -/
def D (b : ℕ) (e f : Fin 128) : ℝ := ∑ τ ∈ range T, if b ≤ τ then Real.exp (l * ((τ : ℝ) - b + 1)) * (q τ e * o τ f) else 0

/-- A sum over a tile's rows is one over all rows, nothing outside the tile. -/
theorem tile_sum (a L : ℕ) (h : a + L ≤ T) (f : ℕ → ℝ) :
    ∑ i ∈ range L, f (a + i) = ∑ τ ∈ range T, if a ≤ τ ∧ τ < a + L then f τ else 0 := by
  rw [← Finset.sum_filter]
  have : (range T).filter (fun τ => a ≤ τ ∧ τ < a + L) = Ico a (a + L) := by
    ext x; simp only [mem_filter, mem_range, mem_Ico]; omega
  rw [this, Finset.sum_Ico_eq_sum_range]; simp

theorem S_zero (e f) : S l k v 0 e f = 0 := by simp [S]
theorem D_end (e f) : D l q o T e f = 0 := by
  refine Finset.sum_eq_zero fun τ h => if_neg ?_
  have := mem_range.mp h; omega

theorem S_step (a L : ℕ) (h : a + L ≤ T) (e f) : S l k v (a + L) e f
    = Real.exp (l * L) * S l k v a e f + ∑ j ∈ range L, (k (a + j) e * Real.exp (l * ((L : ℝ) - 1 - j))) * v (a + j) f := by
  have ht := tile_sum a L h fun σ => (k σ e * Real.exp (l * ((L : ℝ) - 1 - ((σ : ℝ) - a)))) * v σ f
  simp only [Nat.cast_add, add_sub_cancel_left] at ht
  rw [ht, S, S, Finset.mul_sum, ← Finset.sum_add_distrib]
  refine Finset.sum_congr rfl fun σ _ => ?_
  by_cases h1 : σ < a
  · rw [if_pos (by omega), if_pos h1, if_neg (by omega), add_zero]
    have : l * (((a + L : ℕ) : ℝ) - 1 - σ) = l * L + l * ((a : ℝ) - 1 - σ) := by push_cast; ring
    rw [this, Real.exp_add]; ring
  · by_cases h2 : σ < a + L
    · rw [if_pos h2, if_neg h1, if_pos (by omega)]
      have : l * (((a + L : ℕ) : ℝ) - 1 - σ) = l * ((L : ℝ) - 1 - ((σ : ℝ) - a)) := by push_cast; ring
      rw [this]; ring
    · rw [if_neg h2, if_neg h1, if_neg (by omega)]; ring

theorem D_step (a L : ℕ) (h : a + L ≤ T) (e f) : D l q o a e f
    = Real.exp (l * L) * D l q o (a + L) e f + ∑ i ∈ range L, (q (a + i) e * Real.exp (l * ((i : ℝ) + 1))) * o (a + i) f := by
  have ht := tile_sum a L h fun τ => (q τ e * Real.exp (l * (((τ : ℝ) - a) + 1))) * o τ f
  simp only [Nat.cast_add, add_sub_cancel_left] at ht
  rw [ht, D, D, Finset.mul_sum, ← Finset.sum_add_distrib]
  refine Finset.sum_congr rfl fun τ _ => ?_
  by_cases h1 : a + L ≤ τ
  · rw [if_pos (by omega), if_pos h1, if_neg (by omega), add_zero]
    have : l * ((τ : ℝ) - a + 1) = l * L + l * ((τ : ℝ) - ((a + L : ℕ) : ℝ) + 1) := by push_cast; ring
    rw [this, Real.exp_add]; ring
  · by_cases h2 : a ≤ τ
    · rw [if_pos h2, if_neg h1, if_pos (by omega)]; ring
    · rw [if_neg h2, if_neg h1, if_neg (by omega)]; ring

/-- The cotangent's product with the carried state. -/
theorem oS (a τ : ℕ) (e) : ∑ f, o τ f * S l k v a e f
    = ∑ σ ∈ range T, if σ < a then Real.exp (l * ((a : ℝ) - 1 - σ)) * B v o σ τ * k σ e else 0 := by
  simp only [S, Finset.mul_sum]
  rw [Finset.sum_comm]
  refine Finset.sum_congr rfl fun σ _ => ?_
  by_cases h : σ < a
  · simp only [if_pos h, B, Finset.mul_sum, Finset.sum_mul]
    exact Finset.sum_congr rfl fun f _ => by ring
  · simp [if_neg h]

theorem vD (b σ : ℕ) (e) : ∑ f, v σ f * D l q o b e f
    = ∑ τ ∈ range T, if b ≤ τ then Real.exp (l * ((τ : ℝ) - b + 1)) * B v o σ τ * q τ e else 0 := by
  simp only [D, Finset.mul_sum]
  rw [Finset.sum_comm]
  refine Finset.sum_congr rfl fun τ _ => ?_
  by_cases h : b ≤ τ
  · simp only [if_pos h, B, Finset.mul_sum, Finset.sum_mul]
    exact Finset.sum_congr rfl fun f _ => by ring
  · simp [if_neg h]

theorem kD (b σ : ℕ) (f) : ∑ e, k σ e * D l q o b e f
    = ∑ τ ∈ range T, if b ≤ τ then Real.exp (l * ((τ : ℝ) - b + 1)) * A q k σ τ * o τ f else 0 := by
  simp only [D, Finset.mul_sum]
  rw [Finset.sum_comm]
  refine Finset.sum_congr rfl fun τ _ => ?_
  by_cases h : b ≤ τ
  · simp only [if_pos h, A, Finset.mul_sum, Finset.sum_mul]
    exact Finset.sum_congr rfl fun f _ => by ring
  · simp [if_neg h]

/-- The decay inside a tile. -/
def M (i j : ℕ) : ℝ := if j ≤ i then Real.exp (l * ((i : ℝ) - j)) else 0

theorem M_eq (a i j : ℕ) : M l i j = W l (a + j) (a + i) := by
  unfold M W
  by_cases h : j ≤ i
  · rw [if_pos h, if_pos (by omega)]; congr 1; push_cast; ring
  · rw [if_neg h, if_neg (by omega)]

theorem dq_tile (a L i : ℕ) (hi : i < L) (h : a + L ≤ T) (e) :
    (∑ f, o (a + i) f * S l k v a e f) * Real.exp (l * ((i : ℝ) + 1))
      + ∑ j ∈ range L, ((∑ f, o (a + i) f * v (a + j) f) * M l i j) * k (a + j) e = DQ l k v o (a + i) e := by
  have ht := tile_sum a L h fun σ => (B v o σ (a + i) * W l σ (a + i)) * k σ e
  simp only [M_eq l a]
  simp only [B] at ht
  rw [ht, oS, Finset.sum_mul, ← Finset.sum_add_distrib, DQ]
  refine Finset.sum_congr rfl fun σ _ => ?_
  by_cases h1 : σ < a
  · rw [if_pos h1, if_neg (by omega), add_zero, W, if_pos (by omega)]
    have : l * (((a + i : ℕ) : ℝ) - σ) = l * ((a : ℝ) - 1 - σ) + l * ((i : ℝ) + 1) := by push_cast; ring
    rw [this, Real.exp_add]; ring
  · rw [if_neg h1]
    by_cases h2 : σ < a + L
    · rw [if_pos ⟨by omega, h2⟩]; simp only [B]; ring
    · rw [if_neg (by omega), W, if_neg (by omega)]; ring

theorem dk_tile (a L j : ℕ) (hj : j < L) (h : a + L ≤ T) (e) :
    ∑ i ∈ range L, ((∑ f, o (a + i) f * v (a + j) f) * M l i j) * q (a + i) e
      + (∑ f, v (a + j) f * D l q o (a + L) e f) * Real.exp (l * ((L : ℝ) - 1 - j)) = DK l q v o (a + j) e := by
  have ht := tile_sum a L h fun τ => (B v o (a + j) τ * W l (a + j) τ) * q τ e
  simp only [M_eq l a]
  simp only [B] at ht
  rw [ht, vD, Finset.sum_mul, ← Finset.sum_add_distrib, DK]
  refine Finset.sum_congr rfl fun τ _ => ?_
  by_cases h1 : a + L ≤ τ
  · rw [if_pos h1, if_neg (by omega), zero_add, W, if_pos (by omega)]
    have : l * ((τ : ℝ) - ((a + j : ℕ) : ℝ)) = l * ((τ : ℝ) - ((a + L : ℕ) : ℝ) + 1) + l * ((L : ℝ) - 1 - j) := by push_cast; ring
    rw [this, Real.exp_add]; ring
  · rw [if_neg h1]
    by_cases h2 : a ≤ τ
    · rw [if_pos ⟨h2, by omega⟩]; simp only [B]; ring
    · rw [if_neg (by omega), W, if_neg (by omega)]; ring

theorem dv_tile (a L j : ℕ) (hj : j < L) (h : a + L ≤ T) (f) :
    ∑ i ∈ range L, ((∑ e, q (a + i) e * k (a + j) e) * M l i j) * o (a + i) f
      + ∑ e, (k (a + j) e * Real.exp (l * ((L : ℝ) - 1 - j))) * D l q o (a + L) e f = DV l q k o (a + j) f := by
  have hk : ∑ e, (k (a + j) e * Real.exp (l * ((L : ℝ) - 1 - j))) * D l q o (a + L) e f
      = (∑ e, k (a + j) e * D l q o (a + L) e f) * Real.exp (l * ((L : ℝ) - 1 - j)) := by
    rw [Finset.sum_mul]; exact Finset.sum_congr rfl fun e _ => by ring
  have ht := tile_sum a L h fun τ => (A q k (a + j) τ * W l (a + j) τ) * o τ f
  simp only [M_eq l a]
  simp only [A] at ht
  rw [ht, hk, kD, Finset.sum_mul, ← Finset.sum_add_distrib, DV]
  refine Finset.sum_congr rfl fun τ _ => ?_
  by_cases h1 : a + L ≤ τ
  · rw [if_pos h1, if_neg (by omega), zero_add, W, if_pos (by omega)]
    have : l * ((τ : ℝ) - ((a + j : ℕ) : ℝ)) = l * ((τ : ℝ) - ((a + L : ℕ) : ℝ) + 1) + l * ((L : ℝ) - 1 - j) := by push_cast; ring
    rw [this, Real.exp_add]; ring
  · rw [if_neg h1]
    by_cases h2 : a ≤ τ
    · rw [if_pos ⟨h2, by omega⟩]; simp only [A]; ring
    · rw [if_neg (by omega), W, if_neg (by omega)]; ring

/-- A pair's decayed weight in the decay's gradient, before its distance. -/
def E (σ τ : ℕ) : ℝ := Real.exp (l * ((τ : ℝ) - σ)) * A q k σ τ * B v o σ τ

/-- How far a pair's distance has been counted when the rows before `a` have been gone through. -/
def φ (a σ τ : ℕ) : ℝ := if τ < a then (if σ ≤ τ then (τ : ℝ) - σ else 0) else if σ < a then (a : ℝ) - 1 - σ else 0

/-- The decay's gradient counted so far. -/
def Φ (a : ℕ) : ℝ := ∑ σ ∈ range T, ∑ τ ∈ range T, φ a σ τ * E l q k v o σ τ

theorem Φ_zero : Φ l q k v o 0 = 0 := by
  refine Finset.sum_eq_zero fun σ _ => Finset.sum_eq_zero fun τ _ => ?_
  simp [φ]

theorem Φ_end : Φ l q k v o T = DL l q k v o := by
  refine Finset.sum_congr rfl fun σ _ => Finset.sum_congr rfl fun τ h => ?_
  have := mem_range.mp h
  rw [φ, if_pos this, E, W]
  split_ifs <;> ring

/-- A sum over a tile's pairs. -/
theorem tile_sum₂ (a L : ℕ) (h : a + L ≤ T) (f : ℕ → ℕ → ℝ) :
    ∑ i ∈ range L, ∑ j ∈ range L, f (a + j) (a + i)
      = ∑ σ ∈ range T, ∑ τ ∈ range T, if (a ≤ σ ∧ σ < a + L) ∧ (a ≤ τ ∧ τ < a + L) then f σ τ else 0 := by
  rw [Finset.sum_comm, tile_sum a L h fun σ => ∑ i ∈ range L, f σ (a + i)]
  refine Finset.sum_congr rfl fun σ _ => ?_
  rw [tile_sum a L h fun τ => f σ τ]
  by_cases hσ : a ≤ σ ∧ σ < a + L
  · rw [if_pos hσ]; exact Finset.sum_congr rfl fun τ _ => by simp [hσ]
  · rw [if_neg hσ]; simp [hσ]

theorem qoS (a τ : ℕ) : ∑ e, q τ e * (∑ f, o τ f * S l k v a e f)
    = ∑ σ ∈ range T, if σ < a then Real.exp (l * ((a : ℝ) - 1 - σ)) * A q k σ τ * B v o σ τ else 0 := by
  simp only [oS, Finset.mul_sum]
  rw [Finset.sum_comm]
  refine Finset.sum_congr rfl fun σ _ => ?_
  by_cases h : σ < a
  · simp only [if_pos h, A, Finset.mul_sum, Finset.sum_mul]
    exact Finset.sum_congr rfl fun f _ => by ring
  · simp [if_neg h]

theorem kvD (b σ : ℕ) : ∑ e, k σ e * (∑ f, v σ f * D l q o b e f)
    = ∑ τ ∈ range T, if b ≤ τ then Real.exp (l * ((τ : ℝ) - b + 1)) * A q k σ τ * B v o σ τ else 0 := by
  simp only [vD, Finset.mul_sum]
  rw [Finset.sum_comm]
  refine Finset.sum_congr rfl fun τ _ => ?_
  by_cases h : b ≤ τ
  · simp only [if_pos h, A, Finset.mul_sum, Finset.sum_mul]
    exact Finset.sum_congr rfl fun f _ => by ring
  · simp [if_neg h]

theorem SD (a b : ℕ) : ∑ e, ∑ f, S l k v a e f * D l q o b e f
    = ∑ σ ∈ range T, ∑ τ ∈ range T, if σ < a ∧ b ≤ τ then Real.exp (l * ((a : ℝ) - 1 - σ)) * Real.exp (l * ((τ : ℝ) - b + 1)) * A q k σ τ * B v o σ τ else 0 := by
  have h1 : ∀ e f, S l k v a e f * D l q o b e f = ∑ σ ∈ range T, ∑ τ ∈ range T, if σ < a ∧ b ≤ τ then
      Real.exp (l * ((a : ℝ) - 1 - σ)) * Real.exp (l * ((τ : ℝ) - b + 1)) * ((q τ e * k σ e) * (o τ f * v σ f)) else 0 := by
    intro e f
    rw [S, D, Finset.sum_mul_sum]
    refine Finset.sum_congr rfl fun σ _ => Finset.sum_congr rfl fun τ _ => ?_
    by_cases hσ : σ < a <;> by_cases hτ : b ≤ τ <;> simp [hσ, hτ]
    ring
  simp only [h1]
  have h2 : ∀ e, ∑ f, ∑ σ ∈ range T, ∑ τ ∈ range T, (if σ < a ∧ b ≤ τ then
      Real.exp (l * ((a : ℝ) - 1 - σ)) * Real.exp (l * ((τ : ℝ) - b + 1)) * ((q τ e * k σ e) * (o τ f * v σ f)) else 0)
      = ∑ σ ∈ range T, ∑ τ ∈ range T, ∑ f, (if σ < a ∧ b ≤ τ then
      Real.exp (l * ((a : ℝ) - 1 - σ)) * Real.exp (l * ((τ : ℝ) - b + 1)) * ((q τ e * k σ e) * (o τ f * v σ f)) else 0) := by
    intro e
    rw [Finset.sum_comm]
    exact Finset.sum_congr rfl fun σ _ => Finset.sum_comm
  simp only [h2]
  rw [Finset.sum_comm]
  refine Finset.sum_congr rfl fun σ _ => ?_
  rw [Finset.sum_comm]
  refine Finset.sum_congr rfl fun τ _ => ?_
  by_cases h : σ < a ∧ b ≤ τ
  · simp only [if_pos h, ← Finset.mul_sum, ← Finset.sum_mul]
    simp only [A, B, mul_assoc]
  · simp [if_neg h]

/-- What a tile adds to the decay's gradient. -/
theorem dl_tile (a L : ℕ) (h : a + L ≤ T) :
    ∑ i ∈ range L, ∑ j ∈ range L, ((∑ f, o (a + i) f * v (a + j) f) * M l i j) * (∑ e, q (a + i) e * k (a + j) e) * ((i : ℝ) - j)
      + ∑ i ∈ range L, (∑ e, q (a + i) e * (∑ f, o (a + i) f * S l k v a e f)) * (Real.exp (l * ((i : ℝ) + 1)) * ((i : ℝ) + 1))
      + ∑ j ∈ range L, (∑ e, k (a + j) e * (∑ f, v (a + j) f * D l q o (a + L) e f)) * (Real.exp (l * ((L : ℝ) - 1 - j)) * ((L : ℝ) - 1 - j))
      + (∑ e, ∑ f, S l k v a e f * D l q o (a + L) e f) * ((L : ℝ) * Real.exp (l * L))
      = Φ l q k v o (a + L) - Φ l q k v o a := by
  have h1 : ∑ i ∈ range L, ∑ j ∈ range L, ((∑ f, o (a + i) f * v (a + j) f) * M l i j) * (∑ e, q (a + i) e * k (a + j) e) * ((i : ℝ) - j)
      = ∑ i ∈ range L, ∑ j ∈ range L, (fun σ τ : ℕ => B v o σ τ * W l σ τ * A q k σ τ * ((τ : ℝ) - σ)) (a + j) (a + i) := by
    refine Finset.sum_congr rfl fun i _ => Finset.sum_congr rfl fun j _ => ?_
    simp only [M_eq l a, A, B]; push_cast; ring
  have h2 := tile_sum a L h fun τ => (∑ e, q τ e * (∑ f, o τ f * S l k v a e f)) * (Real.exp (l * ((τ : ℝ) - a + 1)) * ((τ : ℝ) - a + 1))
  have h3 := tile_sum a L h fun σ => (∑ e, k σ e * (∑ f, v σ f * D l q o (a + L) e f)) * (Real.exp (l * ((L : ℝ) - 1 - ((σ : ℝ) - a))) * ((L : ℝ) - 1 - ((σ : ℝ) - a)))
  simp only [Nat.cast_add, add_sub_cancel_left] at h2 h3
  rw [h1, tile_sum₂ a L h (fun σ τ : ℕ => B v o σ τ * W l σ τ * A q k σ τ * ((τ : ℝ) - σ)), h2, h3]
  simp only [qoS, kvD]
  rw [SD]
  have h4 : (∑ τ ∈ range T, if a ≤ τ ∧ τ < a + L then
        (∑ σ ∈ range T, if σ < a then Real.exp (l * ((a : ℝ) - 1 - σ)) * A q k σ τ * B v o σ τ else 0) * (Real.exp (l * ((τ : ℝ) - a + 1)) * ((τ : ℝ) - a + 1)) else 0)
      = ∑ σ ∈ range T, ∑ τ ∈ range T, if (a ≤ τ ∧ τ < a + L) ∧ σ < a then ((τ : ℝ) - a + 1) * E l q k v o σ τ else 0 := by
    rw [Finset.sum_comm]
    refine Finset.sum_congr rfl fun τ _ => ?_
    by_cases hτ : a ≤ τ ∧ τ < a + L
    · rw [if_pos hτ, Finset.sum_mul]
      refine Finset.sum_congr rfl fun σ _ => ?_
      by_cases hσ : σ < a
      · rw [if_pos hσ, if_pos ⟨hτ, hσ⟩, E]
        have : l * ((τ : ℝ) - σ) = l * ((a : ℝ) - 1 - σ) + l * ((τ : ℝ) - a + 1) := by ring
        rw [this, Real.exp_add]; ring
      · simp [hσ]
    · simp [hτ]
  have h5 : (∑ σ ∈ range T, if a ≤ σ ∧ σ < a + L then
        (∑ τ ∈ range T, if a + L ≤ τ then Real.exp (l * ((τ : ℝ) - ((a + L : ℕ) : ℝ) + 1)) * A q k σ τ * B v o σ τ else 0) * (Real.exp (l * ((L : ℝ) - 1 - ((σ : ℝ) - a))) * ((L : ℝ) - 1 - ((σ : ℝ) - a))) else 0)
      = ∑ σ ∈ range T, ∑ τ ∈ range T, if (a ≤ σ ∧ σ < a + L) ∧ a + L ≤ τ then ((L : ℝ) - 1 - ((σ : ℝ) - a)) * E l q k v o σ τ else 0 := by
    refine Finset.sum_congr rfl fun σ _ => ?_
    by_cases hσ : a ≤ σ ∧ σ < a + L
    · rw [if_pos hσ, Finset.sum_mul]
      refine Finset.sum_congr rfl fun τ _ => ?_
      by_cases hτ : a + L ≤ τ
      · rw [if_pos hτ, if_pos ⟨hσ, hτ⟩, E]
        have : l * ((τ : ℝ) - σ) = l * ((τ : ℝ) - ((a + L : ℕ) : ℝ) + 1) + l * ((L : ℝ) - 1 - ((σ : ℝ) - a)) := by push_cast; ring
        rw [this, Real.exp_add]; ring
      · simp [hτ]
    · simp [hσ]
  rw [h4, h5, Finset.sum_mul, Φ, Φ, ← Finset.sum_add_distrib, ← Finset.sum_add_distrib, ← Finset.sum_add_distrib, ← Finset.sum_sub_distrib]
  refine Finset.sum_congr rfl fun σ _ => ?_
  rw [Finset.sum_mul, ← Finset.sum_add_distrib, ← Finset.sum_add_distrib, ← Finset.sum_add_distrib, ← Finset.sum_sub_distrib]
  refine Finset.sum_congr rfl fun τ _ => ?_
  have key : ∀ (x y : ℝ), x = y → x * E l q k v o σ τ = y * E l q k v o σ τ := fun _ _ h => by rw [h]
  rw [← sub_mul]
  by_cases hτ : a + L ≤ τ
  · rw [if_neg (by omega), if_neg (by omega)]
    by_cases hσ : σ < a
    · rw [if_neg (by omega), if_pos ⟨hσ, hτ⟩, φ, φ, if_neg (by omega), if_pos (by omega), if_neg (by omega), if_pos hσ, E]
      have : l * ((τ : ℝ) - σ) = l * ((a : ℝ) - 1 - σ) + l * ((τ : ℝ) - ((a + L : ℕ) : ℝ) + 1) + l * L := by push_cast; ring
      rw [this, Real.exp_add, Real.exp_add]; push_cast; ring
    · by_cases hσ' : σ < a + L
      · rw [if_pos (by omega), if_neg (by omega), φ, φ, if_neg (by omega), if_pos (by omega), if_neg (by omega), if_neg hσ]
        push_cast; ring
      · rw [if_neg (by omega), if_neg (by omega), φ, φ, if_neg (by omega), if_neg (by omega), if_neg (by omega), if_neg hσ]
        ring
  · by_cases hτ' : a ≤ τ
    · by_cases hσ : σ < a
      · rw [if_neg (by omega), if_pos (by omega), if_neg (by omega), if_neg (by omega), φ, φ, if_pos (by omega), if_pos (by omega), if_neg (by omega), if_pos hσ]
        ring
      · by_cases hσ' : σ < a + L
        · rw [if_pos (by omega), if_neg (by omega), if_neg (by omega), if_neg (by omega), φ, φ, if_pos (show τ < a + L by omega), if_neg (show ¬ τ < a by omega), if_neg hσ, W, E]
          split_ifs <;> ring
        · rw [if_neg (by omega), if_neg (by omega), if_neg (by omega), if_neg (by omega), φ, φ, if_pos (by omega), if_neg (by omega), if_neg (by omega), if_neg hσ]
          ring
    · rw [if_neg (by omega), if_neg (by omega), if_neg (by omega), if_neg (by omega), φ, φ, if_pos (show τ < a + L by omega), if_pos (show τ < a by omega)]
      ring

end Cert.Ret
-- ==== Proof.RetTile.lean ====
module
public import proofs.«01_k».proof.Proof.RetPoint
public import proofs.«01_k».proof.Proof.RetMath
@[expose] public section
set_option maxRecDepth 16384
/-!
# The tile's gradients, of finite arguments

Where the blocks hold real sequences, the saved state what the rows before the tile sum to, and the carried gradient what the rows after
it sum to, a tile's formulas are the gradients of the whole sequence at the tile's rows.
-/
namespace Cert.Kernel2Ideal.Ret
noncomputable section
open Idealize.ShloMosaic Idealize.ShloMosaic.TcCoe
open Cert.Ret hiding M T
open Finset

theorem coe_sum {ι : Type} (s : Finset ι) (f : ι → ℝ) : ((∑ i ∈ s, f i : ℝ) : EReal) = ∑ i ∈ s, (f i : EReal) := by
  classical
  induction s using Finset.induction_on with
  | empty => simp
  | insert a s h ih => rw [Finset.sum_insert h, Finset.sum_insert h, EReal.coe_add, ih]

/-- A sum over a tile's rows, in the order of time or against it. -/
theorem sum_lam (d : Fin 2) (f : ℕ → ℝ) : ∑ i : Fin 128, f (lam d i) = ∑ i ∈ range 128, f i := by
  rw [← Fin.sum_univ_eq_sum_range f 128]
  fin_cases d
  · rfl
  · refine (Equiv.sum_comp Fin.revPerm fun i : Fin 128 => f i.val).symm.trans ?_ |>.symm
    refine Finset.sum_congr rfl fun i _ => ?_
    show f (Fin.rev i).val = f (127 - i.val)
    rw [Fin.val_rev]; congr 1; omega

/-- The table of decays of a real rate. -/
def tab (l : ℝ) : Fin 5 → ℕ → ℕ → ℝ := ![fun i j => Cert.Ret.M l i j, fun i _ => Real.exp (l * ((i : ℝ) + 1)), fun i _ => Real.exp (l * ((128 : ℕ) - 1 - (i : ℝ))),
  fun i _ => Real.exp (l * ((i : ℝ) + 1)) * ((i : ℝ) + 1), fun i _ => Real.exp (l * ((128 : ℕ) - 1 - (i : ℝ))) * ((128 : ℕ) - 1 - (i : ℝ))]

theorem decT_real (lg : Rates) (d : Fin 2) (h : Fin 4) (l : ℝ) (hl : lg (ix2 d h) = (l : EReal)) (n : Fin 5) (i j : Fin 128) :
    decT lg d h n i j = ((tab l n (lam d i) (lam d j) : ℝ) : EReal) := by
  have e : (127 - (lam d i : ℝ) : ℝ) = ((128 : ℕ) - 1 - (lam d i : ℝ)) := by push_cast; ring
  unfold decT tab
  rw [hl, e]
  fin_cases n
  · show (if _ then _ else _) = (((Cert.Ret.M l (lam d i) (lam d j) : ℝ)) : EReal)
    unfold Cert.Ret.M
    by_cases h : lam d j ≤ lam d i
    · rw [if_pos h, if_pos h, Nat.cast_sub h, ← EReal.coe_mul]; rfl
    · rw [if_neg h, if_neg h]; rfl
  all_goals (simp only [← EReal.coe_mul]; rfl)

/-- What a tile's proof is given of a direction and a head: real blocks from row `a` on. -/
structure Real1 (d : Fin 2) (h : Fin 4) (l : ℝ) (q k v o : ℕ → Fin 128 → ℝ) (a : ℕ) (bq bk bv bo : Blk) (sp : Sav) : Prop where
  hq : ∀ i e, bq (ix2 i (cl h e)) = ((q (a + lam d i) e : ℝ) : EReal)
  hk : ∀ i e, bk (ix2 i (cl h e)) = ((k (a + lam d i) e : ℝ) : EReal)
  hv : ∀ i e, bv (ix2 i (cl h e)) = ((v (a + lam d i) e : ℝ) : EReal)
  ho : ∀ i e, bo (ix2 i (cl h e)) = ((o (a + lam d i) e : ℝ) : EReal)
  hs : ∀ e f, sp (ix4 0 h e f) = ((S l k v a e f : ℝ) : EReal)

variable {d : Fin 2} {h : Fin 4} {l : ℝ} {q k v o : ℕ → Fin 128 → ℝ} {a : ℕ} {bq bk bv bo : Blk} {sp : Sav}
variable (R : Real1 d h l q k v o a bq bk bv bo sp) (ha : a + 128 ≤ 4352)
variable {st : Car} (hst : ∀ e f, st (ix4 d h e f) = ((D l q o (a + 128) e f : ℝ) : EReal))
variable {dec : Tab} (hdec : ∀ n i j, dec (ix5 d h n i j) = ((tab l n (lam d i) (lam d j) : ℝ) : EReal))
variable {rel : Rel} (hrel : ∀ i j, rel (ix3 d i j) = (((lam d i - lam d j : ℕ) : ℝ) : EReal))
variable {lg : Rates} (hl : lg (ix2 d h) = (l : EReal))

include R ha hdec in
theorem dqF_real (i e : Fin 128) : dqF d bk bv bo sp dec i h e = ((DQ l k v o (a + lam d i) e : ℝ) : EReal) := by
  simp only [dqF, g1F, daF, R.hk, R.hv, R.ho, R.hs, hdec, ← EReal.coe_mul, ← coe_sum, ← EReal.coe_add]
  rw [← dq_tile l k v o a 128 (lam d i) (lam_lt d i) ha e,
    sum_lam d fun j => ((∑ f, o (a + lam d i) f * v (a + j) f) * tab l 0 (lam d i) j) * k (a + j) e]
  rfl

include R ha hdec hst in
theorem dkF_real (j e : Fin 128) : dkF d bq bv bo st dec j h e = ((DK l q v o (a + lam d j) e : ℝ) : EReal) := by
  simp only [dkF, h1F, daF, R.hq, R.hv, R.ho, hst, hdec, ← EReal.coe_mul, ← coe_sum, ← EReal.coe_add]
  rw [← dk_tile l q v o a 128 (lam d j) (lam_lt d j) ha e,
    sum_lam d fun i => ((∑ f, o (a + i) f * v (a + lam d j) f) * tab l 0 i (lam d j)) * q (a + i) e]
  rfl

include R ha hdec hst in
theorem dvF_real (j f : Fin 128) : dvF d bq bk bo st dec j h f = ((DV l q k o (a + lam d j) f : ℝ) : EReal) := by
  simp only [dvF, aF, R.hq, R.hk, R.ho, hst, hdec, ← EReal.coe_mul, ← coe_sum, ← EReal.coe_add]
  rw [← dv_tile l q k o a 128 (lam d j) (lam_lt d j) ha f,
    sum_lam d fun i => ((∑ e, q (a + i) e * k (a + lam d j) e) * tab l 0 i (lam d j)) * o (a + i) f]
  rfl

include hl in
theorem gF_real : gF d lg h = ((Real.exp (l * (128 : ℕ)) : ℝ) : EReal) := by
  rw [gF, hl, lit128, ← EReal.coe_mul]; push_cast; rfl

include R ha hdec hst hl in
theorem stF_real (e f : Fin 128) : stF d bq bo st dec lg h e f = ((D l q o a e f : ℝ) : EReal) := by
  simp only [stF, gF_real hl, R.hq, R.ho, hst, hdec, ← EReal.coe_mul, ← coe_sum, ← EReal.coe_add]
  rw [D_step l q o a 128 ha e f,
    sum_lam d fun i => (q (a + i) e * tab l 1 i (lam d e)) * o (a + i) f]
  rfl

/-- A lane's part of the decay's gradient, of real arguments. -/
def dlR (d : Fin 2) (l : ℝ) (q k v o : ℕ → Fin 128 → ℝ) (a : ℕ) (e : Fin 128) : ℝ :=
  ∑ i : Fin 128, (((∑ f, o (a + lam d i) f * v (a + lam d e) f) * Cert.Ret.M l (lam d i) (lam d e)) * (∑ f, q (a + lam d i) f * k (a + lam d e) f) * ((lam d i - lam d e : ℕ) : ℝ)
    + q (a + lam d i) e * (∑ f, o (a + lam d i) f * S l k v a e f) * tab l 3 (lam d i) 0
    + k (a + lam d i) e * (∑ f, v (a + lam d i) f * D l q o (a + 128) e f) * tab l 4 (lam d i) 0
    + S l k v a i e * D l q o (a + 128) i e * (128 * Real.exp (l * (128 : ℕ))))

include R hdec hst hrel hl in
theorem dlF_real (e : Fin 128) : dlF d bq bk bv bo sp st dec rel lg h e = ((dlR d l q k v o a e : ℝ) : EReal) := by
  simp only [dlF, daF, aF, g1F, h1F, gF_real hl, lit128, R.hq, R.hk, R.hv, R.ho, R.hs, hst, hdec, hrel, ← EReal.coe_mul, ← coe_sum, ← EReal.coe_add]
  rfl

include ha in
theorem dlR_sum : ∑ e, dlR d l q k v o a e = Φ l q k v o (a + 128) - Φ l q k v o a := by
  rw [← dl_tile l q k v o a 128 ha]
  simp only [dlR, Finset.sum_add_distrib]
  congr 1
  · congr 1
    · congr 1
      · rw [Finset.sum_comm, ← sum_lam d fun i => ∑ j ∈ range 128, ((∑ f, o (a + i) f * v (a + j) f) * Cert.Ret.M l i j) * (∑ e, q (a + i) e * k (a + j) e) * ((i : ℝ) - j)]
        refine Finset.sum_congr rfl fun i _ => ?_
        rw [← sum_lam d fun j => ((∑ f, o (a + lam d i) f * v (a + j) f) * Cert.Ret.M l (lam d i) j) * (∑ e, q (a + lam d i) e * k (a + j) e) * (((lam d i : ℕ) : ℝ) - j)]
        refine Finset.sum_congr rfl fun j _ => ?_
        by_cases h : lam d j ≤ lam d i
        · rw [Nat.cast_sub h]
        · rw [Cert.Ret.M, if_neg h]; simp only [mul_zero, zero_mul]
      · rw [Finset.sum_comm, ← sum_lam d fun i => (∑ e, q (a + i) e * (∑ f, o (a + i) f * S l k v a e f)) * (Real.exp (l * ((i : ℝ) + 1)) * ((i : ℝ) + 1))]
        refine Finset.sum_congr rfl fun i _ => ?_
        rw [Finset.sum_mul]; rfl
    · rw [Finset.sum_comm, ← sum_lam d fun j => (∑ e, k (a + j) e * (∑ f, v (a + j) f * D l q o (a + 128) e f)) * (Real.exp (l * (((128 : ℕ) : ℝ) - 1 - j)) * (((128 : ℕ) : ℝ) - 1 - j))]
      refine Finset.sum_congr rfl fun i _ => ?_
      rw [Finset.sum_mul]; rfl
  · rw [Finset.sum_comm, Finset.sum_mul]
    refine Finset.sum_congr rfl fun i _ => ?_
    rw [Finset.sum_mul]
    refine Finset.sum_congr rfl fun j _ => ?_
    push_cast; ring

end
end Cert.Kernel2Ideal.Ret
end
-- ==== Proof.RetSeq.lean ====
/-
The rows in the order of time. The first direction runs down the rows; the second runs up the 256 context rows
and then up the 4096 others. Every array of the step becomes a family of sequences over that time, one for a
direction, a head and a lane, and the host line's own preparations are read in these terms.
-/
module

public import proofs.«01_k».proof.Proof.RetTile

@[expose] public section

set_option maxRecDepth 16384

noncomputable section
namespace Cert.Kernel2Ideal.Ret
open Cert.Kernel2Ideal.Gen
open Idealize.ShloMosaic Idealize.ShloMosaic.TcCoe Idealize.SL.Sem
open Idealize.ShloMosaic.Pipeline (Dat)
open Cert.Ret hiding M T
open Finset

/-- The row that direction `d` reaches at time `τ`. -/
def rowN (d : Fin 2) (τ : ℕ) : ℕ := if d = 0 then τ else if τ < 256 then 255 - τ else 4607 - τ

theorem rowN_lt (d : Fin 2) (τ : ℕ) (h : τ < 4352) : rowN d τ < 4352 := by unfold rowN; split_ifs <;> omega

def row (d : Fin 2) (τ : ℕ) : Fin 4352 := ⟨rowN d τ % 4352, Nat.mod_lt _ (by omega)⟩

theorem row_val (d : Fin 2) (τ : ℕ) (h : τ < 4352) : (row d τ).val = rowN d τ := Nat.mod_eq_of_lt (rowN_lt d τ h)

/-- An array of rows as sequences. -/
def seq (X : Fin 4352 → Fin 512 → ℝ) (d : Fin 2) (h : Fin 4) (τ : ℕ) (e : Fin 128) : ℝ := X (row d τ) (cl h e)

/-- The cotangents, which the context rows have none of. -/
def ctx0 (X : Fin 4096 → Fin 512 → ℝ) (r : Fin 4352) (e : Fin 512) : ℝ := if h : r.val < 256 then 0 else X ⟨r.val - 256, by omega⟩ e

/-- Both directions' sequences, as the host line stacks them. -/
abbrev stack (a : FVec Ideal S4352x512 .f32) : FVec Ideal S2x34x128x4x128 .f32 :=
  shapeCast S2x34x128x4x128 (concatenate S2x4352x512 0 [⟨S1x4352x512, broadcastInDim S1x4352x512 ![1, 2] bcast_S4352x512_S1x4352x512_1_2 a⟩,
    ⟨S1x4352x512, broadcastInDim S1x4352x512 ![1, 2] bcast_S4352x512_S1x4352x512_1_2
      (concatenate S4352x512 0 [⟨S256x512, Host.reverse [0] (extractStridedSlice S256x512 ![0, 0] a slices_S4352x512_S256x512_0_0)⟩,
        ⟨S4096x512, Host.reverse [0] (extractStridedSlice S4096x512 ![256, 0] a slices_S4352x512_S4096x512_256_0)⟩] concatenates_S256x512_S4096x512_S4352x512_d0)⟩]
    concatenates_S1x4352x512_S1x4352x512_S2x4352x512_d0) shapeCasts_S2x4352x512_S2x34x128x4x128

theorem stack_at (a : FVec Ideal S4352x512 .f32) (d : Fin 2) (n : Fin 34) (j : Fin 128) (h : Fin 4) (e : Fin 128) :
    (stack a (ix5 d n j h e) : EReal) = a (ix2 (row d (128 * n.val + j.val)) (cl h e)) := by
  unfold stack
  have hd := d.isLt
  have hn := n.isLt
  have hj := j.isLt
  have hx (x x' : Fin 4352) (y y' : Fin 512) (h1 : x.val = x'.val) (h2 : y.val = y'.val) : (a (ix2 x y) : EReal) = a (ix2 x' y') :=
    congrArg a (congrArg₂ ix2 (Fin.ext h1) (Fin.ext h2))
  have hr := row_val d (128 * n.val + j.val) (by omega)
  have hc := cl_val h e
  pointwise
  by_cases h0 : d.val < 1
  · rw [dif_pos h0]
    refine hx _ _ _ _ ?_ ?_
    · refine Eq.trans ?_ (hr.trans (if_pos (Fin.ext (by omega : d.val = 0)))).symm
      show n.val * 128 + j.val = _; omega
    · exact hc.symm
  · have hd : ¬ d = 0 := fun h => h0 (by rw [h]; decide)
    rw [dif_neg h0]
    by_cases h1 : n.val * 128 + j.val < 256
    · rw [dif_pos h1]
      refine hx _ _ _ _ ?_ ?_
      · refine Eq.trans ?_ (hr.trans ((if_neg hd).trans (if_pos (by omega : 128 * n.val + j.val < 256)))).symm
        show 256 - (n.val * 128 + j.val + 1) = _; omega
      · exact hc.symm
    · rw [dif_neg h1]
      refine hx _ _ _ _ ?_ ?_
      · refine Eq.trans ?_ (hr.trans ((if_neg hd).trans (if_neg (by omega : ¬ 128 * n.val + j.val < 256)))).symm
        show 256 + (4096 - (n.val * 128 + j.val - 256 + 1)) = _; omega
      · exact hc.symm

theorem cat5 (z : FVec Ideal S0x2x4x128x128 .f32) (x0 x1 : FVec Ideal S16x2x4x128x128 .f32) (x2 : FVec Ideal S2x2x4x128x128 .f32) (g : Fin 2 → Fin 4 → ℕ → Fin 128 → Fin 128 → ℝ)
    (p0 : ∀ (n : Fin 16) (d : Fin 2) (h : Fin 4) (e f : Fin 128), (x0 (ix5 n d h e f) : EReal) = ((g d h (128 * (0 + n.val)) e f : ℝ) : EReal))
    (p1 : ∀ (n : Fin 16) (d : Fin 2) (h : Fin 4) (e f : Fin 128), (x1 (ix5 n d h e f) : EReal) = ((g d h (128 * (16 + n.val)) e f : ℝ) : EReal))
    (p2 : ∀ (n : Fin 2) (d : Fin 2) (h : Fin 4) (e f : Fin 128), (x2 (ix5 n d h e f) : EReal) = ((g d h (128 * (32 + n.val)) e f : ℝ) : EReal))
    (h1 h2) (n : Fin 34) (d : Fin 2) (h : Fin 4) (e f : Fin 128) :
    (concatenate S34x2x4x128x128 0 [⟨S0x2x4x128x128, z⟩, ⟨S34x2x4x128x128, concatenate S34x2x4x128x128 0 [⟨S16x2x4x128x128, x0⟩, ⟨S16x2x4x128x128, x1⟩, ⟨S2x2x4x128x128, x2⟩] h1⟩] h2 (ix5 n d h e f) : EReal)
      = ((g d h (128 * n.val) e f : ℝ) : EReal) := by
  pointwise
  rw [dif_neg (by omega : ¬ n.val < 0)]
  by_cases a : n.val < 16
  · rw [dif_pos a, p0]; simp only [Nat.zero_add]
  · rw [dif_neg a]
    by_cases b : n.val - 16 < 16
    · rw [dif_pos b, p1, show 16 + (n.val - 16) = n.val by omega]
    · rw [dif_neg b, p2, show 32 + (n.val - 16 - 16) = n.val by omega]

theorem decay_at (l : Fin 2 → Fin 4 → ℝ) (a : FVec Ideal S2x4 .f32) (ha : ∀ d h, a (ix2 d h) = ((l d h : ℝ) : EReal)) (d : Fin 2) (h : Fin 4) (e f : Fin 128) :
    (broadcastInDim S2x4x128x128 ![0, 1, 2, 3] bcast_S2x4x1x1_S2x4x128x128_0_1_2_3 (broadcastInDim S2x4x1x1 ![0, 1] bcast_S2x4_S2x4x1x1_0_1
      (Host.exp (mulf a (broadcastInDim S2x4 ![] bcast_S_S2x4 (constant (F := Ideal) S_ .f32 0x43000000#32))))) (ix4 d h e f) : EReal) = ((Real.exp (l d h * (128 : ℕ)) : ℝ) : EReal) := by
  pointwise [ha]
  rw [lit128, ← EReal.coe_mul]
  rfl

/-- The weight of a row in its chunk's state. -/
abbrev weight (a : FVec Ideal S2x4 .f32) : FVec Ideal S2x34x128x4x128 .f32 :=
  broadcastInDim S2x34x128x4x128 ![0, 1, 2, 3, 4] bcast_S2x1x128x4x1_S2x34x128x4x128_0_1_2_3_4 (broadcastInDim S2x1x128x4x1 ![0, 2, 3] bcast_S2x128x4_S2x1x128x4x1_0_2_3
    (transpose S2x128x4 [0, 2, 1] (Host.exp (mulf (broadcastInDim S2x4x128 ![0, 1, 2] bcast_S2x4x1_S2x4x128_0_1_2 (broadcastInDim S2x4x1 ![0, 1] bcast_S2x4_S2x4x1_0_1 a))
      (broadcastInDim S2x4x128 ![0, 1, 2] bcast_S1x1x128_S2x4x128_0_1_2 (broadcastInDim S1x1x128 ![2] bcast_S128_S1x1x128_2
        (subf (broadcastInDim S128 ![] bcast_S_S128 (constant (F := Ideal) S_ .f32 0x42FE0000#32)) (sitofp .f32 (iotaInDim S128 32 0))))))) transposes_S2x4x128_S2x128x4_0_2_1))

theorem weight_at (l : Fin 2 → Fin 4 → ℝ) (a : FVec Ideal S2x4 .f32) (ha : ∀ d h, a (ix2 d h) = ((l d h : ℝ) : EReal)) (d : Fin 2) (n : Fin 34) (j : Fin 128) (h : Fin 4) (e : Fin 128) :
    (weight a (ix5 d n j h e) : EReal) = ((Real.exp (l d h * ((128 : ℕ) - 1 - (j.val : ℝ))) : ℝ) : EReal) := by
  unfold weight
  pointwise [ha]
  rw [sitofp_nat _ j.isLt, fwd_out, ← EReal.coe_mul, show ((128 : ℕ) : ℝ) - 1 = 127 by norm_num]
  rfl

/-- What each chunk adds to the state. -/
theorem gain_at (kk vv w : FVec Ideal S2x34x128x4x128 .f32) (n : Fin 34) (d : Fin 2) (h : Fin 4) (e f : Fin 128) :
    (extractStridedSlice S34x2x4x128x128 ![0, 0, 0, 0, 0] (transpose S34x2x4x128x128 [0, 1, 3, 2, 4] (transpose S34x2x128x4x128 [0, 1, 4, 2, 3]
      (Host.dotGeneral (F := Ideal) dot_S2x34x128x4x128_S2x34x128x4x128_S34x2x4x128x128_2_2_4_4_103_103 none vv (mulf kk w)) transposes_S34x2x4x128x128_S34x2x128x4x128_0_1_4_2_3)
      transposes_S34x2x128x4x128_S34x2x4x128x128_0_1_3_2_4) slices_S34x2x4x128x128_S34x2x4x128x128_0_0_0_0_0 (ix5 n d h e f) : EReal)
      = ∑ j : Fin 128, vv (ix5 d n j h f) * (kk (ix5 d n j h e) * w (ix5 d n j h e)) := by
  pointwise

/-- A direction's saved states. -/
theorem saved_dir0 (x : FVec Ideal S34x2x4x128x128 .f32) (n : Fin 34) (h : Fin 4) (e f : Fin 128) :
    (shapeCast S34x4x128x128 (extractStridedSlice S34x1x4x128x128 ![0, 0, 0, 0, 0] x slices_S34x2x4x128x128_S34x1x4x128x128_0_0_0_0_0) shapeCasts_S34x1x4x128x128_S34x4x128x128 (ix4 n h e f) : EReal)
      = x (ix5 n 0 h e f) := by
  pointwise
theorem saved_dir1 (x : FVec Ideal S34x2x4x128x128 .f32) (n : Fin 34) (h : Fin 4) (e f : Fin 128) :
    (shapeCast S34x4x128x128 (extractStridedSlice S34x1x4x128x128 ![0, 1, 0, 0, 0] x slices_S34x2x4x128x128_S34x1x4x128x128_0_1_0_0_0) shapeCasts_S34x1x4x128x128_S34x4x128x128 (ix4 n h e f) : EReal)
      = x (ix5 n 1 h e f) := by
  pointwise

/-- The cotangents below the context rows. -/
theorem cot_at (X : Fin 4096 → Fin 512 → ℝ) (a : FVec Ideal S4096x512 .f32) (ha : ∀ r e, a (ix2 r e) = ((X r e : ℝ) : EReal)) (r : Fin 4352) (e : Fin 512) :
    (truncf .bf16 (concatenate S4352x512 0 [⟨S256x512, broadcastInDim S256x512 ![] bcast_S_S256x512 (constant (F := Ideal) S_ .f32 0x00000000#32)⟩, ⟨S4096x512, a⟩] concatenates_S256x512_S4096x512_S4352x512_d0) bitsLt_bf16_f32 (ix2 r e) : EReal)
      = ((ctx0 X r e : ℝ) : EReal) := by
  pointwise
  unfold ctx0
  by_cases h : r.val < 256
  · rw [dif_pos h, dif_pos h]; simp
  · rw [dif_neg h, dif_neg h, ha]

theorem zero_at (i : S2x4x128x128.Idx) : (broadcastInDim S2x4x128x128 ![] bcast_S_S2x4x128x128 (constant (F := Ideal) S_ .f32 0x00000000#32) i : EReal) = 0 := by
  pointwise

end Cert.Kernel2Ideal.Ret
-- ==== Proof.RetWin.lean ====
/-
The blocks of the grid: point `t` works on chunk `33 - t` of either direction's time, and every block is read as
rows of its array.
-/
module

public import proofs.«01_k».proof.Proof.RetSeq
public import Idealize.ShloMosaic.Lib.Pipeline.ValueKit

@[expose] public section

set_option maxRecDepth 16384

noncomputable section
namespace Cert.Kernel2Ideal.Ret
open Cert.Kernel2Ideal Cert.Kernel2Ideal.Gen
open Idealize.ShloMosaic Idealize.ShloMosaic.TcCoe Idealize.SL.Sem
open Idealize.ShloMosaic.Pipeline (Dat)
open Cert.Ret hiding M T
open Finset

variable (m : (ℓ : Loc nD τ sig) → Buf (Elt Ideal) ℓ) (c : Dev nD)

/-- The block of rows that direction `d` works on at point `t`. -/
def bl (d : Fin 2) (t : ℕ) : ℕ := if d = 0 then 33 - t else if 33 - t < 2 then 1 - (33 - t) else 35 - (33 - t)

theorem bl_lt (d : Fin 2) (t : ℕ) (h : t < 34) : bl d t < 34 := by unfold bl; split_ifs <;> omega

/-- Every window's block index at a grid point. -/
theorem idxA : ∀ t : Fin cfg0.N, win0_0.index t = ![0, 0] ∧ win0_1.index t = ![bl 0 t.val, 0] ∧ win0_2.index t = ![bl 0 t.val, 1] ∧ win0_3.index t = ![bl 0 t.val, 2] :=
  (by decide +kernel : ∀ t : Fin grid0.N, _)
theorem idxB : ∀ t : Fin cfg0.N, win0_4.index t = ![bl 1 t.val, 0] ∧ win0_5.index t = ![bl 1 t.val, 1] ∧ win0_6.index t = ![bl 1 t.val, 2] :=
  (by decide +kernel : ∀ t : Fin grid0.N, _)
theorem idxC : ∀ t : Fin cfg0.N, win0_7.index t = ![bl 0 t.val, 0] ∧ win0_8.index t = ![bl 1 t.val, 0] :=
  (by decide +kernel : ∀ t : Fin grid0.N, _)
theorem idx9 : ∀ t : Fin cfg0.N, win0_9.index t = ![33 - t.val, 0, 0, 0] :=
  (by decide +kernel : ∀ t : Fin grid0.N, win0_9.index t = ![33 - t.val, 0, 0, 0])
theorem idx10 : ∀ t : Fin cfg0.N, win0_10.index t = ![33 - t.val, 0, 0, 0] :=
  (by decide +kernel : ∀ t : Fin grid0.N, win0_10.index t = ![33 - t.val, 0, 0, 0])
theorem idxD : ∀ t : Fin cfg0.N, win0_11.index t = ![bl 0 t.val, 0] ∧ win0_12.index t = ![bl 0 t.val, 0] ∧ win0_13.index t = ![bl 0 t.val, 0] :=
  (by decide +kernel : ∀ t : Fin grid0.N, _)
theorem idxE : ∀ t : Fin cfg0.N, win0_14.index t = ![bl 1 t.val, 0] ∧ win0_15.index t = ![bl 1 t.val, 0] ∧ win0_16.index t = ![bl 1 t.val, 0]
    :=
  (by decide +kernel : ∀ t : Fin grid0.N, _)

theorem idx17 : ∀ t : Fin cfg0.N, win0_17.index t = ![0, 0] :=
  (by decide +kernel : ∀ t : Fin grid0.N, _)

theorem rates_at (t : Fin cfg0.N) (d : Fin 2) (h : Fin 4) : ((iblk m c 0 t : Rates) (ix2 d h) : EReal) = (V m c main_arg3 : S2x4.Idx → EReal) (ix2 d h) := by
  have hi := idxA t
  blk_ext [iblk, hi]

/-- A row of point `t`'s block, as a row of the array. -/
def brow (d : Fin 2) (t : Fin cfg0.N) (i : Fin 128) : Fin 4352 :=
  ⟨bl d t.val * 128 + i.val, by have := bl_lt d t.val (lt_of_lt_of_eq t.isLt N_0); omega⟩

/-- It is the row that the direction reaches at that time. -/
theorem brow_eq (d : Fin 2) (t : Fin cfg0.N) (i : Fin 128) : brow d t i = row d (128 * (33 - t.val) + lam d i) := by
  have ht := lt_of_lt_of_eq t.isLt N_0
  have hl := lam_lt d i
  refine Fin.ext (Eq.trans ?_ (row_val d _ (by omega)).symm)
  show bl d t.val * 128 + i.val = _
  unfold bl rowN lam
  by_cases h : d = 0
  · rw [if_pos h, if_pos h, if_pos h]; omega
  · rw [if_neg h, if_neg h, if_neg h]; split_ifs <;> omega

section
variable (t : Fin cfg0.N) (i : Fin 128) (j : Fin 512)
theorem w1 : (iblk m c 1 t (ix2 i j) : EReal) = (V m c main_v223 : S4352x1536.Idx → EReal) (ix2 (brow 0 t i) ⟨j.val, by omega⟩) := by
  have hi := idxA t
  simp only [brow]
  blk_ext [iblk, hi]
theorem w2 : (iblk m c 2 t (ix2 i j) : EReal) = (V m c main_v223 : S4352x1536.Idx → EReal) (ix2 (brow 0 t i) ⟨512 + j.val, by omega⟩) := by
  have hi := idxA t
  simp only [brow]
  blk_ext [iblk, hi]
theorem w3 : (iblk m c 3 t (ix2 i j) : EReal) = (V m c main_v223 : S4352x1536.Idx → EReal) (ix2 (brow 0 t i) ⟨1024 + j.val, by omega⟩) := by
  have hi := idxA t
  simp only [brow]
  blk_ext [iblk, hi]
theorem w4 : (iblk m c 4 t (ix2 i j) : EReal) = (V m c main_v223 : S4352x1536.Idx → EReal) (ix2 (brow 1 t i) ⟨j.val, by omega⟩) := by
  have hi := idxB t
  simp only [brow]
  blk_ext [iblk, hi]
theorem w5 : (iblk m c 5 t (ix2 i j) : EReal) = (V m c main_v223 : S4352x1536.Idx → EReal) (ix2 (brow 1 t i) ⟨512 + j.val, by omega⟩) := by
  have hi := idxB t
  simp only [brow]
  blk_ext [iblk, hi]
theorem w6 : (iblk m c 6 t (ix2 i j) : EReal) = (V m c main_v223 : S4352x1536.Idx → EReal) (ix2 (brow 1 t i) ⟨1024 + j.val, by omega⟩) := by
  have hi := idxB t
  simp only [brow]
  blk_ext [iblk, hi]
theorem w7 : (iblk m c 7 t (ix2 i j) : EReal) = (V m c main_v226 : S4352x512.Idx → EReal) (ix2 (brow 0 t i) j) := by
  have hi := idxC t
  simp only [brow]
  blk_ext [iblk, hi]
theorem w8 : (iblk m c 8 t (ix2 i j) : EReal) = (V m c main_v226 : S4352x512.Idx → EReal) (ix2 (brow 1 t i) j) := by
  have hi := idxC t
  simp only [brow]
  blk_ext [iblk, hi]
end

/-- A point's chunk. -/
def chunk (t : Fin cfg0.N) : Fin 34 := ⟨33 - t.val, by omega⟩

theorem w9 (t : Fin cfg0.N) (h : Fin 4) (e f : Fin 128) : (iblk m c 9 t (ix4 0 h e f) : EReal) = (V m c main_v219 : S34x4x128x128.Idx → EReal) (ix4 (chunk t) h e f) := by
  have hi := idx9 t
  simp only [chunk]
  blk_ext [iblk, hi]
theorem w10 (t : Fin cfg0.N) (h : Fin 4) (e f : Fin 128) : (iblk m c 10 t (ix4 0 h e f) : EReal) = (V m c main_v221 : S34x4x128x128.Idx → EReal) (ix4 (chunk t) h e f) := by
  have hi := idx10 t
  simp only [chunk]
  blk_ext [iblk, hi]

/-- The three inputs side by side, column by column. -/
abbrev side (a b d : FVec Ideal S4352x512 .f32) : FVec Ideal S4352x1536 .bf16 :=
  truncf .bf16 (concatenate S4352x1536 1 [⟨S4352x512, a⟩, ⟨S4352x512, b⟩, ⟨S4352x512, d⟩] concatenates_S4352x512_S4352x512_S4352x512_S4352x1536_d1) bitsLt_bf16_f32

theorem side_0 (a b d) (r : Fin 4352) (j : Fin 512) (hj) : (side a b d (ix2 r ⟨j.val, hj⟩) : EReal) = a (ix2 r j) := by
  unfold side; have := j.isLt; pointwise
theorem side_1 (a b d) (r : Fin 4352) (j : Fin 512) (hj) : (side a b d (ix2 r ⟨512 + j.val, hj⟩) : EReal) = b (ix2 r j) := by
  unfold side; have := j.isLt; pointwise
theorem side_2 (a b d) (r : Fin 4352) (j : Fin 512) (hj) : (side a b d (ix2 r ⟨1024 + j.val, hj⟩) : EReal) = d (ix2 r j) := by
  unfold side; have := j.isLt; pointwise
  rw [dif_neg (by omega), dif_neg (by omega)]
  exact congrArg d (congrArg (ix2 r) (Fin.ext (by show 1024 + j.val - 512 - 512 = j.val; omega)))

end Cert.Kernel2Ideal.Ret
-- ==== Proof.RetLine.lean ====
/-
The host operations before the retention backward call, read one at a time: each buffer is written once, so what the region finds
in it is its operation applied to what the region finds in the operation's operands.
-/
module

public import proofs.«01_k».proof.Proof.RetTile

@[expose] public section

set_option maxRecDepth 16384

noncomputable section

namespace Cert.Kernel2Ideal.Ret

open Cert.Kernel2Ideal.Gen
open Idealize.ShloMosaic Idealize.ShloMosaic.TcCoe Idealize.SL.Sem
open Cert.Ret hiding M T
open Finset

variable (m : (ℓ : Loc nD τ sig) → Buf (Elt Ideal) ℓ) (c : Dev nD)

abbrev line : List (HloOp τ sig (Elt Ideal)) := hostOps0

/-- No operation from the `i`-th on writes `b`. -/
def kept (i : ℕ) (b : Ref sig .tc) : Bool := (line.drop i).all fun op => decide (Proc.devRef (τ := τ) .tc b ∉ op.writes)

theorem after_append' (l₁ l₂ : List (HloOp τ sig (Elt Ideal))) (σ : Valuation τ sig (Elt Ideal)) :
    StableHlo.after (l₁ ++ l₂) σ = StableHlo.after l₂ (StableHlo.after l₁ σ) := by
  induction l₁ generalizing σ with
  | nil => rfl
  | cons op l ih => exact ih _

/-- A buffer that is not written from the `i`-th operation on is found as the operations before left it. -/
theorem V_kept (i : ℕ) (b : Ref sig .tc) (h : kept i b = true) :
    StableHlo.after (line.take i) (fun b => m (c, b)) (Proc.devRef .tc b) = V m c b := by
  have e : V m c b = StableHlo.after (line.take i ++ line.drop i) (fun b => m (c, b)) (Proc.devRef .tc b) := by
    rw [List.take_append_drop]; simp only [V, V0, List.flatten_cons, List.flatten_nil, List.append_nil]
  rw [e, after_append']
  exact (StableHlo.after_of_forall_not_mem _ _ fun op ho => by simpa using List.all_eq_true.mp h op ho).symm

theorem V_op (i : ℕ) (y : Ref sig .tc) (op : HloOp τ sig (Elt Ideal)) (hop : GetElem?.getElem? line i = some op) (h : kept (i + 1) y = true) :
    V m c y = op.result (StableHlo.after (line.take i) (fun b => m (c, b))) (Proc.devRef .tc y) := by
  rw [← V_kept m c (i + 1) y h]
  have e : line.take (i + 1) = line.take i ++ [op] := by rw [List.take_add_one, hop]; rfl
  rw [e, after_append']
  rfl

theorem una (i : ℕ) {x y : Ref sig .tc} {f hx hy} (hop : GetElem?.getElem? line i = some (StableHlo.unary x y f hx hy))
    (h : (kept (i + 1) y && kept i x) = true) : V m c y = f (V m c x) := by
  rw [Bool.and_eq_true] at h
  rw [V_op m c i y _ hop h.1, StableHlo.unary_result, V_kept m c i x h.2]

theorem bin (i : ℕ) {a b y : Ref sig .tc} {f ha hb hy} (hop : GetElem?.getElem? line i = some (StableHlo.binary a b y f ha hb hy))
    (h : (kept (i + 1) y && kept i a && kept i b) = true) : V m c y = f (V m c a) (V m c b) := by
  rw [Bool.and_eq_true, Bool.and_eq_true] at h
  rw [V_op m c i y _ hop h.1.1, StableHlo.binary_result, V_kept m c i a h.1.2, V_kept m c i b h.2]

theorem nul (i : ℕ) {y : Ref sig .tc} {v hy} (hop : GetElem?.getElem? line i = some (StableHlo.nullary y v hy))
    (h : kept (i + 1) y = true) : V m c y = v := by
  rw [V_op m c i y _ hop h, StableHlo.nullary_result]

theorem res (i : ℕ) {x y : Ref sig .tc} {he hn hx hy} (hop : GetElem?.getElem? line i = some (StableHlo.reshape x y he hn hx hy))
    (h : (kept (i + 1) y && kept i x) = true) : V m c y = fun j => he ▸ shapeCast y.ty.shape (V m c x) hn j := by
  rw [Bool.and_eq_true] at h
  rw [V_op m c i y _ hop h.1, StableHlo.reshape_result, V_kept m c i x h.2]

theorem nar (i : ℕ) {n : ℕ} {xs : Fin n → Ref sig .tc} {y : Ref sig .tc} {f hx hy} (hop : GetElem?.getElem? line i = some (StableHlo.nary xs y f hx hy))
    (h : kept (i + 1) y = true) (hxs : ∀ k, kept i (xs k) = true) : V m c y = f fun k => V m c (xs k) := by
  rw [V_op m c i y _ hop h, StableHlo.nary_result]
  exact congrArg f (funext fun k => V_kept m c i _ (hxs k))

abbrev Sta := S2x4x128x128.Idx → EReal
abbrev us (x : S34x2x4x128x128.Idx → EReal) (n : Fin 34) : Sta := fun y => x (ix5 n (y 0) (y 1) (y 2) (y 3))

abbrev nx (g s u : Sta) : Sta := fun y => g y * s y + u y

theorem slice_us (n : ℕ) (hn : n < 34) (X : Vec Ideal S34x2x4x128x128 .f32) (hs) :
    shapeCast S2x4x128x128 (extractStridedSlice S1x2x4x128x128 ![n, 0, 0, 0, 0] X hs) shapeCasts_S1x2x4x128x128_S2x4x128x128 = us X ⟨n, hn⟩ := by
  funext y
  rw [eq_ix4 y]
  pointwise

theorem next (n : ℕ) (hn : n < 34) (hs) {X : FVec Ideal S34x2x4x128x128 .f32} {y p b g s : FVec Ideal S2x4x128x128 .f32} {a : FVec Ideal S1x2x4x128x128 .f32}
    (h1 : y = addf p b) (h2 : p = mulf g s) (h3 : b = shapeCast S2x4x128x128 a shapeCasts_S1x2x4x128x128_S2x4x128x128)
    (h4 : a = extractStridedSlice S1x2x4x128x128 ![n, 0, 0, 0, 0] X hs) : (y : Sta) = nx g s (us X ⟨n, hn⟩) := by
  rw [← slice_us n hn X hs, h1, h2, h3, h4]; rfl

theorem row_at {y : FVec Ideal S1x2x4x128x128 .f32} {x : FVec Ideal S2x4x128x128 .f32} (hb)
    (h : y = broadcastInDim S1x2x4x128x128 ![1, 2, 3, 4] hb x) (d : Fin 2) (hh : Fin 4) (e f : Fin 128) : (y (ix5 0 d hh e f) : EReal) = x (ix4 d hh e f) := by
  rw [h]; pointwise

variable (l : Fin 2 → Fin 4 → ℝ) (k v : Fin 2 → Fin 4 → ℕ → Fin 128 → ℝ)

/-- `x` is the state before chunk `n`. -/
def Is (x : Sta) (n : ℕ) : Prop := ∀ d h e f, x (ix4 d h e f) = ((S (l d h) (k d h) (v d h) (128 * n) e f : ℝ) : EReal)

/-- What the host line prepares for its recursion: the state's decay over a chunk, and what each chunk adds. -/
structure Steps : Prop where
  hg : ∀ d h e f, (V m c main_v38 : Sta) (ix4 d h e f) = ((Real.exp (l d h * (128 : ℕ)) : ℝ) : EReal)
  hu : ∀ n d h e f, (V m c main_v41 : S34x2x4x128x128.Idx → EReal) (ix5 n d h e f)
    = ((∑ j ∈ range 128, (k d h (128 * n.val + j) e * Real.exp (l d h * ((128 : ℕ) - 1 - (j : ℝ)))) * v d h (128 * n.val + j) f : ℝ) : EReal)

variable {l k v m c}

theorem mad {x y z : EReal} {a b r : ℝ} (hx : x = (a : EReal)) (hy : y = (b : EReal)) (hz : z = (r : EReal)) : x * y + z = ((a * b + r : ℝ) : EReal) := by
  rw [hx, hy, hz, ← EReal.coe_mul, ← EReal.coe_add]

theorem is_next (H : Steps m c l k v) (n : ℕ) (hn : n < 33) {x y : Sta} (hx : Is l k v x n) (h : y = nx (V m c main_v38) x (us (V m c main_v41) ⟨n, by omega⟩)) :
    Is l k v y (n + 1) := fun d hh e f =>
  (congrFun h (ix4 d hh e f)).trans ((mad (H.hg d hh e f) (hx d hh e f) (H.hu ⟨n, by omega⟩ d hh e f)).trans
    (congrArg (fun r : ℝ => (r : EReal)) (by
      rw [show 128 * (n + 1) = 128 * n + 128 by ring, S_step (l d hh) (k d hh) (v d hh) (128 * n) 128 (by show 128 * n + 128 ≤ 4352; omega) e f])))

variable (m c)

set_option maxHeartbeats 4000000 in
theorem part0 (h0 : Is l k v (V m c main_v39) 0) (h1 : Is l k v (V m c main_v46) 1) (h2 : Is l k v (V m c main_v50) 2) (h3 : Is l k v (V m c main_v54) 3) (h4 : Is l k v (V m c main_v58) 4) (h5 : Is l k v (V m c main_v62) 5) (h6 : Is l k v (V m c main_v66) 6) (h7 : Is l k v (V m c main_v70) 7) (h8 : Is l k v (V m c main_v74) 8) (h9 : Is l k v (V m c main_v78) 9) (h10 : Is l k v (V m c main_v82) 10) (h11 : Is l k v (V m c main_v86) 11) (h12 : Is l k v (V m c main_v90) 12) (h13 : Is l k v (V m c main_v94) 13) (h14 : Is l k v (V m c main_v98) 14) (h15 : Is l k v (V m c main_v102) 15)
    (n : Fin 16) (d : Fin 2) (h : Fin 4) (e f : Fin 128) : (V m c main_v213 : S16x2x4x128x128.Idx → EReal) (ix5 n d h e f)
      = ((S (l d h) (k d h) (v d h) (128 * (0 + n.val)) e f : ℝ) : EReal) := by
  rw [nar m c 217 rfl (by decide +kernel) (by decide +kernel)]
  match n with
  | ⟨0, _⟩ => pointwise; exact (row_at _ (una m c 183 rfl (by decide +kernel)) d h e f).trans (h0 d h e f)
  | ⟨1, _⟩ => pointwise; exact (row_at _ (una m c 184 rfl (by decide +kernel)) d h e f).trans (h1 d h e f)
  | ⟨2, _⟩ => pointwise; exact (row_at _ (una m c 185 rfl (by decide +kernel)) d h e f).trans (h2 d h e f)
  | ⟨3, _⟩ => pointwise; exact (row_at _ (una m c 186 rfl (by decide +kernel)) d h e f).trans (h3 d h e f)
  | ⟨4, _⟩ => pointwise; exact (row_at _ (una m c 187 rfl (by decide +kernel)) d h e f).trans (h4 d h e f)
  | ⟨5, _⟩ => pointwise; exact (row_at _ (una m c 188 rfl (by decide +kernel)) d h e f).trans (h5 d h e f)
  | ⟨6, _⟩ => pointwise; exact (row_at _ (una m c 189 rfl (by decide +kernel)) d h e f).trans (h6 d h e f)
  | ⟨7, _⟩ => pointwise; exact (row_at _ (una m c 190 rfl (by decide +kernel)) d h e f).trans (h7 d h e f)
  | ⟨8, _⟩ => pointwise; exact (row_at _ (una m c 191 rfl (by decide +kernel)) d h e f).trans (h8 d h e f)
  | ⟨9, _⟩ => pointwise; exact (row_at _ (una m c 192 rfl (by decide +kernel)) d h e f).trans (h9 d h e f)
  | ⟨10, _⟩ => pointwise; exact (row_at _ (una m c 193 rfl (by decide +kernel)) d h e f).trans (h10 d h e f)
  | ⟨11, _⟩ => pointwise; exact (row_at _ (una m c 194 rfl (by decide +kernel)) d h e f).trans (h11 d h e f)
  | ⟨12, _⟩ => pointwise; exact (row_at _ (una m c 195 rfl (by decide +kernel)) d h e f).trans (h12 d h e f)
  | ⟨13, _⟩ => pointwise; exact (row_at _ (una m c 196 rfl (by decide +kernel)) d h e f).trans (h13 d h e f)
  | ⟨14, _⟩ => pointwise; exact (row_at _ (una m c 197 rfl (by decide +kernel)) d h e f).trans (h14 d h e f)
  | ⟨15, _⟩ => pointwise; exact (row_at _ (una m c 198 rfl (by decide +kernel)) d h e f).trans (h15 d h e f)
  | ⟨n + 16, hn⟩ => exact absurd hn (by omega)

set_option maxHeartbeats 4000000 in
theorem part1 (h16 : Is l k v (V m c main_v106) 16) (h17 : Is l k v (V m c main_v110) 17) (h18 : Is l k v (V m c main_v114) 18) (h19 : Is l k v (V m c main_v118) 19) (h20 : Is l k v (V m c main_v122) 20) (h21 : Is l k v (V m c main_v126) 21) (h22 : Is l k v (V m c main_v130) 22) (h23 : Is l k v (V m c main_v134) 23) (h24 : Is l k v (V m c main_v138) 24) (h25 : Is l k v (V m c main_v142) 25) (h26 : Is l k v (V m c main_v146) 26) (h27 : Is l k v (V m c main_v150) 27) (h28 : Is l k v (V m c main_v154) 28) (h29 : Is l k v (V m c main_v158) 29) (h30 : Is l k v (V m c main_v162) 30) (h31 : Is l k v (V m c main_v166) 31)
    (n : Fin 16) (d : Fin 2) (h : Fin 4) (e f : Fin 128) : (V m c main_v214 : S16x2x4x128x128.Idx → EReal) (ix5 n d h e f)
      = ((S (l d h) (k d h) (v d h) (128 * (16 + n.val)) e f : ℝ) : EReal) := by
  rw [nar m c 218 rfl (by decide +kernel) (by decide +kernel)]
  match n with
  | ⟨0, _⟩ => pointwise; exact (row_at _ (una m c 199 rfl (by decide +kernel)) d h e f).trans (h16 d h e f)
  | ⟨1, _⟩ => pointwise; exact (row_at _ (una m c 200 rfl (by decide +kernel)) d h e f).trans (h17 d h e f)
  | ⟨2, _⟩ => pointwise; exact (row_at _ (una m c 201 rfl (by decide +kernel)) d h e f).trans (h18 d h e f)
  | ⟨3, _⟩ => pointwise; exact (row_at _ (una m c 202 rfl (by decide +kernel)) d h e f).trans (h19 d h e f)
  | ⟨4, _⟩ => pointwise; exact (row_at _ (una m c 203 rfl (by decide +kernel)) d h e f).trans (h20 d h e f)
  | ⟨5, _⟩ => pointwise; exact (row_at _ (una m c 204 rfl (by decide +kernel)) d h e f).trans (h21 d h e f)
  | ⟨6, _⟩ => pointwise; exact (row_at _ (una m c 205 rfl (by decide +kernel)) d h e f).trans (h22 d h e f)
  | ⟨7, _⟩ => pointwise; exact (row_at _ (una m c 206 rfl (by decide +kernel)) d h e f).trans (h23 d h e f)
  | ⟨8, _⟩ => pointwise; exact (row_at _ (una m c 207 rfl (by decide +kernel)) d h e f).trans (h24 d h e f)
  | ⟨9, _⟩ => pointwise; exact (row_at _ (una m c 208 rfl (by decide +kernel)) d h e f).trans (h25 d h e f)
  | ⟨10, _⟩ => pointwise; exact (row_at _ (una m c 209 rfl (by decide +kernel)) d h e f).trans (h26 d h e f)
  | ⟨11, _⟩ => pointwise; exact (row_at _ (una m c 210 rfl (by decide +kernel)) d h e f).trans (h27 d h e f)
  | ⟨12, _⟩ => pointwise; exact (row_at _ (una m c 211 rfl (by decide +kernel)) d h e f).trans (h28 d h e f)
  | ⟨13, _⟩ => pointwise; exact (row_at _ (una m c 212 rfl (by decide +kernel)) d h e f).trans (h29 d h e f)
  | ⟨14, _⟩ => pointwise; exact (row_at _ (una m c 213 rfl (by decide +kernel)) d h e f).trans (h30 d h e f)
  | ⟨15, _⟩ => pointwise; exact (row_at _ (una m c 214 rfl (by decide +kernel)) d h e f).trans (h31 d h e f)
  | ⟨n + 16, hn⟩ => exact absurd hn (by omega)

set_option maxHeartbeats 4000000 in
theorem part2 (h32 : Is l k v (V m c main_v170) 32) (h33 : Is l k v (V m c main_v174) 33)
    (n : Fin 2) (d : Fin 2) (h : Fin 4) (e f : Fin 128) : (V m c main_v215 : S2x2x4x128x128.Idx → EReal) (ix5 n d h e f)
      = ((S (l d h) (k d h) (v d h) (128 * (32 + n.val)) e f : ℝ) : EReal) := by
  rw [bin m c 219 rfl (by decide +kernel)]
  match n with
  | ⟨0, _⟩ => pointwise; exact (row_at _ (una m c 215 rfl (by decide +kernel)) d h e f).trans (h32 d h e f)
  | ⟨1, _⟩ => pointwise; exact (row_at _ (una m c 216 rfl (by decide +kernel)) d h e f).trans (h33 d h e f)
  | ⟨n + 2, hn⟩ => exact absurd hn (by omega)

set_option maxHeartbeats 8000000 in
/-- The saved states: chunk `n`'s is what the rows before it sum to. -/
theorem saved_parts (H : Steps m c l k v) (h0 : Is l k v (V m c main_v39) 0) :
    (∀ (n : Fin 16) (d : Fin 2) (h : Fin 4) (e f : Fin 128), (V m c main_v213 : S16x2x4x128x128.Idx → EReal) (ix5 n d h e f) = ((S (l d h) (k d h) (v d h) (128 * (0 + n.val)) e f : ℝ) : EReal)) ∧
    (∀ (n : Fin 16) (d : Fin 2) (h : Fin 4) (e f : Fin 128), (V m c main_v214 : S16x2x4x128x128.Idx → EReal) (ix5 n d h e f) = ((S (l d h) (k d h) (v d h) (128 * (16 + n.val)) e f : ℝ) : EReal)) ∧
    (∀ (n : Fin 2) (d : Fin 2) (h : Fin 4) (e f : Fin 128), (V m c main_v215 : S2x2x4x128x128.Idx → EReal) (ix5 n d h e f) = ((S (l d h) (k d h) (v d h) (128 * (32 + n.val)) e f : ℝ) : EReal)) := by
  have h1 : Is l k v (V m c main_v46) 1 := is_next H 0 (by omega) h0 (next 0 (by omega) _ (bin m c 50 rfl (by decide +kernel)) (bin m c 49 rfl (by decide +kernel)) (res m c 48 rfl (by decide +kernel)) (una m c 47 rfl (by decide +kernel)))
  have h2 : Is l k v (V m c main_v50) 2 := is_next H 1 (by omega) h1 (next 1 (by omega) _ (bin m c 54 rfl (by decide +kernel)) (bin m c 53 rfl (by decide +kernel)) (res m c 52 rfl (by decide +kernel)) (una m c 51 rfl (by decide +kernel)))
  have h3 : Is l k v (V m c main_v54) 3 := is_next H 2 (by omega) h2 (next 2 (by omega) _ (bin m c 58 rfl (by decide +kernel)) (bin m c 57 rfl (by decide +kernel)) (res m c 56 rfl (by decide +kernel)) (una m c 55 rfl (by decide +kernel)))
  have h4 : Is l k v (V m c main_v58) 4 := is_next H 3 (by omega) h3 (next 3 (by omega) _ (bin m c 62 rfl (by decide +kernel)) (bin m c 61 rfl (by decide +kernel)) (res m c 60 rfl (by decide +kernel)) (una m c 59 rfl (by decide +kernel)))
  have h5 : Is l k v (V m c main_v62) 5 := is_next H 4 (by omega) h4 (next 4 (by omega) _ (bin m c 66 rfl (by decide +kernel)) (bin m c 65 rfl (by decide +kernel)) (res m c 64 rfl (by decide +kernel)) (una m c 63 rfl (by decide +kernel)))
  have h6 : Is l k v (V m c main_v66) 6 := is_next H 5 (by omega) h5 (next 5 (by omega) _ (bin m c 70 rfl (by decide +kernel)) (bin m c 69 rfl (by decide +kernel)) (res m c 68 rfl (by decide +kernel)) (una m c 67 rfl (by decide +kernel)))
  have h7 : Is l k v (V m c main_v70) 7 := is_next H 6 (by omega) h6 (next 6 (by omega) _ (bin m c 74 rfl (by decide +kernel)) (bin m c 73 rfl (by decide +kernel)) (res m c 72 rfl (by decide +kernel)) (una m c 71 rfl (by decide +kernel)))
  have h8 : Is l k v (V m c main_v74) 8 := is_next H 7 (by omega) h7 (next 7 (by omega) _ (bin m c 78 rfl (by decide +kernel)) (bin m c 77 rfl (by decide +kernel)) (res m c 76 rfl (by decide +kernel)) (una m c 75 rfl (by decide +kernel)))
  have h9 : Is l k v (V m c main_v78) 9 := is_next H 8 (by omega) h8 (next 8 (by omega) _ (bin m c 82 rfl (by decide +kernel)) (bin m c 81 rfl (by decide +kernel)) (res m c 80 rfl (by decide +kernel)) (una m c 79 rfl (by decide +kernel)))
  have h10 : Is l k v (V m c main_v82) 10 := is_next H 9 (by omega) h9 (next 9 (by omega) _ (bin m c 86 rfl (by decide +kernel)) (bin m c 85 rfl (by decide +kernel)) (res m c 84 rfl (by decide +kernel)) (una m c 83 rfl (by decide +kernel)))
  have h11 : Is l k v (V m c main_v86) 11 := is_next H 10 (by omega) h10 (next 10 (by omega) _ (bin m c 90 rfl (by decide +kernel)) (bin m c 89 rfl (by decide +kernel)) (res m c 88 rfl (by decide +kernel)) (una m c 87 rfl (by decide +kernel)))
  have h12 : Is l k v (V m c main_v90) 12 := is_next H 11 (by omega) h11 (next 11 (by omega) _ (bin m c 94 rfl (by decide +kernel)) (bin m c 93 rfl (by decide +kernel)) (res m c 92 rfl (by decide +kernel)) (una m c 91 rfl (by decide +kernel)))
  have h13 : Is l k v (V m c main_v94) 13 := is_next H 12 (by omega) h12 (next 12 (by omega) _ (bin m c 98 rfl (by decide +kernel)) (bin m c 97 rfl (by decide +kernel)) (res m c 96 rfl (by decide +kernel)) (una m c 95 rfl (by decide +kernel)))
  have h14 : Is l k v (V m c main_v98) 14 := is_next H 13 (by omega) h13 (next 13 (by omega) _ (bin m c 102 rfl (by decide +kernel)) (bin m c 101 rfl (by decide +kernel)) (res m c 100 rfl (by decide +kernel)) (una m c 99 rfl (by decide +kernel)))
  have h15 : Is l k v (V m c main_v102) 15 := is_next H 14 (by omega) h14 (next 14 (by omega) _ (bin m c 106 rfl (by decide +kernel)) (bin m c 105 rfl (by decide +kernel)) (res m c 104 rfl (by decide +kernel)) (una m c 103 rfl (by decide +kernel)))
  have h16 : Is l k v (V m c main_v106) 16 := is_next H 15 (by omega) h15 (next 15 (by omega) _ (bin m c 110 rfl (by decide +kernel)) (bin m c 109 rfl (by decide +kernel)) (res m c 108 rfl (by decide +kernel)) (una m c 107 rfl (by decide +kernel)))
  have h17 : Is l k v (V m c main_v110) 17 := is_next H 16 (by omega) h16 (next 16 (by omega) _ (bin m c 114 rfl (by decide +kernel)) (bin m c 113 rfl (by decide +kernel)) (res m c 112 rfl (by decide +kernel)) (una m c 111 rfl (by decide +kernel)))
  have h18 : Is l k v (V m c main_v114) 18 := is_next H 17 (by omega) h17 (next 17 (by omega) _ (bin m c 118 rfl (by decide +kernel)) (bin m c 117 rfl (by decide +kernel)) (res m c 116 rfl (by decide +kernel)) (una m c 115 rfl (by decide +kernel)))
  have h19 : Is l k v (V m c main_v118) 19 := is_next H 18 (by omega) h18 (next 18 (by omega) _ (bin m c 122 rfl (by decide +kernel)) (bin m c 121 rfl (by decide +kernel)) (res m c 120 rfl (by decide +kernel)) (una m c 119 rfl (by decide +kernel)))
  have h20 : Is l k v (V m c main_v122) 20 := is_next H 19 (by omega) h19 (next 19 (by omega) _ (bin m c 126 rfl (by decide +kernel)) (bin m c 125 rfl (by decide +kernel)) (res m c 124 rfl (by decide +kernel)) (una m c 123 rfl (by decide +kernel)))
  have h21 : Is l k v (V m c main_v126) 21 := is_next H 20 (by omega) h20 (next 20 (by omega) _ (bin m c 130 rfl (by decide +kernel)) (bin m c 129 rfl (by decide +kernel)) (res m c 128 rfl (by decide +kernel)) (una m c 127 rfl (by decide +kernel)))
  have h22 : Is l k v (V m c main_v130) 22 := is_next H 21 (by omega) h21 (next 21 (by omega) _ (bin m c 134 rfl (by decide +kernel)) (bin m c 133 rfl (by decide +kernel)) (res m c 132 rfl (by decide +kernel)) (una m c 131 rfl (by decide +kernel)))
  have h23 : Is l k v (V m c main_v134) 23 := is_next H 22 (by omega) h22 (next 22 (by omega) _ (bin m c 138 rfl (by decide +kernel)) (bin m c 137 rfl (by decide +kernel)) (res m c 136 rfl (by decide +kernel)) (una m c 135 rfl (by decide +kernel)))
  have h24 : Is l k v (V m c main_v138) 24 := is_next H 23 (by omega) h23 (next 23 (by omega) _ (bin m c 142 rfl (by decide +kernel)) (bin m c 141 rfl (by decide +kernel)) (res m c 140 rfl (by decide +kernel)) (una m c 139 rfl (by decide +kernel)))
  have h25 : Is l k v (V m c main_v142) 25 := is_next H 24 (by omega) h24 (next 24 (by omega) _ (bin m c 146 rfl (by decide +kernel)) (bin m c 145 rfl (by decide +kernel)) (res m c 144 rfl (by decide +kernel)) (una m c 143 rfl (by decide +kernel)))
  have h26 : Is l k v (V m c main_v146) 26 := is_next H 25 (by omega) h25 (next 25 (by omega) _ (bin m c 150 rfl (by decide +kernel)) (bin m c 149 rfl (by decide +kernel)) (res m c 148 rfl (by decide +kernel)) (una m c 147 rfl (by decide +kernel)))
  have h27 : Is l k v (V m c main_v150) 27 := is_next H 26 (by omega) h26 (next 26 (by omega) _ (bin m c 154 rfl (by decide +kernel)) (bin m c 153 rfl (by decide +kernel)) (res m c 152 rfl (by decide +kernel)) (una m c 151 rfl (by decide +kernel)))
  have h28 : Is l k v (V m c main_v154) 28 := is_next H 27 (by omega) h27 (next 27 (by omega) _ (bin m c 158 rfl (by decide +kernel)) (bin m c 157 rfl (by decide +kernel)) (res m c 156 rfl (by decide +kernel)) (una m c 155 rfl (by decide +kernel)))
  have h29 : Is l k v (V m c main_v158) 29 := is_next H 28 (by omega) h28 (next 28 (by omega) _ (bin m c 162 rfl (by decide +kernel)) (bin m c 161 rfl (by decide +kernel)) (res m c 160 rfl (by decide +kernel)) (una m c 159 rfl (by decide +kernel)))
  have h30 : Is l k v (V m c main_v162) 30 := is_next H 29 (by omega) h29 (next 29 (by omega) _ (bin m c 166 rfl (by decide +kernel)) (bin m c 165 rfl (by decide +kernel)) (res m c 164 rfl (by decide +kernel)) (una m c 163 rfl (by decide +kernel)))
  have h31 : Is l k v (V m c main_v166) 31 := is_next H 30 (by omega) h30 (next 30 (by omega) _ (bin m c 170 rfl (by decide +kernel)) (bin m c 169 rfl (by decide +kernel)) (res m c 168 rfl (by decide +kernel)) (una m c 167 rfl (by decide +kernel)))
  have h32 : Is l k v (V m c main_v170) 32 := is_next H 31 (by omega) h31 (next 31 (by omega) _ (bin m c 174 rfl (by decide +kernel)) (bin m c 173 rfl (by decide +kernel)) (res m c 172 rfl (by decide +kernel)) (una m c 171 rfl (by decide +kernel)))
  have h33 : Is l k v (V m c main_v174) 33 := is_next H 32 (by omega) h32 (next 32 (by omega) _ (bin m c 178 rfl (by decide +kernel)) (bin m c 177 rfl (by decide +kernel)) (res m c 176 rfl (by decide +kernel)) (una m c 175 rfl (by decide +kernel)))
  have p0 := part0 m c h0 h1 h2 h3 h4 h5 h6 h7 h8 h9 h10 h11 h12 h13 h14 h15
  have p1 := part1 m c h16 h17 h18 h19 h20 h21 h22 h23 h24 h25 h26 h27 h28 h29 h30 h31
  have p2 := part2 m c h32 h33
  exact ⟨p0, p1, p2⟩

end Cert.Kernel2Ideal.Ret

end
-- ==== Proof.RetFirst.lean ====
/-
The first point of the retention backward call: each output block at an index.
-/
module

public import proofs.«01_k».proof.Proof.RetPoint

@[expose] public section

set_option maxRecDepth 16384

noncomputable section

namespace Cert.Kernel2Ideal.Ret

open Cert.Kernel2Ideal.Gen
open Idealize.ShloMosaic Idealize.ShloMosaic.TcCoe Idealize.SL.Sem
open Idealize.ShloMosaic.Pipeline (Dat)

variable (m : (ℓ : Loc nD τ sig) → Buf (Elt Ideal) ℓ) (c : Dev nD) (t : Fin cfg0.N)

/-- The state's gradient just set to zero. -/
theorem fill_st (Z : S2x4x128x128.Idx → Elt Ideal .f32) (inb) :
    View.canon [(⟨Rect.unit ![0, 0, 0, 0] ![2, 4, 128, 128] inb, Z⟩ : View.Piece (Elt Ideal) S2x4x128x128 .f32)] = Z :=
  View.canon_cons_unit_lit' inb Z [] (by decide)

set_option maxHeartbeats 4000000 in
theorem dq0_A (h : t.val = 0) (y : S128x512.Idx) :
    (leftA m c t h).dq0 y = dqF 0 (bk m c t 0) (bv m c t 0) (bo m c t 0) (bs m c t 0) (leftA m c t h).dec (y 0) (hd (y 1)) (ln (y 1)) := by
  generalize hD : (leftA m c t h).dec = D
  generalize hR : (leftA m c t h).rel = R
  revert hD hR
  dsimp only [leftA, runA]
  frame_open
  simp (disch := decide) only [↓View.readCov_skip (View.whole cc0_scratch0), ↓View.readCov_cons_toLoadRect (View.whole cc0_scratch0),
    ↓View.readCov_skip (ms0_17 t).view, ↓View.readCov_cons_toLoadRect (ms0_17 t).view,
    ↓View.readCov_fill (ms0_17 t).view, ↓readCov_ld (View.whole cc0_scratch1), ↓readCov_ld (View.whole cc0_scratch2)]
  frame_out
  intro hD hR
  simp only [hD, hR, readCov_ld (View.whole cc0_scratch0), fill_st]
  clear hD hR h
  canon_tiles x h
  all_goals
    open_payloads
    pointwise
    first
    | rw [hd_of (y 1) (x 1) 0 (by omega) (by omega), ln_of (y 1) (x 1) 0 (by omega)]
    | rw [hd_of (y 1) (x 1) 1 (by omega) (by omega), ln_of (y 1) (x 1) 1 (by omega)]
    | rw [hd_of (y 1) (x 1) 2 (by omega) (by omega), ln_of (y 1) (x 1) 2 (by omega)]
    | rw [hd_of (y 1) (x 1) 3 (by omega) (by omega), ln_of (y 1) (x 1) 3 (by omega)]
    rw [show y 0 = x 0 from Fin.ext h0]
    simp only [dqF, dkF, dvF, daF, g1F, h1F, aF, mul_zero, zero_mul, Finset.sum_const_zero, add_zero]
    rfl

set_option maxHeartbeats 4000000 in
theorem dk0_A (h : t.val = 0) (y : S128x512.Idx) :
    (leftA m c t h).dk0 y = dkF 0 (bq m c t 0) (bv m c t 0) (bo m c t 0) (fun _ => 0) (leftA m c t h).dec (y 0) (hd (y 1)) (ln (y 1)) := by
  generalize hD : (leftA m c t h).dec = D
  generalize hR : (leftA m c t h).rel = R
  revert hD hR
  dsimp only [leftA, runA]
  frame_open
  simp (disch := decide) only [↓View.readCov_skip (View.whole cc0_scratch0), ↓View.readCov_cons_toLoadRect (View.whole cc0_scratch0),
    ↓View.readCov_skip (ms0_17 t).view, ↓View.readCov_cons_toLoadRect (ms0_17 t).view,
    ↓View.readCov_fill (ms0_17 t).view, ↓readCov_ld (View.whole cc0_scratch1), ↓readCov_ld (View.whole cc0_scratch2)]
  frame_out
  intro hD hR
  simp only [hD, hR, readCov_ld (View.whole cc0_scratch0), fill_st]
  clear hD hR h
  canon_tiles x h
  all_goals
    open_payloads
    pointwise
    first
    | rw [hd_of (y 1) (x 1) 0 (by omega) (by omega), ln_of (y 1) (x 1) 0 (by omega)]
    | rw [hd_of (y 1) (x 1) 1 (by omega) (by omega), ln_of (y 1) (x 1) 1 (by omega)]
    | rw [hd_of (y 1) (x 1) 2 (by omega) (by omega), ln_of (y 1) (x 1) 2 (by omega)]
    | rw [hd_of (y 1) (x 1) 3 (by omega) (by omega), ln_of (y 1) (x 1) 3 (by omega)]
    rw [show y 0 = x 0 from Fin.ext h0]
    simp only [dqF, dkF, dvF, daF, g1F, h1F, aF, mul_zero, zero_mul, Finset.sum_const_zero, add_zero]
    rfl

set_option maxHeartbeats 4000000 in
theorem dv0_A (h : t.val = 0) (y : S128x512.Idx) :
    (leftA m c t h).dv0 y = dvF 0 (bq m c t 0) (bk m c t 0) (bo m c t 0) (fun _ => 0) (leftA m c t h).dec (y 0) (hd (y 1)) (ln (y 1)) := by
  generalize hD : (leftA m c t h).dec = D
  generalize hR : (leftA m c t h).rel = R
  revert hD hR
  dsimp only [leftA, runA]
  frame_open
  simp (disch := decide) only [↓View.readCov_skip (View.whole cc0_scratch0), ↓View.readCov_cons_toLoadRect (View.whole cc0_scratch0),
    ↓View.readCov_skip (ms0_17 t).view, ↓View.readCov_cons_toLoadRect (ms0_17 t).view,
    ↓View.readCov_fill (ms0_17 t).view, ↓readCov_ld (View.whole cc0_scratch1), ↓readCov_ld (View.whole cc0_scratch2)]
  frame_out
  intro hD hR
  simp only [hD, hR, readCov_ld (View.whole cc0_scratch0), fill_st]
  clear hD hR h
  canon_tiles x h
  all_goals
    open_payloads
    pointwise
    first
    | rw [hd_of (y 1) (x 1) 0 (by omega) (by omega), ln_of (y 1) (x 1) 0 (by omega)]
    | rw [hd_of (y 1) (x 1) 1 (by omega) (by omega), ln_of (y 1) (x 1) 1 (by omega)]
    | rw [hd_of (y 1) (x 1) 2 (by omega) (by omega), ln_of (y 1) (x 1) 2 (by omega)]
    | rw [hd_of (y 1) (x 1) 3 (by omega) (by omega), ln_of (y 1) (x 1) 3 (by omega)]
    rw [show y 0 = x 0 from Fin.ext h0]
    simp only [dqF, dkF, dvF, daF, g1F, h1F, aF, mul_zero, zero_mul, Finset.sum_const_zero, add_zero]
    rfl

set_option maxHeartbeats 4000000 in
theorem dq1_A (h : t.val = 0) (y : S128x512.Idx) :
    (leftA m c t h).dq1 y = dqF 1 (bk m c t 1) (bv m c t 1) (bo m c t 1) (bs m c t 1) (leftA m c t h).dec (y 0) (hd (y 1)) (ln (y 1)) := by
  generalize hD : (leftA m c t h).dec = D
  generalize hR : (leftA m c t h).rel = R
  revert hD hR
  dsimp only [leftA, runA]
  frame_open
  simp (disch := decide) only [↓View.readCov_skip (View.whole cc0_scratch0), ↓View.readCov_cons_toLoadRect (View.whole cc0_scratch0),
    ↓View.readCov_skip (ms0_17 t).view, ↓View.readCov_cons_toLoadRect (ms0_17 t).view,
    ↓View.readCov_fill (ms0_17 t).view, ↓readCov_ld (View.whole cc0_scratch1), ↓readCov_ld (View.whole cc0_scratch2)]
  frame_out
  intro hD hR
  simp only [hD, hR, readCov_ld (View.whole cc0_scratch0), fill_st]
  clear hD hR h
  canon_tiles x h
  all_goals
    open_payloads
    pointwise
    first
    | rw [hd_of (y 1) (x 1) 0 (by omega) (by omega), ln_of (y 1) (x 1) 0 (by omega)]
    | rw [hd_of (y 1) (x 1) 1 (by omega) (by omega), ln_of (y 1) (x 1) 1 (by omega)]
    | rw [hd_of (y 1) (x 1) 2 (by omega) (by omega), ln_of (y 1) (x 1) 2 (by omega)]
    | rw [hd_of (y 1) (x 1) 3 (by omega) (by omega), ln_of (y 1) (x 1) 3 (by omega)]
    rw [show y 0 = x 0 from Fin.ext h0]
    simp only [dqF, dkF, dvF, daF, g1F, h1F, aF, mul_zero, zero_mul, Finset.sum_const_zero, add_zero]
    rfl

set_option maxHeartbeats 4000000 in
theorem dk1_A (h : t.val = 0) (y : S128x512.Idx) :
    (leftA m c t h).dk1 y = dkF 1 (bq m c t 1) (bv m c t 1) (bo m c t 1) (fun _ => 0) (leftA m c t h).dec (y 0) (hd (y 1)) (ln (y 1)) := by
  generalize hD : (leftA m c t h).dec = D
  generalize hR : (leftA m c t h).rel = R
  revert hD hR
  dsimp only [leftA, runA]
  frame_open
  simp (disch := decide) only [↓View.readCov_skip (View.whole cc0_scratch0), ↓View.readCov_cons_toLoadRect (View.whole cc0_scratch0),
    ↓View.readCov_skip (ms0_17 t).view, ↓View.readCov_cons_toLoadRect (ms0_17 t).view,
    ↓View.readCov_fill (ms0_17 t).view, ↓readCov_ld (View.whole cc0_scratch1), ↓readCov_ld (View.whole cc0_scratch2)]
  frame_out
  intro hD hR
  simp only [hD, hR, readCov_ld (View.whole cc0_scratch0), fill_st]
  clear hD hR h
  canon_tiles x h
  all_goals
    open_payloads
    pointwise
    first
    | rw [hd_of (y 1) (x 1) 0 (by omega) (by omega), ln_of (y 1) (x 1) 0 (by omega)]
    | rw [hd_of (y 1) (x 1) 1 (by omega) (by omega), ln_of (y 1) (x 1) 1 (by omega)]
    | rw [hd_of (y 1) (x 1) 2 (by omega) (by omega), ln_of (y 1) (x 1) 2 (by omega)]
    | rw [hd_of (y 1) (x 1) 3 (by omega) (by omega), ln_of (y 1) (x 1) 3 (by omega)]
    rw [show y 0 = x 0 from Fin.ext h0]
    simp only [dqF, dkF, dvF, daF, g1F, h1F, aF, mul_zero, zero_mul, Finset.sum_const_zero, add_zero]
    rfl

set_option maxHeartbeats 4000000 in
theorem dv1_A (h : t.val = 0) (y : S128x512.Idx) :
    (leftA m c t h).dv1 y = dvF 1 (bq m c t 1) (bk m c t 1) (bo m c t 1) (fun _ => 0) (leftA m c t h).dec (y 0) (hd (y 1)) (ln (y 1)) := by
  generalize hD : (leftA m c t h).dec = D
  generalize hR : (leftA m c t h).rel = R
  revert hD hR
  dsimp only [leftA, runA]
  frame_open
  simp (disch := decide) only [↓View.readCov_skip (View.whole cc0_scratch0), ↓View.readCov_cons_toLoadRect (View.whole cc0_scratch0),
    ↓View.readCov_skip (ms0_17 t).view, ↓View.readCov_cons_toLoadRect (ms0_17 t).view,
    ↓View.readCov_fill (ms0_17 t).view, ↓readCov_ld (View.whole cc0_scratch1), ↓readCov_ld (View.whole cc0_scratch2)]
  frame_out
  intro hD hR
  simp only [hD, hR, readCov_ld (View.whole cc0_scratch0), fill_st]
  clear hD hR h
  canon_tiles x h
  all_goals
    open_payloads
    pointwise
    first
    | rw [hd_of (y 1) (x 1) 0 (by omega) (by omega), ln_of (y 1) (x 1) 0 (by omega)]
    | rw [hd_of (y 1) (x 1) 1 (by omega) (by omega), ln_of (y 1) (x 1) 1 (by omega)]
    | rw [hd_of (y 1) (x 1) 2 (by omega) (by omega), ln_of (y 1) (x 1) 2 (by omega)]
    | rw [hd_of (y 1) (x 1) 3 (by omega) (by omega), ln_of (y 1) (x 1) 3 (by omega)]
    rw [show y 0 = x 0 from Fin.ext h0]
    simp only [dqF, dkF, dvF, daF, g1F, h1F, aF, mul_zero, zero_mul, Finset.sum_const_zero, add_zero]
    rfl

end Cert.Kernel2Ideal.Ret

end
-- ==== Proof.RetFirstS.lean ====
/-
The first point of the retention backward call: its scratch arrays and the gradient of the rates at an index.
-/
module

public import proofs.«01_k».proof.Proof.RetFirst

@[expose] public section

set_option maxRecDepth 16384

noncomputable section

namespace Cert.Kernel2Ideal.Ret

open Cert.Kernel2Ideal.Gen
open Idealize.ShloMosaic Idealize.ShloMosaic.TcCoe Idealize.SL.Sem
open Idealize.ShloMosaic.Pipeline (Dat)

variable (m : (ℓ : Loc nD τ sig) → Buf (Elt Ideal) ℓ) (c : Dev nD) (t : Fin cfg0.N)

set_option maxHeartbeats 4000000 in
theorem st_A (h : t.val = 0) (y : S2x4x128x128.Idx) :
    (leftA m c t h).st y = stF (y 0) (bq m c t (y 0)) (bo m c t (y 0)) (fun _ => 0) (leftA m c t h).dec (iblk m c 0 t) (y 1) (y 2) (y 3) := by
  generalize hD : (leftA m c t h).dec = D
  generalize hR : (leftA m c t h).rel = R
  revert hD hR
  dsimp only [leftA, runA]
  frame_open
  simp (disch := decide) only [↓View.readCov_skip (View.whole cc0_scratch0), ↓View.readCov_cons_toLoadRect (View.whole cc0_scratch0),
    ↓View.readCov_skip (ms0_17 t).view, ↓View.readCov_cons_toLoadRect (ms0_17 t).view,
    ↓View.readCov_fill (ms0_17 t).view, ↓readCov_ld (View.whole cc0_scratch1), ↓readCov_ld (View.whole cc0_scratch2)]
  frame_out
  intro hD hR
  simp only [hD, hR, readCov_ld (View.whole cc0_scratch0), fill_st]
  clear hD hR h
  have k0 : (y 0 : ℕ) < 2 := (y 0).isLt
  have k1 : (y 1 : ℕ) < 4 := (y 1).isLt
  have k2 : (y 2 : ℕ) < 128 := (y 2).isLt
  have k3 : (y 3 : ℕ) < 128 := (y 3).isLt
  refine canon_tile (Val := Elt Ideal) ?p7 fun g7 => canon_tile (Val := Elt Ideal) ?p6 fun g6 =>
    canon_tile (Val := Elt Ideal) ?p5 fun g5 => canon_tile (Val := Elt Ideal) ?p4 fun g4 =>
    canon_tile (Val := Elt Ideal) ?p3 fun g3 => canon_tile (Val := Elt Ideal) ?p2 fun g2 =>
    canon_tile (Val := Elt Ideal) ?p1 fun g1 => canon_tile (Val := Elt Ideal) ?p0 fun g0 => ?_
  on_goal 9 =>
    have key : ∀ a b : ℕ, ¬ (∀ i : Fin 4, (![a, b, 0, 0] : Fin 4 → ℕ) i ≤ y i ∧ (y i : ℕ) < (![a, b, 0, 0] : Fin 4 → ℕ) i + (![1, 1, 128, 128] : Fin 4 → ℕ) i) → ¬ ((y 0 : ℕ) = a ∧ (y 1 : ℕ) = b) := by
      rintro a b hn ⟨rfl, rfl⟩
      refine hn fun i => ?_
      match i with
      | 0 => exact ⟨le_rfl, Nat.lt_succ_self _⟩
      | 1 => exact ⟨le_rfl, Nat.lt_succ_self _⟩
      | 2 => exact ⟨Nat.zero_le _, by show (y 2 : ℕ) < 0 + 128; omega⟩
      | 3 => exact ⟨Nat.zero_le _, by show (y 3 : ℕ) < 0 + 128; omega⟩
    have g0 := key _ _ g0; have g1 := key _ _ g1; have g2 := key _ _ g2; have g3 := key _ _ g3
    have g4 := key _ _ g4; have g5 := key _ _ g5; have g6 := key _ _ g6; have g7 := key _ _ g7
    omega
  all_goals
    tile_intro x h
    open_payloads
    pointwise
    rw [show y 2 = x 2 from Fin.ext h2, show y 3 = x 3 from Fin.ext h3]
    first
    | rw [show y 0 = (0 : Fin 2) from Fin.ext (by show (y 0 : ℕ) = 0; omega)]
    | rw [show y 0 = (1 : Fin 2) from Fin.ext (by show (y 0 : ℕ) = 1; omega)]
    first
    | rw [show y 1 = (0 : Fin 4) from Fin.ext (by show (y 1 : ℕ) = 0; omega)]
    | rw [show y 1 = (1 : Fin 4) from Fin.ext (by show (y 1 : ℕ) = 1; omega)]
    | rw [show y 1 = (2 : Fin 4) from Fin.ext (by show (y 1 : ℕ) = 2; omega)]
    | rw [show y 1 = (3 : Fin 4) from Fin.ext (by show (y 1 : ℕ) = 3; omega)]
    simp only [stF, mul_zero, zero_add]
    rfl

set_option maxHeartbeats 4000000 in
theorem dl_A (h : t.val = 0) (y : S8x1024.Idx) (hy : (y 1).val < 128) (d : Fin 2) (hh : Fin 4) (hr : (y 0).val = 4 * d.val + hh.val) :
    (leftA m c t h).dl y = 0 + dlF d (bq m c t d) (bk m c t d) (bv m c t d) (bo m c t d) (bs m c t d) (fun _ => 0) (leftA m c t h).dec (leftA m c t h).rel (iblk m c 0 t) hh ⟨y 1, hy⟩ := by
  generalize hD : (leftA m c t h).dec = D
  generalize hR : (leftA m c t h).rel = R
  revert hD hR
  dsimp only [leftA, runA]
  frame_open
  simp (disch := decide) only [↓View.readCov_skip (View.whole cc0_scratch0), ↓View.readCov_cons_toLoadRect (View.whole cc0_scratch0),
    ↓View.readCov_skip (ms0_17 t).view, ↓View.readCov_cons_toLoadRect (ms0_17 t).view,
    ↓View.readCov_fill (ms0_17 t).view, ↓readCov_ld (View.whole cc0_scratch1), ↓readCov_ld (View.whole cc0_scratch2)]
  frame_out
  intro hD hR
  simp only [hD, hR, readCov_ld (View.whole cc0_scratch0), fill_st]
  clear hD hR h
  have h8 : (y 0 : ℕ) < 8 := (y 0).isLt
  refine canon_tile (Val := Elt Ideal) ?p7 fun h7 => canon_tile (Val := Elt Ideal) ?p6 fun h6 =>
    canon_tile (Val := Elt Ideal) ?p5 fun h5 => canon_tile (Val := Elt Ideal) ?p4 fun h4 =>
    canon_tile (Val := Elt Ideal) ?p3 fun h3 => canon_tile (Val := Elt Ideal) ?p2 fun h2 =>
    canon_tile (Val := Elt Ideal) ?p1 fun h1 => canon_tile (Val := Elt Ideal) ?p0 fun h0 => ?_
  on_goal 9 =>
    rw [Fin.forall_fin_two] at h0 h1 h2 h3 h4 h5 h6 h7
    dsimp only [Matrix.cons_val_zero, Matrix.cons_val_one] at h0 h1 h2 h3 h4 h5 h6 h7
    omega
  all_goals
    tile_intro x g
    have hx : (⟨y 1, hy⟩ : Fin 128) = x 1 := Fin.ext g1
    rw [hx]
    have hd2 : (d : ℕ) < 2 := d.isLt
    have hh4 : (hh : ℕ) < 4 := hh.isLt
    first
    | rw [show d = (0 : Fin 2) from Fin.ext (by show (d : ℕ) = 0; omega)]
    | rw [show d = (1 : Fin 2) from Fin.ext (by show (d : ℕ) = 1; omega)]
    first
    | rw [show hh = (0 : Fin 4) from Fin.ext (by show (hh : ℕ) = 0; omega)]
    | rw [show hh = (1 : Fin 4) from Fin.ext (by show (hh : ℕ) = 1; omega)]
    | rw [show hh = (2 : Fin 4) from Fin.ext (by show (hh : ℕ) = 2; omega)]
    | rw [show hh = (3 : Fin 4) from Fin.ext (by show (hh : ℕ) = 3; omega)]
    open_payloads
    pointwise
    simp only [dlF, daF, aF, g1F, h1F, zero_add, mul_zero, zero_mul, Finset.sum_const_zero, add_zero]
    rfl

end Cert.Kernel2Ideal.Ret

end
-- ==== Proof.RetLater.lean ====
/-
The later points of the retention backward call: each output and scratch array at an index.
-/
module

public import proofs.«01_k».proof.Proof.RetPoint

@[expose] public section

set_option maxRecDepth 16384

noncomputable section

namespace Cert.Kernel2Ideal.Ret

open Cert.Kernel2Ideal.Gen
open Idealize.ShloMosaic Idealize.ShloMosaic.TcCoe Idealize.SL.Sem
open Idealize.ShloMosaic.Pipeline (Dat)

variable (m : (ℓ : Loc nD τ sig) → Buf (Elt Ideal) ℓ) (c : Dev nD) (t : Fin cfg0.N)

set_option maxHeartbeats 4000000 in
theorem dq0_B (p : Left Ideal) (h : t.val ≠ 0) (y : S128x512.Idx) :
    (leftB m c t h p).dq0 y = dqF 0 (bk m c t 0) (bv m c t 0) (bo m c t 0) (bs m c t 0) p.dec (y 0) (hd (y 1)) (ln (y 1)) := by
  have hdec := (Memref.isWhole_whole (sig := sig) cc0_scratch1).read_unread (Val := Elt Ideal) p.dec
  have hst := (Memref.isWhole_whole (sig := sig) cc0_scratch0).read_unread (Val := Elt Ideal) p.st
  have hrel := (Memref.isWhole_whole (sig := sig) cc0_scratch2).read_unread (Val := Elt Ideal) p.rel
  dsimp only [leftB, runB]; frame_out
  simp only [hdec, hst, hrel]
  clear hst hdec hrel h
  canon_tiles x h
  all_goals
    open_payloads
    pointwise
    first
    | rw [hd_of (y 1) (x 1) 0 (by omega) (by omega), ln_of (y 1) (x 1) 0 (by omega)]
    | rw [hd_of (y 1) (x 1) 1 (by omega) (by omega), ln_of (y 1) (x 1) 1 (by omega)]
    | rw [hd_of (y 1) (x 1) 2 (by omega) (by omega), ln_of (y 1) (x 1) 2 (by omega)]
    | rw [hd_of (y 1) (x 1) 3 (by omega) (by omega), ln_of (y 1) (x 1) 3 (by omega)]
    rw [show y 0 = x 0 from Fin.ext h0]
    rfl

set_option maxHeartbeats 4000000 in
theorem dk0_B (p : Left Ideal) (h : t.val ≠ 0) (y : S128x512.Idx) :
    (leftB m c t h p).dk0 y = dkF 0 (bq m c t 0) (bv m c t 0) (bo m c t 0) p.st p.dec (y 0) (hd (y 1)) (ln (y 1)) := by
  have hdec := (Memref.isWhole_whole (sig := sig) cc0_scratch1).read_unread (Val := Elt Ideal) p.dec
  have hst := (Memref.isWhole_whole (sig := sig) cc0_scratch0).read_unread (Val := Elt Ideal) p.st
  have hrel := (Memref.isWhole_whole (sig := sig) cc0_scratch2).read_unread (Val := Elt Ideal) p.rel
  dsimp only [leftB, runB]; frame_out
  simp only [hdec, hst, hrel]
  clear hst hdec hrel h
  canon_tiles x h
  all_goals
    open_payloads
    pointwise
    first
    | rw [hd_of (y 1) (x 1) 0 (by omega) (by omega), ln_of (y 1) (x 1) 0 (by omega)]
    | rw [hd_of (y 1) (x 1) 1 (by omega) (by omega), ln_of (y 1) (x 1) 1 (by omega)]
    | rw [hd_of (y 1) (x 1) 2 (by omega) (by omega), ln_of (y 1) (x 1) 2 (by omega)]
    | rw [hd_of (y 1) (x 1) 3 (by omega) (by omega), ln_of (y 1) (x 1) 3 (by omega)]
    rw [show y 0 = x 0 from Fin.ext h0]
    rfl

set_option maxHeartbeats 4000000 in
theorem dv0_B (p : Left Ideal) (h : t.val ≠ 0) (y : S128x512.Idx) :
    (leftB m c t h p).dv0 y = dvF 0 (bq m c t 0) (bk m c t 0) (bo m c t 0) p.st p.dec (y 0) (hd (y 1)) (ln (y 1)) := by
  have hdec := (Memref.isWhole_whole (sig := sig) cc0_scratch1).read_unread (Val := Elt Ideal) p.dec
  have hst := (Memref.isWhole_whole (sig := sig) cc0_scratch0).read_unread (Val := Elt Ideal) p.st
  have hrel := (Memref.isWhole_whole (sig := sig) cc0_scratch2).read_unread (Val := Elt Ideal) p.rel
  dsimp only [leftB, runB]; frame_out
  simp only [hdec, hst, hrel]
  clear hst hdec hrel h
  canon_tiles x h
  all_goals
    open_payloads
    pointwise
    first
    | rw [hd_of (y 1) (x 1) 0 (by omega) (by omega), ln_of (y 1) (x 1) 0 (by omega)]
    | rw [hd_of (y 1) (x 1) 1 (by omega) (by omega), ln_of (y 1) (x 1) 1 (by omega)]
    | rw [hd_of (y 1) (x 1) 2 (by omega) (by omega), ln_of (y 1) (x 1) 2 (by omega)]
    | rw [hd_of (y 1) (x 1) 3 (by omega) (by omega), ln_of (y 1) (x 1) 3 (by omega)]
    rw [show y 0 = x 0 from Fin.ext h0]
    rfl

set_option maxHeartbeats 4000000 in
theorem dq1_B (p : Left Ideal) (h : t.val ≠ 0) (y : S128x512.Idx) :
    (leftB m c t h p).dq1 y = dqF 1 (bk m c t 1) (bv m c t 1) (bo m c t 1) (bs m c t 1) p.dec (y 0) (hd (y 1)) (ln (y 1)) := by
  have hdec := (Memref.isWhole_whole (sig := sig) cc0_scratch1).read_unread (Val := Elt Ideal) p.dec
  have hst := (Memref.isWhole_whole (sig := sig) cc0_scratch0).read_unread (Val := Elt Ideal) p.st
  have hrel := (Memref.isWhole_whole (sig := sig) cc0_scratch2).read_unread (Val := Elt Ideal) p.rel
  dsimp only [leftB, runB]; frame_out
  simp only [hdec, hst, hrel]
  clear hst hdec hrel h
  canon_tiles x h
  all_goals
    open_payloads
    pointwise
    first
    | rw [hd_of (y 1) (x 1) 0 (by omega) (by omega), ln_of (y 1) (x 1) 0 (by omega)]
    | rw [hd_of (y 1) (x 1) 1 (by omega) (by omega), ln_of (y 1) (x 1) 1 (by omega)]
    | rw [hd_of (y 1) (x 1) 2 (by omega) (by omega), ln_of (y 1) (x 1) 2 (by omega)]
    | rw [hd_of (y 1) (x 1) 3 (by omega) (by omega), ln_of (y 1) (x 1) 3 (by omega)]
    rw [show y 0 = x 0 from Fin.ext h0]
    rfl

set_option maxHeartbeats 4000000 in
theorem dk1_B (p : Left Ideal) (h : t.val ≠ 0) (y : S128x512.Idx) :
    (leftB m c t h p).dk1 y = dkF 1 (bq m c t 1) (bv m c t 1) (bo m c t 1) p.st p.dec (y 0) (hd (y 1)) (ln (y 1)) := by
  have hdec := (Memref.isWhole_whole (sig := sig) cc0_scratch1).read_unread (Val := Elt Ideal) p.dec
  have hst := (Memref.isWhole_whole (sig := sig) cc0_scratch0).read_unread (Val := Elt Ideal) p.st
  have hrel := (Memref.isWhole_whole (sig := sig) cc0_scratch2).read_unread (Val := Elt Ideal) p.rel
  dsimp only [leftB, runB]; frame_out
  simp only [hdec, hst, hrel]
  clear hst hdec hrel h
  canon_tiles x h
  all_goals
    open_payloads
    pointwise
    first
    | rw [hd_of (y 1) (x 1) 0 (by omega) (by omega), ln_of (y 1) (x 1) 0 (by omega)]
    | rw [hd_of (y 1) (x 1) 1 (by omega) (by omega), ln_of (y 1) (x 1) 1 (by omega)]
    | rw [hd_of (y 1) (x 1) 2 (by omega) (by omega), ln_of (y 1) (x 1) 2 (by omega)]
    | rw [hd_of (y 1) (x 1) 3 (by omega) (by omega), ln_of (y 1) (x 1) 3 (by omega)]
    rw [show y 0 = x 0 from Fin.ext h0]
    rfl

set_option maxHeartbeats 4000000 in
theorem dv1_B (p : Left Ideal) (h : t.val ≠ 0) (y : S128x512.Idx) :
    (leftB m c t h p).dv1 y = dvF 1 (bq m c t 1) (bk m c t 1) (bo m c t 1) p.st p.dec (y 0) (hd (y 1)) (ln (y 1)) := by
  have hdec := (Memref.isWhole_whole (sig := sig) cc0_scratch1).read_unread (Val := Elt Ideal) p.dec
  have hst := (Memref.isWhole_whole (sig := sig) cc0_scratch0).read_unread (Val := Elt Ideal) p.st
  have hrel := (Memref.isWhole_whole (sig := sig) cc0_scratch2).read_unread (Val := Elt Ideal) p.rel
  dsimp only [leftB, runB]; frame_out
  simp only [hdec, hst, hrel]
  clear hst hdec hrel h
  canon_tiles x h
  all_goals
    open_payloads
    pointwise
    first
    | rw [hd_of (y 1) (x 1) 0 (by omega) (by omega), ln_of (y 1) (x 1) 0 (by omega)]
    | rw [hd_of (y 1) (x 1) 1 (by omega) (by omega), ln_of (y 1) (x 1) 1 (by omega)]
    | rw [hd_of (y 1) (x 1) 2 (by omega) (by omega), ln_of (y 1) (x 1) 2 (by omega)]
    | rw [hd_of (y 1) (x 1) 3 (by omega) (by omega), ln_of (y 1) (x 1) 3 (by omega)]
    rw [show y 0 = x 0 from Fin.ext h0]
    rfl

set_option maxHeartbeats 4000000 in
theorem st_B (p : Left Ideal) (h : t.val ≠ 0) (y : S2x4x128x128.Idx) :
    (leftB m c t h p).st y = stF (y 0) (bq m c t (y 0)) (bo m c t (y 0)) p.st p.dec (iblk m c 0 t) (y 1) (y 2) (y 3) := by
  have hdec := (Memref.isWhole_whole (sig := sig) cc0_scratch1).read_unread (Val := Elt Ideal) p.dec
  have hst := (Memref.isWhole_whole (sig := sig) cc0_scratch0).read_unread (Val := Elt Ideal) p.st
  have hrel := (Memref.isWhole_whole (sig := sig) cc0_scratch2).read_unread (Val := Elt Ideal) p.rel
  dsimp only [leftB, runB]; frame_out
  simp only [hdec, hst, hrel]
  clear hst hdec hrel h
  canon_tiles x h
  all_goals
    open_payloads
    pointwise
    rw [show y 2 = x 2 from Fin.ext h2, show y 3 = x 3 from Fin.ext h3]
    first
    | rw [show y 0 = (0 : Fin 2) from Fin.ext (by show (y 0 : ℕ) = 0; omega)]
    | rw [show y 0 = (1 : Fin 2) from Fin.ext (by show (y 0 : ℕ) = 1; omega)]
    first
    | rw [show y 1 = (0 : Fin 4) from Fin.ext (by show (y 1 : ℕ) = 0; omega)]
    | rw [show y 1 = (1 : Fin 4) from Fin.ext (by show (y 1 : ℕ) = 1; omega)]
    | rw [show y 1 = (2 : Fin 4) from Fin.ext (by show (y 1 : ℕ) = 2; omega)]
    | rw [show y 1 = (3 : Fin 4) from Fin.ext (by show (y 1 : ℕ) = 3; omega)]
    rfl

set_option maxHeartbeats 4000000 in
theorem dl_B (p : Left Ideal) (h : t.val ≠ 0) (y : S8x1024.Idx) (hy : (y 1).val < 128) (d : Fin 2) (hh : Fin 4) (hr : (y 0).val = 4 * d.val + hh.val) :
    (leftB m c t h p).dl y = p.dl y + dlF d (bq m c t d) (bk m c t d) (bv m c t d) (bo m c t d) (bs m c t d) p.st p.dec p.rel (iblk m c 0 t) hh ⟨y 1, hy⟩ := by
  have hdec := (Memref.isWhole_whole (sig := sig) cc0_scratch1).read_unread (Val := Elt Ideal) p.dec
  have hst := (Memref.isWhole_whole (sig := sig) cc0_scratch0).read_unread (Val := Elt Ideal) p.st
  have hrel := (Memref.isWhole_whole (sig := sig) cc0_scratch2).read_unread (Val := Elt Ideal) p.rel
  dsimp only [leftB, runB]; frame_out
  simp only [hdec, hst, hrel]
  clear hst hdec hrel h
  have h8 : (y 0 : ℕ) < 8 := (y 0).isLt
  refine read_tile (Val := Elt Ideal) _ _ ?p7 fun h7 => read_tile (Val := Elt Ideal) _ _ ?p6 fun h6 =>
    read_tile (Val := Elt Ideal) _ _ ?p5 fun h5 => read_tile (Val := Elt Ideal) _ _ ?p4 fun h4 =>
    read_tile (Val := Elt Ideal) _ _ ?p3 fun h3 => read_tile (Val := Elt Ideal) _ _ ?p2 fun h2 =>
    read_tile (Val := Elt Ideal) _ _ ?p1 fun h1 => read_tile (Val := Elt Ideal) _ _ ?p0 fun h0 => ?_
  on_goal 9 =>
    rw [Fin.forall_fin_two] at h0 h1 h2 h3 h4 h5 h6 h7
    dsimp only [Matrix.cons_val_zero, Matrix.cons_val_one] at h0 h1 h2 h3 h4 h5 h6 h7
    omega
  all_goals
    tile_intro x g
    have hx : (⟨y 1, hy⟩ : Fin 128) = x 1 := Fin.ext g1
    rw [hx]
    have hd2 : (d : ℕ) < 2 := d.isLt
    have hh4 : (hh : ℕ) < 4 := hh.isLt
    first
    | rw [show d = (0 : Fin 2) from Fin.ext (by show (d : ℕ) = 0; omega)]
    | rw [show d = (1 : Fin 2) from Fin.ext (by show (d : ℕ) = 1; omega)]
    first
    | rw [show hh = (0 : Fin 4) from Fin.ext (by show (hh : ℕ) = 0; omega)]
    | rw [show hh = (1 : Fin 4) from Fin.ext (by show (hh : ℕ) = 1; omega)]
    | rw [show hh = (2 : Fin 4) from Fin.ext (by show (hh : ℕ) = 2; omega)]
    | rw [show hh = (3 : Fin 4) from Fin.ext (by show (hh : ℕ) = 3; omega)]
    open_payloads
    pointwise
    refine congrArg₂ (· + ·) ?_ rfl
    rw [eq_ix2 y]
    blk_ext

end Cert.Kernel2Ideal.Ret

end
-- ==== Proof.RetDec.lean ====
/-
The tables of decays that the first point of the retention backward call computes.
-/
module

public import proofs.«01_k».proof.Proof.RetPoint

@[expose] public section

set_option maxRecDepth 16384

noncomputable section

namespace Cert.Kernel2Ideal.Ret

open Cert.Kernel2Ideal.Gen
open Idealize.ShloMosaic Idealize.ShloMosaic.TcCoe Idealize.SL.Sem
open Idealize.ShloMosaic.Pipeline (Dat)

variable (m : (ℓ : Loc nD τ sig) → Buf (Elt Ideal) ℓ)
set_option maxHeartbeats 2000000 in
/-- The first point's tables. -/
theorem dec_first (c : Dev nD) (t : Fin cfg0.N) (h : t.val = 0) (d : Fin 2) (hh : Fin 4) (n : Fin 5) (i j : Fin 128) :
    (leftA m c t h).dec (ix5 d hh n i j) = decT (iblk m c 0 t) d hh n i j := by
  generalize hy : (ix5 d hh n i j : S2x4x5x128x128.Idx) = y
  obtain ⟨rfl, rfl, rfl, rfl, rfl⟩ : d = y 0 ∧ hh = y 1 ∧ n = y 2 ∧ i = y 3 ∧ j = y 4 := by subst hy; exact ⟨rfl, rfl, rfl, rfl, rfl⟩
  clear hy
  dsimp only [leftA, runA]; frame_out
  clear h
  canon_tiles x h
  all_goals
    open_payloads
    pointwise
    rw [show y 3 = x 3 from Fin.ext h3, show y 4 = x 4 from Fin.ext h4]
    first
    | rw [show y 0 = (0 : Fin 2) from Fin.ext (by show (y 0 : ℕ) = 0; omega)]
    | rw [show y 0 = (1 : Fin 2) from Fin.ext (by show (y 0 : ℕ) = 1; omega)]
    first
    | rw [show y 1 = (0 : Fin 4) from Fin.ext (by show (y 1 : ℕ) = 0; omega)]
    | rw [show y 1 = (1 : Fin 4) from Fin.ext (by show (y 1 : ℕ) = 1; omega)]
    | rw [show y 1 = (2 : Fin 4) from Fin.ext (by show (y 1 : ℕ) = 2; omega)]
    | rw [show y 1 = (3 : Fin 4) from Fin.ext (by show (y 1 : ℕ) = 3; omega)]
    have hn : (y 2 : ℕ) < 5 := (y 2).isLt
    have h3' := sitofp_nat (x 3 : ℕ) x3_lt
    first
    | rw [show y 2 = (0 : Fin 5) from Fin.ext (by show (y 2 : ℕ) = 0; omega)]
      rw [select_sub _ _ (by assumption) (by assumption), sitofp_max _ _ (by assumption) (by assumption)]
      first
      | rfl
      | exact (decT_mask _ _ _ _).symm
    | rw [show y 2 = (1 : Fin 5) from Fin.ext (by show (y 2 : ℕ) = 1; omega), h3']; first | (rw [fwd_in]; rfl) | (rw [bwd_in _ x3_lt]; rfl)
    | rw [show y 2 = (2 : Fin 5) from Fin.ext (by show (y 2 : ℕ) = 2; omega), h3']; first | (rw [fwd_out]; rfl) | (rw [bwd_out _ x3_lt]; rfl)
    | rw [show y 2 = (3 : Fin 5) from Fin.ext (by show (y 2 : ℕ) = 3; omega), h3']; first | (rw [fwd_in]; rfl) | (rw [bwd_in _ x3_lt]; rfl)
    | rw [show y 2 = (4 : Fin 5) from Fin.ext (by show (y 2 : ℕ) = 4; omega), h3']; first | (rw [fwd_out]; rfl) | (rw [bwd_out _ x3_lt]; rfl)

theorem rel_first (c : Dev nD) (t : Fin cfg0.N) (h : t.val = 0) (d : Fin 2) (i j : Fin 128) :
    (leftA m c t h).rel (ix3 d i j) = (((lam d i - lam d j : ℕ) : ℝ) : EReal) := by
  generalize hy : (ix3 d i j : S2x128x128.Idx) = y
  obtain ⟨rfl, rfl, rfl⟩ : d = y 0 ∧ i = y 1 ∧ j = y 2 := by subst hy; exact ⟨rfl, rfl, rfl⟩
  clear hy
  dsimp only [leftA, runA]; frame_out
  clear h
  canon_tiles x h
  all_goals
    open_payloads
    pointwise
    rw [show y 1 = x 1 from Fin.ext h1, show y 2 = x 2 from Fin.ext h2, sitofp_max _ _ (by assumption) (by assumption)]
    first
    | rw [show y 0 = (0 : Fin 2) from Fin.ext (by show (y 0 : ℕ) = 0; omega)]; rfl
    | rw [show y 0 = (1 : Fin 2) from Fin.ext (by show (y 0 : ℕ) = 1; omega)]
      exact congrArg (fun n : ℕ => ((n : ℝ) : EReal)) (sub_lam (x 1) (x 2)).symm

end Cert.Kernel2Ideal.Ret

end
-- ==== Proof.RetChain.lean ====
/-
The retention backward call over its points: where the arrays hold real sequences, every point leaves in its blocks the gradients of
the whole sequence at its rows, carries the state's gradient, and adds to the decay's gradient what its rows bring.
-/
module

public import proofs.«01_k».proof.Proof.RetTile
public import proofs.«01_k».proof.Proof.RetFirst
public import proofs.«01_k».proof.Proof.RetFirstS
public import proofs.«01_k».proof.Proof.RetLater
public import proofs.«01_k».proof.Proof.RetDec

@[expose] public section

set_option maxRecDepth 16384

noncomputable section

namespace Cert.Kernel2Ideal.Ret

open Cert.Kernel2Ideal.Gen
open Idealize.ShloMosaic Idealize.ShloMosaic.TcCoe Idealize.SL.Sem
open Idealize.ShloMosaic.Pipeline (Dat)
open Cert.Ret hiding M T
open Finset

theorem hd_cl (h : Fin 4) (e : Fin 128) : hd (cl h e) = h := hd_of _ e h.val h.isLt (cl_val h e)
theorem ln_cl (h : Fin 4) (e : Fin 128) : ln (cl h e) = e := ln_of _ e h.val (cl_val h e)

/-- The gradients' blocks, by direction. -/
abbrev gq (p : Left Ideal) : Fin 2 → Blk := ![p.dq0, p.dq1]
abbrev gk (p : Left Ideal) : Fin 2 → Blk := ![p.dk0, p.dk1]
abbrev gv (p : Left Ideal) : Fin 2 → Blk := ![p.dv0, p.dv1]

variable (l : Fin 2 → Fin 4 → ℝ) (q k v o : Fin 2 → Fin 4 → ℕ → Fin 128 → ℝ)

/-- What is left after the rows from `a` on have been gone through. -/
structure Good (p : Left Ideal) (a : ℕ) : Prop where
  hdec : ∀ d h n i j, p.dec (ix5 d h n i j) = ((tab (l d h) n (lam d i) (lam d j) : ℝ) : EReal)
  hrel : ∀ d i j, p.rel (ix3 d i j) = (((lam d i - lam d j : ℕ) : ℝ) : EReal)
  hst : ∀ d h e f, p.st (ix4 d h e f) = ((D (l d h) (q d h) (o d h) a e f : ℝ) : EReal)
  hdq : ∀ d h i e, gq p d (ix2 i (cl h e)) = ((DQ (l d h) (k d h) (v d h) (o d h) (a + lam d i) e : ℝ) : EReal)
  hdk : ∀ d h i e, gk p d (ix2 i (cl h e)) = ((DK (l d h) (q d h) (v d h) (o d h) (a + lam d i) e : ℝ) : EReal)
  hdv : ∀ d h i e, gv p d (ix2 i (cl h e)) = ((DV (l d h) (q d h) (k d h) (o d h) (a + lam d i) e : ℝ) : EReal)
  hdl : ∀ (d : Fin 2) (h : Fin 4), ∃ r : Fin 128 → ℝ,
    (∀ (y : S8x1024.Idx) (hy : (y 1).val < 128), (y 0).val = 4 * d.val + h.val → p.dl y = ((r ⟨y 1, hy⟩ : ℝ) : EReal))
      ∧ ∑ e, r e = DL (l d h) (q d h) (k d h) (v d h) (o d h) - Φ (l d h) (q d h) (k d h) (v d h) (o d h) a

variable (m : (ℓ : Loc nD τ sig) → Buf (Elt Ideal) ℓ) (c : Dev nD)

/-- The blocks of the call's arrays are real sequences: point `t` finds rows `128 * (33 - t)` on. -/
structure Arrays : Prop where
  tile : ∀ (t : Fin cfg0.N) (d : Fin 2) (h : Fin 4), Real1 d h (l d h) (q d h) (k d h) (v d h) (o d h) (128 * (33 - t.val))
    (bq m c t d) (bk m c t d) (bv m c t d) (bo m c t d) (bs m c t d)
  rate : ∀ (t : Fin cfg0.N) (d : Fin 2) (h : Fin 4), (iblk m c 0 t : Rates) (ix2 d h) = ((l d h : ℝ) : EReal)

variable {l q k v o}

/-- The first point. -/
theorem good_first (H : Arrays l q k v o m c) (t : Fin cfg0.N) (h0 : t.val = 0) : Good l q k v o (leftA m c t h0) (128 * (33 - t.val)) := by
  have ha : 128 * (33 - t.val) + 128 ≤ 4352 := by omega
  have e0 : 128 * (33 - t.val) + 128 = 4352 := by omega
  have hdec : ∀ d h n i j, (leftA m c t h0).dec (ix5 d h n i j) = ((tab (l d h) n (lam d i) (lam d j) : ℝ) : EReal) := fun d h n i j => by
    rw [dec_first]; exact decT_real _ d h _ (H.rate t d h) n i j
  have hrel := fun d i j => rel_first m c t h0 d i j
  have hst : ∀ d h e f, (fun _ => 0 : Car) (ix4 d h e f) = ((D (l d h) (q d h) (o d h) (128 * (33 - t.val) + 128) e f : ℝ) : EReal) := fun d h e f => by
    rw [e0, D_end]; rfl
  refine ⟨hdec, hrel, fun d h e f => ?_, fun d h i e => ?_, fun d h i e => ?_, fun d h i e => ?_, fun d h => ?_⟩
  · rw [st_A]; exact stF_real (H.tile t d h) ha (hst d h) (hdec d h) (H.rate t d h) e f
  · have := dqF_real (H.tile t d h) ha (hdec d h) i e
    fin_cases d
    · refine (dq0_A m c t h0 _).trans ?_
      show dqF _ _ _ _ _ _ i (hd (cl h e)) (ln (cl h e)) = _
      rw [hd_cl, ln_cl]; exact this
    · refine (dq1_A m c t h0 _).trans ?_
      show dqF _ _ _ _ _ _ i (hd (cl h e)) (ln (cl h e)) = _
      rw [hd_cl, ln_cl]; exact this
  · have := dkF_real (st := (fun _ => 0 : Car)) (H.tile t d h) ha (hst d h) (hdec d h) i e
    fin_cases d
    · refine (dk0_A m c t h0 _).trans ?_
      show dkF _ _ _ _ _ _ i (hd (cl h e)) (ln (cl h e)) = _
      rw [hd_cl, ln_cl]; exact this
    · refine (dk1_A m c t h0 _).trans ?_
      show dkF _ _ _ _ _ _ i (hd (cl h e)) (ln (cl h e)) = _
      rw [hd_cl, ln_cl]; exact this
  · have := dvF_real (st := (fun _ => 0 : Car)) (H.tile t d h) ha (hst d h) (hdec d h) i e
    fin_cases d
    · refine (dv0_A m c t h0 _).trans ?_
      show dvF _ _ _ _ _ _ i (hd (cl h e)) (ln (cl h e)) = _
      rw [hd_cl, ln_cl]; exact this
    · refine (dv1_A m c t h0 _).trans ?_
      show dvF _ _ _ _ _ _ i (hd (cl h e)) (ln (cl h e)) = _
      rw [hd_cl, ln_cl]; exact this
  · refine ⟨dlR d (l d h) (q d h) (k d h) (v d h) (o d h) (128 * (33 - t.val)), fun y hy hr => ?_, ?_⟩
    · rw [dl_A m c t h0 y hy d h hr, zero_add]
      exact dlF_real (H.tile t d h) (hst d h) (hdec d h) (hrel d) (H.rate t d h) _
    · rw [dlR_sum ha, e0, Φ_end]

/-- A later point. -/
theorem good_next (H : Arrays l q k v o m c) (t : Fin cfg0.N) (h0 : t.val ≠ 0) (p : Left Ideal) (G : Good l q k v o p (128 * (33 - t.val) + 128)) :
    Good l q k v o (leftB m c t h0 p) (128 * (33 - t.val)) := by
  have ha : 128 * (33 - t.val) + 128 ≤ 4352 := by omega
  have hdec : ∀ d h n i j, p.dec (ix5 d h n i j) = ((tab (l d h) n (lam d i) (lam d j) : ℝ) : EReal) := G.hdec
  have hrel := G.hrel
  have hst := G.hst
  refine ⟨hdec, hrel, fun d h e f => ?_, fun d h i e => ?_, fun d h i e => ?_, fun d h i e => ?_, fun d h => ?_⟩
  · rw [st_B]; exact stF_real (H.tile t d h) ha (hst d h) (hdec d h) (H.rate t d h) e f
  · have := dqF_real (H.tile t d h) ha (hdec d h) i e
    fin_cases d
    · refine (dq0_B m c t p h0 _).trans ?_
      show dqF _ _ _ _ _ _ i (hd (cl h e)) (ln (cl h e)) = _
      rw [hd_cl, ln_cl]; exact this
    · refine (dq1_B m c t p h0 _).trans ?_
      show dqF _ _ _ _ _ _ i (hd (cl h e)) (ln (cl h e)) = _
      rw [hd_cl, ln_cl]; exact this
  · have := dkF_real (H.tile t d h) ha (hst d h) (hdec d h) i e
    fin_cases d
    · refine (dk0_B m c t p h0 _).trans ?_
      show dkF _ _ _ _ _ _ i (hd (cl h e)) (ln (cl h e)) = _
      rw [hd_cl, ln_cl]; exact this
    · refine (dk1_B m c t p h0 _).trans ?_
      show dkF _ _ _ _ _ _ i (hd (cl h e)) (ln (cl h e)) = _
      rw [hd_cl, ln_cl]; exact this
  · have := dvF_real (H.tile t d h) ha (hst d h) (hdec d h) i e
    fin_cases d
    · refine (dv0_B m c t p h0 _).trans ?_
      show dvF _ _ _ _ _ _ i (hd (cl h e)) (ln (cl h e)) = _
      rw [hd_cl, ln_cl]; exact this
    · refine (dv1_B m c t p h0 _).trans ?_
      show dvF _ _ _ _ _ _ i (hd (cl h e)) (ln (cl h e)) = _
      rw [hd_cl, ln_cl]; exact this
  · obtain ⟨r, hr, hs⟩ := G.hdl d h
    refine ⟨fun e => r e + dlR d (l d h) (q d h) (k d h) (v d h) (o d h) (128 * (33 - t.val)) e, fun y hy hrow => ?_, ?_⟩
    · rw [dl_B m c t p h0 y hy d h hrow, hr y hy hrow]
      rw [dlF_real (H.tile t d h) (hst d h) (hdec d h) (hrel d) (H.rate t d h), ← EReal.coe_add]
    · rw [Finset.sum_add_distrib, hs, dlR_sum ha]; ring

/-- Every point. -/
theorem good (H : Arrays l q k v o m c) (t : Fin cfg0.N) : Good l q k v o (outs m c t.val t.isLt) (128 * (33 - t.val)) := by
  have : ∀ n (hn : n < cfg0.N), Good l q k v o (outs m c n hn) (128 * (33 - n)) := by
    intro n
    induction n with
    | zero => intro hn; exact good_first m c H ⟨0, hn⟩ rfl
    | succ n ih =>
      intro hn
      have hN : n + 1 < 34 := lt_of_lt_of_eq hn (show cfg0.N = 34 from N_0)
      rw [outs]
      refine good_next m c H ⟨n + 1, hn⟩ (Nat.succ_ne_zero n) _ ?_
      rw [show 128 * (33 - (⟨n + 1, hn⟩ : Fin cfg0.N).val) + 128 = 128 * (33 - n) by dsimp only; omega]
      exact ih _
  exact this t.val t.isLt

end Cert.Kernel2Ideal.Ret

end
-- ==== Proof.RetHost.lean ====
/-
What the region finds: the blocks as the four sequences, the saved states as the sums over the rows before.
-/
module

public import proofs.«01_k».proof.Proof.RetWin
public import proofs.«01_k».proof.Proof.RetLine
public import proofs.«01_k».proof.Proof.RetChain

@[expose] public section

set_option maxRecDepth 16384

noncomputable section
namespace Cert.Kernel2Ideal.Ret
open Cert.Kernel2Ideal.Gen
open Idealize.ShloMosaic Idealize.ShloMosaic.TcCoe Idealize.SL.Sem
open Idealize.ShloMosaic.Pipeline (Dat)
open Cert.Ret hiding M T
open Finset

variable (m : (ℓ : Loc nD τ sig) → Buf (Elt Ideal) ℓ) (c : Dev nD)
variable (lr : Fin 2 → Fin 4 → ℝ) (qr kr vr : Fin 4352 → Fin 512 → ℝ) (cr : Fin 4096 → Fin 512 → ℝ)

/-- The arguments are real numbers. -/
structure Given : Prop where
  q : ∀ r e, (V m c main_arg0 : S4352x512.Idx → EReal) (ix2 r e) = ((qr r e : ℝ) : EReal)
  k : ∀ r e, (V m c main_arg1 : S4352x512.Idx → EReal) (ix2 r e) = ((kr r e : ℝ) : EReal)
  v : ∀ r e, (V m c main_arg2 : S4352x512.Idx → EReal) (ix2 r e) = ((vr r e : ℝ) : EReal)
  l : ∀ d h, (V m c main_arg3 : S2x4.Idx → EReal) (ix2 d h) = ((lr d h : ℝ) : EReal)
  o : ∀ r e, (V m c main_arg4 : S4096x512.Idx → EReal) (ix2 r e) = ((cr r e : ℝ) : EReal)

variable {m c lr qr kr vr cr}

theorem v8 : V m c main_v8 = stack (V m c main_arg1) := by
  rw [res m c 8 rfl (by decide +kernel), bin m c 7 rfl (by decide +kernel), una m c 6 rfl (by decide +kernel), una m c 5 rfl (by decide +kernel),
    bin m c 4 rfl (by decide +kernel), una m c 3 rfl (by decide +kernel), una m c 2 rfl (by decide +kernel), una m c 1 rfl (by decide +kernel), una m c 0 rfl (by decide +kernel)]
  rfl

theorem v17 : V m c main_v17 = stack (V m c main_arg2) := by
  rw [res m c 17 rfl (by decide +kernel), bin m c 16 rfl (by decide +kernel), una m c 15 rfl (by decide +kernel), una m c 14 rfl (by decide +kernel),
    bin m c 13 rfl (by decide +kernel), una m c 12 rfl (by decide +kernel), una m c 11 rfl (by decide +kernel), una m c 10 rfl (by decide +kernel), una m c 9 rfl (by decide +kernel)]
  rfl

theorem v29 : V m c main_v29 = weight (V m c main_arg3) := by
  rw [una m c 30 rfl (by decide +kernel), una m c 29 rfl (by decide +kernel), una m c 28 rfl (by decide +kernel), una m c 27 rfl (by decide +kernel),
    bin m c 26 rfl (by decide +kernel), una m c 25 rfl (by decide +kernel), una m c 24 rfl (by decide +kernel), una m c 23 rfl (by decide +kernel),
    bin m c 22 rfl (by decide +kernel), una m c 21 rfl (by decide +kernel), nul m c 20 rfl (by decide +kernel), una m c 19 rfl (by decide +kernel), nul m c 18 rfl (by decide +kernel)]

theorem v38 : V m c main_v38 = broadcastInDim S2x4x128x128 ![0, 1, 2, 3] bcast_S2x4x1x1_S2x4x128x128_0_1_2_3 (broadcastInDim S2x4x1x1 ![0, 1] bcast_S2x4_S2x4x1x1_0_1
      (Host.exp (mulf (V m c main_arg3 : FVec Ideal S2x4 .f32) (broadcastInDim S2x4 ![] bcast_S_S2x4 (constant (F := Ideal) S_ .f32 0x43000000#32))))) := by
  rw [una m c 40 rfl (by decide +kernel), una m c 39 rfl (by decide +kernel), una m c 38 rfl (by decide +kernel), bin m c 37 rfl (by decide +kernel),
    una m c 36 rfl (by decide +kernel), nul m c 35 rfl (by decide +kernel)]

theorem v41 : V m c main_v41 = extractStridedSlice S34x2x4x128x128 ![0, 0, 0, 0, 0] (transpose S34x2x4x128x128 [0, 1, 3, 2, 4] (transpose S34x2x128x4x128 [0, 1, 4, 2, 3]
      (Host.dotGeneral (F := Ideal) dot_S2x34x128x4x128_S2x34x128x4x128_S34x2x4x128x128_2_2_4_4_103_103 none (stack (V m c main_arg2)) (mulf (stack (V m c main_arg1)) (weight (V m c main_arg3))))
      transposes_S34x2x4x128x128_S34x2x128x4x128_0_1_4_2_3) transposes_S34x2x128x4x128_S34x2x4x128x128_0_1_3_2_4) slices_S34x2x4x128x128_S34x2x4x128x128_0_0_0_0_0 := by
  rw [una m c 44 rfl (by decide +kernel), una m c 34 rfl (by decide +kernel), una m c 33 rfl (by decide +kernel), bin m c 32 rfl (by decide +kernel),
    bin m c 31 rfl (by decide +kernel), v8, v17, v29]

/-- A chunk's gain, of real arguments. -/
theorem gain_real (kk vv : FVec Ideal S4352x512 .f32) (lg : FVec Ideal S2x4 .f32) (hk : ∀ r e, kk (ix2 r e) = ((kr r e : ℝ) : EReal)) (hv : ∀ r e, vv (ix2 r e) = ((vr r e : ℝ) : EReal))
    (hl : ∀ d h, lg (ix2 d h) = ((lr d h : ℝ) : EReal)) (n : Fin 34) (d : Fin 2) (h : Fin 4) (e f : Fin 128) :
    ∑ j : Fin 128, (stack vv (ix5 d n j h f) : EReal) * (stack kk (ix5 d n j h e) * weight lg (ix5 d n j h e))
      = ((∑ j ∈ range 128, (seq kr d h (128 * n.val + j) e * Real.exp (lr d h * ((128 : ℕ) - 1 - (j : ℝ)))) * seq vr d h (128 * n.val + j) f : ℝ) : EReal) := by
  rw [Finset.sum_range, coe_sum]
  refine Finset.sum_congr rfl fun j _ => ?_
  rw [stack_at, stack_at, weight_at lr _ hl, hk, hv, ← EReal.coe_mul, ← EReal.coe_mul]
  exact congrArg _ (mul_comm _ _)

/-- What the host line prepares. -/
theorem steps (H : Given m c lr qr kr vr cr) : Steps m c lr (seq kr) (seq vr) where
  hg d h e f := by rw [v38]; exact decay_at lr _ H.l d h e f
  hu n d h e f := by
    rw [v41]
    exact (gain_at _ _ _ n d h e f).trans (gain_real _ _ _ H.k H.v H.l n d h e f)

theorem saved (H : Given m c lr qr kr vr cr) (n : Fin 34) (d : Fin 2) (h : Fin 4) (e f : Fin 128) :
    (V m c main_v217 : S34x2x4x128x128.Idx → EReal) (ix5 n d h e f) = ((S (lr d h) (seq kr d h) (seq vr d h) (128 * n.val) e f : ℝ) : EReal) := by
  obtain ⟨p0, p1, p2⟩ := saved_parts m c (steps H) (fun d h e f => by
    rw [una m c 42 rfl (by decide +kernel), nul m c 41 rfl (by decide +kernel)]
    refine (zero_at _).trans ?_
    rw [Nat.mul_zero, S_zero, EReal.coe_zero])
  rw [bin m c 221 rfl (by decide +kernel), nar m c 220 rfl (by decide +kernel) (by decide +kernel)]
  exact cat5 _ _ _ _ (fun d h => S (lr d h) (seq kr d h) (seq vr d h)) p0 p1 p2 _ _ n d h e f

theorem sp0 (H : Given m c lr qr kr vr cr) (n : Fin 34) (h : Fin 4) (e f : Fin 128) :
    (V m c main_v219 : S34x4x128x128.Idx → EReal) (ix4 n h e f) = ((S (lr 0 h) (seq kr 0 h) (seq vr 0 h) (128 * n.val) e f : ℝ) : EReal) := by
  rw [res m c 223 rfl (by decide +kernel), una m c 222 rfl (by decide +kernel)]
  exact (saved_dir0 _ n h e f).trans (saved H n 0 h e f)

theorem sp1 (H : Given m c lr qr kr vr cr) (n : Fin 34) (h : Fin 4) (e f : Fin 128) :
    (V m c main_v221 : S34x4x128x128.Idx → EReal) (ix4 n h e f) = ((S (lr 1 h) (seq kr 1 h) (seq vr 1 h) (128 * n.val) e f : ℝ) : EReal) := by
  rw [res m c 225 rfl (by decide +kernel), una m c 224 rfl (by decide +kernel)]
  exact (saved_dir1 _ n h e f).trans (saved H n 1 h e f)

theorem qkv : V m c main_v223 = side (V m c main_arg0) (V m c main_arg1) (V m c main_arg2) := by
  rw [una m c 227 rfl (by decide +kernel), nar m c 226 rfl (by decide +kernel) (by decide +kernel)]
  rfl

theorem cot (H : Given m c lr qr kr vr cr) (r : Fin 4352) (e : Fin 512) : (V m c main_v226 : S4352x512.Idx → EReal) (ix2 r e) = ((ctx0 cr r e : ℝ) : EReal) := by
  rw [una m c 231 rfl (by decide +kernel), bin m c 230 rfl (by decide +kernel), una m c 229 rfl (by decide +kernel), nul m c 228 rfl (by decide +kernel)]
  exact cot_at cr _ H.o r e

/-- An array's element at a point's row is the direction's at that time. -/
theorem at_seq (X : Fin 4352 → Fin 512 → ℝ) (d : Fin 2) (t : Fin cfg0.N) (i : Fin 128) (h : Fin 4) (e : Fin 128) :
    X (brow d t i) (cl h e) = seq X d h (128 * (33 - t.val) + lam d i) e := by
  rw [brow_eq]; rfl

section
variable (H : Given m c lr qr kr vr cr) (t : Fin cfg0.N) (h : Fin 4) (i e : Fin 128)
include H
theorem q0_in : (iblk m c 1 t (ix2 i (cl h e)) : EReal) = ((seq qr 0 h (128 * (33 - t.val) + lam 0 i) e : ℝ) : EReal) := by
  refine (w1 m c t i (cl h e)).trans ?_
  rw [qkv]
  exact (side_0 _ _ _ _ _ _).trans ((H.q _ _).trans (congrArg _ (at_seq qr 0 t i h e)))
theorem q1_in : (iblk m c 4 t (ix2 i (cl h e)) : EReal) = ((seq qr 1 h (128 * (33 - t.val) + lam 1 i) e : ℝ) : EReal) := by
  refine (w4 m c t i (cl h e)).trans ?_
  rw [qkv]
  exact (side_0 _ _ _ _ _ _).trans ((H.q _ _).trans (congrArg _ (at_seq qr 1 t i h e)))
theorem k0_in : (iblk m c 2 t (ix2 i (cl h e)) : EReal) = ((seq kr 0 h (128 * (33 - t.val) + lam 0 i) e : ℝ) : EReal) := by
  refine (w2 m c t i (cl h e)).trans ?_
  rw [qkv]
  exact (side_1 _ _ _ _ _ _).trans ((H.k _ _).trans (congrArg _ (at_seq kr 0 t i h e)))
theorem k1_in : (iblk m c 5 t (ix2 i (cl h e)) : EReal) = ((seq kr 1 h (128 * (33 - t.val) + lam 1 i) e : ℝ) : EReal) := by
  refine (w5 m c t i (cl h e)).trans ?_
  rw [qkv]
  exact (side_1 _ _ _ _ _ _).trans ((H.k _ _).trans (congrArg _ (at_seq kr 1 t i h e)))
theorem v0_in : (iblk m c 3 t (ix2 i (cl h e)) : EReal) = ((seq vr 0 h (128 * (33 - t.val) + lam 0 i) e : ℝ) : EReal) := by
  refine (w3 m c t i (cl h e)).trans ?_
  rw [qkv]
  exact (side_2 _ _ _ _ _ _).trans ((H.v _ _).trans (congrArg _ (at_seq vr 0 t i h e)))
theorem v1_in : (iblk m c 6 t (ix2 i (cl h e)) : EReal) = ((seq vr 1 h (128 * (33 - t.val) + lam 1 i) e : ℝ) : EReal) := by
  refine (w6 m c t i (cl h e)).trans ?_
  rw [qkv]
  exact (side_2 _ _ _ _ _ _).trans ((H.v _ _).trans (congrArg _ (at_seq vr 1 t i h e)))
theorem o0_in : (iblk m c 7 t (ix2 i (cl h e)) : EReal) = ((seq (ctx0 cr) 0 h (128 * (33 - t.val) + lam 0 i) e : ℝ) : EReal) :=
  (w7 m c t i (cl h e)).trans ((cot H _ _).trans (congrArg _ (at_seq (ctx0 cr) 0 t i h e)))
theorem o1_in : (iblk m c 8 t (ix2 i (cl h e)) : EReal) = ((seq (ctx0 cr) 1 h (128 * (33 - t.val) + lam 1 i) e : ℝ) : EReal) :=
  (w8 m c t i (cl h e)).trans ((cot H _ _).trans (congrArg _ (at_seq (ctx0 cr) 1 t i h e)))
theorem s0_in : (iblk m c 9 t (ix4 0 h i e) : EReal) = ((S (lr 0 h) (seq kr 0 h) (seq vr 0 h) (128 * (33 - t.val)) i e : ℝ) : EReal) :=
  (w9 m c t h i e).trans (sp0 H (chunk t) h i e)
theorem s1_in : (iblk m c 10 t (ix4 0 h i e) : EReal) = ((S (lr 1 h) (seq kr 1 h) (seq vr 1 h) (128 * (33 - t.val)) i e : ℝ) : EReal) :=
  (w10 m c t h i e).trans (sp1 H (chunk t) h i e)
end

/-- What holds of each of two holds of the one picked. -/
theorem of_both {α : Type} (P : Fin 2 → α → Prop) (a b : α) (h0 : P 0 a) (h1 : P 1 b) (d : Fin 2) : P d (![a, b] d) := by
  fin_cases d
  · exact h0
  · exact h1

section
variable (H : Given m c lr qr kr vr cr) (t : Fin cfg0.N) (d : Fin 2) (h : Fin 4)
include H
theorem q_in : ∀ i e, bq m c t d (ix2 i (cl h e)) = ((seq qr d h (128 * (33 - t.val) + lam d i) e : ℝ) : EReal) :=
  of_both (fun d (x : Blk) => ∀ i e, x (ix2 i (cl h e)) = ((seq qr d h (128 * (33 - t.val) + lam d i) e : ℝ) : EReal)) _ _ (q0_in H t h) (q1_in H t h) d
theorem k_in : ∀ i e, bk m c t d (ix2 i (cl h e)) = ((seq kr d h (128 * (33 - t.val) + lam d i) e : ℝ) : EReal) :=
  of_both (fun d (x : Blk) => ∀ i e, x (ix2 i (cl h e)) = ((seq kr d h (128 * (33 - t.val) + lam d i) e : ℝ) : EReal)) _ _ (k0_in H t h) (k1_in H t h) d
theorem v_in : ∀ i e, bv m c t d (ix2 i (cl h e)) = ((seq vr d h (128 * (33 - t.val) + lam d i) e : ℝ) : EReal) :=
  of_both (fun d (x : Blk) => ∀ i e, x (ix2 i (cl h e)) = ((seq vr d h (128 * (33 - t.val) + lam d i) e : ℝ) : EReal)) _ _ (v0_in H t h) (v1_in H t h) d
theorem o_in : ∀ i e, bo m c t d (ix2 i (cl h e)) = ((seq (ctx0 cr) d h (128 * (33 - t.val) + lam d i) e : ℝ) : EReal) :=
  of_both (fun d (x : Blk) => ∀ i e, x (ix2 i (cl h e)) = ((seq (ctx0 cr) d h (128 * (33 - t.val) + lam d i) e : ℝ) : EReal)) _ _ (o0_in H t h) (o1_in H t h) d
theorem s_in : ∀ e f, bs m c t d (ix4 0 h e f) = ((S (lr d h) (seq kr d h) (seq vr d h) (128 * (33 - t.val)) e f : ℝ) : EReal) :=
  of_both (fun d (x : Sav) => ∀ e f, x (ix4 0 h e f) = ((S (lr d h) (seq kr d h) (seq vr d h) (128 * (33 - t.val)) e f : ℝ) : EReal)) _ _ (s0_in H t h) (s1_in H t h) d
end

/-- What every point works on. -/
theorem arrays (H : Given m c lr qr kr vr cr) : Arrays lr (seq qr) (seq kr) (seq vr) (seq (ctx0 cr)) m c where
  rate t d h := (rates_at m c t d h).trans (H.l d h)
  tile t d h := Real1.mk (q_in H t d h) (k_in H t d h) (v_in H t d h) (o_in H t d h) (s_in H t d h)

end Cert.Kernel2Ideal.Ret
-- ==== Proof.RetFinal.lean ====
/-
The retention call's result arrays: at each row and column, the gradient of that row and head.
-/
module

public import proofs.«01_k».proof.Proof.RetWin
public import proofs.«01_k».proof.Proof.RetChain

@[expose] public section

set_option maxRecDepth 16384

noncomputable section
namespace Cert.Kernel2Ideal.Ret
open Cert.Kernel2Ideal.Gen
open Idealize.ShloMosaic Idealize.ShloMosaic.TcCoe Idealize.SL.Sem
open Idealize.ShloMosaic.Pipeline (Dat)
open Cert.Ret hiding M T
open Finset

variable {m : (ℓ : Loc nD τ sig) → Buf (Elt Ideal) ℓ} {c : Dev nD}
variable {l : Fin 2 → Fin 4 → ℝ} {q k v o : Fin 2 → Fin 4 → ℕ → Fin 128 → ℝ}

/-- A direction's time of a row is the direction's row of that time. -/
theorem rowN_rowN (d : Fin 2) (τ : ℕ) (h : τ < 4352) : rowN d (rowN d τ) = τ := by
  unfold rowN; split_ifs <;> omega

/-- A gradient by direction, row and column. -/
def at_row (G : Fin 2 → Fin 4 → ℕ → Fin 128 → ℝ) (d : Fin 2) (r j : ℕ) : ℝ :=
  G d (hd ⟨j % 512, Nat.mod_lt _ (by omega)⟩) (rowN d r) (ln ⟨j % 512, Nat.mod_lt _ (by omega)⟩)

abbrev DQs (l : Fin 2 → Fin 4 → ℝ) (k v o : Fin 2 → Fin 4 → ℕ → Fin 128 → ℝ) (d : Fin 2) (h : Fin 4) (τ : ℕ) (e : Fin 128) : ℝ := DQ (l d h) (k d h) (v d h) (o d h) τ e
abbrev DKs (l : Fin 2 → Fin 4 → ℝ) (q v o : Fin 2 → Fin 4 → ℕ → Fin 128 → ℝ) (d : Fin 2) (h : Fin 4) (τ : ℕ) (e : Fin 128) : ℝ := DK (l d h) (q d h) (v d h) (o d h) τ e
abbrev DVs (l : Fin 2 → Fin 4 → ℝ) (q k o : Fin 2 → Fin 4 → ℕ → Fin 128 → ℝ) (d : Fin 2) (h : Fin 4) (τ : ℕ) (e : Fin 128) : ℝ := DV (l d h) (q d h) (k d h) (o d h) τ e

theorem at_blk (G : Fin 2 → Fin 4 → ℕ → Fin 128 → ℝ) (d : Fin 2) (t : Fin cfg0.N) (i : Fin 128) (j : Fin 512) (r n : ℕ) (hr : r = bl d t.val * 128 + i.val) (hn : n = j.val) (b : Blk)
    (hb : ∀ h i e, b (ix2 i (cl h e)) = ((G d h (128 * (33 - t.val) + lam d i) e : ℝ) : EReal)) : b (ix2 i j) = ((at_row G d r n : ℝ) : EReal) := by
  have ht := lt_of_lt_of_eq t.isLt N_0
  have hl := lam_lt d i
  have e1 : r = rowN d (128 * (33 - t.val) + lam d i) := by
    rw [← row_val d _ (by omega), ← brow_eq]; exact hr
  have e2 : (⟨n % 512, Nat.mod_lt _ (by omega)⟩ : Fin 512) = j := Fin.ext (by show n % 512 = _; omega)
  have e3 : cl (hd j) (ln j) = j := Fin.ext (by rw [cl_val]; show j.val / 128 * 128 + j.val % 128 = j.val; omega)
  have := hb (hd j) i (ln j)
  rw [e3] at this
  rw [this, at_row, e2, e1, rowN_rowN _ _ (by omega)]

theorem f11 (H : Arrays l q k v o m c) : ((dats m 0 c).arrAt 11 cfg0.N : S4352x512.Idx → EReal) = fun y => ((at_row (DQs l k v o) 0 (y 0).val (y 1).val : ℝ) : EReal) := by
  refine (dats m 0 c).arrAt_eq_of_covers 11 _ (by decide +kernel) fun t _ y => ?_
  rw [after0_11]
  blk_simp
  have hi := (idxD t).1
  obtain ⟨i, j, rfl⟩ := (⟨y 0, y 1, eq_ix2 y⟩ : ∃ (i : Fin 128) (j : Fin 512), y = ix2 i j)
  refine at_blk (DQs l k v o) 0 t i j _ _ ?_ ?_ _ fun h i e => (good m c H t).hdq 0 h i e
  · rw [hi]; rfl
  · rw [hi]; show 0 * 512 + j.val = j.val; omega

theorem f12 (H : Arrays l q k v o m c) : ((dats m 0 c).arrAt 12 cfg0.N : S4352x512.Idx → EReal) = fun y => ((at_row (DKs l q v o) 0 (y 0).val (y 1).val : ℝ) : EReal) := by
  refine (dats m 0 c).arrAt_eq_of_covers 12 _ (by decide +kernel) fun t _ y => ?_
  rw [after0_12]
  blk_simp
  have hi := (idxD t).2.1
  obtain ⟨i, j, rfl⟩ := (⟨y 0, y 1, eq_ix2 y⟩ : ∃ (i : Fin 128) (j : Fin 512), y = ix2 i j)
  refine at_blk (DKs l q v o) 0 t i j _ _ ?_ ?_ _ fun h i e => (good m c H t).hdk 0 h i e
  · rw [hi]; rfl
  · rw [hi]; show 0 * 512 + j.val = j.val; omega

theorem f13 (H : Arrays l q k v o m c) : ((dats m 0 c).arrAt 13 cfg0.N : S4352x512.Idx → EReal) = fun y => ((at_row (DVs l q k o) 0 (y 0).val (y 1).val : ℝ) : EReal) := by
  refine (dats m 0 c).arrAt_eq_of_covers 13 _ (by decide +kernel) fun t _ y => ?_
  rw [after0_13]
  blk_simp
  have hi := (idxD t).2.2
  obtain ⟨i, j, rfl⟩ := (⟨y 0, y 1, eq_ix2 y⟩ : ∃ (i : Fin 128) (j : Fin 512), y = ix2 i j)
  refine at_blk (DVs l q k o) 0 t i j _ _ ?_ ?_ _ fun h i e => (good m c H t).hdv 0 h i e
  · rw [hi]; rfl
  · rw [hi]; show 0 * 512 + j.val = j.val; omega

theorem f14 (H : Arrays l q k v o m c) : ((dats m 0 c).arrAt 14 cfg0.N : S4352x512.Idx → EReal) = fun y => ((at_row (DQs l k v o) 1 (y 0).val (y 1).val : ℝ) : EReal) := by
  refine (dats m 0 c).arrAt_eq_of_covers 14 _ (by decide +kernel) fun t _ y => ?_
  rw [after0_14]
  blk_simp
  have hi := (idxE t).1
  obtain ⟨i, j, rfl⟩ := (⟨y 0, y 1, eq_ix2 y⟩ : ∃ (i : Fin 128) (j : Fin 512), y = ix2 i j)
  refine at_blk (DQs l k v o) 1 t i j _ _ ?_ ?_ _ fun h i e => (good m c H t).hdq 1 h i e
  · rw [hi]; rfl
  · rw [hi]; show 0 * 512 + j.val = j.val; omega

theorem f15 (H : Arrays l q k v o m c) : ((dats m 0 c).arrAt 15 cfg0.N : S4352x512.Idx → EReal) = fun y => ((at_row (DKs l q v o) 1 (y 0).val (y 1).val : ℝ) : EReal) := by
  refine (dats m 0 c).arrAt_eq_of_covers 15 _ (by decide +kernel) fun t _ y => ?_
  rw [after0_15]
  blk_simp
  have hi := (idxE t).2.1
  obtain ⟨i, j, rfl⟩ := (⟨y 0, y 1, eq_ix2 y⟩ : ∃ (i : Fin 128) (j : Fin 512), y = ix2 i j)
  refine at_blk (DKs l q v o) 1 t i j _ _ ?_ ?_ _ fun h i e => (good m c H t).hdk 1 h i e
  · rw [hi]; rfl
  · rw [hi]; show 0 * 512 + j.val = j.val; omega

theorem f16 (H : Arrays l q k v o m c) : ((dats m 0 c).arrAt 16 cfg0.N : S4352x512.Idx → EReal) = fun y => ((at_row (DVs l q k o) 1 (y 0).val (y 1).val : ℝ) : EReal) := by
  refine (dats m 0 c).arrAt_eq_of_covers 16 _ (by decide +kernel) fun t _ y => ?_
  rw [after0_16]
  blk_simp
  have hi := (idxE t).2.2
  obtain ⟨i, j, rfl⟩ := (⟨y 0, y 1, eq_ix2 y⟩ : ∃ (i : Fin 128) (j : Fin 512), y = ix2 i j)
  refine at_blk (DVs l q k o) 1 t i j _ _ ?_ ?_ _ fun h i e => (good m c H t).hdv 1 h i e
  · rw [hi]; rfl
  · rw [hi]; show 0 * 512 + j.val = j.val; omega

/-- The last point. -/
abbrev last : Fin cfg0.N := ⟨33, by rw [show cfg0.N = 34 from N_0]; omega⟩

/-- An array read at natural numbers. -/
def at_nat (x : FVec Ideal S8x1024 .f32) (p n : ℕ) : EReal := x (ix2 ⟨p % 8, Nat.mod_lt _ (by omega)⟩ ⟨n % 1024, Nat.mod_lt _ (by omega)⟩)

theorem at_nat_val (x : FVec Ideal S8x1024 .f32) (i : Fin 8) (j : Fin 1024) (p n : ℕ) (hp : p = i.val) (hn : n = j.val) : x (ix2 i j) = at_nat x p n := by
  subst hp hn
  exact congrArg x (congrArg₂ ix2 (Fin.ext (Nat.mod_eq_of_lt i.isLt).symm) (Fin.ext (Nat.mod_eq_of_lt j.isLt).symm))

theorem f17 : ((dats m 0 c).arrAt 17 cfg0.N : S8x1024.Idx → EReal) = fun y => at_nat (outs m c last.val last.isLt).dl (y 0).val (y 1).val := by
  refine (dats m 0 c).arrAt_eq_of_covers 17 _ (by decide +kernel) fun t hf y => ?_
  have ht : t = last := Fin.ext (by
    have h := (flush0_17 t).mp hf
    have := lt_of_lt_of_eq t.isLt N_0
    show t.val = 33; omega)
  subst ht
  rw [after0_17]
  blk_simp
  have hi := idx17 last
  obtain ⟨i, j, rfl⟩ := (⟨y 0, y 1, eq_ix2 y⟩ : ∃ (i : Fin 8) (j : Fin 1024), y = ix2 i j)
  refine at_nat_val _ i j _ _ ?_ ?_
  · rw [hi]; show 0 * 8 + i.val = i.val; omega
  · rw [hi]; show 0 * 1024 + j.val = j.val; omega

/-- The decays' gradients of a block. -/
theorem lanes (x : FVec Ideal S8x1024 .f32) (d : Fin 2) (h : Fin 4) :
    (shapeCast S2x4 (Host.reduceAdd (extractStridedSlice S8x128 ![0, 0] x slices_S8x1024_S8x128_0_0) (constant (F := Ideal) S_ .f32 0x00000000#32) reducesTo_S8x128_S8_d1 h_S_) shapeCasts_S8_S2x4 (ix2 d h) : EReal)
      = ∑ e : Fin 128, x (ix2 ⟨d.val * 4 + h.val, by omega⟩ ⟨e.val, by omega⟩) := by
  pointwise

theorem dl_last (H : Arrays l q k v o m c) (x : FVec Ideal S8x1024 .f32) (hx : x = fun y => at_nat (outs m c last.val last.isLt).dl (y 0).val (y 1).val) (d : Fin 2) (h : Fin 4) :
    ∑ e : Fin 128, (x (ix2 ⟨d.val * 4 + h.val, by omega⟩ ⟨e.val, by omega⟩) : EReal) = ((DL (l d h) (q d h) (k d h) (v d h) (o d h) : ℝ) : EReal) := by
  obtain ⟨r, hr, hs⟩ := (good m c H last).hdl d h
  rw [show 128 * (33 - (last).val) = 0 from rfl, Φ_zero, sub_zero] at hs
  rw [← hs, coe_sum, hx]
  refine Finset.sum_congr rfl fun e _ => ?_
  refine (at_nat_val _ ⟨d.val * 4 + h.val, by omega⟩ ⟨e.val, by omega⟩ _ _ rfl rfl).symm.trans ?_
  exact hr _ e.isLt (by show d.val * 4 + h.val = 4 * d.val + h.val; omega)

end Cert.Kernel2Ideal.Ret
-- ==== Proof.RetValue.lean ====
/-
The retention call's run: what its result arrays hold at the end.
-/
module

public import proofs.«01_k».proof.Proof.RetHost
public import proofs.«01_k».proof.Proof.RetFinal

@[expose] public section

set_option maxRecDepth 16384

noncomputable section
namespace Cert.Kernel2Ideal.Ret
open Cert.Kernel2Ideal.Gen
open Idealize.ShloMosaic Idealize.ShloMosaic.TcCoe Idealize.SL.Sem
open Idealize.ShloMosaic.Pipeline (Dat)
open Cert.Ret (DL)
open Finset

variable (m : (ℓ : Loc nD τ sig) → Buf (Elt Ideal) ℓ) (ρ : Dev nD → PrngReg)

/-- The decays' gradients, summed over the lanes after the region. -/
theorem suffix (c : Dev nD) : (Pipeline.afterTail₀ cfgs (dats m) 0 (V0 m) [hostOps1] c main_v230 : S2x4.Idx → EReal)
    = shapeCast S2x4 (Host.reduceAdd (extractStridedSlice S8x128 ![0, 0] ((dats m 0 c).arrAt 17 cfg0.N : FVec Ideal S8x1024 .f32) slices_S8x1024_S8x128_0_0) (constant (F := Ideal) S_ .f32 0x00000000#32) reducesTo_S8x128_S8_d1 h_S_) shapeCasts_S8_S2x4 := by
  unfold Pipeline.afterTail₀
  show StableHlo.after hostOps1 _ _ = _
  unfold hostOps1
  after_results
  rw [show Pipeline.withArrays (cfgs 0).spec c (V0 m c) (fun w => (dats m 0 c).arrAt w (cfgs 0).N) (Proc.devRef .tc main_v227_6) = (dats m 0 c).arrAt 17 cfg0.N from
    Pipeline.Dat.withArrays_arrAt (dats m 0 c) sharedIn0 (V0 m c) (A_eq m c) 17]
  rfl

variable {m}

/-- What a real array holds at a row and a column. -/
def val2 {a b : ℕ} (x : (⟨2, ![a, b]⟩ : Shape).Idx → EReal) (r : Fin a) (e : Fin b) : ℝ := (x (ix2 r e)).toReal

theorem val2_eq {a b : ℕ} (x : (⟨2, ![a, b]⟩ : Shape).Idx → EReal) (h : ∀ i, ∃ r : ℝ, x i = (r : EReal)) (r : Fin a) (e : Fin b) : x (ix2 r e) = ((val2 x r e : ℝ) : EReal) := by
  obtain ⟨s, hs⟩ := h (ix2 r e)
  unfold val2
  rw [hs]; rfl

variable {lr : Fin 2 → Fin 4 → ℝ} {qr kr vr : Fin 4352 → Fin 512 → ℝ} {cr : Fin 4096 → Fin 512 → ℝ}

/-- The decays' gradients. -/
theorem decays (c : Dev nD) (H : Given m c lr qr kr vr cr) : (Pipeline.afterTail₀ cfgs (dats m) 0 (V0 m) [hostOps1] c main_v230 : S2x4.Idx → EReal)
    = fun y => ((DL (lr (y 0) (y 1)) (seq qr (y 0) (y 1)) (seq kr (y 0) (y 1)) (seq vr (y 0) (y 1)) (seq (ctx0 cr) (y 0) (y 1)) : ℝ) : EReal) := by
  rw [suffix]
  funext y
  obtain ⟨d, h, rfl⟩ := (⟨y 0, y 1, eq_ix2 y⟩ : ∃ (d : Fin 2) (h : Fin 4), y = ix2 d h)
  exact (lanes _ d h).trans (dl_last (arrays H) _ f17 d h)

variable (m)

/-- The run: every window's array and the decays' gradients, the arguments as they were. -/
theorem run_values : θ_run defs (onTc (τ := τ) (main (F := Ideal))) ⟨m, fun _ => 0, ρ⟩ (fun r => (∀ c : Dev nD,
    (∀ w, r.2.mem (((cfgs 0).spec w).arr.view.loc (c.tc : Thread nD τ)) = (dats m 0 c).arrAt w (cfgs 0).N)
    ∧ r.2.mem ((c.tc : Thread nD τ).loc main_v230) = Pipeline.afterTail₀ cfgs (dats m) 0 (V0 m) [hostOps1] c main_v230) ∧ (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))) :=
  θ_run_and ((θ_run defs _ _).mono (fun _ h c => ⟨(h c).1, (h c).2 main_v230 (by decide +kernel)⟩) (run_main m ρ))
    (frame_of m ρ (dats m) (A_eq m) (run_main m ρ))

end Cert.Kernel2Ideal.Ret
end
-- ==== Proof.RetCore.lean ====
/-
The reference's derivative along one direction, operation by operation: the state that the context rows leave, the
two parts of the output, and what the derivative makes of them. Both directions are this one program, on rows in the
order of time; the context rows, whose order only matters for their decay, come with the steps that they lie back.
-/
module

public import proofs.«01_k».proof.Proof.RetMath
public import proofs.«01_k».proof.Proof.RetTile
public import proofs.«01_k».proof.Proof.Gen.Reference2Ideal.Read

@[expose] public section

set_option maxRecDepth 16384

noncomputable section
namespace Cert.Reference2Ideal.Core
open Cert.Reference2Ideal Cert.Reference2Ideal.Gen Cert.Reference2Ideal.Read
open Idealize.ShloMosaic Idealize.ShloMosaic.TcCoe Idealize.SL.Sem
open Cert.Ret hiding M T A B S D W
open Cert.Kernel2Ideal.Ret (coe_sum)
open Finset

abbrev Ctx := FVec Ideal S256x4x128 .f32
abbrev Sq := FVec Ideal S4096x4x128 .f32
abbrev Sco := FVec Ideal S4x4096x4096 .f32

abbrev zer (s : Shape) (h : S_.BroadcastsInDim s (![] : Fin 0 → Fin s.rank)) : FVec Ideal s .f32 := broadcastInDim s ![] h (constant (F := Ideal) S_ .f32 0x00000000#32)

section Defs
variable (L : FVec Ideal S4 .f32) (P : FVec Ideal S256 .f32) (kc vc : Ctx) (q k v o : Sq)

/-- The context rows' decay, the weighted keys and the state. -/
def Pr : FVec Ideal S1x256 .f32 := broadcastInDim S1x256 ![1] bcast_S256_S1x256_1 P
def cw : FVec Ideal S4x256 .f32 := Host.exp (mulf (broadcastInDim S4x256 ![0, 1] bcast_S4x1_S4x256_0_1 (broadcastInDim S4x1 ![0] bcast_S4_S4x1_0 L)) (broadcastInDim S4x256 ![0, 1] bcast_S1x256_S4x256_0_1 (Pr P)))
def cwt : FVec Ideal S256x4x128 .f32 := broadcastInDim S256x4x128 ![0, 1, 2] bcast_S256x4x1_S256x4x128_0_1_2 (broadcastInDim S256x4x1 ![0, 1] bcast_S256x4_S256x4x1_0_1 (transpose S256x4 [1, 0] (cw L P) transposes_S4x256_S256x4_1_0))
def ck : Ctx := mulf kc (cwt L P)
def st : FVec Ideal S4x128x128 .f32 := Host.dotGeneral dot_S256x4x128_S256x4x128_S4x128x128_0_0_2_2_1_1 none (ck L P kc) vc

/-- The decay between two rows: their distance, where it is not negative. -/
def pos : FVec Ideal S4096 .f32 := sitofp .f32 (iotaInDim S4096 32 0)
def dis : FVec Ideal S4096x4096 .f32 := subf (broadcastInDim S4096x4096 ![0, 1] bcast_S4096x1_S4096x4096_0_1 (broadcastInDim S4096x1 ![0] bcast_S4096_S4096x1_0 pos)) (broadcastInDim S4096x4096 ![0, 1] bcast_S1x4096_S4096x4096_0_1 (broadcastInDim S1x4096 ![1] bcast_S4096_S1x4096_1 pos))
def msk : Vec Ideal S4x4096x4096 .i1 := broadcastInDim S4x4096x4096 ![1, 2] bcast_S4096x4096_S4x4096x4096_1_2 (cmpf .oge dis (zer S4096x4096 bcast_S_S4096x4096))
def ext : Sco := broadcastInDim S4x4096x4096 ![0, 1, 2] bcast_S1x4096x4096_S4x4096x4096_0_1_2 (broadcastInDim S1x4096x4096 ![1, 2] bcast_S4096x4096_S1x4096x4096_1_2 (maximumf dis (zer S4096x4096 bcast_S_S4096x4096)))
def lcol : FVec Ideal S4x1 .f32 := broadcastInDim S4x1 ![0] bcast_S4_S4x1_0 L
def dcy : Sco := Host.exp (mulf (broadcastInDim S4x4096x4096 ![0, 1, 2] bcast_S4x1x1_S4x4096x4096_0_1_2 (broadcastInDim S4x1x1 ![0, 1] bcast_S4x1_S4x1x1_0_1 (lcol L))) ext)
def dm : Sco := select msk (dcy L) (broadcastInDim S4x4096x4096 ![] bcast_S_S4x4096x4096 (id (constant (F := Ideal) S_ .f32 0x00000000#32)))

/-- The decay from the context to a row. -/
def one : FVec Ideal S1x4096 .f32 := broadcastInDim S1x4096 ![1] bcast_S4096_S1x4096_1 (addf pos (broadcastInDim S4096 ![] bcast_S_S4096 (constant (F := Ideal) S_ .f32 0x3F800000#32)))
def ew : FVec Ideal S4x4096 .f32 := Host.exp (mulf (broadcastInDim S4x4096 ![0, 1] bcast_S4x1_S4x4096_0_1 (lcol L)) (broadcastInDim S4x4096 ![0, 1] bcast_S1x4096_S4x4096_0_1 one))
def ewt : Sq := broadcastInDim S4096x4x128 ![0, 1, 2] bcast_S4096x4x1_S4096x4x128_0_1_2 (broadcastInDim S4096x4x1 ![0, 1] bcast_S4096x4_S4096x4x1_0_1 (transpose S4096x4 [1, 0] (ew L) transposes_S4x4096_S4096x4_1_0))
def qw : Sq := mulf q (ewt L)

/-- The products of queries with keys and of cotangents with values. -/
def qk : Sco := Host.dotGeneral dot_S4096x4x128_S4096x4x128_S4x4096x4096_2_2_0_0_1_1 none q k
def ot : FVec Ideal S4x128x4096 .f32 := transpose S4x128x4096 [1, 2, 0] o transposes_S4096x4x128_S4x128x4096_1_2_0
def ov : Sco := Host.dotGeneral dot_S4x128x4096_S4096x4x128_S4x4096x4096_1_2_2_0_0_1 none (ot o) v
def am : Sco := mulf (qk q k) (dm L)
def bm : Sco := mulf (ov v o) (dm L)

/-- The cotangents through the state, and the state's own gradient. -/
def os : Sq := transpose S4096x4x128 [1, 0, 2] (Host.dotGeneral dot_S4x128x4096_S4x128x128_S4x4096x128_1_2_2_1_0_0 none (ot o) (st L P kc vc)) transposes_S4x4096x128_S4096x4x128_1_0_2
def ds : FVec Ideal S4x128x128 .f32 := transpose S4x128x128 [0, 2, 1] (Host.dotGeneral dot_S4x128x4096_S4096x4x128_S4x128x128_2_0_1_2_0_1 none (ot o) (qw L q)) transposes_S4x128x128_S4x128x128_0_2_1

/-- The gradients at the other rows and at the context rows. -/
def gv : Sq := transpose S4096x4x128 [2, 0, 1] (Host.dotGeneral dot_S4x128x4096_S4x4096x4096_S4x128x4096_2_1_1_2_0_0 none (ot o) (am L q k)) transposes_S4x128x4096_S4096x4x128_2_0_1
def gk : Sq := transpose S4096x4x128 [1, 0, 2] (Host.dotGeneral dot_S4x4096x4096_S4096x4x128_S4x4096x128_1_0_2_2_0_1 none (bm L v o) q) transposes_S4x4096x128_S4096x4x128_1_0_2
def gq : Sq := addf (mulf (os L P kc vc o) (ewt L)) (transpose S4096x4x128 [1, 0, 2] (Host.dotGeneral dot_S4x4096x4096_S4096x4x128_S4x4096x128_2_0_1_2_0_1 none (bm L v o) k) transposes_S4x4096x128_S4096x4x128_1_0_2)
def cvd : Ctx := transpose S256x4x128 [2, 0, 1] (Host.dotGeneral dot_S4x128x128_S256x4x128_S4x128x256_2_2_1_0_0_1 none (ds L q o) vc) transposes_S4x128x256_S256x4x128_2_0_1
def gkc : Ctx := mulf (cvd L vc q o) (cwt L P)
def gvc : Ctx := transpose S256x4x128 [2, 0, 1] (Host.dotGeneral dot_S4x128x128_S256x4x128_S4x128x256_1_2_2_0_0_1 none (ds L q o) (ck L P kc)) transposes_S4x128x256_S256x4x128_2_0_1

/-- The decay's gradient: through the decay from the context, between two rows, and of the context rows. -/
abbrev nil : FVec Ideal S_ .f32 := constant (F := Ideal) S_ .f32 0x00000000#32
def dl1 : FVec Ideal S4x1 .f32 := shapeCast _ (Host.reduceAdd (mulf (mulf (transpose S4x4096 [1, 0] (Host.reduceAdd (shapeCast _ (Host.reduceAdd (mulf q (os L P kc vc o)) nil reducesTo_S4096x4x128_S4096x4_d2 h_S_) shapeCasts_S4096x4_S4096x4x1) nil reducesTo_S4096x4x1_S4096x4_d2 h_S_) transposes_S4096x4_S4x4096_1_0)
    (ew L)) (broadcastInDim S4x4096 ![0, 1] bcast_S1x4096_S4x4096_0_1 one)) nil reducesTo_S4x4096_S4_d1 h_S_) shapeCasts_S4_S4x1
def dl2 : Sco := mulf (mulf (select msk (mulf (qk q k) (ov v o)) (zer S4x4096x4096 bcast_S_S4x4096x4096)) (dcy L)) ext
def dl2s : FVec Ideal S4x1 .f32 := broadcastInDim S4x1 ![0] bcast_S4_S4x1_0 (Host.reduceAdd (shapeCast _ (Host.reduceAdd (dl2 L q k v o) nil reducesTo_S4x4096x4096_S4_d1_2 h_S_) shapeCasts_S4_S4x1x1) nil reducesTo_S4x1x1_S4_d1_2 h_S_)
def dl3 : FVec Ideal S4x1 .f32 := shapeCast _ (Host.reduceAdd (mulf (mulf (transpose S4x256 [1, 0] (Host.reduceAdd (shapeCast _ (Host.reduceAdd (mulf kc (cvd L vc q o)) nil reducesTo_S256x4x128_S256x4_d2 h_S_) shapeCasts_S256x4_S256x4x1) nil reducesTo_S256x4x1_S256x4_d2 h_S_) transposes_S256x4_S4x256_1_0)
    (cw L P)) (broadcastInDim S4x256 ![0, 1] bcast_S1x256_S4x256_0_1 (Pr P))) nil reducesTo_S4x256_S4_d1 h_S_) shapeCasts_S4_S4x1
def gl : FVec Ideal S4 .f32 := addf (Host.reduceAdd (addf (dl1 L P kc vc q o) (dl2s L q k v o)) nil reducesTo_S4x1_S4_d1 h_S_) (Host.reduceAdd (dl3 L P kc vc q o) nil reducesTo_S4x1_S4_d1 h_S_)
end Defs

section Terms
variable (x0 x1 x2 : FVec Ideal S4352x512 .f32) (x3 : FVec Ideal S2x4 .f32) (x4 : FVec Ideal S4096x512 .f32)
theorem t81 : val_main_v81 (F := Ideal) x0 x1 x3 x4 = gv (val_main_v1 (F := Ideal) x3) (val_main_v21 (F := Ideal) x0) (val_main_v22 (F := Ideal) x1) (val_main_v60 (F := Ideal) x4) := by exact rfl
theorem t85 : val_main_v85 (F := Ideal) x0 x2 x3 x4 = gk (val_main_v1 (F := Ideal) x3) (val_main_v21 (F := Ideal) x0) (val_main_v23 (F := Ideal) x2) (val_main_v60 (F := Ideal) x4) := by exact rfl
theorem t88 : val_main_v88 (F := Ideal) x1 x2 x3 x4 = gq (val_main_v1 (F := Ideal) x3) (val_main_v9 (F := Ideal)) (val_main_v5 (F := Ideal) x1) (val_main_v6 (F := Ideal) x2) (val_main_v22 (F := Ideal) x1) (val_main_v23 (F := Ideal) x2) (val_main_v60 (F := Ideal) x4) := by exact rfl
theorem t110 : val_main_v110 (F := Ideal) x0 x2 x3 x4 = gkc (val_main_v1 (F := Ideal) x3) (val_main_v9 (F := Ideal)) (val_main_v6 (F := Ideal) x2) (val_main_v21 (F := Ideal) x0) (val_main_v60 (F := Ideal) x4) := by exact rfl
theorem t103 : val_main_v103 (F := Ideal) x0 x1 x3 x4 = gvc (val_main_v1 (F := Ideal) x3) (val_main_v9 (F := Ideal)) (val_main_v5 (F := Ideal) x1) (val_main_v21 (F := Ideal) x0) (val_main_v60 (F := Ideal) x4) := by exact rfl
theorem t119 : val_main_v119 (F := Ideal) x0 x1 x2 x3 x4 = gl (val_main_v1 (F := Ideal) x3) (val_main_v9 (F := Ideal)) (val_main_v5 (F := Ideal) x1) (val_main_v6 (F := Ideal) x2) (val_main_v21 (F := Ideal) x0) (val_main_v22 (F := Ideal) x1) (val_main_v23 (F := Ideal) x2) (val_main_v60 (F := Ideal) x4) := by exact rfl
theorem t211 : val_main_v211 (F := Ideal) x0 x1 x3 x4 = gv (val_main_v128 (F := Ideal) x3) (val_main_v149 (F := Ideal) x0) (val_main_v150 (F := Ideal) x1) (val_main_v190 (F := Ideal) x4) := by exact rfl
theorem t215 : val_main_v215 (F := Ideal) x0 x2 x3 x4 = gk (val_main_v128 (F := Ideal) x3) (val_main_v149 (F := Ideal) x0) (val_main_v151 (F := Ideal) x2) (val_main_v190 (F := Ideal) x4) := by exact rfl
theorem t218 : val_main_v218 (F := Ideal) x1 x2 x3 x4 = gq (val_main_v128 (F := Ideal) x3) (val_main_v134 (F := Ideal)) (val_main_v132 (F := Ideal) x1) (val_main_v133 (F := Ideal) x2) (val_main_v150 (F := Ideal) x1) (val_main_v151 (F := Ideal) x2) (val_main_v190 (F := Ideal) x4) := by exact rfl
theorem t243 : val_main_v243 (F := Ideal) x0 x2 x3 x4 = gkc (val_main_v128 (F := Ideal) x3) (val_main_v134 (F := Ideal)) (val_main_v133 (F := Ideal) x2) (val_main_v149 (F := Ideal) x0) (val_main_v190 (F := Ideal) x4) := by exact rfl
theorem t236 : val_main_v236 (F := Ideal) x0 x1 x3 x4 = gvc (val_main_v128 (F := Ideal) x3) (val_main_v134 (F := Ideal)) (val_main_v132 (F := Ideal) x1) (val_main_v149 (F := Ideal) x0) (val_main_v190 (F := Ideal) x4) := by exact rfl
theorem t252 : val_main_v252 (F := Ideal) x0 x1 x2 x3 x4 = gl (val_main_v128 (F := Ideal) x3) (val_main_v134 (F := Ideal)) (val_main_v132 (F := Ideal) x1) (val_main_v133 (F := Ideal) x2) (val_main_v149 (F := Ideal) x0) (val_main_v150 (F := Ideal) x1) (val_main_v151 (F := Ideal) x2) (val_main_v190 (F := Ideal) x4) := by exact rfl
end Terms

end Cert.Reference2Ideal.Core
-- ==== Proof.RetRead.lean ====
/-
The reference's operations along one direction, read at an element as real numbers.
-/
module

public import proofs.«01_k».proof.Proof.RetCore

@[expose] public section

set_option maxRecDepth 16384

noncomputable section
namespace Cert.Reference2Ideal.Core
open Cert.Reference2Ideal Cert.Reference2Ideal.Gen Cert.Reference2Ideal.Read
open Idealize.ShloMosaic Idealize.ShloMosaic.TcCoe Idealize.SL.Sem
open Cert.Ret hiding T
open Cert.Kernel2Ideal.Ret (coe_sum)
open Finset

/-- A direction's inputs: the context rows at times `γ`, the others at the times from 256 on. -/
structure Dir (l : Fin 4 → ℝ) (q k v o : Fin 4 → ℕ → Fin 128 → ℝ) (γ : Fin 256 → ℕ) (L : FVec Ideal S4 .f32) (P : FVec Ideal S256 .f32) (kc vc : Ctx) (Q K V O : Sq) : Prop where
  hL : ∀ h, (L (ix1 h) : EReal) = ((l h : ℝ) : EReal)
  hP : ∀ j, (P (ix1 j) : EReal) = ((255 - (γ j : ℝ) : ℝ) : EReal)
  hkc : ∀ j h e, (kc (ix3 j h e) : EReal) = ((k h (γ j) e : ℝ) : EReal)
  hvc : ∀ j h e, (vc (ix3 j h e) : EReal) = ((v h (γ j) e : ℝ) : EReal)
  hq : ∀ i h e, (Q (ix3 i h e) : EReal) = ((q h (256 + i.val) e : ℝ) : EReal)
  hk : ∀ i h e, (K (ix3 i h e) : EReal) = ((k h (256 + i.val) e : ℝ) : EReal)
  hv : ∀ i h e, (V (ix3 i h e) : EReal) = ((v h (256 + i.val) e : ℝ) : EReal)
  ho : ∀ i h e, (O (ix3 i h e) : EReal) = ((o h (256 + i.val) e : ℝ) : EReal)
  ho0 : ∀ h τ e, τ < 256 → o h τ e = 0
  hγ : ∀ f : ℕ → ℝ, ∑ j, f (γ j) = ∑ j ∈ range 256, f j
  hγ1 : ∀ j, γ j < 256

variable {l : Fin 4 → ℝ} {q k v o : Fin 4 → ℕ → Fin 128 → ℝ} {γ : Fin 256 → ℕ} {L : FVec Ideal S4 .f32} {P : FVec Ideal S256 .f32} {kc vc : Ctx} {Q K V O : Sq}

theorem sitofp_nat (n : ℕ) (h : n < 4096) : (FloatOps.sitofp FTy.f32 (BitVec.ofNat 32 n) : Ideal .f32) = ((n : ℝ) : EReal) := by
  show (((BitVec.ofNat 32 n).toInt : ℝ) : EReal) = _
  rw [BitVec.toInt_ofNat', Int.bmod_eq_of_le (by omega) (by omega)]; simp

theorem pos_at (i : Fin 4096) : (pos (ix1 i) : EReal) = ((i.val : ℝ) : EReal) := by
  unfold pos; pointwise; exact sitofp_nat _ i.isLt

theorem dis_at (i j : Fin 4096) : (dis (ix2 i j) : EReal) = ((i.val - j.val : ℝ) : EReal) := by
  unfold dis; pointwise [pos_at]; exact (EReal.coe_sub _ _).symm

theorem ext_at (h : Fin 4) (i j : Fin 4096) : (ext (ix3 h i j) : EReal) = ((max (i.val - j.val : ℝ) 0 : ℝ) : EReal) := by
  unfold ext; pointwise [dis_at]; exact (EReal.coe_strictMono.monotone.map_max).symm

theorem dcy_at (D : Dir l q k v o γ L P kc vc Q K V O) (h : Fin 4) (i j : Fin 4096) : (dcy L (ix3 h i j) : EReal) = ((Real.exp (l h * max (i.val - j.val : ℝ) 0) : ℝ) : EReal) := by
  unfold dcy lcol; pointwise [ext_at, D.hL]; rw [← EReal.coe_mul]; rfl

theorem msk_iff (i j : Fin 4096) : (0 : EReal) ≤ ((i.val - j.val : ℝ) : EReal) ↔ j.val ≤ i.val := by
  rw [← EReal.coe_zero, EReal.coe_le_coe_iff, sub_nonneg, Nat.cast_le]

theorem dm_at (D : Dir l q k v o γ L P kc vc Q K V O) (h : Fin 4) (i j : Fin 4096) : (dm L (ix3 h i j) : EReal) = ((M (l h) i.val j.val : ℝ) : EReal) := by
  unfold dm msk; pointwise [dis_at]
  unfold Ret.M
  by_cases hj : j.val ≤ i.val
  · rw [if_pos ((msk_iff i j).mpr hj), if_pos hj, dcy_at D, max_eq_left (sub_nonneg.mpr (Nat.cast_le.mpr hj))]
  · rw [if_neg fun h' => hj ((msk_iff i j).mp h'), if_neg hj]
    show (constant (F := Ideal) S_ .f32 0#32 ix0 : EReal) = ((0 : ℝ) : EReal)
    pointwise; rfl

theorem ew_at (D : Dir l q k v o γ L P kc vc Q K V O) (h : Fin 4) (i : Fin 4096) : (ew L (ix2 h i) : EReal) = ((Real.exp (l h * (i.val + 1 : ℝ)) : ℝ) : EReal) := by
  unfold ew lcol one; pointwise [pos_at, D.hL]
  rw [← EReal.coe_one, ← EReal.coe_add, ← EReal.coe_mul]; rfl

theorem one_at (i : Fin 4096) : (one (ix2 0 i) : EReal) = ((i.val + 1 : ℝ) : EReal) := by
  unfold one; pointwise [pos_at]
  rw [← EReal.coe_one, ← EReal.coe_add]

theorem cw_at (D : Dir l q k v o γ L P kc vc Q K V O) (h : Fin 4) (j : Fin 256) : (cw L P (ix2 h j) : EReal) = ((Real.exp (l h * (255 - (γ j : ℝ))) : ℝ) : EReal) := by
  unfold cw Pr; pointwise [D.hP, D.hL]
  rw [← EReal.coe_mul]; rfl

theorem st_at (D : Dir l q k v o γ L P kc vc Q K V O) (h : Fin 4) (e f : Fin 128) : (st L P kc vc (ix3 h e f) : EReal) = ((S (l h) (k h) (v h) 256 e f : ℝ) : EReal) := by
  unfold st ck cwt; pointwise [cw_at D, D.hkc, D.hvc]
  simp only [← EReal.coe_mul, ← coe_sum]
  rw [D.hγ fun n => k h n e * Real.exp (l h * (255 - (n : ℝ))) * v h n f, show 256 = 0 + 256 from rfl, S_step _ _ _ 0 256 (by show 256 ≤ 4352; omega), S_zero]
  simp only [Nat.zero_add, mul_zero, zero_add]
  norm_num

/-- Products of queries with keys and of cotangents with values. -/
theorem qk_at (D : Dir l q k v o γ L P kc vc Q K V O) (h : Fin 4) (i j : Fin 4096) :
    (qk Q K (ix3 h i j) : EReal) = ((∑ e, q h (256 + i.val) e * k h (256 + j.val) e : ℝ) : EReal) := by
  unfold qk; pointwise [D.hq, D.hk]
  simp only [← EReal.coe_mul, ← coe_sum]

theorem ov_at (D : Dir l q k v o γ L P kc vc Q K V O) (h : Fin 4) (i j : Fin 4096) :
    (ov V O (ix3 h i j) : EReal) = ((∑ f, o h (256 + i.val) f * v h (256 + j.val) f : ℝ) : EReal) := by
  unfold ov ot; pointwise [D.ho, D.hv]
  simp only [← EReal.coe_mul, ← coe_sum]

theorem os_at (D : Dir l q k v o γ L P kc vc Q K V O) (i : Fin 4096) (h : Fin 4) (e : Fin 128) :
    (os L P kc vc O (ix3 i h e) : EReal) = ((∑ f, o h (256 + i.val) f * S (l h) (k h) (v h) 256 e f : ℝ) : EReal) := by
  unfold os ot; pointwise [D.ho, st_at D]
  simp only [← EReal.coe_mul, ← coe_sum]

/-- A sum over the rows from 256 on. -/
theorem rows (f : ℕ → ℝ) : ∑ i : Fin 4096, f i.val = ∑ i ∈ range 4096, f i := (Finset.sum_range f).symm

theorem ds_at (D : Dir l q k v o γ L P kc vc Q K V O) (h : Fin 4) (e f : Fin 128) :
    (ds L Q O (ix3 h e f) : EReal) = ((Ret.D (l h) (q h) (o h) 256 e f : ℝ) : EReal) := by
  unfold ds ot qw ewt; pointwise [D.ho, D.hq, ew_at D]
  simp only [← EReal.coe_mul, ← coe_sum]
  rw [rows fun i => o h (256 + i) f * (q h (256 + i) e * Real.exp (l h * ((i : ℝ) + 1))), D_step _ _ _ 256 4096 (by show 256 + 4096 ≤ 4352; omega),
    show 256 + 4096 = Ret.T from rfl, D_end, mul_zero, zero_add]
  exact congrArg _ (Finset.sum_congr rfl fun i _ => mul_comm _ _)

theorem gq_at (D : Dir l q k v o γ L P kc vc Q K V O) (i : Fin 4096) (h : Fin 4) (e : Fin 128) :
    (gq L P kc vc K V O (ix3 i h e) : EReal) = ((DQ (l h) (k h) (v h) (o h) (256 + i.val) e : ℝ) : EReal) := by
  unfold gq bm ewt; pointwise [os_at D, ew_at D, ov_at D, dm_at D, D.hk]
  simp only [← EReal.coe_mul, ← coe_sum, ← EReal.coe_add]
  rw [rows fun j => ((∑ f, o h (256 + i.val) f * v h (256 + j) f) * M (l h) i.val j) * k h (256 + j) e,
    dq_tile (l h) (k h) (v h) (o h) 256 4096 i.val i.isLt (by show 256 + 4096 ≤ 4352; omega) e]

theorem gk_at (D : Dir l q k v o γ L P kc vc Q K V O) (j : Fin 4096) (h : Fin 4) (e : Fin 128) :
    (gk L Q V O (ix3 j h e) : EReal) = ((DK (l h) (q h) (v h) (o h) (256 + j.val) e : ℝ) : EReal) := by
  unfold gk bm; pointwise [ov_at D, dm_at D, D.hq]
  simp only [← EReal.coe_mul, ← coe_sum]
  rw [rows fun i => ((∑ f, o h (256 + i) f * v h (256 + j.val) f) * M (l h) i j.val) * q h (256 + i) e,
    ← dk_tile (l h) (q h) (v h) (o h) 256 4096 j.val j.isLt (by show 256 + 4096 ≤ 4352; omega) e, show 256 + 4096 = Ret.T from rfl]
  simp only [D_end, mul_zero, Finset.sum_const_zero, zero_mul, add_zero]

theorem gv_at (D : Dir l q k v o γ L P kc vc Q K V O) (j : Fin 4096) (h : Fin 4) (f : Fin 128) :
    (gv L Q K O (ix3 j h f) : EReal) = ((DV (l h) (q h) (k h) (o h) (256 + j.val) f : ℝ) : EReal) := by
  unfold gv am ot; pointwise [qk_at D, dm_at D, D.ho]
  simp only [← EReal.coe_mul, ← coe_sum]
  rw [rows fun i => o h (256 + i) f * ((∑ e, q h (256 + i) e * k h (256 + j.val) e) * M (l h) i j.val),
    ← dv_tile (l h) (q h) (k h) (o h) 256 4096 j.val j.isLt (by show 256 + 4096 ≤ 4352; omega) f, show 256 + 4096 = Ret.T from rfl]
  simp only [D_end, mul_zero, Finset.sum_const_zero, add_zero]
  exact congrArg _ (Finset.sum_congr rfl fun i _ => mul_comm _ _)

/-- The context rows. -/
theorem cvd_at (D : Dir l q k v o γ L P kc vc Q K V O) (j : Fin 256) (h : Fin 4) (e : Fin 128) :
    (cvd L vc Q O (ix3 j h e) : EReal) = ((∑ f, v h (γ j) f * Ret.D (l h) (q h) (o h) 256 e f : ℝ) : EReal) := by
  unfold cvd; pointwise [ds_at D, D.hvc]
  simp only [← EReal.coe_mul, ← coe_sum]
  exact congrArg _ (Finset.sum_congr rfl fun i _ => mul_comm _ _)

theorem gkc_at (D : Dir l q k v o γ L P kc vc Q K V O) (j : Fin 256) (h : Fin 4) (e : Fin 128) :
    (gkc L P vc Q O (ix3 j h e) : EReal) = ((DK (l h) (q h) (v h) (o h) (γ j) e : ℝ) : EReal) := by
  unfold gkc cwt; pointwise [cvd_at D, cw_at D]
  rw [← EReal.coe_mul]
  have h0 := dk_tile (l h) (q h) (v h) (o h) 0 256 (γ j) (D.hγ1 j) (by show 0 + 256 ≤ 4352; omega) e
  rw [Finset.sum_eq_zero fun i hi => by
    have hi' := mem_range.mp hi
    simp only [Nat.zero_add, D.ho0 h i _ hi', zero_mul, mul_zero, Finset.sum_const_zero]] at h0
  simp only [Nat.zero_add, zero_add] at h0
  rw [← h0]; norm_num

theorem gvc_at (D : Dir l q k v o γ L P kc vc Q K V O) (j : Fin 256) (h : Fin 4) (f : Fin 128) :
    (gvc L P kc Q O (ix3 j h f) : EReal) = ((DV (l h) (q h) (k h) (o h) (γ j) f : ℝ) : EReal) := by
  unfold gvc ck cwt; pointwise [ds_at D, cw_at D, D.hkc]
  simp only [← EReal.coe_mul, ← coe_sum]
  have h0 := dv_tile (l h) (q h) (k h) (o h) 0 256 (γ j) (D.hγ1 j) (by show 0 + 256 ≤ 4352; omega) f
  rw [Finset.sum_eq_zero fun i hi => by
    have hi' := mem_range.mp hi
    simp only [Nat.zero_add, D.ho0 h i _ hi', zero_mul, mul_zero, Finset.sum_const_zero]] at h0
  simp only [Nat.zero_add, zero_add] at h0
  rw [← h0]
  refine congrArg _ (Finset.sum_congr rfl fun e _ => ?_)
  norm_num
  try ring

/-- The queries of the context rows have no gradient. -/
theorem dq_ctx (D : Dir l q k v o γ L P kc vc Q K V O) (h : Fin 4) (τ : ℕ) (hτ : τ < 256) (e) : DQ (l h) (k h) (v h) (o h) τ e = 0 := by
  refine Finset.sum_eq_zero fun σ _ => ?_
  simp [B, D.ho0 h τ _ hτ]

theorem dl1_at (D : Dir l q k v o γ L P kc vc Q K V O) (h : Fin 4) : (dl1 L P kc vc Q O (ix2 h 0) : EReal)
    = ((∑ i ∈ range 4096, (∑ e, q h (256 + i) e * (∑ f, o h (256 + i) f * S (l h) (k h) (v h) 256 e f)) * (Real.exp (l h * ((i : ℝ) + 1)) * ((i : ℝ) + 1)) : ℝ) : EReal) := by
  unfold dl1; pointwise [os_at D, ew_at D, one_at, D.hq]
  simp only [Finset.univ_unique, Finset.sum_singleton, ← EReal.coe_mul, ← coe_sum]
  rw [← rows]
  exact congrArg _ (Finset.sum_congr rfl fun i _ => mul_assoc _ _ _)

theorem dl3_at (D : Dir l q k v o γ L P kc vc Q K V O) (h : Fin 4) : (dl3 L P kc vc Q O (ix2 h 0) : EReal)
    = ((∑ j ∈ range 256, (∑ e, k h j e * (∑ f, v h j f * Ret.D (l h) (q h) (o h) 256 e f)) * (Real.exp (l h * (255 - (j : ℝ))) * (255 - (j : ℝ))) : ℝ) : EReal) := by
  unfold dl3 Pr; pointwise [cvd_at D, cw_at D, D.hkc, D.hP]
  simp only [Finset.univ_unique, Finset.sum_singleton, ← EReal.coe_mul, ← coe_sum]
  rw [← D.hγ]
  exact congrArg _ (Finset.sum_congr rfl fun i _ => mul_assoc _ _ _)

theorem dl2_at (D : Dir l q k v o γ L P kc vc Q K V O) (h : Fin 4) (i j : Fin 4096) : (dl2 L Q K V O (ix3 h i j) : EReal)
    = (((∑ f, o h (256 + i.val) f * v h (256 + j.val) f) * M (l h) i.val j.val * (∑ e, q h (256 + i.val) e * k h (256 + j.val) e) * ((i.val : ℝ) - j.val) : ℝ) : EReal) := by
  unfold dl2 msk; pointwise [dis_at, qk_at D, ov_at D, dcy_at D, ext_at]
  unfold Ret.M
  by_cases hj : j.val ≤ i.val
  · rw [if_pos ((msk_iff i j).mpr hj), if_pos hj, max_eq_left (sub_nonneg.mpr (Nat.cast_le.mpr hj))]
    simp only [← EReal.coe_mul]
    congr 1; ring
  · rw [if_neg fun h' => hj ((msk_iff i j).mp h'), if_neg hj]
    simp only [zero_mul, mul_zero, EReal.coe_zero]

theorem dl2s_at (D : Dir l q k v o γ L P kc vc Q K V O) (h : Fin 4) : (dl2s L Q K V O (ix2 h 0) : EReal)
    = ((∑ i ∈ range 4096, ∑ j ∈ range 4096, (∑ f, o h (256 + i) f * v h (256 + j) f) * M (l h) i j * (∑ e, q h (256 + i) e * k h (256 + j) e) * ((i : ℝ) - j) : ℝ) : EReal) := by
  unfold dl2s; pointwise [dl2_at D]
  simp only [Finset.univ_unique, Finset.sum_singleton, ← coe_sum]
  rw [← rows]
  exact congrArg _ (Finset.sum_congr rfl fun i _ => rows fun j => (∑ f, o h (256 + i.val) f * v h (256 + j) f) * Ret.M (l h) i.val j * (∑ e, q h (256 + i.val) e * k h (256 + j) e) * ((i.val : ℝ) - j))

theorem gl_at (D : Dir l q k v o γ L P kc vc Q K V O) (h : Fin 4) : (gl L P kc vc Q K V O (ix1 h) : EReal) = ((DL (l h) (q h) (k h) (v h) (o h) : ℝ) : EReal) := by
  unfold gl; pointwise
  simp only [Finset.univ_unique, Finset.sum_singleton]
  show (dl1 L P kc vc Q O (ix2 h 0) + dl2s L Q K V O (ix2 h 0) + dl3 L P kc vc Q O (ix2 h 0) : EReal) = _
  rw [dl1_at D, dl2s_at D, dl3_at D, ← EReal.coe_add, ← EReal.coe_add]
  have h1 := dl_tile (l h) (q h) (k h) (v h) (o h) 256 4096 (by show 256 + 4096 ≤ 4352; omega)
  have h2 := dl_tile (l h) (q h) (k h) (v h) (o h) 0 256 (by show 0 + 256 ≤ 4352; omega)
  have z1 : ∑ i ∈ range 256, ∑ j ∈ range 256, ((∑ f, o h (0 + i) f * v h (0 + j) f) * Ret.M (l h) i j) * (∑ e, q h (0 + i) e * k h (0 + j) e) * ((i : ℝ) - j) = 0 :=
    Finset.sum_eq_zero fun i hi => Finset.sum_eq_zero fun j _ => by
      have hi' := mem_range.mp hi
      simp only [Nat.zero_add, D.ho0 h i _ hi', zero_mul, Finset.sum_const_zero]
  rw [show 256 + 4096 = Ret.T from rfl, Φ_end] at h1
  simp only [D_end, mul_zero, zero_mul, Finset.sum_const_zero, add_zero] at h1
  rw [z1, Φ_zero] at h2
  simp only [S_zero, Nat.zero_add, mul_zero, zero_mul, Finset.sum_const_zero, add_zero, zero_add, sub_zero] at h2
  have h3 : (((256 : ℕ) : ℝ) - 1) = 255 := by norm_num
  rw [h3] at h2
  rw [h2]
  congr 1
  linarith
end Cert.Reference2Ideal.Core
-- ==== Proof.RetRef.lean ====
/-
The reference's results, read at a row and column: the gradients of that row and head.
-/
module

public import proofs.«01_k».proof.Proof.RetRead
public import proofs.«01_k».proof.Proof.RetFinal

@[expose] public section

set_option maxRecDepth 16384

noncomputable section
namespace Cert.Reference2Ideal.Core
open Cert.Reference2Ideal Cert.Reference2Ideal.Gen Cert.Reference2Ideal.Read
open Idealize.ShloMosaic Idealize.ShloMosaic.TcCoe Idealize.SL.Sem
open Cert.Kernel2Ideal.Ret (coe_sum seq ctx0 row rowN row_val cl cl_val hd ln at_row DQs DKs DVs)
open Cert.Ret (DQ DK DV DL)
open Finset

/-- The rows of a direction's context and of the others, as one array. -/
def both (X : Sq) (Y : Ctx) : FVec Ideal S4352x512 .bf16 :=
  truncf .bf16 (shapeCast S4352x512 (addf (pad S4352x4x128 ![256, 0, 0] ![0, 0, 0] ![0, 0, 0] X (constant (F := Ideal) S_ .f32 0x00000000#32) pads_S4096x4x128_S4352x4x128_25600_000_000 h_S_)
    (pad S4352x4x128 ![0, 0, 0] ![4096, 0, 0] ![0, 0, 0] Y (constant (F := Ideal) S_ .f32 0x00000000#32) pads_S256x4x128_S4352x4x128_040960_000_000 h_S_)) shapeCasts_S4352x4x128_S4352x512) bitsLt_bf16_f32
def low (X : Sq) : FVec Ideal S4352x512 .bf16 :=
  truncf .bf16 (shapeCast S4352x512 (pad S4352x4x128 ![256, 0, 0] ![0, 0, 0] ![0, 0, 0] X (constant (F := Ideal) S_ .f32 0x00000000#32) pads_S4096x4x128_S4352x4x128_25600_000_000 h_S_) shapeCasts_S4352x4x128_S4352x512) bitsLt_bf16_f32

theorem low_at (X : Sq) (r : Fin 4352) (y : Fin 512) : (low X (ix2 r y) : EReal)
    = if h : r.val < 256 then 0 else X (ix3 ⟨r.val - 256, by omega⟩ (hd y) (ln y)) := by
  unfold low; pointwise
  by_cases h : r.val < 256
  · rw [dif_neg (by omega), dif_pos h]
  · rw [dif_pos ⟨by omega, by omega, by omega⟩, dif_neg h]; rfl

theorem both_at (X : Sq) (Y : Ctx) (r : Fin 4352) (y : Fin 512) : (both X Y (ix2 r y) : EReal)
    = if h : r.val < 256 then Y (ix3 ⟨r.val, h⟩ (hd y) (ln y)) else X (ix3 ⟨r.val - 256, by omega⟩ (hd y) (ln y)) := by
  unfold both; pointwise
  by_cases h : r.val < 256
  · rw [dif_neg (by omega), dif_pos ⟨by omega, by omega, by omega⟩, dif_pos h]; exact zero_add _
  · rw [dif_pos ⟨by omega, by omega, by omega⟩, dif_neg (by omega), dif_neg h]; exact add_zero _

theorem rev_at (X : Sq) (i : Fin 4096) (h : Fin 4) (e : Fin 128) : (Host.reverse [0] X (ix3 i h e) : EReal) = X (ix3 ⟨4095 - i.val, by omega⟩ h e) := by
  pointwise
  exact congrArg X (congrArg₂ (fun a b => ix3 a b e) (Fin.ext (by show 4096 - (i.val + 1) = 4095 - i.val; omega)) rfl)

theorem lit255 : Ideal.ofBits FTy.f32 1132396544#32 = ((255 : ℝ) : EReal) := by
  simp [Ideal.ofBits, Ideal.ieee, -EReal.coe_mul]; norm_num

/-- Two elements at the same place. -/
theorem same {n : ℕ} (x : FVec Ideal ⟨2, ![n, 512]⟩ .f32) (r r' : Fin n) (y y' : Fin 512) (hr : r.val = r'.val) (hy : y.val = y'.val) : x (ix2 r y) = x (ix2 r' y') := by
  rw [Fin.ext hr, Fin.ext hy]

section
variable (x0 x1 x2 : FVec Ideal S4352x512 .f32) (x3 : FVec Ideal S2x4 .f32) (x4 : FVec Ideal S4096x512 .f32)
theorem t260 : val_main_v260 (F := Ideal) x1 x2 x3 x4 = low (val_main_v88 (F := Ideal) x1 x2 x3 x4) := by exact rfl
theorem t261 : val_main_v261 (F := Ideal) x0 x2 x3 x4 = both (val_main_v85 (F := Ideal) x0 x2 x3 x4) (val_main_v110 (F := Ideal) x0 x2 x3 x4) := by exact rfl
theorem t262 : val_main_v262 (F := Ideal) x0 x1 x3 x4 = both (val_main_v81 (F := Ideal) x0 x1 x3 x4) (val_main_v103 (F := Ideal) x0 x1 x3 x4) := by exact rfl
theorem t263 : val_main_v263 (F := Ideal) x1 x2 x3 x4 = low (Host.reverse [0] (val_main_v218 (F := Ideal) x1 x2 x3 x4)) := by exact rfl
theorem t264 : val_main_v264 (F := Ideal) x0 x2 x3 x4 = both (Host.reverse [0] (val_main_v215 (F := Ideal) x0 x2 x3 x4)) (val_main_v243 (F := Ideal) x0 x2 x3 x4) := by exact rfl
theorem t265 : val_main_v265 (F := Ideal) x0 x1 x3 x4 = both (Host.reverse [0] (val_main_v211 (F := Ideal) x0 x1 x3 x4)) (val_main_v236 (F := Ideal) x0 x1 x3 x4) := by exact rfl
theorem t268_0 (h : Fin 4) : (val_main_v268 (F := Ideal) x0 x1 x2 x3 x4 (ix2 0 h) : EReal) = val_main_v119 (F := Ideal) x0 x1 x2 x3 x4 (ix1 h) := by
  unfold val_main_v268 val_main_v266 val_main_v267; pointwise
theorem t268_1 (h : Fin 4) : (val_main_v268 (F := Ideal) x0 x1 x2 x3 x4 (ix2 1 h) : EReal) = val_main_v252 (F := Ideal) x0 x1 x2 x3 x4 (ix1 h) := by
  unfold val_main_v268 val_main_v266 val_main_v267; pointwise
theorem l0 (h : Fin 4) : (val_main_v1 (F := Ideal) x3 (ix1 h) : EReal) = x3 (ix2 0 h) := by unfold val_main_v1 val_main_v0; pointwise
theorem l1 (h : Fin 4) : (val_main_v128 (F := Ideal) x3 (ix1 h) : EReal) = x3 (ix2 1 h) := by unfold val_main_v128 val_main_v127; pointwise
theorem p0 (j : Fin 256) : (val_main_v9 (F := Ideal) (ix1 j) : EReal) = ((255 - (j.val : ℝ) : ℝ) : EReal) := by
  unfold val_main_v9 val_main_v8 val_main_v7 val_main_cst; pointwise
  rw [sitofp_nat _ (by omega), lit255, ← EReal.coe_sub]
theorem p1 (j : Fin 256) : (val_main_v134 (F := Ideal) (ix1 j) : EReal) = ((j.val : ℝ) : EReal) := by
  unfold val_main_v134; pointwise; exact sitofp_nat _ (by omega)
theorem kc0 (j : Fin 256) (h : Fin 4) (e : Fin 128) : (val_main_v5 (F := Ideal) x1 (ix3 j h e) : EReal) = x1 (ix2 ⟨j.val, by omega⟩ (cl h e)) := by
  unfold val_main_v5 val_main_v3; pointwise
  exact same _ _ _ _ _ rfl (cl_val h e).symm
theorem vc0 (j : Fin 256) (h : Fin 4) (e : Fin 128) : (val_main_v6 (F := Ideal) x2 (ix3 j h e) : EReal) = x2 (ix2 ⟨j.val, by omega⟩ (cl h e)) := by
  unfold val_main_v6 val_main_v4; pointwise
  exact same _ _ _ _ _ rfl (cl_val h e).symm
theorem q0 (j : Fin 4096) (h : Fin 4) (e : Fin 128) : (val_main_v21 (F := Ideal) x0 (ix3 j h e) : EReal) = x0 (ix2 ⟨256 + j.val, by omega⟩ (cl h e)) := by
  unfold val_main_v21 val_main_v2; pointwise
  exact same _ _ _ _ _ rfl (cl_val h e).symm
theorem k0 (j : Fin 4096) (h : Fin 4) (e : Fin 128) : (val_main_v22 (F := Ideal) x1 (ix3 j h e) : EReal) = x1 (ix2 ⟨256 + j.val, by omega⟩ (cl h e)) := by
  unfold val_main_v22 val_main_v3; pointwise
  exact same _ _ _ _ _ rfl (cl_val h e).symm
theorem v0 (j : Fin 4096) (h : Fin 4) (e : Fin 128) : (val_main_v23 (F := Ideal) x2 (ix3 j h e) : EReal) = x2 (ix2 ⟨256 + j.val, by omega⟩ (cl h e)) := by
  unfold val_main_v23 val_main_v4; pointwise
  exact same _ _ _ _ _ rfl (cl_val h e).symm
theorem o0 (j : Fin 4096) (h : Fin 4) (e : Fin 128) : (val_main_v60 (F := Ideal) x4 (ix3 j h e) : EReal) = x4 (ix2 ⟨j.val, by omega⟩ (cl h e)) := by
  unfold val_main_v60 ; pointwise
  exact same _ _ _ _ _ rfl (cl_val h e).symm
theorem kc1 (j : Fin 256) (h : Fin 4) (e : Fin 128) : (val_main_v132 (F := Ideal) x1 (ix3 j h e) : EReal) = x1 (ix2 ⟨j.val, by omega⟩ (cl h e)) := by
  unfold val_main_v132 val_main_v130; pointwise
  exact same _ _ _ _ _ rfl (cl_val h e).symm
theorem vc1 (j : Fin 256) (h : Fin 4) (e : Fin 128) : (val_main_v133 (F := Ideal) x2 (ix3 j h e) : EReal) = x2 (ix2 ⟨j.val, by omega⟩ (cl h e)) := by
  unfold val_main_v133 val_main_v131; pointwise
  exact same _ _ _ _ _ rfl (cl_val h e).symm
theorem q1 (j : Fin 4096) (h : Fin 4) (e : Fin 128) : (val_main_v149 (F := Ideal) x0 (ix3 j h e) : EReal) = x0 (ix2 ⟨4351 - j.val, by omega⟩ (cl h e)) := by
  unfold val_main_v149 val_main_v146 val_main_v129; pointwise
  exact same _ _ _ _ _ (by show 256 + (4096 - (j.val + 1)) = 4351 - j.val; omega) (cl_val h e).symm
theorem k1 (j : Fin 4096) (h : Fin 4) (e : Fin 128) : (val_main_v150 (F := Ideal) x1 (ix3 j h e) : EReal) = x1 (ix2 ⟨4351 - j.val, by omega⟩ (cl h e)) := by
  unfold val_main_v150 val_main_v147 val_main_v130; pointwise
  exact same _ _ _ _ _ (by show 256 + (4096 - (j.val + 1)) = 4351 - j.val; omega) (cl_val h e).symm
theorem v1 (j : Fin 4096) (h : Fin 4) (e : Fin 128) : (val_main_v151 (F := Ideal) x2 (ix3 j h e) : EReal) = x2 (ix2 ⟨4351 - j.val, by omega⟩ (cl h e)) := by
  unfold val_main_v151 val_main_v148 val_main_v131; pointwise
  exact same _ _ _ _ _ (by show 256 + (4096 - (j.val + 1)) = 4351 - j.val; omega) (cl_val h e).symm
theorem o1 (j : Fin 4096) (h : Fin 4) (e : Fin 128) : (val_main_v190 (F := Ideal) x4 (ix3 j h e) : EReal) = x4 (ix2 ⟨4095 - j.val, by omega⟩ (cl h e)) := by
  unfold val_main_v190 val_main_v189; pointwise
  exact same _ _ _ _ _ (by show 4096 - (j.val + 1) = 4095 - j.val; omega) (cl_val h e).symm
end

/-- A result's rows, of what its two parts are at each time. -/
theorem low_row (G : Fin 2 → Fin 4 → ℕ → Fin 128 → ℝ) (d : Fin 2) (X : Sq) (h0 : ∀ h τ e, τ < 256 → G d h (rowN d τ) e = 0)
    (hX : ∀ i h e, (X (ix3 i h e) : EReal) = ((G d h (rowN d (256 + i.val)) e : ℝ) : EReal)) : low X = fun y => ((at_row G d (y 0).val (y 1).val : ℝ) : EReal) := by
  funext y
  obtain ⟨r, j, rfl⟩ := (⟨y 0, y 1, eq_ix2 y⟩ : ∃ (i : Fin 4352) (j : Fin 512), y = ix2 i j)
  refine (low_at X r j).trans ?_
  have hj : (⟨j.val % 512, Nat.mod_lt _ (by omega)⟩ : Fin 512) = j := Fin.ext (Nat.mod_eq_of_lt j.isLt)
  show _ = ((G d (hd ⟨j.val % 512, _⟩) (rowN d r.val) (ln ⟨j.val % 512, _⟩) : ℝ) : EReal)
  rw [hj]
  by_cases h : r.val < 256
  · rw [dif_pos h, h0 _ _ _ h, EReal.coe_zero]
  · rw [dif_neg h, hX]
    show ((G d (hd j) (rowN d (256 + (r.val - 256))) (ln j) : ℝ) : EReal) = _
    rw [show 256 + (r.val - 256) = r.val by omega]

theorem both_row (G : Fin 2 → Fin 4 → ℕ → Fin 128 → ℝ) (d : Fin 2) (X : Sq) (Y : Ctx) (hY : ∀ j h e, (Y (ix3 j h e) : EReal) = ((G d h (rowN d j.val) e : ℝ) : EReal))
    (hX : ∀ i h e, (X (ix3 i h e) : EReal) = ((G d h (rowN d (256 + i.val)) e : ℝ) : EReal)) : both X Y = fun y => ((at_row G d (y 0).val (y 1).val : ℝ) : EReal) := by
  funext y
  obtain ⟨r, j, rfl⟩ := (⟨y 0, y 1, eq_ix2 y⟩ : ∃ (i : Fin 4352) (j : Fin 512), y = ix2 i j)
  refine (both_at X Y r j).trans ?_
  have hj : (⟨j.val % 512, Nat.mod_lt _ (by omega)⟩ : Fin 512) = j := Fin.ext (Nat.mod_eq_of_lt j.isLt)
  show _ = ((G d (hd ⟨j.val % 512, _⟩) (rowN d r.val) (ln ⟨j.val % 512, _⟩) : ℝ) : EReal)
  rw [hj]
  by_cases h : r.val < 256
  · rw [dif_pos h, hY]
  · rw [dif_neg h, hX]
    show ((G d (hd j) (rowN d (256 + (r.val - 256))) (ln j) : ℝ) : EReal) = _
    rw [show 256 + (r.val - 256) = r.val by omega]

section
variable {x0 x1 x2 : FVec Ideal S4352x512 .f32} {x3 : FVec Ideal S2x4 .f32} {x4 : FVec Ideal S4096x512 .f32}
variable {lr : Fin 2 → Fin 4 → ℝ} {qr kr vr : Fin 4352 → Fin 512 → ℝ} {cr : Fin 4096 → Fin 512 → ℝ}
variable (hq : ∀ r e, (x0 (ix2 r e) : EReal) = ((qr r e : ℝ) : EReal)) (hk : ∀ r e, (x1 (ix2 r e) : EReal) = ((kr r e : ℝ) : EReal)) (hv : ∀ r e, (x2 (ix2 r e) : EReal) = ((vr r e : ℝ) : EReal))
  (hl : ∀ d h, (x3 (ix2 d h) : EReal) = ((lr d h : ℝ) : EReal)) (ho : ∀ r e, (x4 (ix2 r e) : EReal) = ((cr r e : ℝ) : EReal))

theorem to_seq (X : Fin 4352 → Fin 512 → ℝ) (d : Fin 2) (r : Fin 4352) (τ : ℕ) (h : Fin 4) (e : Fin 128) (hτ : τ < 4352) (hr : r.val = rowN d τ) : X r (cl h e) = seq X d h τ e := by
  rw [show r = row d τ from Fin.ext (hr.trans (row_val d τ hτ).symm)]; rfl

theorem to_ctx (X : Fin 4096 → Fin 512 → ℝ) (d : Fin 2) (r : Fin 4096) (τ : ℕ) (h : Fin 4) (e : Fin 128) (hτ : τ < 4352) (hr : r.val + 256 = rowN d τ) : X r (cl h e) = seq (ctx0 X) d h τ e := by
  have e1 : (row d τ).val = r.val + 256 := (row_val d τ hτ).trans hr.symm
  show _ = ctx0 X (row d τ) (cl h e)
  unfold ctx0
  rw [dif_neg (by omega)]
  exact congrArg (fun z => X z (cl h e)) (Fin.ext (by show r.val = (row d τ).val - 256; omega))

theorem ctx_zero (X : Fin 4096 → Fin 512 → ℝ) (d : Fin 2) (h : Fin 4) (τ : ℕ) (e : Fin 128) (hτ : τ < 256) : seq (ctx0 X) d h τ e = 0 := by
  have e1 : (row d τ).val = rowN d τ := row_val d τ (by omega)
  have e2 : rowN d τ < 256 := by unfold rowN; split_ifs <;> omega
  show ctx0 X (row d τ) (cl h e) = 0
  unfold ctx0
  rw [dif_pos (by omega)]

include hq hk hv hl ho in
theorem dir0 : Dir (lr 0) (seq qr 0) (seq kr 0) (seq vr 0) (seq (ctx0 cr) 0) (fun j => rowN 0 j.val) (val_main_v1 (F := Ideal) x3) (val_main_v9 (F := Ideal)) (val_main_v5 (F := Ideal) x1) (val_main_v6 (F := Ideal) x2)
    (val_main_v21 (F := Ideal) x0) (val_main_v22 (F := Ideal) x1) (val_main_v23 (F := Ideal) x2) (val_main_v60 (F := Ideal) x4) where
  hL h := (l0 x3 h).trans (hl 0 h)
  hP j := p0 j
  hkc j h e := (kc0 x1 j h e).trans ((hk _ _).trans (congrArg _ (to_seq kr 0 _ _ h e (by show j.val < 4352; omega) rfl)))
  hvc j h e := (vc0 x2 j h e).trans ((hv _ _).trans (congrArg _ (to_seq vr 0 _ _ h e (by show j.val < 4352; omega) rfl)))
  hq i h e := (q0 x0 i h e).trans ((hq _ _).trans (congrArg _ (to_seq qr 0 _ _ h e (by omega) rfl)))
  hk i h e := (k0 x1 i h e).trans ((hk _ _).trans (congrArg _ (to_seq kr 0 _ _ h e (by omega) rfl)))
  hv i h e := (v0 x2 i h e).trans ((hv _ _).trans (congrArg _ (to_seq vr 0 _ _ h e (by omega) rfl)))
  ho i h e := (o0 x4 i h e).trans ((ho _ _).trans (congrArg _ (to_ctx cr 0 _ _ h e (by omega) (by show i.val + 256 = 256 + i.val; omega))))
  ho0 h τ e hτ := ctx_zero cr 0 h τ e hτ
  hγ f := (Finset.sum_range f).symm
  hγ1 j := j.isLt

theorem rowN_ctx (j : ℕ) (h : j < 256) : rowN 1 j = 255 - j := by unfold rowN; rw [if_neg (by decide), if_pos h]
theorem rowN_far (j : ℕ) (h : ¬ j < 256) : rowN 1 j = 4607 - j := by unfold rowN; rw [if_neg (by decide), if_neg h]

include hq hk hv hl ho in
theorem dir1 : Dir (lr 1) (seq qr 1) (seq kr 1) (seq vr 1) (seq (ctx0 cr) 1) (fun j => rowN 1 j.val) (val_main_v128 (F := Ideal) x3) (val_main_v134 (F := Ideal)) (val_main_v132 (F := Ideal) x1) (val_main_v133 (F := Ideal) x2)
    (val_main_v149 (F := Ideal) x0) (val_main_v150 (F := Ideal) x1) (val_main_v151 (F := Ideal) x2) (val_main_v190 (F := Ideal) x4) where
  hL h := (l1 x3 h).trans (hl 1 h)
  hP j := (p1 j).trans (by
    have := j.isLt
    rw [rowN_ctx _ j.isLt, Nat.cast_sub (by omega)]
    congr 1; push_cast; ring)
  hkc j h e := (kc1 x1 j h e).trans ((hk _ _).trans (congrArg _ (to_seq kr 1 _ _ h e (by rw [rowN_ctx _ j.isLt]; omega) (by rw [rowN_ctx _ j.isLt, rowN_ctx _ (by omega)]; show j.val = _; omega))))
  hvc j h e := (vc1 x2 j h e).trans ((hv _ _).trans (congrArg _ (to_seq vr 1 _ _ h e (by rw [rowN_ctx _ j.isLt]; omega) (by rw [rowN_ctx _ j.isLt, rowN_ctx _ (by omega)]; show j.val = _; omega))))
  hq i h e := (q1 x0 i h e).trans ((hq _ _).trans (congrArg _ (to_seq qr 1 _ _ h e (by omega) (by rw [rowN_far _ (by omega)]; show 4351 - i.val = _; omega))))
  hk i h e := (k1 x1 i h e).trans ((hk _ _).trans (congrArg _ (to_seq kr 1 _ _ h e (by omega) (by rw [rowN_far _ (by omega)]; show 4351 - i.val = _; omega))))
  hv i h e := (v1 x2 i h e).trans ((hv _ _).trans (congrArg _ (to_seq vr 1 _ _ h e (by omega) (by rw [rowN_far _ (by omega)]; show 4351 - i.val = _; omega))))
  ho i h e := (o1 x4 i h e).trans ((ho _ _).trans (congrArg _ (to_ctx cr 1 _ _ h e (by omega) (by have := i.isLt; rw [rowN_far _ (by omega)]; show 4095 - i.val + 256 = _; omega))))
  ho0 h τ e hτ := ctx_zero cr 1 h τ e hτ
  hγ f := by
    rw [← Finset.sum_range_reflect, Finset.sum_range]
    refine Finset.sum_congr rfl fun j _ => congrArg f ?_
    show rowN 1 j.val = 256 - 1 - j.val
    rw [rowN_ctx _ j.isLt]
  hγ1 j := by rw [rowN_ctx _ j.isLt]; omega

end

section
variable {x0 x1 x2 : FVec Ideal S4352x512 .f32} {x3 : FVec Ideal S2x4 .f32} {x4 : FVec Ideal S4096x512 .f32}
variable {lr : Fin 2 → Fin 4 → ℝ} {qr kr vr : Fin 4352 → Fin 512 → ℝ} {cr : Fin 4096 → Fin 512 → ℝ}
variable (hq : ∀ r e, (x0 (ix2 r e) : EReal) = ((qr r e : ℝ) : EReal)) (hk : ∀ r e, (x1 (ix2 r e) : EReal) = ((kr r e : ℝ) : EReal)) (hv : ∀ r e, (x2 (ix2 r e) : EReal) = ((vr r e : ℝ) : EReal))
  (hl : ∀ d h, (x3 (ix2 d h) : EReal) = ((lr d h : ℝ) : EReal)) (ho : ∀ r e, (x4 (ix2 r e) : EReal) = ((cr r e : ℝ) : EReal))
include hq hk hv hl ho

theorem r260 : val_main_v260 (F := Ideal) x1 x2 x3 x4 = fun y => ((at_row (DQs lr (seq kr) (seq vr) (seq (ctx0 cr))) 0 (y 0).val (y 1).val : ℝ) : EReal) := by
  have D := dir0 hq hk hv hl ho
  rw [t260]
  exact low_row (DQs lr (seq kr) (seq vr) (seq (ctx0 cr))) 0 _ (fun h τ e hτ => dq_ctx D h _ hτ e) (fun i h e => by rw [t88]; exact gq_at D i h e)

theorem r261 : val_main_v261 (F := Ideal) x0 x2 x3 x4 = fun y => ((at_row (DKs lr (seq qr) (seq vr) (seq (ctx0 cr))) 0 (y 0).val (y 1).val : ℝ) : EReal) := by
  have D := dir0 hq hk hv hl ho
  rw [t261]
  exact both_row (DKs lr (seq qr) (seq vr) (seq (ctx0 cr))) 0 _ _ (fun j h e => by rw [t110]; exact gkc_at D j h e) (fun i h e => by rw [t85]; exact gk_at D i h e)

theorem r262 : val_main_v262 (F := Ideal) x0 x1 x3 x4 = fun y => ((at_row (DVs lr (seq qr) (seq kr) (seq (ctx0 cr))) 0 (y 0).val (y 1).val : ℝ) : EReal) := by
  have D := dir0 hq hk hv hl ho
  rw [t262]
  exact both_row (DVs lr (seq qr) (seq kr) (seq (ctx0 cr))) 0 _ _ (fun j h e => by rw [t103]; exact gvc_at D j h e) (fun i h e => by rw [t81]; exact gv_at D i h e)

theorem r263 : val_main_v263 (F := Ideal) x1 x2 x3 x4 = fun y => ((at_row (DQs lr (seq kr) (seq vr) (seq (ctx0 cr))) 1 (y 0).val (y 1).val : ℝ) : EReal) := by
  have D := dir1 hq hk hv hl ho
  rw [t263]
  exact low_row (DQs lr (seq kr) (seq vr) (seq (ctx0 cr))) 1 _ (fun h τ e hτ => dq_ctx D h _ (by rw [rowN_ctx _ hτ]; omega) e) (fun i h e => by
    refine (rev_at _ i h e).trans ?_
    rw [t218]
    refine (gq_at D _ h e).trans ?_
    rw [rowN_far _ (by omega)]
    show ((DQ (lr 1 h) (seq kr 1 h) (seq vr 1 h) (seq (ctx0 cr) 1 h) (256 + (4095 - i.val)) e : ℝ) : EReal) = _
    rw [show 256 + (4095 - i.val) = 4607 - (256 + i.val) by omega])

theorem r264 : val_main_v264 (F := Ideal) x0 x2 x3 x4 = fun y => ((at_row (DKs lr (seq qr) (seq vr) (seq (ctx0 cr))) 1 (y 0).val (y 1).val : ℝ) : EReal) := by
  have D := dir1 hq hk hv hl ho
  rw [t264]
  exact both_row (DKs lr (seq qr) (seq vr) (seq (ctx0 cr))) 1 _ _ (fun j h e => by rw [t243]; exact gkc_at D j h e) (fun i h e => by
    refine (rev_at _ i h e).trans ?_
    rw [t215]
    refine (gk_at D _ h e).trans ?_
    rw [rowN_far _ (by omega)]
    show ((DK (lr 1 h) (seq qr 1 h) (seq vr 1 h) (seq (ctx0 cr) 1 h) (256 + (4095 - i.val)) e : ℝ) : EReal) = _
    rw [show 256 + (4095 - i.val) = 4607 - (256 + i.val) by omega])

theorem r265 : val_main_v265 (F := Ideal) x0 x1 x3 x4 = fun y => ((at_row (DVs lr (seq qr) (seq kr) (seq (ctx0 cr))) 1 (y 0).val (y 1).val : ℝ) : EReal) := by
  have D := dir1 hq hk hv hl ho
  rw [t265]
  exact both_row (DVs lr (seq qr) (seq kr) (seq (ctx0 cr))) 1 _ _ (fun j h e => by rw [t236]; exact gvc_at D j h e) (fun i h e => by
    refine (rev_at _ i h e).trans ?_
    rw [t211]
    refine (gv_at D _ h e).trans ?_
    rw [rowN_far _ (by omega)]
    show ((DV (lr 1 h) (seq qr 1 h) (seq kr 1 h) (seq (ctx0 cr) 1 h) (256 + (4095 - i.val)) e : ℝ) : EReal) = _
    rw [show 256 + (4095 - i.val) = 4607 - (256 + i.val) by omega])

theorem r268 (d : Fin 2) (h : Fin 4) : (val_main_v268 (F := Ideal) x0 x1 x2 x3 x4 (ix2 d h) : EReal) = ((DL (lr d h) (seq qr d h) (seq kr d h) (seq vr d h) (seq (ctx0 cr) d h) : ℝ) : EReal) := by
  obtain rfl | rfl : d = 0 ∨ d = 1 := by omega
  · rw [t268_0, t119]; exact gl_at (dir0 hq hk hv hl ho) h
  · rw [t268_1, t252]; exact gl_at (dir1 hq hk hv hl ho) h
end

end Cert.Reference2Ideal.Core
-- ==== Proof.RetClaim.lean ====
/-
The retention call's gradients are those of the differentiated reference: both runs end with the same real numbers.
-/
module

public import proofs.«01_k».proof.Defs
public import proofs.«01_k».proof.Proof.RetPre
public import proofs.«01_k».proof.Proof.RetValue
public import proofs.«01_k».proof.Proof.RetRef
public import proofs.«01_k».proof.Proof.Gen.Reference2Ideal.Run

@[expose] public section

set_option maxRecDepth 16384

noncomputable section
namespace Cert.Proof2
open Idealize.ShloMosaic Idealize.ShloMosaic.TcCoe Idealize.SL.Sem
open Cert.Kernel2Ideal.Ret Cert.Ret

abbrev KMem := (ℓ : Loc Cert.Kernel2Ideal.nD Cert.Kernel2Ideal.τ Cert.Kernel2Ideal.sig) → Buf (Elt Ideal) ℓ
abbrev KDev := Dev Cert.Kernel2Ideal.nD

variable (m : KMem) (c : KDev)

/-- The arguments as arrays of extended reals. -/
abbrev a0 : Cert.Kernel2Ideal.S4352x512.Idx → EReal := m ((c.tc : Thread Cert.Kernel2Ideal.nD Cert.Kernel2Ideal.τ).loc Cert.Kernel2Ideal.main_arg0)
abbrev a1 : Cert.Kernel2Ideal.S4352x512.Idx → EReal := m ((c.tc : Thread Cert.Kernel2Ideal.nD Cert.Kernel2Ideal.τ).loc Cert.Kernel2Ideal.main_arg1)
abbrev a2 : Cert.Kernel2Ideal.S4352x512.Idx → EReal := m ((c.tc : Thread Cert.Kernel2Ideal.nD Cert.Kernel2Ideal.τ).loc Cert.Kernel2Ideal.main_arg2)
abbrev a3 : Cert.Kernel2Ideal.S2x4.Idx → EReal := m ((c.tc : Thread Cert.Kernel2Ideal.nD Cert.Kernel2Ideal.τ).loc Cert.Kernel2Ideal.main_arg3)
abbrev a4 : Cert.Kernel2Ideal.S4096x512.Idx → EReal := m ((c.tc : Thread Cert.Kernel2Ideal.nD Cert.Kernel2Ideal.τ).loc Cert.Kernel2Ideal.main_arg4)

/-- Every element of the arguments is a real number. -/
structure Reals : Prop where
  h0 : ∀ r e, a0 m c (ix2 r e) = ((val2 (a0 m c) r e : ℝ) : EReal)
  h1 : ∀ r e, a1 m c (ix2 r e) = ((val2 (a1 m c) r e : ℝ) : EReal)
  h2 : ∀ r e, a2 m c (ix2 r e) = ((val2 (a2 m c) r e : ℝ) : EReal)
  h3 : ∀ r e, a3 m c (ix2 r e) = ((val2 (a3 m c) r e : ℝ) : EReal)
  h4 : ∀ r e, a4 m c (ix2 r e) = ((val2 (a4 m c) r e : ℝ) : EReal)

variable {m c}

theorem reals_of [Cert.Pre_retention_finite.Facts] (h : Cert.Pre_retention_finite.fn (F := Ideal) (a0 m c) (a1 m c) (a2 m c) (a3 m c) (a4 m c) = fun _ => 1#1) : Reals m c := by
  obtain ⟨g0, g1, g2, g3, g4⟩ := Cert.Pre_retention_finite.all_real _ _ _ _ _ h
  exact ⟨fun r e => val2_eq _ g0 r e, fun r e => val2_eq _ g1 r e, fun r e => val2_eq _ g2 r e, fun r e => val2_eq _ g3 r e, fun r e => val2_eq _ g4 r e⟩

/-- The host lines leave the arguments alone. -/
theorem given (R : Reals m c) : Given m c (val2 (a3 m c)) (val2 (a0 m c)) (val2 (a1 m c)) (val2 (a2 m c)) (val2 (a4 m c)) where
  q r e := by rw [← V_kept m c 0 Cert.Kernel2Ideal.main_arg0 (by decide +kernel)]; exact R.h0 r e
  k r e := by rw [← V_kept m c 0 Cert.Kernel2Ideal.main_arg1 (by decide +kernel)]; exact R.h1 r e
  v r e := by rw [← V_kept m c 0 Cert.Kernel2Ideal.main_arg2 (by decide +kernel)]; exact R.h2 r e
  l r e := by rw [← V_kept m c 0 Cert.Kernel2Ideal.main_arg3 (by decide +kernel)]; exact R.h3 r e
  o r e := by rw [← V_kept m c 0 Cert.Kernel2Ideal.main_arg4 (by decide +kernel)]; exact R.h4 r e

variable (m c)

def res0 : Cert.Kernel2Ideal.S4352x512.Idx → EReal := fun y => ((at_row (DQs (val2 (a3 m c)) (seq (val2 (a1 m c))) (seq (val2 (a2 m c))) (seq (ctx0 (val2 (a4 m c))))) 0 (y 0).val (y 1).val : ℝ) : EReal)
def res1 : Cert.Kernel2Ideal.S4352x512.Idx → EReal := fun y => ((at_row (DKs (val2 (a3 m c)) (seq (val2 (a0 m c))) (seq (val2 (a2 m c))) (seq (ctx0 (val2 (a4 m c))))) 0 (y 0).val (y 1).val : ℝ) : EReal)
def res2 : Cert.Kernel2Ideal.S4352x512.Idx → EReal := fun y => ((at_row (DVs (val2 (a3 m c)) (seq (val2 (a0 m c))) (seq (val2 (a1 m c))) (seq (ctx0 (val2 (a4 m c))))) 0 (y 0).val (y 1).val : ℝ) : EReal)
def res3 : Cert.Kernel2Ideal.S4352x512.Idx → EReal := fun y => ((at_row (DQs (val2 (a3 m c)) (seq (val2 (a1 m c))) (seq (val2 (a2 m c))) (seq (ctx0 (val2 (a4 m c))))) 1 (y 0).val (y 1).val : ℝ) : EReal)
def res4 : Cert.Kernel2Ideal.S4352x512.Idx → EReal := fun y => ((at_row (DKs (val2 (a3 m c)) (seq (val2 (a0 m c))) (seq (val2 (a2 m c))) (seq (ctx0 (val2 (a4 m c))))) 1 (y 0).val (y 1).val : ℝ) : EReal)
def res5 : Cert.Kernel2Ideal.S4352x512.Idx → EReal := fun y => ((at_row (DVs (val2 (a3 m c)) (seq (val2 (a0 m c))) (seq (val2 (a1 m c))) (seq (ctx0 (val2 (a4 m c))))) 1 (y 0).val (y 1).val : ℝ) : EReal)
def res6 : Cert.Kernel2Ideal.S2x4.Idx → EReal := fun y => ((DL (val2 (a3 m c) (y 0) (y 1)) (seq (val2 (a0 m c)) (y 0) (y 1)) (seq (val2 (a1 m c)) (y 0) (y 1)) (seq (val2 (a2 m c)) (y 0) (y 1)) (seq (ctx0 (val2 (a4 m c))) (y 0) (y 1)) : ℝ) : EReal)

theorem at_end (r : Ref Cert.Kernel2Ideal.sig .tc) (w : Fin Cert.Kernel2Ideal.cfg0.W) (hw : Pipeline.arrRef (Cert.Kernel2Ideal.cfgs 0).spec w = r)
    (s : KMem) (h : ∀ w, s (((Cert.Kernel2Ideal.cfgs 0).spec w).arr.view.loc (c.tc : Thread Cert.Kernel2Ideal.nD Cert.Kernel2Ideal.τ)) = (dats m 0 c).arrAt w (Cert.Kernel2Ideal.cfgs 0).N) :
    HEq (s ((c.tc : Thread Cert.Kernel2Ideal.nD Cert.Kernel2Ideal.τ).loc r)) ((dats m 0 c).arrAt w (Cert.Kernel2Ideal.cfgs 0).N) := by
  subst hw
  exact heq_of_eq (h w)

theorem end0 (R : Reals m c) (s : KMem) (h : ∀ w, s (((Cert.Kernel2Ideal.cfgs 0).spec w).arr.view.loc (c.tc : Thread Cert.Kernel2Ideal.nD Cert.Kernel2Ideal.τ)) = (dats m 0 c).arrAt w (Cert.Kernel2Ideal.cfgs 0).N) :
    s ((c.tc : Thread Cert.Kernel2Ideal.nD Cert.Kernel2Ideal.τ).loc Cert.Kernel2Ideal.main_v227_0) = res0 m c :=
  (eq_of_heq (at_end m c Cert.Kernel2Ideal.main_v227_0 11 rfl s h)).trans (f11 (arrays (given R)))

theorem end1 (R : Reals m c) (s : KMem) (h : ∀ w, s (((Cert.Kernel2Ideal.cfgs 0).spec w).arr.view.loc (c.tc : Thread Cert.Kernel2Ideal.nD Cert.Kernel2Ideal.τ)) = (dats m 0 c).arrAt w (Cert.Kernel2Ideal.cfgs 0).N) :
    s ((c.tc : Thread Cert.Kernel2Ideal.nD Cert.Kernel2Ideal.τ).loc Cert.Kernel2Ideal.main_v227_1) = res1 m c :=
  (eq_of_heq (at_end m c Cert.Kernel2Ideal.main_v227_1 12 rfl s h)).trans (f12 (arrays (given R)))

theorem end2 (R : Reals m c) (s : KMem) (h : ∀ w, s (((Cert.Kernel2Ideal.cfgs 0).spec w).arr.view.loc (c.tc : Thread Cert.Kernel2Ideal.nD Cert.Kernel2Ideal.τ)) = (dats m 0 c).arrAt w (Cert.Kernel2Ideal.cfgs 0).N) :
    s ((c.tc : Thread Cert.Kernel2Ideal.nD Cert.Kernel2Ideal.τ).loc Cert.Kernel2Ideal.main_v227_2) = res2 m c :=
  (eq_of_heq (at_end m c Cert.Kernel2Ideal.main_v227_2 13 rfl s h)).trans (f13 (arrays (given R)))

theorem end3 (R : Reals m c) (s : KMem) (h : ∀ w, s (((Cert.Kernel2Ideal.cfgs 0).spec w).arr.view.loc (c.tc : Thread Cert.Kernel2Ideal.nD Cert.Kernel2Ideal.τ)) = (dats m 0 c).arrAt w (Cert.Kernel2Ideal.cfgs 0).N) :
    s ((c.tc : Thread Cert.Kernel2Ideal.nD Cert.Kernel2Ideal.τ).loc Cert.Kernel2Ideal.main_v227_3) = res3 m c :=
  (eq_of_heq (at_end m c Cert.Kernel2Ideal.main_v227_3 14 rfl s h)).trans (f14 (arrays (given R)))

theorem end4 (R : Reals m c) (s : KMem) (h : ∀ w, s (((Cert.Kernel2Ideal.cfgs 0).spec w).arr.view.loc (c.tc : Thread Cert.Kernel2Ideal.nD Cert.Kernel2Ideal.τ)) = (dats m 0 c).arrAt w (Cert.Kernel2Ideal.cfgs 0).N) :
    s ((c.tc : Thread Cert.Kernel2Ideal.nD Cert.Kernel2Ideal.τ).loc Cert.Kernel2Ideal.main_v227_4) = res4 m c :=
  (eq_of_heq (at_end m c Cert.Kernel2Ideal.main_v227_4 15 rfl s h)).trans (f15 (arrays (given R)))

theorem end5 (R : Reals m c) (s : KMem) (h : ∀ w, s (((Cert.Kernel2Ideal.cfgs 0).spec w).arr.view.loc (c.tc : Thread Cert.Kernel2Ideal.nD Cert.Kernel2Ideal.τ)) = (dats m 0 c).arrAt w (Cert.Kernel2Ideal.cfgs 0).N) :
    s ((c.tc : Thread Cert.Kernel2Ideal.nD Cert.Kernel2Ideal.τ).loc Cert.Kernel2Ideal.main_v227_5) = res5 m c :=
  (eq_of_heq (at_end m c Cert.Kernel2Ideal.main_v227_5 16 rfl s h)).trans (f16 (arrays (given R)))

theorem kernel_end (ρ : Dev Cert.Kernel2Ideal.nD → PrngReg) (R : ∀ c : KDev, Reals m c) :
    θ_run (Cert.Kernel2Ideal.defs (F := Ideal)) (onTc (τ := Cert.Kernel2Ideal.τ) (Cert.Kernel2Ideal.main (F := Ideal))) ⟨m, fun _ => 0, ρ⟩ (fun r => ∀ c : KDev,
      r.2.mem ((c.tc : Thread Cert.Kernel2Ideal.nD Cert.Kernel2Ideal.τ).loc Cert.Kernel2Ideal.main_v227_0) = res0 m c
      ∧ r.2.mem ((c.tc : Thread Cert.Kernel2Ideal.nD Cert.Kernel2Ideal.τ).loc Cert.Kernel2Ideal.main_v227_1) = res1 m c
      ∧ r.2.mem ((c.tc : Thread Cert.Kernel2Ideal.nD Cert.Kernel2Ideal.τ).loc Cert.Kernel2Ideal.main_v227_2) = res2 m c
      ∧ r.2.mem ((c.tc : Thread Cert.Kernel2Ideal.nD Cert.Kernel2Ideal.τ).loc Cert.Kernel2Ideal.main_v227_3) = res3 m c
      ∧ r.2.mem ((c.tc : Thread Cert.Kernel2Ideal.nD Cert.Kernel2Ideal.τ).loc Cert.Kernel2Ideal.main_v227_4) = res4 m c
      ∧ r.2.mem ((c.tc : Thread Cert.Kernel2Ideal.nD Cert.Kernel2Ideal.τ).loc Cert.Kernel2Ideal.main_v227_5) = res5 m c
      ∧ r.2.mem ((c.tc : Thread Cert.Kernel2Ideal.nD Cert.Kernel2Ideal.τ).loc Cert.Kernel2Ideal.main_v230) = res6 m c
      ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)) :=
  (θ_run Cert.Kernel2Ideal.defs _ _).mono (fun r h c => ⟨end0 m c (R c) r.2.mem (h.1 c).1, end1 m c (R c) r.2.mem (h.1 c).1, end2 m c (R c) r.2.mem (h.1 c).1, end3 m c (R c) r.2.mem (h.1 c).1, end4 m c (R c) r.2.mem (h.1 c).1, end5 m c (R c) r.2.mem (h.1 c).1, (h.1 c).2.trans (decays c (given (R c))), h.2 c⟩) (run_values m ρ)

set_option maxHeartbeats 1600000 in
theorem algebraic [hK : Cert.Kernel2Ideal.Facts] [hR : Cert.Reference2Ideal.Facts] [hP : Cert.Pre_retention_finite.Facts] :
    Cert.algebraic_Kernel2Ideal_Reference2Ideal_pre_retention_finite := by
  intro m ρ m' ρ' hpre hagree
  have R : ∀ c : KDev, Reals m c := fun c => reals_of (hpre c)
  refine ⟨res0 m, res1 m, res2 m, res3 m, res4 m, res5 m, res6 m, kernel_end m ρ R, ?_⟩
  · refine (θ_run Cert.Reference2Ideal.defs _ _).mono (fun _ h c => ?_) (Cert.Reference2Ideal.Value.run (F := Ideal) m' ρ')
    obtain ⟨e0, e1, e2, e3, e4, e5, e6, ea⟩ := h c
    obtain ⟨g0, g1, g2, g3, g4⟩ := hagree c
    have q0 := (R c).h0; have q1 := (R c).h1; have q2 := (R c).h2; have q3 := (R c).h3; have q4 := (R c).h4
    unfold res0 res1 res2 res3 res4 res5 res6
    simp only [a0, a1, a2, a3, a4] at q0 q1 q2 q3 q4 ⊢
    rw [← g0] at q0 ⊢
    rw [← g1] at q1 ⊢
    rw [← g2] at q2 ⊢
    rw [← g3] at q3 ⊢
    rw [← g4] at q4 ⊢
    refine ⟨?_, ?_, ?_, ?_, ?_, ?_, ?_, ea⟩
    · exact e0.trans ((Cert.Reference2Ideal.Read.val_main_v260_eq _).trans (Cert.Reference2Ideal.Core.r260 q0 q1 q2 q3 q4))
    · exact e1.trans ((Cert.Reference2Ideal.Read.val_main_v261_eq _).trans (Cert.Reference2Ideal.Core.r261 q0 q1 q2 q3 q4))
    · exact e2.trans ((Cert.Reference2Ideal.Read.val_main_v262_eq _).trans (Cert.Reference2Ideal.Core.r262 q0 q1 q2 q3 q4))
    · exact e3.trans ((Cert.Reference2Ideal.Read.val_main_v263_eq _).trans (Cert.Reference2Ideal.Core.r263 q0 q1 q2 q3 q4))
    · exact e4.trans ((Cert.Reference2Ideal.Read.val_main_v264_eq _).trans (Cert.Reference2Ideal.Core.r264 q0 q1 q2 q3 q4))
    · exact e5.trans ((Cert.Reference2Ideal.Read.val_main_v265_eq _).trans (Cert.Reference2Ideal.Core.r265 q0 q1 q2 q3 q4))
    · refine e6.trans ((Cert.Reference2Ideal.Read.val_main_v268_eq _).trans (funext fun y => ?_))
      obtain ⟨d, h, rfl⟩ := (⟨y 0, y 1, eq_ix2 y⟩ : ∃ (d : Fin 2) (h : Fin 4), y = ix2 d h)
      exact Cert.Reference2Ideal.Core.r268 q0 q1 q2 q3 q4 d h

end Cert.Proof2
end
-- ==== Proof.Dw2.lean ====
/-
The second weight's gradient of the MLP: the product of the squared positive part with the cotangent, in two halves of every tile.
-/
module

public import proofs.«01_k».proof.Defs
public import proofs.«01_k».proof.Proof.Gen.Kernel3.Frame
public import proofs.«01_k».proof.Proof.Gen.Kernel3Ideal.Value
public import proofs.«01_k».proof.Proof.Gen.Reference3Ideal.Run
public import Idealize.ShloMosaic.Lib.Pipeline.ValueKit
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.Kernel3Ideal.Dw2
open Cert.Kernel3Ideal Cert.Kernel3Ideal.Gen

variable (m : (ℓ : Loc nD τ sig) → Buf (Elt Ideal) ℓ)

/-- A column of the hidden layer: tile `n`, row `r` of the half that begins at `off`. -/
def col (off n r : ℕ) : Fin 4096 := ⟨(n * 512 + off + r) % 4096, Nat.mod_lt _ (by norm_num)⟩

/-- The gradient, one half of every tile. -/
abbrev G (U : FVec Ideal S4096x4096 .f32) (D : FVec Ideal S4096x1024 .f32) (off : ℕ) : FVec Ideal S8x256x1024 .bf16 := fun y =>
  ∑ k : Fin 4096, (show EReal from D (ix2 k (y 2))) * (max (show EReal from U (ix2 k (col off (y 0).val (y 1).val))) 0 * max (show EReal from U (ix2 k (col off (y 0).val (y 1).val))) 0)

theorem idx : ∀ t : Fin cfg0.N, win0_0.index t = ![0, 0] ∧ win0_1.index t = ![0, t.val] ∧ win0_2.index t = ![t.val, 0, 0] ∧ win0_3.index t = ![t.val, 0, 0] :=
  (by decide +kernel : ∀ t : Fin grid0.N, _)

theorem v2 (c : Dev nD) (i : S4096x4096.Idx) : V m c main_v2 i = max (show EReal from m ((c : Thread nD τ).loc main_arg0) i) 0 := by
  entry_read
  pointwise

theorem v4 (c : Dev nD) (i : Fin 1024) (j : Fin 4096) : V m c main_v4 (ix2 i j) = (show EReal from m ((c : Thread nD τ).loc main_arg1) (ix2 j i)) := by
  entry_read
  pointwise

theorem col_of (off n r v : ℕ) (h : v = n * 512 + off + r) (hv : v < 4096) : col off n r = ⟨v, hv⟩ := by
  subst h; exact Fin.ext (Nat.mod_eq_of_lt hv)

theorem dot_eq (a a' b b' : Fin 4096 → EReal) (ha : ∀ x, a x = a' x) (hb : ∀ x, b x = b' x) : ∑ x, a x * (b x * b x) = ∑ x, a' x * (b' x * b' x) :=
  Finset.sum_congr rfl fun x _ => by rw [ha, hb]

/-- A grid point, as a tile. -/
def tile (t : Fin cfg0.N) : Fin 8 := ⟨t.val, lt_of_lt_of_eq t.isLt N_0⟩

theorem emb2 (t : Fin cfg0.N) (z : Fin 1) (i : Fin 256) (j : Fin 1024) : (win0_2.blk t).view.emb (ix3 z i j) = ix3 (tile t) i j := by
  obtain rfl : z = 0 := Subsingleton.elim _ _
  blk_ext [idx t, tile]

theorem emb3 (t : Fin cfg0.N) (z : Fin 1) (i : Fin 256) (j : Fin 1024) : (win0_3.blk t).view.emb (ix3 z i j) = ix3 (tile t) i j := by
  obtain rfl : z = 0 := Subsingleton.elim _ _
  blk_ext [idx t, tile]

theorem b0 (c : Dev nD) (t : Fin cfg0.N) (j : Fin 1024) (x : Fin 4096) : iblk m c 0 t (ix2 j x) = (show EReal from m ((c : Thread nD τ).loc main_arg1) (ix2 x j)) := by
  refine Eq.trans ?_ (v4 m c j x)
  blk_point [iblk, idx t]

theorem b1 (c : Dev nD) (t : Fin cfg0.N) (off : ℕ) (x : Fin 4096) (i : Fin 256) (r : Fin 512) (h : r.val = off + i.val) : iblk m c 1 t (ix2 x r) = max (show EReal from m ((c : Thread nD τ).loc main_arg0) (ix2 x (col off t.val i.val))) 0 := by
  have ht : t.val < 8 := lt_of_lt_of_eq t.isLt N_0
  have hr := r.isLt
  rw [col_of off t.val i.val (t.val * 512 + r.val) (by omega) (by omega), ← v2 m c _]
  blk_point [iblk, idx t]

theorem final2 (c : Dev nD) : (dats m 0 c).arrAt 2 (cfgs 0).N = G (m ((c : Thread nD τ).loc main_arg0)) (m ((c : Thread nD τ).loc main_arg1)) 0 := by
  refine (dats m 0 c).arrAt_eq_of_covers 2 _ (by decide +kernel) fun t _ y => ?_
  blk_simp
  rw [after0_2]
  obtain ⟨z, i, j, rfl⟩ := (⟨y 0, y 1, y 2, eq_ix3 y⟩ : ∃ (z : Fin 1) (i : Fin 256) (j : Fin 1024), y = ix3 z i j)
  unfold out0_2
  rw [Value.canon2_eq]
  erw [emb2]
  pointwise [Value.E2, k0_pay1, G]
  exact dot_eq _ _ _ _ (fun x => b0 m c t j x) (fun x => b1 m c t 0 x i _ (Nat.zero_add _).symm)

theorem final3 (c : Dev nD) : (dats m 0 c).arrAt 3 (cfgs 0).N = G (m ((c : Thread nD τ).loc main_arg0)) (m ((c : Thread nD τ).loc main_arg1)) 256 := by
  refine (dats m 0 c).arrAt_eq_of_covers 3 _ (by decide +kernel) fun t _ y => ?_
  blk_simp
  rw [after0_3]
  obtain ⟨z, i, j, rfl⟩ := (⟨y 0, y 1, y 2, eq_ix3 y⟩ : ∃ (z : Fin 1) (i : Fin 256) (j : Fin 1024), y = ix3 z i j)
  unfold out0_3
  rw [Value.canon3_eq]
  erw [emb3]
  pointwise [Value.E3, k0_pay1, G]
  exact dot_eq _ _ _ _ (fun x => b0 m c t j x) (fun x => b1 m c t 256 x i _ (Nat.add_comm _ _))

/-- The reference's two halves. -/
abbrev REF (U : FVec Ideal S4096x4096 .f32) (D : FVec Ideal S4096x1024 .f32) : FVec Ideal Cert.Reference3Ideal.S8x512x1024 .bf16 :=
  shapeCast Cert.Reference3Ideal.S8x512x1024 (truncf .bf16 (transpose Cert.Reference3Ideal.S4096x1024 [1, 0] (Host.dotGeneral Cert.Reference3Ideal.dot_S4096x1024_S4096x4096_S1024x4096_0_0_1_1_n_n none D (mulf (maximumf U (broadcastInDim S4096x4096 ![] Cert.Reference3Ideal.Gen.bcast_S_S4096x4096 (constant S_ .f32 0x00000000#32))) (maximumf U (broadcastInDim S4096x4096 ![] Cert.Reference3Ideal.Gen.bcast_S_S4096x4096 (constant S_ .f32 0x00000000#32))))) Cert.Reference3Ideal.Gen.transposes_S1024x4096_S4096x1024_1_0) Cert.Reference3Ideal.Gen.bitsLt_bf16_f32) Cert.Reference3Ideal.Gen.shapeCasts_S4096x1024_S8x512x1024

theorem ref2 (U : FVec Ideal S4096x4096 .f32) (D : FVec Ideal S4096x1024 .f32) :
    extractStridedSlice S8x256x1024 ![0, 0, 0] (REF U D) Cert.Reference3Ideal.Gen.slices_S8x512x1024_S8x256x1024_0_0_0 = G U D 0 := by
  funext y
  obtain ⟨z, i, j, rfl⟩ := (⟨y 0, y 1, y 2, eq_ix3 y⟩ : ∃ (z : Fin 8) (i : Fin 256) (j : Fin 1024), y = ix3 z i j)
  have hz := z.isLt; have hi := i.isLt
  pointwise [REF, G]
  exact dot_eq _ _ _ _ (fun x => rfl) (fun x => by rw [col_of 0 z.val i.val (z.val * 512 + i.val) (by omega) (by omega)])

theorem ref3 (U : FVec Ideal S4096x4096 .f32) (D : FVec Ideal S4096x1024 .f32) :
    extractStridedSlice S8x256x1024 ![0, 256, 0] (REF U D) Cert.Reference3Ideal.Gen.slices_S8x512x1024_S8x256x1024_0_256_0 = G U D 256 := by
  funext y
  obtain ⟨z, i, j, rfl⟩ := (⟨y 0, y 1, y 2, eq_ix3 y⟩ : ∃ (z : Fin 8) (i : Fin 256) (j : Fin 1024), y = ix3 z i j)
  have hz := z.isLt; have hi := i.isLt
  pointwise [REF, G]
  exact dot_eq _ _ _ _ (fun x => rfl) (fun x => by rw [col_of 256 z.val i.val (z.val * 512 + (256 + i.val)) (by omega) (by omega)])

end Cert.Kernel3Ideal.Dw2

namespace Cert.Proof3

theorem quiescent_Kernel3 : Cert.quiescent_Kernel3 := fun m ρ _ => Cert.Kernel3.Gen.frame m ρ

theorem quiescent_Kernel3Ideal : Cert.quiescent_Kernel3Ideal := fun m ρ _ => Cert.Kernel3Ideal.Gen.frame m ρ

theorem quiescent_Reference3Ideal : Cert.quiescent_Reference3Ideal := fun m ρ _ =>
  (θ_run Cert.Reference3Ideal.defs _ _).mono (fun r h => ⟨fun c => (h c).2.2, sem_eq_zero_of_no_sems (by decide) r.2⟩)
    (Cert.Reference3Ideal.Value.run (F := Ideal) m ρ)

theorem algebraic : Cert.algebraic_Kernel3Ideal_Reference3Ideal := by
  intro m ρ m' ρ' _ hagree
  refine ⟨_, _, Cert.Kernel3Ideal.Value.run_blocks (F := Ideal) m ρ, ?_⟩
  refine (θ_run Cert.Reference3Ideal.defs _ _).mono (fun _ h c => ⟨?_, ?_, (h c).2.2⟩) (Cert.Reference3Ideal.Value.run (F := Ideal) m' ρ')
  · rw [(h c).1]
    simp only [hagree c]
    exact (Cert.Kernel3Ideal.Dw2.ref2 _ _).trans (Cert.Kernel3Ideal.Dw2.final2 m c).symm
  · rw [(h c).2.1]
    simp only [hagree c]
    exact (Cert.Kernel3Ideal.Dw2.ref3 _ _).trans (Cert.Kernel3Ideal.Dw2.final3 m c).symm

end Cert.Proof3
end
-- ==== Proof.NormMath.lean ====
/-
What the norms' gradients share: the real numbers behind a root-mean-square norm, and reading a result's rows.
-/
module

public import Idealize.ShloMosaic.Lib.Pipeline.ValueKit
public import Idealize.ShloMosaic.Lib.WritesUnit

@[expose] public section

noncomputable section
namespace Cert.Norm
open Idealize.ShloMosaic Idealize.ShloMosaic.TcCoe Idealize.SL.Sem
open Finset

/-- The norm's small constant, as its float word reads. -/
def eps : ℝ := 8796093 / 8796093022208

theorem lit_eps : Ideal.ofBits .f32 0x358637BD#32 = ((eps : ℝ) : EReal) := by
  simp [Ideal.ofBits, Ideal.ieee, eps, -EReal.coe_mul]; norm_num
theorem lit_1024 : Ideal.ofBits .f32 0x44800000#32 = ((1024 : ℝ) : EReal) := by
  simp [Ideal.ofBits, Ideal.ieee, -EReal.coe_mul]; norm_num
theorem lit_one : Ideal.ofBits .f32 0x3F800000#32 = ((1 : ℝ) : EReal) := by
  simp [Ideal.ofBits, Ideal.ieee, -EReal.coe_mul]; norm_num
theorem lit_neg_half : Ideal.ofBits .f32 0xBF000000#32 = ((-(1/2) : ℝ) : EReal) := by
  simp [Ideal.ofBits, Ideal.ieee, -EReal.coe_mul, -EReal.coe_neg]; norm_num

theorem div_1024 (x : ℝ) : Ideal.div ((x : ℝ) : EReal) ((1024 : ℝ) : EReal) = ((x / 1024 : ℝ) : EReal) := by
  rw [Ideal.div_coe (by norm_num), ← EReal.coe_mul]; congr 1; ring

theorem coe_sum {ι : Type} (s : Finset ι) (f : ι → ℝ) : ((∑ i ∈ s, f i : ℝ) : EReal) = ∑ i ∈ s, ((f i : ℝ) : EReal) := by
  classical
  induction s using Finset.induction_on with
  | empty => simp
  | insert a s ha ih => rw [sum_insert ha, sum_insert ha, EReal.coe_add, ih]

/-- A row's mean square, and what it is divided by. -/
def ms (x : Fin 1024 → ℝ) : ℝ := (∑ e, x e * x e) / 1024 + eps
def rs (x : Fin 1024 → ℝ) : ℝ := (Real.sqrt (ms x))⁻¹

theorem ms_pos (x : Fin 1024 → ℝ) : 0 < ms x :=
  add_pos_of_nonneg_of_pos (div_nonneg (sum_nonneg fun e _ => mul_self_nonneg _) (by norm_num)) (by unfold eps; norm_num)

theorem rs_sq (x : Fin 1024 → ℝ) : rs x * rs x * ms x = 1 := by
  unfold rs
  rw [← mul_inv, Real.mul_self_sqrt (ms_pos x).le]
  exact inv_mul_cancel₀ (ms_pos x).ne'

theorem rsqrt_ms (x : Fin 1024 → ℝ) : Ideal.rsqrt ((ms x : ℝ) : EReal) = ((rs x : ℝ) : EReal) := by
  have h := ms_pos x
  rw [Ideal.rsqrt_coe, if_neg (not_lt.mpr h.le), if_neg h.ne']; rfl

theorem div_ms (a : ℝ) (x : Fin 1024 → ℝ) : Ideal.div ((a : ℝ) : EReal) ((ms x : ℝ) : EReal) = ((a / ms x : ℝ) : EReal) := by
  rw [Ideal.div_coe (ms_pos x).ne', ← EReal.coe_mul]; congr 1; ring

/-- The gradient of a row through its norm, as the kernels write it. -/
def grad (x d : Fin 1024 → ℝ) (j : Fin 1024) : ℝ :=
  rs x * (d j - x j * rs x * ((∑ e, d e * (x e * rs x)) / 1024))

/-- The same by the chain rule. -/
theorem grad_eq (x d : Fin 1024 → ℝ) (j : Fin 1024) : d j * rs x
    + x j * (((∑ e, x e * d e) * (-(1/2) * (rs x / ms x))) / 1024) + ((∑ e, x e * d e) * (-(1/2) * (rs x / ms x))) / 1024 * x j = grad x d j := by
  have h := rs_sq x
  have hm := (ms_pos x).ne'
  have e1 : (∑ e, d e * (x e * rs x)) = (∑ e, x e * d e) * rs x := by
    rw [sum_mul]; exact sum_congr rfl fun e _ => by ring
  have e2 : rs x / ms x = rs x * rs x * rs x := by
    rw [div_eq_iff hm]; calc rs x = rs x * (rs x * rs x * ms x) := by rw [h, mul_one]
      _ = _ := by ring
  unfold grad
  rw [e1, e2]; ring

section Rows
variable {Val : EltTy → Type} [∀ e, Nonempty (Val e)] {e : EltTy} {R n : ℕ}

theorem emb_eq {h o : ℕ} (inb : ∀ a, (![o, 0] : Fin 2 → ℕ) a + (![h, n] : Fin 2 → ℕ) a ≤ (⟨2, ![R, n]⟩ : Shape).size a)
    (r : Fin R) (i : Fin h) (j : Fin n) (hr : r.val = o + i.val) :
    (ix2 r j : (⟨2, ![R, n]⟩ : Shape).Idx) = (Rect.unit (s := ⟨2, ![R, n]⟩) ![o, 0] ![h, n] inb).emb (ix2 i j : (⟨2, ![h, n]⟩ : Shape).Idx) := by
  funext a; apply Fin.ext
  match a with
  | ⟨0, _⟩ => show r.val = o + 1 * i.val; omega
  | ⟨1, _⟩ => show j.val = 0 + 1 * j.val; omega

/-- Whole rows stored last are read back, and other rows hold what was there before. -/
theorem band {h o : ℕ} (inb : ∀ a, (![o, 0] : Fin 2 → ℕ) a + (![h, n] : Fin 2 → ℕ) a ≤ (⟨2, ![R, n]⟩ : Shape).size a)
    (w : (Rect.unit (s := ⟨2, ![R, n]⟩) ![o, 0] ![h, n] inb).shape.Idx → Val e) (L : List (View.Piece Val (⟨2, ![R, n]⟩ : Shape) e))
    (r : Fin R) (j : Fin n) (g : Val e) (h1 : ∀ i : Fin h, r.val = o + i.val → w (ix2 i j : (⟨2, ![h, n]⟩ : Shape).Idx) = g)
    (h2 : r.val < o ∨ o + h ≤ r.val → View.canon L (ix2 r j : (⟨2, ![R, n]⟩ : Shape).Idx) = g) :
    View.canon ((⟨Rect.unit (s := ⟨2, ![R, n]⟩) ![o, 0] ![h, n] inb, w⟩ : View.Piece Val (⟨2, ![R, n]⟩ : Shape) e) :: L) (ix2 r j : (⟨2, ![R, n]⟩ : Shape).Idx) = g := by
  by_cases hr : o ≤ r.val ∧ r.val < o + h
  · have hi : r.val - o < h := by omega
    rw [emb_eq inb r ⟨r.val - o, hi⟩ j (by simp only; omega), View.canon_cons_emb]
    exact h1 ⟨r.val - o, hi⟩ (by simp only; omega)
  · rw [View.canon_cons_of_not_mem]
    · exact h2 (by omega)
    · rw [Rect.mem_set_unit]; intro hall
      have h0 := hall (0 : Fin 2)
      exact hr h0

theorem band_skip {h o : ℕ} (inb : ∀ a, (![o, 0] : Fin 2 → ℕ) a + (![h, n] : Fin 2 → ℕ) a ≤ (⟨2, ![R, n]⟩ : Shape).size a)
    (w : (Rect.unit (s := ⟨2, ![R, n]⟩) ![o, 0] ![h, n] inb).shape.Idx → Val e) (L : List (View.Piece Val (⟨2, ![R, n]⟩ : Shape) e))
    (r : Fin R) (j : Fin n) (hr : r.val < o ∨ o + h ≤ r.val) :
    View.canon ((⟨Rect.unit (s := ⟨2, ![R, n]⟩) ![o, 0] ![h, n] inb, w⟩ : View.Piece Val (⟨2, ![R, n]⟩ : Shape) e) :: L) (ix2 r j : (⟨2, ![R, n]⟩ : Shape).Idx)
      = View.canon L (ix2 r j : (⟨2, ![R, n]⟩ : Shape).Idx) :=
  band inb w L r j _ (fun i hi => by have := i.isLt; omega) fun _ => rfl

/-- The same of a view that held something before. -/
theorem band_read {sig : RefSig} {κ : Kind} {sp : Space} (v : View sig κ sp (⟨2, ![R, n]⟩ : Shape) e) (f : v.ty.Contents Val)
    {h o : ℕ} (inb : ∀ a, (![o, 0] : Fin 2 → ℕ) a + (![h, n] : Fin 2 → ℕ) a ≤ (⟨2, ![R, n]⟩ : Shape).size a)
    (w : (Rect.unit (s := ⟨2, ![R, n]⟩) ![o, 0] ![h, n] inb).shape.Idx → Val e) (L : List (View.Piece Val (⟨2, ![R, n]⟩ : Shape) e))
    (r : Fin R) (j : Fin n) (g : Val e) (h1 : ∀ i : Fin h, r.val = o + i.val → w (ix2 i j : (⟨2, ![h, n]⟩ : Shape).Idx) = g)
    (h2 : r.val < o ∨ o + h ≤ r.val → v.read Val (v.writes Val f L) (ix2 r j : (⟨2, ![R, n]⟩ : Shape).Idx) = g) :
    v.read Val (v.writes Val f ((⟨Rect.unit (s := ⟨2, ![R, n]⟩) ![o, 0] ![h, n] inb, w⟩ : View.Piece Val (⟨2, ![R, n]⟩ : Shape) e) :: L)) (ix2 r j : (⟨2, ![R, n]⟩ : Shape).Idx) = g := by
  by_cases hr : o ≤ r.val ∧ r.val < o + h
  · have hi : r.val - o < h := by omega
    rw [emb_eq inb r ⟨r.val - o, hi⟩ j (by simp only; omega), View.read_writes_cons_emb]
    exact h1 ⟨r.val - o, hi⟩ (by simp only; omega)
  · rw [View.read_writes_cons_unit_of_not_mem v f inb w L _ rfl (0 : Fin 2) (by
      show r.val < o ∨ o + h ≤ r.val; omega)]
    exact h2 (by omega)

/-- One row of a view that was written over nothing, as the canon reads. -/
theorem row_cov {sig : RefSig} {κ : Kind} {sp : Space} (v : View sig κ sp (⟨2, ![R, n]⟩ : Shape) e) {o : ℕ}
    (inb : ∀ a, (![o, 0] : Fin 2 → ℕ) a + (![1, n] : Fin 2 → ℕ) a ≤ (⟨2, ![R, n]⟩ : Shape).size a)
    (L : List (View.Piece Val (⟨2, ![R, n]⟩ : Shape) e)) (r : Fin R) (j : Fin n) (hr : r.val = o) :
    v.readCov L (Rect.unit (s := ⟨2, ![R, n]⟩) ![o, 0] ![1, n] inb).toLoadRect (ix2 0 j : (⟨2, ![1, n]⟩ : Shape).Idx)
      = View.canon L (ix2 r j : (⟨2, ![R, n]⟩ : Shape).Idx) := by
  rw [View.readCov_eq_canon']
  exact congrArg (View.canon L) (emb_eq inb r (0 : Fin 1) j (by simpa using hr)).symm

theorem full_cov {sig : RefSig} {κ : Kind} {sp : Space} (v : View sig κ sp (⟨2, ![R, n]⟩ : Shape) e)
    (inb : ∀ a, (![0, 0] : Fin 2 → ℕ) a + (![R, n] : Fin 2 → ℕ) a ≤ (⟨2, ![R, n]⟩ : Shape).size a)
    (L : List (View.Piece Val (⟨2, ![R, n]⟩ : Shape) e)) :
    v.readCov L (Rect.unit (s := ⟨2, ![R, n]⟩) ![0, 0] ![R, n] inb).toLoadRect = View.canon L := by
  rw [View.readCov_eq_canon']
  funext y
  exact congrArg (View.canon L) (funext fun a => Fin.ext (by
    show (![0, 0] : Fin 2 → ℕ) a + 1 * (y a).val = (y a).val
    match a with
    | ⟨0, _⟩ => show 0 + 1 * (y 0).val = (y 0).val; omega
    | ⟨1, _⟩ => show 0 + 1 * (y 1).val = (y 1).val; omega))

end Rows

/-- A row of the step's 4096, by its number. -/
def row (r : ℕ) : Fin 4096 := ⟨r % 4096, Nat.mod_lt _ (by norm_num)⟩
theorem row_of (r : ℕ) (h : r < 4096) : row r = ⟨r, h⟩ := Fin.ext (Nat.mod_eq_of_lt h)

/-- A sum over the rows, tile by tile. -/
theorem sum_step (f : Fin 4096 → EReal) (n : ℕ) : ∑ r ∈ range ((n + 1) * 512), f (row r)
    = ∑ r ∈ range (n * 512), f (row r) + ∑ i : Fin 512, f (row (n * 512 + i.val)) := by
  rw [show (n + 1) * 512 = n * 512 + 512 by ring, sum_range_add, sum_range (fun x => f (row (n * 512 + x)))]
theorem sum_all (f : Fin 4096 → EReal) : ∑ r ∈ range (8 * 512), f (row r) = ∑ r : Fin 4096, f r := by
  rw [show 8 * 512 = 4096 by norm_num, sum_range]
  exact sum_congr rfl fun r _ => by rw [row_of r.val r.isLt]

end Cert.Norm
end
-- ==== Proof.Norm2.lean ====
/-
The call of the second norm's gradient: what its kernel leaves in each of its results.
-/
module

public import proofs.«01_k».proof.Proof.Gen.Kernel4Ideal.Value
public import Idealize.ShloMosaic.Lib.Pipeline.ValueKit
public import proofs.«01_k».proof.Proof.NormMath

@[expose] public section

set_option maxRecDepth 16384

noncomputable section

open Idealize.ShloMosaic Idealize.ShloMosaic.TcCoe Idealize.SL.Sem
open Idealize.ShloMosaic.Pipeline (Dat)

namespace Cert.Kernel4Ideal.Norm2
open Cert.Kernel4Ideal Cert.Kernel4Ideal.Gen Cert.Norm Finset

/-- The call's arguments as real numbers; the cotangent that is only added is any number. -/
structure In where
  x : Fin 4096 → Fin 1024 → ℝ
  y : Fin 4096 → Fin 1024 → ℝ
  md : Fin 6144 → ℝ
  g : Fin 1024 → ℝ
  w : Fin 1024 → Fin 4096 → ℝ
  u : Fin 4096 → Fin 4096 → ℝ
  d : Fin 4096 → Fin 1024 → EReal

namespace In
variable (I : In)
def g1 (e : Fin 1024) : ℝ := I.md ⟨2048 + e.val, by have := e.isLt; omega⟩
def sc (e : Fin 1024) : ℝ := I.md ⟨4096 + e.val, by have := e.isLt; omega⟩
/-- The residual stream, the product's gradient, the norm's and its input's. -/
def X (r : Fin 4096) (e : Fin 1024) : ℝ := I.x r e + I.g1 e * I.y r e
def A (r : Fin 4096) (e : Fin 1024) : ℝ := ∑ k, I.u r k * I.w e k
def N (r : Fin 4096) (e : Fin 1024) : ℝ := I.A r e * (1 + I.sc e)
def H (r : Fin 4096) (e : Fin 1024) : ℝ := I.N r e * I.g e
def D (r : Fin 4096) (e : Fin 1024) : EReal := I.d r e + ((grad (I.X r) (I.H r) e : ℝ) : EReal)
def dy (r : Fin 4096) (e : Fin 1024) : EReal := (I.g1 e : EReal) * I.D r e
/-- What each row adds to the four sums. -/
def acc (k : Fin 8) (e : Fin 1024) (r : Fin 4096) : EReal :=
  if k.val = 0 then (I.A r e : EReal)
  else if k.val = 1 then ((I.A r e * (I.X r e * rs (I.X r)) * I.g e : ℝ) : EReal)
  else if k.val = 2 then ((I.N r e * (I.X r e * rs (I.X r)) : ℝ) : EReal)
  else if k.val = 3 then I.D r e * (I.y r e : EReal) else 0
end In

variable (m : (ℓ : Loc nD τ sig) → Buf (Elt Ideal) ℓ)

/-- The launched arrays hold these numbers. -/
structure Holds (I : In) (c : Dev nD) : Prop where
  x : ∀ r e, (show EReal from m ((c : Thread nD τ).loc main_arg0) (ix2 r e)) = (I.x r e : EReal)
  y : ∀ r e, (show EReal from m ((c : Thread nD τ).loc main_arg1) (ix2 r e)) = (I.y r e : EReal)
  md : ∀ e, (show EReal from m ((c : Thread nD τ).loc main_arg2) (ix1 e)) = (I.md e : EReal)
  g : ∀ e, (show EReal from m ((c : Thread nD τ).loc main_arg4) (ix1 e)) = (I.g e : EReal)
  w : ∀ e k, (show EReal from m ((c : Thread nD τ).loc main_arg5) (ix2 e k)) = (I.w e k : EReal)
  d : ∀ r e, (show EReal from m ((c : Thread nD τ).loc main_arg6) (ix2 r e)) = I.d r e
  u : ∀ r k, (show EReal from m ((c : Thread nD τ).loc main_arg7) (ix2 r k)) = (I.u r k : EReal)

/-- Every window's block index at a grid point. -/
theorem idx : ∀ t : Fin cfg0.N, win0_0.index t = ![t.val, 0] ∧ win0_1.index t = ![0, 0, 0]
    ∧ win0_2.index t = ![t.val, 0] ∧ win0_3.index t = ![t.val, 0] ∧ win0_4.index t = ![t.val, 0] ∧ win0_5.index t = ![0, 0]
    ∧ win0_6.index t = ![0, 0] ∧ win0_7.index t = ![t.val, 0] ∧ win0_8.index t = ![t.val, 0] ∧ win0_9.index t = ![0, 0] :=
  (by decide +kernel : ∀ t : Fin grid0.N, _)

variable {m} {I : In} {c : Dev nD}

/-! ## The arrays that the host prepares -/

theorem v2_at (H : Holds m I c) (b : Fin 8) (e : Fin 1024) (i : Fin 512) :
    (show EReal from V m c main_v2 (ix3 b e i)) = (I.w e (row (b.val * 512 + i.val)) : EReal) := by
  rw [row_of _ (by have := b.isLt; have := i.isLt; omega), ← H.w]
  entry_read; pointwise
theorem v9_at (H : Holds m I c) (r : Fin 4096) (e : Fin 1024) :
    (show EReal from V m c main_v9 (ix2 r e)) = (I.X r e : EReal) := by
  have h1 := H.x r e; have h2 := H.y r e; have h3 := H.md ⟨2048 + e.val, by have := e.isLt; omega⟩
  unfold In.X In.g1
  rw [EReal.coe_add, EReal.coe_mul, ← h1, ← h2, ← h3]
  entry_read; pointwise
theorem v10_at (H : Holds m I c) (r : Fin 4096) (k : Fin 4096) :
    (show EReal from V m c main_v10 (ix2 r k)) = (I.u r k : EReal) := by
  rw [← H.u]; entry_read; pointwise
theorem v11_at (H : Holds m I c) (e : Fin 1024) :
    (show EReal from V m c main_v11 (ix2 0 e)) = (I.g e : EReal) := by
  rw [← H.g]; entry_read; pointwise
theorem v15_at4 (H : Holds m I c) (e : Fin 1024) :
    (show EReal from V m c main_v15 (ix2 4 e)) = (I.g1 e : EReal) := by
  unfold In.g1; rw [← H.md]; entry_read; pointwise
theorem v15_at6 (H : Holds m I c) (e : Fin 1024) :
    (show EReal from V m c main_v15 (ix2 6 e)) = (I.sc e : EReal) := by
  unfold In.sc; rw [← H.md]; entry_read; pointwise

/-! ## The blocks at a grid point -/

theorem lt8 (t : Fin cfg0.N) : t.val < 8 := lt_of_lt_of_eq t.isLt N_0

theorem b0_at (H : Holds m I c) (t : Fin cfg0.N) (i : Fin 512) (k : Fin 4096) :
    (show EReal from iblk m c 0 t (ix2 i k)) = (I.u (row (t.val * 512 + i.val)) k : EReal) := by
  have := lt8 t; have := i.isLt
  rw [row_of _ (by omega)]
  exact (congrArg (V m c main_v10) (by blk_ext [idx t])).trans (v10_at H _ k)
theorem iblk1 (c : Dev nD) (t : Fin cfg0.N) : iblk m c 1 t = V m c main_v2 := by blk_ext! [iblk, idx t]
theorem b2_at (H : Holds m I c) (t : Fin cfg0.N) (i : Fin 512) (e : Fin 1024) :
    (show EReal from iblk m c 2 t (ix2 i e)) = (I.X (row (t.val * 512 + i.val)) e : EReal) := by
  have := lt8 t; have := i.isLt
  rw [row_of _ (by omega)]
  exact (congrArg (V m c main_v9) (by blk_ext [idx t])).trans (v9_at H _ e)
theorem b3_at (H : Holds m I c) (t : Fin cfg0.N) (i : Fin 512) (e : Fin 1024) :
    (show EReal from iblk m c 3 t (ix2 i e)) = I.d (row (t.val * 512 + i.val)) e := by
  have := lt8 t; have := i.isLt
  rw [row_of _ (by omega)]
  exact (congrArg (V m c main_arg6) (by blk_ext [idx t])).trans ((congrFun (V_main_arg6 m c) _).trans (H.d _ e))
theorem b4_at (H : Holds m I c) (t : Fin cfg0.N) (i : Fin 512) (e : Fin 1024) :
    (show EReal from iblk m c 4 t (ix2 i e)) = (I.y (row (t.val * 512 + i.val)) e : EReal) := by
  have := lt8 t; have := i.isLt
  rw [row_of _ (by omega)]
  exact (congrArg (V m c main_arg1) (by blk_ext [idx t])).trans ((congrFun (V_main_arg1 m c) _).trans (H.y _ e))
theorem b5_at (H : Holds m I c) (t : Fin cfg0.N) (e : Fin 1024) :
    (show EReal from iblk m c 5 t (ix2 0 e)) = (I.g e : EReal) :=
  (congrArg (V m c main_v11) (by blk_ext [idx t])).trans (v11_at H e)
theorem b6_at (t : Fin cfg0.N) (k : Fin 8) (e : Fin 1024) :
    iblk m c 6 t (ix2 k e) = V m c main_v15 (ix2 k e) :=
  congrArg (V m c main_v15) (by blk_ext [idx t])

end Cert.Kernel4Ideal.Norm2
end
-- ==== Proof.Norm2Tile.lean ====
/-
The call of the second norm's gradient: one grid point's arithmetic as real numbers.
-/
module

public import proofs.«01_k».proof.Proof.Norm2

@[expose] public section

set_option maxRecDepth 16384

noncomputable section

open Idealize.ShloMosaic Idealize.ShloMosaic.TcCoe Idealize.SL.Sem
open Idealize.ShloMosaic.Pipeline (Dat)

namespace Cert.Kernel4Ideal.Norm2
open Cert.Kernel4Ideal Cert.Kernel4Ideal.Gen Cert.Norm Finset

/-- What a point reads, row `ρ i` of the arrays in its row `i`. -/
structure Reads (I : In) (ρ : Fin 512 → Fin 4096) (v3 : Vec Ideal S512x4096 .bf16) (v5 : Vec Ideal S4096x1024 .bf16) (v10 v32 v75 : Vec Ideal S512x1024 .f32)
    (v22 v24 v45 : Vec Ideal S1x1024 .f32) : Prop where
  h3 : ∀ i k, (v3 (ix2 i k) : EReal) = (I.u (ρ i) k : EReal)
  h5 : ∀ k e, (v5 (ix2 k e) : EReal) = (I.w e k : EReal)
  h10 : ∀ i e, (v10 (ix2 i e) : EReal) = (I.X (ρ i) e : EReal)
  h32 : ∀ i e, (v32 (ix2 i e) : EReal) = I.d (ρ i) e
  h75 : ∀ i e, (v75 (ix2 i e) : EReal) = (I.y (ρ i) e : EReal)
  h22 : ∀ e, (v22 (ix2 0 e) : EReal) = (I.g e : EReal)
  h24 : ∀ e, (v24 (ix2 0 e) : EReal) = (I.sc e : EReal)
  h45 : ∀ e, (v45 (ix2 0 e) : EReal) = (I.g1 e : EReal)

variable {I : In} {ρ : Fin 512 → Fin 4096} {v3 : Vec Ideal S512x4096 .bf16} {v5 : Vec Ideal S4096x1024 .bf16} {v10 v32 v75 : Vec Ideal S512x1024 .f32}
    {v22 v24 v45 : Vec Ideal S1x1024 .f32} (R : Reads I ρ v3 v5 v10 v32 v75 v22 v24 v45)
include R

theorem p11 (i : Fin 512) (e : Fin 1024) : (k0_pay11 (F := Ideal) v3 v5 (ix2 i e) : EReal) = (I.A (ρ i) e : EReal) := by
  unfold In.A
  pointwise [k0_pay11, R.h3, R.h5]
  simp only [← EReal.coe_mul, ← coe_sum]

theorem p14 (i : Fin 512) : (k0_pay14 (F := Ideal) v10 (ix2 i 0) : EReal) = (rs (I.X (ρ i)) : EReal) := by
  rw [← rsqrt_ms]
  unfold ms
  pointwise [k0_pay14, k0_pay13, R.h10]
  simp only [lit_1024, lit_eps, ← EReal.coe_mul, ← coe_sum, div_1024, ← EReal.coe_add]
theorem p15 (i : Fin 512) (e : Fin 1024) : (k0_pay15 (F := Ideal) v10 (ix2 i e) : EReal) = ((I.X (ρ i) e * rs (I.X (ρ i)) : ℝ) : EReal) := by
  pointwise [k0_pay15, k0_pay13, R.h10, p14 R]
  exact (EReal.coe_mul _ _).symm
theorem p17 (i : Fin 512) (e : Fin 1024) : (k0_pay17 (F := Ideal) v3 v5 v24 (ix2 i e) : EReal) = (I.N (ρ i) e : EReal) := by
  unfold In.N
  rw [EReal.coe_mul, EReal.coe_add, EReal.coe_one]
  pointwise [k0_pay17, p11 R, R.h24]
theorem p18 (i : Fin 512) (e : Fin 1024) : (k0_pay18 (F := Ideal) v3 v5 v22 v24 (ix2 i e) : EReal) = (I.H (ρ i) e : EReal) := by
  unfold In.H
  pointwise [k0_pay18, k0_pay16, p17 R, R.h22]
  simp only [← EReal.coe_mul]
theorem p19 (i : Fin 512) : (k0_pay19 (F := Ideal) v3 v5 v10 v22 v24 (ix1 i) : EReal) = ((∑ e, I.H (ρ i) e * (I.X (ρ i) e * rs (I.X (ρ i))) : ℝ) : EReal) := by
  pointwise [k0_pay19, p18 R, p15 R]
  simp only [← EReal.coe_mul, ← coe_sum]
theorem p20 (i : Fin 512) (e : Fin 1024) : (k0_pay20 (F := Ideal) (k0_pay14 v10) (k0_pay15 v10) (k0_pay18 v3 v5 v22 v24) v32 (k0_pay19 v3 v5 v10 v22 v24) (ix2 i e) : EReal) = I.D (ρ i) e := by
  unfold In.D grad
  pointwise [k0_pay20, p14 R, p15 R, p18 R, p19 R, R.h32]
  simp only [lit_1024, ← EReal.coe_mul, div_1024, ← EReal.coe_sub]
theorem p21 (i : Fin 512) (e : Fin 1024) : (k0_pay21 (F := Ideal) (k0_pay14 v10) (k0_pay15 v10) (k0_pay18 v3 v5 v22 v24) v32 (k0_pay19 v3 v5 v10 v22 v24) v45 (ix2 i e) : EReal) = I.dy (ρ i) e := by
  unfold In.dy
  pointwise [k0_pay21, p20 R, R.h45]

/-- The four rows that the point adds to. -/
theorem p22 (z : Vec Ideal S1x1024 .f32) (e : Fin 1024) : (k0_pay22 (F := Ideal) (k0_pay11 v3 v5) z (ix2 0 e) : EReal) = z (ix2 0 e) + ∑ i, I.acc 0 e (ρ i) := by
  pointwise [k0_pay22, p11 R, In.acc]
theorem p23 (z : Vec Ideal S1x1024 .f32) (e : Fin 1024) : (k0_pay23 (F := Ideal) (k0_pay11 v3 v5) (k0_pay15 v10) (k0_pay16 v22) z (ix2 0 e) : EReal) = z (ix2 0 e) + ∑ i, I.acc 1 e (ρ i) := by
  pointwise [k0_pay23, k0_pay16, p11 R, p15 R, R.h22, In.acc]
  simp only [← EReal.coe_mul]
theorem p1 (z : Vec Ideal S1x1024 .f32) (e : Fin 1024) : (k0_pay1 (F := Ideal) (k0_pay24 z) (k0_pay25 (k0_pay15 v10) (k0_pay17 v3 v5 v24)) (ix2 0 e) : EReal) = z (ix2 0 e) + ∑ i, I.acc 2 e (ρ i) := by
  pointwise [k0_pay1, k0_pay24, k0_pay25, p17 R, p15 R, In.acc]
  simp only [← EReal.coe_mul]
theorem p2 (z : Vec Ideal S1x1024 .f32) (e : Fin 1024) : (k0_pay2 (F := Ideal) (k0_pay20 (k0_pay14 v10) (k0_pay15 v10) (k0_pay18 v3 v5 v22 v24) v32 (k0_pay19 v3 v5 v10 v22 v24)) z v75 (ix2 0 e) : EReal) = z (ix2 0 e) + ∑ i, I.acc 3 e (ρ i) := by
  pointwise [k0_pay2, p20 R, R.h75, In.acc]

end Cert.Kernel4Ideal.Norm2
end
-- ==== Proof.Norm2Point.lean ====
/-
The call of the second norm's gradient: what each grid point leaves, and the sums over the points.
-/
module

public import proofs.«01_k».proof.Proof.Norm2Tile

@[expose] public section

set_option maxRecDepth 16384

noncomputable section

open Idealize.ShloMosaic Idealize.ShloMosaic.TcCoe Idealize.SL.Sem
open Idealize.ShloMosaic.Pipeline (Dat)

namespace Cert.Kernel4Ideal.Norm2
open Cert.Kernel4Ideal Cert.Kernel4Ideal.Gen Cert.Norm Finset

variable {m : (ℓ : Loc nD τ sig) → Buf (Elt Ideal) ℓ} {I : In} {c : Dev nD}

/-- A row of the weights' transpose, from the group that holds it. -/
theorem w_at (H : Holds m I c) (b : Fin 8) (e : Fin 1024) (i : Fin 512) (k : Fin 4096) (hk : k.val = b.val * 512 + i.val) :
    (show EReal from V m c main_v2 (ix3 b e i)) = (I.w e k : EReal) := by
  rw [v2_at H]
  exact congrArg (fun k => (I.w e k : EReal)) (Fin.ext (by
    show (b.val * 512 + i.val) % 4096 = k.val
    rw [← hk]; exact Nat.mod_eq_of_lt k.isLt))

/-- The scratch holds the transposed weights after every point. -/
theorem sc_at (H : Holds m I c) (k : Fin 4096) (e : Fin 1024) : ∀ (n : ℕ) (hn : n < cfg0.N),
    ((outsAt0 m c n hn).2.2.2 (ix2 k e) : EReal) = (I.w e k : EReal)
  | 0, hn => by
    rw [outsAt0_A m c ⟨0, hn⟩ rfl rfl]; frame_out; rw [iblk1]
    refine band _ _ _ k e _ (fun i hi => ?_) fun h7 => ?_
    · pointwise [k0_pay10]; exact w_at H 7 e i k hi
    refine band _ _ _ k e _ (fun i hi => ?_) fun h6 => ?_
    · pointwise [k0_pay9]; exact w_at H 6 e i k hi
    refine band _ _ _ k e _ (fun i hi => ?_) fun h5 => ?_
    · pointwise [k0_pay8]; exact w_at H 5 e i k hi
    refine band _ _ _ k e _ (fun i hi => ?_) fun h4 => ?_
    · pointwise [k0_pay7]; exact w_at H 4 e i k hi
    refine band _ _ _ k e _ (fun i hi => ?_) fun h3 => ?_
    · pointwise [k0_pay6]; exact w_at H 3 e i k hi
    refine band _ _ _ k e _ (fun i hi => ?_) fun h2 => ?_
    · pointwise [k0_pay5]; exact w_at H 2 e i k hi
    refine band _ _ _ k e _ (fun i hi => ?_) fun h1 => ?_
    · pointwise [k0_pay4]; exact w_at H 1 e i k hi
    refine band _ _ _ k e _ (fun i hi => ?_) fun h0 => ?_
    · pointwise [k0_pay3]; exact w_at H 0 e i k (by simpa using hi)
    have := k.isLt
    omega
  | n + 1, hn => by
    have hN : n + 1 < 8 := lt_of_lt_of_eq hn N_0
    rw [outsAt0_B m c ⟨n + 1, hn⟩ (by simp only; omega) (by simp only; omega)]
    exact sc_at H k e n (Nat.lt_of_succ_lt hn)

/-- The point's rows of the arrays. -/
abbrev rows (t : Fin cfg0.N) (i : Fin 512) : Fin 4096 := row (t.val * 512 + i.val)

abbrev SC (m : (ℓ : Loc nD τ sig) → Buf (Elt Ideal) ℓ) (c : Dev nD) (t : Fin cfg0.N) : Vec Ideal S4096x1024 .bf16 := (outsAt0 m c t.val t.isLt).2.2.2
abbrev m6 (m : (ℓ : Loc nD τ sig) → Buf (Elt Ideal) ℓ) (c : Dev nD) (t : Fin cfg0.N) : Vec Ideal S1x1024 .f32 :=
  View.ld (iblk m c 6 t) (Rect.unit (s := S8x1024) ![6, 0] S1x1024.size inb_S8x1024_S1x1024_6_0)
abbrev m4 (m : (ℓ : Loc nD τ sig) → Buf (Elt Ideal) ℓ) (c : Dev nD) (t : Fin cfg0.N) : Vec Ideal S1x1024 .f32 :=
  View.ld (iblk m c 6 t) (Rect.unit (s := S8x1024) ![4, 0] S1x1024.size inb_S8x1024_S1x1024_4_0)

theorem m6_at (H : Holds m I c) (t : Fin cfg0.N) (e : Fin 1024) : (m6 m c t (ix2 0 e) : EReal) = (I.sc e : EReal) := by
  unfold m6; pointwise; exact (b6_at t 6 e).trans (v15_at6 H e)
theorem m4_at (H : Holds m I c) (t : Fin cfg0.N) (e : Fin 1024) : (m4 m c t (ix2 0 e) : EReal) = (I.g1 e : EReal) := by
  unfold m4; pointwise; exact (b6_at t 4 e).trans (v15_at4 H e)

theorem readsAt (H : Holds m I c) (t : Fin cfg0.N) (S : Vec Ideal S4096x1024 .bf16) (hS : ∀ k e, (S (ix2 k e) : EReal) = (I.w e k : EReal)) : Reads I (rows t) (iblk m c 0 t) S (iblk m c 2 t) (iblk m c 3 t) (iblk m c 4 t)
    (iblk m c 5 t) (m6 m c t) (m4 m c t) where
  h3 := fun i k => b0_at H t i k
  h5 := hS
  h10 := b2_at H t
  h32 := b3_at H t
  h75 := b4_at H t
  h22 := b5_at H t
  h24 := m6_at H t
  h45 := m4_at H t

theorem reads (H : Holds m I c) (t : Fin cfg0.N) : Reads I (rows t) (iblk m c 0 t) (SC m c t) (iblk m c 2 t) (iblk m c 3 t) (iblk m c 4 t)
    (iblk m c 5 t) (m6 m c t) (m4 m c t) := readsAt H t _ fun k e => sc_at H k e t.val t.isLt

abbrev V20 (m : (ℓ : Loc nD τ sig) → Buf (Elt Ideal) ℓ) (c : Dev nD) (t : Fin cfg0.N) : FVec Ideal S512x1024 .f32 :=
  k0_pay20 (k0_pay14 (iblk m c 2 t)) (k0_pay15 (iblk m c 2 t)) (k0_pay18 (iblk m c 0 t) (SC m c t) (iblk m c 5 t) (m6 m c t)) (iblk m c 3 t)
    (k0_pay19 (iblk m c 0 t) (SC m c t) (iblk m c 2 t) (iblk m c 5 t) (m6 m c t))
abbrev V21 (m : (ℓ : Loc nD τ sig) → Buf (Elt Ideal) ℓ) (c : Dev nD) (t : Fin cfg0.N) : FVec Ideal S512x1024 .bf16 :=
  k0_pay21 (k0_pay14 (iblk m c 2 t)) (k0_pay15 (iblk m c 2 t)) (k0_pay18 (iblk m c 0 t) (SC m c t) (iblk m c 5 t) (m6 m c t)) (iblk m c 3 t)
    (k0_pay19 (iblk m c 0 t) (SC m c t) (iblk m c 2 t) (iblk m c 5 t) (m6 m c t)) (m4 m c t)

/-- Past the first point the scratch is the one the point before left. -/
theorem SC_B (t : Fin cfg0.N) (h : ¬ t.val % 8 = 0) : SC m c t = (outsAt0 m c (t.val - 1) (by omega)).2.2.2 := by
  unfold SC; rw [outsAt0_B m c t h h]; rfl

theorem block7 (t : Fin cfg0.N) : (outsAt0 m c t.val t.isLt).1 = V20 m c t := by
  by_cases h : t.val % 8 = 0
  · unfold V20 SC; rw [outsAt0_A m c t h h]; frame_out; simp only [full_cov]; rfl
  · unfold V20; rw [SC_B t h, outsAt0_B m c t h h]; frame_out
    rw [(Memref.isWhole_whole cc0_scratch0).read_unread]; rfl
theorem block8 (t : Fin cfg0.N) : (outsAt0 m c t.val t.isLt).2.1 = V21 m c t := by
  by_cases h : t.val % 8 = 0
  · unfold V21 SC; rw [outsAt0_A m c t h h]; frame_out; simp only [full_cov]; rfl
  · unfold V21; rw [SC_B t h, outsAt0_B m c t h h]; frame_out
    rw [(Memref.isWhole_whole cc0_scratch0).read_unread]; rfl

/-- A row of the array that the first point zeroes. -/
theorem zero_row (inb : ∀ a, (![0, 0] : Fin 2 → ℕ) a + (![8, 1024] : Fin 2 → ℕ) a ≤ (⟨2, ![8, 1024]⟩ : Shape).size a) (k : Fin 8) (e : Fin 1024) :
    (View.canon (Val := Elt Ideal) (e := .f32) [⟨Rect.unit (s := ⟨2, ![8, 1024]⟩) ![0, 0] ![8, 1024] inb, k0_pay12 (F := Ideal)⟩] (ix2 k e : (⟨2, ![8, 1024]⟩ : Shape).Idx) : EReal) = 0 := by
  refine band _ _ _ k e _ (fun i hi => ?_) fun h => ?_
  · pointwise [k0_pay12]
  · have := k.isLt; omega

theorem acc_A (H : Holds m I c) (t : Fin cfg0.N) (h : t.val % 8 = 0) (k : Fin 8) (e : Fin 1024) :
    ((outsAt0 m c t.val t.isLt).2.2.1 (ix2 k e) : EReal) = ∑ i, I.acc k e (rows t i) := by
  obtain ⟨S, hS, hE⟩ : ∃ S : Vec Ideal S4096x1024 .bf16, (∀ k e, (S (ix2 k e) : EReal) = (I.w e k : EReal)) ∧ S = SC m c t :=
    ⟨SC m c t, fun k e => sc_at H k e t.val t.isLt, rfl⟩
  unfold SC at hE
  rw [outsAt0_A m c t h h] at hE ⊢
  replace hE := hE.trans (by frame_out; rfl)
  frame_out
  simp only [full_cov]
  erw [← hE]
  refine band _ _ _ k e _ (fun i hi => ?_) fun h3 => ?_
  · obtain rfl : i = 0 := Subsingleton.elim _ _
    obtain rfl : k = 3 := Fin.ext hi
    refine (p2 (readsAt H t _ hS) _ e).trans ?_
    rw [row_cov (o := 3) _ _ _ (3 : Fin 8) e rfl, band_skip _ _ _ _ _ (by decide), band_skip _ _ _ _ _ (by decide), band_skip _ _ _ _ _ (by decide), zero_row]
    exact zero_add _
  refine band _ _ _ k e _ (fun i hi => ?_) fun h2 => ?_
  · obtain rfl : i = 0 := Subsingleton.elim _ _
    obtain rfl : k = 2 := Fin.ext hi
    refine (p1 (readsAt H t _ hS) _ e).trans ?_
    rw [row_cov (o := 2) _ _ _ (2 : Fin 8) e rfl, band_skip _ _ _ _ _ (by decide), band_skip _ _ _ _ _ (by decide), zero_row]
    exact zero_add _
  refine band _ _ _ k e _ (fun i hi => ?_) fun h1 => ?_
  · obtain rfl : i = 0 := Subsingleton.elim _ _
    obtain rfl : k = 1 := Fin.ext hi
    refine (p23 (readsAt H t _ hS) _ e).trans ?_
    rw [row_cov (o := 1) _ _ _ (1 : Fin 8) e rfl, band_skip _ _ _ _ _ (by decide), zero_row]
    exact zero_add _
  refine band _ _ _ k e _ (fun i hi => ?_) fun h0 => ?_
  · obtain rfl : i = 0 := Subsingleton.elim _ _
    obtain rfl : k = 0 := Fin.ext (by simpa using hi)
    refine (p22 (readsAt H t _ hS) _ e).trans ?_
    rw [row_cov (o := 0) _ _ _ (0 : Fin 8) e rfl, zero_row]
    exact zero_add _
  refine (zero_row _ k e).trans ?_
  unfold In.acc
  rw [sum_congr rfl fun i _ => by rw [if_neg (by omega), if_neg (by omega), if_neg (by omega), if_neg (by omega)]]
  exact sum_const_zero.symm

theorem acc_B (H : Holds m I c) (t : Fin cfg0.N) (h : ¬ t.val % 8 = 0) (k : Fin 8) (e : Fin 1024) :
    ((outsAt0 m c t.val t.isLt).2.2.1 (ix2 k e) : EReal) = (outsAt0 m c (t.val - 1) (by omega)).2.2.1 (ix2 k e) + ∑ i, I.acc k e (rows t i) := by
  rw [outsAt0_B m c t h h]; frame_out
  rw [(Memref.isWhole_whole cc0_scratch0).read_unread, ← SC_B t h]
  refine band_read _ _ _ _ _ k e _ (fun i hi => ?_) fun h3 => ?_
  · obtain rfl : i = 0 := Subsingleton.elim _ _
    obtain rfl : k = 3 := Fin.ext hi
    refine (p2 (reads H t) _ e).trans (congrArg (· + _) ?_)
    pointwise
  refine band_read _ _ _ _ _ k e _ (fun i hi => ?_) fun h2 => ?_
  · obtain rfl : i = 0 := Subsingleton.elim _ _
    obtain rfl : k = 2 := Fin.ext hi
    refine (p1 (reads H t) _ e).trans (congrArg (· + _) ?_)
    pointwise
  refine band_read _ _ _ _ _ k e _ (fun i hi => ?_) fun h1 => ?_
  · obtain rfl : i = 0 := Subsingleton.elim _ _
    obtain rfl : k = 1 := Fin.ext hi
    refine (p23 (reads H t) _ e).trans (congrArg (· + _) ?_)
    pointwise
  refine band_read _ _ _ _ _ k e _ (fun i hi => ?_) fun h0 => ?_
  · obtain rfl : i = 0 := Subsingleton.elim _ _
    obtain rfl : k = 0 := Fin.ext (by simpa using hi)
    refine (p22 (reads H t) _ e).trans (congrArg (· + _) ?_)
    pointwise
  rw [View.writes_nil, (hs0_9 t).read_unread]
  refine (add_zero _).symm.trans (congrArg _ ?_)
  unfold In.acc
  rw [sum_congr rfl fun i _ => by rw [if_neg (by omega), if_neg (by omega), if_neg (by omega), if_neg (by omega)]]
  exact sum_const_zero.symm

end Cert.Kernel4Ideal.Norm2
end
-- ==== Proof.Norm2Final.lean ====
/-
The call of the second norm's gradient: its result arrays.
-/
module

public import proofs.«01_k».proof.Proof.Norm2Point

@[expose] public section

set_option maxRecDepth 16384

noncomputable section

open Idealize.ShloMosaic Idealize.ShloMosaic.TcCoe Idealize.SL.Sem
open Idealize.ShloMosaic.Pipeline (Dat)

namespace Cert.Kernel4Ideal.Norm2
open Cert.Kernel4Ideal Cert.Kernel4Ideal.Gen Cert.Norm Finset

variable {m : (ℓ : Loc nD τ sig) → Buf (Elt Ideal) ℓ} {I : In} {c : Dev nD}

/-- The sums after a point: over the rows of the points so far. -/
theorem acc_at (H : Holds m I c) (k : Fin 8) (e : Fin 1024) : ∀ (n : ℕ) (hn : n < cfg0.N),
    ((outsAt0 m c n hn).2.2.1 (ix2 k e) : EReal) = ∑ r ∈ range ((n + 1) * 512), I.acc k e (row r)
  | 0, hn => by
    rw [sum_step, zero_mul, range_zero, sum_empty, zero_add]
    refine (acc_A H ⟨0, hn⟩ rfl k e).trans (sum_congr rfl fun i _ => ?_)
    simp only [rows]
    rw [zero_mul]
  | n + 1, hn => by
    have hN : n + 1 < 8 := lt_of_lt_of_eq hn N_0
    rw [sum_step, ← acc_at H k e n (Nat.lt_of_succ_lt hn)]
    exact acc_B H ⟨n + 1, hn⟩ (by simp only; omega) k e

theorem arr7 (H : Holds m I c) : (dats m 0 c).arrAt 7 cfg0.N = (fun i => I.D (i 0) (i 1) : FVec Ideal S4096x1024 .f32) := by
  refine (dats m 0 c).arrAt_eq_of_covers 7 _ (by decide +kernel) fun t _ y => ?_
  blk_simp
  rw [after0_7, block7]
  obtain ⟨i, e, rfl⟩ : ∃ i e, y = ix2 i e := ⟨y 0, y 1, eq_ix2 y⟩
  refine (p20 (reads H t) i e).trans ?_
  have := lt8 t; have := i.isLt
  have he : (win0_7.blk t).view.emb (ix2 i e) = (ix2 (rows t i) e : S4096x1024.Idx) := by
    unfold rows; rw [row_of _ (by omega)]; blk_ext [idx t]
  exact (congrArg (fun z : S4096x1024.Idx => I.D (z 0) (z 1)) he).symm

theorem arr8 (H : Holds m I c) : (dats m 0 c).arrAt 8 cfg0.N = (fun i => I.dy (i 0) (i 1) : FVec Ideal S4096x1024 .bf16) := by
  refine (dats m 0 c).arrAt_eq_of_covers 8 _ (by decide +kernel) fun t _ y => ?_
  blk_simp
  rw [after0_8, block8]
  obtain ⟨i, e, rfl⟩ : ∃ i e, y = ix2 i e := ⟨y 0, y 1, eq_ix2 y⟩
  refine (p21 (reads H t) i e).trans ?_
  have := lt8 t; have := i.isLt
  have he : (win0_8.blk t).view.emb (ix2 i e) = (ix2 (rows t i) e : S4096x1024.Idx) := by
    unfold rows; rw [row_of _ (by omega)]; blk_ext [idx t]
  exact (congrArg (fun z : S4096x1024.Idx => I.dy (z 0) (z 1)) he).symm

theorem last9 : ∀ t : Fin cfg0.N, (cfg0.win 9).flush t = true → t.val = 7 :=
  (by decide +kernel : ∀ t : Fin grid0.N, _)

theorem arr9 (H : Holds m I c) : (dats m 0 c).arrAt 9 cfg0.N = (fun i => ∑ r, I.acc (i 0) (i 1) r : FVec Ideal S8x1024 .f32) := by
  refine (dats m 0 c).arrAt_eq_of_covers 9 _ (by decide +kernel) fun t ht y => ?_
  have h7 := last9 t ht
  blk_simp
  rw [after0_9]
  obtain ⟨k, e, rfl⟩ : ∃ k e, y = ix2 k e := ⟨y 0, y 1, eq_ix2 y⟩
  refine (acc_at H k e t.val t.isLt).trans ?_
  rw [h7, sum_all]
  have he : (win0_9.blk t).view.emb (ix2 k e) = (ix2 k e : S8x1024.Idx) := by blk_ext [idx t]
  exact (congrArg (fun z : S8x1024.Idx => ∑ r, I.acc (z 0) (z 1) r) he).symm

end Cert.Kernel4Ideal.Norm2
end
-- ==== Proof.Norm2Ref.lean ====
/-
The differentiated reference of the second norm's call, line by line over real numbers.
-/
module

public import proofs.«01_k».proof.Proof.Norm2
public import proofs.«01_k».proof.Proof.Gen.Reference4Ideal.Read

@[expose] public section

set_option maxRecDepth 16384

noncomputable section
namespace Cert.Reference4Ideal.Norm2
open Idealize.ShloMosaic Idealize.ShloMosaic.TcCoe Idealize.SL.Sem
open Cert.Reference4Ideal Cert.Reference4Ideal.Gen Cert.Reference4Ideal.Read Cert.Norm Finset
open Cert.Kernel4Ideal.Norm2 (In)

/-- The arguments hold these numbers. -/
structure Args (I : In) (x0 x1 : FVec Ideal S4096x1024 .f32) (x2 : FVec Ideal S6144 .f32) (x4 : FVec Ideal S1024 .f32) (x5 : FVec Ideal S1024x4096 .f32)
    (x6 : FVec Ideal S4096x1024 .f32) (x7 : FVec Ideal S4096x4096 .f32) : Prop where
  x : ∀ r e, (x0 (ix2 r e) : EReal) = (I.x r e : EReal)
  y : ∀ r e, (x1 (ix2 r e) : EReal) = (I.y r e : EReal)
  md : ∀ e, (x2 (ix1 e) : EReal) = (I.md e : EReal)
  g : ∀ e, (x4 (ix1 e) : EReal) = (I.g e : EReal)
  w : ∀ e k, (x5 (ix2 e k) : EReal) = (I.w e k : EReal)
  d : ∀ r e, (x6 (ix2 r e) : EReal) = I.d r e
  u : ∀ r k, (x7 (ix2 r k) : EReal) = (I.u r k : EReal)

variable {I : In} {x0 x1 : FVec Ideal S4096x1024 .f32} {x2 : FVec Ideal S6144 .f32} {x4 : FVec Ideal S1024 .f32} {x5 : FVec Ideal S1024x4096 .f32}
  {x6 : FVec Ideal S4096x1024 .f32} {x7 : FVec Ideal S4096x4096 .f32} (R : Args I x0 x1 x2 x4 x5 x6 x7)
include R

theorem r2 (e : Fin 1024) : (val_main_v2 (F := Ideal) x2 (ix1 e) : EReal) = (I.g1 e : EReal) := by
  unfold In.g1; rw [← R.md]; unfold val_main_v2; pointwise
theorem r4 (e : Fin 1024) : (val_main_v4 (F := Ideal) x2 (ix1 e) : EReal) = (I.sc e : EReal) := by
  unfold In.sc; rw [← R.md]; unfold val_main_v4; pointwise
theorem r9 (r : Fin 4096) (e : Fin 1024) : (val_main_v9 (F := Ideal) x0 x1 x2 (ix2 r e) : EReal) = (I.X r e : EReal) := by
  unfold val_main_v9 val_main_v8 val_main_v7 val_main_v6 In.X
  pointwise [R.x, R.y, r2 R]
  simp only [← EReal.coe_mul, ← EReal.coe_add]
theorem r16 (r : Fin 4096) : (val_main_v16 (F := Ideal) x0 x1 x2 (ix2 r 0) : EReal) = (ms (I.X r) : EReal) := by
  unfold val_main_v16 val_main_v15 val_main_v14 val_main_v13 val_main_v12 val_main_v11 val_main_v10 val_main_cst val_main_cst_0 val_main_cst_1 ms
  pointwise [r9 R]
  simp only [lit_1024, lit_eps, ← EReal.coe_mul, ← coe_sum, div_1024, ← EReal.coe_add]
theorem r17 (r : Fin 4096) : (val_main_v17 (F := Ideal) x0 x1 x2 (ix2 r 0) : EReal) = (rs (I.X r) : EReal) := by
  rw [← rsqrt_ms]; unfold val_main_v17; pointwise [r16 R]
theorem r20 (r : Fin 4096) : (val_main_v20 (F := Ideal) x0 x1 x2 (ix2 r 0) : EReal) = ((-(1/2) * (rs (I.X r) / ms (I.X r)) : ℝ) : EReal) := by
  unfold val_main_v20 val_main_v19 val_main_v18 val_main_cst_2; pointwise [r16 R, r17 R]
  simp only [lit_neg_half, div_ms, ← EReal.coe_mul]
theorem r22 (r : Fin 4096) (e : Fin 1024) : (val_main_v22 (F := Ideal) x0 x1 x2 (ix2 r e) : EReal) = ((I.X r e * rs (I.X r) : ℝ) : EReal) := by
  unfold val_main_v22 val_main_v21; pointwise [r9 R, r17 R]
  exact (EReal.coe_mul _ _).symm
theorem r25 (r : Fin 4096) (e : Fin 1024) : (val_main_v25 (F := Ideal) x0 x1 x2 x4 (ix2 r e) : EReal) = ((I.X r e * rs (I.X r) * I.g e : ℝ) : EReal) := by
  unfold val_main_v25 val_main_v24 val_main_v23; pointwise [r22 R, R.g]
  exact (EReal.coe_mul _ _).symm
theorem r35 (r : Fin 4096) (e : Fin 1024) : (val_main_v35 (F := Ideal) x5 x7 (ix2 r e) : EReal) = (I.A r e : EReal) := by
  unfold val_main_v35 In.A; pointwise [R.w, R.u]
  simp only [← EReal.coe_mul, ← coe_sum]
theorem r43 (r : Fin 4096) (e : Fin 1024) : (val_main_v43 (F := Ideal) x2 x5 x7 (ix2 r e) : EReal) = (I.N r e : EReal) := by
  unfold val_main_v43 val_main_v42 val_main_v28 val_main_v27 val_main_v26 val_main_cst_3 In.N
  rw [EReal.coe_mul, EReal.coe_add, EReal.coe_one]
  pointwise [r35 R, r4 R]
theorem r49 (r : Fin 4096) (e : Fin 1024) : (val_main_v49 (F := Ideal) x2 x4 x5 x7 (ix2 r e) : EReal) = (I.H r e : EReal) := by
  unfold val_main_v49 val_main_v48 val_main_v23 In.H; pointwise [r43 R, R.g]
  exact (EReal.coe_mul _ _).symm
theorem r60 (r : Fin 4096) : (val_main_v60 (F := Ideal) x0 x1 x2 x4 x5 x7 (ix1 r) : EReal)
    = (((∑ e, I.X r e * I.H r e) * (-(1/2) * (rs (I.X r) / ms (I.X r))) / 1024 : ℝ) : EReal) := by
  unfold val_main_v60 val_main_v59 val_main_v58 val_main_v57 val_main_v53 val_main_v52 val_main_v51 val_main_cst_10 val_main_cst_11 val_main_cst_12
  pointwise [r9 R, r49 R]
  rw [Fin.sum_univ_one, show val_main_v20 (F := Ideal) x0 x1 x2 (ix2 r 0) = _ from r20 R r]
  simp only [lit_1024, ← EReal.coe_mul, ← coe_sum, div_1024]
theorem r65 (r : Fin 4096) (e : Fin 1024) : (val_main_v65 (F := Ideal) x0 x1 x2 x4 x5 x6 x7 (ix2 r e) : EReal) = I.D r e := by
  unfold In.D
  rw [← grad_eq]
  unfold val_main_v65 val_main_v64 val_main_v63 val_main_v62 val_main_v61 val_main_v56 val_main_v55 val_main_v54
  pointwise [r9 R, r49 R, r17 R, r60 R, R.d]
  simp only [← EReal.coe_mul, ← EReal.coe_add, add_assoc]
theorem r79 (r : Fin 4096) (e : Fin 1024) : (val_main_v79 (F := Ideal) x0 x1 x2 x4 x5 x6 x7 (ix2 r e) : EReal) = I.dy r e := by
  unfold val_main_v79 val_main_v68 val_main_v67 val_main_v66 val_main_v6 In.dy
  pointwise [r65 R, r2 R]

/-- The four sums. -/
theorem r38 (e : Fin 1024) : (val_main_v38 (F := Ideal) x5 x7 (ix1 e) : EReal) = ∑ r, I.acc 0 e r := by
  unfold val_main_v38 val_main_v37 val_main_v36 val_main_cst_4 val_main_cst_5; pointwise [r35 R, In.acc]
  exact Fin.sum_univ_one _
theorem r44 (e : Fin 1024) : (val_main_v44 (F := Ideal) x0 x1 x2 x4 x5 x7 (ix1 e) : EReal) = ∑ r, I.acc 1 e r := by
  unfold val_main_v44 val_main_v41 val_main_v40 val_main_v39 val_main_cst_6 val_main_cst_7; pointwise [r35 R, r25 R, In.acc]
  refine (Fin.sum_univ_one _).trans ?_
  refine sum_congr rfl fun r _ => ?_
  rw [← EReal.coe_mul]; congr 1; ring
theorem r50 (e : Fin 1024) : (val_main_v50 (F := Ideal) x0 x1 x2 x5 x7 (ix1 e) : EReal) = ∑ r, I.acc 2 e r := by
  unfold val_main_v50 val_main_v47 val_main_v46 val_main_v45 val_main_cst_8 val_main_cst_9; pointwise [r22 R, r43 R, In.acc]
  refine (Fin.sum_univ_one _).trans ?_
  refine sum_congr rfl fun r _ => ?_
  rw [← EReal.coe_mul]; congr 1; ring
theorem r72 (e : Fin 1024) : (val_main_v72 (F := Ideal) x0 x1 x2 x4 x5 x6 x7 (ix1 e) : EReal) = ∑ r, I.acc 3 e r := by
  unfold val_main_v72 val_main_v71 val_main_v70 val_main_v69 val_main_v66 val_main_cst_13 val_main_cst_14; pointwise [r65 R, R.y, In.acc]
  exact Fin.sum_univ_one _
theorem r78 (k : Fin 8) (e : Fin 1024) : (val_main_v78 (F := Ideal) x0 x1 x2 x4 x5 x6 x7 (ix2 k e) : EReal) = ∑ r, I.acc k e r := by
  have h0 := r38 R e; have h1 := r44 R e; have h2 := r50 R e; have h3 := r72 R e
  unfold val_main_v78 val_main_v77 val_main_v76 val_main_v75 val_main_v74 val_main_v73 val_main_cst_15
  match k with
  | 0 => pointwise; exact h0
  | 1 => pointwise; exact h1
  | 2 => pointwise; exact h2
  | 3 => pointwise; exact h3
  | 4 | 5 | 6 | 7 => pointwise [In.acc]; exact sum_const_zero.symm

end Cert.Reference4Ideal.Norm2
end
-- ==== Proof.Finite.lean ====
/-
What a test for finiteness says: every element of the tested array is a real number.
-/
module

public import Idealize.ShloMosaic.Lib.Pipeline.ValueKit
public import Idealize.ShloMosaic.Lib.ReduceAll

@[expose] public section

noncomputable section
namespace Cert.Finite
open Idealize.ShloMosaic Idealize.ShloMosaic.TcCoe Idealize.SL.Sem

abbrev S0 : Shape := ⟨0, ![]⟩

theorem real_of (x : EReal) (h : BitVec.ofBool (decide (max x (-x) < Ideal.ofBits FTy.f32 0x7F800000#32)) = 1#1) : ∃ r : ℝ, x = (r : EReal) := by
  have ht : Ideal.ofBits FTy.f32 0x7F800000#32 = (⊤ : EReal) := by simp [Ideal.ofBits, Ideal.ieee]
  have h2 : max x (-x) < ⊤ := by
    rw [← ht]; by_contra hc; rw [decide_eq_false hc] at h; exact absurd h (by decide)
  induction x with
  | bot => simp at h2
  | coe r => exact ⟨r, rfl⟩
  | top => simp at h2

/-- An array's test. -/
abbrev test {s : Shape} (hb : S0.BroadcastsInDim s (![] : Fin 0 → Fin s.rank)) {axes : List (Fin s.rank)} (hr : s.ReducesTo axes S0) (h0 : 0 < S0.numel) (x : FVec Ideal s .f32) : IVec S0 1 :=
  Host.reduce IntOp.andi (cmpf .olt (Host.absf x) (broadcastInDim s ![] hb (constant (F := Ideal) S0 .f32 0x7F800000#32))) (constantI S0 1 1#1) hr h0

theorem reals {s : Shape} (hb : S0.BroadcastsInDim s (![] : Fin 0 → Fin s.rank)) {axes : List (Fin s.rank)} (hr : s.ReducesTo axes S0) (h0 : 0 < S0.numel) (x : FVec Ideal s .f32)
    (h : test hb hr h0 x ix0 = 1#1) (i : s.Idx) : ((show EReal from x i).toReal : EReal) = x i := by
  haveI : Subsingleton S0.Idx := ⟨fun a b => funext fun k => k.elim0⟩
  obtain ⟨r, hr'⟩ := real_of _ (Host.reduce_andi_all _ _ _ _ ix0 h i)
  show ((x i : EReal).toReal : EReal) = x i
  rw [show (x i : EReal) = (r : EReal) from hr', EReal.toReal_coe]

theorem and_one (x y : IVec S0 1) (h : andi x y ix0 = 1#1) : x ix0 = 1#1 ∧ y ix0 = 1#1 :=
  (by decide : ∀ a b : BitVec 1, a &&& b = 1#1 → a = 1#1 ∧ b = 1#1) _ _ h

end Cert.Finite
end
-- ==== Proof.Norm2Pre.lean ====
/-
The precondition of the second norm's gradient: every element of the arguments that are multiplied is a real number.
-/
module

public import proofs.«01_k».proof.Pre_norm2_finite
public import proofs.«01_k».proof.Proof.Finite

@[expose] public section

noncomputable section
namespace Cert.Pre_norm2_finite
open Idealize.ShloMosaic Idealize.ShloMosaic.TcCoe Idealize.SL.Sem Cert.Finite

/-- The function's side conditions. -/
theorem facts : Facts := by
  constructor <;> decide +kernel

variable [Facts]
open Facts

theorem all_real (x0 x1 : FVec Ideal S4096x1024 .f32) (x2 x3 : FVec Ideal S6144 .f32) (x4 : FVec Ideal S1024 .f32) (x5 : FVec Ideal S1024x4096 .f32)
    (x6 : FVec Ideal S4096x1024 .f32) (x7 : FVec Ideal S4096x4096 .f32) (h : fn (F := Ideal) x0 x1 x2 x3 x4 x5 x6 x7 = fun _ => 1#1) :
    (∀ i, ((show EReal from x0 i).toReal : EReal) = x0 i) ∧ (∀ i, ((show EReal from x1 i).toReal : EReal) = x1 i) ∧ (∀ i, ((show EReal from x2 i).toReal : EReal) = x2 i)
      ∧ (∀ i, ((show EReal from x4 i).toReal : EReal) = x4 i) ∧ (∀ i, ((show EReal from x5 i).toReal : EReal) = x5 i) ∧ (∀ i, ((show EReal from x7 i).toReal : EReal) = x7 i) := by
  have h' : andi (andi (andi (andi (andi (test bcast_S_S4096x1024 reducesTo_S4096x1024_S_d0_1 h_S_ x0) (test bcast_S_S4096x1024 reducesTo_S4096x1024_S_d0_1 h_S_ x1))
    (test bcast_S_S6144 reducesTo_S6144_S_d0 h_S_ x2)) (test bcast_S_S1024 reducesTo_S1024_S_d0 h_S_ x4)) (test bcast_S_S1024x4096 reducesTo_S1024x4096_S_d0_1 h_S_ x5))
    (test bcast_S_S4096x4096 reducesTo_S4096x4096_S_d0_1 h_S_ x7) ix0 = 1#1 := congrFun h ix0
  obtain ⟨h', h7⟩ := and_one _ _ h'
  obtain ⟨h', h5⟩ := and_one _ _ h'
  obtain ⟨h', h4⟩ := and_one _ _ h'
  obtain ⟨h', h2⟩ := and_one _ _ h'
  obtain ⟨h0, h1⟩ := and_one _ _ h'
  exact ⟨reals _ _ _ x0 h0, reals _ _ _ x1 h1, reals _ _ _ x2 h2, reals _ _ _ x4 h4, reals _ _ _ x5 h5, reals _ _ _ x7 h7⟩

end Cert.Pre_norm2_finite
end
-- ==== Proof.Norm2Claim.lean ====
/-
The call of the second norm's gradient: its frames, and its results are those of the differentiated reference.
-/
module

public import proofs.«01_k».proof.Defs
public import proofs.«01_k».proof.Proof.Norm2Final
public import proofs.«01_k».proof.Proof.Norm2Ref
public import proofs.«01_k».proof.Proof.Norm2Pre
public import proofs.«01_k».proof.Proof.Gen.Kernel4.Frame
public import proofs.«01_k».proof.Proof.Gen.Kernel4Ideal.Value
public import proofs.«01_k».proof.Proof.Gen.Reference4Ideal.Run
public import Idealize.ShloMosaic.Lib.Quiescent

@[expose] public section

set_option maxRecDepth 16384

noncomputable section
namespace Cert.Proof4
open Idealize.ShloMosaic Idealize.ShloMosaic.TcCoe Idealize.SL.Sem
open Cert.Kernel4Ideal Cert.Kernel4Ideal.Norm2 Finset

abbrev Mem := (ℓ : Loc nD τ sig) → Buf (Elt Ideal) ℓ

section
variable (m : Mem) (c : Dev nD)

/-- The arguments as arrays of extended reals. -/
abbrev a0 : S4096x1024.Idx → EReal := m ((c.tc : Thread nD τ).loc main_arg0)
abbrev a1 : S4096x1024.Idx → EReal := m ((c.tc : Thread nD τ).loc main_arg1)
abbrev a2 : S6144.Idx → EReal := m ((c.tc : Thread nD τ).loc main_arg2)
abbrev a3 : S6144.Idx → EReal := m ((c.tc : Thread nD τ).loc main_arg3)
abbrev a4 : S1024.Idx → EReal := m ((c.tc : Thread nD τ).loc main_arg4)
abbrev a5 : S1024x4096.Idx → EReal := m ((c.tc : Thread nD τ).loc main_arg5)
abbrev a6 : S4096x1024.Idx → EReal := m ((c.tc : Thread nD τ).loc main_arg6)
abbrev a7 : S4096x4096.Idx → EReal := m ((c.tc : Thread nD τ).loc main_arg7)

/-- The numbers that the launched arrays hold. -/
def inOf : In where
  x r e := (a0 m c (ix2 r e)).toReal
  y r e := (a1 m c (ix2 r e)).toReal
  md e := (a2 m c (ix1 e)).toReal
  g e := (a4 m c (ix1 e)).toReal
  w e k := (a5 m c (ix2 e k)).toReal
  u r k := (a7 m c (ix2 r k)).toReal
  d r e := a6 m c (ix2 r e)
end

theorem args [Cert.Pre_norm2_finite.Facts] {m : Mem} {c : Dev nD}
    (h : Cert.Pre_norm2_finite.fn (F := Ideal) (a0 m c) (a1 m c) (a2 m c) (a3 m c) (a4 m c) (a5 m c) (a6 m c) (a7 m c) = fun _ => 1#1) :
    Cert.Reference4Ideal.Norm2.Args (inOf m c) (a0 m c) (a1 m c) (a2 m c) (a4 m c) (a5 m c) (a6 m c) (a7 m c) := by
  obtain ⟨h0, h1, h2, h4, h5, h7⟩ := Cert.Pre_norm2_finite.all_real _ _ _ _ _ _ _ _ h
  exact ⟨fun r e => (h0 _).symm, fun r e => (h1 _).symm, fun e => (h2 _).symm, fun e => (h4 _).symm, fun e k => (h5 _).symm, fun r e => rfl, fun r k => (h7 _).symm⟩

theorem holds {m : Mem} {c : Dev nD} (A : Cert.Reference4Ideal.Norm2.Args (inOf m c) (a0 m c) (a1 m c) (a2 m c) (a4 m c) (a5 m c) (a6 m c) (a7 m c)) :
    Holds m (inOf m c) c := ⟨A.x, A.y, A.md, A.g, A.w, A.d, A.u⟩

def res0 (m : Mem) (c : Dev nD) : S4096x1024.Idx → EReal := fun i => (inOf m c).D (i 0) (i 1)
def res1 (m : Mem) (c : Dev nD) : S4096x1024.Idx → EReal := fun i => (inOf m c).dy (i 0) (i 1)
def res2 (m : Mem) (c : Dev nD) : S8x1024.Idx → EReal := fun i => ∑ r, (inOf m c).acc (i 0) (i 1) r

theorem quiescent_Kernel4 : Cert.quiescent_Kernel4 := fun m ρ _ => Cert.Kernel4.Gen.frame m ρ

theorem quiescent_Kernel4Ideal : Cert.quiescent_Kernel4Ideal := fun m ρ _ => Cert.Kernel4Ideal.Gen.frame m ρ

theorem quiescent_Kernel4Ideal_pre [hP : Cert.Pre_norm2_finite.Facts] : Cert.quiescent_Kernel4Ideal_pre_norm2_finite :=
  fun m ρ _ => Cert.Kernel4Ideal.Gen.frame m ρ

theorem quiescent_Reference4Ideal : Cert.quiescent_Reference4Ideal := fun m ρ _ =>
  (θ_run Cert.Reference4Ideal.defs _ _).mono (fun r h => ⟨fun c => (h c).2.2.2, sem_eq_zero_of_no_sems (by decide) r.2⟩)
    (Cert.Reference4Ideal.Value.run (F := Ideal) m ρ)

theorem quiescent_Reference4Ideal_pre [hP : Cert.Pre_norm2_finite.Facts] : Cert.quiescent_Reference4Ideal_pre_norm2_finite :=
  fun m ρ _ => quiescent_Reference4Ideal m ρ trivial

set_option maxHeartbeats 1600000 in
theorem algebraic [hP : Cert.Pre_norm2_finite.Facts] : Cert.algebraic_Kernel4Ideal_Reference4Ideal_pre_norm2_finite := by
  intro m ρ m' ρ' hpre hagree
  have A := fun c => args (hpre c)
  refine ⟨res0 m, res1 m, res2 m, ?_, ?_⟩
  · exact (θ_run Cert.Kernel4Ideal.defs _ _).mono (fun r h c => ⟨(h c).1.trans (arr7 (holds (A c))), (h c).2.1.trans (arr8 (holds (A c))),
      (h c).2.2.1.trans (arr9 (holds (A c))), (h c).2.2.2⟩) (Cert.Kernel4Ideal.Value.run_blocks (F := Ideal) m ρ)
  · refine (θ_run Cert.Reference4Ideal.defs _ _).mono (fun r h c => ?_) (Cert.Reference4Ideal.Value.run (F := Ideal) m' ρ')
    obtain ⟨e0, e1, e2, ea⟩ := h c
    obtain ⟨g0, g1, g2, g3, g4, g5, g6, g7⟩ := hagree c
    have B := A c
    simp only [a0, a1, a2, a4, a5, a6, a7] at B
    rw [← g0, ← g1, ← g2, ← g4, ← g5, ← g6, ← g7] at B
    refine ⟨e0.trans ((Cert.Reference4Ideal.Read.val_main_v65_eq _ _).trans (funext fun y => ?_)), e1.trans ((Cert.Reference4Ideal.Read.val_main_v79_eq _ _).trans (funext fun y => ?_)),
      e2.trans ((Cert.Reference4Ideal.Read.val_main_v78_eq _ _).trans (funext fun y => ?_)), ea⟩
    · obtain ⟨i, e, rfl⟩ : ∃ (i : Fin 4096) (e : Fin 1024), y = ix2 i e := ⟨y 0, y 1, eq_ix2 y⟩
      exact Cert.Reference4Ideal.Norm2.r65 B i e
    · obtain ⟨i, e, rfl⟩ : ∃ (i : Fin 4096) (e : Fin 1024), y = ix2 i e := ⟨y 0, y 1, eq_ix2 y⟩
      exact Cert.Reference4Ideal.Norm2.r79 B i e
    · obtain ⟨k, e, rfl⟩ : ∃ (k : Fin 8) (e : Fin 1024), y = ix2 k e := ⟨y 0, y 1, eq_ix2 y⟩
      exact Cert.Reference4Ideal.Norm2.r78 B k e

end Cert.Proof4
end
-- ==== Proof.Final.lean ====
/-
The call of the loss and of the final norm's gradient: its arguments as real numbers, and the blocks that a grid point reads.
-/
module

public import proofs.«01_k».proof.Proof.NormMath
public import proofs.«01_k».proof.Proof.Gen.Kernel6Ideal.Value
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Kernel6Ideal.Final
open Cert.Kernel6Ideal Cert.Kernel6Ideal.Gen Cert.Norm Finset

theorem lit_two : Ideal.ofBits .f32 0x40000000#32 = ((2 : ℝ) : EReal) := by
  simp [Ideal.ofBits, Ideal.ieee, -EReal.coe_mul]; norm_num
theorem lit_half : Ideal.ofBits .f32 0x3F000000#32 = ((1/2 : ℝ) : EReal) := by
  simp [Ideal.ofBits, Ideal.ieee, -EReal.coe_mul]; norm_num
theorem lit_1024th : Ideal.ofBits .f32 0x3A800000#32 = ((1/1024 : ℝ) : EReal) := by
  simp [Ideal.ofBits, Ideal.ieee, -EReal.coe_mul]; norm_num
theorem coe_max (a : ℝ) : ((max a 0 : ℝ) : EReal) = max (a : EReal) 0 := EReal.coe_strictMono.monotone.map_max

/-- The call's arguments as real numbers. -/
structure In where
  u : Fin 4096 → Fin 4096 → ℝ
  w : Fin 4096 → Fin 1024 → ℝ
  x : Fin 4096 → Fin 1024 → ℝ
  y : Fin 4096 → Fin 1024 → ℝ
  g : Fin 1024 → ℝ
  md : Fin 6144 → ℝ

namespace In
variable (I : In)
def g2 (e : Fin 1024) : ℝ := I.md ⟨5120 + e.val, by have := e.isLt; omega⟩
/-- The MLP's product, the residual stream, the normed error, its gradient. -/
def Z (r : Fin 4096) (e : Fin 1024) : ℝ := ∑ k, max (I.u r k) 0 * max (I.u r k) 0 * I.w k e
def X (r : Fin 4096) (e : Fin 1024) : ℝ := I.x r e + I.g2 e * I.Z r e
def E (r : Fin 4096) (e : Fin 1024) : ℝ := I.X r e * rs (I.X r) * I.g e - I.y r e
def C (r : Fin 4096) (e : Fin 1024) : ℝ := I.E r e * (1 / 1024)
def H (r : Fin 4096) (e : Fin 1024) : ℝ := I.C r e * I.g e
def D (r : Fin 4096) (e : Fin 1024) : ℝ := grad (I.X r) (I.H r) e
def DZ (r : Fin 4096) (e : Fin 1024) : ℝ := I.g2 e * I.D r e
/-- What each row adds to the three sums. -/
def acc (k : Fin 8) (e : Fin 1024) (r : Fin 4096) : EReal :=
  if k.val = 0 then ((I.C r e * (I.X r e * rs (I.X r)) : ℝ) : EReal)
  else if k.val = 1 then ((I.D r e * I.Z r e : ℝ) : EReal)
  else if k.val = 2 then ((I.E r e * I.E r e : ℝ) : EReal) else 0
end In

variable (m : (ℓ : Loc nD τ sig) → Buf (Elt Ideal) ℓ)

/-- The launched arrays hold these numbers. -/
structure Holds (I : In) (c : Dev nD) : Prop where
  u : ∀ r k, (show EReal from m ((c : Thread nD τ).loc main_arg0) (ix2 r k)) = (I.u r k : EReal)
  w : ∀ k e, (show EReal from m ((c : Thread nD τ).loc main_arg1) (ix2 k e)) = (I.w k e : EReal)
  x : ∀ r e, (show EReal from m ((c : Thread nD τ).loc main_arg2) (ix2 r e)) = (I.x r e : EReal)
  y : ∀ r e, (show EReal from m ((c : Thread nD τ).loc main_arg3) (ix2 r e)) = (I.y r e : EReal)
  g : ∀ e, (show EReal from m ((c : Thread nD τ).loc main_arg4) (ix1 e)) = (I.g e : EReal)
  md : ∀ e, (show EReal from m ((c : Thread nD τ).loc main_arg5) (ix1 e)) = (I.md e : EReal)

/-- Every window's block index at a grid point. -/
theorem idx : ∀ t : Fin cfg0.N, win0_0.index t = ![t.val, 0] ∧ win0_1.index t = ![0, 0, 0]
    ∧ win0_2.index t = ![t.val, 0] ∧ win0_3.index t = ![t.val, 0] ∧ win0_4.index t = ![0, 0] ∧ win0_5.index t = ![0, 0]
    ∧ win0_6.index t = ![t.val, 0] ∧ win0_7.index t = ![t.val, 0] ∧ win0_8.index t = ![0, t.val] ∧ win0_9.index t = ![0, 0] :=
  (by decide +kernel : ∀ t : Fin grid0.N, _)

variable {m} {I : In} {c : Dev nD}

theorem v2_at (H : Holds m I c) (r : Fin 4096) (k : Fin 4096) :
    (show EReal from V m c main_v2 (ix2 r k)) = ((max (I.u r k) 0 : ℝ) : EReal) := by
  rw [coe_max, ← H.u]; entry_read; pointwise
theorem v4_at (H : Holds m I c) (k : Fin 4096) (e : Fin 1024) :
    (show EReal from V m c main_v4 (ix3 0 k e)) = (I.w k e : EReal) := by
  rw [← H.w]; entry_read; pointwise
theorem v5_at (H : Holds m I c) (e : Fin 1024) :
    (show EReal from V m c main_v5 (ix2 0 e)) = (I.g e : EReal) := by
  rw [← H.g]; entry_read; pointwise
theorem v9_at7 (H : Holds m I c) (e : Fin 1024) :
    (show EReal from V m c main_v9 (ix2 7 e)) = (I.g2 e : EReal) := by
  unfold In.g2; rw [← H.md]; entry_read; pointwise

theorem lt8 (t : Fin cfg0.N) : t.val < 8 := lt_of_lt_of_eq t.isLt N_0

/-- The point's rows of the arrays. -/
abbrev rows (t : Fin cfg0.N) (i : Fin 512) : Fin 4096 := row (t.val * 512 + i.val)

theorem b0_at (H : Holds m I c) (t : Fin cfg0.N) (i : Fin 512) (k : Fin 4096) :
    (show EReal from iblk m c 0 t (ix2 i k)) = ((max (I.u (rows t i) k) 0 : ℝ) : EReal) := by
  have := lt8 t; have := i.isLt
  unfold rows; rw [row_of _ (by omega)]
  exact (congrArg (V m c main_v2) (by blk_ext [idx t])).trans (v2_at H _ k)
theorem b1_at (H : Holds m I c) (t : Fin cfg0.N) (k : Fin 4096) (e : Fin 1024) :
    (show EReal from iblk m c 1 t (ix3 0 k e)) = (I.w k e : EReal) :=
  (congrArg (V m c main_v4) (by blk_ext [idx t])).trans (v4_at H k e)
theorem b2_at (H : Holds m I c) (t : Fin cfg0.N) (i : Fin 512) (e : Fin 1024) :
    (show EReal from iblk m c 2 t (ix2 i e)) = (I.x (rows t i) e : EReal) := by
  have := lt8 t; have := i.isLt
  unfold rows; rw [row_of _ (by omega)]
  exact (congrArg (V m c main_arg2) (by blk_ext [idx t])).trans ((congrFun (V_main_arg2 m c) _).trans (H.x _ e))
theorem b3_at (H : Holds m I c) (t : Fin cfg0.N) (i : Fin 512) (e : Fin 1024) :
    (show EReal from iblk m c 3 t (ix2 i e)) = (I.y (rows t i) e : EReal) := by
  have := lt8 t; have := i.isLt
  unfold rows; rw [row_of _ (by omega)]
  exact (congrArg (V m c main_arg3) (by blk_ext [idx t])).trans ((congrFun (V_main_arg3 m c) _).trans (H.y _ e))
theorem b4_at (H : Holds m I c) (t : Fin cfg0.N) (e : Fin 1024) :
    (show EReal from iblk m c 4 t (ix2 0 e)) = (I.g e : EReal) :=
  (congrArg (V m c main_v5) (by blk_ext [idx t])).trans (v5_at H e)
theorem b5_at (t : Fin cfg0.N) (k : Fin 8) (e : Fin 1024) :
    iblk m c 5 t (ix2 k e) = V m c main_v9 (ix2 k e) :=
  congrArg (V m c main_v9) (by blk_ext [idx t])

end Cert.Kernel6Ideal.Final
end
-- ==== Proof.FinalTile.lean ====
/-
The call of the loss and of the final norm's gradient: what a grid point computes.
-/
module

public import proofs.«01_k».proof.Proof.Final

@[expose] public section

set_option maxRecDepth 16384

noncomputable section

open Idealize.ShloMosaic Idealize.ShloMosaic.TcCoe Idealize.SL.Sem

namespace Cert.Kernel6Ideal.Final
open Cert.Kernel6Ideal Cert.Kernel6Ideal.Gen Cert.Norm Finset

/-- What a point reads, row `ρ i` of the arrays in its row `i`. -/
structure Reads (I : In) (ρ : Fin 512 → Fin 4096) (v0 : Vec Ideal S512x4096 .bf16) (v3 : Vec Ideal S1x4096x1024 .bf16) (v9 : Vec Ideal S1x1024 .f32)
    (v11 : Vec Ideal S512x1024 .f32) (v25 : Vec Ideal S1x1024 .f32) (v29 : Vec Ideal S512x1024 .f32) : Prop where
  h0 : ∀ i k, (v0 (ix2 i k) : EReal) = ((max (I.u (ρ i) k) 0 : ℝ) : EReal)
  h3 : ∀ k e, (v3 (ix3 0 k e) : EReal) = (I.w k e : EReal)
  h9 : ∀ e, (v9 (ix2 0 e) : EReal) = (I.g2 e : EReal)
  h11 : ∀ i e, (v11 (ix2 i e) : EReal) = (I.x (ρ i) e : EReal)
  h25 : ∀ e, (v25 (ix2 0 e) : EReal) = (I.g e : EReal)
  h29 : ∀ i e, (v29 (ix2 i e) : EReal) = (I.y (ρ i) e : EReal)

variable {I : In} {ρ : Fin 512 → Fin 4096} {v0 : Vec Ideal S512x4096 .bf16} {v3 : Vec Ideal S1x4096x1024 .bf16} {v9 : Vec Ideal S1x1024 .f32}
    {v11 : Vec Ideal S512x1024 .f32} {v25 : Vec Ideal S1x1024 .f32} {v29 : Vec Ideal S512x1024 .f32} (R : Reads I ρ v0 v3 v9 v11 v25 v29)
include R

theorem p2 (i : Fin 512) (e : Fin 1024) : (k0_pay2 (F := Ideal) v0 v3 (ix2 i e) : EReal) = (I.Z (ρ i) e : EReal) := by
  unfold In.Z
  pointwise [k0_pay2, R.h0, R.h3]
  simp only [← EReal.coe_mul, ← coe_sum]
theorem p5 (i : Fin 512) (e : Fin 1024) : (k0_pay5 (F := Ideal) v0 v3 v9 v11 (ix2 i e) : EReal) = (I.X (ρ i) e : EReal) := by
  unfold In.X
  pointwise [k0_pay5, k0_pay4, p2 R, R.h9, R.h11]
  simp only [← EReal.coe_mul, ← EReal.coe_add]
theorem p6 (i : Fin 512) : (k0_pay6 (F := Ideal) v0 v3 v9 v11 (ix2 i 0) : EReal) = (rs (I.X (ρ i)) : EReal) := by
  rw [← rsqrt_ms]
  unfold ms
  pointwise [k0_pay6, p5 R]
  simp only [lit_1024, lit_eps, ← EReal.coe_mul, ← coe_sum, div_1024, ← EReal.coe_add]
theorem p7 (i : Fin 512) (e : Fin 1024) : (k0_pay7 (F := Ideal) v0 v3 v9 v11 (ix2 i e) : EReal) = ((I.X (ρ i) e * rs (I.X (ρ i)) : ℝ) : EReal) := by
  pointwise [k0_pay7, p5 R, p6 R]
  exact (EReal.coe_mul _ _).symm
theorem p9 (i : Fin 512) (e : Fin 1024) : (k0_pay9 (F := Ideal) v0 v3 v9 v11 v25 v29 (ix2 i e) : EReal) = (I.E (ρ i) e : EReal) := by
  unfold In.E
  pointwise [k0_pay9, k0_pay8, p7 R, R.h25, R.h29]
  simp only [← EReal.coe_mul, ← EReal.coe_sub]
theorem p10 (i : Fin 512) (e : Fin 1024) : (k0_pay10 (F := Ideal) v0 v3 v9 v11 v25 v29 (ix2 i e) : EReal) = (I.C (ρ i) e : EReal) := by
  unfold In.C
  pointwise [k0_pay10, p9 R]
  simp only [lit_1024th, ← EReal.coe_mul]
theorem p11 (i : Fin 512) (e : Fin 1024) : (k0_pay11 (F := Ideal) v0 v3 v9 v11 v25 v29 (ix2 i e) : EReal) = (I.H (ρ i) e : EReal) := by
  unfold In.H
  pointwise [k0_pay11, k0_pay8, p10 R, R.h25]
  simp only [← EReal.coe_mul]
theorem p12 (i : Fin 512) : (k0_pay12 (F := Ideal) v0 v3 v9 v11 v25 v29 (ix1 i) : EReal) = ((∑ e, I.H (ρ i) e * (I.X (ρ i) e * rs (I.X (ρ i))) : ℝ) : EReal) := by
  pointwise [k0_pay12, p11 R, p7 R]
  simp only [← EReal.coe_mul, ← coe_sum]
theorem p13 (i : Fin 512) (e : Fin 1024) : (k0_pay13 (F := Ideal) (k0_pay6 v0 v3 v9 v11) (k0_pay7 v0 v3 v9 v11) (k0_pay11 v0 v3 v9 v11 v25 v29) (k0_pay12 v0 v3 v9 v11 v25 v29) (ix2 i e) : EReal) = (I.D (ρ i) e : EReal) := by
  unfold In.D grad
  pointwise [k0_pay13, p6 R, p7 R, p11 R, p12 R]
  simp only [lit_1024, ← EReal.coe_mul, div_1024, ← EReal.coe_sub]
theorem p14 (i : Fin 512) (e : Fin 1024) : (k0_pay14 (F := Ideal) (k0_pay4 v9) (k0_pay6 v0 v3 v9 v11) (k0_pay7 v0 v3 v9 v11) (k0_pay11 v0 v3 v9 v11 v25 v29) (k0_pay12 v0 v3 v9 v11 v25 v29) (ix2 i e) : EReal) = (I.DZ (ρ i) e : EReal) := by
  unfold In.DZ
  pointwise [k0_pay14, k0_pay4, p13 R, R.h9]
  simp only [← EReal.coe_mul]
theorem p15 (i : Fin 512) (e : Fin 1024) : (k0_pay15 (F := Ideal) (k0_pay4 v9) (k0_pay6 v0 v3 v9 v11) (k0_pay7 v0 v3 v9 v11) (k0_pay11 v0 v3 v9 v11 v25 v29) (k0_pay12 v0 v3 v9 v11 v25 v29) (ix2 i e) : EReal) = (I.DZ (ρ i) e : EReal) := by
  pointwise [k0_pay15, p14 R]
theorem p16 (i : Fin 512) (e : Fin 1024) : (k0_pay16 (F := Ideal) (k0_pay4 v9) (k0_pay6 v0 v3 v9 v11) (k0_pay7 v0 v3 v9 v11) (k0_pay11 v0 v3 v9 v11 v25 v29) (k0_pay12 v0 v3 v9 v11 v25 v29) (ix2 e i) : EReal) = (I.DZ (ρ i) e : EReal) := by
  pointwise [k0_pay16, p14 R]

/-- The three rows that the point adds to. -/
theorem p17 (z : Vec Ideal S1x1024 .f32) (e : Fin 1024) : (k0_pay17 (F := Ideal) (k0_pay7 v0 v3 v9 v11) (k0_pay10 v0 v3 v9 v11 v25 v29) z (ix2 0 e) : EReal) = z (ix2 0 e) + ∑ i, I.acc 0 e (ρ i) := by
  pointwise [k0_pay17, p7 R, p10 R, In.acc]
  simp only [← EReal.coe_mul]
theorem p18 (z : Vec Ideal S1x1024 .f32) (e : Fin 1024) : (k0_pay18 (F := Ideal) (k0_pay2 v0 v3) (k0_pay6 v0 v3 v9 v11) (k0_pay7 v0 v3 v9 v11) (k0_pay11 v0 v3 v9 v11 v25 v29) (k0_pay12 v0 v3 v9 v11 v25 v29) z (ix2 0 e) : EReal)
    = z (ix2 0 e) + ∑ i, I.acc 1 e (ρ i) := by
  pointwise [k0_pay18, p13 R, p2 R, In.acc]
  simp only [← EReal.coe_mul]
theorem p1 (z : Vec Ideal S1x1024 .f32) (e : Fin 1024) : (k0_pay1 (F := Ideal) (k0_pay19 z) (k0_pay20 (k0_pay9 v0 v3 v9 v11 v25 v29)) (ix2 0 e) : EReal) = z (ix2 0 e) + ∑ i, I.acc 2 e (ρ i) := by
  pointwise [k0_pay1, k0_pay19, k0_pay20, p9 R, In.acc]
  simp only [← EReal.coe_mul]

end Cert.Kernel6Ideal.Final
end
-- ==== Proof.FinalPoint.lean ====
/-
The call of the loss and of the final norm's gradient: what a grid point leaves, and the call's result arrays.
-/
module

public import proofs.«01_k».proof.Proof.FinalTile

@[expose] public section

set_option maxRecDepth 16384

noncomputable section

open Idealize.ShloMosaic Idealize.ShloMosaic.TcCoe Idealize.SL.Sem
open Idealize.ShloMosaic.Pipeline (Dat)

namespace Cert.Kernel6Ideal.Final
open Cert.Kernel6Ideal Cert.Kernel6Ideal.Gen Cert.Norm Finset

variable {m : (ℓ : Loc nD τ sig) → Buf (Elt Ideal) ℓ} {I : In} {c : Dev nD}

abbrev m7 (m : (ℓ : Loc nD τ sig) → Buf (Elt Ideal) ℓ) (c : Dev nD) (t : Fin cfg0.N) : Vec Ideal S1x1024 .f32 :=
  View.ld (iblk m c 5 t) (Rect.unit (s := S8x1024) ![7, 0] S1x1024.size inb_S8x1024_S1x1024_7_0)

theorem m7_at (H : Holds m I c) (t : Fin cfg0.N) (e : Fin 1024) : (m7 m c t (ix2 0 e) : EReal) = (I.g2 e : EReal) := by
  unfold m7; pointwise; exact (b5_at t 7 e).trans (v9_at7 H e)

theorem reads (H : Holds m I c) (t : Fin cfg0.N) : Reads I (rows t) (iblk m c 0 t) (iblk m c 1 t) (m7 m c t) (iblk m c 2 t) (iblk m c 4 t) (iblk m c 3 t) where
  h0 := b0_at H t
  h3 := b1_at H t
  h9 := m7_at H t
  h11 := b2_at H t
  h25 := b4_at H t
  h29 := b3_at H t

variable (m c) in
abbrev V13 (t : Fin cfg0.N) : FVec Ideal S512x1024 .f32 :=
  k0_pay13 (k0_pay6 (iblk m c 0 t) (iblk m c 1 t) (m7 m c t) (iblk m c 2 t)) (k0_pay7 (iblk m c 0 t) (iblk m c 1 t) (m7 m c t) (iblk m c 2 t))
    (k0_pay11 (iblk m c 0 t) (iblk m c 1 t) (m7 m c t) (iblk m c 2 t) (iblk m c 4 t) (iblk m c 3 t)) (k0_pay12 (iblk m c 0 t) (iblk m c 1 t) (m7 m c t) (iblk m c 2 t) (iblk m c 4 t) (iblk m c 3 t))
variable (m c) in
abbrev V15 (t : Fin cfg0.N) : FVec Ideal S512x1024 .bf16 :=
  k0_pay15 (k0_pay4 (m7 m c t)) (k0_pay6 (iblk m c 0 t) (iblk m c 1 t) (m7 m c t) (iblk m c 2 t)) (k0_pay7 (iblk m c 0 t) (iblk m c 1 t) (m7 m c t) (iblk m c 2 t))
    (k0_pay11 (iblk m c 0 t) (iblk m c 1 t) (m7 m c t) (iblk m c 2 t) (iblk m c 4 t) (iblk m c 3 t)) (k0_pay12 (iblk m c 0 t) (iblk m c 1 t) (m7 m c t) (iblk m c 2 t) (iblk m c 4 t) (iblk m c 3 t))
variable (m c) in
abbrev V16 (t : Fin cfg0.N) : FVec Ideal S1024x512 .bf16 :=
  k0_pay16 (k0_pay4 (m7 m c t)) (k0_pay6 (iblk m c 0 t) (iblk m c 1 t) (m7 m c t) (iblk m c 2 t)) (k0_pay7 (iblk m c 0 t) (iblk m c 1 t) (m7 m c t) (iblk m c 2 t))
    (k0_pay11 (iblk m c 0 t) (iblk m c 1 t) (m7 m c t) (iblk m c 2 t) (iblk m c 4 t) (iblk m c 3 t)) (k0_pay12 (iblk m c 0 t) (iblk m c 1 t) (m7 m c t) (iblk m c 2 t) (iblk m c 4 t) (iblk m c 3 t))

theorem block6 (t : Fin cfg0.N) : (outsAt0 m c t.val t.isLt).1 = V13 m c t := by
  by_cases h : t.val % 8 = 0
  · rw [outsAt0_A m c t h]; frame_out; rfl
  · rw [outsAt0_B m c t h]; frame_out; rfl
theorem block7 (t : Fin cfg0.N) : (outsAt0 m c t.val t.isLt).2.1 = V15 m c t := by
  by_cases h : t.val % 8 = 0
  · rw [outsAt0_A m c t h]; frame_out; rfl
  · rw [outsAt0_B m c t h]; frame_out; rfl
theorem block8 (t : Fin cfg0.N) : (outsAt0 m c t.val t.isLt).2.2.1 = V16 m c t := by
  by_cases h : t.val % 8 = 0
  · rw [outsAt0_A m c t h]; frame_out; rfl
  · rw [outsAt0_B m c t h]; frame_out; rfl

/-- A row of the array that the first point zeroes. -/
theorem zero_row (inb : ∀ a, (![0, 0] : Fin 2 → ℕ) a + (![8, 1024] : Fin 2 → ℕ) a ≤ (⟨2, ![8, 1024]⟩ : Shape).size a) (k : Fin 8) (e : Fin 1024) :
    (View.canon (Val := Elt Ideal) (e := .f32) [⟨Rect.unit (s := ⟨2, ![8, 1024]⟩) ![0, 0] ![8, 1024] inb, k0_pay3 (F := Ideal)⟩] (ix2 k e : (⟨2, ![8, 1024]⟩ : Shape).Idx) : EReal) = 0 := by
  refine band _ _ _ k e _ (fun i hi => ?_) fun h => ?_
  · pointwise [k0_pay3]
  · have := k.isLt; omega

theorem acc_A (H : Holds m I c) (t : Fin cfg0.N) (h : t.val % 8 = 0) (k : Fin 8) (e : Fin 1024) :
    ((outsAt0 m c t.val t.isLt).2.2.2 (ix2 k e) : EReal) = ∑ i, I.acc k e (rows t i) := by
  rw [outsAt0_A m c t h]
  frame_out
  refine band _ _ _ k e _ (fun i hi => ?_) fun h2 => ?_
  · obtain rfl : i = 0 := Subsingleton.elim _ _
    obtain rfl : k = 2 := Fin.ext hi
    refine (p1 (reads H t) _ e).trans ?_
    rw [row_cov (o := 2) _ _ _ (2 : Fin 8) e rfl, band_skip _ _ _ _ _ (by decide), band_skip _ _ _ _ _ (by decide), zero_row]
    exact zero_add _
  refine band _ _ _ k e _ (fun i hi => ?_) fun h1 => ?_
  · obtain rfl : i = 0 := Subsingleton.elim _ _
    obtain rfl : k = 1 := Fin.ext hi
    refine (p18 (reads H t) _ e).trans ?_
    rw [row_cov (o := 1) _ _ _ (1 : Fin 8) e rfl, band_skip _ _ _ _ _ (by decide), zero_row]
    exact zero_add _
  refine band _ _ _ k e _ (fun i hi => ?_) fun h0 => ?_
  · obtain rfl : i = 0 := Subsingleton.elim _ _
    obtain rfl : k = 0 := Fin.ext (by simpa using hi)
    refine (p17 (reads H t) _ e).trans ?_
    rw [row_cov (o := 0) _ _ _ (0 : Fin 8) e rfl, zero_row]
    exact zero_add _
  refine (zero_row _ k e).trans ?_
  unfold In.acc
  rw [sum_congr rfl fun i _ => by rw [if_neg (by omega), if_neg (by omega), if_neg (by omega)]]
  exact sum_const_zero.symm

theorem acc_B (H : Holds m I c) (t : Fin cfg0.N) (h : ¬ t.val % 8 = 0) (k : Fin 8) (e : Fin 1024) :
    ((outsAt0 m c t.val t.isLt).2.2.2 (ix2 k e) : EReal) = (outsAt0 m c (t.val - 1) (by omega)).2.2.2 (ix2 k e) + ∑ i, I.acc k e (rows t i) := by
  rw [outsAt0_B m c t h]; frame_out
  refine band_read _ _ _ _ _ k e _ (fun i hi => ?_) fun h2 => ?_
  · obtain rfl : i = 0 := Subsingleton.elim _ _
    obtain rfl : k = 2 := Fin.ext hi
    refine (p1 (reads H t) _ e).trans (congrArg (· + _) ?_)
    pointwise
  refine band_read _ _ _ _ _ k e _ (fun i hi => ?_) fun h1 => ?_
  · obtain rfl : i = 0 := Subsingleton.elim _ _
    obtain rfl : k = 1 := Fin.ext hi
    refine (p18 (reads H t) _ e).trans (congrArg (· + _) ?_)
    pointwise
  refine band_read _ _ _ _ _ k e _ (fun i hi => ?_) fun h0 => ?_
  · obtain rfl : i = 0 := Subsingleton.elim _ _
    obtain rfl : k = 0 := Fin.ext (by simpa using hi)
    refine (p17 (reads H t) _ e).trans (congrArg (· + _) ?_)
    pointwise
  rw [View.writes_nil, (hs0_9 t).read_unread]
  refine (add_zero _).symm.trans (congrArg _ ?_)
  unfold In.acc
  rw [sum_congr rfl fun i _ => by rw [if_neg (by omega), if_neg (by omega), if_neg (by omega)]]
  exact sum_const_zero.symm

/-- The sums after a point: over the rows of the points so far. -/
theorem acc_at (H : Holds m I c) (k : Fin 8) (e : Fin 1024) : ∀ (n : ℕ) (hn : n < cfg0.N),
    ((outsAt0 m c n hn).2.2.2 (ix2 k e) : EReal) = ∑ r ∈ range ((n + 1) * 512), I.acc k e (row r)
  | 0, hn => by
    rw [sum_step, zero_mul, range_zero, sum_empty, zero_add]
    refine (acc_A H ⟨0, hn⟩ rfl k e).trans (sum_congr rfl fun i _ => ?_)
    simp only [rows]
    rw [zero_mul]
  | n + 1, hn => by
    have hN : n + 1 < 8 := lt_of_lt_of_eq hn N_0
    rw [sum_step, ← acc_at H k e n (Nat.lt_of_succ_lt hn)]
    exact acc_B H ⟨n + 1, hn⟩ (by simp only; omega) k e

theorem arr6 (H : Holds m I c) : (dats m 0 c).arrAt 6 cfg0.N = (fun i => (I.D (i 0) (i 1) : EReal) : FVec Ideal S4096x1024 .f32) := by
  refine (dats m 0 c).arrAt_eq_of_covers 6 _ (by decide +kernel) fun t _ y => ?_
  blk_simp
  rw [after0_6, block6]
  obtain ⟨i, e, rfl⟩ : ∃ i e, y = ix2 i e := ⟨y 0, y 1, eq_ix2 y⟩
  refine (p13 (reads H t) i e).trans ?_
  have := lt8 t; have := i.isLt
  have he : (win0_6.blk t).view.emb (ix2 i e) = (ix2 (rows t i) e : S4096x1024.Idx) := by
    unfold rows; rw [row_of _ (by omega)]; blk_ext [idx t]
  exact (congrArg (fun z : S4096x1024.Idx => (I.D (z 0) (z 1) : EReal)) he).symm

theorem arr7 (H : Holds m I c) : (dats m 0 c).arrAt 7 cfg0.N = (fun i => (I.DZ (i 0) (i 1) : EReal) : FVec Ideal S4096x1024 .bf16) := by
  refine (dats m 0 c).arrAt_eq_of_covers 7 _ (by decide +kernel) fun t _ y => ?_
  blk_simp
  rw [after0_7, block7]
  obtain ⟨i, e, rfl⟩ : ∃ i e, y = ix2 i e := ⟨y 0, y 1, eq_ix2 y⟩
  refine (p15 (reads H t) i e).trans ?_
  have := lt8 t; have := i.isLt
  have he : (win0_7.blk t).view.emb (ix2 i e) = (ix2 (rows t i) e : S4096x1024.Idx) := by
    unfold rows; rw [row_of _ (by omega)]; blk_ext [idx t]
  exact (congrArg (fun z : S4096x1024.Idx => (I.DZ (z 0) (z 1) : EReal)) he).symm

theorem arr8 (H : Holds m I c) : (dats m 0 c).arrAt 8 cfg0.N = (fun i => (I.DZ (i 1) (i 0) : EReal) : FVec Ideal S1024x4096 .bf16) := by
  refine (dats m 0 c).arrAt_eq_of_covers 8 _ (by decide +kernel) fun t _ y => ?_
  blk_simp
  rw [after0_8, block8]
  obtain ⟨e, i, rfl⟩ : ∃ e i, y = ix2 e i := ⟨y 0, y 1, eq_ix2 y⟩
  refine (p16 (reads H t) i e).trans ?_
  have := lt8 t; have := i.isLt
  have he : (win0_8.blk t).view.emb (ix2 e i) = (ix2 e (rows t i) : S1024x4096.Idx) := by
    unfold rows; rw [row_of _ (by omega)]; blk_ext [idx t]
  exact (congrArg (fun z : S1024x4096.Idx => (I.DZ (z 1) (z 0) : EReal)) he).symm

theorem last9 : ∀ t : Fin cfg0.N, (cfg0.win 9).flush t = true → t.val = 7 :=
  (by decide +kernel : ∀ t : Fin grid0.N, _)

theorem arr9 (H : Holds m I c) : (dats m 0 c).arrAt 9 cfg0.N = (fun i => ∑ r, I.acc (i 0) (i 1) r : FVec Ideal S8x1024 .f32) := by
  refine (dats m 0 c).arrAt_eq_of_covers 9 _ (by decide +kernel) fun t ht y => ?_
  have h7 := last9 t ht
  blk_simp
  rw [after0_9]
  obtain ⟨k, e, rfl⟩ : ∃ k e, y = ix2 k e := ⟨y 0, y 1, eq_ix2 y⟩
  refine (acc_at H k e t.val t.isLt).trans ?_
  rw [h7, sum_all]
  have he : (win0_9.blk t).view.emb (ix2 k e) = (ix2 k e : S8x1024.Idx) := by blk_ext [idx t]
  exact (congrArg (fun z : S8x1024.Idx => ∑ r, I.acc (z 0) (z 1) r) he).symm

end Cert.Kernel6Ideal.Final
end
-- ==== Proof.FinalRef.lean ====
/-
The differentiated reference of the loss, line by line over real numbers.
-/
module

public import proofs.«01_k».proof.Proof.Final
public import proofs.«01_k».proof.Proof.Gen.Reference6Ideal.Read

@[expose] public section

set_option maxRecDepth 16384

noncomputable section
namespace Cert.Reference6Ideal.Final
open Idealize.ShloMosaic Idealize.ShloMosaic.TcCoe Idealize.SL.Sem
open Cert.Reference6Ideal Cert.Reference6Ideal.Gen Cert.Reference6Ideal.Read Cert.Norm Finset
open Cert.Kernel6Ideal.Final (In coe_max lit_two lit_half)

/-- The arguments hold these numbers. -/
structure Args (I : In) (x0 : FVec Ideal S4096x4096 .f32) (x1 x2 x3 : FVec Ideal S4096x1024 .f32) (x4 : FVec Ideal S1024 .f32) (x5 : FVec Ideal S6144 .f32) : Prop where
  u : ∀ r k, (x0 (ix2 r k) : EReal) = (I.u r k : EReal)
  w : ∀ k e, (x1 (ix2 k e) : EReal) = (I.w k e : EReal)
  x : ∀ r e, (x2 (ix2 r e) : EReal) = (I.x r e : EReal)
  y : ∀ r e, (x3 (ix2 r e) : EReal) = (I.y r e : EReal)
  g : ∀ e, (x4 (ix1 e) : EReal) = (I.g e : EReal)
  md : ∀ e, (x5 (ix1 e) : EReal) = (I.md e : EReal)

variable {I : In} {x0 : FVec Ideal S4096x4096 .f32} {x1 x2 x3 : FVec Ideal S4096x1024 .f32} {x4 : FVec Ideal S1024 .f32} {x5 : FVec Ideal S6144 .f32}
  (R : Args I x0 x1 x2 x3 x4 x5)
include R

theorem r0 (r k : Fin 4096) : (val_main_v0 (F := Ideal) x0 (ix2 r k) : EReal) = ((max (I.u r k) 0 : ℝ) : EReal) := by
  rw [coe_max]
  unfold val_main_v0 val_main_call0_v0 val_main_call0_cst; pointwise [R.u]
theorem r2 (r : Fin 4096) (e : Fin 1024) : (val_main_v2 (F := Ideal) x0 x1 (ix2 r e) : EReal) = (I.Z r e : EReal) := by
  unfold val_main_v2 val_main_v1 In.Z; pointwise [r0 R, R.w]
  simp only [← EReal.coe_mul, ← coe_sum]
theorem r8 (e : Fin 1024) : (val_main_v8 (F := Ideal) x5 (ix1 e) : EReal) = (I.g2 e : EReal) := by
  unfold In.g2; rw [← R.md]; unfold val_main_v8; pointwise
theorem r12 (r : Fin 4096) (e : Fin 1024) : (val_main_v12 (F := Ideal) x0 x1 x2 x5 (ix2 r e) : EReal) = (I.X r e : EReal) := by
  unfold val_main_v12 val_main_v11 val_main_v10 val_main_v9 In.X
  pointwise [R.x, r2 R, r8 R]
  simp only [← EReal.coe_mul, ← EReal.coe_add]
theorem r19 (r : Fin 4096) : (val_main_v19 (F := Ideal) x0 x1 x2 x5 (ix2 r 0) : EReal) = (ms (I.X r) : EReal) := by
  unfold val_main_v19 val_main_v18 val_main_v17 val_main_v16 val_main_v15 val_main_v14 val_main_v13 val_main_cst val_main_cst_0 val_main_cst_1 ms
  pointwise [r12 R]
  simp only [lit_1024, lit_eps, ← EReal.coe_mul, ← coe_sum, div_1024, ← EReal.coe_add]
theorem r20 (r : Fin 4096) : (val_main_v20 (F := Ideal) x0 x1 x2 x5 (ix2 r 0) : EReal) = (rs (I.X r) : EReal) := by
  rw [← rsqrt_ms]; unfold val_main_v20; pointwise [r19 R]
theorem r23 (r : Fin 4096) : (val_main_v23 (F := Ideal) x0 x1 x2 x5 (ix2 r 0) : EReal) = ((-(1/2) * (rs (I.X r) / ms (I.X r)) : ℝ) : EReal) := by
  unfold val_main_v23 val_main_v22 val_main_v21 val_main_cst_2; pointwise [r19 R, r20 R]
  simp only [lit_neg_half, div_ms, ← EReal.coe_mul]
theorem r25 (r : Fin 4096) (e : Fin 1024) : (val_main_v25 (F := Ideal) x0 x1 x2 x5 (ix2 r e) : EReal) = ((I.X r e * rs (I.X r) : ℝ) : EReal) := by
  unfold val_main_v25 val_main_v24; pointwise [r12 R, r20 R]
  exact (EReal.coe_mul _ _).symm
theorem r29 (r : Fin 4096) (e : Fin 1024) : (val_main_v29 (F := Ideal) x0 x1 x2 x3 x4 x5 (ix2 r e) : EReal) = (I.E r e : EReal) := by
  unfold val_main_v29 val_main_v28 val_main_v27 val_main_v26 In.E; pointwise [r25 R, R.g, R.y]
  simp only [← EReal.coe_mul, ← EReal.coe_sub]
theorem r43 (r : Fin 4096) (e : Fin 1024) : (val_main_v43 (F := Ideal) x0 x1 x2 x3 x4 x5 (ix2 r e) : EReal) = (I.C r e : EReal) := by
  have e1 : I.C r e = 1 / 2 * 1 / 1024 * (2 * I.E r e) := by unfold In.C; ring
  rw [e1]
  unfold val_main_v43 val_main_v42 val_main_v41 val_main_v40 val_main_v39 val_main_v38 val_main_v32 val_main_v31 val_main_cst_3 val_main_cst_8 val_main_cst_9 val_main_cst_10
  pointwise [r29 R]
  simp only [lit_1024, lit_two, lit_half, ← EReal.coe_one, ← EReal.coe_mul, div_1024]
theorem r48 (r : Fin 4096) (e : Fin 1024) : (val_main_v48 (F := Ideal) x0 x1 x2 x3 x4 x5 (ix2 r e) : EReal) = (I.H r e : EReal) := by
  unfold val_main_v48 val_main_v47 val_main_v26 In.H; pointwise [r43 R, R.g]
  exact (EReal.coe_mul _ _).symm
theorem r58 (r : Fin 4096) : (val_main_v58 (F := Ideal) x0 x1 x2 x3 x4 x5 (ix1 r) : EReal)
    = (((∑ e, I.X r e * I.H r e) * (-(1/2) * (rs (I.X r) / ms (I.X r))) / 1024 : ℝ) : EReal) := by
  unfold val_main_v58 val_main_v57 val_main_v56 val_main_v55 val_main_v52 val_main_v51 val_main_v50 val_main_cst_13 val_main_cst_14 val_main_cst_15
  pointwise [r12 R, r48 R]
  rw [Fin.sum_univ_one, show val_main_v23 (F := Ideal) x0 x1 x2 x5 (ix2 r 0) = _ from r23 R r]
  simp only [lit_1024, ← EReal.coe_mul, ← coe_sum, div_1024]
theorem r63 (r : Fin 4096) (e : Fin 1024) : (val_main_v63 (F := Ideal) x0 x1 x2 x3 x4 x5 (ix2 r e) : EReal) = (I.D r e : EReal) := by
  unfold In.D
  rw [← grad_eq]
  unfold val_main_v63 val_main_v62 val_main_v61 val_main_v60 val_main_v59 val_main_v54 val_main_v53
  pointwise [r12 R, r48 R, r20 R, r58 R]
  simp only [← EReal.coe_mul, ← EReal.coe_add, add_assoc]
theorem r65 (r : Fin 4096) (e : Fin 1024) : (val_main_v65 (F := Ideal) x0 x1 x2 x3 x4 x5 (ix2 r e) : EReal) = (I.DZ r e : EReal) := by
  unfold val_main_v65 val_main_v64 val_main_v9 In.DZ
  pointwise [r63 R, r8 R]
  exact (EReal.coe_mul _ _).symm
theorem r95 (r : Fin 4096) (e : Fin 1024) : (val_main_v95 (F := Ideal) x0 x1 x2 x3 x4 x5 (ix2 r e) : EReal) = (I.DZ r e : EReal) := by
  unfold val_main_v95; pointwise [r65 R]
theorem r97 (r : Fin 4096) (e : Fin 1024) : (val_main_v97 (F := Ideal) x0 x1 x2 x3 x4 x5 (ix2 e r) : EReal) = (I.DZ r e : EReal) := by
  unfold val_main_v97 val_main_v96; pointwise [r65 R]

/-- The residual stream once more, for the loss itself. -/
theorem r73 (r : Fin 4096) (e : Fin 1024) : (val_main_v73 (F := Ideal) x0 x1 x2 x5 (ix2 r e) : EReal) = (I.X r e : EReal) := by
  unfold val_main_v73 val_main_v72 val_main_v71 val_main_v70 In.X
  pointwise [R.x, r2 R, r8 R]
  simp only [← EReal.coe_mul, ← EReal.coe_add]
theorem r81 (r : Fin 4096) : (val_main_v81 (F := Ideal) x0 x1 x2 x5 (ix2 r 0) : EReal) = (rs (I.X r) : EReal) := by
  rw [← rsqrt_ms]
  unfold val_main_v81 val_main_v80 val_main_v79 val_main_v78 val_main_v77 val_main_v76 val_main_v75 val_main_v74 val_main_cst_18 val_main_cst_19 val_main_cst_20 ms
  pointwise [r73 R]
  simp only [lit_1024, lit_eps, ← EReal.coe_mul, ← coe_sum, div_1024, ← EReal.coe_add]
theorem r87 (r : Fin 4096) (e : Fin 1024) : (val_main_v87 (F := Ideal) x0 x1 x2 x3 x4 x5 (ix2 r e) : EReal) = (I.E r e : EReal) := by
  unfold val_main_v87 val_main_v86 val_main_v85 val_main_v84 val_main_v83 val_main_v82 In.E; pointwise [r73 R, r81 R, R.g, R.y]
  simp only [← EReal.coe_mul, ← EReal.coe_sub]

/-- The three sums. -/
theorem r49 (e : Fin 1024) : (val_main_v49 (F := Ideal) x0 x1 x2 x3 x4 x5 (ix1 e) : EReal) = ∑ r, I.acc 0 e r := by
  unfold val_main_v49 val_main_v46 val_main_v45 val_main_v44 val_main_cst_11 val_main_cst_12; pointwise [r25 R, r43 R, In.acc]
  refine (Fin.sum_univ_one _).trans ?_
  refine sum_congr rfl fun r _ => ?_
  rw [← EReal.coe_mul]; congr 1; ring
theorem r69 (e : Fin 1024) : (val_main_v69 (F := Ideal) x0 x1 x2 x3 x4 x5 (ix1 e) : EReal) = ∑ r, I.acc 1 e r := by
  unfold val_main_v69 val_main_v68 val_main_v67 val_main_v66 val_main_cst_16 val_main_cst_17; pointwise [r63 R, r2 R, In.acc]
  refine (Fin.sum_univ_one _).trans ?_
  exact sum_congr rfl fun r _ => (EReal.coe_mul _ _).symm
theorem r91 (e : Fin 1024) : (val_main_v91 (F := Ideal) x0 x1 x2 x3 x4 x5 (ix1 e) : EReal) = ∑ r, I.acc 2 e r := by
  unfold val_main_v91 val_main_v88 val_main_cst_21; pointwise [r87 R, In.acc]
  exact sum_congr rfl fun r _ => (EReal.coe_mul _ _).symm
theorem r94 (k : Fin 8) (e : Fin 1024) : (val_main_v94 (F := Ideal) x0 x1 x2 x3 x4 x5 (ix2 k e) : EReal) = ∑ r, I.acc k e r := by
  have h0 := r49 R e; have h1 := r69 R e; have h2 := r91 R e
  unfold val_main_v94 val_main_v93 val_main_v92 val_main_v90 val_main_v89 val_main_cst_22
  match k with
  | 0 => pointwise; exact h0
  | 1 => pointwise; exact h1
  | 2 => pointwise; exact h2
  | 3 | 4 | 5 | 6 | 7 => pointwise [In.acc]; exact sum_const_zero.symm

end Cert.Reference6Ideal.Final
end
-- ==== Proof.FinalPre.lean ====
/-
The precondition of the loss's call: every element of the arguments that are multiplied is a real number.
-/
module

public import proofs.«01_k».proof.Pre_final_finite
public import proofs.«01_k».proof.Proof.Finite

@[expose] public section

noncomputable section
namespace Cert.Pre_final_finite
open Idealize.ShloMosaic Idealize.ShloMosaic.TcCoe Idealize.SL.Sem Cert.Finite

/-- The function's side conditions. -/
theorem facts : Facts := by
  constructor <;> decide +kernel

variable [Facts]
open Facts

theorem all_real (x0 : FVec Ideal S4096x4096 .f32) (x1 x2 x3 : FVec Ideal S4096x1024 .f32) (x4 : FVec Ideal S1024 .f32) (x5 x6 : FVec Ideal S6144 .f32)
    (h : fn (F := Ideal) x0 x1 x2 x3 x4 x5 x6 = fun _ => 1#1) :
    (∀ i, ((show EReal from x0 i).toReal : EReal) = x0 i) ∧ (∀ i, ((show EReal from x1 i).toReal : EReal) = x1 i) ∧ (∀ i, ((show EReal from x2 i).toReal : EReal) = x2 i)
      ∧ (∀ i, ((show EReal from x3 i).toReal : EReal) = x3 i) ∧ (∀ i, ((show EReal from x4 i).toReal : EReal) = x4 i) ∧ (∀ i, ((show EReal from x5 i).toReal : EReal) = x5 i) := by
  have h' : andi (andi (andi (andi (andi (test bcast_S_S4096x4096 reducesTo_S4096x4096_S_d0_1 h_S_ x0) (test bcast_S_S4096x1024 reducesTo_S4096x1024_S_d0_1 h_S_ x1))
    (test bcast_S_S4096x1024 reducesTo_S4096x1024_S_d0_1 h_S_ x2)) (test bcast_S_S4096x1024 reducesTo_S4096x1024_S_d0_1 h_S_ x3)) (test bcast_S_S1024 reducesTo_S1024_S_d0 h_S_ x4))
    (test bcast_S_S6144 reducesTo_S6144_S_d0 h_S_ x5) ix0 = 1#1 := congrFun h ix0
  obtain ⟨h', h5⟩ := and_one _ _ h'
  obtain ⟨h', h4⟩ := and_one _ _ h'
  obtain ⟨h', h3⟩ := and_one _ _ h'
  obtain ⟨h', h2⟩ := and_one _ _ h'
  obtain ⟨h0, h1⟩ := and_one _ _ h'
  exact ⟨reals _ _ _ x0 h0, reals _ _ _ x1 h1, reals _ _ _ x2 h2, reals _ _ _ x3 h3, reals _ _ _ x4 h4, reals _ _ _ x5 h5⟩

end Cert.Pre_final_finite
end
-- ==== Proof.FinalClaim.lean ====
/-
The call of the loss and of the final norm's gradient: its frames, and its results are those of the differentiated reference.
-/
module

public import proofs.«01_k».proof.Defs
public import proofs.«01_k».proof.Proof.FinalPoint
public import proofs.«01_k».proof.Proof.FinalRef
public import proofs.«01_k».proof.Proof.FinalPre
public import proofs.«01_k».proof.Proof.Gen.Kernel6.Frame
public import proofs.«01_k».proof.Proof.Gen.Kernel6Ideal.Value
public import proofs.«01_k».proof.Proof.Gen.Reference6Ideal.Run
public import Idealize.ShloMosaic.Lib.Quiescent

@[expose] public section

set_option maxRecDepth 16384

noncomputable section
namespace Cert.Proof6
open Idealize.ShloMosaic Idealize.ShloMosaic.TcCoe Idealize.SL.Sem
open Cert.Kernel6Ideal Cert.Kernel6Ideal.Final Finset

abbrev Mem := (ℓ : Loc nD τ sig) → Buf (Elt Ideal) ℓ

section
variable (m : Mem) (c : Dev nD)

/-- The arguments as arrays of extended reals. -/
abbrev a0 : S4096x4096.Idx → EReal := m ((c.tc : Thread nD τ).loc main_arg0)
abbrev a1 : S4096x1024.Idx → EReal := m ((c.tc : Thread nD τ).loc main_arg1)
abbrev a2 : S4096x1024.Idx → EReal := m ((c.tc : Thread nD τ).loc main_arg2)
abbrev a3 : S4096x1024.Idx → EReal := m ((c.tc : Thread nD τ).loc main_arg3)
abbrev a4 : S1024.Idx → EReal := m ((c.tc : Thread nD τ).loc main_arg4)
abbrev a5 : S6144.Idx → EReal := m ((c.tc : Thread nD τ).loc main_arg5)
abbrev a6 : S6144.Idx → EReal := m ((c.tc : Thread nD τ).loc main_arg6)

/-- The numbers that the launched arrays hold. -/
def inOf : In where
  u r k := (a0 m c (ix2 r k)).toReal
  w k e := (a1 m c (ix2 k e)).toReal
  x r e := (a2 m c (ix2 r e)).toReal
  y r e := (a3 m c (ix2 r e)).toReal
  g e := (a4 m c (ix1 e)).toReal
  md e := (a5 m c (ix1 e)).toReal
end

theorem args [Cert.Pre_final_finite.Facts] {m : Mem} {c : Dev nD}
    (h : Cert.Pre_final_finite.fn (F := Ideal) (a0 m c) (a1 m c) (a2 m c) (a3 m c) (a4 m c) (a5 m c) (a6 m c) = fun _ => 1#1) :
    Cert.Reference6Ideal.Final.Args (inOf m c) (a0 m c) (a1 m c) (a2 m c) (a3 m c) (a4 m c) (a5 m c) := by
  obtain ⟨h0, h1, h2, h3, h4, h5⟩ := Cert.Pre_final_finite.all_real _ _ _ _ _ _ _ h
  exact ⟨fun r e => (h0 _).symm, fun r e => (h1 _).symm, fun r e => (h2 _).symm, fun r e => (h3 _).symm, fun e => (h4 _).symm, fun e => (h5 _).symm⟩

theorem holds {m : Mem} {c : Dev nD} (A : Cert.Reference6Ideal.Final.Args (inOf m c) (a0 m c) (a1 m c) (a2 m c) (a3 m c) (a4 m c) (a5 m c)) :
    Holds m (inOf m c) c := ⟨A.u, A.w, A.x, A.y, A.g, A.md⟩

def res0 (m : Mem) (c : Dev nD) : S4096x1024.Idx → EReal := fun i => ((inOf m c).D (i 0) (i 1) : EReal)
def res1 (m : Mem) (c : Dev nD) : S4096x1024.Idx → EReal := fun i => ((inOf m c).DZ (i 0) (i 1) : EReal)
def res2 (m : Mem) (c : Dev nD) : S1024x4096.Idx → EReal := fun i => ((inOf m c).DZ (i 1) (i 0) : EReal)
def res3 (m : Mem) (c : Dev nD) : S8x1024.Idx → EReal := fun i => ∑ r, (inOf m c).acc (i 0) (i 1) r

theorem quiescent_Kernel6 : Cert.quiescent_Kernel6 := fun m ρ _ => Cert.Kernel6.Gen.frame m ρ

theorem quiescent_Kernel6Ideal : Cert.quiescent_Kernel6Ideal := fun m ρ _ => Cert.Kernel6Ideal.Gen.frame m ρ

theorem quiescent_Kernel6Ideal_pre [hP : Cert.Pre_final_finite.Facts] : Cert.quiescent_Kernel6Ideal_pre_final_finite :=
  fun m ρ _ => Cert.Kernel6Ideal.Gen.frame m ρ

theorem quiescent_Reference6Ideal : Cert.quiescent_Reference6Ideal := fun m ρ _ =>
  (θ_run Cert.Reference6Ideal.defs _ _).mono (fun r h => ⟨fun c => (h c).2.2.2.2, sem_eq_zero_of_no_sems (by decide) r.2⟩)
    (Cert.Reference6Ideal.Value.run (F := Ideal) m ρ)

theorem quiescent_Reference6Ideal_pre [hP : Cert.Pre_final_finite.Facts] : Cert.quiescent_Reference6Ideal_pre_final_finite :=
  fun m ρ _ => quiescent_Reference6Ideal m ρ trivial

set_option maxHeartbeats 1600000 in
theorem algebraic [hP : Cert.Pre_final_finite.Facts] : Cert.algebraic_Kernel6Ideal_Reference6Ideal_pre_final_finite := by
  intro m ρ m' ρ' hpre hagree
  have A := fun c => args (hpre c)
  refine ⟨res0 m, res1 m, res2 m, res3 m, ?_, ?_⟩
  · exact (θ_run Cert.Kernel6Ideal.defs _ _).mono (fun r h c => ⟨(h c).1.trans (arr6 (holds (A c))), (h c).2.1.trans (arr7 (holds (A c))),
      (h c).2.2.1.trans (arr8 (holds (A c))), (h c).2.2.2.1.trans (arr9 (holds (A c))), (h c).2.2.2.2⟩) (Cert.Kernel6Ideal.Value.run_blocks (F := Ideal) m ρ)
  · refine (θ_run Cert.Reference6Ideal.defs _ _).mono (fun r h c => ?_) (Cert.Reference6Ideal.Value.run (F := Ideal) m' ρ')
    obtain ⟨e0, e1, e2, e3, ea⟩ := h c
    obtain ⟨g0, g1, g2, g3, g4, g5, g6⟩ := hagree c
    have B := A c
    simp only [a0, a1, a2, a3, a4, a5] at B
    rw [← g0, ← g1, ← g2, ← g3, ← g4, ← g5] at B
    refine ⟨e0.trans ((Cert.Reference6Ideal.Read.val_main_v63_eq _ _).trans (funext fun y => ?_)), e1.trans ((Cert.Reference6Ideal.Read.val_main_v95_eq _ _).trans (funext fun y => ?_)),
      e2.trans ((Cert.Reference6Ideal.Read.val_main_v97_eq _ _).trans (funext fun y => ?_)), e3.trans ((Cert.Reference6Ideal.Read.val_main_v94_eq _ _).trans (funext fun y => ?_)), ea⟩
    · obtain ⟨i, e, rfl⟩ : ∃ (i : Fin 4096) (e : Fin 1024), y = ix2 i e := ⟨y 0, y 1, eq_ix2 y⟩
      exact Cert.Reference6Ideal.Final.r63 B i e
    · obtain ⟨i, e, rfl⟩ : ∃ (i : Fin 4096) (e : Fin 1024), y = ix2 i e := ⟨y 0, y 1, eq_ix2 y⟩
      exact Cert.Reference6Ideal.Final.r95 B i e
    · obtain ⟨e, i, rfl⟩ : ∃ (e : Fin 1024) (i : Fin 4096), y = ix2 e i := ⟨y 0, y 1, eq_ix2 y⟩
      exact Cert.Reference6Ideal.Final.r97 B i e
    · obtain ⟨k, e, rfl⟩ : ∃ (k : Fin 8) (e : Fin 1024), y = ix2 k e := ⟨y 0, y 1, eq_ix2 y⟩
      exact Cert.Reference6Ideal.Final.r94 B k e

end Cert.Proof6
end
-- ==== Proof.Norm1.lean ====
/-
The call of the first norm's gradient: its arguments as real numbers, and the blocks that a grid point reads.
-/
module

public import proofs.«01_k».proof.Proof.Gen.Kernel5Ideal.Value
public import Idealize.ShloMosaic.Lib.Pipeline.ValueKit
public import proofs.«01_k».proof.Proof.NormMath

@[expose] public section

set_option maxRecDepth 16384

noncomputable section

open Idealize.ShloMosaic Idealize.ShloMosaic.TcCoe Idealize.SL.Sem
open Idealize.ShloMosaic.Pipeline (Dat)

namespace Cert.Kernel5Ideal.Norm1
open Cert.Kernel5Ideal Cert.Kernel5Ideal.Gen Cert.Norm Finset

/-- The call's arguments as real numbers; the cotangent that is only added is any number. -/
structure In where
  ctx : Fin 256 → Fin 1024 → ℝ
  x : Fin 4096 → Fin 1024 → ℝ
  md : Fin 6144 → ℝ
  mc : Fin 6144 → ℝ
  g : Fin 1024 → ℝ
  w : Fin 1024 → Fin 3072 → ℝ
  d : Fin 4096 → Fin 1024 → EReal
  p : Fin 4352 → Fin 3072 → ℝ

/-- A row of the sequence among the rows with the context before it. -/
def up (r : Fin 4096) : Fin 4352 := ⟨256 + r.val, by have := r.isLt; omega⟩
def cx (r : Fin 256) : Fin 4352 := ⟨r.val, by have := r.isLt; omega⟩

namespace In
variable (I : In)
/-- The norm's input and the modulation's scale, in the context and after it; the product's gradient, the norm's and its input's. -/
def X (r : Fin 4352) (e : Fin 1024) : ℝ := if h : r.val < 256 then I.ctx ⟨r.val, h⟩ e else I.x ⟨r.val - 256, by have := r.isLt; omega⟩ e
def sc (r : Fin 4352) (e : Fin 1024) : ℝ :=
  if r.val < 256 then I.mc ⟨1024 + e.val, by have := e.isLt; omega⟩ else I.md ⟨1024 + e.val, by have := e.isLt; omega⟩
def A (r : Fin 4352) (e : Fin 1024) : ℝ := ∑ k, I.p r k * I.w e k
def N (r : Fin 4352) (e : Fin 1024) : ℝ := I.A r e * (1 + I.sc r e)
def H (r : Fin 4352) (e : Fin 1024) : ℝ := I.N r e * I.g e
def D (r : Fin 4096) (e : Fin 1024) : EReal := I.d r e + ((grad (I.X (up r)) (I.H (up r)) e : ℝ) : EReal)
def B (r : Fin 4352) (e : Fin 1024) : ℝ := I.A r e * (I.X r e * rs (I.X r)) * I.g e
/-- What each row adds to the five sums. -/
def acc (k : Fin 8) (e : Fin 1024) (r : Fin 4352) : ℝ :=
  if k.val = 0 then (if r.val < 256 then I.A r e else 0)
  else if k.val = 1 then (if r.val < 256 then I.B r e else 0)
  else if k.val = 2 then (if r.val < 256 then 0 else I.A r e)
  else if k.val = 3 then (if r.val < 256 then 0 else I.B r e)
  else if k.val = 4 then I.N r e * (I.X r e * rs (I.X r)) else 0

theorem X_cx (r : Fin 256) (e : Fin 1024) : I.X (cx r) e = I.ctx r e := dif_pos r.isLt
theorem X_up (r : Fin 4096) (e : Fin 1024) : I.X (up r) e = I.x r e :=
  (dif_neg (by simp [up])).trans (congrArg (fun r => I.x r e) (Fin.ext (Nat.add_sub_cancel_left ..)))
theorem sc_cx (r : Fin 256) (e : Fin 1024) : I.sc (cx r) e = I.mc ⟨1024 + e.val, by have := e.isLt; omega⟩ := if_pos r.isLt
theorem sc_up (r : Fin 4096) (e : Fin 1024) : I.sc (up r) e = I.md ⟨1024 + e.val, by have := e.isLt; omega⟩ := if_neg (by simp [up])
end In

/-- A row of all, by its number. -/
def rowc (r : ℕ) : Fin 4352 := ⟨r % 4352, Nat.mod_lt _ (by norm_num)⟩
theorem rowc_of (r : ℕ) (h : r < 4352) : rowc r = ⟨r, h⟩ := Fin.ext (Nat.mod_eq_of_lt h)

/-- A sum over the rows, tile by tile. -/
theorem sumc_step (f : Fin 4352 → EReal) (n : ℕ) : ∑ r ∈ range ((n + 1) * 256), f (rowc r)
    = ∑ r ∈ range (n * 256), f (rowc r) + ∑ i : Fin 256, f (rowc (n * 256 + i.val)) := by
  rw [show (n + 1) * 256 = n * 256 + 256 by ring, sum_range_add, sum_range (fun x => f (rowc (n * 256 + x)))]
theorem sumc_all (f : Fin 4352 → EReal) : ∑ r ∈ range (17 * 256), f (rowc r) = ∑ r : Fin 4352, f r := by
  rw [show 17 * 256 = 4352 by norm_num, sum_range]
  exact sum_congr rfl fun r _ => by rw [rowc_of r.val r.isLt]
/-- The context's rows and the sequence's. -/
theorem sumc_split (f : Fin 4352 → EReal) : ∑ r, f r = ∑ r, f (cx r) + ∑ r, f (up r) :=
  Fin.sum_univ_add (M := EReal) (a := 256) (b := 4096) f

variable (m : (ℓ : Loc nD τ sig) → Buf (Elt Ideal) ℓ)

/-- The launched arrays hold these numbers. -/
structure Holds (I : In) (c : Dev nD) : Prop where
  ctx : ∀ r e, (show EReal from m ((c : Thread nD τ).loc main_arg0) (ix2 r e)) = (I.ctx r e : EReal)
  x : ∀ r e, (show EReal from m ((c : Thread nD τ).loc main_arg1) (ix2 r e)) = (I.x r e : EReal)
  md : ∀ e, (show EReal from m ((c : Thread nD τ).loc main_arg2) (ix1 e)) = (I.md e : EReal)
  mc : ∀ e, (show EReal from m ((c : Thread nD τ).loc main_arg3) (ix1 e)) = (I.mc e : EReal)
  g : ∀ e, (show EReal from m ((c : Thread nD τ).loc main_arg4) (ix1 e)) = (I.g e : EReal)
  w : ∀ e k, (show EReal from m ((c : Thread nD τ).loc main_arg5) (ix2 e k)) = (I.w e k : EReal)
  d : ∀ r e, (show EReal from m ((c : Thread nD τ).loc main_arg6) (ix2 r e)) = I.d r e
  p : ∀ r k, (show EReal from m ((c : Thread nD τ).loc main_arg7) (ix2 r k)) = (I.p r k : EReal)

/-- Every window's block index at a grid point. -/
theorem idx : ∀ t : Fin cfg0.N, win0_0.index t = ![t.val, 0] ∧ win0_1.index t = ![0, 0, 0]
    ∧ win0_2.index t = ![0, 0] ∧ win0_3.index t = ![t.val - 1, 0] ∧ win0_4.index t = ![t.val - 1, 0] ∧ win0_5.index t = ![0, 0]
    ∧ win0_6.index t = ![0, 0] ∧ win0_7.index t = ![t.val - 1, 0] ∧ win0_8.index t = ![0, 0] :=
  (by decide +kernel : ∀ t : Fin grid0.N, _)

variable {m} {I : In} {c : Dev nD}

/-! ## The arrays that the host prepares -/

theorem v2_at (H : Holds m I c) (b : Fin 8) (e : Fin 1024) (i : Fin 384) (k : Fin 3072) (hk : k.val = b.val * 384 + i.val) :
    (show EReal from V m c main_v2 (ix3 b e i)) = (I.w e k : EReal) := by
  have hlt : b.val * 384 + i.val < 3072 := by have := b.isLt; have := i.isLt; omega
  rw [show k = ⟨b.val * 384 + i.val, hlt⟩ from Fin.ext hk]
  rw [← H.w]
  entry_read; pointwise
theorem v3_at (H : Holds m I c) (r : Fin 4352) (k : Fin 3072) :
    (show EReal from V m c main_v3 (ix2 r k)) = (I.p r k : EReal) := by
  rw [← H.p]; entry_read; pointwise
theorem v4_at (H : Holds m I c) (e : Fin 1024) :
    (show EReal from V m c main_v4 (ix2 0 e)) = (I.g e : EReal) := by
  rw [← H.g]; entry_read; pointwise
theorem v8_at1 (H : Holds m I c) (e : Fin 1024) :
    (show EReal from V m c main_v8 (ix2 1 e)) = (I.mc ⟨1024 + e.val, by have := e.isLt; omega⟩ : EReal) := by
  rw [← H.mc]; entry_read; pointwise
theorem v8_at3 (H : Holds m I c) (e : Fin 1024) :
    (show EReal from V m c main_v8 (ix2 3 e)) = (I.md ⟨1024 + e.val, by have := e.isLt; omega⟩ : EReal) := by
  rw [← H.md]; entry_read; pointwise

/-! ## The blocks at a grid point -/

theorem lt17 (t : Fin cfg0.N) : t.val < 17 := lt_of_lt_of_eq t.isLt N_0

/-- The point's rows. -/
abbrev rows (t : Fin cfg0.N) (i : Fin 256) : Fin 4352 := rowc (t.val * 256 + i.val)
theorem rows_lt (t : Fin cfg0.N) (i : Fin 256) : (rows t i).val < 256 ↔ t.val = 0 := by
  have := lt17 t; have := i.isLt
  unfold rows; rw [rowc_of _ (by omega)]; simp only; omega
theorem rows_zero (t : Fin cfg0.N) (h : t.val = 0) (i : Fin 256) : rows t i = cx i := by
  have := lt17 t; have := i.isLt
  unfold rows; rw [rowc_of _ (by omega)]; exact Fin.ext (by simp only [cx]; omega)
/-- Past the context, the row of the sequence. -/
def seq (t : Fin cfg0.N) (i : Fin 256) : Fin 4096 := ⟨(t.val - 1) * 256 + i.val, by have := lt17 t; have := i.isLt; omega⟩
theorem rows_pos (t : Fin cfg0.N) (h : t.val ≠ 0) (i : Fin 256) : rows t i = up (seq t i) := by
  have := lt17 t; have := i.isLt
  unfold rows; rw [rowc_of _ (by omega)]; exact Fin.ext (by simp only [up, seq]; omega)

theorem b0_at (H : Holds m I c) (t : Fin cfg0.N) (i : Fin 256) (k : Fin 3072) :
    (show EReal from iblk m c 0 t (ix2 i k)) = (I.p (rows t i) k : EReal) := by
  have := lt17 t; have := i.isLt
  unfold rows; rw [rowc_of _ (by omega)]
  exact (congrArg (V m c main_v3) (by blk_ext [idx t])).trans (v3_at H _ k)
theorem iblk1 (c : Dev nD) (t : Fin cfg0.N) : iblk m c 1 t = V m c main_v2 := by blk_ext! [iblk, idx t]
theorem b2_at (H : Holds m I c) (t : Fin cfg0.N) (i : Fin 256) (e : Fin 1024) :
    (show EReal from iblk m c 2 t (ix2 i e)) = (I.ctx i e : EReal) :=
  (congrArg (V m c main_arg0) (by blk_ext [idx t])).trans ((congrFun (V_main_arg0 m c) _).trans (H.ctx _ e))
theorem b3_at (H : Holds m I c) (t : Fin cfg0.N) (i : Fin 256) (e : Fin 1024) :
    (show EReal from iblk m c 3 t (ix2 i e)) = (I.x (seq t i) e : EReal) := by
  have := lt17 t; have := i.isLt
  unfold seq
  exact (congrArg (V m c main_arg1) (by blk_ext [idx t])).trans ((congrFun (V_main_arg1 m c) _).trans (H.x _ e))
theorem b4_at (H : Holds m I c) (t : Fin cfg0.N) (i : Fin 256) (e : Fin 1024) :
    (show EReal from iblk m c 4 t (ix2 i e)) = I.d (seq t i) e := by
  have := lt17 t; have := i.isLt
  unfold seq
  exact (congrArg (V m c main_arg6) (by blk_ext [idx t])).trans ((congrFun (V_main_arg6 m c) _).trans (H.d _ e))
theorem b5_at (H : Holds m I c) (t : Fin cfg0.N) (e : Fin 1024) :
    (show EReal from iblk m c 5 t (ix2 0 e)) = (I.g e : EReal) :=
  (congrArg (V m c main_v4) (by blk_ext [idx t])).trans (v4_at H e)
theorem b6_at (t : Fin cfg0.N) (k : Fin 8) (e : Fin 1024) :
    iblk m c 6 t (ix2 k e) = V m c main_v8 (ix2 k e) :=
  congrArg (V m c main_v8) (by blk_ext [idx t])

end Cert.Kernel5Ideal.Norm1
end
-- ==== Proof.Norm1Tile.lean ====
/-
The call of the first norm's gradient: one grid point's arithmetic as real numbers.
-/
module

public import proofs.«01_k».proof.Proof.Norm1

@[expose] public section

set_option maxRecDepth 16384

noncomputable section

open Idealize.ShloMosaic Idealize.ShloMosaic.TcCoe Idealize.SL.Sem
open Idealize.ShloMosaic.Pipeline (Dat)

namespace Cert.Kernel5Ideal.Norm1
open Cert.Kernel5Ideal Cert.Kernel5Ideal.Gen Cert.Norm Finset

/-- Whether the point is the context's. -/
abbrev bit (j : grid0.Coords) : BitVec 1 := Scalar.cmpi .slt (BitVec.ofNat 32 (j 0).val) 1#32

/-- What a point reads, row `ρ i` of the arrays in its row `i`; `v11` and `v14` are the context's, `v12` and `v16` the sequence's. -/
structure Reads (I : In) (ρ : Fin 256 → Fin 4352) (j : grid0.Coords) (v3 : Vec Ideal S256x3072 .bf16) (v5 : Vec Ideal S3072x1024 .bf16)
    (v11 v12 : Vec Ideal S256x1024 .f32) (v29 v14 v16 : Vec Ideal S1x1024 .f32) : Prop where
  h7 : ∀ i, (ρ i).val < 256 ↔ bit j = 1#1
  h3 : ∀ i k, (v3 (ix2 i k) : EReal) = (I.p (ρ i) k : EReal)
  h5 : ∀ k e, (v5 (ix2 k e) : EReal) = (I.w e k : EReal)
  h14 : ∀ i e, (k0_pay14 (F := Ideal) j v11 v12 (ix2 i e) : EReal) = (I.X (ρ i) e : EReal)
  h18 : ∀ i e, (k0_pay18 (F := Ideal) j v14 v16 (ix2 0 e) : EReal) = ((1 + I.sc (ρ i) e : ℝ) : EReal)
  h29 : ∀ e, (v29 (ix2 0 e) : EReal) = (I.g e : EReal)

variable {I : In} {ρ : Fin 256 → Fin 4352} {j : grid0.Coords} {v3 : Vec Ideal S256x3072 .bf16} {v5 : Vec Ideal S3072x1024 .bf16}
    {v11 v12 : Vec Ideal S256x1024 .f32} {v29 v14 v16 : Vec Ideal S1x1024 .f32} (R : Reads I ρ j v3 v5 v11 v12 v29 v14 v16)
include R

theorem p12 (i : Fin 256) (e : Fin 1024) : (k0_pay12 (F := Ideal) v3 v5 (ix2 i e) : EReal) = (I.A (ρ i) e : EReal) := by
  unfold In.A
  pointwise [k0_pay12, R.h3, R.h5]
  simp only [← EReal.coe_mul, ← coe_sum]
theorem p15 (i : Fin 256) : (k0_pay15 (F := Ideal) j v11 v12 (ix2 i 0) : EReal) = (rs (I.X (ρ i)) : EReal) := by
  rw [← rsqrt_ms]
  unfold ms
  pointwise [k0_pay15, R.h14]
  simp only [lit_1024, lit_eps, ← EReal.coe_mul, ← coe_sum, div_1024, ← EReal.coe_add]
theorem p16 (i : Fin 256) (e : Fin 1024) : (k0_pay16 (F := Ideal) j v11 v12 (ix2 i e) : EReal) = ((I.X (ρ i) e * rs (I.X (ρ i)) : ℝ) : EReal) := by
  pointwise [k0_pay16, R.h14, p15 R]
  exact (EReal.coe_mul _ _).symm
theorem p17 (e : Fin 1024) : (k0_pay17 (F := Ideal) v29 (ix2 0 e) : EReal) = (I.g e : EReal) := by
  pointwise [k0_pay17, R.h29]
theorem p19 (i : Fin 256) (e : Fin 1024) : (k0_pay19 (F := Ideal) (k0_pay12 v3 v5) (k0_pay18 j v14 v16) (ix2 i e) : EReal) = (I.N (ρ i) e : EReal) := by
  have h := R.h18 i
  unfold In.N
  pointwise [k0_pay19, p12 R, h]
  exact (EReal.coe_mul _ _).symm
theorem p20 (v37 : Vec Ideal S256x1024 .f32) (i : Fin 256) (e : Fin 1024) :
    (k0_pay20 (F := Ideal) (k0_pay12 v3 v5) (k0_pay15 j v11 v12) (k0_pay16 j v11 v12) (k0_pay17 v29) (k0_pay18 j v14 v16) v37 (ix2 i e) : EReal)
      = v37 (ix2 i e) + ((grad (I.X (ρ i)) (I.H (ρ i)) e : ℝ) : EReal) := by
  unfold grad In.H
  pointwise [k0_pay20, p15 R, p16 R, p17 R, p19 R]
  simp only [lit_1024, ← EReal.coe_mul, ← coe_sum, div_1024, ← EReal.coe_sub]
theorem p21 (e : Fin 1024) : (k0_pay21 (F := Ideal) (k0_pay12 v3 v5) (ix2 0 e) : EReal) = ∑ i, (I.A (ρ i) e : EReal) := by
  pointwise [k0_pay21, p12 R]
theorem p22 (e : Fin 1024) : (k0_pay22 (F := Ideal) (k0_pay12 v3 v5) (k0_pay16 j v11 v12) (k0_pay17 v29) (ix2 0 e) : EReal) = ∑ i, (I.B (ρ i) e : EReal) := by
  unfold In.B
  pointwise [k0_pay22, p12 R, p16 R, p17 R]
  simp only [← EReal.coe_mul]

/-- The five rows that the point adds to. -/
theorem p23 (z : Vec Ideal S1x1024 .f32) (e : Fin 1024) : (k0_pay23 (F := Ideal) (k0_pay12 v3 v5) (k0_pay16 j v11 v12) (k0_pay18 j v14 v16) z (ix2 0 e) : EReal)
    = z (ix2 0 e) + ∑ i, (I.acc 4 e (ρ i) : EReal) := by
  pointwise [k0_pay23, p19 R, p16 R, In.acc]
  simp only [← EReal.coe_mul]
theorem p24 (z : Vec Ideal S1x1024 .f32) (e : Fin 1024) : (k0_pay24 (F := Ideal) (k0_pay12 v3 v5) (bit j) z (ix2 0 e) : EReal) = z (ix2 0 e) + ∑ i, (I.acc 0 e (ρ i) : EReal) := by
  have h := R.h7
  by_cases hb : bit j = 1#1
  · simp only [hb, iff_true] at h
    pointwise [k0_pay24, In.acc, h, hb, p21 R]
  · simp only [hb, iff_false] at h
    have hb0 : bit j = 0#1 := by generalize bit j = b at hb; revert b; decide
    pointwise [k0_pay24, In.acc, h, hb0]
    simp
theorem p1 (z : Vec Ideal S1x1024 .f32) (e : Fin 1024) : (k0_pay1 (F := Ideal) (bit j) (k0_pay22 (k0_pay12 v3 v5) (k0_pay16 j v11 v12) (k0_pay17 v29)) z (ix2 0 e) : EReal)
    = z (ix2 0 e) + ∑ i, (I.acc 1 e (ρ i) : EReal) := by
  have h := R.h7
  by_cases hb : bit j = 1#1
  · simp only [hb, iff_true] at h
    pointwise [k0_pay1, In.acc, h, hb, p22 R]
  · simp only [hb, iff_false] at h
    have hb0 : bit j = 0#1 := by generalize bit j = b at hb; revert b; decide
    pointwise [k0_pay1, In.acc, h, hb0]
    simp
theorem p2 (z : Vec Ideal S1x1024 .f32) (e : Fin 1024) : (k0_pay2 (F := Ideal) (bit j) (k0_pay21 (k0_pay12 v3 v5)) z (ix2 0 e) : EReal)
    = z (ix2 0 e) + ∑ i, (I.acc 2 e (ρ i) : EReal) := by
  have h := R.h7
  by_cases hb : bit j = 1#1
  · simp only [hb, iff_true] at h
    pointwise [k0_pay2, In.acc, h, hb]
    simp
  · simp only [hb, iff_false] at h
    have hb0 : bit j = 0#1 := by generalize bit j = b at hb; revert b; decide
    pointwise [k0_pay2, In.acc, h, hb0, p21 R]
theorem p3 (z : Vec Ideal S1x1024 .f32) (e : Fin 1024) : (k0_pay3 (F := Ideal) (bit j) (k0_pay22 (k0_pay12 v3 v5) (k0_pay16 j v11 v12) (k0_pay17 v29)) z (ix2 0 e) : EReal)
    = z (ix2 0 e) + ∑ i, (I.acc 3 e (ρ i) : EReal) := by
  have h := R.h7
  by_cases hb : bit j = 1#1
  · simp only [hb, iff_true] at h
    pointwise [k0_pay3, In.acc, h, hb]
    simp
  · simp only [hb, iff_false] at h
    have hb0 : bit j = 0#1 := by generalize bit j = b at hb; revert b; decide
    pointwise [k0_pay3, In.acc, h, hb0, p22 R]

end Cert.Kernel5Ideal.Norm1
end
-- ==== Proof.Norm1Point.lean ====
/-
The call of the first norm's gradient: what each grid point leaves.
-/
module

public import proofs.«01_k».proof.Proof.Norm1Tile

@[expose] public section

set_option maxRecDepth 16384

noncomputable section

open Idealize.ShloMosaic Idealize.ShloMosaic.TcCoe Idealize.SL.Sem
open Idealize.ShloMosaic.Pipeline (Dat)

namespace Cert.Kernel5Ideal.Norm1
open Cert.Kernel5Ideal Cert.Kernel5Ideal.Gen Cert.Norm Finset

variable {m : (ℓ : Loc nD τ sig) → Buf (Elt Ideal) ℓ} {I : In} {c : Dev nD}

/-- The scratch holds the transposed weights after every point. -/
theorem sc_at (H : Holds m I c) (k : Fin 3072) (e : Fin 1024) : ∀ (n : ℕ) (hn : n < cfg0.N),
    ((outsAt0 m c n hn).2.2 (ix2 k e) : EReal) = (I.w e k : EReal)
  | 0, hn => by
    rw [outsAt0_A m c ⟨0, hn⟩ rfl rfl]; frame_out; rw [iblk1]
    refine band _ _ _ k e _ (fun i hi => ?_) fun h7 => ?_
    · pointwise [k0_pay11]; exact v2_at H 7 e i k hi
    refine band _ _ _ k e _ (fun i hi => ?_) fun h6 => ?_
    · pointwise [k0_pay10]; exact v2_at H 6 e i k hi
    refine band _ _ _ k e _ (fun i hi => ?_) fun h5 => ?_
    · pointwise [k0_pay9]; exact v2_at H 5 e i k hi
    refine band _ _ _ k e _ (fun i hi => ?_) fun h4 => ?_
    · pointwise [k0_pay8]; exact v2_at H 4 e i k hi
    refine band _ _ _ k e _ (fun i hi => ?_) fun h3 => ?_
    · pointwise [k0_pay7]; exact v2_at H 3 e i k hi
    refine band _ _ _ k e _ (fun i hi => ?_) fun h2 => ?_
    · pointwise [k0_pay6]; exact v2_at H 2 e i k hi
    refine band _ _ _ k e _ (fun i hi => ?_) fun h1 => ?_
    · pointwise [k0_pay5]; exact v2_at H 1 e i k hi
    refine band _ _ _ k e _ (fun i hi => ?_) fun h0 => ?_
    · pointwise [k0_pay4]; exact v2_at H 0 e i k (by simpa using hi)
    have := k.isLt
    omega
  | n + 1, hn => by
    have hN : n + 1 < 17 := lt_of_lt_of_eq hn N_0
    rw [outsAt0_B m c ⟨n + 1, hn⟩ (by simp only; omega) (by simp only; omega)]
    exact sc_at H k e n (Nat.lt_of_succ_lt hn)

abbrev SC (m : (ℓ : Loc nD τ sig) → Buf (Elt Ideal) ℓ) (c : Dev nD) (t : Fin cfg0.N) : Vec Ideal S3072x1024 .bf16 := (outsAt0 m c t.val t.isLt).2.2
abbrev m1 (m : (ℓ : Loc nD τ sig) → Buf (Elt Ideal) ℓ) (c : Dev nD) (t : Fin cfg0.N) : Vec Ideal S1x1024 .f32 :=
  View.ld (iblk m c 6 t) (Rect.unit (s := S8x1024) ![1, 0] S1x1024.size inb_S8x1024_S1x1024_1_0)
abbrev m3 (m : (ℓ : Loc nD τ sig) → Buf (Elt Ideal) ℓ) (c : Dev nD) (t : Fin cfg0.N) : Vec Ideal S1x1024 .f32 :=
  View.ld (iblk m c 6 t) (Rect.unit (s := S8x1024) ![3, 0] S1x1024.size inb_S8x1024_S1x1024_3_0)

theorem m1_at (H : Holds m I c) (t : Fin cfg0.N) (e : Fin 1024) : (m1 m c t (ix2 0 e) : EReal) = (I.mc ⟨1024 + e.val, by have := e.isLt; omega⟩ : EReal) := by
  unfold m1; pointwise; exact (b6_at t 1 e).trans (v8_at1 H e)
theorem m3_at (H : Holds m I c) (t : Fin cfg0.N) (e : Fin 1024) : (m3 m c t (ix2 0 e) : EReal) = (I.md ⟨1024 + e.val, by have := e.isLt; omega⟩ : EReal) := by
  unfold m3; pointwise; exact (b6_at t 3 e).trans (v8_at3 H e)

theorem bit_zero : ∀ t : Fin cfg0.N, t.val = 0 → bit (grid0.coords t) = 1#1 :=
  (by decide +kernel : ∀ t : Fin grid0.N, t.val = 0 → bit (grid0.coords t) = 1#1)
theorem bit_pos : ∀ t : Fin cfg0.N, t.val ≠ 0 → bit (grid0.coords t) = 0#1 :=
  (by decide +kernel : ∀ t : Fin grid0.N, t.val ≠ 0 → bit (grid0.coords t) = 0#1)

theorem pay14_at (H : Holds m I c) (t : Fin cfg0.N) (i : Fin 256) (e : Fin 1024) :
    (k0_pay14 (F := Ideal) (grid0.coords t) (iblk m c 2 t) (iblk m c 3 t) (ix2 i e) : EReal) = (I.X (rows t i) e : EReal) := by
  by_cases h : t.val = 0
  · have hb := bit_zero t h
    have h2 := b2_at H t i e
    rw [rows_zero t h, I.X_cx]
    unfold k0_pay14; dsimp only
    rw [show Scalar.cmpi .slt (BitVec.ofNat 32 ((grid0.coords t) 0).val) 1#32 = 1#1 from hb]
    exact h2
  · have hb := bit_pos t h
    have h2 := b3_at H t i e
    rw [rows_pos t h, I.X_up]
    unfold k0_pay14; dsimp only
    rw [show Scalar.cmpi .slt (BitVec.ofNat 32 ((grid0.coords t) 0).val) 1#32 = 0#1 from hb]
    exact h2

theorem pay18_at (H : Holds m I c) (t : Fin cfg0.N) (i : Fin 256) (e : Fin 1024) :
    (k0_pay18 (F := Ideal) (grid0.coords t) (m1 m c t) (m3 m c t) (ix2 0 e) : EReal) = ((1 + I.sc (rows t i) e : ℝ) : EReal) := by
  rw [EReal.coe_add, EReal.coe_one]
  by_cases h : t.val = 0
  · have hb := bit_zero t h
    have h2 := m1_at H t e
    rw [rows_zero t h, I.sc_cx, ← h2]
    generalize m1 m c t = a
    unfold k0_pay18; dsimp only
    rw [show Scalar.cmpi .slt (BitVec.ofNat 32 ((grid0.coords t) 0).val) 1#32 = 1#1 from hb]
    pointwise
  · have hb := bit_pos t h
    have h2 := m3_at H t e
    rw [rows_pos t h, I.sc_up, ← h2]
    generalize m3 m c t = a
    unfold k0_pay18; dsimp only
    rw [show Scalar.cmpi .slt (BitVec.ofNat 32 ((grid0.coords t) 0).val) 1#32 = 0#1 from hb]
    pointwise

theorem bit_rows (t : Fin cfg0.N) (i : Fin 256) : (rows t i).val < 256 ↔ bit (grid0.coords t) = 1#1 := by
  rw [rows_lt]
  by_cases h : t.val = 0
  · exact iff_of_true h (bit_zero t h)
  · rw [bit_pos t h]; exact iff_of_false h (by decide)

theorem readsAt (H : Holds m I c) (t : Fin cfg0.N) (S : Vec Ideal S3072x1024 .bf16) (hS : ∀ k e, (S (ix2 k e) : EReal) = (I.w e k : EReal)) :
    Reads I (rows t) (grid0.coords t) (iblk m c 0 t) S (iblk m c 2 t) (iblk m c 3 t) (iblk m c 5 t) (m1 m c t) (m3 m c t) where
  h7 := bit_rows t
  h3 := fun i k => b0_at H t i k
  h5 := hS
  h14 := pay14_at H t
  h18 := pay18_at H t
  h29 := b5_at H t

theorem reads (H : Holds m I c) (t : Fin cfg0.N) : Reads I (rows t) (grid0.coords t) (iblk m c 0 t) (SC m c t) (iblk m c 2 t) (iblk m c 3 t)
    (iblk m c 5 t) (m1 m c t) (m3 m c t) := readsAt H t _ fun k e => sc_at H k e t.val t.isLt

abbrev V20 (m : (ℓ : Loc nD τ sig) → Buf (Elt Ideal) ℓ) (c : Dev nD) (t : Fin cfg0.N) : FVec Ideal S256x1024 .f32 :=
  k0_pay20 (k0_pay12 (iblk m c 0 t) (SC m c t)) (k0_pay15 (grid0.coords t) (iblk m c 2 t) (iblk m c 3 t)) (k0_pay16 (grid0.coords t) (iblk m c 2 t) (iblk m c 3 t))
    (k0_pay17 (iblk m c 5 t)) (k0_pay18 (grid0.coords t) (m1 m c t) (m3 m c t)) (iblk m c 4 t)

/-- Past the first point the scratch is the one the point before left. -/
theorem SC_B (t : Fin cfg0.N) (h : ¬ t.val % 17 = 0) : SC m c t = (outsAt0 m c (t.val - 1) (by omega)).2.2 := by
  unfold SC; rw [outsAt0_B m c t h h]; rfl

theorem block7 (t : Fin cfg0.N) (h : ¬ t.val % 17 = 0) : (outsAt0 m c t.val t.isLt).1 = V20 m c t := by
  unfold V20; rw [SC_B t h, outsAt0_B m c t h h]; frame_out
  rw [(Memref.isWhole_whole cc0_scratch0).read_unread]; rfl

/-- A row of the array that the first point zeroes. -/
theorem zero_row (inb : ∀ a, (![0, 0] : Fin 2 → ℕ) a + (![8, 1024] : Fin 2 → ℕ) a ≤ (⟨2, ![8, 1024]⟩ : Shape).size a) (k : Fin 8) (e : Fin 1024) :
    (View.canon (Val := Elt Ideal) (e := .f32) [⟨Rect.unit (s := ⟨2, ![8, 1024]⟩) ![0, 0] ![8, 1024] inb, k0_pay13 (F := Ideal)⟩] (ix2 k e : (⟨2, ![8, 1024]⟩ : Shape).Idx) : EReal) = 0 := by
  refine band _ _ _ k e _ (fun i hi => ?_) fun h => ?_
  · pointwise [k0_pay13]
  · have := k.isLt; omega

theorem acc_rest (k : Fin 8) (e : Fin 1024) (ρ : Fin 256 → Fin 4352) (h0 : k.val ≠ 0) (h1 : k.val ≠ 1) (h2 : k.val ≠ 2) (h3 : k.val ≠ 3) (h4 : k.val ≠ 4) :
    (0 : EReal) = ∑ i, (I.acc k e (ρ i) : EReal) := by
  refine sum_const_zero.symm.trans (sum_congr rfl fun i _ => ?_)
  unfold In.acc
  rw [if_neg h0, if_neg h1, if_neg h2, if_neg h3, if_neg h4]; exact EReal.coe_zero.symm

theorem acc_A (H : Holds m I c) (t : Fin cfg0.N) (h : t.val % 17 = 0) (k : Fin 8) (e : Fin 1024) :
    ((outsAt0 m c t.val t.isLt).2.1 (ix2 k e) : EReal) = ∑ i, (I.acc k e (rows t i) : EReal) := by
  obtain ⟨S, hS, hE⟩ : ∃ S : Vec Ideal S3072x1024 .bf16, (∀ k e, (S (ix2 k e) : EReal) = (I.w e k : EReal)) ∧ S = SC m c t :=
    ⟨SC m c t, fun k e => sc_at H k e t.val t.isLt, rfl⟩
  unfold SC at hE
  rw [outsAt0_A m c t h h] at hE ⊢
  replace hE := hE.trans (by frame_out; rfl)
  frame_out
  simp only [full_cov]
  erw [← hE]
  refine band _ _ _ k e _ (fun i hi => ?_) fun h3 => ?_
  · obtain rfl : i = 0 := Subsingleton.elim _ _
    obtain rfl : k = 3 := Fin.ext hi
    refine (p3 (readsAt H t _ hS) _ e).trans ?_
    rw [row_cov (o := 3) _ _ _ (3 : Fin 8) e rfl, band_skip _ _ _ _ _ (by decide), band_skip _ _ _ _ _ (by decide), band_skip _ _ _ _ _ (by decide), band_skip _ _ _ _ _ (by decide), zero_row]
    exact zero_add _
  refine band _ _ _ k e _ (fun i hi => ?_) fun h2 => ?_
  · obtain rfl : i = 0 := Subsingleton.elim _ _
    obtain rfl : k = 2 := Fin.ext hi
    refine (p2 (readsAt H t _ hS) _ e).trans ?_
    rw [row_cov (o := 2) _ _ _ (2 : Fin 8) e rfl, band_skip _ _ _ _ _ (by decide), band_skip _ _ _ _ _ (by decide), band_skip _ _ _ _ _ (by decide), zero_row]
    exact zero_add _
  refine band _ _ _ k e _ (fun i hi => ?_) fun h1 => ?_
  · obtain rfl : i = 0 := Subsingleton.elim _ _
    obtain rfl : k = 1 := Fin.ext hi
    refine (p1 (readsAt H t _ hS) _ e).trans ?_
    rw [row_cov (o := 1) _ _ _ (1 : Fin 8) e rfl, band_skip _ _ _ _ _ (by decide), band_skip _ _ _ _ _ (by decide), zero_row]
    exact zero_add _
  refine band _ _ _ k e _ (fun i hi => ?_) fun h0 => ?_
  · obtain rfl : i = 0 := Subsingleton.elim _ _
    obtain rfl : k = 0 := Fin.ext (by simpa using hi)
    refine (p24 (readsAt H t _ hS) _ e).trans ?_
    rw [row_cov (o := 0) _ _ _ (0 : Fin 8) e rfl, band_skip _ _ _ _ _ (by decide), zero_row]
    exact zero_add _
  refine band _ _ _ k e _ (fun i hi => ?_) fun h4 => ?_
  · obtain rfl : i = 0 := Subsingleton.elim _ _
    obtain rfl : k = 4 := Fin.ext hi
    refine (p23 (readsAt H t _ hS) _ e).trans ?_
    rw [row_cov (o := 4) _ _ _ (4 : Fin 8) e rfl, zero_row]
    exact zero_add _
  exact (zero_row _ k e).trans (acc_rest k e _ (by omega) (by omega) (by omega) (by omega) (by omega))

theorem acc_B (H : Holds m I c) (t : Fin cfg0.N) (h : ¬ t.val % 17 = 0) (k : Fin 8) (e : Fin 1024) :
    ((outsAt0 m c t.val t.isLt).2.1 (ix2 k e) : EReal) = (outsAt0 m c (t.val - 1) (by omega)).2.1 (ix2 k e) + ∑ i, (I.acc k e (rows t i) : EReal) := by
  rw [outsAt0_B m c t h h]; frame_out
  rw [(Memref.isWhole_whole cc0_scratch0).read_unread, ← SC_B t h]
  refine band_read _ _ _ _ _ k e _ (fun i hi => ?_) fun h3 => ?_
  · obtain rfl : i = 0 := Subsingleton.elim _ _
    obtain rfl : k = 3 := Fin.ext hi
    refine (p3 (reads H t) _ e).trans (congrArg (· + _) ?_)
    pointwise
  refine band_read _ _ _ _ _ k e _ (fun i hi => ?_) fun h2 => ?_
  · obtain rfl : i = 0 := Subsingleton.elim _ _
    obtain rfl : k = 2 := Fin.ext hi
    refine (p2 (reads H t) _ e).trans (congrArg (· + _) ?_)
    pointwise
  refine band_read _ _ _ _ _ k e _ (fun i hi => ?_) fun h1 => ?_
  · obtain rfl : i = 0 := Subsingleton.elim _ _
    obtain rfl : k = 1 := Fin.ext hi
    refine (p1 (reads H t) _ e).trans (congrArg (· + _) ?_)
    pointwise
  refine band_read _ _ _ _ _ k e _ (fun i hi => ?_) fun h0 => ?_
  · obtain rfl : i = 0 := Subsingleton.elim _ _
    obtain rfl : k = 0 := Fin.ext (by simpa using hi)
    refine (p24 (reads H t) _ e).trans (congrArg (· + _) ?_)
    pointwise
  refine band_read _ _ _ _ _ k e _ (fun i hi => ?_) fun h4 => ?_
  · obtain rfl : i = 0 := Subsingleton.elim _ _
    obtain rfl : k = 4 := Fin.ext hi
    refine (p23 (reads H t) _ e).trans (congrArg (· + _) ?_)
    pointwise
  rw [View.writes_nil, (hs0_8 t).read_unread]
  exact (add_zero _).symm.trans (congrArg _ (acc_rest k e _ (by omega) (by omega) (by omega) (by omega) (by omega)))

end Cert.Kernel5Ideal.Norm1
end
-- ==== Proof.Norm1Final.lean ====
/-
The call of the first norm's gradient: its result arrays.
-/
module

public import proofs.«01_k».proof.Proof.Norm1Point

@[expose] public section

set_option maxRecDepth 16384

noncomputable section

open Idealize.ShloMosaic Idealize.ShloMosaic.TcCoe Idealize.SL.Sem
open Idealize.ShloMosaic.Pipeline (Dat)

namespace Cert.Kernel5Ideal.Norm1
open Cert.Kernel5Ideal Cert.Kernel5Ideal.Gen Cert.Norm Finset

variable {m : (ℓ : Loc nD τ sig) → Buf (Elt Ideal) ℓ} {I : In} {c : Dev nD}

/-- The sums after a point: over the rows of the points so far. -/
theorem acc_at (H : Holds m I c) (k : Fin 8) (e : Fin 1024) : ∀ (n : ℕ) (hn : n < cfg0.N),
    ((outsAt0 m c n hn).2.1 (ix2 k e) : EReal) = ∑ r ∈ range ((n + 1) * 256), (I.acc k e (rowc r) : EReal)
  | 0, hn => by
    rw [sumc_step (fun r => (I.acc k e r : EReal)), zero_mul, range_zero, sum_empty, zero_add]
    refine (acc_A H ⟨0, hn⟩ rfl k e).trans (sum_congr rfl fun i _ => ?_)
    simp only [rows]
    rw [zero_mul]
  | n + 1, hn => by
    have hN : n + 1 < 17 := lt_of_lt_of_eq hn N_0
    rw [sumc_step (fun r => (I.acc k e r : EReal)), ← acc_at H k e n (Nat.lt_of_succ_lt hn)]
    exact acc_B H ⟨n + 1, hn⟩ (by simp only; omega) k e

theorem flush7 : ∀ t : Fin cfg0.N, (cfg0.win 7).flush t = true → t.val ≠ 0 :=
  (by decide +kernel : ∀ t : Fin grid0.N, _)

theorem arr7 (H : Holds m I c) : (dats m 0 c).arrAt 7 cfg0.N = (fun i => I.D (i 0) (i 1) : FVec Ideal S4096x1024 .f32) := by
  refine (dats m 0 c).arrAt_eq_of_covers 7 _ (by decide +kernel) fun t ht y => ?_
  have h0 := flush7 t ht
  have := lt17 t
  blk_simp
  rw [after0_7, block7 t (by omega)]
  obtain ⟨i, e, rfl⟩ : ∃ i e, y = ix2 i e := ⟨y 0, y 1, eq_ix2 y⟩
  refine (p20 (reads H t) _ i e).trans ?_
  rw [show (iblk m c 4 t (ix2 i e) : EReal) = _ from b4_at H t i e, rows_pos t h0]
  have := i.isLt
  have he : (win0_7.blk t).view.emb (ix2 i e) = (ix2 (seq t i) e : S4096x1024.Idx) := by
    unfold seq; blk_ext [idx t]
  exact (congrArg (fun z : S4096x1024.Idx => I.D (z 0) (z 1)) he).symm

theorem last8 : ∀ t : Fin cfg0.N, (cfg0.win 8).flush t = true → t.val = 16 :=
  (by decide +kernel : ∀ t : Fin grid0.N, _)

theorem arr8 (H : Holds m I c) : (dats m 0 c).arrAt 8 cfg0.N = (fun i => ∑ r, (I.acc (i 0) (i 1) r : EReal) : FVec Ideal S8x1024 .f32) := by
  refine (dats m 0 c).arrAt_eq_of_covers 8 _ (by decide +kernel) fun t ht y => ?_
  have h7 := last8 t ht
  blk_simp
  rw [after0_8]
  obtain ⟨k, e, rfl⟩ : ∃ k e, y = ix2 k e := ⟨y 0, y 1, eq_ix2 y⟩
  refine (acc_at H k e t.val t.isLt).trans ?_
  rw [h7, sumc_all (fun r => (I.acc k e r : EReal))]
  have he : (win0_8.blk t).view.emb (ix2 k e) = (ix2 k e : S8x1024.Idx) := by blk_ext [idx t]
  exact (congrArg (fun z : S8x1024.Idx => ∑ r, (I.acc (z 0) (z 1) r : EReal)) he).symm

end Cert.Kernel5Ideal.Norm1
end
-- ==== Proof.Norm1Ref.lean ====
/-
The differentiated reference of the first norm, line by line over real numbers.
-/
module

public import proofs.«01_k».proof.Proof.Norm1
public import proofs.«01_k».proof.Proof.Gen.Reference5Ideal.Read

@[expose] public section

set_option maxRecDepth 16384

noncomputable section
namespace Cert.Reference5Ideal.Norm1
open Idealize.ShloMosaic Idealize.ShloMosaic.TcCoe Idealize.SL.Sem
open Cert.Reference5Ideal Cert.Reference5Ideal.Gen Cert.Reference5Ideal.Read Cert.Norm Finset
open Cert.Kernel5Ideal.Norm1 (In up cx sumc_split)

/-- The arguments hold these numbers. -/
structure Args (I : In) (x0 : FVec Ideal S256x1024 .f32) (x1 : FVec Ideal S4096x1024 .f32) (x2 x3 : FVec Ideal S6144 .f32) (x4 : FVec Ideal S1024 .f32)
    (x5 : FVec Ideal S1024x3072 .f32) (x6 : FVec Ideal S4096x1024 .f32) (x7 : FVec Ideal S4352x3072 .f32) : Prop where
  ctx : ∀ r e, (x0 (ix2 r e) : EReal) = (I.ctx r e : EReal)
  x : ∀ r e, (x1 (ix2 r e) : EReal) = (I.x r e : EReal)
  md : ∀ e, (x2 (ix1 e) : EReal) = (I.md e : EReal)
  mc : ∀ e, (x3 (ix1 e) : EReal) = (I.mc e : EReal)
  g : ∀ e, (x4 (ix1 e) : EReal) = (I.g e : EReal)
  w : ∀ e k, (x5 (ix2 e k) : EReal) = (I.w e k : EReal)
  d : ∀ r e, (x6 (ix2 r e) : EReal) = I.d r e
  p : ∀ r k, (x7 (ix2 r k) : EReal) = (I.p r k : EReal)

variable {I : In} {x0 : FVec Ideal S256x1024 .f32} {x1 : FVec Ideal S4096x1024 .f32} {x2 x3 : FVec Ideal S6144 .f32} {x4 : FVec Ideal S1024 .f32}
    {x5 : FVec Ideal S1024x3072 .f32} {x6 : FVec Ideal S4096x1024 .f32} {x7 : FVec Ideal S4352x3072 .f32}
  (R : Args I x0 x1 x2 x3 x4 x5 x6 x7)
include R

theorem ac_x (r : Fin 256) (e : Fin 1024) : (x0 (ix2 r e) : EReal) = (I.X (cx r) e : EReal) := by rw [I.X_cx, R.ctx]
theorem al_x (r : Fin 4096) (e : Fin 1024) : (x1 (ix2 r e) : EReal) = (I.X (up r) e : EReal) := by rw [I.X_up, R.x]

/-! ## The context's rows -/

theorem r19 (r : Fin 256) : (val_main_v19 (F := Ideal) x0 (ix2 r 0) : EReal) = (rs (I.X (cx r)) : EReal) := by
  rw [← rsqrt_ms]
  unfold val_main_v19 val_main_v18 val_main_v17 val_main_v16 val_main_v15 val_main_v14 val_main_v13 val_main_v12 val_main_cst val_main_cst_0 val_main_cst_1 ms
  pointwise [ac_x R]
  simp only [lit_1024, lit_eps, ← EReal.coe_mul, ← coe_sum, div_1024, ← EReal.coe_add]
theorem r21 (r : Fin 256) (e : Fin 1024) : (val_main_v21 (F := Ideal) x0 (ix2 r e) : EReal) = ((I.X (cx r) e * rs (I.X (cx r)) : ℝ) : EReal) := by
  unfold val_main_v21 val_main_v20; pointwise [ac_x R, r19 R]
  exact (EReal.coe_mul _ _).symm
theorem r24 (r : Fin 256) (e : Fin 1024) : (val_main_v24 (F := Ideal) x0 x4 (ix2 r e) : EReal) = ((I.X (cx r) e * rs (I.X (cx r)) * I.g e : ℝ) : EReal) := by
  unfold val_main_v24 val_main_v23 val_main_v22; pointwise [r21 R, R.g]
  exact (EReal.coe_mul _ _).symm
theorem r26 (e : Fin 1024) (r : Fin 256) : (val_main_v26 (F := Ideal) x3 (ix1 e) : EReal) = ((1 + I.sc (cx r) e : ℝ) : EReal) := by
  rw [I.sc_cx, EReal.coe_add, EReal.coe_one, ← R.mc]
  unfold val_main_v26 val_main_v25 val_main_v7 val_main_cst_2; pointwise
theorem r62 (r : Fin 256) (e : Fin 1024) : (val_main_v62 (F := Ideal) x5 x7 (ix2 r e) : EReal) = (I.A (cx r) e : EReal) := by
  have hp : ∀ k, (val_main_v59 (F := Ideal) x7 (ix2 r k) : EReal) = (I.p (cx r) k : EReal) := fun k => by
    rw [← R.p]; unfold val_main_v59 cx; pointwise
  unfold val_main_v62 In.A
  pointwise [hp, R.w]
  simp only [← EReal.coe_mul, ← coe_sum]
theorem r100 (r : Fin 256) (e : Fin 1024) : (val_main_v100 (F := Ideal) x3 x5 x7 (ix2 r e) : EReal) = (I.N (cx r) e : EReal) := by
  have h := r26 R e r
  unfold val_main_v100 val_main_v99 val_main_v27 In.N
  pointwise [r62 R, h]
  exact (EReal.coe_mul _ _).symm

/-! ## The sequence's rows -/

theorem r39 (r : Fin 4096) : (val_main_v39 (F := Ideal) x1 (ix2 r 0) : EReal) = (ms (I.X (up r)) : EReal) := by
  unfold val_main_v39 val_main_v38 val_main_v37 val_main_v36 val_main_v35 val_main_v34 val_main_v33 val_main_cst_3 val_main_cst_4 val_main_cst_5 ms
  pointwise [al_x R]
  simp only [lit_1024, lit_eps, ← EReal.coe_mul, ← coe_sum, div_1024, ← EReal.coe_add]
theorem r40 (r : Fin 4096) : (val_main_v40 (F := Ideal) x1 (ix2 r 0) : EReal) = (rs (I.X (up r)) : EReal) := by
  rw [← rsqrt_ms]; unfold val_main_v40; pointwise [r39 R]
theorem r43 (r : Fin 4096) : (val_main_v43 (F := Ideal) x1 (ix2 r 0) : EReal) = ((-(1/2) * (rs (I.X (up r)) / ms (I.X (up r))) : ℝ) : EReal) := by
  unfold val_main_v43 val_main_v42 val_main_v41 val_main_cst_6; pointwise [r39 R, r40 R]
  simp only [lit_neg_half, div_ms, ← EReal.coe_mul]
theorem r45 (r : Fin 4096) (e : Fin 1024) : (val_main_v45 (F := Ideal) x1 (ix2 r e) : EReal) = ((I.X (up r) e * rs (I.X (up r)) : ℝ) : EReal) := by
  unfold val_main_v45 val_main_v44; pointwise [al_x R, r40 R]
  exact (EReal.coe_mul _ _).symm
theorem r48 (r : Fin 4096) (e : Fin 1024) : (val_main_v48 (F := Ideal) x1 x4 (ix2 r e) : EReal) = ((I.X (up r) e * rs (I.X (up r)) * I.g e : ℝ) : EReal) := by
  unfold val_main_v48 val_main_v47 val_main_v46; pointwise [r45 R, R.g]
  exact (EReal.coe_mul _ _).symm
theorem r50 (e : Fin 1024) (r : Fin 4096) : (val_main_v50 (F := Ideal) x2 (ix1 e) : EReal) = ((1 + I.sc (up r) e : ℝ) : EReal) := by
  rw [I.sc_up, EReal.coe_add, EReal.coe_one, ← R.md]
  unfold val_main_v50 val_main_v49 val_main_v1 val_main_cst_7; pointwise
theorem r61 (r : Fin 4096) (e : Fin 1024) : (val_main_v61 (F := Ideal) x5 x7 (ix2 r e) : EReal) = (I.A (up r) e : EReal) := by
  have hp : ∀ k, (val_main_v60 (F := Ideal) x7 (ix2 r k) : EReal) = (I.p (up r) k : EReal) := fun k => by
    rw [← R.p]; unfold val_main_v60 up; pointwise
  unfold val_main_v61 In.A
  pointwise [hp, R.w]
  simp only [← EReal.coe_mul, ← coe_sum]
theorem r70 (r : Fin 4096) (e : Fin 1024) : (val_main_v70 (F := Ideal) x2 x5 x7 (ix2 r e) : EReal) = (I.N (up r) e : EReal) := by
  have h := r50 R e r
  unfold val_main_v70 val_main_v69 val_main_v51 In.N
  pointwise [r61 R, h]
  exact (EReal.coe_mul _ _).symm
theorem r76 (r : Fin 4096) (e : Fin 1024) : (val_main_v76 (F := Ideal) x2 x4 x5 x7 (ix2 r e) : EReal) = (I.H (up r) e : EReal) := by
  unfold val_main_v76 val_main_v75 val_main_v46 In.H; pointwise [r70 R, R.g]
  exact (EReal.coe_mul _ _).symm
theorem r87 (r : Fin 4096) : (val_main_v87 (F := Ideal) x1 x2 x4 x5 x7 (ix1 r) : EReal)
    = (((∑ e, I.X (up r) e * I.H (up r) e) * (-(1/2) * (rs (I.X (up r)) / ms (I.X (up r)))) / 1024 : ℝ) : EReal) := by
  unfold val_main_v87 val_main_v86 val_main_v85 val_main_v84 val_main_v80 val_main_v79 val_main_v78 val_main_cst_14 val_main_cst_15 val_main_cst_16
  pointwise [al_x R, r76 R]
  rw [Fin.sum_univ_one, show val_main_v43 (F := Ideal) x1 (ix2 r 0) = _ from r43 R r]
  simp only [lit_1024, ← EReal.coe_mul, ← coe_sum, div_1024]
theorem r92 (r : Fin 4096) (e : Fin 1024) : (val_main_v92 (F := Ideal) x1 x2 x4 x5 x6 x7 (ix2 r e) : EReal) = I.D r e := by
  unfold In.D
  rw [← grad_eq]
  unfold val_main_v92 val_main_v91 val_main_v90 val_main_v89 val_main_v88 val_main_v83 val_main_v82 val_main_v81
  pointwise [al_x R, R.d, r76 R, r40 R, r87 R]
  simp only [← EReal.coe_mul, ← EReal.coe_add, add_assoc]

/-! ## The five sums -/

theorem r95 (e : Fin 1024) : (val_main_v95 (F := Ideal) x5 x7 (ix1 e) : EReal) = ∑ r, (I.acc 0 e r : EReal) := by
  rw [sumc_split (fun r => (I.acc 0 e r : EReal))]
  unfold val_main_v95 val_main_v94 val_main_v93 val_main_cst_17 val_main_cst_18; pointwise [r62 R, In.acc, cx, up]
  refine (Fin.sum_univ_one _).trans ?_
  simp
theorem r101 (e : Fin 1024) : (val_main_v101 (F := Ideal) x0 x4 x5 x7 (ix1 e) : EReal) = ∑ r, (I.acc 1 e r : EReal) := by
  rw [sumc_split (fun r => (I.acc 1 e r : EReal))]
  unfold val_main_v101 val_main_v98 val_main_v97 val_main_v96 val_main_cst_19 val_main_cst_20; pointwise [r24 R, r62 R, In.acc]
  refine (Fin.sum_univ_one _).trans ?_
  simp only [cx, up, Fin.is_lt, if_true, Nat.not_lt.mpr (Nat.le_add_right _ _), if_false, EReal.coe_zero, sum_const_zero, add_zero]
  refine sum_congr rfl fun r _ => ?_
  rw [← EReal.coe_mul]; unfold In.B; congr 1; ring
theorem r65 (e : Fin 1024) : (val_main_v65 (F := Ideal) x5 x7 (ix1 e) : EReal) = ∑ r, (I.acc 2 e r : EReal) := by
  rw [sumc_split (fun r => (I.acc 2 e r : EReal))]
  unfold val_main_v65 val_main_v64 val_main_v63 val_main_cst_8 val_main_cst_9; pointwise [r61 R, In.acc, cx, up]
  refine (Fin.sum_univ_one _).trans ?_
  simp
theorem r71 (e : Fin 1024) : (val_main_v71 (F := Ideal) x1 x4 x5 x7 (ix1 e) : EReal) = ∑ r, (I.acc 3 e r : EReal) := by
  rw [sumc_split (fun r => (I.acc 3 e r : EReal))]
  unfold val_main_v71 val_main_v68 val_main_v67 val_main_v66 val_main_cst_10 val_main_cst_11; pointwise [r48 R, r61 R, In.acc]
  refine (Fin.sum_univ_one _).trans ?_
  simp only [cx, up, Fin.is_lt, if_true, Nat.not_lt.mpr (Nat.le_add_right _ _), if_false, EReal.coe_zero, sum_const_zero, zero_add]
  refine sum_congr rfl fun r _ => ?_
  rw [← EReal.coe_mul]; unfold In.B; congr 1; ring
theorem r77 (e : Fin 1024) : (val_main_v77 (F := Ideal) x1 x2 x5 x7 (ix1 e) : EReal) = ∑ r, (I.acc 4 e (up r) : EReal) := by
  unfold val_main_v77 val_main_v74 val_main_v73 val_main_v72 val_main_cst_12 val_main_cst_13; pointwise [r45 R, r70 R, In.acc]
  refine (Fin.sum_univ_one _).trans ?_
  refine sum_congr rfl fun r _ => ?_
  rw [← EReal.coe_mul]; congr 1; ring
theorem r105 (e : Fin 1024) : (val_main_v105 (F := Ideal) x0 x3 x5 x7 (ix1 e) : EReal) = ∑ r, (I.acc 4 e (cx r) : EReal) := by
  unfold val_main_v105 val_main_v104 val_main_v103 val_main_v102 val_main_cst_21 val_main_cst_22; pointwise [r21 R, r100 R, In.acc]
  refine (Fin.sum_univ_one _).trans ?_
  refine sum_congr rfl fun r _ => ?_
  rw [← EReal.coe_mul]; congr 1; ring
theorem r106 (e : Fin 1024) : (val_main_v106 (F := Ideal) x0 x1 x2 x3 x5 x7 (ix1 e) : EReal) = ∑ r, (I.acc 4 e r : EReal) := by
  rw [sumc_split (fun r => (I.acc 4 e r : EReal)), add_comm]
  have h1 := r77 R e; have h2 := r105 R e
  unfold val_main_v106
  pointwise [h1, h2]
theorem r113 (k : Fin 8) (e : Fin 1024) : (val_main_v113 (F := Ideal) x0 x1 x2 x3 x4 x5 x7 (ix2 k e) : EReal) = ∑ r, (I.acc k e r : EReal) := by
  have h0 := r95 R e; have h1 := r101 R e; have h2 := r65 R e; have h3 := r71 R e; have h4 := r106 R e
  unfold val_main_v113 val_main_v112 val_main_v111 val_main_v110 val_main_v109 val_main_v108 val_main_v107 val_main_cst_23
  match k with
  | 0 => pointwise; exact h0
  | 1 => pointwise; exact h1
  | 2 => pointwise; exact h2
  | 3 => pointwise; exact h3
  | 4 => pointwise; exact h4
  | 5 | 6 | 7 => pointwise [In.acc]; exact sum_const_zero.symm

end Cert.Reference5Ideal.Norm1
end
-- ==== Proof.Norm1Pre.lean ====
/-
The precondition of the first norm's call: every element of the arguments that are multiplied is a real number.
-/
module

public import proofs.«01_k».proof.Pre_norm1_finite
public import proofs.«01_k».proof.Proof.Finite

@[expose] public section

noncomputable section
namespace Cert.Pre_norm1_finite
open Idealize.ShloMosaic Idealize.ShloMosaic.TcCoe Idealize.SL.Sem Cert.Finite

/-- The function's side conditions. -/
theorem facts : Facts := by
  constructor <;> decide +kernel

variable [Facts]
open Facts

theorem all_real (x0 : FVec Ideal S256x1024 .f32) (x1 : FVec Ideal S4096x1024 .f32) (x2 x3 : FVec Ideal S6144 .f32) (x4 : FVec Ideal S1024 .f32)
    (x5 : FVec Ideal S1024x3072 .f32) (x6 : FVec Ideal S4096x1024 .f32) (x7 : FVec Ideal S4352x3072 .f32)
    (h : fn (F := Ideal) x0 x1 x2 x3 x4 x5 x6 x7 = fun _ => 1#1) :
    (∀ i, ((show EReal from x0 i).toReal : EReal) = x0 i) ∧ (∀ i, ((show EReal from x1 i).toReal : EReal) = x1 i) ∧ (∀ i, ((show EReal from x2 i).toReal : EReal) = x2 i)
      ∧ (∀ i, ((show EReal from x3 i).toReal : EReal) = x3 i) ∧ (∀ i, ((show EReal from x4 i).toReal : EReal) = x4 i) ∧ (∀ i, ((show EReal from x5 i).toReal : EReal) = x5 i)
      ∧ (∀ i, ((show EReal from x7 i).toReal : EReal) = x7 i) := by
  have h' : andi (andi (andi (andi (andi (andi (test bcast_S_S256x1024 reducesTo_S256x1024_S_d0_1 h_S_ x0) (test bcast_S_S4096x1024 reducesTo_S4096x1024_S_d0_1 h_S_ x1))
    (test bcast_S_S6144 reducesTo_S6144_S_d0 h_S_ x2)) (test bcast_S_S6144 reducesTo_S6144_S_d0 h_S_ x3)) (test bcast_S_S1024 reducesTo_S1024_S_d0 h_S_ x4))
    (test bcast_S_S1024x3072 reducesTo_S1024x3072_S_d0_1 h_S_ x5)) (test bcast_S_S4352x3072 reducesTo_S4352x3072_S_d0_1 h_S_ x7) ix0 = 1#1 := congrFun h ix0
  obtain ⟨h', h7⟩ := and_one _ _ h'
  obtain ⟨h', h5⟩ := and_one _ _ h'
  obtain ⟨h', h4⟩ := and_one _ _ h'
  obtain ⟨h', h3⟩ := and_one _ _ h'
  obtain ⟨h', h2⟩ := and_one _ _ h'
  obtain ⟨h0, h1⟩ := and_one _ _ h'
  exact ⟨reals _ _ _ x0 h0, reals _ _ _ x1 h1, reals _ _ _ x2 h2, reals _ _ _ x3 h3, reals _ _ _ x4 h4, reals _ _ _ x5 h5, reals _ _ _ x7 h7⟩

end Cert.Pre_norm1_finite
end
-- ==== Proof.Norm1Claim.lean ====
/-
The call of the first norm's gradient: its frames, and its results are those of the differentiated reference.
-/
module

public import proofs.«01_k».proof.Defs
public import proofs.«01_k».proof.Proof.Norm1Final
public import proofs.«01_k».proof.Proof.Norm1Ref
public import proofs.«01_k».proof.Proof.Norm1Pre
public import proofs.«01_k».proof.Proof.Gen.Kernel5.Frame
public import proofs.«01_k».proof.Proof.Gen.Kernel5Ideal.Value
public import proofs.«01_k».proof.Proof.Gen.Reference5Ideal.Run
public import Idealize.ShloMosaic.Lib.Quiescent

@[expose] public section

set_option maxRecDepth 16384

noncomputable section
namespace Cert.Proof5
open Idealize.ShloMosaic Idealize.ShloMosaic.TcCoe Idealize.SL.Sem
open Cert.Kernel5Ideal Cert.Kernel5Ideal.Norm1 Finset

abbrev Mem := (ℓ : Loc nD τ sig) → Buf (Elt Ideal) ℓ

section
variable (m : Mem) (c : Dev nD)

/-- The arguments as arrays of extended reals. -/
abbrev a0 : S256x1024.Idx → EReal := m ((c.tc : Thread nD τ).loc main_arg0)
abbrev a1 : S4096x1024.Idx → EReal := m ((c.tc : Thread nD τ).loc main_arg1)
abbrev a2 : S6144.Idx → EReal := m ((c.tc : Thread nD τ).loc main_arg2)
abbrev a3 : S6144.Idx → EReal := m ((c.tc : Thread nD τ).loc main_arg3)
abbrev a4 : S1024.Idx → EReal := m ((c.tc : Thread nD τ).loc main_arg4)
abbrev a5 : S1024x3072.Idx → EReal := m ((c.tc : Thread nD τ).loc main_arg5)
abbrev a6 : S4096x1024.Idx → EReal := m ((c.tc : Thread nD τ).loc main_arg6)
abbrev a7 : S4352x3072.Idx → EReal := m ((c.tc : Thread nD τ).loc main_arg7)

/-- The numbers that the launched arrays hold. -/
def inOf : In where
  ctx r e := (a0 m c (ix2 r e)).toReal
  x r e := (a1 m c (ix2 r e)).toReal
  md e := (a2 m c (ix1 e)).toReal
  mc e := (a3 m c (ix1 e)).toReal
  g e := (a4 m c (ix1 e)).toReal
  w e k := (a5 m c (ix2 e k)).toReal
  d r e := a6 m c (ix2 r e)
  p r k := (a7 m c (ix2 r k)).toReal
end

theorem args [Cert.Pre_norm1_finite.Facts] {m : Mem} {c : Dev nD}
    (h : Cert.Pre_norm1_finite.fn (F := Ideal) (a0 m c) (a1 m c) (a2 m c) (a3 m c) (a4 m c) (a5 m c) (a6 m c) (a7 m c) = fun _ => 1#1) :
    Cert.Reference5Ideal.Norm1.Args (inOf m c) (a0 m c) (a1 m c) (a2 m c) (a3 m c) (a4 m c) (a5 m c) (a6 m c) (a7 m c) := by
  obtain ⟨h0, h1, h2, h3, h4, h5, h7⟩ := Cert.Pre_norm1_finite.all_real _ _ _ _ _ _ _ _ h
  exact ⟨fun r e => (h0 _).symm, fun r e => (h1 _).symm, fun e => (h2 _).symm, fun e => (h3 _).symm, fun e => (h4 _).symm, fun r e => (h5 _).symm, fun r e => rfl,
    fun r e => (h7 _).symm⟩

theorem holds {m : Mem} {c : Dev nD} (A : Cert.Reference5Ideal.Norm1.Args (inOf m c) (a0 m c) (a1 m c) (a2 m c) (a3 m c) (a4 m c) (a5 m c) (a6 m c) (a7 m c)) :
    Holds m (inOf m c) c := ⟨A.ctx, A.x, A.md, A.mc, A.g, A.w, A.d, A.p⟩

def res0 (m : Mem) (c : Dev nD) : S4096x1024.Idx → EReal := fun i => (inOf m c).D (i 0) (i 1)
def res1 (m : Mem) (c : Dev nD) : S8x1024.Idx → EReal := fun i => ∑ r, ((inOf m c).acc (i 0) (i 1) r : EReal)

theorem quiescent_Kernel5 : Cert.quiescent_Kernel5 := fun m ρ _ => Cert.Kernel5.Gen.frame m ρ

theorem quiescent_Kernel5Ideal : Cert.quiescent_Kernel5Ideal := fun m ρ _ => Cert.Kernel5Ideal.Gen.frame m ρ

theorem quiescent_Kernel5Ideal_pre [hP : Cert.Pre_norm1_finite.Facts] : Cert.quiescent_Kernel5Ideal_pre_norm1_finite :=
  fun m ρ _ => Cert.Kernel5Ideal.Gen.frame m ρ

theorem quiescent_Reference5Ideal : Cert.quiescent_Reference5Ideal := fun m ρ _ =>
  (θ_run Cert.Reference5Ideal.defs _ _).mono (fun r h => ⟨fun c => (h c).2.2, sem_eq_zero_of_no_sems (by decide) r.2⟩)
    (Cert.Reference5Ideal.Value.run (F := Ideal) m ρ)

theorem quiescent_Reference5Ideal_pre [hP : Cert.Pre_norm1_finite.Facts] : Cert.quiescent_Reference5Ideal_pre_norm1_finite :=
  fun m ρ _ => quiescent_Reference5Ideal m ρ trivial

set_option maxHeartbeats 1600000 in
theorem algebraic [hP : Cert.Pre_norm1_finite.Facts] : Cert.algebraic_Kernel5Ideal_Reference5Ideal_pre_norm1_finite := by
  intro m ρ m' ρ' hpre hagree
  have A := fun c => args (hpre c)
  refine ⟨res0 m, res1 m, ?_, ?_⟩
  · exact (θ_run Cert.Kernel5Ideal.defs _ _).mono (fun r h c => ⟨(h c).1.trans (arr7 (holds (A c))), (h c).2.1.trans (arr8 (holds (A c))),
      (h c).2.2⟩) (Cert.Kernel5Ideal.Value.run_blocks (F := Ideal) m ρ)
  · refine (θ_run Cert.Reference5Ideal.defs _ _).mono (fun r h c => ?_) (Cert.Reference5Ideal.Value.run (F := Ideal) m' ρ')
    obtain ⟨e0, e1, ea⟩ := h c
    obtain ⟨g0, g1, g2, g3, g4, g5, g6, g7⟩ := hagree c
    have B := A c
    simp only [a0, a1, a2, a3, a4, a5, a6, a7] at B
    rw [← g0, ← g1, ← g2, ← g3, ← g4, ← g5, ← g6, ← g7] at B
    refine ⟨e0.trans ((Cert.Reference5Ideal.Read.val_main_v92_eq _ _).trans (funext fun y => ?_)),
      e1.trans ((Cert.Reference5Ideal.Read.val_main_v113_eq _ _).trans (funext fun y => ?_)), ea⟩
    · obtain ⟨i, e, rfl⟩ : ∃ (i : Fin 4096) (e : Fin 1024), y = ix2 i e := ⟨y 0, y 1, eq_ix2 y⟩
      exact Cert.Reference5Ideal.Norm1.r92 B i e
    · obtain ⟨k, e, rfl⟩ : ∃ (k : Fin 8) (e : Fin 1024), y = ix2 k e := ⟨y 0, y 1, eq_ix2 y⟩
      exact Cert.Reference5Ideal.Norm1.r113 B k e

end Cert.Proof5
end
-- ==== Proof.MixMath.lean ====
/-
The gated mix's gradient over real numbers: a head's group norm, the sigmoid and the tanh form of gelu, each as the kernel writes it and by the chain rule.
-/
module

public import proofs.«01_k».proof.Proof.NormMath

@[expose] public section

set_option maxRecDepth 16384

noncomputable section

open Idealize.ShloMosaic Finset Cert.Norm

namespace Cert.Mix

theorem lit_128 : Ideal.ofBits .f32 0x43000000#32 = ((128 : ℝ) : EReal) := by
  simp [Ideal.ofBits, Ideal.ieee, -EReal.coe_mul]; norm_num
theorem lit_half : Ideal.ofBits .f32 0x3F000000#32 = ((1/2 : ℝ) : EReal) := by
  simp [Ideal.ofBits, Ideal.ieee, -EReal.coe_mul]; norm_num
theorem lit_3 : Ideal.ofBits .f32 0x40400000#32 = ((3 : ℝ) : EReal) := by
  simp [Ideal.ofBits, Ideal.ieee, -EReal.coe_mul]; norm_num
theorem lit_44715 : Ideal.ofBits .f32 0x472EAB00#32 = ((44715 : ℝ) : EReal) := by
  simp [Ideal.ofBits, Ideal.ieee, -EReal.coe_mul]; norm_num
theorem lit_million : Ideal.ofBits .f32 0x49742400#32 = ((1000000 : ℝ) : EReal) := by
  simp [Ideal.ofBits, Ideal.ieee, -EReal.coe_mul]; norm_num
/-- The root of two over pi, as both programs round it. -/
def K : ℝ := 6693141 / 8388608
theorem lit_K : Ideal.ofBits .f32 0x3F4C422A#32 = ((K : ℝ) : EReal) := by
  simp [Ideal.ofBits, Ideal.ieee, K, -EReal.coe_mul]; norm_num

theorem div_real (x : ℝ) {y : ℝ} (h : y ≠ 0) : Ideal.div ((x : ℝ) : EReal) ((y : ℝ) : EReal) = ((x / y : ℝ) : EReal) := by
  rw [Ideal.div_coe h, ← EReal.coe_mul]; congr 1; ring
theorem div_128 (x : ℝ) : Ideal.div ((x : ℝ) : EReal) ((128 : ℝ) : EReal) = ((x / 128 : ℝ) : EReal) := div_real x (by norm_num)
theorem div_million (x : ℝ) : Ideal.div ((x : ℝ) : EReal) ((1000000 : ℝ) : EReal) = ((x / 1000000 : ℝ) : EReal) := div_real x (by norm_num)

/-! ## A head's norm -/

/-- The column of a head's lane. -/
def col (h : Fin 4) (e : Fin 128) : Fin 512 := ⟨h.val * 128 + e.val, by have := h.isLt; have := e.isLt; omega⟩
theorem col_zero (e : Fin 128) : col 0 e = ⟨e.val, by have := e.isLt; omega⟩ := Fin.ext (by simp [col])
def hd (j : Fin 512) : Fin 4 := ⟨j.val / 128, by have := j.isLt; omega⟩
def ln (j : Fin 512) : Fin 128 := ⟨j.val % 128, Nat.mod_lt _ (by norm_num)⟩
theorem col_hd (j : Fin 512) : col (hd j) (ln j) = j := Fin.ext (by simp only [col, hd, ln]; omega)
theorem hd_col (h : Fin 4) (e : Fin 128) : hd (col h e) = h := Fin.ext (by have := e.isLt; simp only [col, hd]; omega)
theorem ln_col (h : Fin 4) (e : Fin 128) : ln (col h e) = e := Fin.ext (by have := e.isLt; simp only [col, ln]; omega)

def cen (x : Fin 128 → ℝ) (e : Fin 128) : ℝ := x e - (∑ e, x e) / 128
def vr (x : Fin 128 → ℝ) : ℝ := (∑ e, cen x e * cen x e) / 128 + eps
def rg (x : Fin 128 → ℝ) : ℝ := (Real.sqrt (vr x))⁻¹
def gn (x : Fin 128 → ℝ) (e : Fin 128) : ℝ := cen x e * rg x

theorem vr_pos (x : Fin 128 → ℝ) : 0 < vr x :=
  add_pos_of_nonneg_of_pos (div_nonneg (sum_nonneg fun e _ => mul_self_nonneg _) (by norm_num)) (by unfold eps; norm_num)
theorem rg_sq (x : Fin 128 → ℝ) : rg x * rg x * vr x = 1 := by
  unfold rg
  rw [← mul_inv, Real.mul_self_sqrt (vr_pos x).le]
  exact inv_mul_cancel₀ (vr_pos x).ne'
theorem rsqrt_vr (x : Fin 128 → ℝ) : Ideal.rsqrt ((vr x : ℝ) : EReal) = ((rg x : ℝ) : EReal) := by
  have h := vr_pos x
  rw [Ideal.rsqrt_coe, if_neg (not_lt.mpr h.le), if_neg h.ne']; rfl
theorem sum_cen (x : Fin 128 → ℝ) : ∑ e, cen x e = 0 := by
  unfold cen
  rw [sum_sub_distrib, sum_const, card_univ, Fintype.card_fin, nsmul_eq_mul]; push_cast; ring

/-- The gradient through the norm, as the kernel writes it. -/
def dgn (x d : Fin 128 → ℝ) (e : Fin 128) : ℝ :=
  rg x * (d e - (∑ e, d e) / 128 - gn x e * ((∑ e, d e * gn x e) / 128))

/-- The gradient of the centred row by the chain rule. -/
def dcen (x d : Fin 128 → ℝ) (e : Fin 128) : ℝ := d e * rg x
    + cen x e * (((∑ e, cen x e * d e) * (-(1/2) * (rg x / vr x))) / 128) + ((∑ e, cen x e * d e) * (-(1/2) * (rg x / vr x))) / 128 * cen x e

theorem dgn_eq (x d : Fin 128 → ℝ) (e : Fin 128) : dcen x d e + (∑ e, -dcen x d e) / 128 = dgn x d e := by
  have h := rg_sq x
  have hm := (vr_pos x).ne'
  have e1 : (∑ e, d e * gn x e) = (∑ e, cen x e * d e) * rg x := by
    rw [sum_mul]; exact sum_congr rfl fun e _ => by unfold gn; ring
  have e2 : rg x / vr x = rg x * rg x * rg x := by
    rw [div_eq_iff hm]; calc rg x = rg x * (rg x * rg x * vr x) := by rw [h, mul_one]
      _ = _ := by ring
  have e3 : ∑ e, -dcen x d e = -((∑ e, d e) * rg x) := by
    unfold dcen
    rw [sum_neg_distrib, sum_add_distrib, sum_add_distrib, ← sum_mul, ← sum_mul, ← mul_sum, sum_cen]; ring
  rw [e3]
  unfold dcen dgn
  rw [e1, e2]; unfold gn; ring

/-! ## The gates -/

def sg (z : ℝ) : ℝ := 1/2 * Real.tanh (1/2 * z) + 1/2
def dsilu (z : ℝ) : ℝ := sg z * (1 + z * (1 - sg z))

theorem sg_eq (z : ℝ) : 1 / (1 + Real.exp (-z)) = sg z := by
  unfold sg
  have h1 : Real.exp (-z) = Real.exp (-(1/2 * z)) * Real.exp (-(1/2 * z)) := by rw [← Real.exp_add]; congr 1; ring
  have h2 : Real.exp (1/2 * z) * Real.exp (-(1/2 * z)) = 1 := by rw [← Real.exp_add]; simp
  have ha := Real.exp_pos (1/2 * z)
  have hb := Real.exp_pos (-(1/2 * z))
  rw [Real.tanh_eq_sinh_div_cosh, Real.sinh_eq, Real.cosh_eq, h1]
  generalize Real.exp (1/2 * z) = a at *
  generalize Real.exp (-(1/2 * z)) = b at *
  have : 1 + b * b ≠ 0 := by positivity
  have : a + b ≠ 0 := by positivity
  field_simp
  linear_combination (-2 * b - 0 * a) * h2

/-- What gelu's tanh takes. -/
def th (z : ℝ) : ℝ := Real.tanh (K * (z + 8943 / 200000 * z * z * z))
def gelu (z : ℝ) : ℝ := 1/2 * z * (1 + th z)
def dgelu (z : ℝ) : ℝ := 1/2 * (1 + th z) + 1/2 * z * (1 - th z * th z) * K * (1 + 26829 / 200000 * z * z)

section Columns
variable {Val : EltTy → Type} [∀ e, Nonempty (Val e)] {e : EltTy} {R n : ℕ}

theorem emb_col {h o : ℕ} (inb : ∀ a, (![0, o] : Fin 2 → ℕ) a + (![R, h] : Fin 2 → ℕ) a ≤ (⟨2, ![R, n]⟩ : Shape).size a)
    (r : Fin R) (i : Fin h) (j : Fin n) (hj : j.val = o + i.val) :
    (ix2 r j : (⟨2, ![R, n]⟩ : Shape).Idx) = (Rect.unit (s := ⟨2, ![R, n]⟩) ![0, o] ![R, h] inb).emb (ix2 r i : (⟨2, ![R, h]⟩ : Shape).Idx) := by
  funext a; apply Fin.ext
  match a with
  | ⟨0, _⟩ => show r.val = 0 + 1 * r.val; omega
  | ⟨1, _⟩ => show j.val = o + 1 * i.val; omega

/-- Whole columns stored last are read back, and other columns hold what was there before. -/
theorem cband {h o : ℕ} (inb : ∀ a, (![0, o] : Fin 2 → ℕ) a + (![R, h] : Fin 2 → ℕ) a ≤ (⟨2, ![R, n]⟩ : Shape).size a)
    (w : (Rect.unit (s := ⟨2, ![R, n]⟩) ![0, o] ![R, h] inb).shape.Idx → Val e) (L : List (View.Piece Val (⟨2, ![R, n]⟩ : Shape) e))
    (r : Fin R) (j : Fin n) (g : Val e) (h1 : ∀ i : Fin h, j.val = o + i.val → w (ix2 r i : (⟨2, ![R, h]⟩ : Shape).Idx) = g)
    (h2 : j.val < o ∨ o + h ≤ j.val → View.canon L (ix2 r j : (⟨2, ![R, n]⟩ : Shape).Idx) = g) :
    View.canon ((⟨Rect.unit (s := ⟨2, ![R, n]⟩) ![0, o] ![R, h] inb, w⟩ : View.Piece Val (⟨2, ![R, n]⟩ : Shape) e) :: L) (ix2 r j : (⟨2, ![R, n]⟩ : Shape).Idx) = g := by
  by_cases hr : o ≤ j.val ∧ j.val < o + h
  · have hi : j.val - o < h := by omega
    rw [emb_col inb r ⟨j.val - o, hi⟩ j (by simp only; omega), View.canon_cons_emb]
    exact h1 ⟨j.val - o, hi⟩ (by simp only; omega)
  · rw [View.canon_cons_of_not_mem]
    · exact h2 (by omega)
    · rw [Rect.mem_set_unit]; intro hall
      have h0 := hall (1 : Fin 2)
      exact hr h0
end Columns

end Cert.Mix
end
-- ==== Proof.Mix.lean ====
/-
The call of the gated mix's gradient: its arguments as real numbers, and the blocks that a grid point reads.
-/
module

public import proofs.«01_k».proof.Proof.Gen.Kernel7Ideal.Value
public import Idealize.ShloMosaic.Lib.Pipeline.ValueKit
public import proofs.«01_k».proof.Proof.MixMath

@[expose] public section

set_option maxRecDepth 16384

noncomputable section

open Idealize.ShloMosaic Idealize.ShloMosaic.TcCoe Idealize.SL.Sem
open Idealize.ShloMosaic.Pipeline (Dat)

namespace Cert.Kernel7Ideal.Mix
open Cert.Kernel7Ideal Cert.Kernel7Ideal.Gen Cert.Norm Cert.Mix Finset

/-- The call's arguments as real numbers. -/
structure In where
  f : Fin 4352 → Fin 512 → ℝ
  b : Fin 4352 → Fin 512 → ℝ
  p : Fin 4352 → Fin 1536 → ℝ
  hf : Fin 4352 → Fin 512 → ℝ
  hb : Fin 4352 → Fin 512 → ℝ
  w : Fin 1024 → Fin 1024 → ℝ
  d : Fin 4096 → Fin 1024 → ℝ

namespace In
variable (I : In)
/-- A head of the retention's output, its gate, the recurrence's output and gate. -/
def X (r : Fin 4352) (h : Fin 4) (e : Fin 128) : ℝ := I.f r (col h e) + I.b r (col h e)
def G (r : Fin 4352) (j : Fin 512) : ℝ := I.p r ⟨j.val, by have := j.isLt; omega⟩
def Z (r : Fin 4352) (j : Fin 512) : ℝ := I.p r ⟨1024 + j.val, by have := j.isLt; omega⟩
def L (r : Fin 4352) (j : Fin 512) : ℝ := I.hf r j + I.hb r j
/-- The product's gradient on a row of the sequence, and on every row: the context's has none. -/
def P (r : Fin 4096) (k : Fin 1024) : ℝ := ∑ e, I.d r e * I.w k e
def A (r : Fin 4352) (k : Fin 1024) : ℝ := if h : r.val < 256 then 0 else I.P ⟨r.val - 256, by have := r.isLt; omega⟩ k
def R (r : Fin 4352) (j : Fin 512) : ℝ := I.A r ⟨j.val, by have := j.isLt; omega⟩
def Q (r : Fin 4352) (j : Fin 512) : ℝ := I.A r ⟨512 + j.val, by have := j.isLt; omega⟩
/-- The four results. -/
def C (r : Fin 4352) (h : Fin 4) (e : Fin 128) : ℝ := I.R r (col h e) * (I.G r (col h e) * sg (I.G r (col h e)))
def DO (r : Fin 4352) (h : Fin 4) (e : Fin 128) : ℝ := dgn (I.X r h) (I.C r h) e
def DG (r : Fin 4352) (h : Fin 4) (e : Fin 128) : ℝ := I.R r (col h e) * gn (I.X r h) e * dsilu (I.G r (col h e))
def DH (r : Fin 4352) (j : Fin 512) : ℝ := I.Q r j * gelu (I.Z r j)
def DZ (r : Fin 4352) (j : Fin 512) : ℝ := I.Q r j * I.L r j * dgelu (I.Z r j)
end In

/-- A row of the sequence among the rows with the context before it. -/
def up (r : Fin 4096) : Fin 4352 := ⟨256 + r.val, by have := r.isLt; omega⟩
theorem In.A_up (I : In) (r : Fin 4096) (k : Fin 1024) : I.A (up r) k = I.P r k :=
  (dif_neg (by simp [up])).trans (congrArg (fun r => I.P r k) (Fin.ext (Nat.add_sub_cancel_left ..)))
theorem In.A_lt (I : In) (r : Fin 4352) (h : r.val < 256) (k : Fin 1024) : I.A r k = 0 := dif_pos h

variable (m : (ℓ : Loc nD τ sig) → Buf (Elt Ideal) ℓ)

/-- The launched arrays hold these numbers. -/
structure Holds (I : In) (c : Dev nD) : Prop where
  f : ∀ r e, (show EReal from m ((c : Thread nD τ).loc main_arg0) (ix2 r e)) = (I.f r e : EReal)
  b : ∀ r e, (show EReal from m ((c : Thread nD τ).loc main_arg1) (ix2 r e)) = (I.b r e : EReal)
  p : ∀ r e, (show EReal from m ((c : Thread nD τ).loc main_arg2) (ix2 r e)) = (I.p r e : EReal)
  hf : ∀ r e, (show EReal from m ((c : Thread nD τ).loc main_arg3) (ix2 r e)) = (I.hf r e : EReal)
  hb : ∀ r e, (show EReal from m ((c : Thread nD τ).loc main_arg4) (ix2 r e)) = (I.hb r e : EReal)
  w : ∀ e k, (show EReal from m ((c : Thread nD τ).loc main_arg5) (ix2 e k)) = (I.w e k : EReal)
  d : ∀ r e, (show EReal from m ((c : Thread nD τ).loc main_arg6) (ix2 r e)) = (I.d r e : EReal)

/-- Every window's block index at a grid point. -/
theorem idx : ∀ t : Fin cfg0.N, win0_0.index t = ![min t.val 16 - 1, 0] ∧ win0_1.index t = ![0, 0, 0]
    ∧ win0_2.index t = ![t.val - 1, 0] ∧ win0_3.index t = ![t.val - 1, 0] ∧ win0_4.index t = ![t.val - 1, 0] ∧ win0_5.index t = ![t.val - 1, 2]
    ∧ win0_6.index t = ![t.val - 1, 0] ∧ win0_7.index t = ![t.val - 1, 0] ∧ win0_8.index t = ![t.val - 1, 0] ∧ win0_9.index t = ![t.val - 1, 0]
    ∧ win0_10.index t = ![t.val - 1, 0] ∧ win0_11.index t = ![t.val - 1, 0] :=
  (by decide +kernel : ∀ t : Fin grid0.N, _)

variable {m} {I : In} {c : Dev nD}

/-! ## The arrays that the host prepares -/

theorem v1_at (H : Holds m I c) (k : Fin 1024) (e : Fin 1024) :
    (show EReal from V m c main_v1 (ix3 0 k e)) = (I.w k e : EReal) := by
  rw [← H.w]; entry_read; pointwise
theorem v2_at (H : Holds m I c) (r : Fin 4096) (e : Fin 1024) :
    (show EReal from V m c main_v2 (ix2 r e)) = (I.d r e : EReal) := by
  rw [← H.d]; entry_read; pointwise

/-! ## The blocks at a grid point -/

theorem lt18 (t : Fin cfg0.N) : t.val < 18 := lt_of_lt_of_eq t.isLt N_0

/-- The rows of the point's tile, and the rows of the sequence whose product it takes. -/
def rows (t : Fin cfg0.N) (i : Fin 256) : Fin 4352 := ⟨(t.val - 1) * 256 + i.val, by have := lt18 t; have := i.isLt; omega⟩
def seq (n : ℕ) (i : Fin 256) : Fin 4096 := ⟨(min n 16 - 1) * 256 + i.val, by have := i.isLt; omega⟩
theorem rows_lt (t : Fin cfg0.N) (h : t.val ≤ 1) (i : Fin 256) : (rows t i).val < 256 := by
  have := i.isLt; simp only [rows]; omega
theorem rows_up (t : Fin cfg0.N) (h : 1 < t.val) (i : Fin 256) : rows t i = up (seq (t.val - 1) i) := by
  have := lt18 t; have := i.isLt
  exact Fin.ext (by simp only [rows, up, seq]; omega)

theorem b0_at (H : Holds m I c) (t : Fin cfg0.N) (i : Fin 256) (e : Fin 1024) :
    (show EReal from iblk m c 0 t (ix2 i e)) = (I.d (seq t.val i) e : EReal) :=
  (congrArg (V m c main_v2) (by unfold seq; blk_ext [idx t])).trans (v2_at H _ e)
theorem iblk1 (c : Dev nD) (t : Fin cfg0.N) : iblk m c 1 t = V m c main_v1 := by blk_ext! [iblk, idx t]
theorem b2_at (H : Holds m I c) (t : Fin cfg0.N) (i : Fin 256) (e : Fin 512) :
    (show EReal from iblk m c 2 t (ix2 i e)) = (I.f (rows t i) e : EReal) :=
  (congrArg (V m c main_arg0) (by unfold rows; blk_ext [idx t])).trans ((congrFun (V_main_arg0 m c) _).trans (H.f _ e))
theorem b3_at (H : Holds m I c) (t : Fin cfg0.N) (i : Fin 256) (e : Fin 512) :
    (show EReal from iblk m c 3 t (ix2 i e)) = (I.b (rows t i) e : EReal) :=
  (congrArg (V m c main_arg1) (by unfold rows; blk_ext [idx t])).trans ((congrFun (V_main_arg1 m c) _).trans (H.b _ e))
theorem b4_at (H : Holds m I c) (t : Fin cfg0.N) (i : Fin 256) (e : Fin 512) :
    (show EReal from iblk m c 4 t (ix2 i e)) = (I.G (rows t i) e : EReal) :=
  (congrArg (V m c main_arg2) (by unfold rows; blk_ext [idx t])).trans ((congrFun (V_main_arg2 m c) _).trans (H.p _ ⟨e.val, by have := e.isLt; omega⟩))
theorem b5_at (H : Holds m I c) (t : Fin cfg0.N) (i : Fin 256) (e : Fin 512) :
    (show EReal from iblk m c 5 t (ix2 i e)) = (I.Z (rows t i) e : EReal) :=
  (congrArg (V m c main_arg2) (by unfold rows; blk_ext [idx t])).trans ((congrFun (V_main_arg2 m c) _).trans (H.p _ ⟨1024 + e.val, by have := e.isLt; omega⟩))
theorem b6_at (H : Holds m I c) (t : Fin cfg0.N) (i : Fin 256) (e : Fin 512) :
    (show EReal from iblk m c 6 t (ix2 i e)) = (I.hf (rows t i) e : EReal) :=
  (congrArg (V m c main_arg3) (by unfold rows; blk_ext [idx t])).trans ((congrFun (V_main_arg3 m c) _).trans (H.hf _ e))
theorem b7_at (H : Holds m I c) (t : Fin cfg0.N) (i : Fin 256) (e : Fin 512) :
    (show EReal from iblk m c 7 t (ix2 i e)) = (I.hb (rows t i) e : EReal) :=
  (congrArg (V m c main_arg4) (by unfold rows; blk_ext [idx t])).trans ((congrFun (V_main_arg4 m c) _).trans (H.hb _ e))

end Cert.Kernel7Ideal.Mix
end
-- ==== Proof.MixTile.lean ====
/-
The call of the gated mix's gradient: one grid point's arithmetic as real numbers.
-/
module

public import proofs.«01_k».proof.Proof.Mix

@[expose] public section

set_option maxRecDepth 16384

noncomputable section

open Idealize.ShloMosaic Idealize.ShloMosaic.TcCoe Idealize.SL.Sem
open Idealize.ShloMosaic.Pipeline (Dat)

namespace Cert.Kernel7Ideal.Mix
open Cert.Kernel7Ideal Cert.Kernel7Ideal.Gen Cert.Norm Cert.Mix Finset

/-- What a point reads, row `ρ i` of the arrays in its row `i`; `v12` is the product's gradient. -/
structure Reads (I : In) (ρ : Fin 256 → Fin 4352) (v12 : FVec Ideal S256x1024 .f32) (v13 v14 v16 v204 v220 v221 : Vec Ideal S256x512 .f32) : Prop where
  h12 : ∀ i k, (v12 (ix2 i k) : EReal) = (I.A (ρ i) k : EReal)
  h13 : ∀ i e, (v13 (ix2 i e) : EReal) = (I.f (ρ i) e : EReal)
  h14 : ∀ i e, (v14 (ix2 i e) : EReal) = (I.b (ρ i) e : EReal)
  h16 : ∀ i e, (v16 (ix2 i e) : EReal) = (I.G (ρ i) e : EReal)
  h204 : ∀ i e, (v204 (ix2 i e) : EReal) = (I.Z (ρ i) e : EReal)
  h220 : ∀ i e, (v220 (ix2 i e) : EReal) = (I.hf (ρ i) e : EReal)
  h221 : ∀ i e, (v221 (ix2 i e) : EReal) = (I.hb (ρ i) e : EReal)

variable {I : In} {ρ : Fin 256 → Fin 4352} {v12 : FVec Ideal S256x1024 .f32} {v13 v14 v16 v204 v220 v221 : Vec Ideal S256x512 .f32}
  (R : Reads I ρ v12 v13 v14 v16 v204 v220 v221)
include R

/-! ## The gates -/

theorem p8 (i : Fin 256) (e : Fin 512) : (k0_pay8 (F := Ideal) v16 (ix2 i e) : EReal) = (sg (I.G (ρ i) e) : EReal) := by
  unfold sg
  pointwise [k0_pay8, R.h16]
  simp only [lit_half, ← EReal.coe_mul, Ideal.tanh_coe, ← EReal.coe_add]
theorem p9 (i : Fin 256) (e : Fin 512) : (k0_pay9 (F := Ideal) v16 (ix2 i e) : EReal) = ((I.G (ρ i) e * sg (I.G (ρ i) e) : ℝ) : EReal) := by
  pointwise [k0_pay9, p8 R, R.h16]
  exact (EReal.coe_mul _ _).symm
theorem p10 (i : Fin 256) (e : Fin 512) : (k0_pay10 (F := Ideal) v16 (ix2 i e) : EReal) = (dsilu (I.G (ρ i) e) : EReal) := by
  unfold dsilu
  pointwise [k0_pay10, p8 R, R.h16]
  simp only [← EReal.coe_one, ← EReal.coe_sub, ← EReal.coe_mul, ← EReal.coe_add]

/-! ## The heads in turn: the centred row, its reciprocal root, the normed row, the gate's gradient and the head's -/

theorem cen0 (i : Fin 256) (e : Fin 128) : (k0_pay13 (F := Ideal) (k0_pay11 v13 v14) (k0_pay12 v13 v14) (ix2 i e) : EReal) = (cen (I.X (ρ i) 0) e : EReal) := by
  unfold cen In.X
  simp only [col_zero]
  pointwise [k0_pay11, k0_pay12, k0_pay13, k0_pay7, R.h13, R.h14]
  simp only [lit_128, ← EReal.coe_add, ← coe_sum, div_128, ← EReal.coe_sub]
theorem root0 (i : Fin 256) : (k0_pay14 (F := Ideal) (k0_pay11 v13 v14) (k0_pay12 v13 v14) (ix2 i 0) : EReal) = (rg (I.X (ρ i) 0) : EReal) := by
  have h := cen0 R i
  rw [← rsqrt_vr]
  unfold vr
  pointwise [k0_pay14, h]
  simp only [lit_128, lit_eps, ← EReal.coe_mul, ← coe_sum, div_128, ← EReal.coe_add]
theorem normed0 (i : Fin 256) (e : Fin 128) : (k0_pay15 (F := Ideal) (k0_pay11 v13 v14) (k0_pay12 v13 v14) (ix2 i e) : EReal) = (gn (I.X (ρ i) 0) e : EReal) := by
  have h := cen0 R i
  unfold gn
  pointwise [k0_pay15, h, root0 R]
  exact (EReal.coe_mul _ _).symm
theorem dg0 (i : Fin 256) (e : Fin 128) : (k0_pay17 (F := Ideal) v12 (k0_pay10 v16) (k0_pay11 v13 v14) (k0_pay12 v13 v14) (ix2 i e) : EReal) = (I.DG (ρ i) 0 e : EReal) := by
  have h := normed0 R i
  unfold In.DG In.R
  simp only [col_zero]
  pointwise [k0_pay17, k0_pay16, h, R.h12, p10 R]
  simp only [← EReal.coe_mul]
theorem do0 (i : Fin 256) (e : Fin 128) : (k0_pay18 (F := Ideal) v12 (k0_pay9 v16) (k0_pay11 v13 v14) (k0_pay12 v13 v14) (ix2 i e) : EReal) = (I.DO (ρ i) 0 e : EReal) := by
  have h := normed0 R i
  have h' := root0 R i
  unfold In.DO dgn In.C In.R
  simp only [col_zero]
  pointwise [k0_pay18, k0_pay16, h, h', R.h12, p9 R]
  simp only [lit_128, ← EReal.coe_mul, ← coe_sum, div_128, ← EReal.coe_sub]

theorem cen1 {k : Ideal .f32} (hk : (k : EReal) = ((128 : ℝ) : EReal)) (i : Fin 256) (e : Fin 128) : (k0_pay21 (F := Ideal) (k0_pay19 (k0_pay7 v13 v14)) (k0_pay20 (k0_pay7 v13 v14)) (k) (ix2 i e) : EReal) = (cen (I.X (ρ i) 1) e : EReal) := by
  unfold cen In.X
  pointwise [k0_pay19, k0_pay20, k0_pay21, hk, k0_pay7, R.h13, R.h14]
  simp only [lit_128, ← EReal.coe_add, ← coe_sum, div_128, ← EReal.coe_sub]
  rfl
theorem root1 {k : Ideal .f32} (hk : (k : EReal) = ((128 : ℝ) : EReal)) (i : Fin 256) : (k0_pay22 (F := Ideal) (k0_pay19 (k0_pay7 v13 v14)) (k0_pay20 (k0_pay7 v13 v14)) (k) (ix2 i 0) : EReal) = (rg (I.X (ρ i) 1) : EReal) := by
  have h := cen1 R hk i
  rw [← rsqrt_vr]
  unfold vr
  pointwise [k0_pay22, h]
  simp only [lit_128, lit_eps, ← EReal.coe_mul, ← coe_sum, div_128, ← EReal.coe_add]
theorem normed1 {k : Ideal .f32} (hk : (k : EReal) = ((128 : ℝ) : EReal)) (i : Fin 256) (e : Fin 128) : (k0_pay23 (F := Ideal) (k0_pay19 (k0_pay7 v13 v14)) (k0_pay20 (k0_pay7 v13 v14)) (k) (ix2 i e) : EReal) = (gn (I.X (ρ i) 1) e : EReal) := by
  have h := cen1 R hk i
  unfold gn
  pointwise [k0_pay23, h, root1 R hk]
  exact (EReal.coe_mul _ _).symm
theorem dg1 {k : Ideal .f32} (hk : (k : EReal) = ((128 : ℝ) : EReal)) (i : Fin 256) (e : Fin 128) : (k0_pay25 (F := Ideal) v12 (k0_pay10 v16) (k0_pay19 (k0_pay7 v13 v14)) (k0_pay20 (k0_pay7 v13 v14)) (k) (ix2 i e) : EReal) = (I.DG (ρ i) 1 e : EReal) := by
  have h := normed1 R hk i
  unfold In.DG In.R
  pointwise [k0_pay25, k0_pay24, h, R.h12, p10 R]
  simp only [← EReal.coe_mul]
  rfl
theorem do1 {k : Ideal .f32} (hk : (k : EReal) = ((128 : ℝ) : EReal)) (i : Fin 256) (e : Fin 128) : (k0_pay26 (F := Ideal) v12 (k0_pay9 v16) (k0_pay19 (k0_pay7 v13 v14)) (k0_pay20 (k0_pay7 v13 v14)) (k) (ix2 i e) : EReal) = (I.DO (ρ i) 1 e : EReal) := by
  have h := normed1 R hk i
  have h' := root1 R hk i
  unfold In.DO dgn In.C In.R
  pointwise [k0_pay26, k0_pay24, h, h', R.h12, p9 R]
  simp only [lit_128, ← EReal.coe_mul, ← coe_sum, div_128, ← EReal.coe_sub]
  rfl

theorem cen2 (i : Fin 256) (e : Fin 128) : (k0_pay29 (F := Ideal) (k0_pay27 (k0_pay7 v13 v14)) (k0_pay28 (k0_pay7 v13 v14)) (ix2 i e) : EReal) = (cen (I.X (ρ i) 2) e : EReal) := by
  unfold cen In.X
  pointwise [k0_pay27, k0_pay28, k0_pay29, k0_pay7, R.h13, R.h14]
  simp only [lit_128, ← EReal.coe_add, ← coe_sum, div_128, ← EReal.coe_sub]
  rfl
theorem root2 (i : Fin 256) : (k0_pay30 (F := Ideal) (k0_pay27 (k0_pay7 v13 v14)) (k0_pay28 (k0_pay7 v13 v14)) (ix2 i 0) : EReal) = (rg (I.X (ρ i) 2) : EReal) := by
  have h := cen2 R i
  rw [← rsqrt_vr]
  unfold vr
  pointwise [k0_pay30, h]
  simp only [lit_128, lit_eps, ← EReal.coe_mul, ← coe_sum, div_128, ← EReal.coe_add]
theorem normed2 (i : Fin 256) (e : Fin 128) : (k0_pay31 (F := Ideal) (k0_pay27 (k0_pay7 v13 v14)) (k0_pay28 (k0_pay7 v13 v14)) (ix2 i e) : EReal) = (gn (I.X (ρ i) 2) e : EReal) := by
  have h := cen2 R i
  unfold gn
  pointwise [k0_pay31, h, root2 R]
  exact (EReal.coe_mul _ _).symm
theorem dg2 (i : Fin 256) (e : Fin 128) : (k0_pay33 (F := Ideal) v12 (k0_pay10 v16) (k0_pay27 (k0_pay7 v13 v14)) (k0_pay28 (k0_pay7 v13 v14)) (ix2 i e) : EReal) = (I.DG (ρ i) 2 e : EReal) := by
  have h := normed2 R i
  unfold In.DG In.R
  pointwise [k0_pay33, k0_pay32, h, R.h12, p10 R]
  simp only [← EReal.coe_mul]
  rfl
theorem do2 (i : Fin 256) (e : Fin 128) : (k0_pay34 (F := Ideal) v12 (k0_pay9 v16) (k0_pay27 (k0_pay7 v13 v14)) (k0_pay28 (k0_pay7 v13 v14)) (ix2 i e) : EReal) = (I.DO (ρ i) 2 e : EReal) := by
  have h := normed2 R i
  have h' := root2 R i
  unfold In.DO dgn In.C In.R
  pointwise [k0_pay34, k0_pay32, h, h', R.h12, p9 R]
  simp only [lit_128, ← EReal.coe_mul, ← coe_sum, div_128, ← EReal.coe_sub]
  rfl

theorem cen3 (i : Fin 256) (e : Fin 128) : (k0_pay35 (F := Ideal) (k0_pay7 v13 v14) (ix2 i e) : EReal) = (cen (I.X (ρ i) 3) e : EReal) := by
  unfold cen In.X
  pointwise [k0_pay35, k0_pay7, R.h13, R.h14]
  simp only [lit_128, ← EReal.coe_add, ← coe_sum, div_128, ← EReal.coe_sub]
  rfl
theorem root3 (i : Fin 256) : (k0_pay36 (F := Ideal) (k0_pay35 (k0_pay7 v13 v14)) (ix2 i 0) : EReal) = (rg (I.X (ρ i) 3) : EReal) := by
  have h := cen3 R i
  rw [← rsqrt_vr]
  unfold vr
  pointwise [k0_pay36, h]
  simp only [lit_128, lit_eps, ← EReal.coe_mul, ← coe_sum, div_128, ← EReal.coe_add]
theorem normed3 (i : Fin 256) (e : Fin 128) : (k0_pay37 (F := Ideal) (k0_pay35 (k0_pay7 v13 v14)) (ix2 i e) : EReal) = (gn (I.X (ρ i) 3) e : EReal) := by
  have h := cen3 R i
  unfold gn
  pointwise [k0_pay37, h, root3 R]
  exact (EReal.coe_mul _ _).symm
theorem dg3 (i : Fin 256) (e : Fin 128) : (k0_pay39 (F := Ideal) v12 (k0_pay10 v16) (k0_pay35 (k0_pay7 v13 v14)) (ix2 i e) : EReal) = (I.DG (ρ i) 3 e : EReal) := by
  have h := normed3 R i
  unfold In.DG In.R
  pointwise [k0_pay39, k0_pay38, h, R.h12, p10 R]
  simp only [← EReal.coe_mul]
  rfl
theorem do3 (i : Fin 256) (e : Fin 128) : (k0_pay40 (F := Ideal) v12 (k0_pay9 v16) (k0_pay35 (k0_pay7 v13 v14)) (ix2 i e) : EReal) = (I.DO (ρ i) 3 e : EReal) := by
  have h := normed3 R i
  have h' := root3 R i
  unfold In.DO dgn In.C In.R
  pointwise [k0_pay40, k0_pay38, h, h', R.h12, p9 R]
  simp only [lit_128, ← EReal.coe_mul, ← coe_sum, div_128, ← EReal.coe_sub]
  rfl

/-! ## gelu -/

omit R in
theorem gelu3 : Named.named (F := Ideal) κ "gelu3" (φ := .f32) 0x3D372713#32 = ((8943 / 200000 : ℝ) : EReal) :=
  IdealRules.named_const.ideal_named_scalar _ _ _ _ rfl
omit R in
theorem gelu9 : Named.named (F := Ideal) κ "gelu9" (φ := .f32) 0x3E095D4F#32 = ((26829 / 200000 : ℝ) : EReal) :=
  IdealRules.named_const.ideal_named_scalar _ _ _ _ rfl

theorem p41 (i : Fin 256) (j : Fin 512) : (k0_pay41 (F := Ideal) v12 (ix2 i j) : EReal) = (I.Q (ρ i) j : EReal) := by
  unfold In.Q
  pointwise [k0_pay41, R.h12]
theorem p44 (i : Fin 256) (j : Fin 512) :
    (k0_pay44 (F := Ideal) (k0_pay41 v12) v204 (k0_pay42 v204) (k0_pay43 v204) (ix2 i j) : EReal) = (I.DH (ρ i) j : EReal) := by
  unfold In.DH gelu th
  pointwise [k0_pay44, k0_pay43, k0_pay42, p41 R, R.h204, gelu3]
  simp only [lit_half, lit_K, ← EReal.coe_one, ← EReal.coe_mul, ← EReal.coe_add, Ideal.tanh_coe]
theorem p45 (i : Fin 256) (j : Fin 512) : (k0_pay1 (F := Ideal) (k0_pay45 (k0_pay41 v12) v204 v220 v221) (ix2 i j) : EReal) = (I.DZ (ρ i) j : EReal) := by
  unfold In.DZ dgelu th In.L
  pointwise [k0_pay1, k0_pay45, p41 R, R.h204, R.h220, R.h221, gelu3, gelu9]
  simp only [lit_half, lit_K, ← EReal.coe_one, ← EReal.coe_mul, ← EReal.coe_add, ← EReal.coe_sub, Ideal.tanh_coe]

end Cert.Kernel7Ideal.Mix
end
-- ==== Proof.MixPoint.lean ====
/-
The call of the gated mix's gradient: what each grid point leaves.
-/
module

public import proofs.«01_k».proof.Proof.MixTile

@[expose] public section

set_option maxRecDepth 16384

noncomputable section

open Idealize.ShloMosaic Idealize.ShloMosaic.TcCoe Idealize.SL.Sem
open Idealize.ShloMosaic.Pipeline (Dat)

namespace Cert.Kernel7Ideal.Mix
open Cert.Kernel7Ideal Cert.Kernel7Ideal.Gen Cert.Norm Cert.Mix Finset

variable {m : (ℓ : Loc nD τ sig) → Buf (Elt Ideal) ℓ} {I : In} {c : Dev nD}

theorem pay3_at (H : Holds m I c) (e k : Fin 1024) : (k0_pay3 (F := Ideal) (V m c main_v1) (ix2 e k) : EReal) = (I.w k e : EReal) := by
  pointwise [k0_pay3]; exact v1_at H k e

/-- The scratch holds the transposed weights after every point. -/
theorem sc_at (H : Holds m I c) (e k : Fin 1024) : ∀ (n : ℕ) (hn : n < cfg0.N),
    ((outsAt0 m c n hn).2.2.2.2.1 (ix2 e k) : EReal) = (I.w k e : EReal)
  | 0, hn => by
    rw [outsAt0_A m c ⟨0, hn⟩ rfl]; frame_out; rw [iblk1]
    exact pay3_at H e k
  | n + 1, hn => by
    have hN : n + 1 < 18 := lt_of_lt_of_eq hn N_0
    rw [outsAt0_B m c ⟨n + 1, hn⟩ (by simp only; omega)]
    exact sc_at H e k n (Nat.lt_of_succ_lt hn)

/-- A tile's product with the transposed weights. -/
theorem prod_at (H : Holds m I c) (t : Fin cfg0.N) (S : Vec Ideal S1024x1024 .bf16) (hS : ∀ e k, (S (ix2 e k) : EReal) = (I.w k e : EReal))
    (i : Fin 256) (k : Fin 1024) : (k0_pay2 (F := Ideal) (k0_pay5 (iblk m c 0 t) S) (ix2 i k) : EReal) = (I.P (seq t.val i) k : EReal) := by
  have h := b0_at H t
  unfold In.P
  generalize iblk m c 0 t = x at *
  pointwise [k0_pay2, k0_pay5, hS, h]
  simp only [← EReal.coe_mul, ← coe_sum]

/-- The product that a point holds for the next. -/
theorem held (H : Holds m I c) (t : Fin cfg0.N) (i : Fin 256) (k : Fin 1024) :
    ((outsAt0 m c t.val t.isLt).2.2.2.2.2 (ix2 i k) : EReal) = (I.P (seq t.val i) k : EReal) := by
  by_cases h : t.val % 18 = 0
  · rw [outsAt0_A m c t h]; frame_out; rw [iblk1]
    exact prod_at H t _ (pay3_at H) i k
  · rw [outsAt0_B m c t h]; frame_out
    rw [(Memref.isWhole_whole cc0_scratch0).read_unread]
    exact prod_at H t _ (fun e k => sc_at H e k _ _) i k

theorem bit_one : ∀ t : Fin cfg0.N, t.val = 1 → Scalar.cmpi .slt (Scalar.subi (BitVec.ofNat 32 ((grid0.coords t) 0).val) 1#32) 1#32 = 1#1 :=
  (by decide +kernel : ∀ t : Fin grid0.N, t.val = 1 → Scalar.cmpi .slt (Scalar.subi (BitVec.ofNat 32 ((grid0.coords t) 0).val) 1#32) 1#32 = 1#1)
theorem bit_more : ∀ t : Fin cfg0.N, 1 < t.val → Scalar.cmpi .slt (Scalar.subi (BitVec.ofNat 32 ((grid0.coords t) 0).val) 1#32) 1#32 = 0#1 :=
  (by decide +kernel : ∀ t : Fin grid0.N, 1 < t.val → Scalar.cmpi .slt (Scalar.subi (BitVec.ofNat 32 ((grid0.coords t) 0).val) 1#32) 1#32 = 0#1)

/-- The product's gradient on a point's rows: none on the context's. -/
theorem v12_at (t : Fin cfg0.N) (h : ¬ t.val % 18 = 0) (S : Vec Ideal S256x1024 .f32)
    (hS : ∀ i k, (S (ix2 i k) : EReal) = (I.P (seq (t.val - 1) i) k : EReal)) (i : Fin 256) (k : Fin 1024) :
    (k0_pay6 (F := Ideal) (grid0.coords t) S (ix2 i k) : EReal) = (I.A (rows t i) k : EReal) := by
  have h2 := hS i k
  by_cases h1 : t.val = 1
  · have hb := bit_one t h1
    rw [I.A_lt _ (rows_lt t h1.le i)]
    unfold k0_pay6; dsimp only
    rw [hb]
    pointwise [h2]
    rw [EReal.coe_zero]; exact mul_zero _
  · have hb := bit_more t (by omega)
    rw [rows_up t (by omega) i, I.A_up]
    unfold k0_pay6; dsimp only
    rw [hb]
    pointwise [h2]

abbrev V12 (m : (ℓ : Loc nD τ sig) → Buf (Elt Ideal) ℓ) (c : Dev nD) (t : Fin cfg0.N) : FVec Ideal S256x1024 .f32 :=
  k0_pay6 (grid0.coords t) (outsAt0 m c (t.val - 1) (by omega)).2.2.2.2.2

theorem reads (H : Holds m I c) (t : Fin cfg0.N) (h : ¬ t.val % 18 = 0) : Reads I (rows t) (V12 m c t) (iblk m c 2 t) (iblk m c 3 t)
    (iblk m c 4 t) (iblk m c 5 t) (iblk m c 6 t) (iblk m c 7 t) where
  h12 := v12_at t h _ fun i k => held H ⟨t.val - 1, by omega⟩ i k
  h13 := b2_at H t
  h14 := b3_at H t
  h16 := b4_at H t
  h204 := b5_at H t
  h220 := b6_at H t
  h221 := b7_at H t

theorem block10 (H : Holds m I c) (t : Fin cfg0.N) (h : ¬ t.val % 18 = 0) (i : Fin 256) (j : Fin 512) :
    ((outsAt0 m c t.val t.isLt).2.2.1 (ix2 i j) : EReal) = (I.DZ (rows t i) j : EReal) := by
  rw [outsAt0_B m c t h]; frame_out
  rw [(Memref.isWhole_whole cc0_scratch1).read_unread]
  exact p45 (reads H t h) i j
theorem block11 (H : Holds m I c) (t : Fin cfg0.N) (h : ¬ t.val % 18 = 0) (i : Fin 256) (j : Fin 512) :
    ((outsAt0 m c t.val t.isLt).2.2.2.1 (ix2 i j) : EReal) = (I.DH (rows t i) j : EReal) := by
  rw [outsAt0_B m c t h]; frame_out
  rw [(Memref.isWhole_whole cc0_scratch1).read_unread]
  exact p44 (reads H t h) i j

theorem block8 (H : Holds m I c) (t : Fin cfg0.N) (h : ¬ t.val % 18 = 0) (i : Fin 256) (j : Fin 512) :
    ((outsAt0 m c t.val t.isLt).1 (ix2 i j) : EReal) = (I.DO (rows t i) (hd j) (ln j) : EReal) := by
  have R := reads H t h
  rw [outsAt0_B m c t h]; frame_out
  rw [(Memref.isWhole_whole cc0_scratch1).read_unread]
  have key : ∀ (g : Fin 4) (e : Fin 128), j.val = g.val * 128 + e.val → (I.DO (rows t i) g e : EReal) = (I.DO (rows t i) (hd j) (ln j) : EReal) :=
    fun g e hj => by rw [show j = col g e from Fin.ext hj, hd_col, ln_col]
  refine cband _ _ _ i j _ (fun e he => (do3 R i e).trans (key 3 e he)) fun h3 => ?_
  refine cband _ _ _ i j _ (fun e he => (do2 R i e).trans (key 2 e he)) fun h2 => ?_
  refine cband _ _ _ i j _ (fun e he => (do1 R lit_128 i e).trans (key 1 e he)) fun h1 => ?_
  refine cband _ _ _ i j _ (fun e he => (do0 R i e).trans (key 0 e (by simpa using he))) fun h0 => ?_
  have := j.isLt
  omega
theorem block9 (H : Holds m I c) (t : Fin cfg0.N) (h : ¬ t.val % 18 = 0) (i : Fin 256) (j : Fin 512) :
    ((outsAt0 m c t.val t.isLt).2.1 (ix2 i j) : EReal) = (I.DG (rows t i) (hd j) (ln j) : EReal) := by
  have R := reads H t h
  rw [outsAt0_B m c t h]; frame_out
  rw [(Memref.isWhole_whole cc0_scratch1).read_unread]
  have key : ∀ (g : Fin 4) (e : Fin 128), j.val = g.val * 128 + e.val → (I.DG (rows t i) g e : EReal) = (I.DG (rows t i) (hd j) (ln j) : EReal) :=
    fun g e hj => by rw [show j = col g e from Fin.ext hj, hd_col, ln_col]
  refine cband _ _ _ i j _ (fun e he => (dg3 R i e).trans (key 3 e he)) fun h3 => ?_
  refine cband _ _ _ i j _ (fun e he => (dg2 R i e).trans (key 2 e he)) fun h2 => ?_
  refine cband _ _ _ i j _ (fun e he => (dg1 R lit_128 i e).trans (key 1 e he)) fun h1 => ?_
  refine cband _ _ _ i j _ (fun e he => (dg0 R i e).trans (key 0 e (by simpa using he))) fun h0 => ?_
  have := j.isLt
  omega

end Cert.Kernel7Ideal.Mix
end
-- ==== Proof.MixFinal.lean ====
/-
The call of the gated mix's gradient: its result arrays.
-/
module

public import proofs.«01_k».proof.Proof.MixPoint

@[expose] public section

set_option maxRecDepth 16384

noncomputable section

open Idealize.ShloMosaic Idealize.ShloMosaic.TcCoe Idealize.SL.Sem
open Idealize.ShloMosaic.Pipeline (Dat)

namespace Cert.Kernel7Ideal.Mix
open Cert.Kernel7Ideal Cert.Kernel7Ideal.Gen Cert.Norm Cert.Mix Finset

variable {m : (ℓ : Loc nD τ sig) → Buf (Elt Ideal) ℓ} {I : In} {c : Dev nD}

theorem flush8 : ∀ t : Fin cfg0.N, (cfg0.win 8).flush t = true → t.val ≠ 0 := (by decide +kernel : ∀ t : Fin grid0.N, _)
theorem flush9 : ∀ t : Fin cfg0.N, (cfg0.win 9).flush t = true → t.val ≠ 0 := (by decide +kernel : ∀ t : Fin grid0.N, _)
theorem flush10 : ∀ t : Fin cfg0.N, (cfg0.win 10).flush t = true → t.val ≠ 0 := (by decide +kernel : ∀ t : Fin grid0.N, _)
theorem flush11 : ∀ t : Fin cfg0.N, (cfg0.win 11).flush t = true → t.val ≠ 0 := (by decide +kernel : ∀ t : Fin grid0.N, _)

theorem arr8 (H : Holds m I c) : (dats m 0 c).arrAt 8 cfg0.N = (fun i => I.DO (i 0) (hd (i 1)) (ln (i 1)) : FVec Ideal S4352x512 .bf16) := by
  refine (dats m 0 c).arrAt_eq_of_covers 8 _ (by decide +kernel) fun t ht y => ?_
  have h0 := flush8 t ht
  have := lt18 t
  blk_simp
  rw [after0_8]
  obtain ⟨i, j, rfl⟩ : ∃ i j, y = ix2 i j := ⟨y 0, y 1, eq_ix2 y⟩
  refine (block8 H t (by omega) i j).trans ?_
  have he : (win0_8.blk t).view.emb (ix2 i j) = (ix2 (rows t i) j : S4352x512.Idx) := by unfold rows; blk_ext [idx t]
  exact (congrArg (fun z : S4352x512.Idx => (I.DO (z 0) (hd (z 1)) (ln (z 1)) : EReal)) he).symm
theorem arr9 (H : Holds m I c) : (dats m 0 c).arrAt 9 cfg0.N = (fun i => I.DG (i 0) (hd (i 1)) (ln (i 1)) : FVec Ideal S4352x512 .bf16) := by
  refine (dats m 0 c).arrAt_eq_of_covers 9 _ (by decide +kernel) fun t ht y => ?_
  have h0 := flush9 t ht
  have := lt18 t
  blk_simp
  rw [after0_9]
  obtain ⟨i, j, rfl⟩ : ∃ i j, y = ix2 i j := ⟨y 0, y 1, eq_ix2 y⟩
  refine (block9 H t (by omega) i j).trans ?_
  have he : (win0_9.blk t).view.emb (ix2 i j) = (ix2 (rows t i) j : S4352x512.Idx) := by unfold rows; blk_ext [idx t]
  exact (congrArg (fun z : S4352x512.Idx => (I.DG (z 0) (hd (z 1)) (ln (z 1)) : EReal)) he).symm
theorem arr10 (H : Holds m I c) : (dats m 0 c).arrAt 10 cfg0.N = (fun i => I.DZ (i 0) (i 1) : FVec Ideal S4352x512 .bf16) := by
  refine (dats m 0 c).arrAt_eq_of_covers 10 _ (by decide +kernel) fun t ht y => ?_
  have h0 := flush10 t ht
  have := lt18 t
  blk_simp
  rw [after0_10]
  obtain ⟨i, j, rfl⟩ : ∃ i j, y = ix2 i j := ⟨y 0, y 1, eq_ix2 y⟩
  refine (block10 H t (by omega) i j).trans ?_
  have he : (win0_10.blk t).view.emb (ix2 i j) = (ix2 (rows t i) j : S4352x512.Idx) := by unfold rows; blk_ext [idx t]
  exact (congrArg (fun z : S4352x512.Idx => (I.DZ (z 0) (z 1) : EReal)) he).symm
theorem arr11 (H : Holds m I c) : (dats m 0 c).arrAt 11 cfg0.N = (fun i => I.DH (i 0) (i 1) : FVec Ideal S4352x512 .f32) := by
  refine (dats m 0 c).arrAt_eq_of_covers 11 _ (by decide +kernel) fun t ht y => ?_
  have h0 := flush11 t ht
  have := lt18 t
  blk_simp
  rw [after0_11]
  obtain ⟨i, j, rfl⟩ : ∃ i j, y = ix2 i j := ⟨y 0, y 1, eq_ix2 y⟩
  refine (block11 H t (by omega) i j).trans ?_
  have he : (win0_11.blk t).view.emb (ix2 i j) = (ix2 (rows t i) j : S4352x512.Idx) := by unfold rows; blk_ext [idx t]
  exact (congrArg (fun z : S4352x512.Idx => (I.DH (z 0) (z 1) : EReal)) he).symm

end Cert.Kernel7Ideal.Mix
end
-- ==== Proof.MixRef.lean ====
/-
The differentiated reference of the gated mix, line by line over real numbers.
-/
module

public import proofs.«01_k».proof.Proof.Mix
public import proofs.«01_k».proof.Proof.Gen.Reference7Ideal.Read
public import Idealize.ShloMosaic.Lib.KernelVsHost

@[expose] public section

set_option maxRecDepth 16384

noncomputable section
namespace Cert.Reference7Ideal.Mix
open Idealize.ShloMosaic Idealize.ShloMosaic.TcCoe Idealize.SL.Sem
open Cert.Reference7Ideal Cert.Reference7Ideal.Gen Cert.Reference7Ideal.Read Cert.Norm Cert.Mix Finset
open Cert.Kernel7Ideal.Mix (In up)

/-- The arguments hold these numbers. -/
structure Args (I : In) (x0 x1 : FVec Ideal S4352x512 .f32) (x2 : FVec Ideal S4352x1536 .f32) (x3 x4 : FVec Ideal S4352x512 .f32)
    (x5 : FVec Ideal S1024x1024 .f32) (x6 : FVec Ideal S4096x1024 .f32) : Prop where
  f : ∀ r e, (x0 (ix2 r e) : EReal) = (I.f r e : EReal)
  b : ∀ r e, (x1 (ix2 r e) : EReal) = (I.b r e : EReal)
  p : ∀ r e, (x2 (ix2 r e) : EReal) = (I.p r e : EReal)
  hf : ∀ r e, (x3 (ix2 r e) : EReal) = (I.hf r e : EReal)
  hb : ∀ r e, (x4 (ix2 r e) : EReal) = (I.hb r e : EReal)
  w : ∀ e k, (x5 (ix2 e k) : EReal) = (I.w e k : EReal)
  d : ∀ r e, (x6 (ix2 r e) : EReal) = (I.d r e : EReal)

variable {I : In} {x0 x1 : FVec Ideal S4352x512 .f32} {x2 : FVec Ideal S4352x1536 .f32} {x3 x4 : FVec Ideal S4352x512 .f32}
    {x5 : FVec Ideal S1024x1024 .f32} {x6 : FVec Ideal S4096x1024 .f32} (R : Args I x0 x1 x2 x3 x4 x5 x6)
include R

/-! ## The group norm -/

theorem r9 (r : Fin 4096) (h : Fin 4) (e : Fin 128) : (val_main_v9 (F := Ideal) x0 x1 (ix3 r h e) : EReal) = (I.X (up r) h e : EReal) := by
  unfold val_main_v9 val_main_v4 val_main_v0 In.X up col
  pointwise [R.f, R.b]
  exact (EReal.coe_add _ _).symm
theorem r15 (r : Fin 4096) (h : Fin 4) (e : Fin 128) : (val_main_v15 (F := Ideal) x0 x1 (ix3 r h e) : EReal) = (cen (I.X (up r) h) e : EReal) := by
  have h9 := r9 R
  unfold val_main_v15 val_main_v14 val_main_v13 val_main_v12 val_main_v11 val_main_v10 val_main_cst val_main_cst_0 cen
  pointwise [h9]
  simp only [lit_128, ← coe_sum, div_128, ← EReal.coe_sub]
theorem r22 (r : Fin 4096) (h : Fin 4) : (val_main_v22 (F := Ideal) x0 x1 (ix3 r h 0) : EReal) = (vr (I.X (up r) h) : EReal) := by
  have h15 := r15 R
  unfold val_main_v22 val_main_v21 val_main_v20 val_main_v19 val_main_v18 val_main_v17 val_main_v16 val_main_cst_1 val_main_cst_2 val_main_cst_3 vr
  pointwise [h15]
  simp only [lit_128, lit_eps, ← EReal.coe_mul, ← coe_sum, div_128, ← EReal.coe_add]
theorem r23 (r : Fin 4096) (h : Fin 4) : (val_main_v23 (F := Ideal) x0 x1 (ix3 r h 0) : EReal) = (rg (I.X (up r) h) : EReal) := by
  rw [← rsqrt_vr]; unfold val_main_v23; pointwise [r22 R]
theorem r26 (r : Fin 4096) (h : Fin 4) : (val_main_v26 (F := Ideal) x0 x1 (ix3 r h 0) : EReal) = ((-(1/2) * (rg (I.X (up r) h) / vr (I.X (up r) h)) : ℝ) : EReal) := by
  unfold val_main_v26 val_main_v25 val_main_v24 val_main_cst_4; pointwise [r22 R, r23 R]
  rw [lit_neg_half, div_real _ (vr_pos _).ne', ← EReal.coe_mul]
theorem r28 (r : Fin 4096) (h : Fin 4) (e : Fin 128) : (val_main_v28 (F := Ideal) x0 x1 (ix3 r h e) : EReal) = (gn (I.X (up r) h) e : EReal) := by
  have h15 := r15 R
  unfold val_main_v28 val_main_v27 gn; pointwise [h15, r23 R]
  exact (EReal.coe_mul _ _).symm
theorem r29 (r : Fin 4096) (j : Fin 512) : (val_main_v29 (F := Ideal) x0 x1 (ix2 r j) : EReal) = (gn (I.X (up r) (hd j)) (ln j) : EReal) := by
  have h := r28 R r (hd j) (ln j)
  unfold hd ln at *
  unfold val_main_v29; pointwise [h]

/-! ## The product and the gate -/

theorem r57 (r : Fin 4096) (k : Fin 1024) : (val_main_v57 (F := Ideal) x5 x6 (ix2 r k) : EReal) = (I.A (up r) k : EReal) := by
  rw [I.A_up]
  unfold val_main_v57 In.P; pointwise [R.w, R.d]
  simp only [← EReal.coe_mul, ← coe_sum]
theorem r58 (r : Fin 4096) (j : Fin 512) : (val_main_v58 (F := Ideal) x5 x6 (ix2 r j) : EReal) = (I.R (up r) j : EReal) := by
  unfold val_main_v58 In.R; pointwise [r57 R]
theorem r59 (r : Fin 4096) (j : Fin 512) : (val_main_v59 (F := Ideal) x5 x6 (ix2 r j) : EReal) = (I.Q (up r) j : EReal) := by
  unfold val_main_v59 In.Q; pointwise [r57 R]
theorem r5 (r : Fin 4096) (j : Fin 512) : (val_main_v5 (F := Ideal) x2 (ix2 r j) : EReal) = (I.G (up r) j : EReal) := by
  unfold val_main_v5 val_main_v1 In.G up; pointwise [R.p]
theorem s8 (r : Fin 4096) (j : Fin 512) : (val_main_v8_2 (F := Ideal) x2 (ix2 r j) : EReal) = (sg (I.G (up r) j) : EReal) := by
  have h := (add_pos one_pos (Real.exp_pos (-I.G (up r) j))).ne'
  rw [← sg_eq]
  unfold val_main_v8_2 val_main_call0_v4 val_main_call0_v3 val_main_call0_v2 val_main_call0_v1 val_main_call0_v0 val_main_call0_cst val_main_call0_cst_0
  pointwise [r5 R]
  rw [← EReal.coe_neg, Ideal.exp_coe, ← EReal.coe_one, ← EReal.coe_add, div_real _ h]
theorem r78 (r : Fin 4096) (h : Fin 4) (e : Fin 128) : (val_main_v78 (F := Ideal) x2 x5 x6 (ix3 r h e) : EReal) = (I.C (up r) h e : EReal) := by
  have a := s8 R r (col h e); have b := r5 R r (col h e); have d := r58 R r (col h e)
  rw [show I.C (up r) h e = I.G (up r) (col h e) * sg (I.G (up r) (col h e)) * I.R (up r) (col h e) from mul_comm _ _, EReal.coe_mul, EReal.coe_mul, ← a, ← b, ← d]
  unfold val_main_v78 val_main_v76 val_main_v8_0 col; pointwise
theorem r102 (r : Fin 4096) (j : Fin 512) : (val_main_v102 (F := Ideal) x0 x1 x2 x5 x6 (ix2 r j) : EReal) = (I.DG (up r) (hd j) (ln j) : EReal) := by
  have h77 : (val_main_v77 (F := Ideal) x0 x1 x5 x6 (ix2 r j) : EReal) = ((I.R (up r) j * gn (I.X (up r) (hd j)) (ln j) : ℝ) : EReal) := by
    unfold val_main_v77; pointwise [r58 R, r29 R]; exact (EReal.coe_mul _ _).symm
  unfold In.DG
  rw [col_hd]
  unfold val_main_v102 val_main_call1_v2 val_main_call1_v1 val_main_call1_v0 val_main_v8_1 val_main_call0_v7 val_main_call0_v6 val_main_call0_cst_1 dsilu
  pointwise [h77, s8 R, r5 R]
  simp only [← EReal.coe_one, ← EReal.coe_sub, ← EReal.coe_mul, ← EReal.coe_add]
  exact congrArg Real.toEReal (by ring)

/-! ## The gradient through the norm -/

theorem r88 (r : Fin 4096) (h : Fin 4) (e : Fin 128) : (val_main_v88 (F := Ideal) x0 x1 x2 x5 x6 (ix3 r h e) : EReal)
    = (((∑ e, cen (I.X (up r) h) e * I.C (up r) h e) * (-(1/2) * (rg (I.X (up r) h) / vr (I.X (up r) h))) / 128 : ℝ) : EReal) := by
  have h15 := r15 R; have h78 := r78 R
  unfold val_main_v88 val_main_v87 val_main_v86 val_main_v85 val_main_v84 val_main_v81 val_main_v80 val_main_v79 val_main_cst_17 val_main_cst_18 val_main_cst_19
  pointwise [h15, h78, r26 R]
  refine (Fin.sum_univ_one _).trans ?_
  rw [r26 R r h]
  simp only [lit_128, ← EReal.coe_mul, ← coe_sum, div_128]
theorem r92 (r : Fin 4096) (h : Fin 4) (e : Fin 128) : (val_main_v92 (F := Ideal) x0 x1 x2 x5 x6 (ix3 r h e) : EReal)
    = (dcen (I.X (up r) h) (I.C (up r) h) e : EReal) := by
  have h15 := r15 R; have h78 := r78 R; have h88 := r88 R
  unfold val_main_v92 val_main_v91 val_main_v90 val_main_v89 val_main_v83 val_main_v82 dcen
  pointwise [h15, h78, h88, r23 R]
  simp only [← EReal.coe_mul, ← EReal.coe_add]
theorem r100 (r : Fin 4096) (h : Fin 4) (e : Fin 128) : (val_main_v100 (F := Ideal) x0 x1 x2 x5 x6 (ix3 r h e) : EReal) = (I.DO (up r) h e : EReal) := by
  have h92 := r92 R
  unfold In.DO
  rw [← dgn_eq]
  unfold val_main_v100 val_main_v99 val_main_v98 val_main_v97 val_main_v96 val_main_v95 val_main_v94 val_main_v93 val_main_cst_20 val_main_cst_21 val_main_cst_22
  pointwise [h92]
  rw [Fin.sum_univ_one]
  simp only [lit_128, ← EReal.coe_neg, ← coe_sum, div_128, ← EReal.coe_add]
theorem r101 (r : Fin 4096) (j : Fin 512) : (val_main_v101 (F := Ideal) x0 x1 x2 x5 x6 (ix2 r j) : EReal) = (I.DO (up r) (hd j) (ln j) : EReal) := by
  have h := r100 R r (hd j) (ln j)
  unfold hd ln at *
  unfold val_main_v101; pointwise [h]

/-! ## gelu -/

theorem r7 (r : Fin 4096) (j : Fin 512) : (val_main_v7 (F := Ideal) x2 (ix2 r j) : EReal) = (I.Z (up r) j : EReal) := by
  unfold val_main_v7 val_main_v3 In.Z up; pointwise [R.p]
theorem r43 (r : Fin 4096) (j : Fin 512) : (val_main_v43 (F := Ideal) x2 (ix2 r j) : EReal) = (th (I.Z (up r) j) : EReal) := by
  unfold val_main_v43 val_main_v42 val_main_v41 val_main_v40 val_main_v39 val_main_v38 val_main_v37 val_main_v36 val_main_v32 val_main_v31
    val_main_cst_6 val_main_cst_7 val_main_cst_8 th
  pointwise [r7 R]
  simp only [lit_44715, lit_million, lit_K, ← EReal.coe_mul, div_million, ← EReal.coe_add, Ideal.tanh_coe]
  refine congrArg Real.toEReal (congrArg Real.tanh ?_)
  ring
theorem r52 (r : Fin 4096) (j : Fin 512) : (val_main_v52 (F := Ideal) x2 (ix2 r j) : EReal) = ((1/2 * (1 + th (I.Z (up r) j)) : ℝ) : EReal) := by
  unfold val_main_v52 val_main_v51 val_main_v50 val_main_v49 val_main_cst_11 val_main_cst_12
  pointwise [r43 R]
  simp only [lit_half, ← EReal.coe_one, ← EReal.coe_mul, ← EReal.coe_add]
theorem r6 (r : Fin 4096) (j : Fin 512) : (val_main_v6 (F := Ideal) x3 x4 (ix2 r j) : EReal) = (I.L (up r) j : EReal) := by
  unfold val_main_v6 val_main_v2 In.L up; pointwise [R.hf, R.hb]
  exact (EReal.coe_add _ _).symm
theorem r61 (r : Fin 4096) (j : Fin 512) : (val_main_v61 (F := Ideal) x2 x5 x6 (ix2 r j) : EReal) = (I.DH (up r) j : EReal) := by
  unfold val_main_v61 val_main_v53 In.DH gelu
  pointwise [r59 R, r7 R, r52 R]
  simp only [← EReal.coe_mul]
  exact congrArg Real.toEReal (by ring)
theorem r75 (r : Fin 4096) (j : Fin 512) : (val_main_v75 (F := Ideal) x2 x3 x4 x5 x6 (ix2 r j) : EReal) = (I.DZ (up r) j : EReal) := by
  have h60 : (val_main_v60 (F := Ideal) x3 x4 x5 x6 (ix2 r j) : EReal) = ((I.L (up r) j * I.Q (up r) j : ℝ) : EReal) := by
    unfold val_main_v60; pointwise [r6 R, r59 R]; exact (EReal.coe_mul _ _).symm
  have h68 : (val_main_v68 (F := Ideal) x2 x3 x4 x5 x6 (ix2 r j) : EReal)
      = ((K * (1/2 * (I.Z (up r) j * (I.L (up r) j * I.Q (up r) j)) * ((1 + th (I.Z (up r) j)) * (1 - th (I.Z (up r) j)))) : ℝ) : EReal) := by
    unfold val_main_v68 val_main_v67 val_main_v66 val_main_v65 val_main_v64 val_main_v62 val_main_v48 val_main_v47 val_main_v46 val_main_v45 val_main_v44
      val_main_cst_9 val_main_cst_10 val_main_cst_13 val_main_cst_14
    pointwise [h60, r7 R, r43 R]
    simp only [lit_half, lit_K, ← EReal.coe_one, ← EReal.coe_sub, ← EReal.coe_mul, ← EReal.coe_add]
  unfold val_main_v75 val_main_v74 val_main_v73 val_main_v72 val_main_v71 val_main_v70 val_main_v69 val_main_v63 val_main_v35 val_main_v34 val_main_v33
    val_main_cst_5 val_main_cst_15 val_main_cst_16 In.DZ dgelu
  pointwise [h60, h68, r7 R, r52 R]
  simp only [lit_3, lit_44715, lit_million, div_million, ← EReal.coe_mul, ← EReal.coe_add]
  exact congrArg Real.toEReal (by ring)

/-! ## The results: rows of zeros for the context -/

omit R in
theorem padded (x : FVec Ideal S4096x512 .f32) (D : Fin 4352 → Fin 512 → ℝ) (h : ∀ r j, (x (ix2 r j) : EReal) = (D (up r) j : EReal))
    (h0 : ∀ r j, r.val < 256 → D r j = 0) (r : Fin 4352) (j : Fin 512) :
    (pad S4352x512 ![256, 0] ![0, 0] ![0, 0] x (constant (F := Ideal) S_ .f32 0x00000000#32) pads_S4096x512_S4352x512_25600_000 h_S_ (ix2 r j) : EReal) = (D r j : EReal) := by
  by_cases hr : r.val < 256
  · rw [h0 r j hr, EReal.coe_zero, pad_apply_of_not_inside _ _ _ _ _ _ _ _ 0 (fun hc => absurd hc.1 (not_le.mpr hr))]
    pointwise
  · have hlt := r.isLt
    obtain ⟨s, rfl⟩ : ∃ s : Fin 4096, r = up s := ⟨⟨r.val - 256, by omega⟩, Fin.ext (by simp only [up]; omega)⟩
    rw [pad_apply_of_inside _ _ _ _ _ _ _ _ (ix2 s j) (fun a => by
      match a with
      | ⟨0, _⟩ => simp [ix2, up]
      | ⟨1, _⟩ => simp [ix2])]
    exact h s j

omit R in
theorem R_lt (r : Fin 4352) (j : Fin 512) (h : r.val < 256) : I.R r j = 0 := I.A_lt r h _
omit R in
theorem Q_lt (r : Fin 4352) (j : Fin 512) (h : r.val < 256) : I.Q r j = 0 := I.A_lt r h _

theorem r107 (r : Fin 4352) (j : Fin 512) : (val_main_v107 (F := Ideal) x0 x1 x2 x5 x6 (ix2 r j) : EReal) = (I.DO r (hd j) (ln j) : EReal) := by
  refine padded _ (fun r j => I.DO r (hd j) (ln j)) (r101 R) (fun r j h => ?_) r j
  have h0 : ∀ e, I.C r (hd j) e = 0 := fun e => by unfold In.C; rw [R_lt _ _ h, zero_mul]
  unfold In.DO dgn
  simp only [h0, zero_mul, sum_const_zero, zero_div, mul_zero, sub_zero]
theorem r108 (r : Fin 4352) (j : Fin 512) : (val_main_v108 (F := Ideal) x0 x1 x2 x5 x6 (ix2 r j) : EReal) = (I.DG r (hd j) (ln j) : EReal) := by
  refine padded _ (fun r j => I.DG r (hd j) (ln j)) (r102 R) (fun r j h => ?_) r j
  unfold In.DG
  rw [R_lt _ _ h, zero_mul, zero_mul]
theorem r109 (r : Fin 4352) (j : Fin 512) : (val_main_v109 (F := Ideal) x2 x3 x4 x5 x6 (ix2 r j) : EReal) = (I.DZ r j : EReal) := by
  refine padded _ I.DZ (r75 R) (fun r j h => ?_) r j
  unfold In.DZ
  rw [Q_lt _ _ h, zero_mul, zero_mul]
theorem r104 (r : Fin 4352) (j : Fin 512) : (val_main_v104 (F := Ideal) x2 x5 x6 (ix2 r j) : EReal) = (I.DH r j : EReal) := by
  refine padded _ I.DH (r61 R) (fun r j h => ?_) r j
  unfold In.DH
  rw [Q_lt _ _ h, zero_mul]

end Cert.Reference7Ideal.Mix
end
-- ==== Proof.MixPre.lean ====
/-
The precondition of the gated mix's call: every element of its arguments is a real number.
-/
module

public import proofs.«01_k».proof.Pre_mix_finite
public import proofs.«01_k».proof.Proof.Finite

@[expose] public section

noncomputable section
namespace Cert.Pre_mix_finite
open Idealize.ShloMosaic Idealize.ShloMosaic.TcCoe Idealize.SL.Sem Cert.Finite

/-- The function's side conditions. -/
theorem facts : Facts := by
  constructor <;> decide +kernel

variable [Facts]
open Facts

theorem all_real (x0 x1 : FVec Ideal S4352x512 .f32) (x2 : FVec Ideal S4352x1536 .f32) (x3 x4 : FVec Ideal S4352x512 .f32)
    (x5 : FVec Ideal S1024x1024 .f32) (x6 : FVec Ideal S4096x1024 .f32)
    (h : fn (F := Ideal) x0 x1 x2 x3 x4 x5 x6 = fun _ => 1#1) :
    (∀ i, ((show EReal from x0 i).toReal : EReal) = x0 i) ∧ (∀ i, ((show EReal from x1 i).toReal : EReal) = x1 i) ∧ (∀ i, ((show EReal from x2 i).toReal : EReal) = x2 i)
      ∧ (∀ i, ((show EReal from x3 i).toReal : EReal) = x3 i) ∧ (∀ i, ((show EReal from x4 i).toReal : EReal) = x4 i) ∧ (∀ i, ((show EReal from x5 i).toReal : EReal) = x5 i)
      ∧ (∀ i, ((show EReal from x6 i).toReal : EReal) = x6 i) := by
  have h' : andi (andi (andi (andi (andi (andi (test bcast_S_S4352x512 reducesTo_S4352x512_S_d0_1 h_S_ x0) (test bcast_S_S4352x512 reducesTo_S4352x512_S_d0_1 h_S_ x1))
    (test bcast_S_S4352x1536 reducesTo_S4352x1536_S_d0_1 h_S_ x2)) (test bcast_S_S4352x512 reducesTo_S4352x512_S_d0_1 h_S_ x3)) (test bcast_S_S4352x512 reducesTo_S4352x512_S_d0_1 h_S_ x4))
    (test bcast_S_S1024x1024 reducesTo_S1024x1024_S_d0_1 h_S_ x5)) (test bcast_S_S4096x1024 reducesTo_S4096x1024_S_d0_1 h_S_ x6) ix0 = 1#1 := congrFun h ix0
  obtain ⟨h', h6⟩ := and_one _ _ h'
  obtain ⟨h', h5⟩ := and_one _ _ h'
  obtain ⟨h', h4⟩ := and_one _ _ h'
  obtain ⟨h', h3⟩ := and_one _ _ h'
  obtain ⟨h', h2⟩ := and_one _ _ h'
  obtain ⟨h0, h1⟩ := and_one _ _ h'
  exact ⟨reals _ _ _ x0 h0, reals _ _ _ x1 h1, reals _ _ _ x2 h2, reals _ _ _ x3 h3, reals _ _ _ x4 h4, reals _ _ _ x5 h5, reals _ _ _ x6 h6⟩

end Cert.Pre_mix_finite
end
-- ==== Proof.MixClaim.lean ====
/-
The call of the gated mix's gradient: its frames, and its results are those of the differentiated reference.
-/
module

public import proofs.«01_k».proof.Defs
public import proofs.«01_k».proof.Proof.MixFinal
public import proofs.«01_k».proof.Proof.MixRef
public import proofs.«01_k».proof.Proof.MixPre
public import proofs.«01_k».proof.Proof.Gen.Kernel7.Frame
public import proofs.«01_k».proof.Proof.Gen.Kernel7Ideal.Value
public import proofs.«01_k».proof.Proof.Gen.Reference7Ideal.Run
public import Idealize.ShloMosaic.Lib.Quiescent

@[expose] public section

set_option maxRecDepth 16384

noncomputable section
namespace Cert.Proof7
open Idealize.ShloMosaic Idealize.ShloMosaic.TcCoe Idealize.SL.Sem
open Cert.Kernel7Ideal Cert.Kernel7Ideal.Mix Cert.Mix Finset

abbrev Mem := (ℓ : Loc nD τ sig) → Buf (Elt Ideal) ℓ

section
variable (m : Mem) (c : Dev nD)

/-- The arguments as arrays of extended reals. -/
abbrev a0 : S4352x512.Idx → EReal := m ((c.tc : Thread nD τ).loc main_arg0)
abbrev a1 : S4352x512.Idx → EReal := m ((c.tc : Thread nD τ).loc main_arg1)
abbrev a2 : S4352x1536.Idx → EReal := m ((c.tc : Thread nD τ).loc main_arg2)
abbrev a3 : S4352x512.Idx → EReal := m ((c.tc : Thread nD τ).loc main_arg3)
abbrev a4 : S4352x512.Idx → EReal := m ((c.tc : Thread nD τ).loc main_arg4)
abbrev a5 : S1024x1024.Idx → EReal := m ((c.tc : Thread nD τ).loc main_arg5)
abbrev a6 : S4096x1024.Idx → EReal := m ((c.tc : Thread nD τ).loc main_arg6)

/-- The numbers that the launched arrays hold. -/
def inOf : In where
  f r e := (a0 m c (ix2 r e)).toReal
  b r e := (a1 m c (ix2 r e)).toReal
  p r e := (a2 m c (ix2 r e)).toReal
  hf r e := (a3 m c (ix2 r e)).toReal
  hb r e := (a4 m c (ix2 r e)).toReal
  w e k := (a5 m c (ix2 e k)).toReal
  d r e := (a6 m c (ix2 r e)).toReal
end

theorem args [Cert.Pre_mix_finite.Facts] {m : Mem} {c : Dev nD}
    (h : Cert.Pre_mix_finite.fn (F := Ideal) (a0 m c) (a1 m c) (a2 m c) (a3 m c) (a4 m c) (a5 m c) (a6 m c) = fun _ => 1#1) :
    Cert.Reference7Ideal.Mix.Args (inOf m c) (a0 m c) (a1 m c) (a2 m c) (a3 m c) (a4 m c) (a5 m c) (a6 m c) := by
  obtain ⟨h0, h1, h2, h3, h4, h5, h6⟩ := Cert.Pre_mix_finite.all_real _ _ _ _ _ _ _ h
  exact ⟨fun r e => (h0 _).symm, fun r e => (h1 _).symm, fun r e => (h2 _).symm, fun r e => (h3 _).symm, fun r e => (h4 _).symm, fun r e => (h5 _).symm,
    fun r e => (h6 _).symm⟩

theorem holds {m : Mem} {c : Dev nD} (A : Cert.Reference7Ideal.Mix.Args (inOf m c) (a0 m c) (a1 m c) (a2 m c) (a3 m c) (a4 m c) (a5 m c) (a6 m c)) :
    Holds m (inOf m c) c := ⟨A.f, A.b, A.p, A.hf, A.hb, A.w, A.d⟩

def res0 (m : Mem) (c : Dev nD) : S4352x512.Idx → EReal := fun i => (inOf m c).DO (i 0) (hd (i 1)) (ln (i 1))
def res1 (m : Mem) (c : Dev nD) : S4352x512.Idx → EReal := fun i => (inOf m c).DG (i 0) (hd (i 1)) (ln (i 1))
def res2 (m : Mem) (c : Dev nD) : S4352x512.Idx → EReal := fun i => (inOf m c).DZ (i 0) (i 1)
def res3 (m : Mem) (c : Dev nD) : S4352x512.Idx → EReal := fun i => (inOf m c).DH (i 0) (i 1)

theorem quiescent_Kernel7 : Cert.quiescent_Kernel7 := fun m ρ _ => Cert.Kernel7.Gen.frame m ρ

theorem quiescent_Kernel7Ideal : Cert.quiescent_Kernel7Ideal := fun m ρ _ => Cert.Kernel7Ideal.Gen.frame m ρ

theorem quiescent_Kernel7Ideal_pre [hP : Cert.Pre_mix_finite.Facts] : Cert.quiescent_Kernel7Ideal_pre_mix_finite :=
  fun m ρ _ => Cert.Kernel7Ideal.Gen.frame m ρ

theorem quiescent_Reference7Ideal : Cert.quiescent_Reference7Ideal := fun m ρ _ =>
  (θ_run Cert.Reference7Ideal.defs _ _).mono (fun r h => ⟨fun c => (h c).2.2.2.2, sem_eq_zero_of_no_sems (by decide) r.2⟩)
    (Cert.Reference7Ideal.Value.run (F := Ideal) m ρ)

theorem quiescent_Reference7Ideal_pre [hP : Cert.Pre_mix_finite.Facts] : Cert.quiescent_Reference7Ideal_pre_mix_finite :=
  fun m ρ _ => quiescent_Reference7Ideal m ρ trivial

/-- The two constants that the ideal kernel takes at their exact values. -/
theorem preserves : Cert.preserves_Kernel7_Kernel7Ideal :=
  ⟨IdealRules.named_const.statement Cert.Kernel7Ideal.κ "gelu3" .f32 0x3D372713#32 ((8943 / 200000 : ℝ) : EReal) rfl,
    IdealRules.named_const.statement Cert.Kernel7Ideal.κ "gelu9" .f32 0x3E095D4F#32 ((26829 / 200000 : ℝ) : EReal) rfl⟩

set_option maxHeartbeats 1600000 in
theorem algebraic [hP : Cert.Pre_mix_finite.Facts] : Cert.algebraic_Kernel7Ideal_Reference7Ideal_pre_mix_finite := by
  intro m ρ m' ρ' hpre hagree
  have A := fun c => args (hpre c)
  refine ⟨res0 m, res1 m, res2 m, res3 m, ?_, ?_⟩
  · exact (θ_run Cert.Kernel7Ideal.defs _ _).mono (fun r h c => ⟨(h c).1.trans (arr8 (holds (A c))), (h c).2.1.trans (arr9 (holds (A c))),
      (h c).2.2.1.trans (arr10 (holds (A c))), (h c).2.2.2.1.trans (arr11 (holds (A c))), (h c).2.2.2.2⟩) (Cert.Kernel7Ideal.Value.run_blocks (F := Ideal) m ρ)
  · refine (θ_run Cert.Reference7Ideal.defs _ _).mono (fun r h c => ?_) (Cert.Reference7Ideal.Value.run (F := Ideal) m' ρ')
    obtain ⟨e0, e1, e2, e3, ea⟩ := h c
    obtain ⟨g0, g1, g2, g3, g4, g5, g6⟩ := hagree c
    have B := A c
    simp only [a0, a1, a2, a3, a4, a5, a6] at B
    rw [← g0, ← g1, ← g2, ← g3, ← g4, ← g5, ← g6] at B
    refine ⟨e0.trans ((Cert.Reference7Ideal.Read.val_main_v107_eq _ _).trans (funext fun y => ?_)),
      e1.trans ((Cert.Reference7Ideal.Read.val_main_v108_eq _ _).trans (funext fun y => ?_)),
      e2.trans ((Cert.Reference7Ideal.Read.val_main_v109_eq _ _).trans (funext fun y => ?_)),
      e3.trans ((Cert.Reference7Ideal.Read.val_main_v104_eq _ _ _).trans (funext fun y => ?_)), ea⟩
    all_goals obtain ⟨i, j, rfl⟩ : ∃ (i : Fin 4352) (j : Fin 512), y = ix2 i j := ⟨y 0, y 1, eq_ix2 y⟩
    · exact Cert.Reference7Ideal.Mix.r107 B i j
    · exact Cert.Reference7Ideal.Mix.r108 B i j
    · exact Cert.Reference7Ideal.Mix.r109 B i j
    · exact Cert.Reference7Ideal.Mix.r104 B i j

end Cert.Proof7
end
-- ==== Proof.Norm1Fwd.lean ====
/-
The forward call of the first norm and its modulation: the normed rows of the context and of the sequence, in both layouts.
-/
module

public import proofs.«01_k».proof.Defs
public import proofs.«01_k».proof.Proof.Gen.Kernel8.Frame
public import proofs.«01_k».proof.Proof.Gen.Kernel8Ideal.Value
public import proofs.«01_k».proof.Proof.Gen.Reference8Ideal.Run
public import proofs.«01_k».proof.Proof.Gen.Reference8Ideal.Read
public import Idealize.ShloMosaic.Lib.Pipeline.ValueKit
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.Kernel8Ideal.Norm1Fwd
open Cert.Kernel8Ideal Cert.Kernel8Ideal.Gen Finset

/-- A row divided by its root mean square, weighted, scaled and shifted. -/
def row (x g sc sh : Fin 1024 → EReal) (e : Fin 1024) : EReal :=
  x e * Ideal.rsqrt (Ideal.div (∑ k, x k * x k) (Ideal.ofBits .f32 0x44800000#32) + Ideal.ofBits .f32 0x358637BD#32) * g e * (1 + sc e) + sh e

section
variable (x0 : S256x1024.Idx → EReal) (x1 : S4096x1024.Idx → EReal) (x2 x3 : S6144.Idx → EReal) (x4 : S1024.Idx → EReal)

/-- The shift and the scale in a modulation's six parts. -/
def shift (y : S6144.Idx → EReal) (e : Fin 1024) : EReal := y (ix1 ⟨e.val, by have := e.isLt; omega⟩)
def scale (y : S6144.Idx → EReal) (e : Fin 1024) : EReal := y (ix1 ⟨1024 + e.val, by have := e.isLt; omega⟩)

/-- The context's rows, then the sequence's. -/
def HN (r : Fin 4352) (e : Fin 1024) : EReal :=
  if h : r.val < 256 then row (fun k => x0 (ix2 ⟨r.val, h⟩ k)) (fun k => x4 (ix1 k)) (scale x3) (shift x3) e
  else row (fun k => x1 (ix2 ⟨r.val - 256, by have := r.isLt; omega⟩ k)) (fun k => x4 (ix1 k)) (scale x2) (shift x2) e
end

/-! ## One grid point -/

/-- Whether the point is the context's. -/
abbrev bit (j : grid0.Coords) : BitVec 1 := Scalar.cmpi .slt (BitVec.ofNat 32 (j 0).val) 1#32

theorem bit_zero : ∀ t : Fin cfg0.N, t.val = 0 → bit (grid0.coords t) = 1#1 :=
  (by decide +kernel : ∀ t : Fin grid0.N, t.val = 0 → bit (grid0.coords t) = 1#1)
theorem bit_pos : ∀ t : Fin cfg0.N, t.val ≠ 0 → bit (grid0.coords t) = 0#1 :=
  (by decide +kernel : ∀ t : Fin grid0.N, t.val ≠ 0 → bit (grid0.coords t) = 0#1)

theorem pay_ctx (j : grid0.Coords) (hb : bit j = 1#1) (v1 v2 : Vec Ideal S256x1024 .f32) (v4 v6 v9 v11 v24 : Vec Ideal S1x1024 .f32) (i : Fin 256) (e : Fin 1024) :
    (k0_pay2 (F := Ideal) j v1 v2 v4 v6 v9 v11 v24 (ix2 i e) : EReal)
      = row (fun k => v1 (ix2 i k)) (fun k => v24 (ix2 0 k)) (fun k => v9 (ix2 0 k)) (fun k => v4 (ix2 0 k)) e := by
  unfold k0_pay2 row; dsimp only
  rw [show Scalar.cmpi .slt (BitVec.ofNat 32 (j 0).val) 1#32 = 1#1 from hb]
  pointwise
theorem pay_seq (j : grid0.Coords) (hb : bit j = 0#1) (v1 v2 : Vec Ideal S256x1024 .f32) (v4 v6 v9 v11 v24 : Vec Ideal S1x1024 .f32) (i : Fin 256) (e : Fin 1024) :
    (k0_pay2 (F := Ideal) j v1 v2 v4 v6 v9 v11 v24 (ix2 i e) : EReal)
      = row (fun k => v2 (ix2 i k)) (fun k => v24 (ix2 0 k)) (fun k => v11 (ix2 0 k)) (fun k => v6 (ix2 0 k)) e := by
  unfold k0_pay2 row; dsimp only
  rw [show Scalar.cmpi .slt (BitVec.ofNat 32 (j 0).val) 1#32 = 0#1 from hb]
  pointwise

variable (m : (ℓ : Loc nD τ sig) → Buf (Elt Ideal) ℓ) (c : Dev nD)

/-- The arguments as arrays of extended reals. -/
abbrev a0 : S256x1024.Idx → EReal := m ((c.tc : Thread nD τ).loc main_arg0)
abbrev a1 : S4096x1024.Idx → EReal := m ((c.tc : Thread nD τ).loc main_arg1)
abbrev a2 : S6144.Idx → EReal := m ((c.tc : Thread nD τ).loc main_arg2)
abbrev a3 : S6144.Idx → EReal := m ((c.tc : Thread nD τ).loc main_arg3)
abbrev a4 : S1024.Idx → EReal := m ((c.tc : Thread nD τ).loc main_arg4)
abbrev hn (r : Fin 4352) (e : Fin 1024) : EReal := HN (a0 m c) (a1 m c) (a2 m c) (a3 m c) (a4 m c) r e

/-! ## What the host prepares, and the blocks at a grid point -/

theorem v0_at (e : Fin 1024) : (show EReal from V m c main_v0 (ix2 0 e)) = a4 m c (ix1 e) := by
  entry_read; pointwise
theorem v4_at0 (e : Fin 1024) : (show EReal from V m c main_v4 (ix2 0 e)) = shift (a3 m c) e := by
  unfold shift; entry_read; pointwise
theorem v4_at1 (e : Fin 1024) : (show EReal from V m c main_v4 (ix2 1 e)) = scale (a3 m c) e := by
  unfold scale; entry_read; pointwise
theorem v4_at2 (e : Fin 1024) : (show EReal from V m c main_v4 (ix2 2 e)) = shift (a2 m c) e := by
  unfold shift; entry_read; pointwise
theorem v4_at3 (e : Fin 1024) : (show EReal from V m c main_v4 (ix2 3 e)) = scale (a2 m c) e := by
  unfold scale; entry_read; pointwise

theorem idx : ∀ t : Fin cfg0.N, win0_0.index t = ![0, 0] ∧ win0_1.index t = ![t.val - 1, 0] ∧ win0_2.index t = ![0, 0]
    ∧ win0_3.index t = ![0, 0] ∧ win0_4.index t = ![t.val, 0] ∧ win0_5.index t = ![0, t.val] :=
  (by decide +kernel : ∀ t : Fin grid0.N, _)

theorem lt17 (t : Fin cfg0.N) : t.val < 17 := lt_of_lt_of_eq t.isLt N_0

/-- The point's rows, and past the context the rows of the sequence. -/
def rows (t : Fin cfg0.N) (i : Fin 256) : Fin 4352 := ⟨t.val * 256 + i.val, by have := lt17 t; have := i.isLt; omega⟩
def seq (t : Fin cfg0.N) (i : Fin 256) : Fin 4096 := ⟨(t.val - 1) * 256 + i.val, by have := lt17 t; have := i.isLt; omega⟩

theorem b0_at (t : Fin cfg0.N) (i : Fin 256) (e : Fin 1024) : (show EReal from iblk m c 0 t (ix2 i e)) = a0 m c (ix2 i e) :=
  (congrArg (V m c main_arg0) (by blk_ext [idx t])).trans (congrFun (V_main_arg0 m c) _)
theorem b1_at (t : Fin cfg0.N) (i : Fin 256) (e : Fin 1024) : (show EReal from iblk m c 1 t (ix2 i e)) = a1 m c (ix2 (seq t i) e) := by
  have := lt17 t; have := i.isLt
  unfold seq
  exact (congrArg (V m c main_arg1) (by blk_ext [idx t])).trans (congrFun (V_main_arg1 m c) _)
theorem b2_at (t : Fin cfg0.N) (e : Fin 1024) : (show EReal from iblk m c 2 t (ix2 0 e)) = a4 m c (ix1 e) :=
  (congrArg (V m c main_v0) (by blk_ext [idx t])).trans (v0_at m c e)
theorem b3_at (t : Fin cfg0.N) (k : Fin 8) (e : Fin 1024) : iblk m c 3 t (ix2 k e) = V m c main_v4 (ix2 k e) :=
  congrArg (V m c main_v4) (by blk_ext [idx t])

theorem point (t : Fin cfg0.N) (i : Fin 256) (e : Fin 1024) (v4 v6 v9 v11 : Vec Ideal S1x1024 .f32)
    (h4 : ∀ e, v4 (ix2 0 e) = shift (a3 m c) e) (h9 : ∀ e, v9 (ix2 0 e) = scale (a3 m c) e)
    (h6 : ∀ e, v6 (ix2 0 e) = shift (a2 m c) e) (h11 : ∀ e, v11 (ix2 0 e) = scale (a2 m c) e) :
    (k0_pay2 (F := Ideal) (grid0.coords t) (iblk m c 0 t) (iblk m c 1 t) v4 v6 v9 v11 (iblk m c 2 t) (ix2 i e) : EReal) = hn m c (rows t i) e := by
  have h0 := b0_at m c t i; have h1 := b1_at m c t i; have h2 := b2_at m c t
  have hi := i.isLt
  unfold hn HN
  by_cases h : t.val = 0
  · rw [pay_ctx _ (bit_zero t h), dif_pos (by simp only [rows]; omega)]
    simp only [h0, h2, h4, h9]
    have : (⟨(rows t i).val, by simp only [rows]; omega⟩ : Fin 256) = i := Fin.ext (by simp only [rows]; omega)
    simp only [this]
  · rw [pay_seq _ (bit_pos t h), dif_neg (by simp only [rows]; omega)]
    simp only [h1, h2, h6, h11]
    have : (⟨(rows t i).val - 256, by have := (rows t i).isLt; omega⟩ : Fin 4096) = seq t i := Fin.ext (by simp only [rows, seq]; omega)
    simp only [this]

/-- The point's rows, as the body computes them. -/
abbrev pay (t : Fin cfg0.N) : FVec Ideal S256x1024 .f32 :=
  k0_pay2 (grid0.coords t) (iblk m c 0 t) (iblk m c 1 t) (View.ld (iblk m c 3 t) r0_1) (View.ld (iblk m c 3 t) r0_2)
    (View.ld (iblk m c 3 t) r0_3) (View.ld (iblk m c 3 t) r0_4) (iblk m c 2 t)

theorem pay_at (t : Fin cfg0.N) (i : Fin 256) (e : Fin 1024) : (pay m c t (ix2 i e) : EReal) = hn m c (rows t i) e := by
  refine point m c t i e _ _ _ _ ?_ ?_ ?_ ?_
  · intro e; refine Eq.trans ?_ ((b3_at m c t 0 e).trans (v4_at0 m c e)); unfold r0_1; pointwise
  · intro e; refine Eq.trans ?_ ((b3_at m c t 1 e).trans (v4_at1 m c e)); unfold r0_3; pointwise
  · intro e; refine Eq.trans ?_ ((b3_at m c t 2 e).trans (v4_at2 m c e)); unfold r0_2; pointwise
  · intro e; refine Eq.trans ?_ ((b3_at m c t 3 e).trans (v4_at3 m c e)); unfold r0_4; pointwise

/-! ## The result arrays -/

theorem out4 (t : Fin cfg0.N) (i : Fin 256) (e : Fin 1024) :
    (out0_4 (F := Ideal) (grid0.coords t) (iblk m c 0 t) (iblk m c 1 t) (iblk m c 2 t) (iblk m c 3 t) (ix2 i e) : EReal) = hn m c (rows t i) e := by
  rw [← pay_at]
  unfold out0_4; frame_out
  pointwise [k0_pay3]; rfl
theorem out5 (t : Fin cfg0.N) (i : Fin 256) (e : Fin 1024) :
    (out0_5 (F := Ideal) (grid0.coords t) (iblk m c 0 t) (iblk m c 1 t) (iblk m c 2 t) (iblk m c 3 t) (ix2 e i) : EReal) = hn m c (rows t i) e := by
  rw [← pay_at]
  unfold out0_5; frame_out
  pointwise [k0_pay1, k0_pay4]; rfl

theorem arr4 : (dats m 0 c).arrAt 4 cfg0.N = (fun y => hn m c (y 0) (y 1) : FVec Ideal S4352x1024 .bf16) := by
  refine (dats m 0 c).arrAt_eq_of_covers 4 _ (by decide +kernel) fun t ht y => ?_
  have := lt17 t
  blk_simp
  rw [after0_4]
  obtain ⟨i, e, rfl⟩ : ∃ i e, y = ix2 i e := ⟨y 0, y 1, eq_ix2 y⟩
  refine (out4 m c t i e).trans ?_
  have := i.isLt
  have he : (win0_4.blk t).view.emb (ix2 i e) = (ix2 (rows t i) e : S4352x1024.Idx) := by
    unfold rows; blk_ext [idx t]
  exact (congrArg (fun z : S4352x1024.Idx => hn m c (z 0) (z 1)) he).symm

theorem arr5 : (dats m 0 c).arrAt 5 cfg0.N = (fun y => hn m c (y 1) (y 0) : FVec Ideal S1024x4352 .bf16) := by
  refine (dats m 0 c).arrAt_eq_of_covers 5 _ (by decide +kernel) fun t ht y => ?_
  have := lt17 t
  blk_simp
  rw [after0_5]
  obtain ⟨e, i, rfl⟩ : ∃ e i, y = ix2 e i := ⟨y 0, y 1, eq_ix2 y⟩
  refine (out5 m c t i e).trans ?_
  have := i.isLt
  have he : (win0_5.blk t).view.emb (ix2 e i) = (ix2 e (rows t i) : S1024x4352.Idx) := by
    unfold rows; blk_ext [idx t]
  exact (congrArg (fun z : S1024x4352.Idx => hn m c (z 1) (z 0)) he).symm

end Cert.Kernel8Ideal.Norm1Fwd

namespace Cert.Reference8Ideal.Norm1Fwd
open Cert.Reference8Ideal Cert.Reference8Ideal.Gen Cert.Reference8Ideal.Read Finset
open Cert.Kernel8Ideal.Norm1Fwd (row shift scale HN)

variable (x0 : FVec Ideal S256x1024 .f32) (x1 : FVec Ideal S4096x1024 .f32) (x2 x3 : FVec Ideal S6144 .f32) (x4 : FVec Ideal S1024 .f32)

theorem r32 (r : Fin 256) (e : Fin 1024) : (val_main_v32 (F := Ideal) x0 x3 x4 (ix2 r e) : EReal)
    = row (fun k => x0 (ix2 r k)) (fun k => x4 (ix1 k)) (scale x3) (shift x3) e := by
  unfold val_main_v32 val_main_v31 val_main_v30 val_main_v29 val_main_v28 val_main_v27 val_main_v26 val_main_v25 val_main_cst_2 val_main_v24 val_main_v23
    val_main_v22 val_main_v21 val_main_v20 val_main_v19 val_main_v18 val_main_v17 val_main_cst_1 val_main_v16 val_main_v15 val_main_cst_0 val_main_v14
    val_main_v13 val_main_cst val_main_v12 val_main_v7 val_main_v6 row scale shift
  pointwise
theorem r53 (r : Fin 4096) (e : Fin 1024) : (val_main_v53 (F := Ideal) x1 x2 x4 (ix2 r e) : EReal)
    = row (fun k => x1 (ix2 r k)) (fun k => x4 (ix1 k)) (scale x2) (shift x2) e := by
  unfold val_main_v53 val_main_v52 val_main_v51 val_main_v50 val_main_v49 val_main_v48 val_main_v47 val_main_v46 val_main_cst_6 val_main_v45 val_main_v44
    val_main_v43 val_main_v42 val_main_v41 val_main_v40 val_main_v39 val_main_v38 val_main_cst_5 val_main_v37 val_main_v36 val_main_cst_4 val_main_v35
    val_main_v34 val_main_cst_3 val_main_v33 val_main_v1 val_main_v0 row scale shift
  pointwise
theorem r55 (r : Fin 4352) (e : Fin 1024) : (val_main_v55 (F := Ideal) x0 x1 x2 x3 x4 (ix2 r e) : EReal) = HN x0 x1 x2 x3 x4 r e := by
  have h0 := r32 x0 x3 x4; have h1 := r53 x1 x2 x4
  have := r.isLt
  unfold val_main_v55 val_main_v54 HN
  by_cases h : r.val < 256
  · rw [dif_pos h, ← h0]; pointwise; exact dif_pos h
  · rw [dif_neg h, ← h1]; pointwise; exact dif_neg h
theorem r56 (e : Fin 1024) (r : Fin 4352) : (val_main_v56 (F := Ideal) x0 x1 x2 x3 x4 (ix2 e r) : EReal) = HN x0 x1 x2 x3 x4 r e := by
  rw [← r55]; unfold val_main_v56; pointwise

end Cert.Reference8Ideal.Norm1Fwd

namespace Cert.Proof8
open Cert.Kernel8Ideal Cert.Kernel8Ideal.Norm1Fwd

theorem quiescent_Kernel8 : Cert.quiescent_Kernel8 := fun m ρ _ => Cert.Kernel8.Gen.frame m ρ

theorem quiescent_Kernel8Ideal : Cert.quiescent_Kernel8Ideal := fun m ρ _ => Cert.Kernel8Ideal.Gen.frame m ρ

theorem quiescent_Reference8Ideal : Cert.quiescent_Reference8Ideal := fun m ρ _ =>
  (θ_run Cert.Reference8Ideal.defs _ _).mono (fun r h => ⟨fun c => (h c).2.2, sem_eq_zero_of_no_sems (by decide) r.2⟩)
    (Cert.Reference8Ideal.Value.run (F := Ideal) m ρ)

theorem algebraic : Cert.algebraic_Kernel8Ideal_Reference8Ideal := by
  intro m ρ m' ρ' _ hagree
  refine ⟨fun c => (fun y => hn m c (y 0) (y 1) : FVec Ideal S4352x1024 .bf16), fun c => (fun y => hn m c (y 1) (y 0) : FVec Ideal S1024x4352 .bf16), ?_, ?_⟩
  · exact (θ_run Cert.Kernel8Ideal.defs _ _).mono (fun r h c => ⟨(h c).1.trans (arr4 m c), (h c).2.1.trans (arr5 m c), (h c).2.2⟩)
      (Cert.Kernel8Ideal.Value.run_blocks (F := Ideal) m ρ)
  · refine (θ_run Cert.Reference8Ideal.defs _ _).mono (fun r h c => ?_) (Cert.Reference8Ideal.Value.run (F := Ideal) m' ρ')
    obtain ⟨e0, e1, ea⟩ := h c
    obtain ⟨g0, g1, g2, g3, g4⟩ := hagree c
    refine ⟨e0.trans ((Cert.Reference8Ideal.Read.val_main_v55_eq _ _ _ _ _).trans (funext fun y => ?_)),
      e1.trans ((Cert.Reference8Ideal.Read.val_main_v56_eq _ _ _ _ _).trans (funext fun y => ?_)), ea⟩
    · obtain ⟨r, e, rfl⟩ : ∃ (r : Fin 4352) (e : Fin 1024), y = ix2 r e := ⟨y 0, y 1, eq_ix2 y⟩
      rw [g0, g1, g2, g3, g4]
      exact Cert.Reference8Ideal.Norm1Fwd.r55 _ _ _ _ _ r e
    · obtain ⟨e, r, rfl⟩ : ∃ (e : Fin 1024) (r : Fin 4352), y = ix2 e r := ⟨y 0, y 1, eq_ix2 y⟩
      rw [g0, g1, g2, g3, g4]
      exact Cert.Reference8Ideal.Norm1Fwd.r56 _ _ _ _ _ e r

end Cert.Proof8
end
-- ==== Proof.Norm2Fwd.lean ====
/-
The forward call of the mixer's product with the residual, the second norm and its modulation: the product, the residual stream, and
the normed rows in both layouts.
-/
module

public import proofs.«01_k».proof.Defs
public import proofs.«01_k».proof.Proof.Gen.Kernel9.Frame
public import proofs.«01_k».proof.Proof.Gen.Kernel9Ideal.Value
public import proofs.«01_k».proof.Proof.Gen.Reference9Ideal.Run
public import proofs.«01_k».proof.Proof.Gen.Reference9Ideal.Read
public import Idealize.ShloMosaic.Lib.Pipeline.ValueKit
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.Kernel9Ideal.Norm2Fwd
open Cert.Kernel9Ideal Cert.Kernel9Ideal.Gen Finset

/-- A row divided by its root mean square, weighted, scaled and shifted. -/
def normed (x g sc sh : Fin 1024 → EReal) (e : Fin 1024) : EReal :=
  x e * Ideal.rsqrt (Ideal.div (∑ k, x k * x k) (Ideal.ofBits .f32 0x44800000#32) + Ideal.ofBits .f32 0x358637BD#32) * g e * (1 + sc e) + sh e

/-! ## The results, of the arguments -/

section
variable (x0 : S4096x1024.Idx → EReal) (x1 : S1024x1024.Idx → EReal) (x2 : S4096x1024.Idx → EReal) (x3 : S6144.Idx → EReal) (x5 : S1024.Idx → EReal)

/-- The gate of the residual, and the second norm's shift and scale, in the modulation's six parts. -/
def gate (e : Fin 1024) : EReal := x3 (ix1 ⟨2048 + e.val, by have := e.isLt; omega⟩)
def shift (e : Fin 1024) : EReal := x3 (ix1 ⟨3072 + e.val, by have := e.isLt; omega⟩)
def scale (e : Fin 1024) : EReal := x3 (ix1 ⟨4096 + e.val, by have := e.isLt; omega⟩)

def Y (r : Fin 4096) (e : Fin 1024) : EReal := ∑ k : Fin 1024, x0 (ix2 r k) * x1 (ix2 k e)
def X1 (r : Fin 4096) (e : Fin 1024) : EReal := x2 (ix2 r e) + gate x3 e * Y x0 x1 r e
def H2 (r : Fin 4096) (e : Fin 1024) : EReal := normed (X1 x0 x1 x2 x3 r) (fun k => x5 (ix1 k)) (scale x3) (shift x3) e
end

/-! ## One grid point -/

section
variable (v0 : Vec Ideal S512x1024 .bf16) (v2 : Vec Ideal S1x1024x1024 .bf16) (v6 : Vec Ideal S512x1024 .f32) (v7 v22 v27 v33 : Vec Ideal S1x1024 .f32)

theorem pay_y (i : Fin 512) (e : Fin 1024) : (k0_pay4 (F := Ideal) v0 v2 (ix2 i e) : EReal) = ∑ k : Fin 1024, v0 (ix2 i k) * v2 (ix3 0 k e) := by
  unfold k0_pay4; pointwise
theorem pay_x (i : Fin 512) (e : Fin 1024) :
    (k0_pay5 (F := Ideal) v0 v2 v6 v7 (ix2 i e) : EReal) = v6 (ix2 i e) + v7 (ix2 0 e) * k0_pay4 (F := Ideal) v0 v2 (ix2 i e) := by
  unfold k0_pay5; pointwise
theorem pay_h (i : Fin 512) (e : Fin 1024) : (k0_pay1 (F := Ideal) (k0_pay6 (F := Ideal) v0 v2 v6 v7 v22 v27) v33 (ix2 i e) : EReal)
    = normed (fun k => k0_pay5 (F := Ideal) v0 v2 v6 v7 (ix2 i k)) (fun k => v22 (ix2 0 k)) (fun k => v27 (ix2 0 k)) (fun k => v33 (ix2 0 k)) e := by
  unfold k0_pay1 k0_pay6 normed
  generalize k0_pay5 (F := Ideal) v0 v2 v6 v7 = p
  pointwise
end

variable (m : (ℓ : Loc nD τ sig) → Buf (Elt Ideal) ℓ) (c : Dev nD)

/-- The arguments as arrays of extended reals. -/
abbrev a0 : S4096x1024.Idx → EReal := m ((c.tc : Thread nD τ).loc main_arg0)
abbrev a1 : S1024x1024.Idx → EReal := m ((c.tc : Thread nD τ).loc main_arg1)
abbrev a2 : S4096x1024.Idx → EReal := m ((c.tc : Thread nD τ).loc main_arg2)
abbrev a3 : S6144.Idx → EReal := m ((c.tc : Thread nD τ).loc main_arg3)
abbrev a5 : S1024.Idx → EReal := m ((c.tc : Thread nD τ).loc main_arg5)
abbrev y (r : Fin 4096) (e : Fin 1024) : EReal := Y (a0 m c) (a1 m c) r e
abbrev xx (r : Fin 4096) (e : Fin 1024) : EReal := X1 (a0 m c) (a1 m c) (a2 m c) (a3 m c) r e
abbrev hh (r : Fin 4096) (e : Fin 1024) : EReal := H2 (a0 m c) (a1 m c) (a2 m c) (a3 m c) (a5 m c) r e

/-! ## What the host prepares, and the blocks at a grid point -/

theorem v0_at (r : Fin 4096) (k : Fin 1024) : (show EReal from V m c main_v0 (ix2 r k)) = a0 m c (ix2 r k) := by
  entry_read; pointwise
theorem v2_at (k e : Fin 1024) : (show EReal from V m c main_v2 (ix3 0 k e)) = a1 m c (ix2 k e) := by
  entry_read; pointwise
theorem v3_at (e : Fin 1024) : (show EReal from V m c main_v3 (ix2 0 e)) = a5 m c (ix1 e) := by
  entry_read; pointwise
theorem v7_at4 (e : Fin 1024) : (show EReal from V m c main_v7 (ix2 4 e)) = gate (a3 m c) e := by
  unfold gate; entry_read; pointwise
theorem v7_at5 (e : Fin 1024) : (show EReal from V m c main_v7 (ix2 5 e)) = shift (a3 m c) e := by
  unfold shift; entry_read; pointwise
theorem v7_at6 (e : Fin 1024) : (show EReal from V m c main_v7 (ix2 6 e)) = scale (a3 m c) e := by
  unfold scale; entry_read; pointwise

theorem idx : ∀ t : Fin cfg0.N, win0_0.index t = ![t.val, 0] ∧ win0_1.index t = ![0, 0, 0] ∧ win0_2.index t = ![t.val, 0]
    ∧ win0_3.index t = ![0, 0] ∧ win0_4.index t = ![0, 0] ∧ win0_5.index t = ![t.val, 0] ∧ win0_6.index t = ![t.val, 0]
    ∧ win0_7.index t = ![t.val, 0] ∧ win0_8.index t = ![0, t.val] :=
  (by decide +kernel : ∀ t : Fin grid0.N, _)

theorem lt8 (t : Fin cfg0.N) : t.val < 8 := lt_of_lt_of_eq t.isLt N_0

/-- The point's rows. -/
def rows (t : Fin cfg0.N) (i : Fin 512) : Fin 4096 := ⟨t.val * 512 + i.val, by have := lt8 t; have := i.isLt; omega⟩

theorem b0_at (t : Fin cfg0.N) (i : Fin 512) (k : Fin 1024) : (show EReal from iblk m c 0 t (ix2 i k)) = a0 m c (ix2 (rows t i) k) := by
  have := lt8 t; have := i.isLt
  unfold rows
  exact (congrArg (V m c main_v0) (by blk_ext [idx t])).trans (v0_at m c _ k)
theorem b1_at (t : Fin cfg0.N) (k e : Fin 1024) : (show EReal from iblk m c 1 t (ix3 0 k e)) = a1 m c (ix2 k e) :=
  (congrArg (V m c main_v2) (by blk_ext [idx t])).trans (v2_at m c k e)
theorem b2_at (t : Fin cfg0.N) (i : Fin 512) (e : Fin 1024) : (show EReal from iblk m c 2 t (ix2 i e)) = a2 m c (ix2 (rows t i) e) := by
  have := lt8 t; have := i.isLt
  unfold rows
  exact (congrArg (V m c main_arg2) (by blk_ext [idx t])).trans (congrFun (V_main_arg2 m c) _)
theorem b3_at (t : Fin cfg0.N) (e : Fin 1024) : (show EReal from iblk m c 3 t (ix2 0 e)) = a5 m c (ix1 e) :=
  (congrArg (V m c main_v3) (by blk_ext [idx t])).trans (v3_at m c e)
theorem b4_at (t : Fin cfg0.N) (k : Fin 8) (e : Fin 1024) : iblk m c 4 t (ix2 k e) = V m c main_v7 (ix2 k e) :=
  congrArg (V m c main_v7) (by blk_ext [idx t])
theorem g_at (t : Fin cfg0.N) (e : Fin 1024) : (show EReal from View.ld (iblk m c 4 t) r0_2 (ix2 0 e)) = gate (a3 m c) e := by
  refine Eq.trans ?_ ((b4_at m c t 4 e).trans (v7_at4 m c e)); unfold r0_2; pointwise
theorem sh_at (t : Fin cfg0.N) (e : Fin 1024) : (show EReal from View.ld (iblk m c 4 t) r0_5 (ix2 0 e)) = shift (a3 m c) e := by
  refine Eq.trans ?_ ((b4_at m c t 5 e).trans (v7_at5 m c e)); unfold r0_5; pointwise
theorem sc_at (t : Fin cfg0.N) (e : Fin 1024) : (show EReal from View.ld (iblk m c 4 t) r0_4 (ix2 0 e)) = scale (a3 m c) e := by
  refine Eq.trans ?_ ((b4_at m c t 6 e).trans (v7_at6 m c e)); unfold r0_4; pointwise

theorem pt_y (t : Fin cfg0.N) (i : Fin 512) (e : Fin 1024) :
    (k0_pay4 (F := Ideal) (iblk m c 0 t) (iblk m c 1 t) (ix2 i e) : EReal) = y m c (rows t i) e := by
  rw [pay_y]
  exact Finset.sum_congr rfl fun k _ => congrArg₂ (· * ·) (b0_at m c t i k) (b1_at m c t k e)
theorem pt_x (t : Fin cfg0.N) (i : Fin 512) (e : Fin 1024) :
    (k0_pay5 (F := Ideal) (iblk m c 0 t) (iblk m c 1 t) (iblk m c 2 t) (View.ld (iblk m c 4 t) r0_2) (ix2 i e) : EReal) = xx m c (rows t i) e := by
  rw [pay_x, pt_y]
  exact congrArg₂ (· + ·) (b2_at m c t i e) (congrArg (· * y m c (rows t i) e) (g_at m c t e))
theorem pt_h (t : Fin cfg0.N) (i : Fin 512) (e : Fin 1024) :
    (k0_pay1 (F := Ideal) (k0_pay6 (F := Ideal) (iblk m c 0 t) (iblk m c 1 t) (iblk m c 2 t) (View.ld (iblk m c 4 t) r0_2) (iblk m c 3 t) (View.ld (iblk m c 4 t) r0_4))
      (View.ld (iblk m c 4 t) r0_5) (ix2 i e) : EReal) = hh m c (rows t i) e := by
  rw [pay_h]
  have h1 : (fun k => (k0_pay5 (F := Ideal) (iblk m c 0 t) (iblk m c 1 t) (iblk m c 2 t) (View.ld (iblk m c 4 t) r0_2) (ix2 i k) : EReal)) = xx m c (rows t i) :=
    funext fun k => pt_x m c t i k
  have h2 : (fun k => (show EReal from iblk m c 3 t (ix2 0 k))) = fun k => a5 m c (ix1 k) := funext fun k => b3_at m c t k
  have h3 : (fun k => (show EReal from View.ld (iblk m c 4 t) r0_4 (ix2 0 k))) = scale (a3 m c) := funext fun k => sc_at m c t k
  have h4 : (fun k => (show EReal from View.ld (iblk m c 4 t) r0_5 (ix2 0 k))) = shift (a3 m c) := funext fun k => sh_at m c t k
  show _ = normed (xx m c (rows t i)) _ _ _ e
  rw [← h2, ← h3, ← h4, ← h1]

/-! ## The result arrays -/

theorem out5 (t : Fin cfg0.N) (i : Fin 512) (e : Fin 1024) :
    (out0_5 (F := Ideal) (iblk m c 0 t) (iblk m c 1 t) (iblk m c 2 t) (iblk m c 3 t) (iblk m c 4 t) (ix2 i e) : EReal) = y m c (rows t i) e := by
  rw [← pt_y]
  unfold out0_5; frame_out
theorem out6 (t : Fin cfg0.N) (i : Fin 512) (e : Fin 1024) :
    (out0_6 (F := Ideal) (iblk m c 0 t) (iblk m c 1 t) (iblk m c 2 t) (iblk m c 3 t) (iblk m c 4 t) (ix2 i e) : EReal) = xx m c (rows t i) e := by
  rw [← pt_x]
  unfold out0_6; frame_out
  pointwise; rfl
theorem out7 (t : Fin cfg0.N) (i : Fin 512) (e : Fin 1024) :
    (out0_7 (F := Ideal) (iblk m c 0 t) (iblk m c 1 t) (iblk m c 2 t) (iblk m c 3 t) (iblk m c 4 t) (ix2 i e) : EReal) = hh m c (rows t i) e := by
  rw [← pt_h]
  unfold out0_7 k0_pay7; frame_out
  pointwise [k0_pay2]; rfl
theorem out8 (t : Fin cfg0.N) (i : Fin 512) (e : Fin 1024) :
    (out0_8 (F := Ideal) (iblk m c 0 t) (iblk m c 1 t) (iblk m c 2 t) (iblk m c 3 t) (iblk m c 4 t) (ix2 e i) : EReal) = hh m c (rows t i) e := by
  rw [← pt_h]
  unfold out0_8 k0_pay7; frame_out
  pointwise [k0_pay3]; rfl

theorem arr5 : (dats m 0 c).arrAt 5 cfg0.N = (fun z => y m c (z 0) (z 1) : FVec Ideal S4096x1024 .f32) := by
  refine (dats m 0 c).arrAt_eq_of_covers 5 _ (by decide +kernel) fun t ht z => ?_
  have := lt8 t
  blk_simp
  rw [after0_5]
  obtain ⟨i, e, rfl⟩ : ∃ i e, z = ix2 i e := ⟨z 0, z 1, eq_ix2 z⟩
  refine (out5 m c t i e).trans ?_
  have := i.isLt
  have he : (win0_5.blk t).view.emb (ix2 i e) = (ix2 (rows t i) e : S4096x1024.Idx) := by
    unfold rows; blk_ext [idx t]
  exact (congrArg (fun z : S4096x1024.Idx => y m c (z 0) (z 1)) he).symm

theorem arr6 : (dats m 0 c).arrAt 6 cfg0.N = (fun z => xx m c (z 0) (z 1) : FVec Ideal S4096x1024 .f32) := by
  refine (dats m 0 c).arrAt_eq_of_covers 6 _ (by decide +kernel) fun t ht z => ?_
  have := lt8 t
  blk_simp
  rw [after0_6]
  obtain ⟨i, e, rfl⟩ : ∃ i e, z = ix2 i e := ⟨z 0, z 1, eq_ix2 z⟩
  refine (out6 m c t i e).trans ?_
  have := i.isLt
  have he : (win0_6.blk t).view.emb (ix2 i e) = (ix2 (rows t i) e : S4096x1024.Idx) := by
    unfold rows; blk_ext [idx t]
  exact (congrArg (fun z : S4096x1024.Idx => xx m c (z 0) (z 1)) he).symm

theorem arr7 : (dats m 0 c).arrAt 7 cfg0.N = (fun z => hh m c (z 0) (z 1) : FVec Ideal S4096x1024 .bf16) := by
  refine (dats m 0 c).arrAt_eq_of_covers 7 _ (by decide +kernel) fun t ht z => ?_
  have := lt8 t
  blk_simp
  rw [after0_7]
  obtain ⟨i, e, rfl⟩ : ∃ i e, z = ix2 i e := ⟨z 0, z 1, eq_ix2 z⟩
  refine (out7 m c t i e).trans ?_
  have := i.isLt
  have he : (win0_7.blk t).view.emb (ix2 i e) = (ix2 (rows t i) e : S4096x1024.Idx) := by
    unfold rows; blk_ext [idx t]
  exact (congrArg (fun z : S4096x1024.Idx => hh m c (z 0) (z 1)) he).symm

theorem arr8 : (dats m 0 c).arrAt 8 cfg0.N = (fun z => hh m c (z 1) (z 0) : FVec Ideal S1024x4096 .bf16) := by
  refine (dats m 0 c).arrAt_eq_of_covers 8 _ (by decide +kernel) fun t ht z => ?_
  have := lt8 t
  blk_simp
  rw [after0_8]
  obtain ⟨e, i, rfl⟩ : ∃ e i, z = ix2 e i := ⟨z 0, z 1, eq_ix2 z⟩
  refine (out8 m c t i e).trans ?_
  have := i.isLt
  have he : (win0_8.blk t).view.emb (ix2 e i) = (ix2 e (rows t i) : S1024x4096.Idx) := by
    unfold rows; blk_ext [idx t]
  exact (congrArg (fun z : S1024x4096.Idx => hh m c (z 1) (z 0)) he).symm

end Cert.Kernel9Ideal.Norm2Fwd

namespace Cert.Reference9Ideal.Norm2Fwd
open Cert.Reference9Ideal Cert.Reference9Ideal.Gen Cert.Reference9Ideal.Read Finset
open Cert.Kernel9Ideal.Norm2Fwd (normed gate shift scale Y X1 H2)

variable (x0 : FVec Ideal S4096x1024 .f32) (x1 : FVec Ideal S1024x1024 .f32) (x2 : FVec Ideal S4096x1024 .f32) (x3 : FVec Ideal S6144 .f32) (x5 : FVec Ideal S1024 .f32)

theorem r6 (r : Fin 4096) (e : Fin 1024) : (val_main_v6 (F := Ideal) x0 x1 (ix2 r e) : EReal) = Y x0 x1 r e := by
  unfold val_main_v6 Y; pointwise
theorem r10 (r : Fin 4096) (e : Fin 1024) : (val_main_v10 (F := Ideal) x0 x1 x2 x3 (ix2 r e) : EReal) = X1 x0 x1 x2 x3 r e := by
  have h := r6 x0 x1 r e
  unfold val_main_v10 val_main_v9 val_main_v8 val_main_v7 val_main_v2 X1 gate
  rw [← h]
  generalize val_main_v6 (F := Ideal) x0 x1 = p
  pointwise
theorem r31 (r : Fin 4096) (e : Fin 1024) : (val_main_v31 (F := Ideal) x0 x1 x2 x3 x5 (ix2 r e) : EReal) = H2 x0 x1 x2 x3 x5 r e := by
  have h : (fun k => (val_main_v10 (F := Ideal) x0 x1 x2 x3 (ix2 r k) : EReal)) = X1 x0 x1 x2 x3 r := funext fun k => r10 x0 x1 x2 x3 r k
  unfold val_main_v31 val_main_v30 val_main_v29 val_main_v28 val_main_v27 val_main_v26 val_main_v25 val_main_v24 val_main_cst_2 val_main_v23 val_main_v22
    val_main_v21 val_main_v20 val_main_v19 val_main_v18 val_main_v17 val_main_v16 val_main_cst_1 val_main_v15 val_main_v14 val_main_cst_0 val_main_v13
    val_main_v12 val_main_cst val_main_v11 val_main_v4 val_main_v3 H2
  rw [← h]
  unfold normed scale shift
  generalize val_main_v10 (F := Ideal) x0 x1 x2 x3 = p
  pointwise
theorem r32 (r : Fin 4096) (e : Fin 1024) : (val_main_v32 (F := Ideal) x0 x1 x2 x3 x5 (ix2 r e) : EReal) = H2 x0 x1 x2 x3 x5 r e := by
  rw [← r31]; unfold val_main_v32; pointwise
theorem r33 (e : Fin 1024) (r : Fin 4096) : (val_main_v33 (F := Ideal) x0 x1 x2 x3 x5 (ix2 e r) : EReal) = H2 x0 x1 x2 x3 x5 r e := by
  rw [← r32]; unfold val_main_v33; pointwise

end Cert.Reference9Ideal.Norm2Fwd

namespace Cert.Proof9
open Cert.Kernel9Ideal Cert.Kernel9Ideal.Norm2Fwd

theorem quiescent_Kernel9 : Cert.quiescent_Kernel9 := fun m ρ _ => Cert.Kernel9.Gen.frame m ρ

theorem quiescent_Kernel9Ideal : Cert.quiescent_Kernel9Ideal := fun m ρ _ => Cert.Kernel9Ideal.Gen.frame m ρ

theorem quiescent_Reference9Ideal : Cert.quiescent_Reference9Ideal := fun m ρ _ =>
  (θ_run Cert.Reference9Ideal.defs _ _).mono (fun r h => ⟨fun c => (h c).2.2.2.2, sem_eq_zero_of_no_sems (by decide) r.2⟩)
    (Cert.Reference9Ideal.Value.run (F := Ideal) m ρ)

theorem algebraic : Cert.algebraic_Kernel9Ideal_Reference9Ideal := by
  intro m ρ m' ρ' _ hagree
  refine ⟨fun c => (fun z => y m c (z 0) (z 1) : FVec Ideal S4096x1024 .f32), fun c => (fun z => xx m c (z 0) (z 1) : FVec Ideal S4096x1024 .f32),
    fun c => (fun z => hh m c (z 0) (z 1) : FVec Ideal S4096x1024 .bf16), fun c => (fun z => hh m c (z 1) (z 0) : FVec Ideal S1024x4096 .bf16), ?_, ?_⟩
  · exact (θ_run Cert.Kernel9Ideal.defs _ _).mono (fun r h c => ⟨(h c).1.trans (arr5 m c), (h c).2.1.trans (arr6 m c), (h c).2.2.1.trans (arr7 m c),
      (h c).2.2.2.1.trans (arr8 m c), (h c).2.2.2.2⟩) (Cert.Kernel9Ideal.Value.run_blocks (F := Ideal) m ρ)
  · refine (θ_run Cert.Reference9Ideal.defs _ _).mono (fun r h c => ?_) (Cert.Reference9Ideal.Value.run (F := Ideal) m' ρ')
    obtain ⟨e0, e1, e2, e3, ea⟩ := h c
    obtain ⟨g0, g1, g2, g3, g4, g5⟩ := hagree c
    refine ⟨e0.trans ((Cert.Reference9Ideal.Read.val_main_v6_eq _ _).trans (funext fun z => ?_)),
      e1.trans ((Cert.Reference9Ideal.Read.val_main_v10_eq _ _ _ _).trans (funext fun z => ?_)),
      e2.trans ((Cert.Reference9Ideal.Read.val_main_v32_eq _ _ _ _ _).trans (funext fun z => ?_)),
      e3.trans ((Cert.Reference9Ideal.Read.val_main_v33_eq _ _ _ _ _).trans (funext fun z => ?_)), ea⟩
    · obtain ⟨r, e, rfl⟩ : ∃ (r : Fin 4096) (e : Fin 1024), z = ix2 r e := ⟨z 0, z 1, eq_ix2 z⟩
      rw [g0, g1]
      exact Cert.Reference9Ideal.Norm2Fwd.r6 _ _ r e
    · obtain ⟨r, e, rfl⟩ : ∃ (r : Fin 4096) (e : Fin 1024), z = ix2 r e := ⟨z 0, z 1, eq_ix2 z⟩
      rw [g0, g1, g2, g3]
      exact Cert.Reference9Ideal.Norm2Fwd.r10 _ _ _ _ r e
    · obtain ⟨r, e, rfl⟩ : ∃ (r : Fin 4096) (e : Fin 1024), z = ix2 r e := ⟨z 0, z 1, eq_ix2 z⟩
      rw [g0, g1, g2, g3, g5]
      exact Cert.Reference9Ideal.Norm2Fwd.r32 _ _ _ _ _ r e
    · obtain ⟨e, r, rfl⟩ : ∃ (e : Fin 1024) (r : Fin 4096), z = ix2 e r := ⟨z 0, z 1, eq_ix2 z⟩
      rw [g0, g1, g2, g3, g5]
      exact Cert.Reference9Ideal.Norm2Fwd.r33 _ _ _ _ _ e r

end Cert.Proof9
end
-- ==== Proof.lean ====
module

public import proofs.«01_k».proof.Defs
public import proofs.«01_k».proof.Proof.Gen.Kernel.Frame
public import proofs.«01_k».proof.Proof.Gen.KernelIdeal.Value
public import proofs.«01_k».proof.Proof.Gen.ReferenceIdeal.Run
public import proofs.«01_k».proof.Proof.Gen.Kernel2
public import proofs.«01_k».proof.Proof.Gen.Reference2Ideal.Run
public import proofs.«01_k».proof.Proof.Gen.Reference2Ideal.Read
public import Idealize.ShloMosaic.Adequacy
public import Idealize.ShloMosaic.Init
public import Idealize.ShloMosaic.Lib.Quiescent
public import proofs.«01_k».proof.Proof.Mlp
public import proofs.«01_k».proof.Proof.RetFrames
public import proofs.«01_k».proof.Proof.RetClaim
public import proofs.«01_k».proof.Proof.Dw2
public import proofs.«01_k».proof.Proof.Norm2Claim
public import proofs.«01_k».proof.Proof.Gen.Kernel4Ideal.Value
public import proofs.«01_k».proof.Proof.Gen.Reference4Ideal.Run
public import proofs.«01_k».proof.Proof.Gen.Reference4Ideal.Read
public import proofs.«01_k».proof.Proof.FinalClaim
public import proofs.«01_k».proof.Proof.Gen.Kernel6Ideal.Value
public import proofs.«01_k».proof.Proof.Gen.Reference6Ideal.Run
public import proofs.«01_k».proof.Proof.Gen.Reference6Ideal.Read
public import proofs.«01_k».proof.Proof.Norm1Claim
public import proofs.«01_k».proof.Proof.Gen.Kernel5Ideal.Value
public import proofs.«01_k».proof.Proof.Gen.Reference5Ideal.Run
public import proofs.«01_k».proof.Proof.Gen.Reference5Ideal.Read
public import proofs.«01_k».proof.Proof.MixClaim
public import proofs.«01_k».proof.Proof.Gen.Kernel7Ideal.Value
public import proofs.«01_k».proof.Proof.Gen.Reference7Ideal.Run
public import proofs.«01_k».proof.Proof.Gen.Reference7Ideal.Read
public import proofs.«01_k».proof.Proof.Norm1Fwd
public import proofs.«01_k».proof.Proof.Gen.Kernel8Ideal.Value
public import proofs.«01_k».proof.Proof.Gen.Reference8Ideal.Run
public import proofs.«01_k».proof.Proof.Gen.Reference8Ideal.Read
public import proofs.«01_k».proof.Proof.Norm2Fwd
public import proofs.«01_k».proof.Proof.Gen.Kernel9Ideal.Value
public import proofs.«01_k».proof.Proof.Gen.Reference9Ideal.Run
public import proofs.«01_k».proof.Proof.Gen.Reference9Ideal.Read

@[expose] public section

noncomputable section

namespace Cert.Proof

open Idealize.ShloMosaic Idealize.SL.Sem

theorem quiescent_ReferenceIdeal : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem algebraic_KernelIdeal_ReferenceIdeal : algebraic_KernelIdeal_ReferenceIdeal := by
  intro m ρ m' ρ' _ hagree
  refine ⟨_, Cert.KernelIdeal.Value.run_blocks (F := Ideal) m ρ, ?_⟩
  refine (θ_run Cert.ReferenceIdeal.defs _ _).mono (fun _ h c => ⟨?_, (h c).2⟩) (Cert.ReferenceIdeal.Value.run (F := Ideal) m' ρ')
  rw [(h c).1]
  simp only [hagree c]
  exact (Cert.KernelIdeal.Mlp.final m c).symm

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Pre_retention_finite.facts, Cert.Pre_norm2_finite.facts, Cert.Pre_norm1_finite.facts, Cert.Pre_final_finite.facts, Cert.Pre_mix_finite.facts,
  fun m ρ _ => Cert.Kernel.Gen.frame m ρ, fun m ρ _ => Cert.KernelIdeal.Gen.frame m ρ, quiescent_ReferenceIdeal,
  Cert.Proof2.quiescent_Kernel2, Cert.Proof2.quiescent_Kernel2Ideal, Cert.Proof2.quiescent_Kernel2Ideal_pre (hP := Cert.Pre_retention_finite.facts),
  Cert.Proof2.quiescent_Reference2Ideal, Cert.Proof2.quiescent_Reference2Ideal_pre (hP := Cert.Pre_retention_finite.facts),
  Cert.Proof3.quiescent_Kernel3, Cert.Proof3.quiescent_Kernel3Ideal, Cert.Proof3.quiescent_Reference3Ideal,
  Cert.Proof4.quiescent_Kernel4, Cert.Proof4.quiescent_Kernel4Ideal, Cert.Proof4.quiescent_Kernel4Ideal_pre (hP := Cert.Pre_norm2_finite.facts),
  Cert.Proof4.quiescent_Reference4Ideal, Cert.Proof4.quiescent_Reference4Ideal_pre (hP := Cert.Pre_norm2_finite.facts),
  Cert.Proof5.quiescent_Kernel5, Cert.Proof5.quiescent_Kernel5Ideal, Cert.Proof5.quiescent_Kernel5Ideal_pre (hP := Cert.Pre_norm1_finite.facts),
  Cert.Proof5.quiescent_Reference5Ideal, Cert.Proof5.quiescent_Reference5Ideal_pre (hP := Cert.Pre_norm1_finite.facts),
  Cert.Proof6.quiescent_Kernel6, Cert.Proof6.quiescent_Kernel6Ideal, Cert.Proof6.quiescent_Kernel6Ideal_pre (hP := Cert.Pre_final_finite.facts),
  Cert.Proof6.quiescent_Reference6Ideal, Cert.Proof6.quiescent_Reference6Ideal_pre (hP := Cert.Pre_final_finite.facts),
  Cert.Proof7.quiescent_Kernel7, Cert.Proof7.quiescent_Kernel7Ideal, Cert.Proof7.quiescent_Kernel7Ideal_pre (hP := Cert.Pre_mix_finite.facts),
  Cert.Proof7.quiescent_Reference7Ideal, Cert.Proof7.quiescent_Reference7Ideal_pre (hP := Cert.Pre_mix_finite.facts),
  Cert.Proof8.quiescent_Kernel8, Cert.Proof8.quiescent_Kernel8Ideal, Cert.Proof8.quiescent_Reference8Ideal,
  Cert.Proof9.quiescent_Kernel9, Cert.Proof9.quiescent_Kernel9Ideal, Cert.Proof9.quiescent_Reference9Ideal,
  (trivial : preserves_Kernel_KernelIdeal), algebraic_KernelIdeal_ReferenceIdeal,
  (trivial : preserves_Kernel2_Kernel2Ideal), Cert.Proof2.algebraic (hP := Cert.Pre_retention_finite.facts),
  (trivial : preserves_Kernel3_Kernel3Ideal), Cert.Proof3.algebraic,
  (trivial : preserves_Kernel4_Kernel4Ideal), Cert.Proof4.algebraic (hP := Cert.Pre_norm2_finite.facts),
  (trivial : preserves_Kernel5_Kernel5Ideal), Cert.Proof5.algebraic (hP := Cert.Pre_norm1_finite.facts),
  (trivial : preserves_Kernel6_Kernel6Ideal), Cert.Proof6.algebraic (hP := Cert.Pre_final_finite.facts),
  Cert.Proof7.preserves, Cert.Proof7.algebraic (hP := Cert.Pre_mix_finite.facts),
  (trivial : preserves_Kernel8_Kernel8Ideal), Cert.Proof8.algebraic,
  (trivial : preserves_Kernel9_Kernel9Ideal), Cert.Proof9.algebraic⟩

end Cert.Proof

end
